-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v252)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v252) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v34)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)) (v2 : (c : Dev Cert.Kernel10Ideal.nD) → Buf (Elt Ideal) ((c.tc : Thread Cert.Kernel10Ideal.nD Cert.Kernel10Ideal.τ).loc Cert.Kernel10Ideal.main_v10_2)) (v3 : (c : Dev Cert.Kernel10Ideal.nD) → Buf (Elt Ideal) ((c.tc : Thread Cert.Kernel10Ideal.nD Cert.Kernel10Ideal.τ).loc Cert.Kernel10Ideal.main_v10_3)) (v4 : (c : Dev Cert.Kernel10Ideal.nD) → Buf (Elt Ideal) ((c.tc : Thread Cert.Kernel10Ideal.nD Cert.Kernel10Ideal.τ).loc Cert.Kernel10Ideal.main_v10_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_v10_2) = v2 c
          ∧ r.2.mem ((c.tc : Thread Cert.Kernel10Ideal.nD Cert.Kernel10Ideal.τ).loc Cert.Kernel10Ideal.main_v10_3) = v3 c
          ∧ r.2.mem ((c.tc : Thread Cert.Kernel10Ideal.nD Cert.Kernel10Ideal.τ).loc Cert.Kernel10Ideal.main_v10_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_v35) = v2 c
          ∧ r.2.mem ((c.tc : Thread Cert.Reference10Ideal.nD Cert.Reference10Ideal.τ).loc Cert.Reference10Ideal.main_v38) = v3 c
          ∧ r.2.mem ((c.tc : Thread Cert.Reference10Ideal.nD Cert.Reference10Ideal.τ).loc Cert.Reference10Ideal.main_v17) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v0) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)) (v2 : (c : Dev Cert.Kernel12Ideal.nD) → Buf (Elt Ideal) ((c.tc : Thread Cert.Kernel12Ideal.nD Cert.Kernel12Ideal.τ).loc Cert.Kernel12Ideal.main_v6_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_v6_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_v38) = v1 c
          ∧ r.2.mem ((c.tc : Thread Cert.Reference12Ideal.nD Cert.Reference12Ideal.τ).loc Cert.Reference12Ideal.main_v39) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S2048x9216 : Shape := ⟨2, ![2048, 9216]⟩
abbrev S2048x1024 : Shape := ⟨2, ![2048, 1024]⟩
abbrev S_ : Shape := ⟨0, ![]⟩

class Facts : Prop where
  bcast_S_S2048x9216 : S_.BroadcastsInDim S2048x9216 (![] : Fin 0 → Fin S2048x9216.rank)
  reducesTo_S2048x9216_S_d0_1 : S2048x9216.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x9216 .f32) (main_arg1 : FVec F S2048x1024 .f32) : IVec S_ 1 :=
  let main_v0 : FVec F S2048x9216 .f32 := Host.absf main_arg0
  let main_cst : FVec F S_ .f32 := constant S_ .f32 0x7F800000#32
  let main_v1 : FVec F S2048x9216 .f32 := broadcastInDim S2048x9216 ![] bcast_S_S2048x9216 main_cst
  let main_v2 : IVec S2048x9216 1 := cmpf .olt main_v0 main_v1
  let main_c : IVec S_ 1 := constantI S_ 1 1#1
  let main_v3 : IVec S_ 1 := (fun x v => Host.reduce IntOp.andi x v reducesTo_S2048x9216_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x9216 : Shape := ⟨2, ![2048, 9216]⟩
abbrev S2048x1024 : Shape := ⟨2, ![2048, 1024]⟩
abbrev S2048x3x3x16x64 : Shape := ⟨5, ![2048, 3, 3, 16, 64]⟩
abbrev S2048x1x1x16x64 : Shape := ⟨5, ![2048, 1, 1, 16, 64]⟩
abbrev S2048x16x64 : Shape := ⟨3, ![2048, 16, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S16x2048x2048 : Shape := ⟨3, ![16, 2048, 2048]⟩
abbrev S16 : Shape := ⟨1, ![16]⟩
abbrev S16x1x1 : Shape := ⟨3, ![16, 1, 1]⟩
abbrev S1x2048x2048 : Shape := ⟨3, ![1, 2048, 2048]⟩
abbrev S1x16x2048x2048 : Shape := ⟨4, ![1, 16, 2048, 2048]⟩
abbrev S3x16x2048x2048 : Shape := ⟨4, ![3, 16, 2048, 2048]⟩
abbrev S3x16x2048 : Shape := ⟨3, ![3, 16, 2048]⟩
abbrev S3x16x2048x1 : Shape := ⟨4, ![3, 16, 2048, 1]⟩
abbrev S16x2048 : Shape := ⟨2, ![16, 2048]⟩
abbrev S1x16x2048 : Shape := ⟨3, ![1, 16, 2048]⟩
abbrev S2048x3x1x16x64 : Shape := ⟨5, ![2048, 3, 1, 16, 64]⟩
abbrev S2048x3x16x64 : Shape := ⟨4, ![2048, 3, 16, 64]⟩
abbrev S16x64x2048 : Shape := ⟨3, ![16, 64, 2048]⟩
abbrev S2048x16 : Shape := ⟨2, ![2048, 16]⟩
abbrev S2048x3072 : Shape := ⟨2, ![2048, 3072]⟩
abbrev S2048x1x3072 : Shape := ⟨3, ![2048, 1, 3072]⟩
abbrev S1x2048x3072 : Shape := ⟨3, ![1, 2048, 3072]⟩
abbrev S512x4x3072 : Shape := ⟨3, ![512, 4, 3072]⟩
abbrev S4x512x3072 : Shape := ⟨3, ![4, 512, 3072]⟩
abbrev S128x16x3072 : Shape := ⟨3, ![128, 16, 3072]⟩
abbrev S16x128x3072 : Shape := ⟨3, ![16, 128, 3072]⟩
abbrev S3x2048x3072 : Shape := ⟨3, ![3, 2048, 3072]⟩
abbrev S2048x1x1024 : Shape := ⟨3, ![2048, 1, 1024]⟩
abbrev S1x2048x1024 : Shape := ⟨3, ![1, 2048, 1024]⟩
abbrev S512x4x1024 : Shape := ⟨3, ![512, 4, 1024]⟩
abbrev S4x512x1024 : Shape := ⟨3, ![4, 512, 1024]⟩
abbrev S128x16x1024 : Shape := ⟨3, ![128, 16, 1024]⟩
abbrev S16x128x1024 : Shape := ⟨3, ![16, 128, 1024]⟩
abbrev S3x2048x1024 : Shape := ⟨3, ![3, 2048, 1024]⟩
abbrev S2048x1x16 : Shape := ⟨3, ![2048, 1, 16]⟩
abbrev S1x2048x16 : Shape := ⟨3, ![1, 2048, 16]⟩
abbrev S512x4x16 : Shape := ⟨3, ![512, 4, 16]⟩
abbrev S4x512x16 : Shape := ⟨3, ![4, 512, 16]⟩
abbrev S128x16x16 : Shape := ⟨3, ![128, 16, 16]⟩
abbrev S16x128x16 : Shape := ⟨3, ![16, 128, 16]⟩
abbrev S3x2048x16 : Shape := ⟨3, ![3, 2048, 16]⟩
abbrev S3x16x1x2048 : Shape := ⟨4, ![3, 16, 1, 2048]⟩
abbrev S3x16x8x2048 : Shape := ⟨4, ![3, 16, 8, 2048]⟩
abbrev S3x3x2048x1024 : Shape := ⟨4, ![3, 3, 2048, 1024]⟩
abbrev S1x256x512 : Shape := ⟨3, ![1, 256, 512]⟩
abbrev S1x2048x512 : Shape := ⟨3, ![1, 2048, 512]⟩
abbrev S1x8x8x256 : Shape := ⟨4, ![1, 8, 8, 256]⟩
abbrev S1x3x2048x512 : Shape := ⟨4, ![1, 3, 2048, 512]⟩
abbrev S2048x512 : Shape := ⟨2, ![2048, 512]⟩
abbrev S384x256 : Shape := ⟨2, ![384, 256]⟩
abbrev S256x512 : Shape := ⟨2, ![256, 512]⟩
abbrev S1x384x512 : Shape := ⟨3, ![1, 384, 512]⟩
abbrev S384x512 : Shape := ⟨2, ![384, 512]⟩
abbrev S256x64 : Shape := ⟨2, ![256, 64]⟩
abbrev S384x64 : Shape := ⟨2, ![384, 64]⟩
abbrev S1 : Shape := ⟨1, ![1]⟩
abbrev S1x1x1x256 : Shape := ⟨4, ![1, 1, 1, 256]⟩
abbrev S1x256 : Shape := ⟨2, ![1, 256]⟩
abbrev S64x256 : Shape := ⟨2, ![64, 256]⟩
abbrev S1x1x256x512 : Shape := ⟨4, ![1, 1, 256, 512]⟩
abbrev S1x1x2048x512 : Shape := ⟨4, ![1, 1, 2048, 512]⟩

abbrev nBuf : Space → Nat
  | .hbm => 303
  | .vmem => 16
  | .smem => 1
  | _ => 0

abbrev hbmTy0_0 (i : Nat) : BufTy := match i % 128 with
  | 0 => ⟨S2048x9216, .f32⟩
  | 1 => ⟨S2048x1024, .f32⟩
  | 2 => ⟨S2048x3x3x16x64, .f32⟩
  | 3 => ⟨S2048x1x1x16x64, .f32⟩
  | 4 => ⟨S2048x16x64, .f32⟩
  | 5 => ⟨S2048x1x1x16x64, .f32⟩
  | 6 => ⟨S2048x16x64, .f32⟩
  | 7 => ⟨S2048, .i32⟩
  | 8 => ⟨S2048x1, .i32⟩
  | 9 => ⟨S1x2048, .i32⟩
  | 10 => ⟨S2048x2048, .i32⟩
  | 11 => ⟨S2048x2048, .i32⟩
  | 12 => ⟨S2048x2048, .i32⟩
  | 13 => ⟨S2048x2048, .i32⟩
  | 14 => ⟨S_, .i32⟩
  | 15 => ⟨S2048x2048, .i32⟩
  | 16 => ⟨S2048x2048, .i1⟩
  | 17 => ⟨S2048x1, .i32⟩
  | 18 => ⟨S_, .i32⟩
  | 19 => ⟨S2048x1, .i32⟩
  | 20 => ⟨S2048x1, .i32⟩
  | 21 => ⟨S1x2048, .i32⟩
  | 22 => ⟨S_, .i32⟩
  | 23 => ⟨S1x2048, .i32⟩
  | 24 => ⟨S1x2048, .i32⟩
  | 25 => ⟨S2048x2048, .i32⟩
  | 26 => ⟨S2048x2048, .i32⟩
  | 27 => ⟨S2048x2048, .i1⟩
  | 28 => ⟨S2048x2048, .i1⟩
  | 29 => ⟨S_, .f32⟩
  | 30 => ⟨S2048x16x64, .f32⟩
  | 31 => ⟨S2048x16x64, .f32⟩
  | 32 => ⟨S16x2048x2048, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S16x1x1, .f32⟩
  | 47 => ⟨S2048x2048, .f32⟩
  | 48 => ⟨S1x2048x2048, .f32⟩
  | 49 => ⟨S16x2048x2048, .f32⟩
  | 50 => ⟨S16x2048x2048, .f32⟩
  | 51 => ⟨S16x2048x2048, .f32⟩
  | 52 => ⟨S16x2048x2048, .f32⟩
  | 53 => ⟨S_, .f32⟩
  | 54 => ⟨S_, .f32⟩
  | 55 => ⟨S16x2048x2048, .i1⟩
  | 56 => ⟨S16x2048x2048, .f32⟩
  | 57 => ⟨S16x2048x2048, .f32⟩
  | 58 => ⟨S2048x1x1x16x64, .f32⟩
  | 59 => ⟨S2048x16x64, .f32⟩
  | 60 => ⟨S2048x1x1x16x64, .f32⟩
  | 61 => ⟨S2048x16x64, .f32⟩
  | 62 => ⟨S2048, .i32⟩
  | 63 => ⟨S2048x1, .i32⟩
  | 64 => ⟨S1x2048, .i32⟩
  | 65 => ⟨S2048x2048, .i32⟩
  | 66 => ⟨S2048x2048, .i32⟩
  | 67 => ⟨S2048x2048, .i32⟩
  | 68 => ⟨S2048x2048, .i32⟩
  | 69 => ⟨S_, .i32⟩
  | 70 => ⟨S2048x2048, .i32⟩
  | 71 => ⟨S2048x2048, .i1⟩
  | 72 => ⟨S2048x1, .i32⟩
  | 73 => ⟨S_, .i32⟩
  | 74 => ⟨S2048x1, .i32⟩
  | 75 => ⟨S2048x1, .i32⟩
  | 76 => ⟨S1x2048, .i32⟩
  | 77 => ⟨S_, .i32⟩
  | 78 => ⟨S1x2048, .i32⟩
  | 79 => ⟨S1x2048, .i32⟩
  | 80 => ⟨S2048x2048, .i32⟩
  | 81 => ⟨S2048x2048, .i32⟩
  | 82 => ⟨S2048x2048, .i1⟩
  | 83 => ⟨S2048x2048, .i1⟩
  | 84 => ⟨S_, .f32⟩
  | 85 => ⟨S2048x16x64, .f32⟩
  | 86 => ⟨S2048x16x64, .f32⟩
  | 87 => ⟨S16x2048x2048, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S_, .f32⟩
  | 96 => ⟨S16, .f32⟩
  | 97 => ⟨S16, .f32⟩
  | 98 => ⟨S_, .f32⟩
  | 99 => ⟨S16, .f32⟩
  | 100 => ⟨S16, .f32⟩
  | 101 => ⟨S16x1x1, .f32⟩
  | 102 => ⟨S2048x2048, .f32⟩
  | 103 => ⟨S1x2048x2048, .f32⟩
  | 104 => ⟨S16x2048x2048, .f32⟩
  | 105 => ⟨S16x2048x2048, .f32⟩
  | 106 => ⟨S16x2048x2048, .f32⟩
  | 107 => ⟨S16x2048x2048, .f32⟩
  | 108 => ⟨S_, .f32⟩
  | 109 => ⟨S_, .f32⟩
  | 110 => ⟨S16x2048x2048, .i1⟩
  | 111 => ⟨S16x2048x2048, .f32⟩
  | 112 => ⟨S16x2048x2048, .f32⟩
  | 113 => ⟨S2048x1x1x16x64, .f32⟩
  | 114 => ⟨S2048x16x64, .f32⟩
  | 115 => ⟨S2048x1x1x16x64, .f32⟩
  | 116 => ⟨S2048x16x64, .f32⟩
  | 117 => ⟨S2048, .i32⟩
  | 118 => ⟨S2048x1, .i32⟩
  | 119 => ⟨S1x2048, .i32⟩
  | 120 => ⟨S2048x2048, .i32⟩
  | 121 => ⟨S2048x2048, .i32⟩
  | 122 => ⟨S2048x2048, .i32⟩
  | 123 => ⟨S2048x2048, .i32⟩
  | 124 => ⟨S_, .i32⟩
  | 125 => ⟨S2048x2048, .i32⟩
  | 126 => ⟨S2048x2048, .i1⟩
  | 127 => ⟨S2048x1, .i32⟩
  | _ => ⟨S2048x9216, .f32⟩

abbrev hbmTy0_1 (i : Nat) : BufTy := match i % 128 with
  | 0 => ⟨S_, .i32⟩
  | 1 => ⟨S2048x1, .i32⟩
  | 2 => ⟨S2048x1, .i32⟩
  | 3 => ⟨S1x2048, .i32⟩
  | 4 => ⟨S_, .i32⟩
  | 5 => ⟨S1x2048, .i32⟩
  | 6 => ⟨S1x2048, .i32⟩
  | 7 => ⟨S2048x2048, .i32⟩
  | 8 => ⟨S2048x2048, .i32⟩
  | 9 => ⟨S2048x2048, .i1⟩
  | 10 => ⟨S2048x2048, .i1⟩
  | 11 => ⟨S_, .f32⟩
  | 12 => ⟨S2048x16x64, .f32⟩
  | 13 => ⟨S2048x16x64, .f32⟩
  | 14 => ⟨S16x2048x2048, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S16x1x1, .f32⟩
  | 29 => ⟨S2048x2048, .f32⟩
  | 30 => ⟨S1x2048x2048, .f32⟩
  | 31 => ⟨S16x2048x2048, .f32⟩
  | 32 => ⟨S16x2048x2048, .f32⟩
  | 33 => ⟨S16x2048x2048, .f32⟩
  | 34 => ⟨S16x2048x2048, .f32⟩
  | 35 => ⟨S_, .f32⟩
  | 36 => ⟨S_, .f32⟩
  | 37 => ⟨S16x2048x2048, .i1⟩
  | 38 => ⟨S16x2048x2048, .f32⟩
  | 39 => ⟨S16x2048x2048, .f32⟩
  | 40 => ⟨S1x16x2048x2048, .f32⟩
  | 41 => ⟨S1x16x2048x2048, .f32⟩
  | 42 => ⟨S1x16x2048x2048, .f32⟩
  | 43 => ⟨S3x16x2048x2048, .f32⟩
  | 44 => ⟨S_, .f32⟩
  | 45 => ⟨S3x16x2048, .f32⟩
  | 46 => ⟨S3x16x2048x1, .f32⟩
  | 47 => ⟨S3x16x2048x2048, .f32⟩
  | 48 => ⟨S3x16x2048x2048, .f32⟩
  | 49 => ⟨S3x16x2048x2048, .f32⟩
  | 50 => ⟨S_, .f32⟩
  | 51 => ⟨S3x16x2048, .f32⟩
  | 52 => ⟨S3x16x2048x1, .f32⟩
  | 53 => ⟨S3x16x2048x1, .f32⟩
  | 54 => ⟨S3x16x2048x1, .f32⟩
  | 55 => ⟨S3x16x2048, .f32⟩
  | 56 => ⟨S3x16x2048x1, .f32⟩
  | 57 => ⟨S3x16x2048x2048, .f32⟩
  | 58 => ⟨S3x16x2048x2048, .f32⟩
  | 59 => ⟨S3x16x2048x2048, .f32⟩
  | 60 => ⟨S_, .f32⟩
  | 61 => ⟨S16x2048, .f32⟩
  | 62 => ⟨S_, .f32⟩
  | 63 => ⟨S16x2048, .f32⟩
  | 64 => ⟨S16x2048, .f32⟩
  | 65 => ⟨S1x16x2048, .f32⟩
  | 66 => ⟨S3x16x2048, .f32⟩
  | 67 => ⟨S3x16x2048, .f32⟩
  | 68 => ⟨S3x16x2048, .f32⟩
  | 69 => ⟨S_, .f32⟩
  | 70 => ⟨S16x2048, .f32⟩
  | 71 => ⟨S1x16x2048, .f32⟩
  | 72 => ⟨S3x16x2048, .f32⟩
  | 73 => ⟨S3x16x2048, .f32⟩
  | 74 => ⟨S3x16x2048x1, .f32⟩
  | 75 => ⟨S3x16x2048x2048, .f32⟩
  | 76 => ⟨S3x16x2048x2048, .f32⟩
  | 77 => ⟨S2048x3x1x16x64, .f32⟩
  | 78 => ⟨S2048x3x16x64, .f32⟩
  | 79 => ⟨S16x64x2048, .f32⟩
  | 80 => ⟨S2048x16x64, .f32⟩
  | 81 => ⟨S_, .f32⟩
  | 82 => ⟨S16x2048, .f32⟩
  | 83 => ⟨S1x16x2048, .f32⟩
  | 84 => ⟨S3x16x2048, .f32⟩
  | 85 => ⟨S3x16x2048, .f32⟩
  | 86 => ⟨S3x16x2048, .f32⟩
  | 87 => ⟨S_, .f32⟩
  | 88 => ⟨S16x2048, .f32⟩
  | 89 => ⟨S1x16x2048, .f32⟩
  | 90 => ⟨S1x16x2048, .f32⟩
  | 91 => ⟨S1x16x2048, .f32⟩
  | 92 => ⟨S16x2048, .f32⟩
  | 93 => ⟨S2048x16, .f32⟩
  | 94 => ⟨S2048x16x64, .f32⟩
  | 95 => ⟨S2048x16x64, .f32⟩
  | 96 => ⟨S_, .f32⟩
  | 97 => ⟨S2048x16, .f32⟩
  | 98 => ⟨S2048x3072, .f32⟩
  | 99 => ⟨S2048x1x3072, .f32⟩
  | 100 => ⟨S1x2048x3072, .f32⟩
  | 101 => ⟨S2048x3072, .f32⟩
  | 102 => ⟨S2048x3072, .f32⟩
  | 103 => ⟨S512x4x3072, .f32⟩
  | 104 => ⟨S4x512x3072, .f32⟩
  | 105 => ⟨S2048x3072, .f32⟩
  | 106 => ⟨S2048x3072, .f32⟩
  | 107 => ⟨S128x16x3072, .f32⟩
  | 108 => ⟨S16x128x3072, .f32⟩
  | 109 => ⟨S2048x3072, .f32⟩
  | 110 => ⟨S1x2048x3072, .f32⟩
  | 111 => ⟨S1x2048x3072, .f32⟩
  | 112 => ⟨S1x2048x3072, .f32⟩
  | 113 => ⟨S3x2048x3072, .f32⟩
  | 114 => ⟨S3x2048x3072, .bf16⟩
  | 115 => ⟨S2048x1x1024, .f32⟩
  | 116 => ⟨S1x2048x1024, .f32⟩
  | 117 => ⟨S2048x1024, .f32⟩
  | 118 => ⟨S512x4x1024, .f32⟩
  | 119 => ⟨S4x512x1024, .f32⟩
  | 120 => ⟨S2048x1024, .f32⟩
  | 121 => ⟨S128x16x1024, .f32⟩
  | 122 => ⟨S16x128x1024, .f32⟩
  | 123 => ⟨S2048x1024, .f32⟩
  | 124 => ⟨S1x2048x1024, .f32⟩
  | 125 => ⟨S1x2048x1024, .f32⟩
  | 126 => ⟨S1x2048x1024, .f32⟩
  | 127 => ⟨S3x2048x1024, .f32⟩
  | _ => ⟨S2048x9216, .f32⟩

abbrev hbmTy0_2 (i : Nat) : BufTy := match i % 128 with
  | 0 => ⟨S3x2048x1024, .bf16⟩
  | 1 => ⟨S2048x1x16, .f32⟩
  | 2 => ⟨S1x2048x16, .f32⟩
  | 3 => ⟨S2048x16, .f32⟩
  | 4 => ⟨S512x4x16, .f32⟩
  | 5 => ⟨S4x512x16, .f32⟩
  | 6 => ⟨S2048x16, .f32⟩
  | 7 => ⟨S128x16x16, .f32⟩
  | 8 => ⟨S16x128x16, .f32⟩
  | 9 => ⟨S2048x16, .f32⟩
  | 10 => ⟨S1x2048x16, .f32⟩
  | 11 => ⟨S1x2048x16, .f32⟩
  | 12 => ⟨S1x2048x16, .f32⟩
  | 13 => ⟨S3x2048x16, .f32⟩
  | 14 => ⟨S3x16x2048, .f32⟩
  | 15 => ⟨S3x16x1x2048, .f32⟩
  | 16 => ⟨S3x16x8x2048, .f32⟩
  | 17 => ⟨S2048x1x16, .f32⟩
  | 18 => ⟨S1x2048x16, .f32⟩
  | 19 => ⟨S2048x16, .f32⟩
  | 20 => ⟨S512x4x16, .f32⟩
  | 21 => ⟨S4x512x16, .f32⟩
  | 22 => ⟨S2048x16, .f32⟩
  | 23 => ⟨S128x16x16, .f32⟩
  | 24 => ⟨S16x128x16, .f32⟩
  | 25 => ⟨S2048x16, .f32⟩
  | 26 => ⟨S1x2048x16, .f32⟩
  | 27 => ⟨S1x2048x16, .f32⟩
  | 28 => ⟨S1x2048x16, .f32⟩
  | 29 => ⟨S3x2048x16, .f32⟩
  | 30 => ⟨S3x16x2048, .f32⟩
  | 31 => ⟨S3x16x1x2048, .f32⟩
  | 32 => ⟨S3x16x8x2048, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S3x3x2048x1024, .bf16⟩
  | _ => ⟨S2048x9216, .f32⟩

abbrev hbmTy (i : Nat) : BufTy := match i / 128 with
  | 0 => hbmTy0_0 i
  | 1 => hbmTy0_1 i
  | 2 => hbmTy0_2 i
  | _ => ⟨S2048x9216, .f32⟩

abbrev bufTy : (tb : Table) → Fin (tcTables nBuf tb) → BufTy
  | .hbm, ⟨i, _⟩ => hbmTy i
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x8x8x256, .f32⟩
  | .local _ .vmem, ⟨9, _⟩ => ⟨S1x8x8x256, .f32⟩
  | .local _ .vmem, ⟨10, _⟩ => ⟨S1x8x8x256, .f32⟩
  | .local _ .vmem, ⟨11, _⟩ => ⟨S1x8x8x256, .f32⟩
  | .local _ .vmem, ⟨12, _⟩ => ⟨S1x3x2048x512, .bf16⟩
  | .local _ .vmem, ⟨13, _⟩ => ⟨S1x3x2048x512, .bf16⟩
  | .local _ .vmem, ⟨14, _⟩ => ⟨S2048x512, .f32⟩
  | .local _ .vmem, ⟨15, _⟩ => ⟨S2048x512, .f32⟩
  | .local _ .smem, ⟨0, _⟩ => ⟨S16, .f32⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_cst_14 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_15 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_c_16 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_c_17 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_c_18 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_19 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_20 : Ref sig .tc := ⟨.hbm, 144, rfl⟩
abbrev main_v114 : Ref sig .tc := ⟨.hbm, 145, rfl⟩
abbrev main_v115 : Ref sig .tc := ⟨.hbm, 146, rfl⟩
abbrev main_cst_21 : Ref sig .tc := ⟨.hbm, 147, rfl⟩
abbrev main_v116 : Ref sig .tc := ⟨.hbm, 148, rfl⟩
abbrev main_v117 : Ref sig .tc := ⟨.hbm, 149, rfl⟩
abbrev main_cst_22 : Ref sig .tc := ⟨.hbm, 150, rfl⟩
abbrev main_v118 : Ref sig .tc := ⟨.hbm, 151, rfl⟩
abbrev main_v119 : Ref sig .tc := ⟨.hbm, 152, rfl⟩
abbrev main_cst_23 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_24 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_25 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_26 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_27 : Ref sig .tc := ⟨.hbm, 188, rfl⟩
abbrev main_v148 : Ref sig .tc := ⟨.hbm, 189, rfl⟩
abbrev main_cst_28 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_29 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_30 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_31 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_cst_32 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_cst_33 : Ref sig .tc := ⟨.hbm, 290, rfl⟩
abbrev main_v244 : Ref sig .tc := ⟨.hbm, 291, rfl⟩
abbrev main_v245 : Ref sig .tc := ⟨.hbm, 292, rfl⟩
abbrev main_cst_34 : Ref sig .tc := ⟨.hbm, 293, rfl⟩
abbrev main_v246 : Ref sig .tc := ⟨.hbm, 294, rfl⟩
abbrev main_v247 : Ref sig .tc := ⟨.hbm, 295, rfl⟩
abbrev main_cst_35 : Ref sig .tc := ⟨.hbm, 296, rfl⟩
abbrev main_v248 : Ref sig .tc := ⟨.hbm, 297, rfl⟩
abbrev main_v249 : Ref sig .tc := ⟨.hbm, 298, rfl⟩
abbrev main_cst_36 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![3, 2, 8], ![false, false, false]⟩

def k0_mult1 (i : grid0.Coords) : BitVec 32 :=
  let c1664_i32 : BitVec 32 := 1664#32
  let c0_i32_1 : BitVec 32 := 0#32
  let arg2 : BitVec 32 := BitVec.ofNat 32 (i 2).val
  let c256_i32 : BitVec 32 := 256#32
  let v3 : BitVec 32 := Scalar.muli arg2 c256_i32
  let c64_i32 : BitVec 32 := 64#32
  let v4 : BitVec 32 := Scalar.subi v3 c64_i32
  let v5 : BitVec 32 := Scalar.maxsi c0_i32_1 v4
  let v6 : BitVec 32 := Scalar.minsi c1664_i32 v5
  v6
def k0_off1 (i : grid0.Coords) : Fin 3 → Nat :=
  let c0_11 : Index := 0#32
  let c1664_i32 : BitVec 32 := 1664#32
  let c0_i32_1 : BitVec 32 := 0#32
  let arg2 : BitVec 32 := BitVec.ofNat 32 (i 2).val
  let c256_i32 : BitVec 32 := 256#32
  let v3 : BitVec 32 := Scalar.muli arg2 c256_i32
  let c64_i32 : BitVec 32 := 64#32
  let v4 : BitVec 32 := Scalar.subi v3 c64_i32
  let v5 : BitVec 32 := Scalar.maxsi c0_i32_1 v4
  let v6 : BitVec 32 := Scalar.minsi c1664_i32 v5
  let v7 : BitVec 32 := v6
  let v39 : Index := Scalar.indexCast v7
  let c0_12 : Index := 0#32
  ![0, v39.toNat, 0]
def k0_off2 (i : grid0.Coords) (c0_i32_17 : BitVec 32) : Fin 1 → Nat :=
  let arg1 : BitVec 32 := BitVec.ofNat 32 (i 1).val
  let c8_i32 : BitVec 32 := 8#32
  let v50 : BitVec 32 := Scalar.muli arg1 c8_i32
  let v51 : BitVec 32 := Scalar.addi v50 c0_i32_17
  let v52 : Index := Scalar.indexCast v51
  ![v52.toNat]
def k0_mult2 (i : grid0.Coords) : BitVec 32 :=
  let arg2 : BitVec 32 := BitVec.ofNat 32 (i 2).val
  let c256_i32_138 : BitVec 32 := 256#32
  let v335 : BitVec 32 := Scalar.muli arg2 c256_i32_138
  v335
def k0_off3 (i : grid0.Coords) : Fin 4 → Nat :=
  let c0_139 : Index := 0#32
  let c0_140 : Index := 0#32
  let arg2 : BitVec 32 := BitVec.ofNat 32 (i 2).val
  let c256_i32_138 : BitVec 32 := 256#32
  let v335 : BitVec 32 := Scalar.muli arg2 c256_i32_138
  let v336 : BitVec 32 := v335
  let v337 : Index := Scalar.indexCast v336
  let c0_141 : Index := 0#32
  ![0, 0, v337.toNat, 0]
def k0_off4 (i : grid0.Coords) : Fin 2 → Nat :=
  let c1664_i32 : BitVec 32 := 1664#32
  let c0_i32_1 : BitVec 32 := 0#32
  let arg2 : BitVec 32 := BitVec.ofNat 32 (i 2).val
  let c256_i32 : BitVec 32 := 256#32
  let v3 : BitVec 32 := Scalar.muli arg2 c256_i32
  let c64_i32 : BitVec 32 := 64#32
  let v4 : BitVec 32 := Scalar.subi v3 c64_i32
  let v5 : BitVec 32 := Scalar.maxsi c0_i32_1 v4
  let v6 : BitVec 32 := Scalar.minsi c1664_i32 v5
  let v7 : BitVec 32 := v6
  let v341 : Index := Scalar.indexCast v7
  let c0_142 : Index := 0#32
  ![v341.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x3x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2048x9216 : Shape := ⟨2, ![2048, 9216]⟩
abbrev S2048x1024 : Shape := ⟨2, ![2048, 1024]⟩
abbrev S2048x3x3x16x64 : Shape := ⟨5, ![2048, 3, 3, 16, 64]⟩
abbrev S2048x1x1x16x64 : Shape := ⟨5, ![2048, 1, 1, 16, 64]⟩
abbrev S2048x16x64 : Shape := ⟨3, ![2048, 16, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S16x2048x2048 : Shape := ⟨3, ![16, 2048, 2048]⟩
abbrev S16 : Shape := ⟨1, ![16]⟩
abbrev S16x1x1 : Shape := ⟨3, ![16, 1, 1]⟩
abbrev S1x2048x2048 : Shape := ⟨3, ![1, 2048, 2048]⟩
abbrev S1x16x2048x2048 : Shape := ⟨4, ![1, 16, 2048, 2048]⟩
abbrev S3x16x2048x2048 : Shape := ⟨4, ![3, 16, 2048, 2048]⟩
abbrev S3x16x2048 : Shape := ⟨3, ![3, 16, 2048]⟩
abbrev S3x16x2048x1 : Shape := ⟨4, ![3, 16, 2048, 1]⟩
abbrev S16x2048 : Shape := ⟨2, ![16, 2048]⟩
abbrev S1x16x2048 : Shape := ⟨3, ![1, 16, 2048]⟩
abbrev S2048x3x1x16x64 : Shape := ⟨5, ![2048, 3, 1, 16, 64]⟩
abbrev S2048x3x16x64 : Shape := ⟨4, ![2048, 3, 16, 64]⟩
abbrev S16x64x2048 : Shape := ⟨3, ![16, 64, 2048]⟩
abbrev S16x2048x2048x3 : Shape := ⟨4, ![16, 2048, 2048, 3]⟩
abbrev S16x64x3x2048 : Shape := ⟨4, ![16, 64, 3, 2048]⟩
abbrev S16x2048x64 : Shape := ⟨3, ![16, 2048, 64]⟩
abbrev S2048x3x3072 : Shape := ⟨3, ![2048, 3, 3072]⟩
abbrev S2048x1x3072 : Shape := ⟨3, ![2048, 1, 3072]⟩
abbrev S2048x3072 : Shape := ⟨2, ![2048, 3072]⟩
abbrev S1x2048x3072 : Shape := ⟨3, ![1, 2048, 3072]⟩
abbrev S512x4x3072 : Shape := ⟨3, ![512, 4, 3072]⟩
abbrev S4x512x3072 : Shape := ⟨3, ![4, 512, 3072]⟩
abbrev S128x16x3072 : Shape := ⟨3, ![128, 16, 3072]⟩
abbrev S16x128x3072 : Shape := ⟨3, ![16, 128, 3072]⟩
abbrev S3x2048x3072 : Shape := ⟨3, ![3, 2048, 3072]⟩
abbrev S3x2048x3x1024 : Shape := ⟨4, ![3, 2048, 3, 1024]⟩
abbrev S3x3x2048x1024 : Shape := ⟨4, ![3, 3, 2048, 1024]⟩

abbrev nBuf : Space → Nat
  | .hbm => 376
  | .vmem => 0
  | .smem => 0
  | _ => 0

abbrev hbmTy0_0 (i : Nat) : BufTy := match i % 128 with
  | 0 => ⟨S2048x9216, .f32⟩
  | 1 => ⟨S2048x1024, .f32⟩
  | 2 => ⟨S2048x3x3x16x64, .f32⟩
  | 3 => ⟨S2048x1x1x16x64, .f32⟩
  | 4 => ⟨S2048x16x64, .f32⟩
  | 5 => ⟨S2048x1x1x16x64, .f32⟩
  | 6 => ⟨S2048x16x64, .f32⟩
  | 7 => ⟨S2048, .i32⟩
  | 8 => ⟨S2048x1, .i32⟩
  | 9 => ⟨S1x2048, .i32⟩
  | 10 => ⟨S2048x2048, .i32⟩
  | 11 => ⟨S2048x2048, .i32⟩
  | 12 => ⟨S2048x2048, .i32⟩
  | 13 => ⟨S2048x2048, .i32⟩
  | 14 => ⟨S_, .i32⟩
  | 15 => ⟨S2048x2048, .i32⟩
  | 16 => ⟨S2048x2048, .i1⟩
  | 17 => ⟨S2048x1, .i32⟩
  | 18 => ⟨S_, .i32⟩
  | 19 => ⟨S2048x1, .i32⟩
  | 20 => ⟨S2048x1, .i32⟩
  | 21 => ⟨S1x2048, .i32⟩
  | 22 => ⟨S_, .i32⟩
  | 23 => ⟨S1x2048, .i32⟩
  | 24 => ⟨S1x2048, .i32⟩
  | 25 => ⟨S2048x2048, .i32⟩
  | 26 => ⟨S2048x2048, .i32⟩
  | 27 => ⟨S2048x2048, .i1⟩
  | 28 => ⟨S2048x2048, .i1⟩
  | 29 => ⟨S_, .f32⟩
  | 30 => ⟨S2048x16x64, .f32⟩
  | 31 => ⟨S2048x16x64, .f32⟩
  | 32 => ⟨S16x2048x2048, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S16x1x1, .f32⟩
  | 47 => ⟨S2048x2048, .f32⟩
  | 48 => ⟨S1x2048x2048, .f32⟩
  | 49 => ⟨S16x2048x2048, .f32⟩
  | 50 => ⟨S16x2048x2048, .f32⟩
  | 51 => ⟨S16x2048x2048, .f32⟩
  | 52 => ⟨S16x2048x2048, .f32⟩
  | 53 => ⟨S_, .f32⟩
  | 54 => ⟨S_, .f32⟩
  | 55 => ⟨S16x2048x2048, .i1⟩
  | 56 => ⟨S16x2048x2048, .f32⟩
  | 57 => ⟨S16x2048x2048, .f32⟩
  | 58 => ⟨S_, .f32⟩
  | 59 => ⟨S16x2048x2048, .f32⟩
  | 60 => ⟨S2048x1x1x16x64, .f32⟩
  | 61 => ⟨S2048x16x64, .f32⟩
  | 62 => ⟨S2048x1x1x16x64, .f32⟩
  | 63 => ⟨S2048x16x64, .f32⟩
  | 64 => ⟨S2048, .i32⟩
  | 65 => ⟨S2048x1, .i32⟩
  | 66 => ⟨S1x2048, .i32⟩
  | 67 => ⟨S2048x2048, .i32⟩
  | 68 => ⟨S2048x2048, .i32⟩
  | 69 => ⟨S2048x2048, .i32⟩
  | 70 => ⟨S2048x2048, .i32⟩
  | 71 => ⟨S_, .i32⟩
  | 72 => ⟨S2048x2048, .i32⟩
  | 73 => ⟨S2048x2048, .i1⟩
  | 74 => ⟨S2048x1, .i32⟩
  | 75 => ⟨S_, .i32⟩
  | 76 => ⟨S2048x1, .i32⟩
  | 77 => ⟨S2048x1, .i32⟩
  | 78 => ⟨S1x2048, .i32⟩
  | 79 => ⟨S_, .i32⟩
  | 80 => ⟨S1x2048, .i32⟩
  | 81 => ⟨S1x2048, .i32⟩
  | 82 => ⟨S2048x2048, .i32⟩
  | 83 => ⟨S2048x2048, .i32⟩
  | 84 => ⟨S2048x2048, .i1⟩
  | 85 => ⟨S2048x2048, .i1⟩
  | 86 => ⟨S_, .f32⟩
  | 87 => ⟨S2048x16x64, .f32⟩
  | 88 => ⟨S2048x16x64, .f32⟩
  | 89 => ⟨S16x2048x2048, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S16x1x1, .f32⟩
  | 104 => ⟨S2048x2048, .f32⟩
  | 105 => ⟨S1x2048x2048, .f32⟩
  | 106 => ⟨S16x2048x2048, .f32⟩
  | 107 => ⟨S16x2048x2048, .f32⟩
  | 108 => ⟨S16x2048x2048, .f32⟩
  | 109 => ⟨S16x2048x2048, .f32⟩
  | 110 => ⟨S_, .f32⟩
  | 111 => ⟨S_, .f32⟩
  | 112 => ⟨S16x2048x2048, .i1⟩
  | 113 => ⟨S16x2048x2048, .f32⟩
  | 114 => ⟨S16x2048x2048, .f32⟩
  | 115 => ⟨S_, .f32⟩
  | 116 => ⟨S16x2048x2048, .f32⟩
  | 117 => ⟨S2048x1x1x16x64, .f32⟩
  | 118 => ⟨S2048x16x64, .f32⟩
  | 119 => ⟨S2048x1x1x16x64, .f32⟩
  | 120 => ⟨S2048x16x64, .f32⟩
  | 121 => ⟨S2048, .i32⟩
  | 122 => ⟨S2048x1, .i32⟩
  | 123 => ⟨S1x2048, .i32⟩
  | 124 => ⟨S2048x2048, .i32⟩
  | 125 => ⟨S2048x2048, .i32⟩
  | 126 => ⟨S2048x2048, .i32⟩
  | 127 => ⟨S2048x2048, .i32⟩
  | _ => ⟨S2048x9216, .f32⟩

abbrev hbmTy0_1 (i : Nat) : BufTy := match i % 128 with
  | 0 => ⟨S_, .i32⟩
  | 1 => ⟨S2048x2048, .i32⟩
  | 2 => ⟨S2048x2048, .i1⟩
  | 3 => ⟨S2048x1, .i32⟩
  | 4 => ⟨S_, .i32⟩
  | 5 => ⟨S2048x1, .i32⟩
  | 6 => ⟨S2048x1, .i32⟩
  | 7 => ⟨S1x2048, .i32⟩
  | 8 => ⟨S_, .i32⟩
  | 9 => ⟨S1x2048, .i32⟩
  | 10 => ⟨S1x2048, .i32⟩
  | 11 => ⟨S2048x2048, .i32⟩
  | 12 => ⟨S2048x2048, .i32⟩
  | 13 => ⟨S2048x2048, .i1⟩
  | 14 => ⟨S2048x2048, .i1⟩
  | 15 => ⟨S_, .f32⟩
  | 16 => ⟨S2048x16x64, .f32⟩
  | 17 => ⟨S2048x16x64, .f32⟩
  | 18 => ⟨S16x2048x2048, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16x1x1, .f32⟩
  | 33 => ⟨S2048x2048, .f32⟩
  | 34 => ⟨S1x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S_, .f32⟩
  | 40 => ⟨S_, .f32⟩
  | 41 => ⟨S16x2048x2048, .i1⟩
  | 42 => ⟨S16x2048x2048, .f32⟩
  | 43 => ⟨S16x2048x2048, .f32⟩
  | 44 => ⟨S_, .f32⟩
  | 45 => ⟨S16x2048x2048, .f32⟩
  | 46 => ⟨S1x16x2048x2048, .f32⟩
  | 47 => ⟨S1x16x2048x2048, .f32⟩
  | 48 => ⟨S1x16x2048x2048, .f32⟩
  | 49 => ⟨S3x16x2048x2048, .f32⟩
  | 50 => ⟨S_, .f32⟩
  | 51 => ⟨S3x16x2048, .f32⟩
  | 52 => ⟨S3x16x2048x1, .f32⟩
  | 53 => ⟨S3x16x2048x2048, .f32⟩
  | 54 => ⟨S3x16x2048x2048, .i1⟩
  | 55 => ⟨S3x16x2048x2048, .f32⟩
  | 56 => ⟨S_, .f32⟩
  | 57 => ⟨S3x16x2048, .f32⟩
  | 58 => ⟨S3x16x2048x1, .f32⟩
  | 59 => ⟨S3x16x2048x2048, .f32⟩
  | 60 => ⟨S3x16x2048x2048, .f32⟩
  | 61 => ⟨S3x16x2048x2048, .f32⟩
  | 62 => ⟨S_, .f32⟩
  | 63 => ⟨S3x16x2048, .f32⟩
  | 64 => ⟨S3x16x2048x1, .f32⟩
  | 65 => ⟨S3x16x2048x1, .f32⟩
  | 66 => ⟨S3x16x2048x1, .f32⟩
  | 67 => ⟨S3x16x2048, .f32⟩
  | 68 => ⟨S3x16x2048x1, .f32⟩
  | 69 => ⟨S3x16x2048x2048, .f32⟩
  | 70 => ⟨S3x16x2048x2048, .f32⟩
  | 71 => ⟨S3x16x2048x2048, .f32⟩
  | 72 => ⟨S_, .f32⟩
  | 73 => ⟨S16x2048, .f32⟩
  | 74 => ⟨S1x16x2048, .f32⟩
  | 75 => ⟨S3x16x2048, .f32⟩
  | 76 => ⟨S3x16x2048, .i1⟩
  | 77 => ⟨S3x16x2048, .f32⟩
  | 78 => ⟨S_, .f32⟩
  | 79 => ⟨S16x2048, .f32⟩
  | 80 => ⟨S_, .f32⟩
  | 81 => ⟨S16x2048, .f32⟩
  | 82 => ⟨S16x2048, .f32⟩
  | 83 => ⟨S_, .f32⟩
  | 84 => ⟨S16x2048, .f32⟩
  | 85 => ⟨S16x2048, .i1⟩
  | 86 => ⟨S_, .f32⟩
  | 87 => ⟨S16x2048, .f32⟩
  | 88 => ⟨S16x2048, .i1⟩
  | 89 => ⟨S_, .f32⟩
  | 90 => ⟨S16x2048, .f32⟩
  | 91 => ⟨S_, .f32⟩
  | 92 => ⟨S16x2048, .f32⟩
  | 93 => ⟨S_, .f32⟩
  | 94 => ⟨S16x2048, .f32⟩
  | 95 => ⟨S16x2048, .f32⟩
  | 96 => ⟨S16x2048, .f32⟩
  | 97 => ⟨S1x16x2048, .f32⟩
  | 98 => ⟨S3x16x2048, .f32⟩
  | 99 => ⟨S3x16x2048, .f32⟩
  | 100 => ⟨S3x16x2048, .f32⟩
  | 101 => ⟨S_, .f32⟩
  | 102 => ⟨S16x2048, .f32⟩
  | 103 => ⟨S1x16x2048, .f32⟩
  | 104 => ⟨S3x16x2048, .f32⟩
  | 105 => ⟨S3x16x2048, .f32⟩
  | 106 => ⟨S1x16x2048, .f32⟩
  | 107 => ⟨S_, .f32⟩
  | 108 => ⟨S1x16x2048, .f32⟩
  | 109 => ⟨S1x16x2048, .f32⟩
  | 110 => ⟨S3x16x2048x1, .f32⟩
  | 111 => ⟨S3x16x2048x2048, .f32⟩
  | 112 => ⟨S3x16x2048x2048, .f32⟩
  | 113 => ⟨S2048x3x1x16x64, .f32⟩
  | 114 => ⟨S2048x3x16x64, .f32⟩
  | 115 => ⟨S16x64x2048, .f32⟩
  | 116 => ⟨S2048x16x64, .f32⟩
  | 117 => ⟨S2048x1024, .f32⟩
  | 118 => ⟨S2048x16x64, .f32⟩
  | 119 => ⟨S16x64x2048, .f32⟩
  | 120 => ⟨S16x2048x2048x3, .f32⟩
  | 121 => ⟨S3x16x2048x2048, .f32⟩
  | 122 => ⟨S16x64x3x2048, .f32⟩
  | 123 => ⟨S2048x3x16x64, .f32⟩
  | 124 => ⟨S2048x3x1x16x64, .f32⟩
  | 125 => ⟨S_, .f32⟩
  | 126 => ⟨S2048x3x3x16x64, .f32⟩
  | 127 => ⟨S3x16x2048x2048, .f32⟩
  | _ => ⟨S2048x9216, .f32⟩

abbrev hbmTy0_2 (i : Nat) : BufTy := match i % 128 with
  | 0 => ⟨S3x16x2048x2048, .f32⟩
  | 1 => ⟨S3x16x2048x2048, .f32⟩
  | 2 => ⟨S_, .f32⟩
  | 3 => ⟨S3x16x2048, .f32⟩
  | 4 => ⟨S3x16x2048x1, .f32⟩
  | 5 => ⟨S_, .f32⟩
  | 6 => ⟨S3x16x2048, .f32⟩
  | 7 => ⟨S3x16x2048, .f32⟩
  | 8 => ⟨S3x16x2048, .f32⟩
  | 9 => ⟨S3x16x2048, .f32⟩
  | 10 => ⟨S_, .f32⟩
  | 11 => ⟨S16x2048, .f32⟩
  | 12 => ⟨S1x16x2048, .f32⟩
  | 13 => ⟨S1x16x2048, .f32⟩
  | 14 => ⟨S3x16x2048, .f32⟩
  | 15 => ⟨S3x16x2048, .f32⟩
  | 16 => ⟨S_, .f32⟩
  | 17 => ⟨S16x2048, .f32⟩
  | 18 => ⟨S3x16x2048, .f32⟩
  | 19 => ⟨S3x16x2048, .f32⟩
  | 20 => ⟨S3x16x2048, .f32⟩
  | 21 => ⟨S3x16x2048x2048, .f32⟩
  | 22 => ⟨S3x16x2048x2048, .f32⟩
  | 23 => ⟨S_, .f32⟩
  | 24 => ⟨S3x16x2048, .f32⟩
  | 25 => ⟨S3x16x2048x1, .f32⟩
  | 26 => ⟨S_, .f32⟩
  | 27 => ⟨S3x16x2048, .f32⟩
  | 28 => ⟨S3x16x2048, .f32⟩
  | 29 => ⟨S3x16x2048x1, .f32⟩
  | 30 => ⟨S3x16x2048x1, .f32⟩
  | 31 => ⟨S_, .f32⟩
  | 32 => ⟨S3x16x2048, .f32⟩
  | 33 => ⟨S3x16x2048x2048, .f32⟩
  | 34 => ⟨S3x16x2048x2048, .f32⟩
  | 35 => ⟨S3x16x2048x2048, .f32⟩
  | 36 => ⟨S1x16x2048x2048, .f32⟩
  | 37 => ⟨S16x2048x2048, .f32⟩
  | 38 => ⟨S1x16x2048x2048, .f32⟩
  | 39 => ⟨S16x2048x2048, .f32⟩
  | 40 => ⟨S1x16x2048x2048, .f32⟩
  | 41 => ⟨S16x2048x2048, .f32⟩
  | 42 => ⟨S_, .f32⟩
  | 43 => ⟨S16x2048x2048, .f32⟩
  | 44 => ⟨S16x2048x2048, .f32⟩
  | 45 => ⟨S16x2048x64, .f32⟩
  | 46 => ⟨S2048x16x64, .f32⟩
  | 47 => ⟨S16x2048x64, .f32⟩
  | 48 => ⟨S2048x16x64, .f32⟩
  | 49 => ⟨S_, .f32⟩
  | 50 => ⟨S2048x16x64, .f32⟩
  | 51 => ⟨S2048x16x64, .f32⟩
  | 52 => ⟨S2048x1x1x16x64, .f32⟩
  | 53 => ⟨S_, .f32⟩
  | 54 => ⟨S2048x3x3x16x64, .f32⟩
  | 55 => ⟨S2048x3x3x16x64, .f32⟩
  | 56 => ⟨S2048x1x1x16x64, .f32⟩
  | 57 => ⟨S_, .f32⟩
  | 58 => ⟨S2048x3x3x16x64, .f32⟩
  | 59 => ⟨S2048x3x3x16x64, .f32⟩
  | 60 => ⟨S_, .f32⟩
  | 61 => ⟨S16x2048x2048, .f32⟩
  | 62 => ⟨S16x2048x2048, .f32⟩
  | 63 => ⟨S16x2048x64, .f32⟩
  | 64 => ⟨S2048x16x64, .f32⟩
  | 65 => ⟨S16x2048x64, .f32⟩
  | 66 => ⟨S2048x16x64, .f32⟩
  | 67 => ⟨S_, .f32⟩
  | 68 => ⟨S2048x16x64, .f32⟩
  | 69 => ⟨S2048x16x64, .f32⟩
  | 70 => ⟨S2048x1x1x16x64, .f32⟩
  | 71 => ⟨S_, .f32⟩
  | 72 => ⟨S2048x3x3x16x64, .f32⟩
  | 73 => ⟨S2048x3x3x16x64, .f32⟩
  | 74 => ⟨S2048x1x1x16x64, .f32⟩
  | 75 => ⟨S_, .f32⟩
  | 76 => ⟨S2048x3x3x16x64, .f32⟩
  | 77 => ⟨S2048x3x3x16x64, .f32⟩
  | 78 => ⟨S_, .f32⟩
  | 79 => ⟨S16x2048x2048, .f32⟩
  | 80 => ⟨S16x2048x2048, .f32⟩
  | 81 => ⟨S16x2048x64, .f32⟩
  | 82 => ⟨S2048x16x64, .f32⟩
  | 83 => ⟨S16x2048x64, .f32⟩
  | 84 => ⟨S2048x16x64, .f32⟩
  | 85 => ⟨S_, .f32⟩
  | 86 => ⟨S2048x16x64, .f32⟩
  | 87 => ⟨S2048x16x64, .f32⟩
  | 88 => ⟨S2048x1x1x16x64, .f32⟩
  | 89 => ⟨S_, .f32⟩
  | 90 => ⟨S2048x3x3x16x64, .f32⟩
  | 91 => ⟨S2048x3x3x16x64, .f32⟩
  | 92 => ⟨S2048x1x1x16x64, .f32⟩
  | 93 => ⟨S_, .f32⟩
  | 94 => ⟨S2048x3x3x16x64, .f32⟩
  | 95 => ⟨S2048x3x3x16x64, .f32⟩
  | 96 => ⟨S2048x9216, .f32⟩
  | 97 => ⟨S2048x3x3072, .f32⟩
  | 98 => ⟨S2048x1x3072, .f32⟩
  | 99 => ⟨S2048x3072, .f32⟩
  | 100 => ⟨S2048x1x3072, .f32⟩
  | 101 => ⟨S1x2048x3072, .f32⟩
  | 102 => ⟨S2048x3072, .f32⟩
  | 103 => ⟨S2048x1x3072, .f32⟩
  | 104 => ⟨S2048x3072, .f32⟩
  | 105 => ⟨S512x4x3072, .f32⟩
  | 106 => ⟨S4x512x3072, .f32⟩
  | 107 => ⟨S2048x3072, .f32⟩
  | 108 => ⟨S2048x1x3072, .f32⟩
  | 109 => ⟨S2048x3072, .f32⟩
  | 110 => ⟨S128x16x3072, .f32⟩
  | 111 => ⟨S16x128x3072, .f32⟩
  | 112 => ⟨S2048x3072, .f32⟩
  | 113 => ⟨S1x2048x3072, .f32⟩
  | 114 => ⟨S1x2048x3072, .f32⟩
  | 115 => ⟨S1x2048x3072, .f32⟩
  | 116 => ⟨S3x2048x3072, .f32⟩
  | 117 => ⟨S3x2048x3x1024, .f32⟩
  | 118 => ⟨S3x3x2048x1024, .f32⟩
  | 119 => ⟨S3x3x2048x1024, .bf16⟩
  | _ => ⟨S2048x9216, .f32⟩

abbrev hbmTy (i : Nat) : BufTy := match i / 128 with
  | 0 => hbmTy0_0 i
  | 1 => hbmTy0_1 i
  | 2 => hbmTy0_2 i
  | _ => ⟨S2048x9216, .f32⟩

abbrev bufTy : (tb : Table) → Fin (tcTables nBuf tb) → BufTy
  | .hbm, ⟨i, _⟩ => hbmTy i
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_call0_v0 : Ref sig .tc := ⟨.hbm, 54, rfl⟩
abbrev main_v43_1 : Ref sig .tc := ⟨.hbm, 55, rfl⟩
abbrev main_call0_v2 : Ref sig .tc := ⟨.hbm, 56, rfl⟩
abbrev main_v43_0 : Ref sig .tc := ⟨.hbm, 57, rfl⟩
abbrev main_call0_cst : Ref sig .tc := ⟨.hbm, 58, rfl⟩
abbrev main_v43_2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_cst_14 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_15 : Ref sig .tc := ⟨.hbm, 110, rfl⟩
abbrev main_call1_v0 : Ref sig .tc := ⟨.hbm, 111, rfl⟩
abbrev main_v86_1 : Ref sig .tc := ⟨.hbm, 112, rfl⟩
abbrev main_call1_v2 : Ref sig .tc := ⟨.hbm, 113, rfl⟩
abbrev main_v86_0 : Ref sig .tc := ⟨.hbm, 114, rfl⟩
abbrev main_call1_cst : Ref sig .tc := ⟨.hbm, 115, rfl⟩
abbrev main_v86_2 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_16 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_c_17 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_c_18 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_19 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_20 : Ref sig .tc := ⟨.hbm, 148, rfl⟩
abbrev main_v114 : Ref sig .tc := ⟨.hbm, 149, rfl⟩
abbrev main_v115 : Ref sig .tc := ⟨.hbm, 150, rfl⟩
abbrev main_cst_21 : Ref sig .tc := ⟨.hbm, 151, rfl⟩
abbrev main_v116 : Ref sig .tc := ⟨.hbm, 152, rfl⟩
abbrev main_v117 : Ref sig .tc := ⟨.hbm, 153, rfl⟩
abbrev main_cst_22 : Ref sig .tc := ⟨.hbm, 154, rfl⟩
abbrev main_v118 : Ref sig .tc := ⟨.hbm, 155, rfl⟩
abbrev main_v119 : Ref sig .tc := ⟨.hbm, 156, rfl⟩
abbrev main_cst_23 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_24 : Ref sig .tc := ⟨.hbm, 167, rfl⟩
abbrev main_call2_v0 : Ref sig .tc := ⟨.hbm, 168, rfl⟩
abbrev main_v129_1 : Ref sig .tc := ⟨.hbm, 169, rfl⟩
abbrev main_call2_v2 : Ref sig .tc := ⟨.hbm, 170, rfl⟩
abbrev main_v129_0 : Ref sig .tc := ⟨.hbm, 171, rfl⟩
abbrev main_call2_cst : Ref sig .tc := ⟨.hbm, 172, rfl⟩
abbrev main_v129_2 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_25 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_26 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_27 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_28 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_29 : Ref sig .tc := ⟨.hbm, 206, rfl⟩
abbrev main_v158 : Ref sig .tc := ⟨.hbm, 207, rfl⟩
abbrev main_cst_30 : Ref sig .tc := ⟨.hbm, 208, rfl⟩
abbrev main_v159 : Ref sig .tc := ⟨.hbm, 209, rfl⟩
abbrev main_v160 : Ref sig .tc := ⟨.hbm, 210, rfl⟩
abbrev main_cst_31 : Ref sig .tc := ⟨.hbm, 211, rfl⟩
abbrev main_v161 : Ref sig .tc := ⟨.hbm, 212, rfl⟩
abbrev main_v162 : Ref sig .tc := ⟨.hbm, 213, rfl⟩
abbrev main_cst_32 : Ref sig .tc := ⟨.hbm, 214, rfl⟩
abbrev main_v163 : Ref sig .tc := ⟨.hbm, 215, rfl⟩
abbrev main_v164 : Ref sig .tc := ⟨.hbm, 216, rfl⟩
abbrev main_cst_33 : Ref sig .tc := ⟨.hbm, 217, rfl⟩
abbrev main_v165 : Ref sig .tc := ⟨.hbm, 218, rfl⟩
abbrev main_cst_34 : Ref sig .tc := ⟨.hbm, 219, rfl⟩
abbrev main_v166 : Ref sig .tc := ⟨.hbm, 220, rfl⟩
abbrev main_cst_35 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_36 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_37 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_cst_38 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_39 : Ref sig .tc := ⟨.hbm, 258, rfl⟩
abbrev main_v200 : Ref sig .tc := ⟨.hbm, 259, rfl⟩
abbrev main_v201 : Ref sig .tc := ⟨.hbm, 260, rfl⟩
abbrev main_cst_40 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_cst_41 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_cst_42 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_cst_43 : Ref sig .tc := ⟨.hbm, 279, rfl⟩
abbrev main_v217 : Ref sig .tc := ⟨.hbm, 280, rfl⟩
abbrev main_v218 : Ref sig .tc := ⟨.hbm, 281, rfl⟩
abbrev main_cst_44 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_cst_45 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_call3_cst : Ref sig .tc := ⟨.hbm, 298, rfl⟩
abbrev main_call3_v0 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_cst_46 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_cst_47 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_cst_48 : Ref sig .tc := ⟨.hbm, 313, rfl⟩
abbrev main_v244 : Ref sig .tc := ⟨.hbm, 314, rfl⟩
abbrev main_v245 : Ref sig .tc := ⟨.hbm, 315, rfl⟩
abbrev main_call4_cst : Ref sig .tc := ⟨.hbm, 316, rfl⟩
abbrev main_call4_v0 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_cst_49 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_cst_50 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_cst_51 : Ref sig .tc := ⟨.hbm, 331, rfl⟩
abbrev main_v257 : Ref sig .tc := ⟨.hbm, 332, rfl⟩
abbrev main_v258 : Ref sig .tc := ⟨.hbm, 333, rfl⟩
abbrev main_call5_cst : Ref sig .tc := ⟨.hbm, 334, rfl⟩
abbrev main_call5_v0 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_cst_52 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_cst_53 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_cst_54 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩

abbrev nD : Nat := 1
abbrev τ : Topo := Topo.v7x

variable {F : FTy → Type} [FloatOps F]

def κ : String → Option EReal := fun
  | "mask" => some ⊥
  | _ => none
-- ==== Kernel2.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S2048x1024, .bf16⟩
  | .hbm, ⟨6, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2048x1024 : Shape := ⟨2, ![2048, 1024]⟩
abbrev S2048x9216 : Shape := ⟨2, ![2048, 9216]⟩
abbrev S2048x1x1024 : Shape := ⟨3, ![2048, 1, 1024]⟩
abbrev S1x2048x1024 : Shape := ⟨3, ![1, 2048, 1024]⟩
abbrev S512x4x1024 : Shape := ⟨3, ![512, 4, 1024]⟩
abbrev S4x512x1024 : Shape := ⟨3, ![4, 512, 1024]⟩
abbrev S128x16x1024 : Shape := ⟨3, ![128, 16, 1024]⟩
abbrev S16x128x1024 : Shape := ⟨3, ![16, 128, 1024]⟩
abbrev S3x2048x1024 : Shape := ⟨3, ![3, 2048, 1024]⟩
abbrev S3x1024x2048 : Shape := ⟨3, ![3, 1024, 2048]⟩
abbrev S2048x3072 : Shape := ⟨2, ![2048, 3072]⟩
abbrev S2048x1x3072 : Shape := ⟨3, ![2048, 1, 3072]⟩
abbrev S1x2048x3072 : Shape := ⟨3, ![1, 2048, 3072]⟩
abbrev S512x4x3072 : Shape := ⟨3, ![512, 4, 3072]⟩
abbrev S4x512x3072 : Shape := ⟨3, ![4, 512, 3072]⟩
abbrev S128x16x3072 : Shape := ⟨3, ![128, 16, 3072]⟩
abbrev S16x128x3072 : Shape := ⟨3, ![16, 128, 3072]⟩
abbrev S3x2048x3072 : Shape := ⟨3, ![3, 2048, 3072]⟩
abbrev S3x2048x3x1024 : Shape := ⟨4, ![3, 2048, 3, 1024]⟩
abbrev S3x3x2048x1024 : Shape := ⟨4, ![3, 3, 2048, 1024]⟩
abbrev S4x1024x2304 : Shape := ⟨3, ![4, 1024, 2304]⟩
abbrev S1x1024x2048 : Shape := ⟨3, ![1, 1024, 2048]⟩
abbrev S1x1x2048x256 : Shape := ⟨4, ![1, 1, 2048, 256]⟩
abbrev S1x1024x256 : Shape := ⟨3, ![1, 1024, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 37
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x9216, .f32⟩
  | .hbm, ⟨2, _⟩ => ⟨S2048x1x1024, .f32⟩
  | .hbm, ⟨3, _⟩ => ⟨S1x2048x1024, .f32⟩
  | .hbm, ⟨4, _⟩ => ⟨S2048x1024, .f32⟩
  | .hbm, ⟨5, _⟩ => ⟨S512x4x1024, .f32⟩
  | .hbm, ⟨6, _⟩ => ⟨S4x512x1024, .f32⟩
  | .hbm, ⟨7, _⟩ => ⟨S2048x1024, .f32⟩
  | .hbm, ⟨8, _⟩ => ⟨S128x16x1024, .f32⟩
  | .hbm, ⟨9, _⟩ => ⟨S16x128x1024, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S3x2048x1024, .f32⟩
  | .hbm, ⟨15, _⟩ => ⟨S3x1024x2048, .f32⟩
  | .hbm, ⟨16, _⟩ => ⟨S3x1024x2048, .bf16⟩
  | .hbm, ⟨17, _⟩ => ⟨S2048x3072, .f32⟩
  | .hbm, ⟨18, _⟩ => ⟨S2048x1x3072, .f32⟩
  | .hbm, ⟨19, _⟩ => ⟨S1x2048x3072, .f32⟩
  | .hbm, ⟨20, _⟩ => ⟨S2048x3072, .f32⟩
  | .hbm, ⟨21, _⟩ => ⟨S2048x3072, .f32⟩
  | .hbm, ⟨22, _⟩ => ⟨S512x4x3072, .f32⟩
  | .hbm, ⟨23, _⟩ => ⟨S4x512x3072, .f32⟩
  | .hbm, ⟨24, _⟩ => ⟨S2048x3072, .f32⟩
  | .hbm, ⟨25, _⟩ => ⟨S2048x3072, .f32⟩
  | .hbm, ⟨26, _⟩ => ⟨S128x16x3072, .f32⟩
  | .hbm, ⟨27, _⟩ => ⟨S16x128x3072, .f32⟩
  | .hbm, ⟨28, _⟩ => ⟨S2048x3072, .f32⟩
  | .hbm, ⟨29, _⟩ => ⟨S1x2048x3072, .f32⟩
  | .hbm, ⟨30, _⟩ => ⟨S1x2048x3072, .f32⟩
  | .hbm, ⟨31, _⟩ => ⟨S1x2048x3072, .f32⟩
  | .hbm, ⟨32, _⟩ => ⟨S3x2048x3072, .f32⟩
  | .hbm, ⟨33, _⟩ => ⟨S3x2048x3x1024, .f32⟩
  | .hbm, ⟨34, _⟩ => ⟨S3x3x2048x1024, .f32⟩
  | .hbm, ⟨35, _⟩ => ⟨S3x3x2048x1024, .bf16⟩
  | .hbm, ⟨36, _⟩ => ⟨S4x1024x2304, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1024x256, .bf16⟩
  | .local _ .vmem, ⟨5, _⟩ => ⟨S1x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![36, 1], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  ![v16.toNat, v43.toNat, c0_i32_22.toNat, v53.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S2048x1024 : Shape := ⟨2, ![2048, 1024]⟩
abbrev S2048x9216 : Shape := ⟨2, ![2048, 9216]⟩
abbrev S_ : Shape := ⟨0, ![]⟩
abbrev S1024x9216 : Shape := ⟨2, ![1024, 9216]⟩
abbrev S9216x1024 : Shape := ⟨2, ![9216, 1024]⟩
abbrev S1024x2304 : Shape := ⟨2, ![1024, 2304]⟩
abbrev S1x1024x2304 : Shape := ⟨3, ![1, 1024, 2304]⟩
abbrev S4x1024x2304 : Shape := ⟨3, ![4, 1024, 2304]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x9216, .f32⟩
  | .hbm, ⟨2, _⟩ => ⟨S_, .f32⟩
  | .hbm, ⟨3, _⟩ => ⟨S1024x9216, .f32⟩
  | .hbm, ⟨4, _⟩ => ⟨S2048x9216, .f32⟩
  | .hbm, ⟨5, _⟩ => ⟨S9216x1024, .f32⟩
  | .hbm, ⟨6, _⟩ => ⟨S1024x9216, .f32⟩
  | .hbm, ⟨7, _⟩ => ⟨S1024x2304, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S1x1024x2304, .f32⟩
  | .hbm, ⟨12, _⟩ => ⟨S1x1024x2304, .f32⟩
  | .hbm, ⟨13, _⟩ => ⟨S1x1024x2304, .f32⟩
  | .hbm, ⟨14, _⟩ => ⟨S1x1024x2304, .f32⟩
  | .hbm, ⟨15, _⟩ => ⟨S4x1024x2304, .f32⟩
  | .hbm, ⟨16, _⟩ => ⟨S4x1024x2304, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S1024x9216 : Shape := ⟨2, ![1024, 9216]⟩
abbrev S2048x9216 : Shape := ⟨2, ![2048, 9216]⟩
abbrev S2048x3072 : Shape := ⟨2, ![2048, 3072]⟩
abbrev S2048x1x3072 : Shape := ⟨3, ![2048, 1, 3072]⟩
abbrev S1x2048x3072 : Shape := ⟨3, ![1, 2048, 3072]⟩
abbrev S512x4x3072 : Shape := ⟨3, ![512, 4, 3072]⟩
abbrev S4x512x3072 : Shape := ⟨3, ![4, 512, 3072]⟩
abbrev S128x16x3072 : Shape := ⟨3, ![128, 16, 3072]⟩
abbrev S16x128x3072 : Shape := ⟨3, ![16, 128, 3072]⟩
abbrev S3x2048x3072 : Shape := ⟨3, ![3, 2048, 3072]⟩
abbrev S3x2048x3x1024 : Shape := ⟨4, ![3, 2048, 3, 1024]⟩
abbrev S3x3x2048x1024 : Shape := ⟨4, ![3, 3, 2048, 1024]⟩
abbrev S1024x4x2304 : Shape := ⟨3, ![1024, 4, 2304]⟩
abbrev S4x1024x2304 : Shape := ⟨3, ![4, 1024, 2304]⟩
abbrev S3x2048x1024 : Shape := ⟨3, ![3, 2048, 1024]⟩
abbrev S1x1x2048x256 : Shape := ⟨4, ![1, 1, 2048, 256]⟩
abbrev S1x1024x256 : Shape := ⟨3, ![1, 1024, 256]⟩
abbrev S1x2048x1024 : Shape := ⟨3, ![1, 2048, 1024]⟩
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 25
  | .vmem => 19
  | .smem => 0
  | _ => 0

abbrev bufTy : (tb : Table) → Fin (tcTables nBuf tb) → BufTy
  | .hbm, ⟨0, _⟩ => ⟨S1024x9216, .f32⟩
  | .hbm, ⟨1, _⟩ => ⟨S2048x9216, .f32⟩
  | .hbm, ⟨2, _⟩ => ⟨S2048x3072, .f32⟩
  | .hbm, ⟨3, _⟩ => ⟨S2048x1x3072, .f32⟩
  | .hbm, ⟨4, _⟩ => ⟨S1x2048x3072, .f32⟩
  | .hbm, ⟨5, _⟩ => ⟨S2048x3072, .f32⟩
  | .hbm, ⟨6, _⟩ => ⟨S2048x3072, .f32⟩
  | .hbm, ⟨7, _⟩ => ⟨S512x4x3072, .f32⟩
  | .hbm, ⟨8, _⟩ => ⟨S4x512x3072, .f32⟩
  | .hbm, ⟨9, _⟩ => ⟨S2048x3072, .f32⟩
  | .hbm, ⟨10, _⟩ => ⟨S2048x3072, .f32⟩
  | .hbm, ⟨11, _⟩ => ⟨S128x16x3072, .f32⟩
  | .hbm, ⟨12, _⟩ => ⟨S16x128x3072, .f32⟩
  | .hbm, ⟨13, _⟩ => ⟨S2048x3072, .f32⟩
  | .hbm, ⟨14, _⟩ => ⟨S1x2048x3072, .f32⟩
  | .hbm, ⟨15, _⟩ => ⟨S1x2048x3072, .f32⟩
  | .hbm, ⟨16, _⟩ => ⟨S1x2048x3072, .f32⟩
  | .hbm, ⟨17, _⟩ => ⟨S3x2048x3072, .f32⟩
  | .hbm, ⟨18, _⟩ => ⟨S3x2048x3x1024, .f32⟩
  | .hbm, ⟨19, _⟩ => ⟨S3x3x2048x1024, .f32⟩
  | .hbm, ⟨20, _⟩ => ⟨S3x3x2048x1024, .bf16⟩
  | .hbm, ⟨21, _⟩ => ⟨S1024x4x2304, .f32⟩
  | .hbm, ⟨22, _⟩ => ⟨S4x1024x2304, .f32⟩
  | .hbm, ⟨23, _⟩ => ⟨S4x1024x2304, .bf16⟩
  | .hbm, ⟨24, _⟩ => ⟨S3x2048x1024, .f32⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1x2048x256, .bf16⟩
  | .local _ .vmem, ⟨5, _⟩ => ⟨S1x1x2048x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1x2048x256, .bf16⟩
  | .local _ .vmem, ⟨9, _⟩ => ⟨S1x1x2048x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1x2048x256, .bf16⟩
  | .local _ .vmem, ⟨13, _⟩ => ⟨S1x1x2048x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x2048x1024, .f32⟩
  | .local _ .vmem, ⟨17, _⟩ => ⟨S1x2048x1024, .f32⟩
  | .local _ .vmem, ⟨18, _⟩ => ⟨S2048x1024, .f32⟩
  | _, _ => ⟨S1024x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![3, 1, 3], ![false, false, false]⟩

def k0_cond3 (i : grid0.Coords) : BitVec 1 :=
  let arg2 : BitVec 32 := BitVec.ofNat 32 (i 2).val
  let c2_i32 : BitVec 32 := 2#32
  let v29 : BitVec 1 := Scalar.cmpi .eq arg2 c2_i32
  let v30 : BitVec 32 := Scalar.extui v29
  let c0_i32_33 : BitVec 32 := 0#32
  let v31 : BitVec 1 := Scalar.cmpi .ne v30 c0_i32_33
  v31

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let c4_i32 : BitVec 32 := 4#32
  let v1 : BitVec 32 := Scalar.muli arg2 c4_i32
  let v2 : BitVec 32 := Scalar.addi v0 v1
  let c0_i32 : BitVec 32 := 0#32
  let v3 : BitVec 32 := Scalar.addi v2 c0_i32
  let c9_i32 : BitVec 32 := 9#32
  let v4 : BitVec 32 := Scalar.divsi v3 c9_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c9_i32 c0_i32_2
  let v11 : BitVec 32 := Scalar.extui v10
  let c0_i32_3 : BitVec 32 := 0#32
  let v12 : BitVec 1 := Scalar.cmpi .slt c9_i32 c0_i32_3
  let v13 : BitVec 32 := Scalar.extui v12
  let v14 : BitVec 32 := Scalar.subi v11 v13
  let v15 : BitVec 1 := Scalar.cmpi .ne v9 v14
  let v16 : BitVec 32 := Scalar.remsi v3 c9_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c12_i32_5 : BitVec 32 := 12#32
  let v21 : BitVec 32 := Scalar.muli arg0 c12_i32_5
  let c4_i32_6 : BitVec 32 := 4#32
  let v22 : BitVec 32 := Scalar.muli arg2 c4_i32_6
  let v23 : BitVec 32 := Scalar.addi v21 v22
  let c0_i32_7 : BitVec 32 := 0#32
  let v24 : BitVec 32 := Scalar.addi v23 c0_i32_7
  let c9_i32_8 : BitVec 32 := 9#32
  let c0_i32_9 : BitVec 32 := 0#32
  let v25 : BitVec 1 := Scalar.cmpi .eq c9_i32_8 c0_i32_9
  let c1_i32_10 : BitVec 32 := 1#32
  let v26 : BitVec 32 := Scalar.select v25 c1_i32_10 c9_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c0_i32_14 : BitVec 32 := 0#32
  let c0_i32_15 : BitVec 32 := 0#32
  ![v20.toNat, c0_i32_14.toNat, v34.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let c4_i32 : BitVec 32 := 4#32
  let v1 : BitVec 32 := Scalar.muli arg2 c4_i32
  let v2 : BitVec 32 := Scalar.addi v0 v1
  let c1_i32 : BitVec 32 := 1#32
  let v3 : BitVec 32 := Scalar.addi v2 c1_i32
  let c9_i32 : BitVec 32 := 9#32
  let v4 : BitVec 32 := Scalar.divsi v3 c9_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c9_i32 c0_i32_1
  let v11 : BitVec 32 := Scalar.extui v10
  let c0_i32_2 : BitVec 32 := 0#32
  let v12 : BitVec 1 := Scalar.cmpi .slt c9_i32 c0_i32_2
  let v13 : BitVec 32 := Scalar.extui v12
  let v14 : BitVec 32 := Scalar.subi v11 v13
  let v15 : BitVec 1 := Scalar.cmpi .ne v9 v14
  let v16 : BitVec 32 := Scalar.remsi v3 c9_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c12_i32_5 : BitVec 32 := 12#32
  let v21 : BitVec 32 := Scalar.muli arg0 c12_i32_5
  let c4_i32_6 : BitVec 32 := 4#32
  let v22 : BitVec 32 := Scalar.muli arg2 c4_i32_6
  let v23 : BitVec 32 := Scalar.addi v21 v22
  let c1_i32_7 : BitVec 32 := 1#32
  let v24 : BitVec 32 := Scalar.addi v23 c1_i32_7
  let c9_i32_8 : BitVec 32 := 9#32
  let c0_i32_9 : BitVec 32 := 0#32
  let v25 : BitVec 1 := Scalar.cmpi .eq c9_i32_8 c0_i32_9
  let c1_i32_10 : BitVec 32 := 1#32
  let v26 : BitVec 32 := Scalar.select v25 c1_i32_10 c9_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c0_i32_14 : BitVec 32 := 0#32
  let c0_i32_15 : BitVec 32 := 0#32
  ![v20.toNat, c0_i32_14.toNat, v34.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let c4_i32 : BitVec 32 := 4#32
  let v1 : BitVec 32 := Scalar.muli arg2 c4_i32
  let v2 : BitVec 32 := Scalar.addi v0 v1
  let c2_i32 : BitVec 32 := 2#32
  let v3 : BitVec 32 := Scalar.addi v2 c2_i32
  let c9_i32 : BitVec 32 := 9#32
  let v4 : BitVec 32 := Scalar.divsi v3 c9_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c9_i32 c0_i32_1
  let v11 : BitVec 32 := Scalar.extui v10
  let c0_i32_2 : BitVec 32 := 0#32
  let v12 : BitVec 1 := Scalar.cmpi .slt c9_i32 c0_i32_2
  let v13 : BitVec 32 := Scalar.extui v12
  let v14 : BitVec 32 := Scalar.subi v11 v13
  let v15 : BitVec 1 := Scalar.cmpi .ne v9 v14
  let v16 : BitVec 32 := Scalar.remsi v3 c9_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c12_i32_4 : BitVec 32 := 12#32
  let v21 : BitVec 32 := Scalar.muli arg0 c12_i32_4
  let c4_i32_5 : BitVec 32 := 4#32
  let v22 : BitVec 32 := Scalar.muli arg2 c4_i32_5
  let v23 : BitVec 32 := Scalar.addi v21 v22
  let c2_i32_6 : BitVec 32 := 2#32
  let v24 : BitVec 32 := Scalar.addi v23 c2_i32_6
  let c9_i32_7 : BitVec 32 := 9#32
  let c0_i32_8 : BitVec 32 := 0#32
  let v25 : BitVec 1 := Scalar.cmpi .eq c9_i32_7 c0_i32_8
  let c1_i32_9 : BitVec 32 := 1#32
  let v26 : BitVec 32 := Scalar.select v25 c1_i32_9 c9_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  let c0_i32_14 : BitVec 32 := 0#32
  ![v20.toNat, c0_i32_13.toNat, v34.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, arg2.toNat, arg1.toNat, c3_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let c4_i32 : BitVec 32 := 4#32
  let v1 : BitVec 32 := Scalar.muli arg2 c4_i32
  let v2 : BitVec 32 := Scalar.addi v0 v1
  let c3_i32 : BitVec 32 := 3#32
  let v3 : BitVec 32 := Scalar.addi v2 c3_i32
  let c9_i32 : BitVec 32 := 9#32
  let v4 : BitVec 32 := Scalar.divsi v3 c9_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c9_i32 c0_i32_1
  let v11 : BitVec 32 := Scalar.extui v10
  let c0_i32_2 : BitVec 32 := 0#32
  let v12 : BitVec 1 := Scalar.cmpi .slt c9_i32 c0_i32_2
  let v13 : BitVec 32 := Scalar.extui v12
  let v14 : BitVec 32 := Scalar.subi v11 v13
  let v15 : BitVec 1 := Scalar.cmpi .ne v9 v14
  let v16 : BitVec 32 := Scalar.remsi v3 c9_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c12_i32_4 : BitVec 32 := 12#32
  let v21 : BitVec 32 := Scalar.muli arg0 c12_i32_4
  let c4_i32_5 : BitVec 32 := 4#32
  let v22 : BitVec 32 := Scalar.muli arg2 c4_i32_5
  let v23 : BitVec 32 := Scalar.addi v21 v22
  let c3_i32_6 : BitVec 32 := 3#32
  let v24 : BitVec 32 := Scalar.addi v23 c3_i32_6
  let c9_i32_7 : BitVec 32 := 9#32
  let c0_i32_8 : BitVec 32 := 0#32
  let v25 : BitVec 1 := Scalar.cmpi .eq c9_i32_7 c0_i32_8
  let c1_i32_9 : BitVec 32 := 1#32
  let v26 : BitVec 32 := Scalar.select v25 c1_i32_9 c9_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  let c0_i32_14 : BitVec 32 := 0#32
  ![v20.toNat, c0_i32_13.toNat, v34.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference4Ideal.lean ====
abbrev S1024x9216 : Shape := ⟨2, ![1024, 9216]⟩
abbrev S2048x9216 : Shape := ⟨2, ![2048, 9216]⟩
abbrev S_ : Shape := ⟨0, ![]⟩
abbrev S2048x1024 : Shape := ⟨2, ![2048, 1024]⟩
abbrev S1024x3072 : Shape := ⟨2, ![1024, 3072]⟩
abbrev S2048x3072 : Shape := ⟨2, ![2048, 3072]⟩
abbrev S2048x1x1024 : Shape := ⟨3, ![2048, 1, 1024]⟩
abbrev S1x2048x1024 : Shape := ⟨3, ![1, 2048, 1024]⟩
abbrev S512x4x1024 : Shape := ⟨3, ![512, 4, 1024]⟩
abbrev S4x512x1024 : Shape := ⟨3, ![4, 512, 1024]⟩
abbrev S128x16x1024 : Shape := ⟨3, ![128, 16, 1024]⟩
abbrev S16x128x1024 : Shape := ⟨3, ![16, 128, 1024]⟩
abbrev S3x2048x1024 : Shape := ⟨3, ![3, 2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1024x9216, .f32⟩
  | .hbm, ⟨1, _⟩ => ⟨S2048x9216, .f32⟩
  | .hbm, ⟨2, _⟩ => ⟨S_, .f32⟩
  | .hbm, ⟨3, _⟩ => ⟨S2048x1024, .f32⟩
  | .hbm, ⟨4, _⟩ => ⟨S1024x3072, .f32⟩
  | .hbm, ⟨5, _⟩ => ⟨S2048x3072, .f32⟩
  | .hbm, ⟨6, _⟩ => ⟨S2048x3072, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S1024x3072, .f32⟩
  | .hbm, ⟨11, _⟩ => ⟨S2048x3072, .f32⟩
  | .hbm, ⟨12, _⟩ => ⟨S2048x3072, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S1024x3072, .f32⟩
  | .hbm, ⟨17, _⟩ => ⟨S2048x3072, .f32⟩
  | .hbm, ⟨18, _⟩ => ⟨S2048x3072, .f32⟩
  | .hbm, ⟨19, _⟩ => ⟨S2048x1024, .f32⟩
  | .hbm, ⟨20, _⟩ => ⟨S2048x1x1024, .f32⟩
  | .hbm, ⟨21, _⟩ => ⟨S1x2048x1024, .f32⟩
  | .hbm, ⟨22, _⟩ => ⟨S2048x1024, .f32⟩
  | .hbm, ⟨23, _⟩ => ⟨S512x4x1024, .f32⟩
  | .hbm, ⟨24, _⟩ => ⟨S4x512x1024, .f32⟩
  | .hbm, ⟨25, _⟩ => ⟨S2048x1024, .f32⟩
  | .hbm, ⟨26, _⟩ => ⟨S128x16x1024, .f32⟩
  | .hbm, ⟨27, _⟩ => ⟨S16x128x1024, .f32⟩
  | .hbm, ⟨28, _⟩ => ⟨S2048x1024, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S3x2048x1024, .f32⟩
  | _, _ => ⟨S1024x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel5.lean ====
abbrev S2048x1024 : Shape := ⟨2, ![2048, 1024]⟩
abbrev S1024x9216 : Shape := ⟨2, ![1024, 9216]⟩
abbrev S2048x1x1024 : Shape := ⟨3, ![2048, 1, 1024]⟩
abbrev S1x2048x1024 : Shape := ⟨3, ![1, 2048, 1024]⟩
abbrev S512x4x1024 : Shape := ⟨3, ![512, 4, 1024]⟩
abbrev S4x512x1024 : Shape := ⟨3, ![4, 512, 1024]⟩
abbrev S128x16x1024 : Shape := ⟨3, ![128, 16, 1024]⟩
abbrev S16x128x1024 : Shape := ⟨3, ![16, 128, 1024]⟩
abbrev S3x2048x1024 : Shape := ⟨3, ![3, 2048, 1024]⟩
abbrev S1024x4x2304 : Shape := ⟨3, ![1024, 4, 2304]⟩
abbrev S4x1024x2304 : Shape := ⟨3, ![4, 1024, 2304]⟩
abbrev S3x2048x3072 : Shape := ⟨3, ![3, 2048, 3072]⟩
abbrev S1x1024x256 : Shape := ⟨3, ![1, 1024, 256]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 20
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S2048x1x1024, .f32⟩
  | .hbm, ⟨3, _⟩ => ⟨S1x2048x1024, .f32⟩
  | .hbm, ⟨4, _⟩ => ⟨S2048x1024, .f32⟩
  | .hbm, ⟨5, _⟩ => ⟨S512x4x1024, .f32⟩
  | .hbm, ⟨6, _⟩ => ⟨S4x512x1024, .f32⟩
  | .hbm, ⟨7, _⟩ => ⟨S2048x1024, .f32⟩
  | .hbm, ⟨8, _⟩ => ⟨S128x16x1024, .f32⟩
  | .hbm, ⟨9, _⟩ => ⟨S16x128x1024, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S3x2048x1024, .f32⟩
  | .hbm, ⟨15, _⟩ => ⟨S3x2048x1024, .bf16⟩
  | .hbm, ⟨16, _⟩ => ⟨S1024x4x2304, .f32⟩
  | .hbm, ⟨17, _⟩ => ⟨S4x1024x2304, .f32⟩
  | .hbm, ⟨18, _⟩ => ⟨S4x1024x2304, .bf16⟩
  | .hbm, ⟨19, _⟩ => ⟨S3x2048x3072, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x2048x256, .bf16⟩
  | .local _ .vmem, ⟨5, _⟩ => ⟨S1x2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 12, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg1
  let c9_i32 : BitVec 32 := 9#32
  let v2 : BitVec 32 := Scalar.divsi v1 c9_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c9_i32 c0_i32_1
  let v9 : BitVec 32 := Scalar.extui v8
  let c0_i32_2 : BitVec 32 := 0#32
  let v10 : BitVec 1 := Scalar.cmpi .slt c9_i32 c0_i32_2
  let v11 : BitVec 32 := Scalar.extui v10
  let v12 : BitVec 32 := Scalar.subi v9 v11
  let v13 : BitVec 1 := Scalar.cmpi .ne v7 v12
  let v14 : BitVec 32 := Scalar.remsi v1 c9_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg1
  let c9_i32_5 : BitVec 32 := 9#32
  let c0_i32_6 : BitVec 32 := 0#32
  let v21 : BitVec 1 := Scalar.cmpi .eq c9_i32_5 c0_i32_6
  let c1_i32_7 : BitVec 32 := 1#32
  let v22 : BitVec 32 := Scalar.select v21 c1_i32_7 c9_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S1024x9216 : Shape := ⟨2, ![1024, 9216]⟩
abbrev S2048x9216 : Shape := ⟨2, ![2048, 9216]⟩
abbrev S2048x3072 : Shape := ⟨2, ![2048, 3072]⟩
abbrev S2048x1x3072 : Shape := ⟨3, ![2048, 1, 3072]⟩
abbrev S1x2048x3072 : Shape := ⟨3, ![1, 2048, 3072]⟩
abbrev S512x4x3072 : Shape := ⟨3, ![512, 4, 3072]⟩
abbrev S4x512x3072 : Shape := ⟨3, ![4, 512, 3072]⟩
abbrev S128x16x3072 : Shape := ⟨3, ![128, 16, 3072]⟩
abbrev S16x128x3072 : Shape := ⟨3, ![16, 128, 3072]⟩
abbrev S3x2048x3072 : Shape := ⟨3, ![3, 2048, 3072]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S2048x9216, .f32⟩
  | .hbm, ⟨3, _⟩ => ⟨S2048x3072, .f32⟩
  | .hbm, ⟨4, _⟩ => ⟨S2048x1x3072, .f32⟩
  | .hbm, ⟨5, _⟩ => ⟨S1x2048x3072, .f32⟩
  | .hbm, ⟨6, _⟩ => ⟨S2048x3072, .f32⟩
  | .hbm, ⟨7, _⟩ => ⟨S2048x3072, .f32⟩
  | .hbm, ⟨8, _⟩ => ⟨S512x4x3072, .f32⟩
  | .hbm, ⟨9, _⟩ => ⟨S4x512x3072, .f32⟩
  | .hbm, ⟨10, _⟩ => ⟨S2048x3072, .f32⟩
  | .hbm, ⟨11, _⟩ => ⟨S2048x3072, .f32⟩
  | .hbm, ⟨12, _⟩ => ⟨S128x16x3072, .f32⟩
  | .hbm, ⟨13, _⟩ => ⟨S16x128x3072, .f32⟩
  | .hbm, ⟨14, _⟩ => ⟨S2048x3072, .f32⟩
  | .hbm, ⟨15, _⟩ => ⟨S1x2048x3072, .f32⟩
  | .hbm, ⟨16, _⟩ => ⟨S1x2048x3072, .f32⟩
  | .hbm, ⟨17, _⟩ => ⟨S1x2048x3072, .f32⟩
  | .hbm, ⟨18, _⟩ => ⟨S3x2048x3072, .f32⟩
  | .hbm, ⟨19, _⟩ => ⟨S3x2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Kernel6.lean ====
abbrev S2048x1024 : Shape := ⟨2, ![2048, 1024]⟩
abbrev S1024x3072 : Shape := ⟨2, ![1024, 3072]⟩
abbrev S1x2048x1024 : Shape := ⟨3, ![1, 2048, 1024]⟩
abbrev S1024x4x768 : Shape := ⟨3, ![1024, 4, 768]⟩
abbrev S4x1024x768 : Shape := ⟨3, ![4, 1024, 768]⟩
abbrev S1x2048x3072 : Shape := ⟨3, ![1, 2048, 3072]⟩
abbrev S1x1024x256 : Shape := ⟨3, ![1, 1024, 256]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 8
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x1024, .bf16⟩
  | .hbm, ⟨3, _⟩ => ⟨S1x2048x1024, .bf16⟩
  | .hbm, ⟨4, _⟩ => ⟨S1024x4x768, .f32⟩
  | .hbm, ⟨5, _⟩ => ⟨S4x1024x768, .f32⟩
  | .hbm, ⟨6, _⟩ => ⟨S4x1024x768, .bf16⟩
  | .hbm, ⟨7, _⟩ => ⟨S1x2048x3072, .bf16⟩
  | .local _ .vmem, ⟨0, _⟩ => ⟨S1x2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x2048x256, .bf16⟩
  | .local _ .vmem, ⟨4, _⟩ => ⟨S1x2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32_4 : BitVec 32 := 12#32
  let v19 : BitVec 32 := Scalar.muli arg0 c12_i32_4
  let v20 : BitVec 32 := Scalar.addi v19 arg1
  let c3_i32_5 : BitVec 32 := 3#32
  let c0_i32_6 : BitVec 32 := 0#32
  let v21 : BitVec 1 := Scalar.cmpi .eq c3_i32_5 c0_i32_6
  let c1_i32_7 : BitVec 32 := 1#32
  let v22 : BitVec 32 := Scalar.select v21 c1_i32_7 c3_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S1024x3072 : Shape := ⟨2, ![1024, 3072]⟩
abbrev S2048x3072 : Shape := ⟨2, ![2048, 3072]⟩
abbrev S1x2048x3072 : Shape := ⟨3, ![1, 2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | .hbm, ⟨3, _⟩ => ⟨S2048x3072, .bf16⟩
  | .hbm, ⟨4, _⟩ => ⟨S1x2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S2048x1024 : Shape := ⟨2, ![2048, 1024]⟩
abbrev S2048x3072 : Shape := ⟨2, ![2048, 3072]⟩
abbrev S1024x2048 : Shape := ⟨2, ![1024, 2048]⟩
abbrev S1x1024x2048 : Shape := ⟨3, ![1, 1024, 2048]⟩
abbrev S2048x3x1024 : Shape := ⟨3, ![2048, 3, 1024]⟩
abbrev S3x2048x1024 : Shape := ⟨3, ![3, 2048, 1024]⟩
abbrev S1x3x2048x1024 : Shape := ⟨4, ![1, 3, 2048, 1024]⟩
abbrev S4x1024x768 : Shape := ⟨3, ![4, 1024, 768]⟩
abbrev S1x1x2048x256 : Shape := ⟨4, ![1, 1, 2048, 256]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 10
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S1024x2048, .f32⟩
  | .hbm, ⟨3, _⟩ => ⟨S1024x2048, .bf16⟩
  | .hbm, ⟨4, _⟩ => ⟨S1x1024x2048, .bf16⟩
  | .hbm, ⟨5, _⟩ => ⟨S2048x3x1024, .f32⟩
  | .hbm, ⟨6, _⟩ => ⟨S3x2048x1024, .f32⟩
  | .hbm, ⟨7, _⟩ => ⟨S3x2048x1024, .bf16⟩
  | .hbm, ⟨8, _⟩ => ⟨S1x3x2048x1024, .bf16⟩
  | .hbm, ⟨9, _⟩ => ⟨S4x1024x768, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1024x256, .bf16⟩
  | .local _ .vmem, ⟨5, _⟩ => ⟨S1x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 1], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  ![v16.toNat, v43.toNat, c0_i32_22.toNat, v53.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S_, .f32⟩
  | .hbm, ⟨3, _⟩ => ⟨S1024x3072, .f32⟩
  | .hbm, ⟨4, _⟩ => ⟨S2048x3072, .f32⟩
  | .hbm, ⟨5, _⟩ => ⟨S3072x1024, .f32⟩
  | .hbm, ⟨6, _⟩ => ⟨S1024x3072, .f32⟩
  | .hbm, ⟨7, _⟩ => ⟨S1024x4x768, .f32⟩
  | .hbm, ⟨8, _⟩ => ⟨S4x1024x768, .f32⟩
  | .hbm, ⟨9, _⟩ => ⟨S4x1024x768, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S1024x3072 : Shape := ⟨2, ![1024, 3072]⟩
abbrev S2048x3072 : Shape := ⟨2, ![2048, 3072]⟩
abbrev S2048x3x1024 : Shape := ⟨3, ![2048, 3, 1024]⟩
abbrev S3x2048x1024 : Shape := ⟨3, ![3, 2048, 1024]⟩
abbrev S1x3x2048x1024 : Shape := ⟨4, ![1, 3, 2048, 1024]⟩
abbrev S1024x4x768 : Shape := ⟨3, ![1024, 4, 768]⟩
abbrev S4x1024x768 : Shape := ⟨3, ![4, 1024, 768]⟩
abbrev S1x2048x1024 : Shape := ⟨3, ![1, 2048, 1024]⟩
abbrev S1x1x2048x256 : Shape := ⟨4, ![1, 1, 2048, 256]⟩
abbrev S1x1024x256 : Shape := ⟨3, ![1, 1024, 256]⟩
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 10
  | .vmem => 18
  | .smem => 0
  | _ => 0

abbrev bufTy : (tb : Table) → Fin (tcTables nBuf tb) → BufTy
  | .hbm, ⟨0, _⟩ => ⟨S1024x3072, .f32⟩
  | .hbm, ⟨1, _⟩ => ⟨S2048x3072, .f32⟩
  | .hbm, ⟨2, _⟩ => ⟨S2048x3x1024, .f32⟩
  | .hbm, ⟨3, _⟩ => ⟨S3x2048x1024, .f32⟩
  | .hbm, ⟨4, _⟩ => ⟨S3x2048x1024, .bf16⟩
  | .hbm, ⟨5, _⟩ => ⟨S1x3x2048x1024, .bf16⟩
  | .hbm, ⟨6, _⟩ => ⟨S1024x4x768, .f32⟩
  | .hbm, ⟨7, _⟩ => ⟨S4x1024x768, .f32⟩
  | .hbm, ⟨8, _⟩ => ⟨S4x1024x768, .bf16⟩
  | .hbm, ⟨9, _⟩ => ⟨S1x2048x1024, .f32⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1x2048x256, .bf16⟩
  | .local _ .vmem, ⟨5, _⟩ => ⟨S1x1x2048x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1x2048x256, .bf16⟩
  | .local _ .vmem, ⟨9, _⟩ => ⟨S1x1x2048x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1x2048x256, .bf16⟩
  | .local _ .vmem, ⟨13, _⟩ => ⟨S1x1x2048x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x2048x1024, .f32⟩
  | .local _ .vmem, ⟨17, _⟩ => ⟨S2048x1024, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v29 : BitVec 1 := Scalar.cmpi .eq arg2 c2_i32
  let v30 : BitVec 32 := Scalar.extui v29
  let c0_i32_33 : BitVec 32 := 0#32
  let v31 : BitVec 1 := Scalar.cmpi .ne v30 c0_i32_33
  v31

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let c4_i32 : BitVec 32 := 4#32
  let v1 : BitVec 32 := Scalar.muli arg2 c4_i32
  let v2 : BitVec 32 := Scalar.addi v0 v1
  let c0_i32 : BitVec 32 := 0#32
  let v3 : BitVec 32 := Scalar.addi v2 c0_i32
  let c3_i32 : BitVec 32 := 3#32
  let v4 : BitVec 32 := Scalar.divsi v3 c3_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c3_i32 c0_i32_2
  let v11 : BitVec 32 := Scalar.extui v10
  let c0_i32_3 : BitVec 32 := 0#32
  let v12 : BitVec 1 := Scalar.cmpi .slt c3_i32 c0_i32_3
  let v13 : BitVec 32 := Scalar.extui v12
  let v14 : BitVec 32 := Scalar.subi v11 v13
  let v15 : BitVec 1 := Scalar.cmpi .ne v9 v14
  let v16 : BitVec 32 := Scalar.remsi v3 c3_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c12_i32_5 : BitVec 32 := 12#32
  let v21 : BitVec 32 := Scalar.muli arg0 c12_i32_5
  let c4_i32_6 : BitVec 32 := 4#32
  let v22 : BitVec 32 := Scalar.muli arg2 c4_i32_6
  let v23 : BitVec 32 := Scalar.addi v21 v22
  let c0_i32_7 : BitVec 32 := 0#32
  let v24 : BitVec 32 := Scalar.addi v23 c0_i32_7
  let c3_i32_8 : BitVec 32 := 3#32
  let c0_i32_9 : BitVec 32 := 0#32
  let v25 : BitVec 1 := Scalar.cmpi .eq c3_i32_8 c0_i32_9
  let c1_i32_10 : BitVec 32 := 1#32
  let v26 : BitVec 32 := Scalar.select v25 c1_i32_10 c3_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c0_i32_14 : BitVec 32 := 0#32
  let c0_i32_15 : BitVec 32 := 0#32
  ![v20.toNat, c0_i32_14.toNat, v34.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let c4_i32 : BitVec 32 := 4#32
  let v1 : BitVec 32 := Scalar.muli arg2 c4_i32
  let v2 : BitVec 32 := Scalar.addi v0 v1
  let c1_i32 : BitVec 32 := 1#32
  let v3 : BitVec 32 := Scalar.addi v2 c1_i32
  let c3_i32 : BitVec 32 := 3#32
  let v4 : BitVec 32 := Scalar.divsi v3 c3_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c3_i32 c0_i32_1
  let v11 : BitVec 32 := Scalar.extui v10
  let c0_i32_2 : BitVec 32 := 0#32
  let v12 : BitVec 1 := Scalar.cmpi .slt c3_i32 c0_i32_2
  let v13 : BitVec 32 := Scalar.extui v12
  let v14 : BitVec 32 := Scalar.subi v11 v13
  let v15 : BitVec 1 := Scalar.cmpi .ne v9 v14
  let v16 : BitVec 32 := Scalar.remsi v3 c3_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c12_i32_5 : BitVec 32 := 12#32
  let v21 : BitVec 32 := Scalar.muli arg0 c12_i32_5
  let c4_i32_6 : BitVec 32 := 4#32
  let v22 : BitVec 32 := Scalar.muli arg2 c4_i32_6
  let v23 : BitVec 32 := Scalar.addi v21 v22
  let c1_i32_7 : BitVec 32 := 1#32
  let v24 : BitVec 32 := Scalar.addi v23 c1_i32_7
  let c3_i32_8 : BitVec 32 := 3#32
  let c0_i32_9 : BitVec 32 := 0#32
  let v25 : BitVec 1 := Scalar.cmpi .eq c3_i32_8 c0_i32_9
  let c1_i32_10 : BitVec 32 := 1#32
  let v26 : BitVec 32 := Scalar.select v25 c1_i32_10 c3_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c0_i32_14 : BitVec 32 := 0#32
  let c0_i32_15 : BitVec 32 := 0#32
  ![v20.toNat, c0_i32_14.toNat, v34.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let c4_i32 : BitVec 32 := 4#32
  let v1 : BitVec 32 := Scalar.muli arg2 c4_i32
  let v2 : BitVec 32 := Scalar.addi v0 v1
  let c2_i32 : BitVec 32 := 2#32
  let v3 : BitVec 32 := Scalar.addi v2 c2_i32
  let c3_i32 : BitVec 32 := 3#32
  let v4 : BitVec 32 := Scalar.divsi v3 c3_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c3_i32 c0_i32_1
  let v11 : BitVec 32 := Scalar.extui v10
  let c0_i32_2 : BitVec 32 := 0#32
  let v12 : BitVec 1 := Scalar.cmpi .slt c3_i32 c0_i32_2
  let v13 : BitVec 32 := Scalar.extui v12
  let v14 : BitVec 32 := Scalar.subi v11 v13
  let v15 : BitVec 1 := Scalar.cmpi .ne v9 v14
  let v16 : BitVec 32 := Scalar.remsi v3 c3_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c12_i32_4 : BitVec 32 := 12#32
  let v21 : BitVec 32 := Scalar.muli arg0 c12_i32_4
  let c4_i32_5 : BitVec 32 := 4#32
  let v22 : BitVec 32 := Scalar.muli arg2 c4_i32_5
  let v23 : BitVec 32 := Scalar.addi v21 v22
  let c2_i32_6 : BitVec 32 := 2#32
  let v24 : BitVec 32 := Scalar.addi v23 c2_i32_6
  let c3_i32_7 : BitVec 32 := 3#32
  let c0_i32_8 : BitVec 32 := 0#32
  let v25 : BitVec 1 := Scalar.cmpi .eq c3_i32_7 c0_i32_8
  let c1_i32_9 : BitVec 32 := 1#32
  let v26 : BitVec 32 := Scalar.select v25 c1_i32_9 c3_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  let c0_i32_14 : BitVec 32 := 0#32
  ![v20.toNat, c0_i32_13.toNat, v34.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, arg2.toNat, arg1.toNat, c3_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let c4_i32 : BitVec 32 := 4#32
  let v1 : BitVec 32 := Scalar.muli arg2 c4_i32
  let v2 : BitVec 32 := Scalar.addi v0 v1
  let c3_i32 : BitVec 32 := 3#32
  let v3 : BitVec 32 := Scalar.addi v2 c3_i32
  let c3_i32_0 : BitVec 32 := 3#32
  let v4 : BitVec 32 := Scalar.divsi v3 c3_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c3_i32_0 c0_i32_2
  let v11 : BitVec 32 := Scalar.extui v10
  let c0_i32_3 : BitVec 32 := 0#32
  let v12 : BitVec 1 := Scalar.cmpi .slt c3_i32_0 c0_i32_3
  let v13 : BitVec 32 := Scalar.extui v12
  let v14 : BitVec 32 := Scalar.subi v11 v13
  let v15 : BitVec 1 := Scalar.cmpi .ne v9 v14
  let v16 : BitVec 32 := Scalar.remsi v3 c3_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c12_i32_5 : BitVec 32 := 12#32
  let v21 : BitVec 32 := Scalar.muli arg0 c12_i32_5
  let c4_i32_6 : BitVec 32 := 4#32
  let v22 : BitVec 32 := Scalar.muli arg2 c4_i32_6
  let v23 : BitVec 32 := Scalar.addi v21 v22
  let c3_i32_7 : BitVec 32 := 3#32
  let v24 : BitVec 32 := Scalar.addi v23 c3_i32_7
  let c3_i32_8 : BitVec 32 := 3#32
  let c0_i32_9 : BitVec 32 := 0#32
  let v25 : BitVec 1 := Scalar.cmpi .eq c3_i32_8 c0_i32_9
  let c1_i32_10 : BitVec 32 := 1#32
  let v26 : BitVec 32 := Scalar.select v25 c1_i32_10 c3_i32_8
  let v27 : BitVec 32 := Scalar.remsi v24 v26
  let c0_i32_11 : BitVec 32 := 0#32
  let v28 : BitVec 1 := Scalar.cmpi .ne v27 c0_i32_11
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let v32 : BitVec 1 := Scalar.andi v31 v28
  let v33 : BitVec 32 := Scalar.addi v27 v26
  let v34 : BitVec 32 := Scalar.select v32 v33 v27
  let c0_i32_14 : BitVec 32 := 0#32
  let c0_i32_15 : BitVec 32 := 0#32
  ![v20.toNat, c0_i32_14.toNat, v34.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S1x2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, false]
-- ==== Reference8Ideal.lean ====
abbrev S1024x3072 : Shape := ⟨2, ![1024, 3072]⟩
abbrev S2048x3072 : Shape := ⟨2, ![2048, 3072]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S2048x3072, .f32⟩
  | .hbm, ⟨2, _⟩ => ⟨S_, .f32⟩
  | .hbm, ⟨3, _⟩ => ⟨S2048x1024, .f32⟩
  | .hbm, ⟨4, _⟩ => ⟨S2048x3072, .f32⟩
  | .hbm, ⟨5, _⟩ => ⟨S2048x1024, .f32⟩
  | .hbm, ⟨6, _⟩ => ⟨S1x2048x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 21
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S2816x1024, .f32⟩
  | .hbm, ⟨12, _⟩ => ⟨S4x704x1024, .f32⟩
  | .hbm, ⟨13, _⟩ => ⟨S4x704x1024, .bf16⟩
  | .hbm, ⟨14, _⟩ => ⟨S4x704x1024, .f32⟩
  | .hbm, ⟨15, _⟩ => ⟨S4x704x1024, .bf16⟩
  | .hbm, ⟨16, _⟩ => ⟨S2048x1024, .f32⟩
  | .hbm, ⟨17, _⟩ => ⟨S2048x1024, .bf16⟩
  | .hbm, ⟨18, _⟩ => ⟨S4x2048x704, .bf16⟩
  | .hbm, ⟨19, _⟩ => ⟨S4x2048x704, .bf16⟩
  | .hbm, ⟨20, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_23 : BitVec 32 := 0#32
  let v36 : BitVec 1 := Scalar.cmpi .ne v35 c0_i32_23
  v36

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference10Ideal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S2048x4x704, .f32⟩
  | .hbm, ⟨54, _⟩ => ⟨S4x2048x704, .f32⟩
  | .hbm, ⟨55, _⟩ => ⟨S4x2048x704, .bf16⟩
  | .hbm, ⟨56, _⟩ => ⟨S2048x4x704, .f32⟩
  | .hbm, ⟨57, _⟩ => ⟨S4x2048x704, .f32⟩
  | .hbm, ⟨58, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .bf16⟩
  | .hbm, ⟨5, _⟩ => ⟨S1024x1024, .bf16⟩
  | .hbm, ⟨6, _⟩ => ⟨S1x1024, .f32⟩
  | .hbm, ⟨7, _⟩ => ⟨S2048x1024, .f32⟩
  | .hbm, ⟨8, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S1x1024, .f32⟩
  | .hbm, ⟨11, _⟩ => ⟨S1024x1024, .bf16⟩
  | .hbm, ⟨12, _⟩ => ⟨S2048x1024, .f32⟩
  | .hbm, ⟨13, _⟩ => ⟨S2048x1024, .bf16⟩
  | .hbm, ⟨14, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== Reference12Ideal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel13.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel14.lean ====
abbrev S2048x1024 : Shape := ⟨2, ![2048, 1024]⟩
abbrev S1x128 : Shape := ⟨2, ![1, 128]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference14Ideal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Ffn.Point.lean ====
module

public import proofs.«01_k».proof.Proof.Gen.Kernel10Ideal.Frame
public import proofs.«01_k».proof.Proof.Gen.Kernel10Ideal.Skeleton
public import Idealize.ShloMosaic.Lib.VecWindow

@[expose] public section

set_option maxRecDepth 16384

noncomputable section

namespace Cert.Kernel10Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal Cert.Kernel10Ideal.Gen

variable {F : FTy → Type} [FloatOps F]

local notation "𝕄" => MT nD τ sig Unit (Elt F) ℕ (UR sig nD τ) ℕ

/-! One run of the kernel body in each of its three cases: the first shard of a half, a middle one, the last. -/

/-- The point is at the first shard of its half. -/
abbrev first (i : grid0.Coords) : Prop := (Scalar.cmpi .ne (Scalar.extui (Scalar.cmpi .eq (BitVec.ofNat 32 (i 1).val) 0#32)) 0#32) = 1#1

/-- The point is after the first shard. -/
abbrev later (i : grid0.Coords) : Prop := (Scalar.cmpi .ne (Scalar.extui (Scalar.cmpi .sgt (BitVec.ofNat 32 (i 1).val) 0#32)) 0#32) = 1#1

/-- The point is at the last shard. -/
abbrev last (i : grid0.Coords) : Prop := (Scalar.cmpi .ne (Scalar.extui (Scalar.cmpi .eq (BitVec.ofNat 32 (i 1).val) 3#32)) 0#32) = 1#1

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x704x1024 .bf16) (harg5 : arg5.IsWhole)
  (arg6 : Memref sig .tc .vmem S1x704x1024 .bf16) (harg6 : arg6.IsWhole) (arg7 : Memref sig .tc .vmem S1x704x1024 .bf16) (harg7 : arg7.IsWhole)
  (arg8 : Memref sig .tc .vmem S1024x1024 .f32) (harg8 : arg8.IsWhole) (arg9 : Memref sig .tc .vmem S1024x1024 .bf16) (harg9 : arg9.IsWhole)
  (arg10 : Memref sig .tc .vmem S1x1024x704 .bf16) (harg10 : arg10.IsWhole) (arg11 : Memref sig .tc .vmem S1x1024x704 .bf16) (harg11 : arg11.IsWhole)
  (arg12 : Memref sig .tc .vmem S1024x1024 .f32) (harg12 : arg12.IsWhole) (arg13 : Memref sig .tc .vmem S1024x1024 .f32) (harg13 : arg13.IsWhole)
  (x0 : Vec F S1024x1024 .f32) (x1 x2 : Vec F S1x1024 .f32) (x3 x4 x5 : Vec F S1x704x1024 .bf16)
  (xn : Vec F S1024x1024 .f32) (xh : Vec F S1024x1024 .bf16) (xg xp : Vec F S1x1024x704 .bf16) (xu xs : Vec F S1024x1024 .f32)

theorem pay10_of {a a' : Vec F S1024x1024 .bf16} {b b' d d' e e' : Vec F S1x704x1024 .bf16} (ha : a = a') (hb : b = b') (hd : d = d') (he : e = e') :
    k0_pay10 a b d e = k0_pay10 a' b' d' e' := by subst ha hb hd he; rfl

theorem pay3_of {a a' b b' : Vec F S1024x1024 .f32} {d d' : Vec F S1x1024 .f32} (ha : a = a') (hb : b = b') (hd : d = d') :
    k0_pay3 a b d = k0_pay3 a' b' d' := by subst ha hb hd; rfl

/-- The twelve buffers of a point with their contents. -/
def Bufs (xn : Vec F S1024x1024 .f32) (xh : Vec F S1024x1024 .bf16) (xg xp : Vec F S1x1024x704 .bf16) (xu xs : Vec F S1024x1024 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare xn ∗ owns (c : Thread nD τ) arg9 fullShare xh ∗ owns (c : Thread nD τ) arg10 fullShare xg
    ∗ owns (c : Thread nD τ) arg11 fullShare xp ∗ owns (c : Thread nD τ) arg12 fullShare xu ∗ owns (c : Thread nD τ) arg13 fullShare xs)

set_option maxHeartbeats 2000000 in
/-- The first shard: the normalised rows are stored and read back, and the sum begins. -/
theorem runA (h0 : first i) (hl : ¬later i) (h3 : ¬last i) (E : Set ℕ) (K : PUnit → sProp 𝕄) :
    iprop(Bufs c arg2 arg3 arg4 arg5 arg6 arg7 arg8 arg9 arg10 arg11 arg12 arg13 x0 x1 x2 x3 x4 x5 xn xh xg xp xu xs
        ∗ (Bufs c arg2 arg3 arg4 arg5 arg6 arg7 arg8 arg9 arg10 arg11 arg12 arg13 x0 x1 x2 x3 x4 x5 xn (k0_pay4 x0 x1) (k0_pay8 (k0_pay4 x0 x1) x3) (k0_pay9 (k0_pay4 x0 x1) x4) xu (k0_pay1 (k0_pay10 (k0_pay4 x0 x1) x3 x4 x5)) -∗ K ⟨⟩))
      ⊢ wp frame (wpE (defs₀ (F := F)) Variants.none c none) E (cc0_l1_ffn_fwd i arg2 harg2 arg3 harg3 arg4 harg4 arg5 harg5 arg6 harg6 arg7 harg7 arg8 harg8 arg9 harg9 arg10 harg10 arg11 harg11 arg12 harg12 arg13 harg13) K := by
  simp only [cc0_l1_ffn_fwd_eq_skeleton]; unfold cc0_l1_ffn_fwd_skel
  simp only [k0_part1_eq_skeleton]
  unfold Bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact h0 | sl_exact hl | sl_exact h3)
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; refine (View.read_writes_full _ _ _ _ _).trans ?_; exact congrArg₂ k0_pay4 ((View.readAt_full arg2.view _ _).trans hf0) ((View.readAt_full arg3.view _ _).trans hf1)
  isplitl [H8]
  · iexists _; isplitr
    swap; · iexact H8
    ipureintro; refine (View.read_writes_full _ _ _ _ _).trans ?_; exact congrArg₂ k0_pay8 ((View.readCov_full arg9.view _ _ _ _).trans (congrArg₂ k0_pay4 ((View.readAt_full arg2.view _ _).trans hf0) ((View.readAt_full arg3.view _ _).trans hf1))) ((View.readAt_full arg5.view _ _).trans hf3)
  isplitl [H9]
  · iexists _; isplitr
    swap; · iexact H9
    ipureintro; refine (View.read_writes_full _ _ _ _ _).trans ?_; exact congrArg₂ k0_pay9 ((View.readCov_full arg9.view _ _ _ _).trans (congrArg₂ k0_pay4 ((View.readAt_full arg2.view _ _).trans hf0) ((View.readAt_full arg3.view _ _).trans hf1))) ((View.readAt_full arg6.view _ _).trans hf4)
  isplitl [H10]
  · iexists _; isplitr
    swap; · iexact H10
    ipureintro; exact hf10
  iexists _; isplitr
  swap; · iexact H11
  ipureintro; refine (View.read_writes_full _ _ _ _ _).trans ?_; exact (congrArg k0_pay1 (pay10_of ((View.readCov_full arg9.view _ _ _ _).trans (congrArg₂ k0_pay4 ((View.readAt_full arg2.view _ _).trans hf0) ((View.readAt_full arg3.view _ _).trans hf1))) ((View.readAt_full arg5.view _ _).trans hf3) ((View.readAt_full arg6.view _ _).trans hf4) ((View.readAt_full arg7.view _ _).trans hf5)))

set_option maxHeartbeats 2000000 in
/-- A middle shard: the rows are as the first left them, and the sum goes on. -/
theorem runB (h0 : ¬first i) (hl : later i) (h3 : ¬last i) (E : Set ℕ) (K : PUnit → sProp 𝕄) :
    iprop(Bufs c arg2 arg3 arg4 arg5 arg6 arg7 arg8 arg9 arg10 arg11 arg12 arg13 x0 x1 x2 x3 x4 x5 xn xh xg xp xu xs
        ∗ (Bufs c arg2 arg3 arg4 arg5 arg6 arg7 arg8 arg9 arg10 arg11 arg12 arg13 x0 x1 x2 x3 x4 x5 xn xh (k0_pay8 xh x3) (k0_pay9 xh x4) xu (k0_pay2 (k0_pay10 xh x3 x4 x5) xs) -∗ K ⟨⟩))
      ⊢ wp frame (wpE (defs₀ (F := F)) Variants.none c none) E (cc0_l1_ffn_fwd i arg2 harg2 arg3 harg3 arg4 harg4 arg5 harg5 arg6 harg6 arg7 harg7 arg8 harg8 arg9 harg9 arg10 harg10 arg11 harg11 arg12 harg12 arg13 harg13) K := by
  simp only [cc0_l1_ffn_fwd_eq_skeleton]; unfold cc0_l1_ffn_fwd_skel
  simp only [k0_part1_eq_skeleton]
  unfold Bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact h0 | sl_exact hl | sl_exact h3)
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; refine (View.read_writes_full _ _ _ _ _).trans ?_; exact congrArg₂ k0_pay8 ((View.readAt_full arg9.view _ _).trans hf7) ((View.readAt_full arg5.view _ _).trans hf3)
  isplitl [H9]
  · iexists _; isplitr
    swap; · iexact H9
    ipureintro; refine (View.read_writes_full _ _ _ _ _).trans ?_; exact congrArg₂ k0_pay9 ((View.readAt_full arg9.view _ _).trans hf7) ((View.readAt_full arg6.view _ _).trans hf4)
  isplitl [H10]
  · iexists _; isplitr
    swap; · iexact H10
    ipureintro; exact hf10
  iexists _; isplitr
  swap; · iexact H11
  ipureintro; refine (View.read_writes_full _ _ _ _ _).trans ?_; exact (congrArg₂ k0_pay2 (pay10_of ((View.readAt_full arg9.view _ _).trans hf7) ((View.readAt_full arg5.view _ _).trans hf3) ((View.readAt_full arg6.view _ _).trans hf4) ((View.readAt_full arg7.view _ _).trans hf5)) ((View.readAt_full arg13.view _ _).trans hf11))

set_option maxHeartbeats 2000000 in
/-- The last shard: the sum is complete, and the two results of the half are stored. -/
theorem runC (h0 : ¬first i) (hl : later i) (h3 : last i) (E : Set ℕ) (K : PUnit → sProp 𝕄) :
    iprop(Bufs c arg2 arg3 arg4 arg5 arg6 arg7 arg8 arg9 arg10 arg11 arg12 arg13 x0 x1 x2 x3 x4 x5 xn xh xg xp xu xs
        ∗ (Bufs c arg2 arg3 arg4 arg5 arg6 arg7 arg8 arg9 arg10 arg11 arg12 arg13 x0 x1 x2 x3 x4 x5 (k0_pay3 (k0_pay2 (k0_pay10 xh x3 x4 x5) xs) x0 x2) xh (k0_pay8 xh x3) (k0_pay9 xh x4) (k0_pay2 (k0_pay10 xh x3 x4 x5) xs) (k0_pay2 (k0_pay10 xh x3 x4 x5) xs) -∗ K ⟨⟩))
      ⊢ wp frame (wpE (defs₀ (F := F)) Variants.none c none) E (cc0_l1_ffn_fwd i arg2 harg2 arg3 harg3 arg4 harg4 arg5 harg5 arg6 harg6 arg7 harg7 arg8 harg8 arg9 harg9 arg10 harg10 arg11 harg11 arg12 harg12 arg13 harg13) K := by
  simp only [cc0_l1_ffn_fwd_eq_skeleton]; unfold cc0_l1_ffn_fwd_skel
  simp only [k0_part1_eq_skeleton]
  unfold Bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact h0 | sl_exact hl | sl_exact h3)
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; refine (View.read_writes_full _ _ _ _ _).trans ?_; exact pay3_of ((View.readCov_full arg13.view _ _ _ _).trans (congrArg₂ k0_pay2 (pay10_of ((View.readAt_full arg9.view _ _).trans hf7) ((View.readAt_full arg5.view _ _).trans hf3) ((View.readAt_full arg6.view _ _).trans hf4) ((View.readAt_full arg7.view _ _).trans hf5)) ((View.readAt_full arg13.view _ _).trans hf11))) ((View.readAt_full arg2.view _ _).trans hf0) ((View.readAt_full arg4.view _ _).trans hf2)
  isplitl [H7]
  · iexists _; isplitr
    swap; · iexact H7
    ipureintro; exact hf7
  isplitl [H8]
  · iexists _; isplitr
    swap; · iexact H8
    ipureintro; refine (View.read_writes_full _ _ _ _ _).trans ?_; exact congrArg₂ k0_pay8 ((View.readAt_full arg9.view _ _).trans hf7) ((View.readAt_full arg5.view _ _).trans hf3)
  isplitl [H9]
  · iexists _; isplitr
    swap; · iexact H9
    ipureintro; refine (View.read_writes_full _ _ _ _ _).trans ?_; exact congrArg₂ k0_pay9 ((View.readAt_full arg9.view _ _).trans hf7) ((View.readAt_full arg6.view _ _).trans hf4)
  isplitl [H10]
  · iexists _; isplitr
    swap; · iexact H10
    ipureintro; refine (View.read_writes_full _ _ _ _ _).trans ?_; exact ((View.readCov_full arg13.view _ _ _ _).trans (congrArg₂ k0_pay2 (pay10_of ((View.readAt_full arg9.view _ _).trans hf7) ((View.readAt_full arg5.view _ _).trans hf3) ((View.readAt_full arg6.view _ _).trans hf4) ((View.readAt_full arg7.view _ _).trans hf5)) ((View.readAt_full arg13.view _ _).trans hf11)))
  iexists _; isplitr
  swap; · iexact H11
  ipureintro; refine (View.read_writes_full _ _ _ _ _).trans ?_; exact (congrArg₂ k0_pay2 (pay10_of ((View.readAt_full arg9.view _ _).trans hf7) ((View.readAt_full arg5.view _ _).trans hf3) ((View.readAt_full arg6.view _ _).trans hf4) ((View.readAt_full arg7.view _ _).trans hf5)) ((View.readAt_full arg13.view _ _).trans hf11))

theorem first_coord (i : grid0.Coords) : first i ↔ (i 1).val = 0 := by
  have h : ∀ b : Fin 4, (Scalar.cmpi .ne (Scalar.extui (Scalar.cmpi .eq (BitVec.ofNat 32 b.val) 0#32)) 0#32) = 1#1 ↔ b.val = 0 := by decide +kernel
  exact h (i 1)

theorem later_coord (i : grid0.Coords) : later i ↔ (i 1).val ≠ 0 := by
  have h : ∀ b : Fin 4, (Scalar.cmpi .ne (Scalar.extui (Scalar.cmpi .sgt (BitVec.ofNat 32 b.val) 0#32)) 0#32) = 1#1 ↔ b.val ≠ 0 := by decide +kernel
  exact h (i 1)

theorem last_coord (i : grid0.Coords) : last i ↔ (i 1).val = 3 := by
  have h : ∀ b : Fin 4, (Scalar.cmpi .ne (Scalar.extui (Scalar.cmpi .eq (BitVec.ofNat 32 b.val) 3#32)) 0#32) = 1#1 ↔ b.val = 3 := by decide +kernel
  exact h (i 1)

/-- The normalised rows after a point: stored at the first shard, kept at the others. -/
def rowsNext : Vec F S1024x1024 .bf16 := if first i then k0_pay4 x0 x1 else xh

/-- The sum after a point, from the point's summand. -/
def sumNext (p xs : Vec F S1024x1024 .f32) : Vec F S1024x1024 .f32 := if first i then k0_pay1 p else k0_pay2 p xs

/-- The two results of a half: stored at the last shard, whatever was there at the others. -/
def outNext (s xn : Vec F S1024x1024 .f32) : Vec F S1024x1024 .f32 := if last i then k0_pay3 s x0 x2 else xn
def downNext (s xu : Vec F S1024x1024 .f32) : Vec F S1024x1024 .f32 := if last i then s else xu

/-- The body at any point, from what the rows and the sum are after it. -/
theorem step (h : Vec F S1024x1024 .bf16) (s : Vec F S1024x1024 .f32) (hh : rowsNext i x0 x1 xh = h) (hs : sumNext i (k0_pay10 h x3 x4 x5) xs = s)
    (E : Set ℕ) (K : PUnit → sProp 𝕄) :
    iprop(Bufs c arg2 arg3 arg4 arg5 arg6 arg7 arg8 arg9 arg10 arg11 arg12 arg13 x0 x1 x2 x3 x4 x5 xn xh xg xp xu xs
        ∗ (Bufs c arg2 arg3 arg4 arg5 arg6 arg7 arg8 arg9 arg10 arg11 arg12 arg13 x0 x1 x2 x3 x4 x5 (outNext i x0 x2 s xn) h (k0_pay8 h x3) (k0_pay9 h x4) (downNext i s xu) s -∗ K ⟨⟩))
      ⊢ wp frame (wpE (defs₀ (F := F)) Variants.none c none) E (cc0_l1_ffn_fwd i arg2 harg2 arg3 harg3 arg4 harg4 arg5 harg5 arg6 harg6 arg7 harg7 arg8 harg8 arg9 harg9 arg10 harg10 arg11 harg11 arg12 harg12 arg13 harg13) K := by
  subst hh hs
  unfold outNext downNext sumNext rowsNext
  by_cases h0 : first i
  · have hl : ¬later i := fun h => (later_coord i).mp h ((first_coord i).mp h0)
    have h3 : ¬last i := fun h => by have := (first_coord i).mp h0; have := (last_coord i).mp h; omega
    rw [if_pos h0, if_pos h0, if_neg h3, if_neg h3]
    exact runA c i arg2 harg2 arg3 harg3 arg4 harg4 arg5 harg5 arg6 harg6 arg7 harg7 arg8 harg8 arg9 harg9 arg10 harg10 arg11 harg11 arg12 harg12 arg13 harg13 x0 x1 x2 x3 x4 x5 xn xh xg xp xu xs h0 hl h3 E K
  · have hl : later i := (later_coord i).mpr fun h => h0 ((first_coord i).mpr h)
    rw [if_neg h0, if_neg h0]
    by_cases h3 : last i
    · rw [if_pos h3, if_pos h3]
      exact runC c i arg2 harg2 arg3 harg3 arg4 harg4 arg5 harg5 arg6 harg6 arg7 harg7 arg8 harg8 arg9 harg9 arg10 harg10 arg11 harg11 arg12 harg12 arg13 harg13 x0 x1 x2 x3 x4 x5 xn xh xg xp xu xs h0 hl h3 E K
    · rw [if_neg h3, if_neg h3]
      exact runB c i arg2 harg2 arg3 harg3 arg4 harg4 arg5 harg5 arg6 harg6 arg7 harg7 arg8 harg8 arg9 harg9 arg10 harg10 arg11 harg11 arg12 harg12 arg13 harg13 x0 x1 x2 x3 x4 x5 xn xh xg xp xu xs h0 hl h3 E K

end Cert.Kernel10Ideal.Ffn

end
-- ==== Proof.Ffn.Sound.lean ====
module

public import proofs.«01_k».proof.Proof.Ffn.Point
public import Idealize.ShloMosaic.Lib.Pipeline.DatRel

@[expose] public section

set_option maxRecDepth 16384

noncomputable section

namespace Cert.Kernel10Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal Cert.Kernel10Ideal.Gen

variable {F : FTy → Type} [FloatOps F]

local notation "𝕄" => MT nD τ sig Unit (Elt F) ℕ (UR sig nD τ) ℕ

/-! The region's run: what each output's block holds after a point, as a relation, and the launch. -/

variable (m : (ℓ : Loc nD τ sig) → Buf (Elt F) ℓ) (ρ : Dev nD → PrngReg)

theorem coord (t : Fin cfg0.N) : (grid0.coords t 1).val = t.val % 4 := by
  have h : (grid0.coords t 1).val = t.val / 1 % 4 := Pipeline.Grid.coords_val t 1 (by decide) rfl
  rwa [Nat.div_one] at h

theorem first_iff (t : Fin cfg0.N) : first (grid0.coords t) ↔ t.val % 4 = 0 := by rw [first_coord, coord]
theorem last_iff (t : Fin cfg0.N) : last (grid0.coords t) ↔ t.val % 4 = 3 := by rw [last_coord, coord]

/-- The normalised rows after `n` points: those of the half of the last of them. -/
def rows (c : Dev nD) : (n : ℕ) → n ≤ cfg0.N → Vec F S1024x1024 .bf16
  | 0, _ => constant S1024x1024 .bf16 0
  | n + 1, hn => let t : Fin cfg0.N := ⟨n, hn⟩; rowsNext (grid0.coords t) (iblk m c 0 t) (iblk m c 1 t) (rows c n (Nat.le_of_lt hn))

/-- What point `t` adds to the sum. -/
def part (c : Dev nD) (t : Fin cfg0.N) : Vec F S1024x1024 .f32 :=
  k0_pay10 (rows m c (t.val + 1) t.isLt) (iblk m c 3 t) (iblk m c 4 t) (iblk m c 5 t)

/-- The sum after `n` points. -/
def acc (c : Dev nD) : (n : ℕ) → n ≤ cfg0.N → Vec F S1024x1024 .f32
  | 0, _ => constant S1024x1024 .f32 0
  | n + 1, hn => let t : Fin cfg0.N := ⟨n, hn⟩; sumNext (grid0.coords t) (part m c t) (acc c n (Nat.le_of_lt hn))

theorem rows_succ (c : Dev nD) (t : Fin cfg0.N) (d : Vec F S1024x1024 .bf16) (h : t.val % 4 ≠ 0 → d = rows m c t.val (Nat.le_of_lt t.isLt)) :
    rowsNext (grid0.coords t) (iblk m c 0 t) (iblk m c 1 t) d = rows m c (t.val + 1) t.isLt := by
  show _ = rowsNext (grid0.coords t) (iblk m c 0 t) (iblk m c 1 t) (rows m c t.val (Nat.le_of_lt t.isLt))
  unfold rowsNext
  by_cases h0 : first (grid0.coords t)
  · rw [if_pos h0, if_pos h0]
  · rw [if_neg h0, if_neg h0, h fun e => h0 ((first_iff t).mpr e)]

theorem acc_succ (c : Dev nD) (t : Fin cfg0.N) (d : Vec F S1024x1024 .f32) (h : t.val % 4 ≠ 0 → d = acc m c t.val (Nat.le_of_lt t.isLt)) :
    sumNext (grid0.coords t) (part m c t) d = acc m c (t.val + 1) t.isLt := by
  show _ = sumNext (grid0.coords t) (part m c t) (acc m c t.val (Nat.le_of_lt t.isLt))
  unfold sumNext
  by_cases h0 : first (grid0.coords t)
  · rw [if_pos h0, if_pos h0]
  · rw [if_neg h0, if_neg h0, h fun e => h0 ((first_iff t).mpr e)]

/-- The sum as a whole buffer. -/
abbrev scr : Memref sig .tc .vmem S1024x1024 .f32 := Memref.whole cc0_scratch0

theorem entry_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The invariant before point `n`: the sum at its contents unless a half begins there. -/
def Inv (c : Dev nD) (n : ℕ) (hn : n ≤ cfg0.N) : sProp 𝕄 :=
  iprop((∃ d, ⌜n % 4 ≠ 0 → d = acc m c n hn⌝ ∗ owns (c : Thread nD τ) scr fullShare d) ∗ (∃ r, prngReg c r))

/-- The proof data of the pipeline: each input's buffer at its block, the outputs' at anything (`Rl` says what). -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

/-- The outputs' windows are held to a relation. -/
def marked (w : Fin cfg0.W) : Bool := match w with
  | ⟨6, _⟩ => true
  | ⟨7, _⟩ => true
  | ⟨8, _⟩ => true
  | ⟨9, _⟩ => true
  | ⟨10, _⟩ => true
  | _ => false

/-- What is known of an output's block after point `t`. -/
def Rl (c : Dev nD) (w : Fin cfg0.W) (t : Fin cfg0.N) : ((cfg0.win w).block.Idx → Elt F (cfg0.win w).elt) → Prop :=
  match w with
  | ⟨6, _⟩ => fun X => t.val % 4 = 3 → X = k0_pay3 (acc m c (t.val + 1) t.isLt) (iblk m c 0 t) (iblk m c 2 t)
  | ⟨7, _⟩ => fun X => X = rows m c (t.val + 1) t.isLt
  | ⟨8, _⟩ => fun X => X = k0_pay8 (rows m c (t.val + 1) t.isLt) (iblk m c 3 t)
  | ⟨9, _⟩ => fun X => X = k0_pay9 (rows m c (t.val + 1) t.isLt) (iblk m c 4 t)
  | ⟨10, _⟩ => fun X => t.val % 4 = 3 → X = acc m c (t.val + 1) t.isLt
  | _ => fun _ => True

/-- The relational data. -/
def rdat (c : Dev nD) : Pipeline.RDat τ (Elt F) Unit ℕ (UR sig nD τ) ℕ cfg0 c := (dats m 0 c).toRRel marked (Rl m c)

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d

/-- What the rows' buffer holds when the body runs: past the first shard, what the point before left there. -/
theorem finds_rows (c : Dev nD) (t : Fin cfg0.N) (Y : Vec F S1024x1024 .bf16) (hY : (rdat m c).Finds 7 t Y) (h4 : t.val % 4 ≠ 0) :
    Y = rows m c t.val (Nat.le_of_lt t.isLt) := by
  obtain ⟨n, hn⟩ := t
  obtain _ | n := n
  · exact absurd rfl h4
  have hf : (cfg0.win 7).fetch ⟨n + 1, hn⟩ = false := rfl
  rcases ((rdat m c).finds_of_pos hf (by show n + 1 ≠ 0; omega) Y).mp hY with h | h
  · exfalso
    have h' : n % 4 = 3 := (flush0_7 ⟨n, Nat.lt_of_succ_lt hn⟩).mp h
    have h4' : (n + 1) % 4 ≠ 0 := h4
    omega
  · exact (dats m 0 c).toRRel_leaves (w := 7) rfl h

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl, after_0, after_1, after_2, after_3, after_4, after_5]
  rw [show (dats m 0 c).Φ t.succ = Inv m c (t.val + 1) t.isLt from rfl, show (dats m 0 c).Φ t.castSucc = Inv m c t.val (Nat.le_of_lt t.isLt) from rfl]
  unfold Inv
  iintro ⟨⟨⟨%d11, %h11, H11⟩, Hg⟩, Ho, ⟨%d0, H0⟩, ⟨%d1, H1⟩, ⟨%d2, H2⟩, ⟨%d3, H3⟩, ⟨%d4, H4⟩, ⟨%d5, H5⟩, ⟨%d6, %h6, H6⟩, ⟨%d7, %h7, H7⟩, ⟨%d8, %h8, H8⟩, ⟨%d9, %h9, H9⟩, ⟨%d10, %h10, H10⟩⟩
  iapply (step c (grid0.coords t) _ _ _ _ _ _ _ _ _ _ _ _ _ _ _ _ _ _ _ _ _ _ _ _ (iblk m c 0 t) (iblk m c 1 t) (iblk m c 2 t) (iblk m c 3 t) (iblk m c 4 t) (iblk m c 5 t) d6 d7 d8 d9 d10 d11
    (rows m c (t.val + 1) t.isLt) (acc m c (t.val + 1) t.isLt) (rows_succ m c t d7 (finds_rows m c t d7 h7)) (acc_succ m c t d11 h11) Set.univ _)
  unfold Bufs
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨H0, H1, H2, H3, H4, H5, H6, H7, H8, H9, H10, H11⟩
  isplitl [H11 Hg]
  · isplitl [H11]
    · iexists _; isplitr; · ipureintro; exact fun _ => rfl
      iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact fun h => if_pos ((last_iff t).mpr h)
  isplitl [H7]
  · iexists _; isplitr
    swap; · iexact H7
    ipureintro; exact rfl
  isplitl [H8]
  · iexists _; isplitr
    swap; · iexact H8
    ipureintro; exact rfl
  isplitl [H9]
  · iexists _; isplitr
    swap; · iexact H9
    ipureintro; exact rfl
  iexists _; isplitr
  swap; · iexact H10
  ipureintro; exact fun h => if_pos ((last_iff t).mpr h)

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, entry_eq]
  unfold Inv
  iintro ⟨⟨%d, H⟩, Hg⟩
  isplitl [H]
  · iexists d; isplitr; · ipureintro; exact fun h => absurd rfl h
    iexact H
  iexact Hg

theorem hout (c : Dev nD) : (dats m 0 c).Φ (Fin.last cfg0.N) ⊢ Pipeline.ΦA spec0 c := by
  rw [show (dats m 0 c).Φ (Fin.last cfg0.N) = Inv m c cfg0.N (le_refl _) from rfl, entry_eq]
  unfold Inv
  iintro ⟨⟨%d, %h, H⟩, Hg⟩
  isplitl [H]
  · iexists d; iexact H
  iexact Hg

theorem share_eq (c : Dev nD) (w : Fin cfg0.W) : (rdat m c).share w = fullShare := by
  show (if (cfg0.win w).isOut then fullShare else fullShare) = fullShare
  split <;> rfl

set_option backward.isDefEq.respectTransparency.types false in
/-- The launch: every final state has the arrays as the relational data say, and every counter at zero. -/
theorem run_main : θ_run defs (onTc (τ := τ) (main (F := F))) (s₀ m ρ) (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := share_eq m)
    (howed := fun _ _ => rfl) (V := V m) (hmain := hmain m Variants.none) (hA := A_eq m) (hin := hin m) (hout := hout m)

/-- The arguments end unchanged: the first is an array that a window reads, the others no window's. -/
theorem args_kept {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept m h.1, h.2⟩) (run_main m ρ)

end Cert.Kernel10Ideal.Ffn

end
-- ==== Proof.Ffn.Bits.lean ====
/- The frame of the forward kernel as it is printed, from the frame of its idealized text: it has no named constant, so the two
   texts are one. -/
module

public import proofs.«01_k».proof.Proof.Ffn.Sound
public import proofs.«01_k».proof.Proof.Gen.Kernel10
public import proofs.«01_k».proof.Defs
public import Idealize.ShloMosaic.Lib.Pipeline.Regions

@[expose] public section

set_option maxRecDepth 65536

noncomputable section

namespace Cert.Kernel10.Ffn

open Idealize.ShloMosaic Idealize.SL.Sem

/-- The frame of the printed text. -/
def Printed : Prop := ∀ (m : (ℓ : Loc nD τ sig) → Buf (Elt Bits) ℓ) (g : Dev nD → PrngReg),
  θ_run (defs (F := Bits)) (onTc (τ := τ) (main (F := Bits))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0

/-- The frame of the idealized text, over the same numbers. -/
def Idealized : Prop := ∀ (m : (ℓ : Loc Kernel10Ideal.nD Kernel10Ideal.τ Kernel10Ideal.sig) → Buf (Elt Bits) ℓ) (g : Dev Kernel10Ideal.nD → PrngReg),
  θ_run (Kernel10Ideal.defs (F := Bits)) (onTc (τ := Kernel10Ideal.τ) (Kernel10Ideal.main (F := Bits))) ⟨m, fun _ => 0, g⟩ fun r => (∀ c : Dev Kernel10Ideal.nD,
      r.2.mem ((c.tc : Thread Kernel10Ideal.nD Kernel10Ideal.τ).loc Kernel10Ideal.main_arg0) = m ((c.tc : Thread Kernel10Ideal.nD Kernel10Ideal.τ).loc Kernel10Ideal.main_arg0)
      ∧ r.2.mem ((c.tc : Thread Kernel10Ideal.nD Kernel10Ideal.τ).loc Kernel10Ideal.main_arg1) = m ((c.tc : Thread Kernel10Ideal.nD Kernel10Ideal.τ).loc Kernel10Ideal.main_arg1)
      ∧ r.2.mem ((c.tc : Thread Kernel10Ideal.nD Kernel10Ideal.τ).loc Kernel10Ideal.main_arg2) = m ((c.tc : Thread Kernel10Ideal.nD Kernel10Ideal.τ).loc Kernel10Ideal.main_arg2)
      ∧ r.2.mem ((c.tc : Thread Kernel10Ideal.nD Kernel10Ideal.τ).loc Kernel10Ideal.main_arg3) = m ((c.tc : Thread Kernel10Ideal.nD Kernel10Ideal.τ).loc Kernel10Ideal.main_arg3)
      ∧ r.2.mem ((c.tc : Thread Kernel10Ideal.nD Kernel10Ideal.τ).loc Kernel10Ideal.main_arg4) = m ((c.tc : Thread Kernel10Ideal.nD Kernel10Ideal.τ).loc Kernel10Ideal.main_arg4)
      ∧ r.2.mem ((c.tc : Thread Kernel10Ideal.nD Kernel10Ideal.τ).loc Kernel10Ideal.main_arg5) = m ((c.tc : Thread Kernel10Ideal.nD Kernel10Ideal.τ).loc Kernel10Ideal.main_arg5))
    ∧ r.2.sem = fun _ => 0

theorem printed_eq : Printed = Idealized := by chain_rfl

theorem frame : Printed := printed_eq.mpr fun m g => Cert.Kernel10Ideal.Ffn.frame (F := Bits) m g

end Cert.Kernel10.Ffn

end
-- ==== Proof.Products.Index.lean ====
/- An index from its coordinates: what the block reads of every product here end with. -/
module

public import Idealize.ShloMosaic.Lib.Pointwise

@[expose] public section

namespace Cert.Products

open Idealize.ShloMosaic

/-- An index of two axes from its coordinates. -/
theorem ix2_of {n0 n1 : ℕ} (j : (⟨2, ![n0, n1]⟩ : Shape).Idx) {a : Fin n0} {b : Fin n1} (h0 : (j 0).val = a.val) (h1 : (j 1).val = b.val) : j = ix2 a b := by
  funext k
  match k with
  | ⟨0, _⟩ => exact Fin.ext h0
  | ⟨1, _⟩ => exact Fin.ext h1

/-- An index of three axes from its coordinates. -/
theorem ix3_of {n0 n1 n2 : ℕ} (j : (⟨3, ![n0, n1, n2]⟩ : Shape).Idx) {a : Fin n0} {b : Fin n1} {c : Fin n2}
    (h0 : (j 0).val = a.val) (h1 : (j 1).val = b.val) (h2 : (j 2).val = c.val) : j = ix3 a b c := by
  funext k
  match k with
  | ⟨0, _⟩ => exact Fin.ext h0
  | ⟨1, _⟩ => exact Fin.ext h1
  | ⟨2, _⟩ => exact Fin.ext h2

/-- An index of four axes from its coordinates. -/
theorem ix4_of {n0 n1 n2 n3 : ℕ} (j : (⟨4, ![n0, n1, n2, n3]⟩ : Shape).Idx) {a : Fin n0} {b : Fin n1} {c : Fin n2} {d : Fin n3}
    (h0 : (j 0).val = a.val) (h1 : (j 1).val = b.val) (h2 : (j 2).val = c.val) (h3 : (j 3).val = d.val) : j = ix4 a b c d := by
  funext k
  match k with
  | ⟨0, _⟩ => exact Fin.ext h0
  | ⟨1, _⟩ => exact Fin.ext h1
  | ⟨2, _⟩ => exact Fin.ext h2
  | ⟨3, _⟩ => exact Fin.ext h3

/-- What is read of a rectangle of a whole buffer is the buffer at the rectangle's own indices. -/
theorem read_slice_whole {sig : RefSig} {κ : Kind} {Val : EltTy → Type} (b : Ref sig κ) (r : Rect b.ty.shape) (X : b.ty.Contents Val) (x : r.shape.Idx) :
    ((View.whole b).slice r).read Val X x = X (r.emb x) := rfl

/-- Where an element of a block lies: the block's index times the extent, plus the place within. -/
theorem at_block {n x y ext place : Nat} {f v : Fin n → Nat} (hf : f = v) (d : Fin n) (h : x = f d * ext + place) (hv : v d * ext + place = y) : x = y := by
  subst hf
  exact h.trans hv

end Cert.Products

end
-- ==== Proof.Ffn.Values.lean ====
/- What the forward call's blocks hold, as sums over the arguments. -/
module

public import proofs.«01_k».proof.Proof.Ffn.Sound
public import proofs.«01_k».proof.Proof.Products.Index
public import Idealize.ShloMosaic.Lib.Pipeline.ValueKit.Basic
public import Idealize.ShloMosaic.Lib.Pipeline.ValueKit.Acc

@[expose] public section

set_option maxRecDepth 65536

noncomputable section

namespace Cert.Kernel10Ideal.Val

open Idealize.ShloMosaic.Pipeline.Window (rect_emb_val)
open Cert.Kernel10Ideal Cert.Kernel10Ideal.Gen Cert.Kernel10Ideal.Ffn Cert.Products Idealize.ShloMosaic Idealize.ShloMosaic.TcCoe Idealize.SL.Sem

/-! The layer, entry by entry. -/

/-- A row divided by its root mean square, times the gains. -/
def norm (v g : Fin 1024 → EReal) (b : Fin 1024) : EReal :=
  v b * Ideal.rsqrt (Ideal.div (∑ k, v k * v k) (Ideal.ofBits .f32 0x44800000#32) + Ideal.ofBits .f32 0x358637BD#32) * g b

section Layer

variable (X : FVec Ideal S2048x1024 .f32) (G : FVec Ideal S1024 .f32) (W W' : FVec Ideal S1024x2816 .f32) (D : FVec Ideal S2816x1024 .f32)

/-- The normalised tokens. -/
def hid (r : Fin 2048) (k : Fin 1024) : EReal := norm (fun k => X (ix2 r k)) (fun k => G (ix1 k)) k

/-- The normalised tokens times a weight. -/
def lin (r : Fin 2048) (j : Fin 2816) : EReal := ∑ k : Fin 1024, hid X G r k * W (ix2 k j)

/-- The gated activation. -/
def act (r : Fin 2048) (j : Fin 2816) : EReal := lin X G W r j * Ideal.logistic (lin X G W r j) * lin X G W' r j

/-- The activation times the last weight. -/
def down (r : Fin 2048) (b : Fin 1024) : EReal := ∑ j : Fin 2816, act X G W W' r j * D (ix2 j b)

/-- The column of place `a` in shard `s`. -/
def col (s : ℕ) (a : Fin 704) : Fin 2816 := ⟨s % 4 * 704 + a.val, by omega⟩

/-- What shard `s` adds to that product. -/
def share (r : Fin 2048) (b : Fin 1024) (s : ℕ) : EReal := ∑ a : Fin 704, act X G W W' r (col s a) * D (ix2 (col s a) b)

/-- The four shards together are the whole product. -/
theorem shares (r : Fin 2048) (b : Fin 1024) : ∑ s ∈ Finset.range 4, share X G W W' D r b s = down X G W W' D r b := by
  unfold down
  rw [← Fin.sum_mul_add_fin 4 704 (fun j : Fin 2816 => act X G W W' r j * D (ix2 j b)), Finset.sum_range]
  refine Finset.sum_congr rfl fun s _ => Finset.sum_congr rfl fun a _ => ?_
  have e : col s.val a = (⟨s.val * 704 + a.val, by omega⟩ : Fin 2816) := Fin.ext (by show s.val % 4 * 704 + a.val = s.val * 704 + a.val; omega)
  rw [e]

end Layer

/-! What a point stores, from what it reads. -/

theorem pay4_at (x : Vec Ideal S1024x1024 .f32) (g : Vec Ideal S1x1024 .f32) (r b : Fin 1024) :
    k0_pay4 x g (ix2 r b) = norm (fun k => x (ix2 r k)) (fun k => g (ix2 0 k)) b := by
  unfold norm
  pointwise [k0_pay4]

theorem pay3_at (s x : Vec Ideal S1024x1024 .f32) (g : Vec Ideal S1x1024 .f32) (r b : Fin 1024) :
    k0_pay3 s x g (ix2 r b) = x (ix2 r b) + norm (fun k => s (ix2 r k)) (fun k => g (ix2 0 k)) b := by
  unfold norm
  pointwise [k0_pay3]

theorem pay8_at (h : Vec Ideal S1024x1024 .bf16) (w : Vec Ideal S1x704x1024 .bf16) (r : Fin 1024) (a : Fin 704) :
    k0_pay8 h w (ix3 0 r a) = ∑ k : Fin 1024, h (ix2 r k) * w (ix3 0 a k) := by
  pointwise [k0_pay8, k0_pay6, k0_pay5]

theorem pay9_at (h : Vec Ideal S1024x1024 .bf16) (w : Vec Ideal S1x704x1024 .bf16) (r : Fin 1024) (a : Fin 704) :
    k0_pay9 h w (ix3 0 r a) = ∑ k : Fin 1024, h (ix2 r k) * w (ix3 0 a k) := by
  pointwise [k0_pay9, k0_pay7, k0_pay5]

theorem pay10_at (h : Vec Ideal S1024x1024 .bf16) (w w' d : Vec Ideal S1x704x1024 .bf16) (r b : Fin 1024) :
    k0_pay10 h w w' d (ix2 r b)
      = ∑ a : Fin 704, ((∑ k : Fin 1024, h (ix2 r k) * w (ix3 0 a k)) * Ideal.logistic (∑ k : Fin 1024, h (ix2 r k) * w (ix3 0 a k))
          * ∑ k : Fin 1024, h (ix2 r k) * w' (ix3 0 a k)) * d (ix3 0 a b) := by
  pointwise [k0_pay10, k0_pay7, k0_pay6, k0_pay5]

theorem pay1_at (p : FVec Ideal S1024x1024 .f32) (r b : Fin 1024) : k0_pay1 p (ix2 r b) = p (ix2 r b) := by
  pointwise [k0_pay1]

theorem pay2_at (p s : FVec Ideal S1024x1024 .f32) (r b : Fin 1024) : k0_pay2 p s (ix2 r b) = (s (ix2 r b) + p (ix2 r b) : EReal) := by
  pointwise [k0_pay2]

variable (m : (ℓ : Loc nD τ sig) → Buf (Elt Ideal) ℓ) (c : Dev nD)

abbrev argX : FVec Ideal S2048x1024 .f32 := m ((c.tc : Thread nD τ).loc main_arg0)
abbrev argG : FVec Ideal S1024 .f32 := m ((c.tc : Thread nD τ).loc main_arg1)
abbrev argG' : FVec Ideal S1024 .f32 := m ((c.tc : Thread nD τ).loc main_arg2)
abbrev argW : FVec Ideal S1024x2816 .f32 := m ((c.tc : Thread nD τ).loc main_arg3)
abbrev argW' : FVec Ideal S1024x2816 .f32 := m ((c.tc : Thread nD τ).loc main_arg4)
abbrev argD : FVec Ideal S2816x1024 .f32 := m ((c.tc : Thread nD τ).loc main_arg5)

/-! The host's operands. -/

/-- A weight's columns, as rows by shard. -/
def colRows (W : FVec Ideal S1024x2816 .f32) : FVec Ideal S4x704x1024 .bf16 :=
  truncf .bf16 (shapeCast S4x704x1024 (transpose S2816x1024 [1, 0] W transposes_S1024x2816_S2816x1024_1_0) shapeCasts_S2816x1024_S4x704x1024) bitsLt_bf16_f32

theorem V_gain : V m c main_v0 = shapeCast S1x1024 (argG m c) shapeCasts_S1024_S1x1024 := by
  unfold V hostOps0
  after_results <;> rfl

theorem V_gain' : V m c main_v1 = shapeCast S1x1024 (argG' m c) shapeCasts_S1024_S1x1024 := by
  unfold V hostOps0
  after_results <;> rfl

theorem V_gate : V m c main_v4 = colRows (argW m c) := by
  unfold V hostOps0
  after_results <;> rfl

theorem V_up : V m c main_v7 = colRows (argW' m c) := by
  unfold V hostOps0
  after_results <;> rfl

theorem V_down : V m c main_v9 = truncf .bf16 (shapeCast S4x704x1024 (argD m c) shapeCasts_S2816x1024_S4x704x1024) bitsLt_bf16_f32 := by
  unfold V hostOps0
  after_results <;> rfl

theorem gain_at (G : FVec Ideal S1024 .f32) (k : Fin 1024) : (shapeCast S1x1024 G shapeCasts_S1024_S1x1024 : FVec Ideal S1x1024 .f32) (ix2 0 k) = G (ix1 k) := by
  pointwise

theorem colRows_at (W : FVec Ideal S1024x2816 .f32) (s : Fin 4) (a : Fin 704) (k : Fin 1024) :
    colRows W (ix3 s a k) = W (ix2 k ⟨s.val * 704 + a.val, by omega⟩) := by
  unfold colRows
  pointwise

theorem rows_at (D : FVec Ideal S2816x1024 .f32) (s : Fin 4) (a : Fin 704) (b : Fin 1024) :
    (truncf .bf16 (shapeCast S4x704x1024 D shapeCasts_S2816x1024_S4x704x1024) bitsLt_bf16_f32 : FVec Ideal S4x704x1024 .bf16) (ix3 s a b) = D (ix2 ⟨s.val * 704 + a.val, by omega⟩ b) := by
  pointwise

/-! The block each window is at: point `t` is shard `t % 4` of the half `t / 4` of the tokens. -/

theorem index0 : ∀ t : Fin grid0.N, win0_0.index t = ![t.val / 4, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val % 4, 0, 0] := by decide +kernel
theorem index4 : ∀ t : Fin grid0.N, win0_4.index t = ![t.val % 4, 0, 0] := by decide +kernel
theorem index5 : ∀ t : Fin grid0.N, win0_5.index t = ![t.val % 4, 0, 0] := by decide +kernel

theorem lt_points (t : Fin cfg0.N) : t.val < 8 := t.isLt

/-- The token of row `r` of the half that point `n` is of. -/
def tok (n : ℕ) (r : Fin 1024) : Fin 2048 := ⟨n / 4 % 2 * 1024 + r.val, by omega⟩

theorem blk0_at (t : Fin cfg0.N) (r k : Fin 1024) : iblk m c 0 t (ix2 r k) = argX m c (ix2 (tok t.val r) k) := by
  have ht := lt_points t
  refine (read_slice_whole main_arg0 (win0_0.rect t) (V m c main_arg0) _).trans ((congrArg (V m c main_arg0) (ix2_of _ (a := tok t.val r) (b := k)
    (at_block (index0 t) 0 (rect_emb_val win0_0 t _ 0 rfl) ?_)
    (at_block (index0 t) 1 (rect_emb_val win0_0 t _ 1 rfl) ?_))).trans ?_)
  · show t.val / 4 * 1024 + r.val = t.val / 4 % 2 * 1024 + r.val; omega
  · show 0 * 1024 + k.val = k.val; omega
  · rw [V_main_arg0]

theorem blk1_at (t : Fin cfg0.N) (k : Fin 1024) : iblk m c 1 t (ix2 0 k) = argG m c (ix1 k) := by
  refine (read_slice_whole main_v0 (win0_1.rect t) (V m c main_v0) _).trans ((congrArg (V m c main_v0) (ix2_of _ (a := (0 : Fin 1)) (b := k)
    (at_block (index1 t) 0 (rect_emb_val win0_1 t _ 0 rfl) rfl)
    (at_block (index1 t) 1 (rect_emb_val win0_1 t _ 1 rfl) ?_))).trans ?_)
  · show 0 * 1024 + k.val = k.val; omega
  · rw [V_gain]
    exact gain_at _ k

theorem blk2_at (t : Fin cfg0.N) (k : Fin 1024) : iblk m c 2 t (ix2 0 k) = argG' m c (ix1 k) := by
  refine (read_slice_whole main_v1 (win0_2.rect t) (V m c main_v1) _).trans ((congrArg (V m c main_v1) (ix2_of _ (a := (0 : Fin 1)) (b := k)
    (at_block (index2 t) 0 (rect_emb_val win0_2 t _ 0 rfl) rfl)
    (at_block (index2 t) 1 (rect_emb_val win0_2 t _ 1 rfl) ?_))).trans ?_)
  · show 0 * 1024 + k.val = k.val; omega
  · rw [V_gain']
    exact gain_at _ k

theorem blk3_at (t : Fin cfg0.N) (a : Fin 704) (k : Fin 1024) : iblk m c 3 t (ix3 0 a k) = argW m c (ix2 k (col t.val a)) := by
  refine (read_slice_whole main_v4 (win0_3.rect t) (V m c main_v4) _).trans ((congrArg (V m c main_v4) (ix3_of _ (a := (⟨t.val % 4, by omega⟩ : Fin 4)) (b := a) (c := k)
    (at_block (index3 t) 0 (rect_emb_val win0_3 t _ 0 rfl) ?_)
    (at_block (index3 t) 1 (rect_emb_val win0_3 t _ 1 rfl) ?_)
    (at_block (index3 t) 2 (rect_emb_val win0_3 t _ 2 rfl) ?_))).trans ?_)
  · show t.val % 4 * 1 + 0 = t.val % 4; omega
  · show 0 * 704 + a.val = a.val; omega
  · show 0 * 1024 + k.val = k.val; omega
  · rw [V_gate]
    exact colRows_at _ _ a k

theorem blk4_at (t : Fin cfg0.N) (a : Fin 704) (k : Fin 1024) : iblk m c 4 t (ix3 0 a k) = argW' m c (ix2 k (col t.val a)) := by
  refine (read_slice_whole main_v7 (win0_4.rect t) (V m c main_v7) _).trans ((congrArg (V m c main_v7) (ix3_of _ (a := (⟨t.val % 4, by omega⟩ : Fin 4)) (b := a) (c := k)
    (at_block (index4 t) 0 (rect_emb_val win0_4 t _ 0 rfl) ?_)
    (at_block (index4 t) 1 (rect_emb_val win0_4 t _ 1 rfl) ?_)
    (at_block (index4 t) 2 (rect_emb_val win0_4 t _ 2 rfl) ?_))).trans ?_)
  · show t.val % 4 * 1 + 0 = t.val % 4; omega
  · show 0 * 704 + a.val = a.val; omega
  · show 0 * 1024 + k.val = k.val; omega
  · rw [V_up]
    exact colRows_at _ _ a k

theorem blk5_at (t : Fin cfg0.N) (a : Fin 704) (b : Fin 1024) : iblk m c 5 t (ix3 0 a b) = argD m c (ix2 (col t.val a) b) := by
  refine (read_slice_whole main_v9 (win0_5.rect t) (V m c main_v9) _).trans ((congrArg (V m c main_v9) (ix3_of _ (a := (⟨t.val % 4, by omega⟩ : Fin 4)) (b := a) (c := b)
    (at_block (index5 t) 0 (rect_emb_val win0_5 t _ 0 rfl) ?_)
    (at_block (index5 t) 1 (rect_emb_val win0_5 t _ 1 rfl) ?_)
    (at_block (index5 t) 2 (rect_emb_val win0_5 t _ 2 rfl) ?_))).trans ?_)
  · show t.val % 4 * 1 + 0 = t.val % 4; omega
  · show 0 * 704 + a.val = a.val; omega
  · show 0 * 1024 + b.val = b.val; omega
  · rw [V_down]
    exact rows_at _ _ a b

/-! The carried values. -/

/-- The rows after a point are the normalised tokens of its half. -/
theorem rows_eq (r k : Fin 1024) : ∀ (n : ℕ) (hn : n + 1 ≤ cfg0.N), rows m c (n + 1) hn (ix2 r k) = hid (argX m c) (argG m c) (tok n r) k := by
  intro n
  induction n using Nat.strong_induction_on with | _ n ih =>
  intro hn
  rw [← rows_succ m c ⟨n, hn⟩ (rows m c n (Nat.le_of_lt hn)) fun _ => rfl]
  unfold rowsNext
  by_cases h0 : first (grid0.coords ⟨n, hn⟩)
  · rw [if_pos h0, pay4_at]
    show norm _ _ k = norm _ _ k
    congr 1
    · funext k; exact blk0_at m c ⟨n, hn⟩ r k
    · funext k; exact blk1_at m c ⟨n, hn⟩ k
  · rw [if_neg h0]
    have h4 : n % 4 ≠ 0 := fun e => h0 ((first_iff ⟨n, hn⟩).mpr e)
    obtain _ | n := n
    · exact absurd rfl h4
    · rw [ih n (Nat.lt_succ_self n) (Nat.le_of_lt hn)]
      have e : tok n r = tok (n + 1) r := Fin.ext (by show n / 4 % 2 * 1024 + r.val = (n + 1) / 4 % 2 * 1024 + r.val; omega)
      rw [e]

theorem lin_eq (t : Fin cfg0.N) (w : Vec Ideal S1x704x1024 .bf16) (W : FVec Ideal S1024x2816 .f32) (hw : ∀ a k, w (ix3 0 a k) = W (ix2 k (col t.val a)))
    (r : Fin 1024) (a : Fin 704) : ∑ k : Fin 1024, rows m c (t.val + 1) t.isLt (ix2 r k) * w (ix3 0 a k) = lin (argX m c) (argG m c) W (tok t.val r) (col t.val a) := by
  unfold lin
  exact Finset.sum_congr rfl fun k _ => congrArg₂ (fun x y : EReal => x * y) (rows_eq m c r k t.val t.isLt) (hw a k)

/-- A point adds its shard's share. -/
theorem part_eq (t : Fin cfg0.N) (r b : Fin 1024) :
    part m c t (ix2 r b) = share (argX m c) (argG m c) (argW m c) (argW' m c) (argD m c) (tok t.val r) b t.val := by
  unfold part share act
  rw [pay10_at]
  refine Finset.sum_congr rfl fun a _ => ?_
  rw [lin_eq m c t _ (argW m c) (blk3_at m c t), lin_eq m c t _ (argW' m c) (blk4_at m c t), blk5_at m c t a b]

/-- The sum after a point holds the shares of the shards so far. -/
theorem acc_eq (r b : Fin 1024) : ∀ (n : ℕ) (hn : n + 1 ≤ cfg0.N),
    acc m c (n + 1) hn (ix2 r b) = ∑ s ∈ Finset.range (n % 4 + 1), share (argX m c) (argG m c) (argW m c) (argW' m c) (argD m c) (tok n r) b s := by
  intro n
  induction n using Nat.strong_induction_on with | _ n ih =>
  intro hn
  have hs : share (argX m c) (argG m c) (argW m c) (argW' m c) (argD m c) (tok n r) b (n % 4) = share (argX m c) (argG m c) (argW m c) (argW' m c) (argD m c) (tok n r) b n := by
    have e : ∀ a, col (n % 4) a = col n a := fun a => Fin.ext (by show n % 4 % 4 * 704 + a.val = n % 4 * 704 + a.val; omega)
    unfold share
    exact Finset.sum_congr rfl fun a _ => by rw [e a]
  rw [← acc_succ m c ⟨n, hn⟩ (acc m c n (Nat.le_of_lt hn)) fun _ => rfl, Finset.sum_range_succ, hs]
  unfold sumNext
  by_cases h0 : first (grid0.coords ⟨n, hn⟩)
  · rw [if_pos h0, pay1_at, part_eq, show n % 4 = 0 from (first_iff ⟨n, hn⟩).mp h0, Finset.sum_range_zero, zero_add]
  · rw [if_neg h0, pay2_at, part_eq]
    have h4 : n % 4 ≠ 0 := fun e => h0 ((first_iff ⟨n, hn⟩).mpr e)
    obtain _ | n := n
    · exact absurd rfl h4
    · rw [ih n (Nat.lt_succ_self n) (Nat.le_of_lt hn)]
      have e : tok n r = tok (n + 1) r := Fin.ext (by show n / 4 % 2 * 1024 + r.val = (n + 1) / 4 % 2 * 1024 + r.val; omega)
      have e' : n % 4 + 1 = (n + 1) % 4 := by omega
      rw [e, e']

/-- At the last shard it holds the whole product. -/
theorem acc_last (t : Fin cfg0.N) (h3 : t.val % 4 = 3) (r b : Fin 1024) :
    acc m c (t.val + 1) t.isLt (ix2 r b) = down (argX m c) (argG m c) (argW m c) (argW' m c) (argD m c) (tok t.val r) b := by
  rw [acc_eq, h3]
  exact shares _ _ _ _ _ _ b

end Cert.Kernel10Ideal.Val

end
-- ==== Proof.Ffn.Value.lean ====
/- The forward call's five results, and that the reference computes the same. -/
module

public import proofs.«01_k».proof.Defs
public import proofs.«01_k».proof.Proof.Ffn.Values
public import proofs.«01_k».proof.Proof.Gen.Reference10Ideal.Run
public import Idealize.ShloMosaic.Lib.Pipeline.ArrRel

@[expose] public section

set_option maxRecDepth 65536

noncomputable section

namespace Cert.Kernel10Ideal.Val

open Cert.Kernel10Ideal Cert.Kernel10Ideal.Gen Cert.Kernel10Ideal.Ffn Cert.Products Idealize.ShloMosaic Idealize.ShloMosaic.TcCoe Idealize.SL.Sem
open Idealize.ShloMosaic.Pipeline (Dat)

/-! The results as arrays. -/

section Layer

variable (X : FVec Ideal S2048x1024 .f32) (G G' : FVec Ideal S1024 .f32) (W W' : FVec Ideal S1024x2816 .f32) (D : FVec Ideal S2816x1024 .f32)

def hidArr : FVec Ideal S2048x1024 .bf16 := fun j => hid X G (j 0) (j 1)
def linArr : FVec Ideal S4x2048x704 .bf16 := fun j => lin X G W (j 1) (col (j 0).val (j 2))
def downArr : FVec Ideal S2048x1024 .f32 := fun j => down X G W W' D (j 0) (j 1)
def outArr : FVec Ideal S2048x1024 .f32 := fun j => (X (ix2 (j 0) (j 1)) + norm (down X G W W' D (j 0)) (fun k => G' (ix1 k)) (j 1) : EReal)

end Layer

/-! Where the outputs' blocks lie: halves of the rows, or a shard of the columns at a half of the rows. -/

theorem index6 : ∀ t : Fin grid0.N, win0_6.index t = ![t.val / 4, 0] := by decide +kernel
theorem index7 : ∀ t : Fin grid0.N, win0_7.index t = ![t.val / 4, 0] := by decide +kernel
theorem index8 : ∀ t : Fin grid0.N, win0_8.index t = ![t.val % 4, t.val / 4, 0] := by decide +kernel
theorem index9 : ∀ t : Fin grid0.N, win0_9.index t = ![t.val % 4, t.val / 4, 0] := by decide +kernel
theorem index10 : ∀ t : Fin grid0.N, win0_10.index t = ![t.val / 4, 0] := by decide +kernel

/-- An element of a half's block. -/
theorem half_emb (t : Fin cfg0.N) {f : Fin 2 → ℕ} (hf : f = ![t.val / 4, 0]) (j : S2048x1024.Idx) (r b : Fin 1024)
    (h0 : (j 0).val = f 0 * 1024 + r.val) (h1 : (j 1).val = f 1 * 1024 + b.val) : j = ix2 (tok t.val r) b := by
  have ht := lt_points t
  refine ix2_of j (at_block hf 0 h0 ?_) (at_block hf 1 h1 ?_)
  · show t.val / 4 * 1024 + r.val = t.val / 4 % 2 * 1024 + r.val; omega
  · show 0 * 1024 + b.val = b.val; omega

/-- An element of a shard's block at a half. -/
theorem shard_emb (t : Fin cfg0.N) {f : Fin 3 → ℕ} (hf : f = ![t.val % 4, t.val / 4, 0]) (j : S4x2048x704.Idx) (r : Fin 1024) (a : Fin 704)
    (h0 : (j 0).val = f 0 * 1 + 0) (h1 : (j 1).val = f 1 * 1024 + r.val) (h2 : (j 2).val = f 2 * 704 + a.val) :
    j = ix3 (⟨t.val % 4, by omega⟩ : Fin 4) (tok t.val r) a := by
  have ht := lt_points t
  refine ix3_of j (at_block hf 0 h0 ?_) (at_block hf 1 h1 ?_) (at_block hf 2 h2 ?_)
  · show t.val % 4 * 1 + 0 = t.val % 4; omega
  · show t.val / 4 * 1024 + r.val = t.val / 4 % 2 * 1024 + r.val; omega
  · show 0 * 704 + a.val = a.val; omega

/-- The last point of the half that an element's row is of. -/
def halfPt (i : S2048x1024.Idx) : Fin cfg0.N := ⟨4 * ((i 0).val / 1024) + 3, by have h : (i 0).val < 2048 := (i 0).isLt; show _ < 8; omega⟩

theorem halfPt_last (i : S2048x1024.Idx) : (halfPt i).val % 4 = 3 := by show (4 * ((i 0).val / 1024) + 3) % 4 = 3; omega

theorem half_cover (i : S2048x1024.Idx) {f : Fin 2 → ℕ} (hf : f = ![(halfPt i).val / 4, 0]) (a : Fin 2) :
    f a * S1024x1024.size a ≤ (i a).val ∧ (i a).val < f a * S1024x1024.size a + S1024x1024.size a := by
  subst hf
  have h0 : (i 0).val < 2048 := (i 0).isLt
  have h1 : (i 1).val < 1024 := (i 1).isLt
  match a with
  | ⟨0, _⟩ =>
    show (4 * ((i 0).val / 1024) + 3) / 4 * 1024 ≤ (i 0).val ∧ (i 0).val < (4 * ((i 0).val / 1024) + 3) / 4 * 1024 + 1024
    omega
  | ⟨1, _⟩ => show 0 * 1024 ≤ (i 1).val ∧ (i 1).val < 0 * 1024 + 1024; omega

/-- The point of an element's shard and half. -/
def shardPt (i : S4x2048x704.Idx) : Fin cfg0.N :=
  ⟨4 * ((i 1).val / 1024) + (i 0).val, by have h0 : (i 0).val < 4 := (i 0).isLt; have h1 : (i 1).val < 2048 := (i 1).isLt; show _ < 8; omega⟩

theorem shard_cover (i : S4x2048x704.Idx) {f : Fin 3 → ℕ} (hf : f = ![(shardPt i).val % 4, (shardPt i).val / 4, 0]) (a : Fin 3) :
    f a * S1x1024x704.size a ≤ (i a).val ∧ (i a).val < f a * S1x1024x704.size a + S1x1024x704.size a := by
  subst hf
  have h0 : (i 0).val < 4 := (i 0).isLt
  have h1 : (i 1).val < 2048 := (i 1).isLt
  have h2 : (i 2).val < 704 := (i 2).isLt
  match a with
  | ⟨0, _⟩ =>
    show (4 * ((i 1).val / 1024) + (i 0).val) % 4 * 1 ≤ (i 0).val ∧ (i 0).val < (4 * ((i 1).val / 1024) + (i 0).val) % 4 * 1 + 1
    omega
  | ⟨1, _⟩ =>
    show (4 * ((i 1).val / 1024) + (i 0).val) / 4 * 1024 ≤ (i 1).val ∧ (i 1).val < (4 * ((i 1).val / 1024) + (i 0).val) / 4 * 1024 + 1024
    omega
  | ⟨2, _⟩ => show 0 * 704 ≤ (i 2).val ∧ (i 2).val < 0 * 704 + 704; omega

theorem covered6 (i : S2048x1024.Idx) : ∃ t : Fin cfg0.N, (cfg0.win 6).flush t = true ∧ i ∈ ((cfg0.win 6).blk t).view.set := by
  refine ⟨halfPt i, (flush0_6 _).mpr (halfPt_last i), ?_⟩
  show i ∈ ((View.whole main_v10_0).slice (win0_6.rect (halfPt i))).set
  rw [View.set_slice_whole, Rect.mem_set_unit]
  exact half_cover i (index6 _)

theorem covered7 (i : S2048x1024.Idx) : ∃ t : Fin cfg0.N, (cfg0.win 7).flush t = true ∧ i ∈ ((cfg0.win 7).blk t).view.set := by
  refine ⟨halfPt i, (flush0_7 _).mpr (halfPt_last i), ?_⟩
  show i ∈ ((View.whole main_v10_1).slice (win0_7.rect (halfPt i))).set
  rw [View.set_slice_whole, Rect.mem_set_unit]
  exact half_cover i (index7 _)

theorem covered8 (i : S4x2048x704.Idx) : ∃ t : Fin cfg0.N, (cfg0.win 8).flush t = true ∧ i ∈ ((cfg0.win 8).blk t).view.set := by
  refine ⟨shardPt i, flush0_8 _, ?_⟩
  show i ∈ ((View.whole main_v10_2).slice (win0_8.rect (shardPt i))).set
  rw [View.set_slice_whole, Rect.mem_set_unit]
  exact shard_cover i (index8 _)

theorem covered9 (i : S4x2048x704.Idx) : ∃ t : Fin cfg0.N, (cfg0.win 9).flush t = true ∧ i ∈ ((cfg0.win 9).blk t).view.set := by
  refine ⟨shardPt i, flush0_9 _, ?_⟩
  show i ∈ ((View.whole main_v10_3).slice (win0_9.rect (shardPt i))).set
  rw [View.set_slice_whole, Rect.mem_set_unit]
  exact shard_cover i (index9 _)

theorem covered10 (i : S2048x1024.Idx) : ∃ t : Fin cfg0.N, (cfg0.win 10).flush t = true ∧ i ∈ ((cfg0.win 10).blk t).view.set := by
  refine ⟨halfPt i, (flush0_10 _).mpr (halfPt_last i), ?_⟩
  show i ∈ ((View.whole main_v10_4).slice (win0_10.rect (halfPt i))).set
  rw [View.set_slice_whole, Rect.mem_set_unit]
  exact half_cover i (index10 _)

/-! The arrays after the run. -/

variable (m : (ℓ : Loc nD τ sig) → Buf (Elt Ideal) ℓ) (c : Dev nD)

theorem lin_at (t : Fin cfg0.N) (w : Vec Ideal S1x704x1024 .bf16) (W : FVec Ideal S1024x2816 .f32) (hw : ∀ a k, w (ix3 0 a k) = W (ix2 k (col t.val a)))
    (r : Fin 1024) (a : Fin 704) : ∑ k : Fin 1024, rows m c (t.val + 1) t.isLt (ix2 r k) * w (ix3 0 a k)
      = linArr (argX m c) (argG m c) W (ix3 (⟨t.val % 4, by omega⟩ : Fin 4) (tok t.val r) a) := by
  refine (lin_eq m c t w W hw r a).trans (congrArg (lin (argX m c) (argG m c) W (tok t.val r)) (Fin.ext ?_))
  show t.val % 4 * 704 + a.val = t.val % 4 % 4 * 704 + a.val
  omega

theorem array6 {r : PUnit × MemSt nD τ sig (Elt Ideal)} (hr : Pipeline.RDat.FramePost cfg0 (rdat m) (V m) r) :
    r.2.mem ((c : Thread nD τ).loc main_v10_0) = outArr (argX m c) (argG m c) (argG' m c) (argW m c) (argW' m c) (argD m c) := by
  obtain ⟨after, hL, hA⟩ := Pipeline.RDat.FramePost.exists_exact hr c
  refine (hA 6).trans (Dat.arrAt_eq_of_cover ((rdat m c).withAfter after) 6 _ (fun t hf => ?_) covered6)
  have h3 : t.val % 4 = 3 := (flush0_6 t).mp hf
  have hW : after 6 t = k0_pay3 (acc m c (t.val + 1) t.isLt) (iblk m c 0 t) (iblk m c 2 t) := (dats m 0 c).toRRel_leaves (w := 6) rfl (hL 6 t hf) h3
  funext y
  show after 6 t ((cfg0.win 6).xinj (grid0.coords t) y) = outArr _ _ _ _ _ _ (((cfg0.win 6).blk t).view.emb y)
  rw [show (cfg0.win 6).xinj (grid0.coords t) y = ix2 (⟨(y 0).val, (y 0).isLt⟩ : Fin 1024) (⟨(y 1).val, (y 1).isLt⟩ : Fin 1024) from ix2_of _ rfl rfl,
    half_emb t (index6 t) (((cfg0.win 6).blk t).view.emb y) ⟨(y 0).val, (y 0).isLt⟩ ⟨(y 1).val, (y 1).isLt⟩
      (Pipeline.Window.rect_emb_val win0_6 t _ 0 rfl) (Pipeline.Window.rect_emb_val win0_6 t _ 1 rfl), hW, pay3_at, blk0_at]
  refine congrArg (fun z : EReal => _ + z) ?_
  show norm _ _ _ = norm _ _ _
  congr 1
  · funext k; exact acc_last m c t h3 _ k
  · funext k; exact blk2_at m c t k

theorem array7 {r : PUnit × MemSt nD τ sig (Elt Ideal)} (hr : Pipeline.RDat.FramePost cfg0 (rdat m) (V m) r) :
    r.2.mem ((c : Thread nD τ).loc main_v10_1) = hidArr (argX m c) (argG m c) := by
  obtain ⟨after, hL, hA⟩ := Pipeline.RDat.FramePost.exists_exact hr c
  refine (hA 7).trans (Dat.arrAt_eq_of_cover ((rdat m c).withAfter after) 7 _ (fun t hf => ?_) covered7)
  have hW : after 7 t = rows m c (t.val + 1) t.isLt := (dats m 0 c).toRRel_leaves (w := 7) rfl (hL 7 t hf)
  funext y
  show after 7 t ((cfg0.win 7).xinj (grid0.coords t) y) = hidArr _ _ (((cfg0.win 7).blk t).view.emb y)
  rw [show (cfg0.win 7).xinj (grid0.coords t) y = ix2 (⟨(y 0).val, (y 0).isLt⟩ : Fin 1024) (⟨(y 1).val, (y 1).isLt⟩ : Fin 1024) from ix2_of _ rfl rfl,
    half_emb t (index7 t) (((cfg0.win 7).blk t).view.emb y) ⟨(y 0).val, (y 0).isLt⟩ ⟨(y 1).val, (y 1).isLt⟩
      (Pipeline.Window.rect_emb_val win0_7 t _ 0 rfl) (Pipeline.Window.rect_emb_val win0_7 t _ 1 rfl), hW, rows_eq]
  rfl

theorem array8 {r : PUnit × MemSt nD τ sig (Elt Ideal)} (hr : Pipeline.RDat.FramePost cfg0 (rdat m) (V m) r) :
    r.2.mem ((c : Thread nD τ).loc main_v10_2) = linArr (argX m c) (argG m c) (argW m c) := by
  obtain ⟨after, hL, hA⟩ := Pipeline.RDat.FramePost.exists_exact hr c
  refine (hA 8).trans (Dat.arrAt_eq_of_cover ((rdat m c).withAfter after) 8 _ (fun t hf => ?_) covered8)
  have hW : after 8 t = k0_pay8 (rows m c (t.val + 1) t.isLt) (iblk m c 3 t) := (dats m 0 c).toRRel_leaves (w := 8) rfl (hL 8 t hf)
  funext y
  have hy0 : (y 0).val < 1 := (y 0).isLt
  have hz : (y 0).val = 0 := by omega
  show after 8 t ((cfg0.win 8).xinj (grid0.coords t) y) = linArr _ _ _ (((cfg0.win 8).blk t).view.emb y)
  rw [show (cfg0.win 8).xinj (grid0.coords t) y = ix3 (0 : Fin 1) (⟨(y 1).val, (y 1).isLt⟩ : Fin 1024) (⟨(y 2).val, (y 2).isLt⟩ : Fin 704) from ix3_of _ hz rfl rfl,
    shard_emb t (index8 t) (((cfg0.win 8).blk t).view.emb y) ⟨(y 1).val, (y 1).isLt⟩ ⟨(y 2).val, (y 2).isLt⟩
      ((Pipeline.Window.rect_emb_val win0_8 t _ 0 rfl).trans (congrArg (_ + ·) hz)) (Pipeline.Window.rect_emb_val win0_8 t _ 1 rfl) (Pipeline.Window.rect_emb_val win0_8 t _ 2 rfl), hW, pay8_at]
  exact lin_at m c t _ _ (blk3_at m c t) _ _

theorem array9 {r : PUnit × MemSt nD τ sig (Elt Ideal)} (hr : Pipeline.RDat.FramePost cfg0 (rdat m) (V m) r) :
    r.2.mem ((c : Thread nD τ).loc main_v10_3) = linArr (argX m c) (argG m c) (argW' m c) := by
  obtain ⟨after, hL, hA⟩ := Pipeline.RDat.FramePost.exists_exact hr c
  refine (hA 9).trans (Dat.arrAt_eq_of_cover ((rdat m c).withAfter after) 9 _ (fun t hf => ?_) covered9)
  have hW : after 9 t = k0_pay9 (rows m c (t.val + 1) t.isLt) (iblk m c 4 t) := (dats m 0 c).toRRel_leaves (w := 9) rfl (hL 9 t hf)
  funext y
  have hy0 : (y 0).val < 1 := (y 0).isLt
  have hz : (y 0).val = 0 := by omega
  show after 9 t ((cfg0.win 9).xinj (grid0.coords t) y) = linArr _ _ _ (((cfg0.win 9).blk t).view.emb y)
  rw [show (cfg0.win 9).xinj (grid0.coords t) y = ix3 (0 : Fin 1) (⟨(y 1).val, (y 1).isLt⟩ : Fin 1024) (⟨(y 2).val, (y 2).isLt⟩ : Fin 704) from ix3_of _ hz rfl rfl,
    shard_emb t (index9 t) (((cfg0.win 9).blk t).view.emb y) ⟨(y 1).val, (y 1).isLt⟩ ⟨(y 2).val, (y 2).isLt⟩
      ((Pipeline.Window.rect_emb_val win0_9 t _ 0 rfl).trans (congrArg (_ + ·) hz)) (Pipeline.Window.rect_emb_val win0_9 t _ 1 rfl) (Pipeline.Window.rect_emb_val win0_9 t _ 2 rfl), hW, pay9_at]
  exact lin_at m c t _ _ (blk4_at m c t) _ _

theorem array10 {r : PUnit × MemSt nD τ sig (Elt Ideal)} (hr : Pipeline.RDat.FramePost cfg0 (rdat m) (V m) r) :
    r.2.mem ((c : Thread nD τ).loc main_v10_4) = downArr (argX m c) (argG m c) (argW m c) (argW' m c) (argD m c) := by
  obtain ⟨after, hL, hA⟩ := Pipeline.RDat.FramePost.exists_exact hr c
  refine (hA 10).trans (Dat.arrAt_eq_of_cover ((rdat m c).withAfter after) 10 _ (fun t hf => ?_) covered10)
  have h3 : t.val % 4 = 3 := (flush0_10 t).mp hf
  have hW : after 10 t = acc m c (t.val + 1) t.isLt := (dats m 0 c).toRRel_leaves (w := 10) rfl (hL 10 t hf) h3
  funext y
  show after 10 t ((cfg0.win 10).xinj (grid0.coords t) y) = downArr _ _ _ _ _ (((cfg0.win 10).blk t).view.emb y)
  rw [show (cfg0.win 10).xinj (grid0.coords t) y = ix2 (⟨(y 0).val, (y 0).isLt⟩ : Fin 1024) (⟨(y 1).val, (y 1).isLt⟩ : Fin 1024) from ix2_of _ rfl rfl,
    half_emb t (index10 t) (((cfg0.win 10).blk t).view.emb y) ⟨(y 0).val, (y 0).isLt⟩ ⟨(y 1).val, (y 1).isLt⟩
      (Pipeline.Window.rect_emb_val win0_10 t _ 0 rfl) (Pipeline.Window.rect_emb_val win0_10 t _ 1 rfl), hW, acc_last m c t h3]
  rfl

/-! The reference, stage by stage. -/

section Reference

variable (X : FVec Ideal S2048x1024 .f32) (G G' : FVec Ideal S1024 .f32) (W W' : FVec Ideal S1024x2816 .f32) (D : FVec Ideal S2816x1024 .f32)

open Reference10Ideal.Facts₀ in
/-- The reference's normalisation of rows. -/
def refNorm (Y : FVec Ideal Reference10Ideal.S2048x1024 .f32) (g : FVec Ideal Reference10Ideal.S1024 .f32) : FVec Ideal Reference10Ideal.S2048x1024 .f32 :=
  mulf (mulf Y (broadcastInDim Reference10Ideal.S2048x1024 ![0, 1] bcast_S2048x1_S2048x1024_0_1 (Host.rsqrt (addf (Host.divf (broadcastInDim Reference10Ideal.S2048x1 ![0] bcast_S2048_S2048x1_0
      (Host.reduceAdd (mulf Y Y) (constant Reference10Ideal.S_ .f32 0x00000000#32) reducesTo_S2048x1024_S2048_d1 h_S_)) (broadcastInDim Reference10Ideal.S2048x1 ![] bcast_S_S2048x1 (constant Reference10Ideal.S_ .f32 0x44800000#32)))
      (broadcastInDim Reference10Ideal.S2048x1 ![] bcast_S_S2048x1 (constant Reference10Ideal.S_ .f32 0x358637BD#32))))))
    (broadcastInDim Reference10Ideal.S2048x1024 ![0, 1] bcast_S1x1024_S2048x1024_0_1 (broadcastInDim Reference10Ideal.S1x1024 ![1] bcast_S1024_S1x1024_1 g))

theorem refNorm_at (Y : FVec Ideal Reference10Ideal.S2048x1024 .f32) (g : FVec Ideal Reference10Ideal.S1024 .f32) (r : Fin 2048) (k : Fin 1024) :
    refNorm Y g (ix2 r k) = norm (fun k => Y (ix2 r k)) (fun k => g (ix1 k)) k := by
  unfold refNorm norm
  pointwise

/-- The reference's projection of the normalised tokens. -/
def refLin (W : FVec Ideal S1024x2816 .f32) : FVec Ideal Reference10Ideal.S2048x2816 .f32 :=
  Host.dotGeneral Reference10Ideal.dot_S2048x1024_S1024x2816_S2048x2816_1_0_0_1_n_n none (refNorm X G) W

theorem refLin_at (r : Fin 2048) (j : Fin 2816) : refLin X G W (ix2 r j) = lin X G W r j := by
  have e : refLin X G W (ix2 r j) = ∑ k : Fin 1024, refNorm X G (ix2 r k) * W (ix2 k j) := by
    unfold refLin
    pointwise
  rw [e]
  exact Finset.sum_congr rfl fun k _ => congrArg (fun z : EReal => z * _) (refNorm_at X G r k)

open Reference10Ideal.Facts₀ in
/-- The reference's activation from its two projections. -/
def refAct (A B : FVec Ideal Reference10Ideal.S2048x2816 .f32) : FVec Ideal Reference10Ideal.S2048x2816 .f32 :=
  mulf (mulf A (Host.divf (broadcastInDim Reference10Ideal.S2048x2816 ![] bcast_S_S2048x2816 (constant Reference10Ideal.S_ .f32 0x3F800000#32))
    (addf (broadcastInDim Reference10Ideal.S2048x2816 ![] bcast_S_S2048x2816 (constant Reference10Ideal.S_ .f32 0x3F800000#32)) (Host.exp (Host.negf A))))) B

theorem refAct_at (A B : FVec Ideal Reference10Ideal.S2048x2816 .f32) (r : Fin 2048) (j : Fin 2816) :
    refAct A B (ix2 r j) = (A (ix2 r j) * Ideal.logistic (A (ix2 r j)) * B (ix2 r j) : EReal) := by
  unfold refAct Ideal.logistic
  pointwise

/-- The reference's last product. -/
def refDown : FVec Ideal Reference10Ideal.S2048x1024 .f32 :=
  Host.dotGeneral Reference10Ideal.dot_S2048x2816_S2816x1024_S2048x1024_1_0_0_1_n_n none (refAct (refLin X G W) (refLin X G W')) D

theorem refDown_at (r : Fin 2048) (b : Fin 1024) : refDown X G W W' D (ix2 r b) = down X G W W' D r b := by
  have e : refDown X G W W' D (ix2 r b) = ∑ j : Fin 2816, refAct (refLin X G W) (refLin X G W') (ix2 r j) * D (ix2 j b) := by
    unfold refDown
    pointwise
  rw [e]
  refine Finset.sum_congr rfl fun j _ => congrArg (fun z : EReal => z * _) ?_
  rw [refAct_at, refLin_at, refLin_at]
  rfl

theorem ref_hid : (truncf .bf16 (refNorm X G) Reference10Ideal.Facts₀.bitsLt_bf16_f32 : FVec Ideal Reference10Ideal.S2048x1024 .bf16) = hidArr X G := by
  funext j
  rw [ix2_of j (a := (⟨(j 0).val, (j 0).isLt⟩ : Fin 2048)) (b := (⟨(j 1).val, (j 1).isLt⟩ : Fin 1024)) rfl rfl]
  exact refNorm_at X G _ _

theorem ref_lin : (truncf .bf16 (transpose Reference10Ideal.S4x2048x704 [1, 0, 2] (shapeCast Reference10Ideal.S2048x4x704 (refLin X G W) Reference10Ideal.Facts₀.shapeCasts_S2048x2816_S2048x4x704)
      Reference10Ideal.Facts₀.transposes_S2048x4x704_S4x2048x704_1_0_2) Reference10Ideal.Facts₀.bitsLt_bf16_f32 : FVec Ideal Reference10Ideal.S4x2048x704 .bf16) = linArr X G W := by
  have e : ∀ (A : FVec Ideal Reference10Ideal.S2048x2816 .f32) (s : Fin 4) (r : Fin 2048) (a : Fin 704),
      (truncf .bf16 (transpose Reference10Ideal.S4x2048x704 [1, 0, 2] (shapeCast Reference10Ideal.S2048x4x704 A Reference10Ideal.Facts₀.shapeCasts_S2048x2816_S2048x4x704)
        Reference10Ideal.Facts₀.transposes_S2048x4x704_S4x2048x704_1_0_2) Reference10Ideal.Facts₀.bitsLt_bf16_f32 : FVec Ideal Reference10Ideal.S4x2048x704 .bf16) (ix3 s r a)
      = A (ix2 r ⟨s.val * 704 + a.val, by omega⟩) := fun A s r a => by pointwise
  funext j
  have h0 : (j 0).val < 4 := (j 0).isLt
  have h2 : (j 2).val < 704 := (j 2).isLt
  rw [ix3_of j (a := (⟨(j 0).val, h0⟩ : Fin 4)) (b := (⟨(j 1).val, (j 1).isLt⟩ : Fin 2048)) (c := (⟨(j 2).val, h2⟩ : Fin 704)) rfl rfl rfl, e, refLin_at]
  refine congrArg (lin X G W _) (Fin.ext ?_)
  show (j 0).val * 704 + (j 2).val = (j 0).val % 4 * 704 + (j 2).val
  omega

theorem ref_down : refDown X G W W' D = downArr X G W W' D := by
  funext j
  rw [ix2_of j (a := (⟨(j 0).val, (j 0).isLt⟩ : Fin 2048)) (b := (⟨(j 1).val, (j 1).isLt⟩ : Fin 1024)) rfl rfl, refDown_at]
  rfl

theorem ref_out : addf X (refNorm (refDown X G W W' D) G') = outArr X G G' W W' D := by
  funext j
  rw [ix2_of j (a := (⟨(j 0).val, (j 0).isLt⟩ : Fin 2048)) (b := (⟨(j 1).val, (j 1).isLt⟩ : Fin 1024)) rfl rfl]
  show (X _ + refNorm (refDown X G W W' D) G' _ : EReal) = _
  rw [refNorm_at]
  refine congrArg (fun v => (X _ + norm v _ _ : EReal)) (funext fun k => refDown_at X G W W' D _ k)

end Reference

/-- Kernel and reference, from equal arguments, both end with the same five results. -/
theorem equal : Cert.algebraic_Kernel10Ideal_Reference10Ideal := by
  intro m g m' g' _ hagree
  refine ⟨fun c => outArr (argX m c) (argG m c) (argG' m c) (argW m c) (argW' m c) (argD m c), fun c => hidArr (argX m c) (argG m c),
    fun c => linArr (argX m c) (argG m c) (argW m c), fun c => linArr (argX m c) (argG m c) (argW' m c),
    fun c => downArr (argX m c) (argG m c) (argW m c) (argW' m c) (argD m c),
    (θ_run defs _ _).mono (fun _ h c => ⟨array6 m c h.1, array7 m c h.1, array8 m c h.1, array9 m c h.1, array10 m c h.1, args_kept m h.1 c⟩) (run_main m g),
    (θ_run Cert.Reference10Ideal.defs _ _).mono (fun _ h c =>
      ⟨(h c).1.trans ?_, (h c).2.1.trans ?_, (h c).2.2.1.trans ?_, (h c).2.2.2.1.trans ?_, (h c).2.2.2.2.1.trans ?_, (h c).2.2.2.2.2⟩) (Cert.Reference10Ideal.Value.run m' g')⟩
  · unfold Reference10Ideal.Value.res_main_v31
    rw [(hagree c).1, (hagree c).2.1, (hagree c).2.2.1, (hagree c).2.2.2.1, (hagree c).2.2.2.2.1, (hagree c).2.2.2.2.2]
    exact ref_out _ _ _ _ _ _
  · rw [(hagree c).1, (hagree c).2.1]
    exact ref_hid _ _
  · rw [(hagree c).1, (hagree c).2.1, (hagree c).2.2.2.1]
    exact ref_lin _ _ _
  · rw [(hagree c).1, (hagree c).2.1, (hagree c).2.2.2.2.1]
    exact ref_lin _ _ _
  · rw [(hagree c).1, (hagree c).2.1, (hagree c).2.2.2.1, (hagree c).2.2.2.2.1, (hagree c).2.2.2.2.2]
    exact ref_down _ _ _ _ _

end Cert.Kernel10Ideal.Val

end
-- ==== Proof.Dil.Words.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! The two branch conditions and the window offsets of the kernel body in closed form. -/

/-- The condition of the body's first branch: the point is the first of its eight. -/
abbrev first (i : grid0.Coords) : Prop := (Scalar.cmpi .ne (Scalar.extui (Scalar.cmpi .eq (BitVec.ofNat 32 (i 2).val) 0#32)) 0#32) = 1#1

/-- The condition of the body's last branch: the point is the last of its eight. -/
abbrev last (i : grid0.Coords) : Prop := (Scalar.cmpi .ne (Scalar.extui (Scalar.cmpi .eq (BitVec.ofNat 32 (i 2).val) 7#32)) 0#32) = 1#1

/-- The first row of the key window of query block `b`: 64 rows before the block, kept inside the array. -/
def start (b : ℕ) : ℕ := min 1664 (256 * b - 64)

theorem start_word : ∀ b : Fin 8, (Scalar.indexCast (Scalar.minsi 1664#32 (Scalar.maxsi 0#32 (Scalar.subi (Scalar.muli (BitVec.ofNat 32 b.val) 256#32) 64#32)))).toNat = start b.val := by
  decide +kernel

theorem block_word : ∀ b : Fin 8, (Scalar.indexCast (Scalar.muli (BitVec.ofNat 32 b.val) 256#32)).toNat = 256 * b.val := by
  decide +kernel

theorem head_word : ∀ (p : Fin 2) (h : Fin 8), (Scalar.indexCast (Scalar.addi (Scalar.muli (BitVec.ofNat 32 p.val) 8#32) (BitVec.ofNat 32 h.val))).toNat = 8 * p.val + h.val := by
  decide +kernel

theorem off1_eq (i : grid0.Coords) : k0_off1 i = ![0, start (i 2).val, 0] := by
  have h := start_word (i 2)
  unfold k0_off1; dsimp only; rw [h]

theorem off2_eq (i : grid0.Coords) (h : Fin 8) : k0_off2 i (BitVec.ofNat 32 h.val) = ![8 * (i 1).val + h.val] := by
  have h := head_word (i 1) h
  unfold k0_off2; dsimp only; rw [h]

theorem off3_eq (i : grid0.Coords) : k0_off3 i = ![0, 0, 256 * (i 2).val, 0] := by
  have h := block_word (i 2)
  unfold k0_off3; dsimp only; rw [h]

theorem off4_eq (i : grid0.Coords) : k0_off4 i = ![start (i 2).val, 0] := by
  have h := start_word (i 2)
  unfold k0_off4; dsimp only; rw [h]

instance (i : grid0.Coords) : ClosedOff (k0_off4 i) := ⟨![start (i 2).val, 0], off4_eq i⟩

theorem coords0 (t : Fin cfg0.N) : (grid0.coords t 0).val = t.val / 16 % 3 := Pipeline.Grid.coords_val t 0 (by decide) rfl
theorem coords1 (t : Fin cfg0.N) : (grid0.coords t 1).val = t.val / 8 % 2 := Pipeline.Grid.coords_val t 1 (by decide) rfl
theorem coords2 (t : Fin cfg0.N) : (grid0.coords t 2).val = t.val % 8 := by
  have h : (grid0.coords t 2).val = t.val / 1 % 8 := Pipeline.Grid.coords_val t 2 (by decide) rfl
  rwa [Nat.div_one] at h

theorem first_iff (t : Fin cfg0.N) : first (grid0.coords t) ↔ t.val % 8 = 0 := by
  have h : ∀ b : Fin 8, (Scalar.cmpi .ne (Scalar.extui (Scalar.cmpi .eq (BitVec.ofNat 32 b.val) 0#32)) 0#32) = 1#1 ↔ b.val = 0 := by decide +kernel
  rw [← coords2 t]; exact h (grid0.coords t 2)

theorem last_iff (t : Fin cfg0.N) : last (grid0.coords t) ↔ t.val % 8 = 7 := by
  have h : ∀ b : Fin 8, (Scalar.cmpi .ne (Scalar.extui (Scalar.cmpi .eq (BitVec.ofNat 32 b.val) 7#32)) 0#32) = 1#1 ↔ b.val = 7 := by decide +kernel
  rw [← coords2 t]; exact h (grid0.coords t 2)

end Cert.KernelIdeal.Dil

end
-- ==== Proof.Dil.RunB.lean ====
module

public import proofs.«01_k».proof.Proof.Dil.Words

@[expose] public section

set_option maxRecDepth 16384

noncomputable section

namespace Cert.KernelIdeal.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! One run of the kernel body in each of its three cases (first point of a column block, a middle point, the last point). -/

set_option maxHeartbeats 2000000 in
/-- A middle point: neither branch is taken. From whole buffers with the contents `x·` the body runs to the same inputs and to the
    three written buffers with the pieces `L`, `LK`, `LV` written over what they held. -/
def runB (c : Dev nD) (i : grid0.Coords) (arg3 : Memref sig .tc .smem S16 .f32) (harg3 : arg3.IsWhole) (arg4 : Memref sig .tc .vmem S1x256x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x256x512 .bf16) (harg7 : arg7.IsWhole) (arg8 : Memref sig .tc .vmem S1x8x8x256 .f32) (harg8 : arg8.IsWhole) (arg9 : Memref sig .tc .vmem S1x8x8x256 .f32) (harg9 : arg9.IsWhole) (arg10 : Memref sig .tc .vmem S1x3x2048x512 .bf16) (harg10 : arg10.IsWhole) (arg11 : Memref sig .tc .vmem S2048x512 .f32) (harg11 : arg11.IsWhole) (arg12 : Memref sig .tc .vmem S2048x512 .f32) (harg12 : arg12.IsWhole)
    (hc0 : ¬first i) (hc1 : ¬last i) (x0 : Vec F S16 .f32) (x1 : Vec F S1x256x512 .bf16) (x2 : Vec F S1x2048x512 .bf16) (x3 : Vec F S1x2048x512 .bf16) (x4 : Vec F S1x256x512 .bf16) (x5 : Vec F S1x8x8x256 .f32) (x6 : Vec F S1x8x8x256 .f32) (xo : Vec F S1x3x2048x512 .bf16) (xs : Vec F S2048x512 .f32) (xt : Vec F S2048x512 .f32) :
    Σ' (L : List (View.Piece (Elt F) S1x3x2048x512 .bf16)), Σ' (LK : List (View.Piece (Elt F) S2048x512 .f32)), { LV : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs ∗ owns (c : Thread nD τ) arg12 fullShare xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo) L) ∗ (arg11.view.loc (c : Thread nD τ) ↦[arg11.view.set]{fullShare} arg11.view.writes (Elt F) (harg11.unread xs) LK) ∗ (arg12.view.loc (c : Thread nD τ) ↦[arg12.view.set]{fullShare} arg12.view.writes (Elt F) (harg12.unread xt) LV)) -∗ K ⟨⟩))
          ⊢ wp frame (wpE (defs₀ (F := F)) Variants.none c none) E (cc0_dil_bwd i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_dil_bwd_eq_skeleton]; unfold cc0_dil_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexact H8
    iexact H9

end Cert.KernelIdeal.Dil

end
-- ==== Proof.Dil.RunA.lean ====
module

public import proofs.«01_k».proof.Proof.Dil.RunB

@[expose] public section

set_option maxRecDepth 16384

noncomputable section

namespace Cert.KernelIdeal.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 2000000 in
/-- The first point of a column block: the two accumulators are zeroed. From whole buffers with the contents `x·` the body runs to the same inputs and to the
    three written buffers with the pieces `L`, `LK`, `LV` written over what they held. -/
def runA (c : Dev nD) (i : grid0.Coords) (arg3 : Memref sig .tc .smem S16 .f32) (harg3 : arg3.IsWhole) (arg4 : Memref sig .tc .vmem S1x256x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x256x512 .bf16) (harg7 : arg7.IsWhole) (arg8 : Memref sig .tc .vmem S1x8x8x256 .f32) (harg8 : arg8.IsWhole) (arg9 : Memref sig .tc .vmem S1x8x8x256 .f32) (harg9 : arg9.IsWhole) (arg10 : Memref sig .tc .vmem S1x3x2048x512 .bf16) (harg10 : arg10.IsWhole) (arg11 : Memref sig .tc .vmem S2048x512 .f32) (harg11 : arg11.IsWhole) (arg12 : Memref sig .tc .vmem S2048x512 .f32) (harg12 : arg12.IsWhole)
    (hc0 : first i) (hc1 : ¬last i) (x0 : Vec F S16 .f32) (x1 : Vec F S1x256x512 .bf16) (x2 : Vec F S1x2048x512 .bf16) (x3 : Vec F S1x2048x512 .bf16) (x4 : Vec F S1x256x512 .bf16) (x5 : Vec F S1x8x8x256 .f32) (x6 : Vec F S1x8x8x256 .f32) (xo : Vec F S1x3x2048x512 .bf16) (xs : Vec F S2048x512 .f32) (xt : Vec F S2048x512 .f32) :
    Σ' (L : List (View.Piece (Elt F) S1x3x2048x512 .bf16)), Σ' (LK : List (View.Piece (Elt F) S2048x512 .f32)), { LV : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs ∗ owns (c : Thread nD τ) arg12 fullShare xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo) L) ∗ (∃ f, arg11.view.loc (c : Thread nD τ) ↦[arg11.view.set]{fullShare} arg11.view.writes (Elt F) f LK) ∗ (∃ f, arg12.view.loc (c : Thread nD τ) ↦[arg12.view.set]{fullShare} arg12.view.writes (Elt F) f LV)) -∗ K ⟨⟩))
          ⊢ wp frame (wpE (defs₀ (F := F)) Variants.none c none) E (cc0_dil_bwd i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_dil_bwd_eq_skeleton]; unfold cc0_dil_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexists _; iexact H8
    iexists _; iexact H9

end Cert.KernelIdeal.Dil

end
-- ==== Proof.Dil.RunC.lean ====
module

public import proofs.«01_k».proof.Proof.Dil.RunA

@[expose] public section

set_option maxRecDepth 16384

noncomputable section

namespace Cert.KernelIdeal.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 2000000 in
/-- The last point of a column block: the accumulators are written out. From whole buffers with the contents `x·` the body runs to the same inputs and to the
    three written buffers with the pieces `L`, `LK`, `LV` written over what they held. -/
def runC (c : Dev nD) (i : grid0.Coords) (arg3 : Memref sig .tc .smem S16 .f32) (harg3 : arg3.IsWhole) (arg4 : Memref sig .tc .vmem S1x256x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x256x512 .bf16) (harg7 : arg7.IsWhole) (arg8 : Memref sig .tc .vmem S1x8x8x256 .f32) (harg8 : arg8.IsWhole) (arg9 : Memref sig .tc .vmem S1x8x8x256 .f32) (harg9 : arg9.IsWhole) (arg10 : Memref sig .tc .vmem S1x3x2048x512 .bf16) (harg10 : arg10.IsWhole) (arg11 : Memref sig .tc .vmem S2048x512 .f32) (harg11 : arg11.IsWhole) (arg12 : Memref sig .tc .vmem S2048x512 .f32) (harg12 : arg12.IsWhole)
    (hc0 : ¬first i) (hc1 : last i) (x0 : Vec F S16 .f32) (x1 : Vec F S1x256x512 .bf16) (x2 : Vec F S1x2048x512 .bf16) (x3 : Vec F S1x2048x512 .bf16) (x4 : Vec F S1x256x512 .bf16) (x5 : Vec F S1x8x8x256 .f32) (x6 : Vec F S1x8x8x256 .f32) (xo : Vec F S1x3x2048x512 .bf16) (xs : Vec F S2048x512 .f32) (xt : Vec F S2048x512 .f32) :
    Σ' (L : List (View.Piece (Elt F) S1x3x2048x512 .bf16)), Σ' (LK : List (View.Piece (Elt F) S2048x512 .f32)), { LV : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs ∗ owns (c : Thread nD τ) arg12 fullShare xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo) L) ∗ (arg11.view.loc (c : Thread nD τ) ↦[arg11.view.set]{fullShare} arg11.view.writes (Elt F) (harg11.unread xs) LK) ∗ (arg12.view.loc (c : Thread nD τ) ↦[arg12.view.set]{fullShare} arg12.view.writes (Elt F) (harg12.unread xt) LV)) -∗ K ⟨⟩))
          ⊢ wp frame (wpE (defs₀ (F := F)) Variants.none c none) E (cc0_dil_bwd i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_dil_bwd_eq_skeleton]; unfold cc0_dil_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexact H8
    iexact H9

end Cert.KernelIdeal.Dil

end
-- ==== Proof.Dil.Block.lean ====
module

public import proofs.«01_k».proof.Proof.Dil.Words

@[expose] public section

set_option maxRecDepth 16384

noncomputable section

namespace Cert.KernelIdeal.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! What one grid point computes: the eight heads of its column block, each as five short formulas, and the
three vectors it stores. -/

theorem lanesQ (h : Fin 8) : S256x512.Slices ![0, 64 * h.val] S256x64 :=
  ⟨rfl, fun a => by have := h.isLt; fin_cases a <;> simp [S256x512, S256x64] <;> omega⟩

theorem lanesK (h : Fin 8) : S384x512.Slices ![0, 64 * h.val] S384x64 :=
  ⟨rfl, fun a => by have := h.isLt; fin_cases a <;> simp [S384x512, S384x64] <;> omega⟩

/-- The lanes of head `h` of 256 query rows. -/
def laneQ (h : Fin 8) (x : FVec F S256x512 .bf16) : FVec F S256x64 .bf16 := extractStridedSlice S256x64 ![0, 64 * h.val] x (lanesQ h)

/-- The lanes of head `h` of 384 key rows. -/
def laneK (h : Fin 8) (x : FVec F S384x512 .bf16) : FVec F S384x64 .bf16 := extractStridedSlice S384x64 ![0, 64 * h.val] x (lanesK h)

/-- The scaled queries of a head. -/
def headQ (q : FVec F S256x64 .bf16) : FVec F S256x64 .bf16 := mulf q (broadcast S256x64 (Scalar.ofBits .bf16 0x3E00#16))

/-- The probabilities of a head, keys by queries. -/
def headP (nd : FVec F S384x256 .f32) (dil sl : F .f32) (k : FVec F S384x64 .bf16) (q : FVec F S256x64 .bf16) (lse : Vec F S1x1x1x256 .f32) : FVec F S384x256 .f32 :=
  exp (subf (addf (matmul dot_S384x64_S256x64_S384x256_1_1_0_0_n_n none k (headQ q) (constant S384x256 .f32 0x00000000#32))
      (mulf (broadcast S384x256 (Scalar.mulf sl dil)) nd))
    (broadcastTo S384x256 (shapeCast S1x256 lse shapeCasts_S1x1x1x256_S1x256) broadcasts_S1x256_S384x256))

/-- The gradient of a head's scores, keys by queries. -/
def headS (p : FVec F S384x256 .f32) (v : FVec F S384x64 .bf16) (d : FVec F S256x64 .bf16) (dd : Vec F S1x1x1x256 .f32) : FVec F S384x256 .bf16 :=
  truncf .bf16 (mulf p (subf (matmul dot_S384x64_S256x64_S384x256_1_1_0_0_n_n none v d (constant S384x256 .f32 0x00000000#32))
    (broadcastTo S384x256 (shapeCast S1x256 dd shapeCasts_S1x1x1x256_S1x256) broadcasts_S1x256_S384x256))) bitsLt_bf16_f32

/-- The gradient of a head's queries. -/
def headDq (k : FVec F S384x64 .bf16) (ds : FVec F S384x256 .bf16) : FVec F S256x64 .f32 :=
  mulf (transpose S256x64 [1, 0] (matmul dot_S384x64_S384x256_S64x256_0_0_1_1_n_n none k ds (constant S64x256 .f32 0x00000000#32)) transposes_S64x256_p1_0_S256x64)
    (broadcast S256x64 (Scalar.ofBits .f32 0x3E000000#32))

/-- What a head adds to the gradient of its keys (with `a` the score gradients and `b` the scaled queries) or of its
    values (with `a` the probabilities and `b` the gradient of the output). -/
def headDkv (a : FVec F S384x256 .bf16) (b : FVec F S256x64 .bf16) : FVec F S384x64 .f32 :=
  matmul dot_S384x256_S256x64_S384x64_1_0_0_1_n_n none a b (constant S384x64 .f32 0x00000000#32)

theorem rowInb (h : Fin 8) : ∀ a, (![0, h.val, 0, 0] : Fin 4 → Nat) a + S1x1x1x256.size a ≤ S1x8x8x256.size a := fun a => by
  have := h.isLt; fin_cases a <;> simp [S1x1x1x256, S1x8x8x256] <;> omega

section
variable (i : grid0.Coords) (x0 : Vec F S16 .f32) (x1 : Vec F S1x256x512 .bf16) (x2 x3 : Vec F S1x2048x512 .bf16) (x4 : Vec F S1x256x512 .bf16) (x5 x6 : Vec F S1x8x8x256 .f32)

/-- The slope of head `h` of the point's column block. -/
def slopeOf (h : Fin 8) : F .f32 :=
  VecWindow.window x0 (k0_off2 i (BitVec.ofNat 32 h.val)) S1.size (k0_off2_inb i h) (Shape.Idx.first (numel1_S1.symm ▸ Nat.one_pos))

/-- Row `h` of a block of statistics. -/
def rowOf (x : Vec F S1x8x8x256 .f32) (h : Fin 8) : Vec F S1x1x1x256 .f32 := VecWindow.window x ![0, h.val, 0, 0] S1x1x1x256.size (rowInb h)

/-- The point's 256 rows of a query-sized block. -/
def rowsQ (x : Vec F S1x256x512 .bf16) : FVec F S256x512 .bf16 :=
  shapeCast S256x512 (VecWindow.window x ![0, 0, 0] S1x256x512.size inb_S1x256x512_S1x256x512_0_0_0) shapeCasts_S1x256x512_S256x512

/-- The point's window of 384 rows of keys or values. -/
def rowsK (x : Vec F S1x2048x512 .bf16) : FVec F S384x512 .bf16 :=
  shapeCast S384x512 (VecWindow.window x (k0_off1 i) S1x384x512.size (k0_off1_inb i)) shapeCasts_S1x384x512_S384x512

/-- The probabilities of head `h` at the point. -/
def probs (h : Fin 8) : FVec F S384x256 .f32 :=
  headP (k0_pay5 i) (k0_pay6 i) (slopeOf i x0 h) (laneK h (rowsK i x2)) (laneQ h (rowsQ x1)) (rowOf x6 h)

/-- The score gradients of head `h` at the point. -/
def dscores (h : Fin 8) : FVec F S384x256 .bf16 :=
  headS (probs i x0 x1 x2 x6 h) (laneK h (rowsK i x3)) (laneQ h (rowsQ x4)) (rowOf x5 h)

def dqHead (h : Fin 8) : FVec F S256x64 .f32 := headDq (laneK h (rowsK i x2)) (dscores i x0 x1 x2 x3 x4 x5 x6 h)

def dkHead (h : Fin 8) : FVec F S384x64 .f32 := headDkv (dscores i x0 x1 x2 x3 x4 x5 x6 h) (headQ (laneQ h (rowsQ x1)))

def dvHead (h : Fin 8) : FVec F S384x64 .f32 := headDkv (truncf .bf16 (probs i x0 x1 x2 x6 h) bitsLt_bf16_f32) (laneQ h (rowsQ x4))

/-- The point's 256 rows of the gradient of the queries, all eight heads. -/
def dqRows : FVec F S256x512 .f32 :=
  concatenate S256x512 1 [⟨S256x64, dqHead i x0 x1 x2 x3 x4 x5 x6 0⟩, ⟨S256x64, dqHead i x0 x1 x2 x3 x4 x5 x6 1⟩, ⟨S256x64, dqHead i x0 x1 x2 x3 x4 x5 x6 2⟩, ⟨S256x64, dqHead i x0 x1 x2 x3 x4 x5 x6 3⟩, ⟨S256x64, dqHead i x0 x1 x2 x3 x4 x5 x6 4⟩, ⟨S256x64, dqHead i x0 x1 x2 x3 x4 x5 x6 5⟩, ⟨S256x64, dqHead i x0 x1 x2 x3 x4 x5 x6 6⟩, ⟨S256x64, dqHead i x0 x1 x2 x3 x4 x5 x6 7⟩] concatenates_S256x64_S256x64_S256x64_S256x64_S256x64_S256x64_S256x64_S256x64_S256x512_d1

/-- The point's contribution to 384 rows of the gradient of the keys. -/
def dkRows : FVec F S384x512 .f32 :=
  concatenate S384x512 1 [⟨S384x64, dkHead i x0 x1 x2 x3 x4 x5 x6 0⟩, ⟨S384x64, dkHead i x0 x1 x2 x3 x4 x5 x6 1⟩, ⟨S384x64, dkHead i x0 x1 x2 x3 x4 x5 x6 2⟩, ⟨S384x64, dkHead i x0 x1 x2 x3 x4 x5 x6 3⟩, ⟨S384x64, dkHead i x0 x1 x2 x3 x4 x5 x6 4⟩, ⟨S384x64, dkHead i x0 x1 x2 x3 x4 x5 x6 5⟩, ⟨S384x64, dkHead i x0 x1 x2 x3 x4 x5 x6 6⟩, ⟨S384x64, dkHead i x0 x1 x2 x3 x4 x5 x6 7⟩] concatenates_S384x64_S384x64_S384x64_S384x64_S384x64_S384x64_S384x64_S384x64_S384x512_d1

/-- The point's contribution to 384 rows of the gradient of the values. -/
def dvRows : FVec F S384x512 .f32 :=
  concatenate S384x512 1 [⟨S384x64, dvHead i x0 x1 x2 x4 x6 0⟩, ⟨S384x64, dvHead i x0 x1 x2 x4 x6 1⟩, ⟨S384x64, dvHead i x0 x1 x2 x4 x6 2⟩, ⟨S384x64, dvHead i x0 x1 x2 x4 x6 3⟩, ⟨S384x64, dvHead i x0 x1 x2 x4 x6 4⟩, ⟨S384x64, dvHead i x0 x1 x2 x4 x6 5⟩, ⟨S384x64, dvHead i x0 x1 x2 x4 x6 6⟩, ⟨S384x64, dvHead i x0 x1 x2 x4 x6 7⟩] concatenates_S384x64_S384x64_S384x64_S384x64_S384x64_S384x64_S384x64_S384x64_S384x512_d1

/-- What the point stores into the output block. -/
def dqBlock : FVec F S1x1x256x512 .bf16 :=
  shapeCast S1x1x256x512 (truncf .bf16 (dqRows i x0 x1 x2 x3 x4 x5 x6) bitsLt_bf16_f32) shapeCasts_S256x512_S1x1x256x512

/-- The accumulator of the keys after the point, from what it held before. -/
def dkNext (xs : Vec F S2048x512 .f32) : Vec F S2048x512 .f32 :=
  VecWindow.put xs (k0_off4 i) S384x512.size
    (shapeCast S384x512 (addf (VecWindow.window xs (k0_off4 i) S384x512.size (k0_off4_inb i)) (dkRows i x0 x1 x2 x3 x4 x5 x6)) shapeCasts_S384x512_S384x512)

/-- The accumulator of the values after the point, from what it held before. -/
def dvNext (xt : Vec F S2048x512 .f32) : Vec F S2048x512 .f32 :=
  VecWindow.put xt (k0_off4 i) S384x512.size
    (shapeCast S384x512 (addf (VecWindow.window xt (k0_off4 i) S384x512.size (k0_off4_inb i)) (dvRows i x0 x1 x2 x4 x6)) shapeCasts_S384x512_S384x512)

end

end Cert.KernelIdeal.Dil

end
-- ==== Proof.Dil.Step.lean ====
module

public import proofs.«01_k».proof.Proof.Dil.RunC
public import proofs.«01_k».proof.Proof.Dil.Block

@[expose] public section

set_option maxRecDepth 16384

noncomputable section

namespace Cert.KernelIdeal.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! What the body leaves in its three written buffers in each case, as vectors. -/

variable (c : Dev nD) (i : grid0.Coords) (arg3 : Memref sig .tc .smem S16 .f32) (harg3 : arg3.IsWhole) (arg4 : Memref sig .tc .vmem S1x256x512 .bf16) (harg4 : arg4.IsWhole) (arg5 : Memref sig .tc .vmem S1x2048x512 .bf16) (harg5 : arg5.IsWhole) (arg6 : Memref sig .tc .vmem S1x2048x512 .bf16) (harg6 : arg6.IsWhole)
  (arg7 : Memref sig .tc .vmem S1x256x512 .bf16) (harg7 : arg7.IsWhole) (arg8 : Memref sig .tc .vmem S1x8x8x256 .f32) (harg8 : arg8.IsWhole) (arg9 : Memref sig .tc .vmem S1x8x8x256 .f32) (harg9 : arg9.IsWhole)
  (arg10 : Memref sig .tc .vmem S1x3x2048x512 .bf16) (harg10 : arg10.IsWhole) (arg11 : Memref sig .tc .vmem S2048x512 .f32) (harg11 : arg11.IsWhole) (arg12 : Memref sig .tc .vmem S2048x512 .f32) (harg12 : arg12.IsWhole)

section
variable (hc0 : ¬first i) (hc1 : ¬last i) (x0 : Vec F S16 .f32) (x1 : Vec F S1x256x512 .bf16) (x2 : Vec F S1x2048x512 .bf16) (x3 : Vec F S1x2048x512 .bf16)
  (x4 : Vec F S1x256x512 .bf16) (x5 : Vec F S1x8x8x256 .f32) (x6 : Vec F S1x8x8x256 .f32) (xo : Vec F S1x3x2048x512 .bf16) (xs : Vec F S2048x512 .f32) (xt : Vec F S2048x512 .f32)

theorem runB_dk :
    arg11.view.read (Elt F) (arg11.view.writes (Elt F) (harg11.unread xs) (runB c i arg3 harg3 arg4 harg4 arg5 harg5 arg6 harg6 arg7 harg7 arg8 harg8 arg9 harg9 arg10 harg10 arg11 harg11 arg12 harg12 hc0 hc1 x0 x1 x2 x3 x4 x5 x6 xo xs xt).2.1) = dkNext i x0 x1 x2 x3 x4 x5 x6 (xs) := by
  rw [show (runB c i arg3 harg3 arg4 harg4 arg5 harg5 arg6 harg6 arg7 harg7 arg8 harg8 arg9 harg9 arg10 harg10 arg11 harg11 arg12 harg12 hc0 hc1 x0 x1 x2 x3 x4 x5 x6 xo xs xt).2.1 = [⟨Rect.unit (s := S2048x512) (k0_off4 i) S384x512.size (k0_off4_inb i), shapeCast S384x512 (addf (VecWindow.window (arg11.view.read (Elt F) (harg11.unread xs)) (k0_off4 i) S384x512.size (k0_off4_inb i)) (dkRows i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)))) shapeCasts_S384x512_S384x512⟩] from rfl]
  rw [View.read_writes_cons_put _ _ _ _ _ rfl, View.writes_nil, harg11.read_unread]
  simp only [Memref.IsWhole.read_unread]; rfl

theorem runB_dv :
    arg12.view.read (Elt F) (arg12.view.writes (Elt F) (harg12.unread xt) (runB c i arg3 harg3 arg4 harg4 arg5 harg5 arg6 harg6 arg7 harg7 arg8 harg8 arg9 harg9 arg10 harg10 arg11 harg11 arg12 harg12 hc0 hc1 x0 x1 x2 x3 x4 x5 x6 xo xs xt).2.2.1) = dvNext i x0 x1 x2 x4 x6 (xt) := by
  rw [show (runB c i arg3 harg3 arg4 harg4 arg5 harg5 arg6 harg6 arg7 harg7 arg8 harg8 arg9 harg9 arg10 harg10 arg11 harg11 arg12 harg12 hc0 hc1 x0 x1 x2 x3 x4 x5 x6 xo xs xt).2.2.1 = [⟨Rect.unit (s := S2048x512) (k0_off4 i) S384x512.size (k0_off4_inb i), shapeCast S384x512 (addf (VecWindow.window (arg12.view.read (Elt F) (harg12.unread xt)) (k0_off4 i) S384x512.size (k0_off4_inb i)) (dvRows i (arg3.view.read (Elt F) (harg3.unread x0)) (arg4.view.read (Elt F) (harg4.unread x1)) (arg5.view.read (Elt F) (harg5.unread x2)) (arg7.view.read (Elt F) (harg7.unread x4)) (arg9.view.read (Elt F) (harg9.unread x6)))) shapeCasts_S384x512_S384x512⟩] from rfl]
  rw [View.read_writes_cons_put _ _ _ _ _ rfl, View.writes_nil, harg12.read_unread]
  simp only [Memref.IsWhole.read_unread]; rfl

theorem runB_out :
    arg10.view.read (Elt F) (arg10.view.writes (Elt F) (harg10.unread xo) (runB c i arg3 harg3 arg4 harg4 arg5 harg5 arg6 harg6 arg7 harg7 arg8 harg8 arg9 harg9 arg10 harg10 arg11 harg11 arg12 harg12 hc0 hc1 x0 x1 x2 x3 x4 x5 x6 xo xs xt).1) = VecWindow.put xo (k0_off3 i) S1x1x256x512.size (dqBlock i x0 x1 x2 x3 x4 x5 x6) := by
  rw [show (runB c i arg3 harg3 arg4 harg4 arg5 harg5 arg6 harg6 arg7 harg7 arg8 harg8 arg9 harg9 arg10 harg10 arg11 harg11 arg12 harg12 hc0 hc1 x0 x1 x2 x3 x4 x5 x6 xo xs xt).1 = [⟨Rect.unit (s := S1x3x2048x512) (k0_off3 i) S1x1x256x512.size (k0_off3_inb i), dqBlock i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6))⟩] from rfl]
  rw [View.read_writes_cons_put _ _ _ _ _ rfl, View.writes_nil]
  simp only [Memref.IsWhole.read_unread]

end

section
variable (hc0 : first i) (hc1 : ¬last i) (x0 : Vec F S16 .f32) (x1 : Vec F S1x256x512 .bf16) (x2 : Vec F S1x2048x512 .bf16) (x3 : Vec F S1x2048x512 .bf16)
  (x4 : Vec F S1x256x512 .bf16) (x5 : Vec F S1x8x8x256 .f32) (x6 : Vec F S1x8x8x256 .f32) (xo : Vec F S1x3x2048x512 .bf16) (xs : Vec F S2048x512 .f32) (xt : Vec F S2048x512 .f32)

theorem runA_dk (f : arg11.view.ty.Contents (Elt F)) :
    arg11.view.read (Elt F) (arg11.view.writes (Elt F) f (runA c i arg3 harg3 arg4 harg4 arg5 harg5 arg6 harg6 arg7 harg7 arg8 harg8 arg9 harg9 arg10 harg10 arg11 harg11 arg12 harg12 hc0 hc1 x0 x1 x2 x3 x4 x5 x6 xo xs xt).2.1) = dkNext i x0 x1 x2 x3 x4 x5 x6 (k0_pay3 (F := F)) := by
  rw [show (runA c i arg3 harg3 arg4 harg4 arg5 harg5 arg6 harg6 arg7 harg7 arg8 harg8 arg9 harg9 arg10 harg10 arg11 harg11 arg12 harg12 hc0 hc1 x0 x1 x2 x3 x4 x5 x6 xo xs xt).2.1 = [⟨Rect.unit (s := S2048x512) (k0_off4 i) S384x512.size (k0_off4_inb i), shapeCast S384x512 (addf (VecWindow.window (arg11.view.read (Elt F) (arg11.view.writes (Elt F) arg11.view.junk [⟨Rect.unit (s := S2048x512) ![0, 0] S2048x512.size inb_S2048x512_S2048x512_0_0, k0_pay3 (F := F)⟩])) (k0_off4 i) S384x512.size (k0_off4_inb i)) (dkRows i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)))) shapeCasts_S384x512_S384x512⟩, ⟨Rect.unit (s := S2048x512) ![0, 0] S2048x512.size inb_S2048x512_S2048x512_0_0, k0_pay3 (F := F)⟩] from rfl]
  rw [View.read_writes_cons_put _ _ _ _ _ rfl, View.read_writes_full, View.read_writes_full]
  simp only [Memref.IsWhole.read_unread]; rfl

theorem runA_dv (f : arg12.view.ty.Contents (Elt F)) :
    arg12.view.read (Elt F) (arg12.view.writes (Elt F) f (runA c i arg3 harg3 arg4 harg4 arg5 harg5 arg6 harg6 arg7 harg7 arg8 harg8 arg9 harg9 arg10 harg10 arg11 harg11 arg12 harg12 hc0 hc1 x0 x1 x2 x3 x4 x5 x6 xo xs xt).2.2.1) = dvNext i x0 x1 x2 x4 x6 (k0_pay4 (F := F)) := by
  rw [show (runA c i arg3 harg3 arg4 harg4 arg5 harg5 arg6 harg6 arg7 harg7 arg8 harg8 arg9 harg9 arg10 harg10 arg11 harg11 arg12 harg12 hc0 hc1 x0 x1 x2 x3 x4 x5 x6 xo xs xt).2.2.1 = [⟨Rect.unit (s := S2048x512) (k0_off4 i) S384x512.size (k0_off4_inb i), shapeCast S384x512 (addf (VecWindow.window (arg12.view.read (Elt F) (arg12.view.writes (Elt F) arg12.view.junk [⟨Rect.unit (s := S2048x512) ![0, 0] S2048x512.size inb_S2048x512_S2048x512_0_0, k0_pay4 (F := F)⟩])) (k0_off4 i) S384x512.size (k0_off4_inb i)) (dvRows i (arg3.view.read (Elt F) (harg3.unread x0)) (arg4.view.read (Elt F) (harg4.unread x1)) (arg5.view.read (Elt F) (harg5.unread x2)) (arg7.view.read (Elt F) (harg7.unread x4)) (arg9.view.read (Elt F) (harg9.unread x6)))) shapeCasts_S384x512_S384x512⟩, ⟨Rect.unit (s := S2048x512) ![0, 0] S2048x512.size inb_S2048x512_S2048x512_0_0, k0_pay4 (F := F)⟩] from rfl]
  rw [View.read_writes_cons_put _ _ _ _ _ rfl, View.read_writes_full, View.read_writes_full]
  simp only [Memref.IsWhole.read_unread]; rfl

theorem runA_out :
    arg10.view.read (Elt F) (arg10.view.writes (Elt F) (harg10.unread xo) (runA c i arg3 harg3 arg4 harg4 arg5 harg5 arg6 harg6 arg7 harg7 arg8 harg8 arg9 harg9 arg10 harg10 arg11 harg11 arg12 harg12 hc0 hc1 x0 x1 x2 x3 x4 x5 x6 xo xs xt).1) = VecWindow.put xo (k0_off3 i) S1x1x256x512.size (dqBlock i x0 x1 x2 x3 x4 x5 x6) := by
  rw [show (runA c i arg3 harg3 arg4 harg4 arg5 harg5 arg6 harg6 arg7 harg7 arg8 harg8 arg9 harg9 arg10 harg10 arg11 harg11 arg12 harg12 hc0 hc1 x0 x1 x2 x3 x4 x5 x6 xo xs xt).1 = [⟨Rect.unit (s := S1x3x2048x512) (k0_off3 i) S1x1x256x512.size (k0_off3_inb i), dqBlock i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6))⟩] from rfl]
  rw [View.read_writes_cons_put _ _ _ _ _ rfl, View.writes_nil]
  simp only [Memref.IsWhole.read_unread]

end

section
variable (hc0 : ¬first i) (hc1 : last i) (x0 : Vec F S16 .f32) (x1 : Vec F S1x256x512 .bf16) (x2 : Vec F S1x2048x512 .bf16) (x3 : Vec F S1x2048x512 .bf16)
  (x4 : Vec F S1x256x512 .bf16) (x5 : Vec F S1x8x8x256 .f32) (x6 : Vec F S1x8x8x256 .f32) (xo : Vec F S1x3x2048x512 .bf16) (xs : Vec F S2048x512 .f32) (xt : Vec F S2048x512 .f32)

theorem runC_dk :
    arg11.view.read (Elt F) (arg11.view.writes (Elt F) (harg11.unread xs) (runC c i arg3 harg3 arg4 harg4 arg5 harg5 arg6 harg6 arg7 harg7 arg8 harg8 arg9 harg9 arg10 harg10 arg11 harg11 arg12 harg12 hc0 hc1 x0 x1 x2 x3 x4 x5 x6 xo xs xt).2.1) = dkNext i x0 x1 x2 x3 x4 x5 x6 (xs) := by
  rw [show (runC c i arg3 harg3 arg4 harg4 arg5 harg5 arg6 harg6 arg7 harg7 arg8 harg8 arg9 harg9 arg10 harg10 arg11 harg11 arg12 harg12 hc0 hc1 x0 x1 x2 x3 x4 x5 x6 xo xs xt).2.1 = [⟨Rect.unit (s := S2048x512) (k0_off4 i) S384x512.size (k0_off4_inb i), shapeCast S384x512 (addf (VecWindow.window (arg11.view.read (Elt F) (harg11.unread xs)) (k0_off4 i) S384x512.size (k0_off4_inb i)) (dkRows i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)))) shapeCasts_S384x512_S384x512⟩] from rfl]
  rw [View.read_writes_cons_put _ _ _ _ _ rfl, View.writes_nil, harg11.read_unread]
  simp only [Memref.IsWhole.read_unread]; rfl

theorem runC_dv :
    arg12.view.read (Elt F) (arg12.view.writes (Elt F) (harg12.unread xt) (runC c i arg3 harg3 arg4 harg4 arg5 harg5 arg6 harg6 arg7 harg7 arg8 harg8 arg9 harg9 arg10 harg10 arg11 harg11 arg12 harg12 hc0 hc1 x0 x1 x2 x3 x4 x5 x6 xo xs xt).2.2.1) = dvNext i x0 x1 x2 x4 x6 (xt) := by
  rw [show (runC c i arg3 harg3 arg4 harg4 arg5 harg5 arg6 harg6 arg7 harg7 arg8 harg8 arg9 harg9 arg10 harg10 arg11 harg11 arg12 harg12 hc0 hc1 x0 x1 x2 x3 x4 x5 x6 xo xs xt).2.2.1 = [⟨Rect.unit (s := S2048x512) (k0_off4 i) S384x512.size (k0_off4_inb i), shapeCast S384x512 (addf (VecWindow.window (arg12.view.read (Elt F) (harg12.unread xt)) (k0_off4 i) S384x512.size (k0_off4_inb i)) (dvRows i (arg3.view.read (Elt F) (harg3.unread x0)) (arg4.view.read (Elt F) (harg4.unread x1)) (arg5.view.read (Elt F) (harg5.unread x2)) (arg7.view.read (Elt F) (harg7.unread x4)) (arg9.view.read (Elt F) (harg9.unread x6)))) shapeCasts_S384x512_S384x512⟩] from rfl]
  rw [View.read_writes_cons_put _ _ _ _ _ rfl, View.writes_nil, harg12.read_unread]
  simp only [Memref.IsWhole.read_unread]; rfl

theorem runC_out :
    arg10.view.read (Elt F) (arg10.view.writes (Elt F) (harg10.unread xo) (runC c i arg3 harg3 arg4 harg4 arg5 harg5 arg6 harg6 arg7 harg7 arg8 harg8 arg9 harg9 arg10 harg10 arg11 harg11 arg12 harg12 hc0 hc1 x0 x1 x2 x3 x4 x5 x6 xo xs xt).1)
      = VecWindow.put (VecWindow.put (VecWindow.put xo (k0_off3 i) S1x1x256x512.size (dqBlock i x0 x1 x2 x3 x4 x5 x6))
          ![0, 1, 0, 0] S1x1x2048x512.size (k0_pay1 (dkNext i x0 x1 x2 x3 x4 x5 x6 xs))) ![0, 2, 0, 0] S1x1x2048x512.size (k0_pay2 (dvNext i x0 x1 x2 x4 x6 xt)) := by
  rw [show (runC c i arg3 harg3 arg4 harg4 arg5 harg5 arg6 harg6 arg7 harg7 arg8 harg8 arg9 harg9 arg10 harg10 arg11 harg11 arg12 harg12 hc0 hc1 x0 x1 x2 x3 x4 x5 x6 xo xs xt).1 = [⟨Rect.unit (s := S1x3x2048x512) ![0, 2, 0, 0] S1x1x2048x512.size inb_S1x3x2048x512_S1x1x2048x512_0_2_0_0, k0_pay2 (arg12.view.readAt (Elt F) (Rect.unit (s := S2048x512) ![0, 0] S2048x512.size inb_S2048x512_S2048x512_0_0).toLoadRect (arg12.view.writes (Elt F) (harg12.unread xt) (runC c i arg3 harg3 arg4 harg4 arg5 harg5 arg6 harg6 arg7 harg7 arg8 harg8 arg9 harg9 arg10 harg10 arg11 harg11 arg12 harg12 hc0 hc1 x0 x1 x2 x3 x4 x5 x6 xo xs xt).2.2.1))⟩, ⟨Rect.unit (s := S1x3x2048x512) ![0, 1, 0, 0] S1x1x2048x512.size inb_S1x3x2048x512_S1x1x2048x512_0_1_0_0, k0_pay1 (arg11.view.readAt (Elt F) (Rect.unit (s := S2048x512) ![0, 0] S2048x512.size inb_S2048x512_S2048x512_0_0).toLoadRect (arg11.view.writes (Elt F) (harg11.unread xs) (runC c i arg3 harg3 arg4 harg4 arg5 harg5 arg6 harg6 arg7 harg7 arg8 harg8 arg9 harg9 arg10 harg10 arg11 harg11 arg12 harg12 hc0 hc1 x0 x1 x2 x3 x4 x5 x6 xo xs xt).2.1))⟩, ⟨Rect.unit (s := S1x3x2048x512) (k0_off3 i) S1x1x256x512.size (k0_off3_inb i), dqBlock i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6))⟩] from rfl]
  rw [View.read_writes_cons_put _ _ _ _ _ rfl, View.read_writes_cons_put _ _ _ _ _ rfl, View.read_writes_cons_put _ _ _ _ _ rfl, View.writes_nil,
    View.readAt_full, View.readAt_full, runC_dk, runC_dv]
  simp only [Memref.IsWhole.read_unread]

end

end Cert.KernelIdeal.Dil

end
-- ==== Proof.Dil.Point.lean ====
module

public import proofs.«01_k».proof.Proof.Dil.Step

@[expose] public section

set_option maxRecDepth 16384

noncomputable section

namespace Cert.KernelIdeal.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! One grid point, the three cases together. -/

/-- The output block after a point, from what it held, the point's query gradients and the two accumulators after it. -/
def outNext (i : grid0.Coords) (xo : Vec F S1x3x2048x512 .bf16) (dq : FVec F S1x1x256x512 .bf16) (dk dv : Vec F S2048x512 .f32) : Vec F S1x3x2048x512 .bf16 :=
  if last i then
    VecWindow.put (VecWindow.put (VecWindow.put xo (k0_off3 i) S1x1x256x512.size dq) ![0, 1, 0, 0] S1x1x2048x512.size (k0_pay1 dk)) ![0, 2, 0, 0] S1x1x2048x512.size (k0_pay2 dv)
  else VecWindow.put xo (k0_off3 i) S1x1x256x512.size dq

theorem first_coord (i : grid0.Coords) : first i ↔ (i 2).val = 0 := by
  have h : ∀ b : Fin 8, (Scalar.cmpi .ne (Scalar.extui (Scalar.cmpi .eq (BitVec.ofNat 32 b.val) 0#32)) 0#32) = 1#1 ↔ b.val = 0 := by decide +kernel
  exact h (i 2)

theorem last_coord (i : grid0.Coords) : last i ↔ (i 2).val = 7 := by
  have h : ∀ b : Fin 8, (Scalar.cmpi .ne (Scalar.extui (Scalar.cmpi .eq (BitVec.ofNat 32 b.val) 7#32)) 0#32) = 1#1 ↔ b.val = 7 := by decide +kernel
  exact h (i 2)

/-- The body at any point: from whole buffers to the inputs as they were, the output block with the point's rows in
    it (and the accumulators, at the last point of a column block), and the two accumulators moved on. -/
theorem step (c : Dev nD) (i : grid0.Coords) (arg3 : Memref sig .tc .smem S16 .f32) (harg3 : arg3.IsWhole) (arg4 : Memref sig .tc .vmem S1x256x512 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x256x512 .bf16) (harg7 : arg7.IsWhole) (arg8 : Memref sig .tc .vmem S1x8x8x256 .f32) (harg8 : arg8.IsWhole) (arg9 : Memref sig .tc .vmem S1x8x8x256 .f32) (harg9 : arg9.IsWhole) (arg10 : Memref sig .tc .vmem S1x3x2048x512 .bf16) (harg10 : arg10.IsWhole) (arg11 : Memref sig .tc .vmem S2048x512 .f32) (harg11 : arg11.IsWhole) (arg12 : Memref sig .tc .vmem S2048x512 .f32) (harg12 : arg12.IsWhole) (x0 : Vec F S16 .f32) (x1 : Vec F S1x256x512 .bf16) (x2 : Vec F S1x2048x512 .bf16) (x3 : Vec F S1x2048x512 .bf16) (x4 : Vec F S1x256x512 .bf16) (x5 : Vec F S1x8x8x256 .f32) (x6 : Vec F S1x8x8x256 .f32) (xo : Vec F S1x3x2048x512 .bf16) (xs : Vec F S2048x512 .f32) (xt : Vec F S2048x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs ∗ owns (c : Thread nD τ) arg12 fullShare xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (outNext i xo (dqBlock i x0 x1 x2 x3 x4 x5 x6) (dkNext i x0 x1 x2 x3 x4 x5 x6 (if first i then k0_pay3 else xs)) (dvNext i x0 x1 x2 x4 x6 (if first i then k0_pay4 else xt)))
            ∗ owns (c : Thread nD τ) arg11 fullShare (dkNext i x0 x1 x2 x3 x4 x5 x6 (if first i then k0_pay3 else xs)) ∗ owns (c : Thread nD τ) arg12 fullShare (dvNext i x0 x1 x2 x4 x6 (if first i then k0_pay4 else xt))) -∗ K ⟨⟩))
      ⊢ wp frame (wpE (defs₀ (F := F)) Variants.none c none) E (cc0_dil_bwd i arg3 harg3 arg4 harg4 arg5 harg5 arg6 harg6 arg7 harg7 arg8 harg8 arg9 harg9 arg10 harg10 arg11 harg11 arg12 harg12) K := by
  by_cases h0 : first i
  · have h1 : ¬last i := fun h => by have := (first_coord i).mp h0; have := (last_coord i).mp h; omega
    rw [show outNext i xo (dqBlock i x0 x1 x2 x3 x4 x5 x6) (dkNext i x0 x1 x2 x3 x4 x5 x6 (if first i then k0_pay3 else xs)) (dvNext i x0 x1 x2 x4 x6 (if first i then k0_pay4 else xt)) = VecWindow.put xo (k0_off3 i) S1x1x256x512.size (dqBlock i x0 x1 x2 x3 x4 x5 x6) from if_neg h1, if_pos h0, if_pos h0]
    iintro ⟨H0, H1, H2, H3, H4, H5, H6, H7, H8, H9, Hk⟩
    iapply ((runA c i arg3 harg3 arg4 harg4 arg5 harg5 arg6 harg6 arg7 harg7 arg8 harg8 arg9 harg9 arg10 harg10 arg11 harg11 arg12 harg12 h0 h1 x0 x1 x2 x3 x4 x5 x6 xo xs xt).2.2.2 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%f8, H8⟩, ⟨%f9, H9⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact runA_out c i arg3 harg3 arg4 harg4 arg5 harg5 arg6 harg6 arg7 harg7 arg8 harg8 arg9 harg9 arg10 harg10 arg11 harg11 arg12 harg12 h0 h1 x0 x1 x2 x3 x4 x5 x6 xo xs xt
    isplitl [H8]
    · unfold owns; iexists _; isplitr
      swap; · iexact H8
      ipureintro; exact runA_dk c i arg3 harg3 arg4 harg4 arg5 harg5 arg6 harg6 arg7 harg7 arg8 harg8 arg9 harg9 arg10 harg10 arg11 harg11 arg12 harg12 h0 h1 x0 x1 x2 x3 x4 x5 x6 xo xs xt f8
    unfold owns; iexists _; isplitr
    swap; · iexact H9
    ipureintro; exact runA_dv c i arg3 harg3 arg4 harg4 arg5 harg5 arg6 harg6 arg7 harg7 arg8 harg8 arg9 harg9 arg10 harg10 arg11 harg11 arg12 harg12 h0 h1 x0 x1 x2 x3 x4 x5 x6 xo xs xt f9
  · by_cases h1 : last i
    · rw [if_neg h0, if_neg h0, show outNext i xo (dqBlock i x0 x1 x2 x3 x4 x5 x6) (dkNext i x0 x1 x2 x3 x4 x5 x6 xs) (dvNext i x0 x1 x2 x4 x6 xt) = VecWindow.put (VecWindow.put (VecWindow.put xo (k0_off3 i) S1x1x256x512.size (dqBlock i x0 x1 x2 x3 x4 x5 x6)) ![0, 1, 0, 0] S1x1x2048x512.size (k0_pay1 (dkNext i x0 x1 x2 x3 x4 x5 x6 xs))) ![0, 2, 0, 0] S1x1x2048x512.size (k0_pay2 (dvNext i x0 x1 x2 x4 x6 xt)) from if_pos h1]
      iintro ⟨H0, H1, H2, H3, H4, H5, H6, H7, H8, H9, Hk⟩
      iapply ((runC c i arg3 harg3 arg4 harg4 arg5 harg5 arg6 harg6 arg7 harg7 arg8 harg8 arg9 harg9 arg10 harg10 arg11 harg11 arg12 harg12 h0 h1 x0 x1 x2 x3 x4 x5 x6 xo xs xt).2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact runC_out c i arg3 harg3 arg4 harg4 arg5 harg5 arg6 harg6 arg7 harg7 arg8 harg8 arg9 harg9 arg10 harg10 arg11 harg11 arg12 harg12 h0 h1 x0 x1 x2 x3 x4 x5 x6 xo xs xt
      isplitl [H8]
      · unfold owns; iexists _; isplitr
        swap; · iexact H8
        ipureintro; exact runC_dk c i arg3 harg3 arg4 harg4 arg5 harg5 arg6 harg6 arg7 harg7 arg8 harg8 arg9 harg9 arg10 harg10 arg11 harg11 arg12 harg12 h0 h1 x0 x1 x2 x3 x4 x5 x6 xo xs xt
      unfold owns; iexists _; isplitr
      swap; · iexact H9
      ipureintro; exact runC_dv c i arg3 harg3 arg4 harg4 arg5 harg5 arg6 harg6 arg7 harg7 arg8 harg8 arg9 harg9 arg10 harg10 arg11 harg11 arg12 harg12 h0 h1 x0 x1 x2 x3 x4 x5 x6 xo xs xt
    · rw [if_neg h0, if_neg h0, show outNext i xo (dqBlock i x0 x1 x2 x3 x4 x5 x6) (dkNext i x0 x1 x2 x3 x4 x5 x6 xs) (dvNext i x0 x1 x2 x4 x6 xt) = VecWindow.put xo (k0_off3 i) S1x1x256x512.size (dqBlock i x0 x1 x2 x3 x4 x5 x6) from if_neg h1]
      iintro ⟨H0, H1, H2, H3, H4, H5, H6, H7, H8, H9, Hk⟩
      iapply ((runB c i arg3 harg3 arg4 harg4 arg5 harg5 arg6 harg6 arg7 harg7 arg8 harg8 arg9 harg9 arg10 harg10 arg11 harg11 arg12 harg12 h0 h1 x0 x1 x2 x3 x4 x5 x6 xo xs xt).2.2.2 E K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact runB_out c i arg3 harg3 arg4 harg4 arg5 harg5 arg6 harg6 arg7 harg7 arg8 harg8 arg9 harg9 arg10 harg10 arg11 harg11 arg12 harg12 h0 h1 x0 x1 x2 x3 x4 x5 x6 xo xs xt
      isplitl [H8]
      · unfold owns; iexists _; isplitr
        swap; · iexact H8
        ipureintro; exact runB_dk c i arg3 harg3 arg4 harg4 arg5 harg5 arg6 harg6 arg7 harg7 arg8 harg8 arg9 harg9 arg10 harg10 arg11 harg11 arg12 harg12 h0 h1 x0 x1 x2 x3 x4 x5 x6 xo xs xt
      unfold owns; iexists _; isplitr
      swap; · iexact H9
      ipureintro; exact runB_dv c i arg3 harg3 arg4 harg4 arg5 harg5 arg6 harg6 arg7 harg7 arg8 harg8 arg9 harg9 arg10 harg10 arg11 harg11 arg12 harg12 h0 h1 x0 x1 x2 x3 x4 x5 x6 xo xs xt

end Cert.KernelIdeal.Dil

end
-- ==== Proof.Dil.Sound.lean ====
module

public import proofs.«01_k».proof.Proof.Dil.Point
public import Idealize.ShloMosaic.Lib.Pipeline.DatRel

@[expose] public section

set_option maxRecDepth 16384

noncomputable section

namespace Cert.KernelIdeal.Dil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! The region's run: what the output block holds after each point as a relation, and the launch. -/

variable (m : (ℓ : Loc nD τ sig) → Buf (Elt F) ℓ) (ρ : Dev nD → PrngReg)

/-- The rows of query gradients point `t` computes. -/
def dqAt (c : Dev nD) (t : Fin cfg0.N) : FVec F S1x1x256x512 .bf16 := dqBlock (grid0.coords t) (iblk m c 0 t) (iblk m c 1 t) (iblk m c 2 t) (iblk m c 3 t) (iblk m c 4 t) (iblk m c 5 t) (iblk m c 6 t)

/-- The accumulator of the key gradients after `n` points. -/
def accK (c : Dev nD) : (n : ℕ) → n ≤ cfg0.N → Vec F S2048x512 .f32
  | 0, _ => k0_pay3
  | n + 1, hn => let t : Fin cfg0.N := ⟨n, hn⟩; dkNext (grid0.coords t) (iblk m c 0 t) (iblk m c 1 t) (iblk m c 2 t) (iblk m c 3 t) (iblk m c 4 t) (iblk m c 5 t) (iblk m c 6 t) (if first (grid0.coords t) then k0_pay3 else accK c n (Nat.le_of_lt hn))

/-- The accumulator of the value gradients after `n` points. -/
def accV (c : Dev nD) : (n : ℕ) → n ≤ cfg0.N → Vec F S2048x512 .f32
  | 0, _ => k0_pay4
  | n + 1, hn => let t : Fin cfg0.N := ⟨n, hn⟩; dvNext (grid0.coords t) (iblk m c 0 t) (iblk m c 1 t) (iblk m c 2 t) (iblk m c 4 t) (iblk m c 6 t) (if first (grid0.coords t) then k0_pay4 else accV c n (Nat.le_of_lt hn))

/-- What is known of the output block after point `t`: the query gradients of the points of its column block so far,
    and after the last of them the accumulated key and value gradients, rounded. -/
def Held (c : Dev nD) (t : Fin cfg0.N) (X : Vec F S1x3x2048x512 .bf16) : Prop :=
  (∀ s : Fin cfg0.N, s.val ≤ t.val → s.val / 8 = t.val / 8 → VecWindow.window X (k0_off3 (grid0.coords s)) S1x1x256x512.size (k0_off3_inb (grid0.coords s)) = dqAt m c s)
  ∧ (t.val % 8 = 7 → VecWindow.window X ![0, 1, 0, 0] S1x1x2048x512.size inb_S1x3x2048x512_S1x1x2048x512_0_1_0_0 = k0_pay1 (accK m c (t.val + 1) t.isLt)
      ∧ VecWindow.window X ![0, 2, 0, 0] S1x1x2048x512.size inb_S1x3x2048x512_S1x1x2048x512_0_2_0_0 = k0_pay2 (accV m c (t.val + 1) t.isLt))

/-- The relation moves on by one point. -/
theorem Held.next (c : Dev nD) (t : Fin cfg0.N) (Y : Vec F S1x3x2048x512 .bf16)
    (h : t.val % 8 ≠ 0 → Held m c ⟨t.val - 1, Nat.lt_of_le_of_lt (Nat.sub_le _ _) t.isLt⟩ Y) :
    Held m c t (outNext (grid0.coords t) Y (dqAt m c t) (accK m c (t.val + 1) t.isLt) (accV m c (t.val + 1) t.isLt)) := by
  have hoff : ∀ s : Fin cfg0.N, k0_off3 (grid0.coords s) = ![0, 0, 256 * (s.val % 8), 0] := fun s => by rw [off3_eq, coords2]
  have hq : ∀ s : Fin cfg0.N, s.val ≤ t.val → s.val / 8 = t.val / 8 →
      VecWindow.window (VecWindow.put Y (k0_off3 (grid0.coords t)) S1x1x256x512.size (dqAt m c t)) (k0_off3 (grid0.coords s)) S1x1x256x512.size (k0_off3_inb (grid0.coords s)) = dqAt m c s := by
    intro s hs hg
    by_cases e : s = t
    · subst e; exact VecWindow.window_put_same _ _ _ _ _
    · have hlt : s.val < t.val := lt_of_le_of_ne hs fun h' => e (Fin.ext h')
      rw [VecWindow.window_put_of_disjoint (s := S1x3x2048x512) _ _ _ _ _ _ _ (2 : Fin 4) (by
        left; rw [hoff, hoff]; show 256 * (s.val % 8) + 256 ≤ 256 * (t.val % 8); omega)]
      exact (h (by omega)).1 s (by show s.val ≤ t.val - 1; omega) (by show s.val / 8 = (t.val - 1) / 8; omega)
  unfold outNext
  by_cases hl : last (grid0.coords t)
  · rw [if_pos hl]
    refine ⟨fun s hs hg => ?_, fun _ => ⟨?_, ?_⟩⟩
    · rw [VecWindow.window_put_of_disjoint (s := S1x3x2048x512) _ _ _ _ _ _ _ (1 : Fin 4) (by left; rw [hoff]; show 0 + 1 ≤ 2; omega),
        VecWindow.window_put_of_disjoint (s := S1x3x2048x512) _ _ _ _ _ _ _ (1 : Fin 4) (by left; rw [hoff]; show 0 + 1 ≤ 1; omega)]
      exact hq s hs hg
    · rw [VecWindow.window_put_of_disjoint (s := S1x3x2048x512) _ _ _ _ _ _ _ (1 : Fin 4) (by left; show 1 + 1 ≤ 2; omega)]
      exact VecWindow.window_put_same _ _ _ _ _
    · exact VecWindow.window_put_same _ _ _ _ _
  · rw [if_neg hl]
    exact ⟨hq, fun h7 => absurd ((last_iff t).mpr h7) hl⟩

/-- The two accumulators as whole buffers. -/
abbrev scK : Memref sig .tc .vmem S2048x512 .f32 := Memref.whole cc0_scratch0
abbrev scV : Memref sig .tc .vmem S2048x512 .f32 := Memref.whole cc0_scratch1

theorem entry_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

/-- The invariant before point `n`: the accumulators at their contents unless a column block begins there. -/
def Inv (c : Dev nD) (n : ℕ) (hn : n ≤ cfg0.N) : sProp 𝕄 :=
  iprop(iprop((∃ d, ⌜n % 8 ≠ 0 → d = accK m c n hn⌝ ∗ owns (c : Thread nD τ) scK fullShare d) ∗ (∃ d, ⌜n % 8 ≠ 0 → d = accV m c n hn⌝ ∗ owns (c : Thread nD τ) scV fullShare d)) ∗ (∃ r, prngReg c r))

/-- The proof data of the pipeline: each input's buffer at its block, the output's at anything (`Held` says what). -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- Only the output's window is held to a relation. -/
def marked (w : Fin cfg0.W) : Bool := match w with
  | ⟨7, _⟩ => true
  | _ => false

/-- The relation of the marked window. -/
def Rl (c : Dev nD) (w : Fin cfg0.W) (t : Fin cfg0.N) : ((cfg0.win w).block.Idx → Elt F (cfg0.win w).elt) → Prop :=
  match w with
  | ⟨7, _⟩ => fun X => Held m c t X
  | _ => fun _ => True

/-- The relational data. -/
def rdat (c : Dev nD) : Pipeline.RDat τ (Elt F) Unit ℕ (UR sig nD τ) ℕ cfg0 c := (dats m 0 c).toRRel marked (Rl m c)

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- What the output's buffer may hold when the body runs: at a point that does not begin a column block, what the point
    before left there. -/
theorem finds_out (c : Dev nD) (t : Fin cfg0.N) (Y : Vec F S1x3x2048x512 .bf16) (hY : (rdat m c).Finds 7 t Y) (h8 : t.val % 8 ≠ 0) :
    Held m c ⟨t.val - 1, Nat.lt_of_le_of_lt (Nat.sub_le _ _) t.isLt⟩ Y := by
  have hf : (cfg0.win 7).fetch t = false := by
    cases hh : (cfg0.win 7).fetch t
    · rfl
    · exact absurd hh (by rw [show (cfg0.win 7).fetch t = false from rfl]; exact Bool.false_ne_true)
  rcases ((rdat m c).finds_of_pos hf (by omega) Y).mp hY with h | h
  · exfalso
    have := (flush0_7 ⟨t.val - 1, Nat.lt_of_le_of_lt (Nat.sub_le _ _) t.isLt⟩).mp h
    have h' : (t.val - 1) % 8 = 7 := this
    omega
  · exact (dats m 0 c).toRRel_leaves (w := 7) rfl h

abbrev st0 (t : Fin cfg0.N) : Memref sig .tc .smem S16 .f32 := win0_0.stage (cfg0.slots t 0)
abbrev st1 (t : Fin cfg0.N) : Memref sig .tc .vmem S1x256x512 .bf16 := win0_1.stage (cfg0.slots t 1)
abbrev st2 (t : Fin cfg0.N) : Memref sig .tc .vmem S1x2048x512 .bf16 := win0_2.stage (cfg0.slots t 2)
abbrev st3 (t : Fin cfg0.N) : Memref sig .tc .vmem S1x2048x512 .bf16 := win0_3.stage (cfg0.slots t 3)
abbrev st4 (t : Fin cfg0.N) : Memref sig .tc .vmem S1x256x512 .bf16 := win0_4.stage (cfg0.slots t 4)
abbrev st5 (t : Fin cfg0.N) : Memref sig .tc .vmem S1x8x8x256 .f32 := win0_5.stage (cfg0.slots t 5)
abbrev st6 (t : Fin cfg0.N) : Memref sig .tc .vmem S1x8x8x256 .f32 := win0_6.stage (cfg0.slots t 6)
abbrev st7 (t : Fin cfg0.N) : Memref sig .tc .vmem S1x3x2048x512 .bf16 := win0_7.stage (cfg0.slots t 7)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ Y, ⌜(rdat m c).Finds 7 t Y⌝ ∗ owns (c : Thread nD τ) (st7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ (∃ X, ⌜Held m c t X⌝ ∗ owns (c : Thread nD τ) (st7 t) fullShare X))

theorem accK_succ (c : Dev nD) (t : Fin cfg0.N) (d : Vec F S2048x512 .f32) (h : t.val % 8 ≠ 0 → d = accK m c t.val (Nat.le_of_lt t.isLt)) :
    dkNext (grid0.coords t) (iblk m c 0 t) (iblk m c 1 t) (iblk m c 2 t) (iblk m c 3 t) (iblk m c 4 t) (iblk m c 5 t) (iblk m c 6 t) (if first (grid0.coords t) then k0_pay3 else d) = accK m c (t.val + 1) t.isLt := by
  show _ = dkNext (grid0.coords t) (iblk m c 0 t) (iblk m c 1 t) (iblk m c 2 t) (iblk m c 3 t) (iblk m c 4 t) (iblk m c 5 t) (iblk m c 6 t) (if first (grid0.coords t) then k0_pay3 else accK m c t.val (Nat.le_of_lt t.isLt))
  by_cases h0 : first (grid0.coords t)
  · rw [if_pos h0, if_pos h0]
  · rw [if_neg h0, if_neg h0, h fun e => h0 ((first_iff t).mpr e)]

theorem accV_succ (c : Dev nD) (t : Fin cfg0.N) (d : Vec F S2048x512 .f32) (h : t.val % 8 ≠ 0 → d = accV m c t.val (Nat.le_of_lt t.isLt)) :
    dvNext (grid0.coords t) (iblk m c 0 t) (iblk m c 1 t) (iblk m c 2 t) (iblk m c 4 t) (iblk m c 6 t) (if first (grid0.coords t) then k0_pay4 else d) = accV m c (t.val + 1) t.isLt := by
  show _ = dvNext (grid0.coords t) (iblk m c 0 t) (iblk m c 1 t) (iblk m c 2 t) (iblk m c 4 t) (iblk m c 6 t) (if first (grid0.coords t) then k0_pay4 else accV m c t.val (Nat.le_of_lt t.isLt))
  by_cases h0 : first (grid0.coords t)
  · rw [if_pos h0, if_pos h0]
  · rw [if_neg h0, if_neg h0, h fun e => h0 ((first_iff t).mpr e)]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl, after_0, after_1, after_2, after_3, after_4, after_5, after_6]
  rw [show (dats m 0 c).Φ t.succ = Inv m c (t.val + 1) t.isLt from rfl, show (dats m 0 c).Φ t.castSucc = Inv m c t.val (Nat.le_of_lt t.isLt) from rfl]
  unfold Inv
  iintro ⟨⟨⟨⟨%d8, %h8, H8⟩, ⟨%d9, %h9, H9⟩⟩, Hg⟩, Ho, ⟨%d0, H0⟩, ⟨%d1, H1⟩, ⟨%d2, H2⟩, ⟨%d3, H3⟩, ⟨%d4, H4⟩, ⟨%d5, H5⟩, ⟨%d6, H6⟩, ⟨%d7, %h7, H7⟩⟩
  iapply (step c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) d7 d8 d9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [accK_succ m c t d8 h8, accV_succ m c t d9 h9]
  iintro ⟨H0, H1, H2, H3, H4, H5, H6, H7, H8, H9⟩
  isplitl [H8 H9 Hg]
  · isplitl [H8 H9]
    · isplitl [H8]
      · iexists _; isplitr; · ipureintro; exact fun _ => rfl
        iexact H8
      iexists _; isplitr; · ipureintro; exact fun _ => rfl
      iexact H9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr
  swap; · iexact H7
  ipureintro
  exact Held.next m c t d7 (finds_out m c t d7 h7)

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, entry_eq]
  unfold Inv
  iintro ⟨⟨⟨%d8, H8⟩, ⟨%d9, H9⟩⟩, Hg⟩
  isplitl [H8 H9]
  · isplitl [H8]
    · iexists d8; isplitr; · ipureintro; exact fun h => absurd rfl h
      iexact H8
    iexists d9; isplitr; · ipureintro; exact fun h => absurd rfl h
    iexact H9
  iexact Hg

theorem hout (c : Dev nD) : (dats m 0 c).Φ (Fin.last cfg0.N) ⊢ Pipeline.ΦA spec0 c := by
  rw [show (dats m 0 c).Φ (Fin.last cfg0.N) = Inv m c cfg0.N (le_refl _) from rfl, entry_eq]
  unfold Inv
  iintro ⟨⟨⟨%d8, %h8, H8⟩, ⟨%d9, %h9, H9⟩⟩, Hg⟩
  isplitl [H8 H9]
  · isplitl [H8]
    · iexists d8; iexact H8
    iexists d9; iexact H9
  iexact Hg

set_option backward.isDefEq.respectTransparency.types false in
/-- The launch: every final state has the arrays as the relational data say, and every counter at zero. -/
theorem run_main : θ_run defs (onTc (τ := τ) (main (F := F))) (s₀ m ρ) (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main m ρ)

end Cert.KernelIdeal.Dil

end
-- ==== Proof.Dil.Bits.lean ====
/- The frame of the kernel as it is printed, from the frame of its idealized text: the two texts differ in one constant, which
   the idealized one takes from its reader. Read back as the printed number, the idealized text is the printed one. -/
module

public import proofs.«01_k».proof.Proof.Dil.Sound
public import proofs.«01_k».proof.Proof.Gen.Kernel
public import proofs.«01_k».proof.Defs
public import Idealize.ShloMosaic.Lib.Pipeline.Regions

@[expose] public section

set_option maxRecDepth 65536

noncomputable section

namespace Cert.Kernel.Dil

open Idealize.ShloMosaic Idealize.SL.Sem

/-- Every named constant read as the number that is printed for it. -/
abbrev asPrinted : Named Bits where
  named _ _ {φ} bits := Scalar.ofBits φ bits

/-- The frame of the printed text. -/
def Printed : Prop := ∀ (m : (ℓ : Loc nD τ sig) → Buf (Elt Bits) ℓ) (g : Dev nD → PrngReg),
  θ_run (defs (F := Bits)) (onTc (τ := τ) (main (F := Bits))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

/-- The frame of the idealized text, its named constants read as printed. -/
def Idealized : Prop := letI := asPrinted
  ∀ (m : (ℓ : Loc KernelIdeal.nD KernelIdeal.τ KernelIdeal.sig) → Buf (Elt Bits) ℓ) (g : Dev KernelIdeal.nD → PrngReg),
  θ_run (KernelIdeal.defs (F := Bits)) (onTc (τ := KernelIdeal.τ) (KernelIdeal.main (F := Bits))) ⟨m, fun _ => 0, g⟩ fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
    ∧ r.2.sem = fun _ => 0

theorem printed_eq : Printed = Idealized := by chain_rfl

theorem frame : Printed := printed_eq.mpr (letI := asPrinted; fun m g => Cert.KernelIdeal.Dil.frame (F := Bits) m g)

end Cert.Kernel.Dil

end
-- ==== Proof.Math.Softmax.lean ====
module

public import Idealize.ShloMosaic.Lib.Pointwise

@[expose] public section

noncomputable section

namespace Cert.Math

open Idealize.ShloMosaic

/-! Real numbers inside the extended reals: sums, quotients, and the logarithm of a sum of exponentials of scores of which
some are minus infinity. -/

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals. -/
theorem div_real (x y : ℝ) (h : y ≠ 0) : Ideal.div (x : EReal) (y : EReal) = ((x / y : ℝ) : EReal) := by
  rw [Ideal.div_coe h, ← EReal.coe_mul]; congr 1; ring

/-- A score: a real number where it counts and minus infinity elsewhere. -/
def score (v : Prop) [Decidable v] (r : ℝ) : EReal := if v then (r : EReal) else ⊥

/-- The exponential of a score, zero where it does not count. -/
def weight (v : Prop) [Decidable v] (r : ℝ) : ℝ := if v then Real.exp r else 0

theorem weight_nonneg (v : Prop) [Decidable v] (r : ℝ) : 0 ≤ weight v r := by
  unfold weight; split
  · exact (Real.exp_pos r).le
  · exact le_refl 0

theorem exp_score_sub (v : Prop) [Decidable v] (r M : ℝ) : Ideal.exp (score v r - (M : EReal)) = ((weight v r / Real.exp M : ℝ) : EReal) := by
  unfold score weight
  split
  · rw [← EReal.coe_sub, Ideal.exp_coe, Real.exp_sub]
  · rw [EReal.bot_sub, Ideal.exp_bot, zero_div, EReal.coe_zero]

/-- The greatest of finitely many scores, one of which is real, is real. -/
theorem fold_max_real {n : ℕ} (f : Fin n → EReal) (v : Fin n → Prop) [∀ j, Decidable (v j)] (r : Fin n → ℝ)
    (hf : ∀ j, f j = score (v j) (r j)) (hv : ∃ j, v j) : ∃ M : ℝ, Finset.univ.fold max ⊥ f = (M : EReal) := by
  have hsup : Finset.univ.fold max ⊥ f = Finset.univ.sup f := rfl
  obtain ⟨j, hj⟩ := hv
  have hne : (Finset.univ : Finset (Fin n)).Nonempty := ⟨j, Finset.mem_univ j⟩
  obtain ⟨k, _, hk⟩ := Finset.exists_mem_eq_sup Finset.univ hne f
  have hle : f j ≤ f k := hk ▸ Finset.le_sup (f := f) (Finset.mem_univ j)
  rw [hsup, hk]
  by_cases h : v k
  · exact ⟨r k, by rw [hf, score, if_pos h]⟩
  · exfalso
    rw [hf, hf, score, score, if_pos hj, if_neg h] at hle
    exact absurd (le_bot_iff.mp hle) (EReal.coe_ne_bot _)

/-- The logarithm of the sum of the exponentials of the scores, as it is computed about any real number `M`. -/
theorem log_sum_exp {n : ℕ} (f : Fin n → EReal) (v : Fin n → Prop) [∀ j, Decidable (v j)] (r : Fin n → ℝ)
    (hf : ∀ j, f j = score (v j) (r j)) (hv : ∃ j, v j) (M : ℝ) :
    Ideal.log (∑ j, Ideal.exp (f j - (M : EReal))) + (M : EReal) = ((Real.log (∑ j, weight (v j) (r j)) : ℝ) : EReal) := by
  have hZ : 0 < ∑ j, weight (v j) (r j) := by
    obtain ⟨j, hj⟩ := hv
    exact Finset.sum_pos' (fun i _ => weight_nonneg _ _) ⟨j, Finset.mem_univ j, by rw [weight, if_pos hj]; exact Real.exp_pos _⟩
  have hs : ∑ j, Ideal.exp (f j - (M : EReal)) = (((∑ j, weight (v j) (r j)) / Real.exp M : ℝ) : EReal) := by
    rw [Finset.sum_div, coe_sum]
    exact Finset.sum_congr rfl fun j _ => by rw [hf, exp_score_sub]
  rw [hs, Ideal.log_coe, if_neg (not_le.mpr (div_pos hZ (Real.exp_pos M))), ← EReal.coe_add, Real.log_div hZ.ne' (Real.exp_pos M).ne', Real.log_exp, sub_add_cancel]

/-- The exponential of a score less the logarithm of a positive number. -/
theorem exp_score_sub_log (v : Prop) [Decidable v] (r Z : ℝ) (hZ : 0 < Z) :
    Ideal.exp (score v r - ((Real.log Z : ℝ) : EReal)) = ((weight v r / Z : ℝ) : EReal) := by
  rw [exp_score_sub, Real.exp_log hZ]

theorem exp_log_sub (Z M : ℝ) (hZ : 0 < Z) : Ideal.exp (((Real.log Z : ℝ) : EReal) - (M : EReal)) = ((Z / Real.exp M : ℝ) : EReal) := by
  rw [← EReal.coe_sub, Ideal.exp_coe, Real.exp_sub, Real.exp_log hZ]

end Cert.Math

end
-- ==== Proof.Math.Grad.lean ====
module

public import proofs.«01_k».proof.Proof.Math.Softmax

@[expose] public section

noncomputable section

namespace Cert.Math

open Idealize.ShloMosaic

/-! The gradient of attention over three dilated neighbourhoods, in real numbers: the formulas that both programs compute.
Tokens are numbered 0 to 2047; `X` holds the queries, keys and values of each group, `Y` the gradient of the output. -/

/-- The dilation of a group: 1, 4, 16. -/
def dil (g : Fin 3) : ℕ := 4 ^ g.val

/-- The distance of two tokens. -/
def gap (i j : Fin 2048) : ℕ := (i.val - j.val) + (j.val - i.val)

/-- Whether token `i` attends token `j` in group `g`. -/
def valid (g : Fin 3) (i j : Fin 2048) : Prop := gap i j ≤ 64 * dil g ∧ i.val % dil g = j.val % dil g

instance (g : Fin 3) (i j : Fin 2048) : Decidable (valid g i j) := by unfold valid; infer_instance

theorem valid_self (g : Fin 3) (i : Fin 2048) : valid g i i := ⟨by unfold gap; omega, rfl⟩

variable (X : Fin 2048 → Fin 3 → Fin 3 → Fin 16 → Fin 64 → ℝ) (Y : Fin 2048 → Fin 16 → Fin 64 → ℝ) (sl : Fin 16 → ℝ)

/-- The score of query `i` against key `j`. -/
def sc (g : Fin 3) (h : Fin 16) (i j : Fin 2048) : ℝ := (∑ d, X i g 0 h d * (1 / 8) * X j g 1 h d) - sl h * (gap i j : ℝ)

/-- Its weight before normalisation. -/
def w (g : Fin 3) (h : Fin 16) (i j : Fin 2048) : ℝ := weight (valid g i j) (sc X sl g h i j)

/-- A group's sum of weights. -/
def Z (g : Fin 3) (h : Fin 16) (i : Fin 2048) : ℝ := ∑ j, w X sl g h i j

/-- The sum of all three groups. -/
def T (h : Fin 16) (i : Fin 2048) : ℝ := ∑ g, Z X sl g h i

/-- The probability. -/
def P (g : Fin 3) (h : Fin 16) (i j : Fin 2048) : ℝ := w X sl g h i j / T X sl h i

/-- The gradient of the probability before the normalisation is accounted for. -/
def dpv (g : Fin 3) (h : Fin 16) (i j : Fin 2048) : ℝ := ∑ d, Y i h d * X j g 2 h d

/-- The mean of that gradient under the probabilities. -/
def D (h : Fin 16) (i : Fin 2048) : ℝ := ∑ g, ∑ j, P X sl g h i j * dpv X Y g h i j

/-- The gradient of the score. -/
def dS (g : Fin 3) (h : Fin 16) (i j : Fin 2048) : ℝ := P X sl g h i j * (dpv X Y g h i j - D X Y sl h i)

/-- The gradient of the queries. -/
def dq (g : Fin 3) (h : Fin 16) (i : Fin 2048) (d : Fin 64) : ℝ := (∑ j, dS X Y sl g h i j * X j g 1 h d) * (1 / 8)

/-- The gradient of the keys. -/
def dk (g : Fin 3) (h : Fin 16) (j : Fin 2048) (d : Fin 64) : ℝ := ∑ i, dS X Y sl g h i j * (X i g 0 h d * (1 / 8))

/-- The gradient of the values. -/
def dv (g : Fin 3) (h : Fin 16) (j : Fin 2048) (d : Fin 64) : ℝ := ∑ i, P X sl g h i j * Y i h d

theorem w_pos (g : Fin 3) (h : Fin 16) (i : Fin 2048) : 0 < w X sl g h i i := by
  rw [w, weight, if_pos (valid_self g i)]; exact Real.exp_pos _

theorem w_of_not (g : Fin 3) (h : Fin 16) (i j : Fin 2048) (hv : ¬ valid g i j) : w X sl g h i j = 0 := by
  rw [w, weight, if_neg hv]

theorem P_of_not (g : Fin 3) (h : Fin 16) (i j : Fin 2048) (hv : ¬ valid g i j) : P X sl g h i j = 0 := by
  rw [P, w_of_not X sl g h i j hv, zero_div]

theorem dS_of_not (g : Fin 3) (h : Fin 16) (i j : Fin 2048) (hv : ¬ valid g i j) : dS X Y sl g h i j = 0 := by
  rw [dS, P_of_not X sl g h i j hv, zero_mul]

theorem Z_pos (g : Fin 3) (h : Fin 16) (i : Fin 2048) : 0 < Z X sl g h i :=
  Finset.sum_pos' (fun _ _ => weight_nonneg _ _) ⟨i, Finset.mem_univ i, w_pos X sl g h i⟩

theorem T_pos (h : Fin 16) (i : Fin 2048) : 0 < T X sl h i :=
  Finset.sum_pos (fun g _ => Z_pos X sl g h i) ⟨0, Finset.mem_univ 0⟩

/-- The mean of the gradient under one group's own probabilities. -/
def A (g : Fin 3) (h : Fin 16) (i : Fin 2048) : ℝ := ∑ j, dpv X Y g h i j * (w X sl g h i j / Z X sl g h i)

theorem sum_P_dpv (g : Fin 3) (h : Fin 16) (i : Fin 2048) :
    ∑ j, P X sl g h i j * dpv X Y g h i j = Z X sl g h i / T X sl h i * A X Y sl g h i := by
  have hZ := (Z_pos X sl g h i).ne'
  rw [A, Finset.mul_sum]
  refine Finset.sum_congr rfl fun j _ => ?_
  rw [P]; field_simp

theorem D_eq (h : Fin 16) (i : Fin 2048) : D X Y sl h i = ∑ g, Z X sl g h i / T X sl h i * A X Y sl g h i :=
  Finset.sum_congr rfl fun g _ => sum_P_dpv X Y sl g h i

/-- The gradient of the score as the reference reaches it: the softmax of the groups and the two logarithms are
    differentiated one after the other. `E`, `E'` are the exponentials of the maxima taken off first. -/
theorem dS_chain (g : Fin 3) (h : Fin 16) (i j : Fin 2048) (E E' : ℝ) (hE : E ≠ 0) (hE' : E' ≠ 0) :
    Z X sl g h i / T X sl h i * dpv X Y g h i j * (w X sl g h i j / Z X sl g h i)
      + ((A X Y sl g h i / (T X sl h i / E')
            + -∑ k, A X Y sl k h i * (1 / (T X sl h i / E' * (T X sl h i / E'))) * (Z X sl k h i / E')) * (Z X sl g h i / E')
          + ∑ k, -(Z X sl g h i / T X sl h i * dpv X Y g h i k * (w X sl g h i k / Z X sl g h i))) / (Z X sl g h i / E) * (w X sl g h i j / E)
      = dS X Y sl g h i j := by
  have hZ := (Z_pos X sl g h i).ne'
  have hT := (T_pos X sl h i).ne'
  have h1 : ∑ k, A X Y sl k h i * (1 / (T X sl h i / E' * (T X sl h i / E'))) * (Z X sl k h i / E') = D X Y sl h i * (E' / T X sl h i) := by
    rw [D_eq, Finset.sum_mul]
    refine Finset.sum_congr rfl fun k _ => ?_
    field_simp
  have h2 : ∑ k, -(Z X sl g h i / T X sl h i * dpv X Y g h i k * (w X sl g h i k / Z X sl g h i)) = -(Z X sl g h i / T X sl h i * A X Y sl g h i) := by
    rw [Finset.sum_neg_distrib, A, Finset.mul_sum]
    congr 1
    exact Finset.sum_congr rfl fun k _ => by ring
  rw [h1, h2, dS, P]
  field_simp
  ring

/-- One of the three gradients: of the queries, the keys or the values. -/
def out (g s : Fin 3) (h : Fin 16) (i : Fin 2048) (d : Fin 64) : ℝ :=
  if s.val = 0 then dq X Y sl g h i d else if s.val = 1 then dk X Y sl g h i d else dv X Y sl g h i d

/-- The token that row `r` of a group's ordering holds: the tokens of one residue after those of another. -/
def tok (g : Fin 3) (r : Fin 2048) : Fin 2048 :=
  ⟨r.val % (2048 / dil g) * dil g + r.val / (2048 / dil g), by
    have := r.isLt
    obtain rfl | rfl | rfl : g = 0 ∨ g = 1 ∨ g = 2 := by omega
    all_goals norm_num [dil]; omega⟩

/-- The queries, keys and values out of the packed projection. -/
def packedX (X0 : (⟨2, ![2048, 9216]⟩ : Shape).Idx → ℝ) : Fin 2048 → Fin 3 → Fin 3 → Fin 16 → Fin 64 → ℝ :=
  fun i g s h d => X0 (ix2 i ⟨g.val * 3072 + s.val * 1024 + h.val * 64 + d.val, by omega⟩)

/-- The gradient of the output, by head and lane. -/
def packedY (Y0 : (⟨2, ![2048, 1024]⟩ : Shape).Idx → ℝ) : Fin 2048 → Fin 16 → Fin 64 → ℝ :=
  fun i h d => Y0 (ix2 i ⟨h.val * 64 + d.val, by omega⟩)

end Cert.Math

end
-- ==== Proof.Math.Words.lean ====
module

public import proofs.«01_k».proof.Proof.Math.Grad

@[expose] public section

noncomputable section

namespace Cert.Math

open Idealize.ShloMosaic

/-! Small numbers as 32-bit words, and the constants of the two programs as real numbers. -/

theorem toNat_small (a : ℕ) (ha : a < 2 ^ 31) : (BitVec.ofNat 32 a).toNat = a := by
  rw [BitVec.toNat_ofNat]; exact Nat.mod_eq_of_lt (by omega)

theorem toInt_small (a : ℕ) (ha : a < 2 ^ 31) : (BitVec.ofNat 32 a).toInt = a := by
  rw [BitVec.toInt_eq_toNat_cond, toNat_small a ha]; split <;> omega

theorem msb_small (a : ℕ) (ha : a < 2 ^ 31) : (BitVec.ofNat 32 a).msb = false := by
  rw [BitVec.msb_eq_toInt, toInt_small a ha]; simp

theorem sub_small (a b : ℕ) (ha : a < 2 ^ 31) (hb : b ≤ a) : BitVec.ofNat 32 a - BitVec.ofNat 32 b = BitVec.ofNat 32 (a - b) := by
  apply BitVec.eq_of_toNat_eq
  rw [BitVec.toNat_sub, toNat_small a ha, toNat_small b (by omega), toNat_small (a - b) (by omega)]; omega

/-- The distance of two numbers, computed in words. -/
theorem abs_sub (a b : ℕ) (ha : a < 2 ^ 31) (hb : b < 2 ^ 31) :
    IntOp.absi (IntOp.subi (BitVec.ofNat 32 a) (BitVec.ofNat 32 b)) = BitVec.ofNat 32 ((a - b) + (b - a)) := by
  unfold IntOp.absi IntOp.subi
  by_cases h : b ≤ a
  · rw [sub_small a b ha h, msb_small _ (by omega), show a - b + (b - a) = a - b by omega]; simp
  · have e : BitVec.ofNat 32 a - BitVec.ofNat 32 b = -(BitVec.ofNat 32 (b - a)) := by
      apply BitVec.eq_of_toNat_eq
      rw [BitVec.toNat_neg, BitVec.toNat_sub, toNat_small a ha, toNat_small b hb, toNat_small _ (by omega)]; omega
    have hm : (-(BitVec.ofNat 32 (b - a))).msb = true := by
      rw [BitVec.msb_eq_toInt, BitVec.toInt_neg_of_ne_intMin, toInt_small _ (by omega)]
      · simp; omega
      · intro hc
        have := congrArg BitVec.toNat hc
        rw [toNat_small _ (by omega)] at this
        simp [BitVec.toNat_intMin] at this; omega
    rw [e, hm, show a - b + (b - a) = b - a by omega]; simp

theorem cmp_sle (a b : ℕ) (ha : a < 2 ^ 31) (hb : b < 2 ^ 31) :
    IntOp.cmpi .sle (BitVec.ofNat 32 a) (BitVec.ofNat 32 b) = BitVec.ofBool (decide (a ≤ b)) := by
  unfold IntOp.cmpi
  rw [BitVec.sle_eq_decide, toInt_small a ha, toInt_small b hb]; simp

theorem cmp_eq (a b : ℕ) (ha : a < 2 ^ 31) (hb : b < 2 ^ 31) :
    IntOp.cmpi .eq (BitVec.ofNat 32 a) (BitVec.ofNat 32 b) = BitVec.ofBool (decide (a = b)) := by
  unfold IntOp.cmpi
  congr 1
  rw [Bool.eq_iff_iff, beq_iff_eq, decide_eq_true_iff]
  exact ⟨fun h => by have := congrArg BitVec.toNat h; rwa [toNat_small a ha, toNat_small b hb] at this, fun h => h ▸ rfl⟩

/-- The remainder by a power of two, computed by a mask. -/
theorem and_mask (a k : ℕ) (ha : a < 2 ^ 31) (hk : k < 31) :
    IntOp.andi (BitVec.ofNat 32 a) (BitVec.ofNat 32 (2 ^ k - 1)) = BitVec.ofNat 32 (a % 2 ^ k) := by
  have hp : 2 ^ k < 2 ^ 31 := Nat.pow_lt_pow_right (by norm_num) hk
  have hm : a % 2 ^ k ≤ a := Nat.mod_le _ _
  unfold IntOp.andi
  apply BitVec.eq_of_toNat_eq
  rw [BitVec.toNat_and, toNat_small a ha, toNat_small _ (by omega), toNat_small _ (by omega), Nat.and_two_pow_sub_one_eq_mod]

theorem and_ofBool (p q : Bool) : IntOp.andi (BitVec.ofBool p) (BitVec.ofBool q) = BitVec.ofBool (p && q) := by
  cases p <;> cases q <;> rfl

theorem select_ofBool {α : Type} (p : Prop) [Decidable p] (a b : α) : Scalar.select (BitVec.ofBool (decide p)) a b = if p then a else b := by
  unfold Scalar.select
  by_cases h : p <;> simp [h]

theorem bits_neg_inf : Ideal.ofBits .f32 0xFF800000#32 = (⊥ : EReal) := by
  simp [Ideal.ofBits, Ideal.ieee]

theorem bits_two : Ideal.ofBits .f32 0x40000000#32 = ((2 : ℝ) : EReal) := by
  simp [Ideal.ofBits, Ideal.ieee, -EReal.coe_mul]; norm_num

theorem bits_neg_eight : Ideal.ofBits .f32 0xC1000000#32 = ((-8 : ℝ) : EReal) := by
  simp [Ideal.ofBits, Ideal.ieee, -EReal.coe_mul, -EReal.coe_neg]; norm_num

theorem bits_sixteen : Ideal.ofBits .f32 0x41800000#32 = ((16 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

theorem bits_eighth_bf16 : Ideal.ofBits .bf16 0x3E00#16 = ((1 / 8 : ℝ) : EReal) := by
  simp [Ideal.ofBits, Ideal.ieee, -EReal.coe_mul]; norm_num

/-- The slope of a head. -/
def slope (h : Fin 16) : ℝ := Real.rpow 2 (-8 * (1 + ((h.val : ℕ) : ℝ)) / 16)

theorem slope_pos (h : Fin 16) : 0 < slope h := Real.rpow_pos_of_pos (by norm_num) _

/-- The slope as both programs compute it. -/
theorem slope_eq (h : Fin 16) :
    Ideal.pow (Ideal.ofBits .f32 0x40000000#32)
      (Ideal.div (Ideal.ofBits .f32 0xC1000000#32 * (1 + FloatOps.sitofp (F := Ideal) .f32 (BitVec.ofNat 32 h.val))) (Ideal.ofBits .f32 0x41800000#32))
      = ((slope h : ℝ) : EReal) := by
  have e : (FloatOps.sitofp (F := Ideal) .f32 (BitVec.ofNat 32 h.val) : EReal) = (((h.val : ℕ) : ℝ) : EReal) := by
    show (((BitVec.ofNat 32 h.val).toInt : ℝ) : EReal) = _
    rw [toInt_small _ (by omega)]; simp
  rw [e, bits_two, bits_neg_eight, bits_sixteen, ← EReal.coe_one, ← EReal.coe_add, ← EReal.coe_mul, div_real _ _ (by norm_num), Ideal.pow_coe_coe]
  rfl

theorem sitofp_small (a : ℕ) (ha : a < 2 ^ 31) : (FloatOps.sitofp (F := Ideal) .f32 (BitVec.ofNat 32 a) : EReal) = (((a : ℕ) : ℝ) : EReal) := by
  show (((BitVec.ofNat 32 a).toInt : ℝ) : EReal) = _
  rw [toInt_small _ ha]; simp

end Cert.Math

end
-- ==== Proof.Math.Band.lean ====
module

public import proofs.«01_k».proof.Proof.Math.Grad

@[expose] public section

noncomputable section

namespace Cert.Math

/-! The order in which the kernel keeps a group's tokens: the tokens of each residue class next to one another. In that
order a row attends only rows at most 64 away, so 256 rows see only a window of 384. -/

/-- Whether row `r` attends row `r'` of group `g`: at most 64 apart and in the same residue class. -/
def near (g : Fin 3) (r r' : ℕ) : Prop := (r - r') + (r' - r) ≤ 64 ∧ r / (2048 / dil g) = r' / (2048 / dil g)

instance (g : Fin 3) (r r' : ℕ) : Decidable (near g r r') := by unfold near; infer_instance

theorem cases3 (g : Fin 3) : g = 0 ∨ g = 1 ∨ g = 2 := by omega

theorem tok_val (g : Fin 3) (r : Fin 2048) : (tok g r).val = r.val % (2048 / dil g) * dil g + r.val / (2048 / dil g) := rfl

theorem dil0 : dil 0 = 1 := rfl
theorem dil1 : dil 1 = 4 := rfl
theorem dil2 : dil 2 = 16 := rfl

/-- The arithmetic behind it: `q` the residue class, `m` the place in it, `k` the dilation and `L` the length of a class. -/
theorem class_iff (k L m q m' q' : ℕ) (hk : 0 < k) (hL : 64 < L) (hm : m < L) (hm' : m' < L) (hq : q < k) (hq' : q' < k) :
    ((m * k + q - (m' * k + q') + (m' * k + q' - (m * k + q)) ≤ 64 * k ∧ (m * k + q) % k = (m' * k + q') % k)
      ↔ (L * q + m - (L * q' + m') + (L * q' + m' - (L * q + m)) ≤ 64 ∧ q = q')) := by
  rw [Nat.add_comm (m * k), Nat.add_comm (m' * k), Nat.add_mul_mod_self_right, Nat.add_mul_mod_self_right, Nat.mod_eq_of_lt hq, Nat.mod_eq_of_lt hq']
  refine and_congr_left fun h => ?_
  subst h
  rw [Nat.add_sub_add_left, Nat.add_sub_add_left, ← Nat.sub_mul, ← Nat.sub_mul, ← Nat.add_mul, Nat.add_sub_add_left, Nat.add_sub_add_left]
  exact Nat.mul_le_mul_right_iff hk

theorem valid_tok (g : Fin 3) (r r' : Fin 2048) : valid g (tok g r) (tok g r') ↔ near g r.val r'.val := by
  have hd : 0 < dil g ∧ 64 < 2048 / dil g ∧ 2048 / dil g * dil g = 2048 := by
    obtain rfl | rfl | rfl := cases3 g
    · decide
    · decide
    · decide
  obtain ⟨h1, h2, h3⟩ := hd
  have hq : ∀ r : Fin 2048, r.val / (2048 / dil g) < dil g := fun r => (Nat.div_lt_iff_lt_mul (by omega)).mpr (by rw [Nat.mul_comm, h3]; exact r.isLt)
  have e := class_iff (dil g) (2048 / dil g) (r.val % (2048 / dil g)) (r.val / (2048 / dil g)) (r'.val % (2048 / dil g)) (r'.val / (2048 / dil g)) h1 h2
    (Nat.mod_lt _ (by omega)) (Nat.mod_lt _ (by omega)) (hq r) (hq r')
  rw [Nat.div_add_mod, Nat.div_add_mod] at e
  exact e

theorem gap_tok (g : Fin 3) (r r' : Fin 2048) (h : near g r.val r'.val) : gap (tok g r) (tok g r') = dil g * ((r.val - r'.val) + (r'.val - r.val)) := by
  obtain ⟨h1, h2⟩ := h
  have e1 := Nat.div_add_mod r.val (2048 / dil g)
  have e2 := Nat.div_add_mod r'.val (2048 / dil g)
  unfold gap
  rw [tok_val, tok_val, ← h2]
  rw [← h2] at e2
  have e3 : r.val - r'.val = r.val % (2048 / dil g) - r'.val % (2048 / dil g) := by omega
  have e4 : r'.val - r.val = r'.val % (2048 / dil g) - r.val % (2048 / dil g) := by omega
  rw [Nat.add_sub_add_right, Nat.add_sub_add_right, ← Nat.sub_mul, ← Nat.sub_mul, ← Nat.add_mul, e3, e4, Nat.mul_comm]

theorem tok_injective (g : Fin 3) : Function.Injective (tok g) := fun r r' h => by
  have h' := (valid_tok g r r').mp (by rw [h]; exact valid_self g _)
  have e := gap_tok g r r' h'
  rw [h] at e
  have e0 : gap (tok g r') (tok g r') = 0 := by unfold gap; omega
  have hd : dil g ≠ 0 := pow_ne_zero _ (by norm_num)
  rw [e0] at e
  have := (Nat.mul_eq_zero.mp e.symm).resolve_left hd
  exact Fin.ext (by omega)

/-- A sum over tokens may be taken in the kernel's order. -/
theorem sum_tok (g : Fin 3) (f : Fin 2048 → ℝ) : ∑ r, f (tok g r) = ∑ i, f i :=
  Function.Bijective.sum_comp (Finite.injective_iff_bijective.mp (tok_injective g)) f

/-- The first row of the window of block `b`: 64 rows before the block, kept inside the array. -/
def win (b : ℕ) : ℕ := min 1664 (256 * b - 64)

/-- Row `a` of block `b`. -/
def rowB (b : Fin 8) (a : Fin 256) : Fin 2048 := ⟨256 * b.val + a.val, by omega⟩

/-- Row `j` of the window of block `b`. -/
def rowW (b : Fin 8) (j : Fin 384) : Fin 2048 := ⟨win b.val + j.val, by unfold win; omega⟩

/-- What a block's rows do not see is outside its window. -/
theorem not_near (g : Fin 3) (b : Fin 8) (a : Fin 256) (r' : Fin 2048) (h : ¬ (win b.val ≤ r'.val ∧ r'.val < win b.val + 384)) : ¬ near g (rowB b a).val r'.val := by
  unfold near rowB win at *
  rintro ⟨h1, _⟩
  simp only at h1
  omega

theorem sum_window (b : Fin 8) (f : Fin 2048 → ℝ) (h0 : ∀ r : Fin 2048, ¬ (win b.val ≤ r.val ∧ r.val < win b.val + 384) → f r = 0) :
    ∑ j, f (rowW b j) = ∑ r, f r := by
  refine Fintype.sum_of_injective (rowW b) (fun i j h => ?_) _ _ (fun r hr => h0 r fun ⟨h1, h2⟩ => hr ⟨⟨r.val - win b.val, by omega⟩, Fin.ext ?_⟩) (fun _ => rfl)
  · have h' := congrArg Fin.val h
    unfold rowW at h'
    exact Fin.ext (by simp only at h'; omega)
  · show win b.val + (r.val - win b.val) = r.val
    omega

/-- The sum over the rows below `n`. -/
def upto (n : ℕ) (f : Fin 2048 → ℝ) : ℝ := ∑ r, if r.val < n then f r else 0

theorem upto_zero (f : Fin 2048 → ℝ) : upto 0 f = 0 := by simp [upto]

theorem upto_all (f : Fin 2048 → ℝ) : upto 2048 f = ∑ r, f r :=
  Finset.sum_congr rfl fun r _ => if_pos r.isLt

theorem upto_block (b : Fin 8) (f : Fin 2048 → ℝ) : upto (256 * (b.val + 1)) f = upto (256 * b.val) f + ∑ a, f (rowB b a) := by
  have h : ∑ a, f (rowB b a) = ∑ r : Fin 2048, if 256 * b.val ≤ r.val ∧ r.val < 256 * (b.val + 1) then f r else 0 := by
    refine Fintype.sum_of_injective (rowB b) (fun i j h => ?_) _ _ (fun r hr => if_neg fun h => hr ⟨⟨r.val - 256 * b.val, by omega⟩, Fin.ext ?_⟩) (fun a => (if_pos ?_).symm)
    · have h' := congrArg Fin.val h
      unfold rowB at h'
      exact Fin.ext (by simp only at h'; omega)
    · show 256 * b.val + (r.val - 256 * b.val) = r.val
      omega
    · unfold rowB
      simp only
      omega
  rw [h, upto, upto, ← Finset.sum_add_distrib]
  refine Finset.sum_congr rfl fun r _ => ?_
  by_cases h1 : r.val < 256 * b.val
  · rw [if_pos (by omega), if_pos h1, if_neg (by omega), add_zero]
  · by_cases h2 : r.val < 256 * (b.val + 1)
    · rw [if_pos h2, if_neg h1, if_pos (by omega), zero_add]
    · rw [if_neg h2, if_neg h1, if_neg (by omega), zero_add]

end Cert.Math

end
-- ==== Proof.Val.Lanes.lean ====
module

public import proofs.«01_k».proof.Proof.Dil.Block
public import proofs.«01_k».proof.Proof.Math.Words
public import proofs.«01_k».proof.Proof.Math.Band
public import Idealize.ShloMosaic.Lib.Pointwise

@[expose] public section

set_option maxRecDepth 65536

noncomputable section

namespace Cert.KernelIdeal.Val

open Cert.KernelIdeal Cert.KernelIdeal.Gen Cert.KernelIdeal.Dil Idealize.ShloMosaic Idealize.ShloMosaic.TcCoe Cert.Math

/-! The parts of a block that one head works on, and the mask, element by element. -/

/-- The group, the half of the heads and the block of rows of a grid point. -/
abbrev gOf (i : grid0.Coords) : Fin 3 := i 0
abbrev pOf (i : grid0.Coords) : Fin 2 := i 1
abbrev bOf (i : grid0.Coords) : Fin 8 := i 2

/-- Head `h` of half `p`. -/
def hd (p : Fin 2) (h : Fin 8) : Fin 16 := ⟨8 * p.val + h.val, by omega⟩

/-- Lane `d` of head `h` among the 512 lanes of a half. -/
def ln (h : Fin 8) (d : Fin 64) : Fin 512 := ⟨64 * h.val + d.val, by omega⟩

theorem add_small (a b : ℕ) : IntOp.addi (BitVec.ofNat 32 a) (BitVec.ofNat 32 b) = BitVec.ofNat 32 (a + b) := (BitVec.ofNat_add a b).symm

/-- A shift of a small number to the right. -/
theorem shr_small (u : ArithUnit) (a k : ℕ) (ha : a < 2 ^ 31) (hk : k < 32) : IntOp.shrsi u (BitVec.ofNat 32 a) (BitVec.ofNat 32 k) = BitVec.ofNat 32 (a / 2 ^ k) := by
  have hd : a / 2 ^ k ≤ a := Nat.div_le_self _ _
  unfold IntOp.shrsi
  rw [toNat_small k (by omega), if_pos hk, BitVec.sshiftRight', toNat_small k (by omega), BitVec.sshiftRight_eq_of_msb_false (msb_small a ha)]
  apply BitVec.eq_of_toNat_eq
  rw [BitVec.toNat_ushiftRight, toNat_small a ha, toNat_small _ (by omega), Nat.shiftRight_eq_div_pow]

theorem win_word : ∀ b : Fin 8, Scalar.minsi 1664#32 (Scalar.maxsi 0#32 (Scalar.subi (Scalar.muli (BitVec.ofNat 32 b.val) 256#32) 64#32)) = BitVec.ofNat 32 (win b.val) := by
  decide +kernel

theorem mul_word : ∀ b : Fin 8, Scalar.muli (BitVec.ofNat 32 b.val) 256#32 = BitVec.ofNat 32 (256 * b.val) := by decide +kernel

theorem shift_word : ∀ g : Fin 3, Scalar.subi (11#32) (Scalar.muli (2#32) (BitVec.ofNat 32 g.val)) = BitVec.ofNat 32 (11 - 2 * g.val) := by decide +kernel

theorem dil_word : ∀ g : Fin 3, Scalar.shli (1#32) (Scalar.muli (2#32) (BitVec.ofNat 32 g.val)) = BitVec.ofNat 32 (dil g) := by decide +kernel

theorem class_len : ∀ g : Fin 3, 2 ^ (11 - 2 * g.val) = 2048 / dil g := by decide

/-- The dilation as the kernel computes it. -/
theorem pay6_at (i : grid0.Coords) : k0_pay6 (F := Ideal) i = ((((dil (gOf i) : ℕ) : ℝ)) : EReal) := by
  unfold k0_pay6
  dsimp only
  have h := dil_word (gOf i)
  have hs : dil (gOf i) < 2 ^ 31 := by
    obtain h | h | h := cases3 (gOf i)
    · rw [h]; decide
    · rw [h]; decide
    · rw [h]; decide
  show FloatOps.sitofp (F := Ideal) .f32 (Scalar.shli (1#32) (Scalar.muli (2#32) (BitVec.ofNat 32 (gOf i).val))) = _
  rw [h, sitofp_small _ hs]

/-- The mask: minus the distance of two rows where one attends the other, minus infinity elsewhere. -/
theorem pay5_at (i : grid0.Coords) (j : Fin 384) (a : Fin 256) : k0_pay5 (F := Ideal) i (ix2 j a)
    = if near (gOf i) (rowB (bOf i) a).val (rowW (bOf i) j).val
      then ((-((((rowB (bOf i) a).val - (rowW (bOf i) j).val) + ((rowW (bOf i) j).val - (rowB (bOf i) a).val) : ℕ) : ℝ) : ℝ) : EReal) else ⊥ := by
  pointwise [k0_pay5]
  have h1 := win_word (bOf i)
  have h2 := mul_word (bOf i)
  have h3 := shift_word (gOf i)
  have hr : 256 * (bOf i).val + a.val < 2048 := (rowB (bOf i) a).isLt
  have hw : win (bOf i).val + j.val < 2048 := (rowW (bOf i) j).isLt
  rw [h1, h2, h3, add_small, add_small, abs_sub _ _ (by omega) (by omega), shr_small _ _ _ (by omega) (by omega), shr_small _ _ _ (by omega) (by omega), class_len,
    show (64#32) = BitVec.ofNat 32 64 from rfl, cmp_sle _ _ (by omega) (by omega),
    cmp_eq _ _ (lt_of_le_of_lt (Nat.div_le_self _ _) (by omega)) (lt_of_le_of_lt (Nat.div_le_self _ _) (by omega)),
    and_ofBool, ← Bool.decide_and, select_ofBool, sitofp_small _ (by omega), zero_sub, ← EReal.coe_neg]
  rfl

theorem laneQ_at (h : Fin 8) (x : FVec Ideal S256x512 .bf16) (a : Fin 256) (d : Fin 64) : laneQ h x (ix2 a d) = x (ix2 a (ln h d)) := by
  unfold laneQ
  pointwise
  rfl

theorem laneK_at (h : Fin 8) (x : FVec Ideal S384x512 .bf16) (j : Fin 384) (d : Fin 64) : laneK h x (ix2 j d) = x (ix2 j (ln h d)) := by
  unfold laneK
  pointwise
  rfl

theorem rowsQ_at (x : Vec Ideal S1x256x512 .bf16) (a : Fin 256) (c : Fin 512) : rowsQ x (ix2 a c) = x (ix3 0 a c) := by
  unfold rowsQ
  pointwise
  unfold VecWindow.window
  refine congrArg x (funext fun k => Fin.ext ?_)
  show _ + 1 * _ = _
  fin_cases k
  · rfl
  · show 0 + 1 * a.val = a.val; omega
  · show 0 + 1 * c.val = c.val; omega

theorem castK_at (w : FVec Ideal S1x384x512 .bf16) (j : Fin 384) (c : Fin 512) : shapeCast S384x512 w shapeCasts_S1x384x512_S384x512 (ix2 j c) = w (ix3 0 j c) := by
  pointwise

theorem rowsK_at (i : grid0.Coords) (x : Vec Ideal S1x2048x512 .bf16) (j : Fin 384) (c : Fin 512) : rowsK i x (ix2 j c) = x (ix3 0 (rowW (bOf i) j) c) := by
  unfold rowsK
  rw [castK_at]
  unfold VecWindow.window
  refine congrArg x (funext fun k => Fin.ext ?_)
  show k0_off1 i k + 1 * ((ix3 0 j c : S1x384x512.Idx) k).val = _
  refine (congrArg (· + _) (congrFun (off1_eq i) k)).trans ?_
  fin_cases k
  · rfl
  · show Dil.start _ + 1 * j.val = win _ + j.val
    rw [Nat.one_mul]; rfl
  · show 0 + 1 * c.val = c.val; omega

theorem rowOf_at (x : Vec Ideal S1x8x8x256 .f32) (h : Fin 8) (a : Fin 256) : rowOf x h (ix4 0 0 0 a) = x (ix4 0 h 0 a) := by
  unfold rowOf VecWindow.window
  refine congrArg x (funext fun k => Fin.ext ?_)
  show _ + 1 * _ = _
  fin_cases k
  · rfl
  · show h.val + 1 * 0 = h.val; omega
  · rfl
  · show 0 + 1 * a.val = a.val; omega

theorem slopeOf_at (i : grid0.Coords) (x : Vec Ideal S16 .f32) (h : Fin 8) : slopeOf i x h = x (ix1 (hd (pOf i) h)) := by
  unfold slopeOf VecWindow.window
  have ho : k0_off2 i (BitVec.ofNat 32 h.val) 0 = 8 * (i 1).val + h.val := congrFun (off2_eq i h) 0
  refine congrArg x (funext fun k => Fin.ext ?_)
  fin_cases k
  show k0_off2 i (BitVec.ofNat 32 h.val) 0 + 1 * 0 = 8 * (i 1).val + h.val
  omega

end Cert.KernelIdeal.Val

end
-- ==== Proof.Val.Heads.lean ====
module

public import proofs.«01_k».proof.Proof.Val.Lanes

@[expose] public section

set_option maxRecDepth 65536

noncomputable section

namespace Cert.KernelIdeal.Val

open Cert.KernelIdeal Cert.KernelIdeal.Gen Cert.KernelIdeal.Dil Idealize.ShloMosaic Idealize.ShloMosaic.TcCoe Cert.Math

/-! What one head computes at a grid point, in real numbers. -/

variable (X : Fin 2048 → Fin 3 → Fin 3 → Fin 16 → Fin 64 → ℝ) (Y : Fin 2048 → Fin 16 → Fin 64 → ℝ)

/-- The blocks of a grid point hold their parts of the queries, keys and values, of the gradient of the output, and of
    the two statistics, all in the kernel's order of the tokens. -/
structure Holds (i : grid0.Coords) (x0 : Vec Ideal S16 .f32) (x1 : Vec Ideal S1x256x512 .bf16) (x2 x3 : Vec Ideal S1x2048x512 .bf16) (x4 : Vec Ideal S1x256x512 .bf16)
    (x5 x6 : Vec Ideal S1x8x8x256 .f32) : Prop where
  slopes : ∀ h : Fin 16, x0 (ix1 h) = ((slope h : ℝ) : EReal)
  queries : ∀ (a : Fin 256) (h : Fin 8) (d : Fin 64), x1 (ix3 0 a (ln h d)) = ((X (tok (gOf i) (rowB (bOf i) a)) (gOf i) 0 (hd (pOf i) h) d : ℝ) : EReal)
  keys : ∀ (r : Fin 2048) (h : Fin 8) (d : Fin 64), x2 (ix3 0 r (ln h d)) = ((X (tok (gOf i) r) (gOf i) 1 (hd (pOf i) h) d : ℝ) : EReal)
  values : ∀ (r : Fin 2048) (h : Fin 8) (d : Fin 64), x3 (ix3 0 r (ln h d)) = ((X (tok (gOf i) r) (gOf i) 2 (hd (pOf i) h) d : ℝ) : EReal)
  grads : ∀ (a : Fin 256) (h : Fin 8) (d : Fin 64), x4 (ix3 0 a (ln h d)) = ((Y (tok (gOf i) (rowB (bOf i) a)) (hd (pOf i) h) d : ℝ) : EReal)
  means : ∀ (a : Fin 256) (h : Fin 8), x5 (ix4 0 h 0 a) = ((D X Y slope (hd (pOf i) h) (tok (gOf i) (rowB (bOf i) a)) : ℝ) : EReal)
  logs : ∀ (a : Fin 256) (h : Fin 8), x6 (ix4 0 h 0 a) = ((Real.log (T X slope (hd (pOf i) h) (tok (gOf i) (rowB (bOf i) a))) : ℝ) : EReal)

theorem headP_at (nd : FVec Ideal S384x256 .f32) (dil sl : Ideal .f32) (k : FVec Ideal S384x64 .bf16) (q : FVec Ideal S256x64 .bf16) (lse : Vec Ideal S1x1x1x256 .f32)
    (j : Fin 384) (a : Fin 256) (v : Prop) [Decidable v] (n δ σ t : ℝ) (K Q : Fin 64 → ℝ) (hnd : nd (ix2 j a) = if v then ((-n : ℝ) : EReal) else ⊥)
    (hdil : dil = (δ : EReal)) (hsl : sl = (σ : EReal)) (hpos : 0 < σ * δ) (hk : ∀ d, k (ix2 j d) = (K d : EReal)) (hq : ∀ d, q (ix2 a d) = (Q d : EReal))
    (hl : lse (ix4 0 0 0 a) = ((Real.log t : ℝ) : EReal)) (ht : 0 < t) :
    headP nd dil sl k q lse (ix2 j a) = ((weight v ((∑ d, Q d * (1 / 8) * K d) - σ * (δ * n)) / t : ℝ) : EReal) := by
  pointwise [headP, headQ]
  simp only [hk, hq, hl, hdil, hsl, hnd, bits_eighth_bf16, ← EReal.coe_mul, ← coe_sum]
  rw [← exp_score_sub_log _ _ _ ht]
  refine congrArg (fun e => Ideal.exp (e - ((Real.log t : ℝ) : EReal))) ?_
  unfold score
  split
  · rw [← EReal.coe_mul, ← EReal.coe_add]
    refine congrArg (fun r : ℝ => (r : EReal)) ?_
    rw [sub_eq_add_neg]
    refine congrArg₂ (· + ·) (Finset.sum_congr rfl fun d _ => by ring) (by ring)
  · rw [EReal.coe_mul_bot_of_pos hpos, EReal.add_bot]

theorem headS_at (p : FVec Ideal S384x256 .f32) (v : FVec Ideal S384x64 .bf16) (d : FVec Ideal S256x64 .bf16) (dd : Vec Ideal S1x1x1x256 .f32)
    (j : Fin 384) (a : Fin 256) (p0 m : ℝ) (V E : Fin 64 → ℝ) (hp : p (ix2 j a) = (p0 : EReal)) (hv : ∀ l, v (ix2 j l) = (V l : EReal)) (hd : ∀ l, d (ix2 a l) = (E l : EReal))
    (hm : dd (ix4 0 0 0 a) = (m : EReal)) : headS p v d dd (ix2 j a) = ((p0 * ((∑ l, E l * V l) - m) : ℝ) : EReal) := by
  pointwise [headS]
  simp only [hp, hv, hd, hm, ← EReal.coe_mul, ← coe_sum, ← EReal.coe_sub]
  refine congrArg (fun r : ℝ => ((p0 * (r - m) : ℝ) : EReal)) (Finset.sum_congr rfl fun l _ => mul_comm _ _)

theorem headDq_at (k : FVec Ideal S384x64 .bf16) (ds : FVec Ideal S384x256 .bf16) (a : Fin 256) (d : Fin 64) (K S : Fin 384 → ℝ)
    (hk : ∀ j, k (ix2 j d) = (K j : EReal)) (hs : ∀ j, ds (ix2 j a) = (S j : EReal)) : headDq k ds (ix2 a d) = (((∑ j, S j * K j) * (1 / 8) : ℝ) : EReal) := by
  pointwise [headDq]
  simp only [hk, hs, bits_eighth, ← EReal.coe_mul, ← coe_sum]
  refine congrArg (fun r : ℝ => ((r * (1 / 8) : ℝ) : EReal)) (Finset.sum_congr rfl fun l _ => mul_comm _ _)

theorem headDkv_at (s : FVec Ideal S384x256 .bf16) (b : FVec Ideal S256x64 .bf16) (j : Fin 384) (d : Fin 64) (S B : Fin 256 → ℝ)
    (hs : ∀ a, s (ix2 j a) = (S a : EReal)) (hb : ∀ a, b (ix2 a d) = (B a : EReal)) : headDkv s b (ix2 j d) = ((∑ a, S a * B a : ℝ) : EReal) := by
  pointwise [headDkv]
  simp only [hs, hb, ← EReal.coe_mul, ← coe_sum]

theorem headQ_at (q : FVec Ideal S256x64 .bf16) (a : Fin 256) (d : Fin 64) (r : ℝ) (h : q (ix2 a d) = (r : EReal)) : headQ q (ix2 a d) = ((r * (1 / 8) : ℝ) : EReal) := by
  pointwise [headQ]
  rw [h, bits_eighth_bf16, ← EReal.coe_mul]

variable {X Y}
variable {i : grid0.Coords} {x0 : Vec Ideal S16 .f32} {x1 : Vec Ideal S1x256x512 .bf16} {x2 x3 : Vec Ideal S1x2048x512 .bf16} {x4 : Vec Ideal S1x256x512 .bf16} {x5 x6 : Vec Ideal S1x8x8x256 .f32}
variable (H : Holds X Y i x0 x1 x2 x3 x4 x5 x6)

include H

theorem q_at (h : Fin 8) (a : Fin 256) (d : Fin 64) : laneQ h (rowsQ x1) (ix2 a d) = ((X (tok (gOf i) (rowB (bOf i) a)) (gOf i) 0 (hd (pOf i) h) d : ℝ) : EReal) := by
  rw [laneQ_at, rowsQ_at, H.queries]

theorem o_at (h : Fin 8) (a : Fin 256) (d : Fin 64) : laneQ h (rowsQ x4) (ix2 a d) = ((Y (tok (gOf i) (rowB (bOf i) a)) (hd (pOf i) h) d : ℝ) : EReal) := by
  rw [laneQ_at, rowsQ_at, H.grads]

theorem k_at (h : Fin 8) (j : Fin 384) (d : Fin 64) : laneK h (rowsK i x2) (ix2 j d) = ((X (tok (gOf i) (rowW (bOf i) j)) (gOf i) 1 (hd (pOf i) h) d : ℝ) : EReal) := by
  rw [laneK_at, rowsK_at, H.keys]

theorem v_at (h : Fin 8) (j : Fin 384) (d : Fin 64) : laneK h (rowsK i x3) (ix2 j d) = ((X (tok (gOf i) (rowW (bOf i) j)) (gOf i) 2 (hd (pOf i) h) d : ℝ) : EReal) := by
  rw [laneK_at, rowsK_at, H.values]

/-- The probabilities. -/
theorem probs_at (h : Fin 8) (j : Fin 384) (a : Fin 256) : probs i x0 x1 x2 x6 h (ix2 j a)
    = ((P X slope (gOf i) (hd (pOf i) h) (tok (gOf i) (rowB (bOf i) a)) (tok (gOf i) (rowW (bOf i) j)) : ℝ) : EReal) := by
  have hd0 : (0 : ℝ) < ((dil (gOf i) : ℕ) : ℝ) := by
    have : 0 < dil (gOf i) := pow_pos (by norm_num) _
    exact_mod_cast this
  have e := headP_at (k0_pay5 i) (k0_pay6 i) (slopeOf i x0 h) (laneK h (rowsK i x2)) (laneQ h (rowsQ x1)) (rowOf x6 h) j a _ _ _ _ _ _ _
    (pay5_at i j a) (pay6_at i) ((slopeOf_at i x0 h).trans (H.slopes _)) (mul_pos (slope_pos _) hd0) (k_at H h j) (q_at H h a) ((rowOf_at x6 h a).trans (H.logs a h))
    (T_pos X slope _ _)
  refine Eq.trans e (congrArg (fun r : ℝ => (r : EReal)) ?_)
  unfold P w weight
  by_cases hn : near (gOf i) (rowB (bOf i) a).val (rowW (bOf i) j).val
  · rw [if_pos hn, if_pos ((valid_tok _ _ _).mpr hn)]
    unfold sc
    rw [gap_tok _ _ _ hn, Nat.cast_mul]
  · rw [if_neg hn, if_neg fun hv => hn ((valid_tok _ _ _).mp hv)]

/-- The gradient of the scores. -/
theorem dscores_at (h : Fin 8) (j : Fin 384) (a : Fin 256) : dscores i x0 x1 x2 x3 x4 x5 x6 h (ix2 j a)
    = ((dS X Y slope (gOf i) (hd (pOf i) h) (tok (gOf i) (rowB (bOf i) a)) (tok (gOf i) (rowW (bOf i) j)) : ℝ) : EReal) :=
  headS_at _ _ _ _ j a _ _ _ _ (probs_at H h j a) (v_at H h j) (o_at H h a) ((rowOf_at x5 h a).trans (H.means a h))

/-- The gradient of the queries: what lies outside the window adds nothing. -/
theorem dqHead_at (h : Fin 8) (a : Fin 256) (d : Fin 64) : dqHead i x0 x1 x2 x3 x4 x5 x6 h (ix2 a d)
    = ((dq X Y slope (gOf i) (hd (pOf i) h) (tok (gOf i) (rowB (bOf i) a)) d : ℝ) : EReal) := by
  refine Eq.trans (headDq_at _ _ a d _ _ (fun j => k_at H h j d) (fun j => dscores_at H h j a)) (congrArg (fun r : ℝ => ((r * (1 / 8) : ℝ) : EReal)) ?_)
  rw [← sum_tok (gOf i)]
  refine sum_window (bOf i) (fun r => dS X Y slope (gOf i) (hd (pOf i) h) (tok (gOf i) (rowB (bOf i) a)) (tok (gOf i) r) * X (tok (gOf i) r) (gOf i) 1 (hd (pOf i) h) d) fun r hr => ?_
  show dS _ _ _ _ _ _ _ * _ = 0
  rw [dS_of_not _ _ _ _ _ _ _ fun hv => not_near (gOf i) (bOf i) a r hr ((valid_tok _ _ _).mp hv), zero_mul]

/-- What the block adds to the gradient of a key, -/
theorem dkHead_at (h : Fin 8) (j : Fin 384) (d : Fin 64) : dkHead i x0 x1 x2 x3 x4 x5 x6 h (ix2 j d)
    = ((∑ a, dS X Y slope (gOf i) (hd (pOf i) h) (tok (gOf i) (rowB (bOf i) a)) (tok (gOf i) (rowW (bOf i) j))
        * (X (tok (gOf i) (rowB (bOf i) a)) (gOf i) 0 (hd (pOf i) h) d * (1 / 8)) : ℝ) : EReal) :=
  headDkv_at _ _ j d _ _ (fun a => dscores_at H h j a) (fun a => headQ_at _ a d _ (q_at H h a d))

/-- and to the gradient of a value. -/
theorem dvHead_at (h : Fin 8) (j : Fin 384) (d : Fin 64) : dvHead i x0 x1 x2 x4 x6 h (ix2 j d)
    = ((∑ a, P X slope (gOf i) (hd (pOf i) h) (tok (gOf i) (rowB (bOf i) a)) (tok (gOf i) (rowW (bOf i) j))
        * Y (tok (gOf i) (rowB (bOf i) a)) (hd (pOf i) h) d : ℝ) : EReal) :=
  headDkv_at _ _ j d _ _ (fun a => probs_at H h j a) (fun a => o_at H h a d)

end Cert.KernelIdeal.Val

end
-- ==== Proof.Val.Rows.lean ====
module

public import proofs.«01_k».proof.Proof.Val.Heads

@[expose] public section

set_option maxRecDepth 65536

noncomputable section

namespace Cert.KernelIdeal.Val

open Cert.KernelIdeal Cert.KernelIdeal.Gen Cert.KernelIdeal.Dil Idealize.ShloMosaic Idealize.ShloMosaic.TcCoe Cert.Math

/-! The eight heads of a grid point side by side, and one step of each accumulator. -/

/-- Eight heads of 256 rows side by side. -/
theorem eightQ_at (f : Fin 8 → FVec Ideal S256x64 .f32) (a : Fin 256) (h : Fin 8) (d : Fin 64) :
    concatenate S256x512 1 [⟨S256x64, f 0⟩, ⟨S256x64, f 1⟩, ⟨S256x64, f 2⟩, ⟨S256x64, f 3⟩, ⟨S256x64, f 4⟩, ⟨S256x64, f 5⟩, ⟨S256x64, f 6⟩, ⟨S256x64, f 7⟩]
      concatenates_S256x64_S256x64_S256x64_S256x64_S256x64_S256x64_S256x64_S256x64_S256x512_d1 (ix2 a (ln h d)) = f h (ix2 a d) := by
  generalize hc : ln h d = c
  have hv : c.val = 64 * h.val + d.val := by rw [← hc]; rfl
  have key : ∀ (k : Fin 8) (e : Fin 64), k.val = h.val → e.val = d.val → f k (ix2 a e) = f h (ix2 a d) := fun k e h1 h2 => by rw [Fin.ext h1, Fin.ext h2]
  pointwise
  split
  · exact key 0 _ (by show 0 = h.val; omega) (by show c.val = d.val; omega)
  split
  · exact key 1 _ (by show 1 = h.val; omega) (by show c.val - 64 = d.val; omega)
  split
  · exact key 2 _ (by show 2 = h.val; omega) (by show c.val - 64 - 64 = d.val; omega)
  split
  · exact key 3 _ (by show 3 = h.val; omega) (by show c.val - 64 - 64 - 64 = d.val; omega)
  split
  · exact key 4 _ (by show 4 = h.val; omega) (by show c.val - 64 - 64 - 64 - 64 = d.val; omega)
  split
  · exact key 5 _ (by show 5 = h.val; omega) (by show c.val - 64 - 64 - 64 - 64 - 64 = d.val; omega)
  split
  · exact key 6 _ (by show 6 = h.val; omega) (by show c.val - 64 - 64 - 64 - 64 - 64 - 64 = d.val; omega)
  exact key 7 _ (by show 7 = h.val; omega) (by show c.val - 64 - 64 - 64 - 64 - 64 - 64 - 64 = d.val; omega)

/-- Eight heads of 384 rows side by side. -/
theorem eightK_at (f : Fin 8 → FVec Ideal S384x64 .f32) (a : Fin 384) (h : Fin 8) (d : Fin 64) :
    concatenate S384x512 1 [⟨S384x64, f 0⟩, ⟨S384x64, f 1⟩, ⟨S384x64, f 2⟩, ⟨S384x64, f 3⟩, ⟨S384x64, f 4⟩, ⟨S384x64, f 5⟩, ⟨S384x64, f 6⟩, ⟨S384x64, f 7⟩]
      concatenates_S384x64_S384x64_S384x64_S384x64_S384x64_S384x64_S384x64_S384x64_S384x512_d1 (ix2 a (ln h d)) = f h (ix2 a d) := by
  generalize hc : ln h d = c
  have hv : c.val = 64 * h.val + d.val := by rw [← hc]; rfl
  have key : ∀ (k : Fin 8) (e : Fin 64), k.val = h.val → e.val = d.val → f k (ix2 a e) = f h (ix2 a d) := fun k e h1 h2 => by rw [Fin.ext h1, Fin.ext h2]
  pointwise
  split
  · exact key 0 _ (by show 0 = h.val; omega) (by show c.val = d.val; omega)
  split
  · exact key 1 _ (by show 1 = h.val; omega) (by show c.val - 64 = d.val; omega)
  split
  · exact key 2 _ (by show 2 = h.val; omega) (by show c.val - 64 - 64 = d.val; omega)
  split
  · exact key 3 _ (by show 3 = h.val; omega) (by show c.val - 64 - 64 - 64 = d.val; omega)
  split
  · exact key 4 _ (by show 4 = h.val; omega) (by show c.val - 64 - 64 - 64 - 64 = d.val; omega)
  split
  · exact key 5 _ (by show 5 = h.val; omega) (by show c.val - 64 - 64 - 64 - 64 - 64 = d.val; omega)
  split
  · exact key 6 _ (by show 6 = h.val; omega) (by show c.val - 64 - 64 - 64 - 64 - 64 - 64 = d.val; omega)
  exact key 7 _ (by show 7 = h.val; omega) (by show c.val - 64 - 64 - 64 - 64 - 64 - 64 - 64 = d.val; omega)

/-- What the accumulators hold after a put of 384 rows. -/
theorem put_at (i : grid0.Coords) (xs : Vec Ideal S2048x512 .f32) (w : FVec Ideal S384x512 .f32) (r : Fin 2048) (c : Fin 512) :
    VecWindow.put xs (k0_off4 i) S384x512.size w (ix2 r c)
      = if h : win (bOf i).val ≤ r.val ∧ r.val < win (bOf i).val + 384 then w (ix2 ⟨r.val - win (bOf i).val, by omega⟩ c) else xs (ix2 r c) := by
  have h0 : k0_off4 i 0 = win (bOf i).val := congrFun (off4_eq i) 0
  have h1 : k0_off4 i 1 = 0 := congrFun (off4_eq i) 1
  unfold VecWindow.put
  by_cases h : win (bOf i).val ≤ r.val ∧ r.val < win (bOf i).val + 384
  · rw [dif_pos h, dif_pos (fun k => by
      fin_cases k
      · show k0_off4 i 0 ≤ r.val ∧ r.val < k0_off4 i 0 + 384; rw [h0]; exact h
      · show k0_off4 i 1 ≤ c.val ∧ c.val < k0_off4 i 1 + 512; rw [h1]; omega)]
    refine congrArg w (funext fun k => Fin.ext ?_)
    fin_cases k
    · show r.val - k0_off4 i 0 = r.val - win (bOf i).val; rw [h0]
    · show c.val - k0_off4 i 1 = c.val; rw [h1]; omega
  · rw [dif_neg h, dif_neg (fun hall => h (by
      have := hall (0 : Fin 2)
      have e : k0_off4 i 0 ≤ r.val ∧ r.val < k0_off4 i 0 + 384 := this
      rwa [h0] at e))]

theorem window_at (i : grid0.Coords) (xs : Vec Ideal S2048x512 .f32) (j : Fin 384) (c : Fin 512) :
    VecWindow.window xs (k0_off4 i) S384x512.size (k0_off4_inb i) (ix2 j c) = xs (ix2 (rowW (bOf i) j) c) := by
  unfold VecWindow.window
  refine congrArg xs (funext fun k => Fin.ext ?_)
  show k0_off4 i k + 1 * ((ix2 j c : S384x512.Idx) k).val = _
  refine (congrArg (· + _) (congrFun (off4_eq i) k)).trans ?_
  fin_cases k
  · show Dil.start _ + 1 * j.val = win _ + j.val
    rw [Nat.one_mul]; rfl
  · show 0 + 1 * c.val = c.val; omega

/-- One step of an accumulator: rows inside the window gain the block's contribution. -/
theorem step_at (i : grid0.Coords) (xs : Vec Ideal S2048x512 .f32) (w : FVec Ideal S384x512 .f32) (r : Fin 2048) (c : Fin 512) (A : ℝ) (f : Fin 384 → ℝ) (B : ℝ)
    (hA : xs (ix2 r c) = (A : EReal)) (hf : ∀ j, w (ix2 j c) = (f j : EReal)) (hin : ∀ j, rowW (bOf i) j = r → f j = B)
    (hout : ¬ (win (bOf i).val ≤ r.val ∧ r.val < win (bOf i).val + 384) → B = 0) :
    VecWindow.put xs (k0_off4 i) S384x512.size (shapeCast S384x512 (addf (VecWindow.window xs (k0_off4 i) S384x512.size (k0_off4_inb i)) w) shapeCasts_S384x512_S384x512) (ix2 r c)
      = ((A + B : ℝ) : EReal) := by
  rw [shapeCast_self, put_at]
  split
  · rename_i h
    have hr : rowW (bOf i) ⟨r.val - win (bOf i).val, by omega⟩ = r := Fin.ext (by show win _ + (r.val - win _) = r.val; omega)
    show VecWindow.window xs (k0_off4 i) S384x512.size (k0_off4_inb i) (ix2 _ c) + w (ix2 _ c) = _
    rw [window_at, hr, hA, hf, hin _ hr, ← EReal.coe_add]
  · rename_i h
    rw [hA, hout h, add_zero]

section
variable {X : Fin 2048 → Fin 3 → Fin 3 → Fin 16 → Fin 64 → ℝ} {Y : Fin 2048 → Fin 16 → Fin 64 → ℝ}
variable {i : grid0.Coords} {x0 : Vec Ideal S16 .f32} {x1 : Vec Ideal S1x256x512 .bf16} {x2 x3 : Vec Ideal S1x2048x512 .bf16} {x4 : Vec Ideal S1x256x512 .bf16} {x5 x6 : Vec Ideal S1x8x8x256 .f32}
variable (H : Holds X Y i x0 x1 x2 x3 x4 x5 x6)

include H

/-- What the point stores into the output block. -/
theorem dqBlock_at (a : Fin 256) (h : Fin 8) (d : Fin 64) : dqBlock i x0 x1 x2 x3 x4 x5 x6 (ix4 0 0 a (ln h d))
    = ((dq X Y slope (gOf i) (hd (pOf i) h) (tok (gOf i) (rowB (bOf i) a)) d : ℝ) : EReal) := by
  have e : dqBlock i x0 x1 x2 x3 x4 x5 x6 (ix4 0 0 a (ln h d)) = dqRows i x0 x1 x2 x3 x4 x5 x6 (ix2 a (ln h d)) := by
    pointwise [dqBlock]
  rw [e]
  exact (eightQ_at (fun h => dqHead i x0 x1 x2 x3 x4 x5 x6 h) a h d).trans (dqHead_at H h a d)

/-- The accumulator of the keys after the point. -/
theorem dkNext_at (xs : Vec Ideal S2048x512 .f32) (r : Fin 2048) (h : Fin 8) (d : Fin 64) (A : ℝ) (hA : xs (ix2 r (ln h d)) = (A : EReal)) :
    dkNext i x0 x1 x2 x3 x4 x5 x6 xs (ix2 r (ln h d))
      = ((A + ∑ a, dS X Y slope (gOf i) (hd (pOf i) h) (tok (gOf i) (rowB (bOf i) a)) (tok (gOf i) r) * (X (tok (gOf i) (rowB (bOf i) a)) (gOf i) 0 (hd (pOf i) h) d * (1 / 8)) : ℝ) : EReal) := by
  refine step_at i xs _ r (ln h d) A _ _ hA (fun j => (eightK_at (fun h => dkHead i x0 x1 x2 x3 x4 x5 x6 h) j h d).trans (dkHead_at H h j d)) (fun j hj => by rw [hj])
    fun hr => Finset.sum_eq_zero fun a _ => ?_
  rw [dS_of_not _ _ _ _ _ _ _ fun hv => not_near (gOf i) (bOf i) a r hr ((valid_tok _ _ _).mp hv), zero_mul]

/-- The accumulator of the values after the point. -/
theorem dvNext_at (xs : Vec Ideal S2048x512 .f32) (r : Fin 2048) (h : Fin 8) (d : Fin 64) (A : ℝ) (hA : xs (ix2 r (ln h d)) = (A : EReal)) :
    dvNext i x0 x1 x2 x4 x6 xs (ix2 r (ln h d))
      = ((A + ∑ a, P X slope (gOf i) (hd (pOf i) h) (tok (gOf i) (rowB (bOf i) a)) (tok (gOf i) r) * Y (tok (gOf i) (rowB (bOf i) a)) (hd (pOf i) h) d : ℝ) : EReal) := by
  refine step_at i xs _ r (ln h d) A _ _ hA (fun j => (eightK_at (fun h => dvHead i x0 x1 x2 x4 x6 h) j h d).trans (dvHead_at H h j d)) (fun j hj => by rw [hj])
    fun hr => Finset.sum_eq_zero fun a _ => ?_
  rw [P_of_not _ _ _ _ _ _ fun hv => not_near (gOf i) (bOf i) a r hr ((valid_tok _ _ _).mp hv), zero_mul]

end

end Cert.KernelIdeal.Val

end
-- ==== Proof.Val.Sums.lean ====
module

public import proofs.«01_k».proof.Proof.Val.Rows
public import proofs.«01_k».proof.Proof.Dil.Sound

@[expose] public section

set_option maxRecDepth 65536

noncomputable section

namespace Cert.KernelIdeal.Val

open Cert.KernelIdeal Cert.KernelIdeal.Gen Cert.KernelIdeal.Dil Idealize.ShloMosaic Idealize.ShloMosaic.TcCoe Cert.Math

/-! The two accumulators after the points of a column block: sums over the rows seen so far. -/

variable (m : (ℓ : Loc nD τ sig) → Buf (Elt Ideal) ℓ) (c : Dev nD)
variable {X : Fin 2048 → Fin 3 → Fin 3 → Fin 16 → Fin 64 → ℝ} {Y : Fin 2048 → Fin 16 → Fin 64 → ℝ}

/-- The blocks at a grid point. -/
abbrev HoldsAt (X : Fin 2048 → Fin 3 → Fin 3 → Fin 16 → Fin 64 → ℝ) (Y : Fin 2048 → Fin 16 → Fin 64 → ℝ) (t : Fin cfg0.N) : Prop :=
  Holds X Y (grid0.coords t) (iblk m c 0 t) (iblk m c 1 t) (iblk m c 2 t) (iblk m c 3 t) (iblk m c 4 t) (iblk m c 5 t) (iblk m c 6 t)

theorem pay3_at (r : Fin 2048) (e : Fin 512) : k0_pay3 (F := Ideal) (ix2 r e) = ((0 : ℝ) : EReal) := by
  pointwise [k0_pay3]
  rfl

theorem pay4_at (r : Fin 2048) (e : Fin 512) : k0_pay4 (F := Ideal) (ix2 r e) = ((0 : ℝ) : EReal) := by
  pointwise [k0_pay4]
  rfl

theorem coords_pred (t s : Fin cfg0.N) (h : s.val + 1 = t.val) (h8 : t.val % 8 ≠ 0) : gOf (grid0.coords s) = gOf (grid0.coords t) ∧ pOf (grid0.coords s) = pOf (grid0.coords t) :=
  ⟨Fin.ext (by rw [coords0, coords0]; omega), Fin.ext (by rw [coords1, coords1]; omega)⟩

variable (H : ∀ t, HoldsAt m c X Y t)

/-- What a query row adds to the gradient of a key. -/
def termK (X : Fin 2048 → Fin 3 → Fin 3 → Fin 16 → Fin 64 → ℝ) (Y : Fin 2048 → Fin 16 → Fin 64 → ℝ) (g : Fin 3) (h : Fin 16) (d : Fin 64) (r q : Fin 2048) : ℝ :=
  dS X Y slope g h (tok g q) (tok g r) * (X (tok g q) g 0 h d * (1 / 8))

/-- What a query row adds to the gradient of a value. -/
def termV (X : Fin 2048 → Fin 3 → Fin 3 → Fin 16 → Fin 64 → ℝ) (Y : Fin 2048 → Fin 16 → Fin 64 → ℝ) (g : Fin 3) (h : Fin 16) (d : Fin 64) (r q : Fin 2048) : ℝ :=
  P X slope g h (tok g q) (tok g r) * Y (tok g q) h d

theorem bOf_val (t : Fin cfg0.N) : (bOf (grid0.coords t)).val = t.val % 8 := coords2 t

include H in
/-- One point of the accumulator of the keys. -/
theorem accK_step (r : Fin 2048) (h : Fin 8) (d : Fin 64) (t : Fin cfg0.N) (xs : Vec Ideal S2048x512 .f32)
    (hxs : xs (ix2 r (ln h d)) = ((upto (256 * (t.val % 8)) (termK X Y (gOf (grid0.coords t)) (hd (pOf (grid0.coords t)) h) d r) : ℝ) : EReal)) :
    dkNext (grid0.coords t) (iblk m c 0 t) (iblk m c 1 t) (iblk m c 2 t) (iblk m c 3 t) (iblk m c 4 t) (iblk m c 5 t) (iblk m c 6 t) xs (ix2 r (ln h d))
      = ((upto (256 * (t.val % 8 + 1)) (termK X Y (gOf (grid0.coords t)) (hd (pOf (grid0.coords t)) h) d r) : ℝ) : EReal) := by
  refine (dkNext_at (H t) xs r h d _ hxs).trans (congrArg (fun r : ℝ => (r : EReal)) ?_)
  rw [← bOf_val t, upto_block]
  rfl

include H in
/-- The accumulator of the keys. -/
theorem accK_at (r : Fin 2048) (h : Fin 8) (d : Fin 64) : ∀ (n : ℕ) (hn : n < cfg0.N), accK m c (n + 1) hn (ix2 r (ln h d))
    = ((upto (256 * (n % 8 + 1)) (termK X Y (gOf (grid0.coords ⟨n, hn⟩)) (hd (pOf (grid0.coords ⟨n, hn⟩)) h) d r) : ℝ) : EReal) := by
  intro n
  induction n with
  | zero =>
    intro hn
    refine accK_step m c H r h d ⟨0, hn⟩ _ ?_
    rw [if_pos ((first_iff ⟨0, hn⟩).mpr rfl), pay3_at, show 256 * ((⟨0, hn⟩ : Fin cfg0.N).val % 8) = 0 from rfl, upto_zero]
  | succ n ih =>
    intro hn
    refine accK_step m c H r h d ⟨n + 1, hn⟩ _ ?_
    by_cases h8 : (n + 1) % 8 = 0
    · rw [if_pos ((first_iff ⟨n + 1, hn⟩).mpr h8), pay3_at, show 256 * ((⟨n + 1, hn⟩ : Fin cfg0.N).val % 8) = 0 from by show 256 * ((n + 1) % 8) = 0; omega, upto_zero]
    · obtain ⟨e1, e2⟩ := coords_pred ⟨n + 1, hn⟩ ⟨n, by omega⟩ rfl h8
      rw [if_neg fun e => h8 ((first_iff ⟨n + 1, hn⟩).mp e), ih (by omega), e1, e2, show 256 * ((⟨n + 1, hn⟩ : Fin cfg0.N).val % 8) = 256 * (n % 8 + 1) from by show 256 * ((n + 1) % 8) = _; omega]

include H in
/-- One point of the accumulator of the values. -/
theorem accV_step (r : Fin 2048) (h : Fin 8) (d : Fin 64) (t : Fin cfg0.N) (xs : Vec Ideal S2048x512 .f32)
    (hxs : xs (ix2 r (ln h d)) = ((upto (256 * (t.val % 8)) (termV X Y (gOf (grid0.coords t)) (hd (pOf (grid0.coords t)) h) d r) : ℝ) : EReal)) :
    dvNext (grid0.coords t) (iblk m c 0 t) (iblk m c 1 t) (iblk m c 2 t) (iblk m c 4 t) (iblk m c 6 t) xs (ix2 r (ln h d))
      = ((upto (256 * (t.val % 8 + 1)) (termV X Y (gOf (grid0.coords t)) (hd (pOf (grid0.coords t)) h) d r) : ℝ) : EReal) := by
  refine (dvNext_at (H t) xs r h d _ hxs).trans (congrArg (fun r : ℝ => (r : EReal)) ?_)
  rw [← bOf_val t, upto_block]
  rfl

include H in
/-- The accumulator of the values. -/
theorem accV_at (r : Fin 2048) (h : Fin 8) (d : Fin 64) : ∀ (n : ℕ) (hn : n < cfg0.N), accV m c (n + 1) hn (ix2 r (ln h d))
    = ((upto (256 * (n % 8 + 1)) (termV X Y (gOf (grid0.coords ⟨n, hn⟩)) (hd (pOf (grid0.coords ⟨n, hn⟩)) h) d r) : ℝ) : EReal) := by
  intro n
  induction n with
  | zero =>
    intro hn
    refine accV_step m c H r h d ⟨0, hn⟩ _ ?_
    rw [if_pos ((first_iff ⟨0, hn⟩).mpr rfl), pay4_at, show 256 * ((⟨0, hn⟩ : Fin cfg0.N).val % 8) = 0 from rfl, upto_zero]
  | succ n ih =>
    intro hn
    refine accV_step m c H r h d ⟨n + 1, hn⟩ _ ?_
    by_cases h8 : (n + 1) % 8 = 0
    · rw [if_pos ((first_iff ⟨n + 1, hn⟩).mpr h8), pay4_at, show 256 * ((⟨n + 1, hn⟩ : Fin cfg0.N).val % 8) = 0 from by show 256 * ((n + 1) % 8) = 0; omega, upto_zero]
    · obtain ⟨e1, e2⟩ := coords_pred ⟨n + 1, hn⟩ ⟨n, by omega⟩ rfl h8
      rw [if_neg fun e => h8 ((first_iff ⟨n + 1, hn⟩).mp e), ih (by omega), e1, e2, show 256 * ((⟨n + 1, hn⟩ : Fin cfg0.N).val % 8) = 256 * (n % 8 + 1) from by show 256 * ((n + 1) % 8) = _; omega]

include H in
/-- After the last point of a column block: the gradient of the keys, -/
theorem dk_at (r : Fin 2048) (h : Fin 8) (d : Fin 64) (t : Fin cfg0.N) (h7 : t.val % 8 = 7) : accK m c (t.val + 1) t.isLt (ix2 r (ln h d))
    = ((dk X Y slope (gOf (grid0.coords t)) (hd (pOf (grid0.coords t)) h) (tok (gOf (grid0.coords t)) r) d : ℝ) : EReal) := by
  refine (accK_at m c H r h d t.val t.isLt).trans (congrArg (fun r : ℝ => (r : EReal)) ?_)
  rw [h7, show 256 * (7 + 1) = 2048 from rfl, upto_all]
  exact sum_tok (gOf (grid0.coords t)) (fun i => dS X Y slope (gOf (grid0.coords t)) (hd (pOf (grid0.coords t)) h) i (tok (gOf (grid0.coords t)) r) * (X i (gOf (grid0.coords t)) 0 (hd (pOf (grid0.coords t)) h) d * (1 / 8)))

include H in
/-- and of the values. -/
theorem dv_at (r : Fin 2048) (h : Fin 8) (d : Fin 64) (t : Fin cfg0.N) (h7 : t.val % 8 = 7) : accV m c (t.val + 1) t.isLt (ix2 r (ln h d))
    = ((dv X Y slope (gOf (grid0.coords t)) (hd (pOf (grid0.coords t)) h) (tok (gOf (grid0.coords t)) r) d : ℝ) : EReal) := by
  refine (accV_at m c H r h d t.val t.isLt).trans (congrArg (fun r : ℝ => (r : EReal)) ?_)
  rw [h7, show 256 * (7 + 1) = 2048 from rfl, upto_all]
  exact sum_tok (gOf (grid0.coords t)) (fun i => P X slope (gOf (grid0.coords t)) (hd (pOf (grid0.coords t)) h) i (tok (gOf (grid0.coords t)) r) * Y i (hd (pOf (grid0.coords t)) h) d)

end Cert.KernelIdeal.Val

end
-- ==== Proof.Host.Ops.lean ====
/- The host operations before the region, in windows of thirty. -/
module

public import proofs.«01_k».proof.Proof.Gen.KernelIdeal.Frame
public import Idealize.ShloMosaic.Lib.StableHlo.Run

@[expose] public section

set_option Elab.async false

noncomputable section

namespace Cert.KernelIdeal.Host

open Cert.KernelIdeal Cert.KernelIdeal.Gen Idealize.ShloMosaic Idealize.ShloMosaic.TcCoe Idealize.SL.Sem Idealize.ShloMosaic.StableHlo

/-- A buffer's contents, by its shape and its element type. -/
abbrev Arr (F : FTy → Type) (s : Shape) (e : EltTy) : Type := (⟨s, e⟩ : BufTy).Contents (Elt F)

variable {F : FTy → Type} [FloatOps F]

/-- The operation that writes `main_v133`, its operands as plain arguments. -/
def fn_main_v133 : (main_v130 : Ref sig .tc).ty.Contents (Elt F) → (main_v131 : Ref sig .tc).ty.Contents (Elt F) → (main_v132 : Ref sig .tc).ty.Contents (Elt F) → (main_v133 : Ref sig .tc).ty.Contents (Elt F) :=
  (fun u0 u1 u2 => (concatenate S3x16x2048x2048 0 [⟨S1x16x2048x2048, (u0 : Arr F S1x16x2048x2048 .f32)⟩, ⟨S1x16x2048x2048, (u1 : Arr F S1x16x2048x2048 .f32)⟩, ⟨S1x16x2048x2048, (u2 : Arr F S1x16x2048x2048 .f32)⟩] concatenates_S1x16x2048x2048_S1x16x2048x2048_S1x16x2048x2048_S3x16x2048x2048_d0 : Arr F S3x16x2048x2048 .f32))

/-- The operation that writes `main_v195`, its operands as plain arguments. -/
def fn_main_v195 : (main_v192 : Ref sig .tc).ty.Contents (Elt F) → (main_v193 : Ref sig .tc).ty.Contents (Elt F) → (main_v194 : Ref sig .tc).ty.Contents (Elt F) → (main_v195 : Ref sig .tc).ty.Contents (Elt F) :=
  (fun u0 u1 u2 => (concatenate S3x2048x3072 0 [⟨S1x2048x3072, (u0 : Arr F S1x2048x3072 .f32)⟩, ⟨S1x2048x3072, (u1 : Arr F S1x2048x3072 .f32)⟩, ⟨S1x2048x3072, (u2 : Arr F S1x2048x3072 .f32)⟩] concatenates_S1x2048x3072_S1x2048x3072_S1x2048x3072_S3x2048x3072_d0 : Arr F S3x2048x3072 .f32))

/-- The operation that writes `main_v209`, its operands as plain arguments. -/
def fn_main_v209 : (main_v206 : Ref sig .tc).ty.Contents (Elt F) → (main_v207 : Ref sig .tc).ty.Contents (Elt F) → (main_v208 : Ref sig .tc).ty.Contents (Elt F) → (main_v209 : Ref sig .tc).ty.Contents (Elt F) :=
  (fun u0 u1 u2 => (concatenate S3x2048x1024 0 [⟨S1x2048x1024, (u0 : Arr F S1x2048x1024 .f32)⟩, ⟨S1x2048x1024, (u1 : Arr F S1x2048x1024 .f32)⟩, ⟨S1x2048x1024, (u2 : Arr F S1x2048x1024 .f32)⟩] concatenates_S1x2048x1024_S1x2048x1024_S1x2048x1024_S3x2048x1024_d0 : Arr F S3x2048x1024 .f32))

/-- The operation that writes `main_v223`, its operands as plain arguments. -/
def fn_main_v223 : (main_v220 : Ref sig .tc).ty.Contents (Elt F) → (main_v221 : Ref sig .tc).ty.Contents (Elt F) → (main_v222 : Ref sig .tc).ty.Contents (Elt F) → (main_v223 : Ref sig .tc).ty.Contents (Elt F) :=
  (fun u0 u1 u2 => (concatenate S3x2048x16 0 [⟨S1x2048x16, (u0 : Arr F S1x2048x16 .f32)⟩, ⟨S1x2048x16, (u1 : Arr F S1x2048x16 .f32)⟩, ⟨S1x2048x16, (u2 : Arr F S1x2048x16 .f32)⟩] concatenates_S1x2048x16_S1x2048x16_S1x2048x16_S3x2048x16_d0 : Arr F S3x2048x16 .f32))

/-- The operation that writes `main_v239`, its operands as plain arguments. -/
def fn_main_v239 : (main_v236 : Ref sig .tc).ty.Contents (Elt F) → (main_v237 : Ref sig .tc).ty.Contents (Elt F) → (main_v238 : Ref sig .tc).ty.Contents (Elt F) → (main_v239 : Ref sig .tc).ty.Contents (Elt F) :=
  (fun u0 u1 u2 => (concatenate S3x2048x16 0 [⟨S1x2048x16, (u0 : Arr F S1x2048x16 .f32)⟩, ⟨S1x2048x16, (u1 : Arr F S1x2048x16 .f32)⟩, ⟨S1x2048x16, (u2 : Arr F S1x2048x16 .f32)⟩] concatenates_S1x2048x16_S1x2048x16_S1x2048x16_S3x2048x16_d0 : Arr F S3x2048x16 .f32))

/-- @main's operations 1 … 30 of 300 (window `main_part0`). -/
abbrev ops_part0_0 : List (HloOp τ sig (Elt F)) :=
  [ reshape main_arg0 main_v0 rfl shapeCasts_S2048x9216_S2048x3x3x16x64,
    unary main_v0 main_v1 ((extractStridedSlice S2048x1x1x16x64 ![0, 0, 0, 0, 0] · slices_S2048x3x3x16x64_S2048x1x1x16x64_0_0_0_0_0) : Arr F S2048x3x3x16x64 .f32 → Arr F S2048x1x1x16x64 .f32),
    reshape main_v1 main_v2 rfl shapeCasts_S2048x1x1x16x64_S2048x16x64,
    unary main_v0 main_v3 ((extractStridedSlice S2048x1x1x16x64 ![0, 0, 1, 0, 0] · slices_S2048x3x3x16x64_S2048x1x1x16x64_0_0_1_0_0) : Arr F S2048x3x3x16x64 .f32 → Arr F S2048x1x1x16x64 .f32),
    reshape main_v3 main_v4 rfl shapeCasts_S2048x1x1x16x64_S2048x16x64,
    nullary main_v5 (iotaInDim S2048 32 0),
    unary main_v5 main_v6 (broadcastInDim S2048x1 ![0] bcast_S2048_S2048x1_0 : Arr F S2048 .i32 → Arr F S2048x1 .i32),
    unary main_v5 main_v7 (broadcastInDim S1x2048 ![1] bcast_S2048_S1x2048_1 : Arr F S2048 .i32 → Arr F S1x2048 .i32),
    unary main_v6 main_v8 (broadcastInDim S2048x2048 ![0, 1] bcast_S2048x1_S2048x2048_0_1 : Arr F S2048x1 .i32 → Arr F S2048x2048 .i32),
    unary main_v7 main_v9 (broadcastInDim S2048x2048 ![0, 1] bcast_S1x2048_S2048x2048_0_1 : Arr F S1x2048 .i32 → Arr F S2048x2048 .i32),
    binary main_v8 main_v9 main_v10 (subi : Arr F S2048x2048 .i32 → Arr F S2048x2048 .i32 → Arr F S2048x2048 .i32),
    unary main_v10 main_v11 (absi : Arr F S2048x2048 .i32 → Arr F S2048x2048 .i32),
    nullary main_c (constantI S_ 32 64#32),
    unary main_c main_v12 (broadcastInDim S2048x2048 ![] bcast_S_S2048x2048 : Arr F S_ .i32 → Arr F S2048x2048 .i32),
    binary main_v11 main_v12 main_v13 (cmpi .sle : Arr F S2048x2048 .i32 → Arr F S2048x2048 .i32 → Arr F S2048x2048 .i1),
    unary main_v5 main_v14 (broadcastInDim S2048x1 ![0] bcast_S2048_S2048x1_0 : Arr F S2048 .i32 → Arr F S2048x1 .i32),
    nullary main_c_0 (constantI S_ 32 0#32),
    unary main_c_0 main_v15 (broadcastInDim S2048x1 ![] bcast_S_S2048x1 : Arr F S_ .i32 → Arr F S2048x1 .i32),
    binary main_v14 main_v15 main_v16 (andi : Arr F S2048x1 .i32 → Arr F S2048x1 .i32 → Arr F S2048x1 .i32),
    unary main_v5 main_v17 (broadcastInDim S1x2048 ![1] bcast_S2048_S1x2048_1 : Arr F S2048 .i32 → Arr F S1x2048 .i32),
    nullary main_c_1 (constantI S_ 32 0#32),
    unary main_c_1 main_v18 (broadcastInDim S1x2048 ![] bcast_S_S1x2048 : Arr F S_ .i32 → Arr F S1x2048 .i32),
    binary main_v17 main_v18 main_v19 (andi : Arr F S1x2048 .i32 → Arr F S1x2048 .i32 → Arr F S1x2048 .i32),
    unary main_v16 main_v20 (broadcastInDim S2048x2048 ![0, 1] bcast_S2048x1_S2048x2048_0_1 : Arr F S2048x1 .i32 → Arr F S2048x2048 .i32),
    unary main_v19 main_v21 (broadcastInDim S2048x2048 ![0, 1] bcast_S1x2048_S2048x2048_0_1 : Arr F S1x2048 .i32 → Arr F S2048x2048 .i32),
    binary main_v20 main_v21 main_v22 (cmpi .eq : Arr F S2048x2048 .i32 → Arr F S2048x2048 .i32 → Arr F S2048x2048 .i1),
    binary main_v13 main_v22 main_v23 (andi : Arr F S2048x2048 .i1 → Arr F S2048x2048 .i1 → Arr F S2048x2048 .i1),
    nullary main_cst (constant S_ .f32 0x3E000000#32),
    unary main_cst main_v24 (broadcastInDim S2048x16x64 ![] bcast_S_S2048x16x64 : Arr F S_ .f32 → Arr F S2048x16x64 .f32),
    binary main_v2 main_v24 main_v25 (mulf : Arr F S2048x16x64 .f32 → Arr F S2048x16x64 .f32 → Arr F S2048x16x64 .f32) ]

/-- @main's operations 31 … 60 of 300 (window `main_part0`). -/
abbrev ops_part0_1 : List (HloOp τ sig (Elt F)) :=
  [ binary main_v25 main_v4 main_v26 ((fun l r => Host.dotGeneral dot_S2048x16x64_S2048x16x64_S16x2048x2048_2_2_0_0_1_1 none l r) : Arr F S2048x16x64 .f32 → Arr F S2048x16x64 .f32 → Arr F S16x2048x2048 .f32),
    nullary main_v27 (sitofp .f32 (iotaInDim S16 32 0)),
    nullary main_cst_2 (constant S_ .f32 0x3F800000#32),
    unary main_cst_2 main_v28 (broadcastInDim S16 ![] bcast_S_S16 : Arr F S_ .f32 → Arr F S16 .f32),
    binary main_v28 main_v27 main_v29 (addf : Arr F S16 .f32 → Arr F S16 .f32 → Arr F S16 .f32),
    nullary main_cst_3 (constant S_ .f32 0xC1000000#32),
    unary main_cst_3 main_v30 (broadcastInDim S16 ![] bcast_S_S16 : Arr F S_ .f32 → Arr F S16 .f32),
    binary main_v30 main_v29 main_v31 (mulf : Arr F S16 .f32 → Arr F S16 .f32 → Arr F S16 .f32),
    nullary main_cst_4 (constant S_ .f32 0x41800000#32),
    unary main_cst_4 main_v32 (broadcastInDim S16 ![] bcast_S_S16 : Arr F S_ .f32 → Arr F S16 .f32),
    binary main_v31 main_v32 main_v33 (Host.divf : Arr F S16 .f32 → Arr F S16 .f32 → Arr F S16 .f32),
    nullary main_cst_5 (constant S_ .f32 0x40000000#32),
    unary main_cst_5 main_v34 (broadcastInDim S16 ![] bcast_S_S16 : Arr F S_ .f32 → Arr F S16 .f32),
    binary main_v34 main_v33 main_v35 (Host.powf : Arr F S16 .f32 → Arr F S16 .f32 → Arr F S16 .f32),
    unary main_v35 main_v36 (broadcastInDim S16x1x1 ![0] bcast_S16_S16x1x1_0 : Arr F S16 .f32 → Arr F S16x1x1 .f32),
    unary main_v11 main_v37 (sitofp .f32 : Arr F S2048x2048 .i32 → Arr F S2048x2048 .f32),
    unary main_v37 main_v38 (broadcastInDim S1x2048x2048 ![1, 2] bcast_S2048x2048_S1x2048x2048_1_2 : Arr F S2048x2048 .f32 → Arr F S1x2048x2048 .f32),
    unary main_v36 main_v39 (broadcastInDim S16x2048x2048 ![0, 1, 2] bcast_S16x1x1_S16x2048x2048_0_1_2 : Arr F S16x1x1 .f32 → Arr F S16x2048x2048 .f32),
    unary main_v38 main_v40 (broadcastInDim S16x2048x2048 ![0, 1, 2] bcast_S1x2048x2048_S16x2048x2048_0_1_2 : Arr F S1x2048x2048 .f32 → Arr F S16x2048x2048 .f32),
    binary main_v39 main_v40 main_v41 (mulf : Arr F S16x2048x2048 .f32 → Arr F S16x2048x2048 .f32 → Arr F S16x2048x2048 .f32),
    binary main_v26 main_v41 main_v42 (subf : Arr F S16x2048x2048 .f32 → Arr F S16x2048x2048 .f32 → Arr F S16x2048x2048 .f32),
    nullary main_cst_6 (constant S_ .f32 0xFF800000#32),
    TRef.unary (TRef.of (T := ⟨S_, .f32⟩) main_cst_6) (TRef.of (T := ⟨S_, .f32⟩) main_call0_v0) id,
    TRef.unary (TRef.of (T := ⟨S2048x2048, .i1⟩) main_v23) (TRef.of (T := ⟨S16x2048x2048, .i1⟩) main_call0_v1) (broadcastInDim S16x2048x2048 ![1, 2] bcast_S2048x2048_S16x2048x2048_1_2),
    TRef.unary (TRef.of (T := ⟨S_, .f32⟩) main_call0_v0) (TRef.of (T := ⟨S16x2048x2048, .f32⟩) main_call0_v2) (broadcastInDim S16x2048x2048 ![] bcast_S_S16x2048x2048),
    TRef.ternary (TRef.of (T := ⟨S16x2048x2048, .i1⟩) main_call0_v1) (TRef.of (T := ⟨S16x2048x2048, .f32⟩) main_v42) (TRef.of (T := ⟨S16x2048x2048, .f32⟩) main_call0_v2) (TRef.of (T := ⟨S16x2048x2048, .f32⟩) main_v43) select,
    unary main_v0 main_v44 ((extractStridedSlice S2048x1x1x16x64 ![0, 1, 0, 0, 0] · slices_S2048x3x3x16x64_S2048x1x1x16x64_0_1_0_0_0) : Arr F S2048x3x3x16x64 .f32 → Arr F S2048x1x1x16x64 .f32),
    reshape main_v44 main_v45 rfl shapeCasts_S2048x1x1x16x64_S2048x16x64,
    unary main_v0 main_v46 ((extractStridedSlice S2048x1x1x16x64 ![0, 1, 1, 0, 0] · slices_S2048x3x3x16x64_S2048x1x1x16x64_0_1_1_0_0) : Arr F S2048x3x3x16x64 .f32 → Arr F S2048x1x1x16x64 .f32),
    reshape main_v46 main_v47 rfl shapeCasts_S2048x1x1x16x64_S2048x16x64 ]

/-- @main's operations 61 … 63 of 300 (window `main_part0`). -/
abbrev ops_part0_2 : List (HloOp τ sig (Elt F)) :=
  [ nullary main_v48 (iotaInDim S2048 32 0),
    unary main_v48 main_v49 (broadcastInDim S2048x1 ![0] bcast_S2048_S2048x1_0 : Arr F S2048 .i32 → Arr F S2048x1 .i32),
    unary main_v48 main_v50 (broadcastInDim S1x2048 ![1] bcast_S2048_S1x2048_1 : Arr F S2048 .i32 → Arr F S1x2048 .i32) ]

/-- Window `main_part0`'s operations. Not an abbreviation: `main_eq` below splits `ops` into the windows and no further. -/
def ops_part0 : List (HloOp τ sig (Elt F)) :=
  ops_part0_0 ++ (ops_part0_1 ++ (ops_part0_2))

/-- @main's operations 64 … 93 of 300 (window `main_part1`). -/
abbrev ops_part1_0 : List (HloOp τ sig (Elt F)) :=
  [ unary main_v49 main_v51 (broadcastInDim S2048x2048 ![0, 1] bcast_S2048x1_S2048x2048_0_1 : Arr F S2048x1 .i32 → Arr F S2048x2048 .i32),
    unary main_v50 main_v52 (broadcastInDim S2048x2048 ![0, 1] bcast_S1x2048_S2048x2048_0_1 : Arr F S1x2048 .i32 → Arr F S2048x2048 .i32),
    binary main_v51 main_v52 main_v53 (subi : Arr F S2048x2048 .i32 → Arr F S2048x2048 .i32 → Arr F S2048x2048 .i32),
    unary main_v53 main_v54 (absi : Arr F S2048x2048 .i32 → Arr F S2048x2048 .i32),
    nullary main_c_7 (constantI S_ 32 256#32),
    unary main_c_7 main_v55 (broadcastInDim S2048x2048 ![] bcast_S_S2048x2048 : Arr F S_ .i32 → Arr F S2048x2048 .i32),
    binary main_v54 main_v55 main_v56 (cmpi .sle : Arr F S2048x2048 .i32 → Arr F S2048x2048 .i32 → Arr F S2048x2048 .i1),
    unary main_v48 main_v57 (broadcastInDim S2048x1 ![0] bcast_S2048_S2048x1_0 : Arr F S2048 .i32 → Arr F S2048x1 .i32),
    nullary main_c_8 (constantI S_ 32 3#32),
    unary main_c_8 main_v58 (broadcastInDim S2048x1 ![] bcast_S_S2048x1 : Arr F S_ .i32 → Arr F S2048x1 .i32),
    binary main_v57 main_v58 main_v59 (andi : Arr F S2048x1 .i32 → Arr F S2048x1 .i32 → Arr F S2048x1 .i32),
    unary main_v48 main_v60 (broadcastInDim S1x2048 ![1] bcast_S2048_S1x2048_1 : Arr F S2048 .i32 → Arr F S1x2048 .i32),
    nullary main_c_9 (constantI S_ 32 3#32),
    unary main_c_9 main_v61 (broadcastInDim S1x2048 ![] bcast_S_S1x2048 : Arr F S_ .i32 → Arr F S1x2048 .i32),
    binary main_v60 main_v61 main_v62 (andi : Arr F S1x2048 .i32 → Arr F S1x2048 .i32 → Arr F S1x2048 .i32),
    unary main_v59 main_v63 (broadcastInDim S2048x2048 ![0, 1] bcast_S2048x1_S2048x2048_0_1 : Arr F S2048x1 .i32 → Arr F S2048x2048 .i32),
    unary main_v62 main_v64 (broadcastInDim S2048x2048 ![0, 1] bcast_S1x2048_S2048x2048_0_1 : Arr F S1x2048 .i32 → Arr F S2048x2048 .i32),
    binary main_v63 main_v64 main_v65 (cmpi .eq : Arr F S2048x2048 .i32 → Arr F S2048x2048 .i32 → Arr F S2048x2048 .i1),
    binary main_v56 main_v65 main_v66 (andi : Arr F S2048x2048 .i1 → Arr F S2048x2048 .i1 → Arr F S2048x2048 .i1),
    nullary main_cst_10 (constant S_ .f32 0x3E000000#32),
    unary main_cst_10 main_v67 (broadcastInDim S2048x16x64 ![] bcast_S_S2048x16x64 : Arr F S_ .f32 → Arr F S2048x16x64 .f32),
    binary main_v45 main_v67 main_v68 (mulf : Arr F S2048x16x64 .f32 → Arr F S2048x16x64 .f32 → Arr F S2048x16x64 .f32),
    binary main_v68 main_v47 main_v69 ((fun l r => Host.dotGeneral dot_S2048x16x64_S2048x16x64_S16x2048x2048_2_2_0_0_1_1 none l r) : Arr F S2048x16x64 .f32 → Arr F S2048x16x64 .f32 → Arr F S16x2048x2048 .f32),
    nullary main_v70 (sitofp .f32 (iotaInDim S16 32 0)),
    nullary main_cst_11 (constant S_ .f32 0x3F800000#32),
    unary main_cst_11 main_v71 (broadcastInDim S16 ![] bcast_S_S16 : Arr F S_ .f32 → Arr F S16 .f32),
    binary main_v71 main_v70 main_v72 (addf : Arr F S16 .f32 → Arr F S16 .f32 → Arr F S16 .f32),
    nullary main_cst_12 (constant S_ .f32 0xC1000000#32),
    unary main_cst_12 main_v73 (broadcastInDim S16 ![] bcast_S_S16 : Arr F S_ .f32 → Arr F S16 .f32),
    binary main_v73 main_v72 main_v74 (mulf : Arr F S16 .f32 → Arr F S16 .f32 → Arr F S16 .f32) ]

/-- @main's operations 94 … 123 of 300 (window `main_part1`). -/
abbrev ops_part1_1 : List (HloOp τ sig (Elt F)) :=
  [ nullary main_cst_13 (constant S_ .f32 0x41800000#32),
    unary main_cst_13 main_v75 (broadcastInDim S16 ![] bcast_S_S16 : Arr F S_ .f32 → Arr F S16 .f32),
    binary main_v74 main_v75 main_v76 (Host.divf : Arr F S16 .f32 → Arr F S16 .f32 → Arr F S16 .f32),
    nullary main_cst_14 (constant S_ .f32 0x40000000#32),
    unary main_cst_14 main_v77 (broadcastInDim S16 ![] bcast_S_S16 : Arr F S_ .f32 → Arr F S16 .f32),
    binary main_v77 main_v76 main_v78 (Host.powf : Arr F S16 .f32 → Arr F S16 .f32 → Arr F S16 .f32),
    unary main_v78 main_v79 (broadcastInDim S16x1x1 ![0] bcast_S16_S16x1x1_0 : Arr F S16 .f32 → Arr F S16x1x1 .f32),
    unary main_v54 main_v80 (sitofp .f32 : Arr F S2048x2048 .i32 → Arr F S2048x2048 .f32),
    unary main_v80 main_v81 (broadcastInDim S1x2048x2048 ![1, 2] bcast_S2048x2048_S1x2048x2048_1_2 : Arr F S2048x2048 .f32 → Arr F S1x2048x2048 .f32),
    unary main_v79 main_v82 (broadcastInDim S16x2048x2048 ![0, 1, 2] bcast_S16x1x1_S16x2048x2048_0_1_2 : Arr F S16x1x1 .f32 → Arr F S16x2048x2048 .f32),
    unary main_v81 main_v83 (broadcastInDim S16x2048x2048 ![0, 1, 2] bcast_S1x2048x2048_S16x2048x2048_0_1_2 : Arr F S1x2048x2048 .f32 → Arr F S16x2048x2048 .f32),
    binary main_v82 main_v83 main_v84 (mulf : Arr F S16x2048x2048 .f32 → Arr F S16x2048x2048 .f32 → Arr F S16x2048x2048 .f32),
    binary main_v69 main_v84 main_v85 (subf : Arr F S16x2048x2048 .f32 → Arr F S16x2048x2048 .f32 → Arr F S16x2048x2048 .f32),
    nullary main_cst_15 (constant S_ .f32 0xFF800000#32),
    TRef.unary (TRef.of (T := ⟨S_, .f32⟩) main_cst_15) (TRef.of (T := ⟨S_, .f32⟩) main_call1_v0) id,
    TRef.unary (TRef.of (T := ⟨S2048x2048, .i1⟩) main_v66) (TRef.of (T := ⟨S16x2048x2048, .i1⟩) main_call1_v1) (broadcastInDim S16x2048x2048 ![1, 2] bcast_S2048x2048_S16x2048x2048_1_2),
    TRef.unary (TRef.of (T := ⟨S_, .f32⟩) main_call1_v0) (TRef.of (T := ⟨S16x2048x2048, .f32⟩) main_call1_v2) (broadcastInDim S16x2048x2048 ![] bcast_S_S16x2048x2048),
    TRef.ternary (TRef.of (T := ⟨S16x2048x2048, .i1⟩) main_call1_v1) (TRef.of (T := ⟨S16x2048x2048, .f32⟩) main_v85) (TRef.of (T := ⟨S16x2048x2048, .f32⟩) main_call1_v2) (TRef.of (T := ⟨S16x2048x2048, .f32⟩) main_v86) select,
    unary main_v0 main_v87 ((extractStridedSlice S2048x1x1x16x64 ![0, 2, 0, 0, 0] · slices_S2048x3x3x16x64_S2048x1x1x16x64_0_2_0_0_0) : Arr F S2048x3x3x16x64 .f32 → Arr F S2048x1x1x16x64 .f32),
    reshape main_v87 main_v88 rfl shapeCasts_S2048x1x1x16x64_S2048x16x64,
    unary main_v0 main_v89 ((extractStridedSlice S2048x1x1x16x64 ![0, 2, 1, 0, 0] · slices_S2048x3x3x16x64_S2048x1x1x16x64_0_2_1_0_0) : Arr F S2048x3x3x16x64 .f32 → Arr F S2048x1x1x16x64 .f32),
    reshape main_v89 main_v90 rfl shapeCasts_S2048x1x1x16x64_S2048x16x64,
    nullary main_v91 (iotaInDim S2048 32 0),
    unary main_v91 main_v92 (broadcastInDim S2048x1 ![0] bcast_S2048_S2048x1_0 : Arr F S2048 .i32 → Arr F S2048x1 .i32),
    unary main_v91 main_v93 (broadcastInDim S1x2048 ![1] bcast_S2048_S1x2048_1 : Arr F S2048 .i32 → Arr F S1x2048 .i32),
    unary main_v92 main_v94 (broadcastInDim S2048x2048 ![0, 1] bcast_S2048x1_S2048x2048_0_1 : Arr F S2048x1 .i32 → Arr F S2048x2048 .i32),
    unary main_v93 main_v95 (broadcastInDim S2048x2048 ![0, 1] bcast_S1x2048_S2048x2048_0_1 : Arr F S1x2048 .i32 → Arr F S2048x2048 .i32),
    binary main_v94 main_v95 main_v96 (subi : Arr F S2048x2048 .i32 → Arr F S2048x2048 .i32 → Arr F S2048x2048 .i32),
    unary main_v96 main_v97 (absi : Arr F S2048x2048 .i32 → Arr F S2048x2048 .i32),
    nullary main_c_16 (constantI S_ 32 1024#32) ]

/-- @main's operations 124 … 126 of 300 (window `main_part1`). -/
abbrev ops_part1_2 : List (HloOp τ sig (Elt F)) :=
  [ unary main_c_16 main_v98 (broadcastInDim S2048x2048 ![] bcast_S_S2048x2048 : Arr F S_ .i32 → Arr F S2048x2048 .i32),
    binary main_v97 main_v98 main_v99 (cmpi .sle : Arr F S2048x2048 .i32 → Arr F S2048x2048 .i32 → Arr F S2048x2048 .i1),
    unary main_v91 main_v100 (broadcastInDim S2048x1 ![0] bcast_S2048_S2048x1_0 : Arr F S2048 .i32 → Arr F S2048x1 .i32) ]

/-- Window `main_part1`'s operations. Not an abbreviation: `main_eq` below splits `ops` into the windows and no further. -/
def ops_part1 : List (HloOp τ sig (Elt F)) :=
  ops_part1_0 ++ (ops_part1_1 ++ (ops_part1_2))

/-- @main's operations 127 … 156 of 300 (window `main_part2`). -/
abbrev ops_part2_0 : List (HloOp τ sig (Elt F)) :=
  [ nullary main_c_17 (constantI S_ 32 15#32),
    unary main_c_17 main_v101 (broadcastInDim S2048x1 ![] bcast_S_S2048x1 : Arr F S_ .i32 → Arr F S2048x1 .i32),
    binary main_v100 main_v101 main_v102 (andi : Arr F S2048x1 .i32 → Arr F S2048x1 .i32 → Arr F S2048x1 .i32),
    unary main_v91 main_v103 (broadcastInDim S1x2048 ![1] bcast_S2048_S1x2048_1 : Arr F S2048 .i32 → Arr F S1x2048 .i32),
    nullary main_c_18 (constantI S_ 32 15#32),
    unary main_c_18 main_v104 (broadcastInDim S1x2048 ![] bcast_S_S1x2048 : Arr F S_ .i32 → Arr F S1x2048 .i32),
    binary main_v103 main_v104 main_v105 (andi : Arr F S1x2048 .i32 → Arr F S1x2048 .i32 → Arr F S1x2048 .i32),
    unary main_v102 main_v106 (broadcastInDim S2048x2048 ![0, 1] bcast_S2048x1_S2048x2048_0_1 : Arr F S2048x1 .i32 → Arr F S2048x2048 .i32),
    unary main_v105 main_v107 (broadcastInDim S2048x2048 ![0, 1] bcast_S1x2048_S2048x2048_0_1 : Arr F S1x2048 .i32 → Arr F S2048x2048 .i32),
    binary main_v106 main_v107 main_v108 (cmpi .eq : Arr F S2048x2048 .i32 → Arr F S2048x2048 .i32 → Arr F S2048x2048 .i1),
    binary main_v99 main_v108 main_v109 (andi : Arr F S2048x2048 .i1 → Arr F S2048x2048 .i1 → Arr F S2048x2048 .i1),
    nullary main_cst_19 (constant S_ .f32 0x3E000000#32),
    unary main_cst_19 main_v110 (broadcastInDim S2048x16x64 ![] bcast_S_S2048x16x64 : Arr F S_ .f32 → Arr F S2048x16x64 .f32),
    binary main_v88 main_v110 main_v111 (mulf : Arr F S2048x16x64 .f32 → Arr F S2048x16x64 .f32 → Arr F S2048x16x64 .f32),
    binary main_v111 main_v90 main_v112 ((fun l r => Host.dotGeneral dot_S2048x16x64_S2048x16x64_S16x2048x2048_2_2_0_0_1_1 none l r) : Arr F S2048x16x64 .f32 → Arr F S2048x16x64 .f32 → Arr F S16x2048x2048 .f32),
    nullary main_v113 (sitofp .f32 (iotaInDim S16 32 0)),
    nullary main_cst_20 (constant S_ .f32 0x3F800000#32),
    unary main_cst_20 main_v114 (broadcastInDim S16 ![] bcast_S_S16 : Arr F S_ .f32 → Arr F S16 .f32),
    binary main_v114 main_v113 main_v115 (addf : Arr F S16 .f32 → Arr F S16 .f32 → Arr F S16 .f32),
    nullary main_cst_21 (constant S_ .f32 0xC1000000#32),
    unary main_cst_21 main_v116 (broadcastInDim S16 ![] bcast_S_S16 : Arr F S_ .f32 → Arr F S16 .f32),
    binary main_v116 main_v115 main_v117 (mulf : Arr F S16 .f32 → Arr F S16 .f32 → Arr F S16 .f32),
    nullary main_cst_22 (constant S_ .f32 0x41800000#32),
    unary main_cst_22 main_v118 (broadcastInDim S16 ![] bcast_S_S16 : Arr F S_ .f32 → Arr F S16 .f32),
    binary main_v117 main_v118 main_v119 (Host.divf : Arr F S16 .f32 → Arr F S16 .f32 → Arr F S16 .f32),
    nullary main_cst_23 (constant S_ .f32 0x40000000#32),
    unary main_cst_23 main_v120 (broadcastInDim S16 ![] bcast_S_S16 : Arr F S_ .f32 → Arr F S16 .f32),
    binary main_v120 main_v119 main_v121 (Host.powf : Arr F S16 .f32 → Arr F S16 .f32 → Arr F S16 .f32),
    unary main_v121 main_v122 (broadcastInDim S16x1x1 ![0] bcast_S16_S16x1x1_0 : Arr F S16 .f32 → Arr F S16x1x1 .f32),
    unary main_v97 main_v123 (sitofp .f32 : Arr F S2048x2048 .i32 → Arr F S2048x2048 .f32) ]

/-- @main's operations 157 … 186 of 300 (window `main_part2`). -/
abbrev ops_part2_1 : List (HloOp τ sig (Elt F)) :=
  [ unary main_v123 main_v124 (broadcastInDim S1x2048x2048 ![1, 2] bcast_S2048x2048_S1x2048x2048_1_2 : Arr F S2048x2048 .f32 → Arr F S1x2048x2048 .f32),
    unary main_v122 main_v125 (broadcastInDim S16x2048x2048 ![0, 1, 2] bcast_S16x1x1_S16x2048x2048_0_1_2 : Arr F S16x1x1 .f32 → Arr F S16x2048x2048 .f32),
    unary main_v124 main_v126 (broadcastInDim S16x2048x2048 ![0, 1, 2] bcast_S1x2048x2048_S16x2048x2048_0_1_2 : Arr F S1x2048x2048 .f32 → Arr F S16x2048x2048 .f32),
    binary main_v125 main_v126 main_v127 (mulf : Arr F S16x2048x2048 .f32 → Arr F S16x2048x2048 .f32 → Arr F S16x2048x2048 .f32),
    binary main_v112 main_v127 main_v128 (subf : Arr F S16x2048x2048 .f32 → Arr F S16x2048x2048 .f32 → Arr F S16x2048x2048 .f32),
    nullary main_cst_24 (constant S_ .f32 0xFF800000#32),
    TRef.unary (TRef.of (T := ⟨S_, .f32⟩) main_cst_24) (TRef.of (T := ⟨S_, .f32⟩) main_call2_v0) id,
    TRef.unary (TRef.of (T := ⟨S2048x2048, .i1⟩) main_v109) (TRef.of (T := ⟨S16x2048x2048, .i1⟩) main_call2_v1) (broadcastInDim S16x2048x2048 ![1, 2] bcast_S2048x2048_S16x2048x2048_1_2),
    TRef.unary (TRef.of (T := ⟨S_, .f32⟩) main_call2_v0) (TRef.of (T := ⟨S16x2048x2048, .f32⟩) main_call2_v2) (broadcastInDim S16x2048x2048 ![] bcast_S_S16x2048x2048),
    TRef.ternary (TRef.of (T := ⟨S16x2048x2048, .i1⟩) main_call2_v1) (TRef.of (T := ⟨S16x2048x2048, .f32⟩) main_v128) (TRef.of (T := ⟨S16x2048x2048, .f32⟩) main_call2_v2) (TRef.of (T := ⟨S16x2048x2048, .f32⟩) main_v129) select,
    unary main_v43 main_v130 (broadcastInDim S1x16x2048x2048 ![1, 2, 3] bcast_S16x2048x2048_S1x16x2048x2048_1_2_3 : Arr F S16x2048x2048 .f32 → Arr F S1x16x2048x2048 .f32),
    unary main_v86 main_v131 (broadcastInDim S1x16x2048x2048 ![1, 2, 3] bcast_S16x2048x2048_S1x16x2048x2048_1_2_3 : Arr F S16x2048x2048 .f32 → Arr F S1x16x2048x2048 .f32),
    unary main_v129 main_v132 (broadcastInDim S1x16x2048x2048 ![1, 2, 3] bcast_S16x2048x2048_S1x16x2048x2048_1_2_3 : Arr F S16x2048x2048 .f32 → Arr F S1x16x2048x2048 .f32),
    nary ![main_v130, main_v131, main_v132] main_v133 (fun u => fn_main_v133 (F := F) (u 0) (u 1) (u 2)),
    nullary main_cst_25 (constant S_ .f32 0xFF800000#32),
    binary main_v133 main_cst_25 main_v134 ((fun x v => Host.reduce FloatOps.maximumf x v reducesTo_S3x16x2048x2048_S3x16x2048_d3 h_S_) : Arr F S3x16x2048x2048 .f32 → Arr F S_ .f32 → Arr F S3x16x2048 .f32),
    unary main_v134 main_v135 (broadcastInDim S3x16x2048x1 ![0, 1, 2] bcast_S3x16x2048_S3x16x2048x1_0_1_2 : Arr F S3x16x2048 .f32 → Arr F S3x16x2048x1 .f32),
    unary main_v135 main_v136 (broadcastInDim S3x16x2048x2048 ![0, 1, 2, 3] bcast_S3x16x2048x1_S3x16x2048x2048_0_1_2_3 : Arr F S3x16x2048x1 .f32 → Arr F S3x16x2048x2048 .f32),
    binary main_v133 main_v136 main_v137 (subf : Arr F S3x16x2048x2048 .f32 → Arr F S3x16x2048x2048 .f32 → Arr F S3x16x2048x2048 .f32),
    unary main_v137 main_v138 (Host.exp : Arr F S3x16x2048x2048 .f32 → Arr F S3x16x2048x2048 .f32),
    nullary main_cst_26 (constant S_ .f32 0x00000000#32),
    binary main_v138 main_cst_26 main_v139 ((fun x v => Host.reduceAdd x v reducesTo_S3x16x2048x2048_S3x16x2048_d3 h_S_) : Arr F S3x16x2048x2048 .f32 → Arr F S_ .f32 → Arr F S3x16x2048 .f32),
    unary main_v139 main_v140 (broadcastInDim S3x16x2048x1 ![0, 1, 2] bcast_S3x16x2048_S3x16x2048x1_0_1_2 : Arr F S3x16x2048 .f32 → Arr F S3x16x2048x1 .f32),
    unary main_v140 main_v141 (Host.log : Arr F S3x16x2048x1 .f32 → Arr F S3x16x2048x1 .f32),
    binary main_v141 main_v135 main_v142 (addf : Arr F S3x16x2048x1 .f32 → Arr F S3x16x2048x1 .f32 → Arr F S3x16x2048x1 .f32),
    reshape main_v142 main_v143 rfl shapeCasts_S3x16x2048x1_S3x16x2048,
    unary main_v143 main_v144 (broadcastInDim S3x16x2048x1 ![0, 1, 2] bcast_S3x16x2048_S3x16x2048x1_0_1_2 : Arr F S3x16x2048 .f32 → Arr F S3x16x2048x1 .f32),
    unary main_v144 main_v145 (broadcastInDim S3x16x2048x2048 ![0, 1, 2, 3] bcast_S3x16x2048x1_S3x16x2048x2048_0_1_2_3 : Arr F S3x16x2048x1 .f32 → Arr F S3x16x2048x2048 .f32),
    binary main_v133 main_v145 main_v146 (subf : Arr F S3x16x2048x2048 .f32 → Arr F S3x16x2048x2048 .f32 → Arr F S3x16x2048x2048 .f32),
    unary main_v146 main_v147 (Host.exp : Arr F S3x16x2048x2048 .f32 → Arr F S3x16x2048x2048 .f32) ]

/-- @main's operations 187 … 189 of 300 (window `main_part2`). -/
abbrev ops_part2_2 : List (HloOp τ sig (Elt F)) :=
  [ nullary main_cst_27 (constant S_ .f32 0xFF800000#32),
    binary main_v143 main_cst_27 main_v148 ((fun x v => Host.reduce FloatOps.maximumf x v reducesTo_S3x16x2048_S16x2048_d0 h_S_) : Arr F S3x16x2048 .f32 → Arr F S_ .f32 → Arr F S16x2048 .f32),
    nullary main_cst_28 (constant S_ .f32 0xFF800000#32) ]

/-- Window `main_part2`'s operations. Not an abbreviation: `main_eq` below splits `ops` into the windows and no further. -/
def ops_part2 : List (HloOp τ sig (Elt F)) :=
  ops_part2_0 ++ (ops_part2_1 ++ (ops_part2_2))

/-- @main's operations 190 … 249 of 300 (window `main_part3`). -/
abbrev ops_part3 : List (HloOp τ sig (Elt F)) :=
  [ unary main_cst_28 main_v149 (broadcastInDim S16x2048 ![] bcast_S_S16x2048 : Arr F S_ .f32 → Arr F S16x2048 .f32),
    binary main_v149 main_v148 main_v150 (maximumf : Arr F S16x2048 .f32 → Arr F S16x2048 .f32 → Arr F S16x2048 .f32),
    unary main_v150 main_v151 (broadcastInDim S1x16x2048 ![1, 2] bcast_S16x2048_S1x16x2048_1_2 : Arr F S16x2048 .f32 → Arr F S1x16x2048 .f32),
    unary main_v151 main_v152 (broadcastInDim S3x16x2048 ![0, 1, 2] bcast_S1x16x2048_S3x16x2048_0_1_2 : Arr F S1x16x2048 .f32 → Arr F S3x16x2048 .f32),
    binary main_v143 main_v152 main_v153 (subf : Arr F S3x16x2048 .f32 → Arr F S3x16x2048 .f32 → Arr F S3x16x2048 .f32),
    unary main_v153 main_v154 (Host.exp : Arr F S3x16x2048 .f32 → Arr F S3x16x2048 .f32),
    nullary main_cst_29 (constant S_ .f32 0x00000000#32),
    binary main_v154 main_cst_29 main_v155 ((fun x v => Host.reduceAdd x v reducesTo_S3x16x2048_S16x2048_d0 h_S_) : Arr F S3x16x2048 .f32 → Arr F S_ .f32 → Arr F S16x2048 .f32),
    unary main_v155 main_v156 (broadcastInDim S1x16x2048 ![1, 2] bcast_S16x2048_S1x16x2048_1_2 : Arr F S16x2048 .f32 → Arr F S1x16x2048 .f32),
    unary main_v156 main_v157 (broadcastInDim S3x16x2048 ![0, 1, 2] bcast_S1x16x2048_S3x16x2048_0_1_2 : Arr F S1x16x2048 .f32 → Arr F S3x16x2048 .f32),
    binary main_v154 main_v157 main_v158 (Host.divf : Arr F S3x16x2048 .f32 → Arr F S3x16x2048 .f32 → Arr F S3x16x2048 .f32),
    unary main_v158 main_v159 (broadcastInDim S3x16x2048x1 ![0, 1, 2] bcast_S3x16x2048_S3x16x2048x1_0_1_2 : Arr F S3x16x2048 .f32 → Arr F S3x16x2048x1 .f32),
    unary main_v159 main_v160 (broadcastInDim S3x16x2048x2048 ![0, 1, 2, 3] bcast_S3x16x2048x1_S3x16x2048x2048_0_1_2_3 : Arr F S3x16x2048x1 .f32 → Arr F S3x16x2048x2048 .f32),
    binary main_v160 main_v147 main_v161 (mulf : Arr F S3x16x2048x2048 .f32 → Arr F S3x16x2048x2048 .f32 → Arr F S3x16x2048x2048 .f32),
    unary main_v0 main_v162 ((extractStridedSlice S2048x3x1x16x64 ![0, 0, 2, 0, 0] · slices_S2048x3x3x16x64_S2048x3x1x16x64_0_0_2_0_0) : Arr F S2048x3x3x16x64 .f32 → Arr F S2048x3x1x16x64 .f32),
    reshape main_v162 main_v163 rfl shapeCasts_S2048x3x1x16x64_S2048x3x16x64,
    binary main_v163 main_v161 main_v164 ((fun l r => Host.dotGeneral dot_S2048x3x16x64_S3x16x2048x2048_S16x64x2048_10_03_3_2_2_1 none l r) : Arr F S2048x3x16x64 .f32 → Arr F S3x16x2048x2048 .f32 → Arr F S16x64x2048 .f32),
    unary main_v164 main_v165 ((transpose S2048x16x64 [2, 0, 1] · transposes_S16x64x2048_S2048x16x64_2_0_1) : Arr F S16x64x2048 .f32 → Arr F S2048x16x64 .f32),
    nullary main_cst_30 (constant S_ .f32 0xFF800000#32),
    binary main_v143 main_cst_30 main_v166 ((fun x v => Host.reduce FloatOps.maximumf x v reducesTo_S3x16x2048_S16x2048_d0 h_S_) : Arr F S3x16x2048 .f32 → Arr F S_ .f32 → Arr F S16x2048 .f32),
    unary main_v166 main_v167 (broadcastInDim S1x16x2048 ![1, 2] bcast_S16x2048_S1x16x2048_1_2 : Arr F S16x2048 .f32 → Arr F S1x16x2048 .f32),
    unary main_v167 main_v168 (broadcastInDim S3x16x2048 ![0, 1, 2] bcast_S1x16x2048_S3x16x2048_0_1_2 : Arr F S1x16x2048 .f32 → Arr F S3x16x2048 .f32),
    binary main_v143 main_v168 main_v169 (subf : Arr F S3x16x2048 .f32 → Arr F S3x16x2048 .f32 → Arr F S3x16x2048 .f32),
    unary main_v169 main_v170 (Host.exp : Arr F S3x16x2048 .f32 → Arr F S3x16x2048 .f32),
    nullary main_cst_31 (constant S_ .f32 0x00000000#32),
    binary main_v170 main_cst_31 main_v171 ((fun x v => Host.reduceAdd x v reducesTo_S3x16x2048_S16x2048_d0 h_S_) : Arr F S3x16x2048 .f32 → Arr F S_ .f32 → Arr F S16x2048 .f32),
    unary main_v171 main_v172 (broadcastInDim S1x16x2048 ![1, 2] bcast_S16x2048_S1x16x2048_1_2 : Arr F S16x2048 .f32 → Arr F S1x16x2048 .f32),
    unary main_v172 main_v173 (Host.log : Arr F S1x16x2048 .f32 → Arr F S1x16x2048 .f32),
    binary main_v173 main_v167 main_v174 (addf : Arr F S1x16x2048 .f32 → Arr F S1x16x2048 .f32 → Arr F S1x16x2048 .f32),
    reshape main_v174 main_v175 rfl shapeCasts_S1x16x2048_S16x2048,
    unary main_v175 main_v176 ((transpose S2048x16 [1, 0] · transposes_S16x2048_S2048x16_1_0) : Arr F S16x2048 .f32 → Arr F S2048x16 .f32),
    reshape main_arg1 main_v177 rfl shapeCasts_S2048x1024_S2048x16x64,
    binary main_v177 main_v165 main_v178 (mulf : Arr F S2048x16x64 .f32 → Arr F S2048x16x64 .f32 → Arr F S2048x16x64 .f32),
    nullary main_cst_32 (constant S_ .f32 0x00000000#32),
    binary main_v178 main_cst_32 main_v179 ((fun x v => Host.reduceAdd x v reducesTo_S2048x16x64_S2048x16_d2 h_S_) : Arr F S2048x16x64 .f32 → Arr F S_ .f32 → Arr F S2048x16 .f32),
    unary main_arg0 main_v180 ((extractStridedSlice S2048x3072 ![0, 0] · slices_S2048x9216_S2048x3072_0_0) : Arr F S2048x9216 .f32 → Arr F S2048x3072 .f32),
    reshape main_v180 main_v181 rfl shapeCasts_S2048x3072_S2048x1x3072,
    unary main_v181 main_v182 ((transpose S1x2048x3072 [1, 0, 2] · transposes_S2048x1x3072_S1x2048x3072_1_0_2) : Arr F S2048x1x3072 .f32 → Arr F S1x2048x3072 .f32),
    reshape main_v182 main_v183 rfl shapeCasts_S1x2048x3072_S2048x3072,
    unary main_arg0 main_v184 ((extractStridedSlice S2048x3072 ![0, 3072] · slices_S2048x9216_S2048x3072_0_3072) : Arr F S2048x9216 .f32 → Arr F S2048x3072 .f32),
    reshape main_v184 main_v185 rfl shapeCasts_S2048x3072_S512x4x3072,
    unary main_v185 main_v186 ((transpose S4x512x3072 [1, 0, 2] · transposes_S512x4x3072_S4x512x3072_1_0_2) : Arr F S512x4x3072 .f32 → Arr F S4x512x3072 .f32),
    reshape main_v186 main_v187 rfl shapeCasts_S4x512x3072_S2048x3072,
    unary main_arg0 main_v188 ((extractStridedSlice S2048x3072 ![0, 6144] · slices_S2048x9216_S2048x3072_0_6144) : Arr F S2048x9216 .f32 → Arr F S2048x3072 .f32),
    reshape main_v188 main_v189 rfl shapeCasts_S2048x3072_S128x16x3072,
    unary main_v189 main_v190 ((transpose S16x128x3072 [1, 0, 2] · transposes_S128x16x3072_S16x128x3072_1_0_2) : Arr F S128x16x3072 .f32 → Arr F S16x128x3072 .f32),
    reshape main_v190 main_v191 rfl shapeCasts_S16x128x3072_S2048x3072,
    unary main_v183 main_v192 (broadcastInDim S1x2048x3072 ![1, 2] bcast_S2048x3072_S1x2048x3072_1_2 : Arr F S2048x3072 .f32 → Arr F S1x2048x3072 .f32),
    unary main_v187 main_v193 (broadcastInDim S1x2048x3072 ![1, 2] bcast_S2048x3072_S1x2048x3072_1_2 : Arr F S2048x3072 .f32 → Arr F S1x2048x3072 .f32),
    unary main_v191 main_v194 (broadcastInDim S1x2048x3072 ![1, 2] bcast_S2048x3072_S1x2048x3072_1_2 : Arr F S2048x3072 .f32 → Arr F S1x2048x3072 .f32),
    nary ![main_v192, main_v193, main_v194] main_v195 (fun u => fn_main_v195 (F := F) (u 0) (u 1) (u 2)),
    unary main_v195 main_v196 ((truncf .bf16 · bitsLt_bf16_f32) : Arr F S3x2048x3072 .f32 → Arr F S3x2048x3072 .bf16),
    reshape main_arg1 main_v197 rfl shapeCasts_S2048x1024_S2048x1x1024,
    unary main_v197 main_v198 ((transpose S1x2048x1024 [1, 0, 2] · transposes_S2048x1x1024_S1x2048x1024_1_0_2) : Arr F S2048x1x1024 .f32 → Arr F S1x2048x1024 .f32),
    reshape main_v198 main_v199 rfl shapeCasts_S1x2048x1024_S2048x1024,
    reshape main_arg1 main_v200 rfl shapeCasts_S2048x1024_S512x4x1024,
    unary main_v200 main_v201 ((transpose S4x512x1024 [1, 0, 2] · transposes_S512x4x1024_S4x512x1024_1_0_2) : Arr F S512x4x1024 .f32 → Arr F S4x512x1024 .f32),
    reshape main_v201 main_v202 rfl shapeCasts_S4x512x1024_S2048x1024,
    reshape main_arg1 main_v203 rfl shapeCasts_S2048x1024_S128x16x1024,
    unary main_v203 main_v204 ((transpose S16x128x1024 [1, 0, 2] · transposes_S128x16x1024_S16x128x1024_1_0_2) : Arr F S128x16x1024 .f32 → Arr F S16x128x1024 .f32) ]

/-- @main's operations 250 … 300 of 300 (window `main_part4`). -/
abbrev ops_part4 : List (HloOp τ sig (Elt F)) :=
  [ reshape main_v204 main_v205 rfl shapeCasts_S16x128x1024_S2048x1024,
    unary main_v199 main_v206 (broadcastInDim S1x2048x1024 ![1, 2] bcast_S2048x1024_S1x2048x1024_1_2 : Arr F S2048x1024 .f32 → Arr F S1x2048x1024 .f32),
    unary main_v202 main_v207 (broadcastInDim S1x2048x1024 ![1, 2] bcast_S2048x1024_S1x2048x1024_1_2 : Arr F S2048x1024 .f32 → Arr F S1x2048x1024 .f32),
    unary main_v205 main_v208 (broadcastInDim S1x2048x1024 ![1, 2] bcast_S2048x1024_S1x2048x1024_1_2 : Arr F S2048x1024 .f32 → Arr F S1x2048x1024 .f32),
    nary ![main_v206, main_v207, main_v208] main_v209 (fun u => fn_main_v209 (F := F) (u 0) (u 1) (u 2)),
    unary main_v209 main_v210 ((truncf .bf16 · bitsLt_bf16_f32) : Arr F S3x2048x1024 .f32 → Arr F S3x2048x1024 .bf16),
    reshape main_v179 main_v211 rfl shapeCasts_S2048x16_S2048x1x16,
    unary main_v211 main_v212 ((transpose S1x2048x16 [1, 0, 2] · transposes_S2048x1x16_S1x2048x16_1_0_2) : Arr F S2048x1x16 .f32 → Arr F S1x2048x16 .f32),
    reshape main_v212 main_v213 rfl shapeCasts_S1x2048x16_S2048x16,
    reshape main_v179 main_v214 rfl shapeCasts_S2048x16_S512x4x16,
    unary main_v214 main_v215 ((transpose S4x512x16 [1, 0, 2] · transposes_S512x4x16_S4x512x16_1_0_2) : Arr F S512x4x16 .f32 → Arr F S4x512x16 .f32),
    reshape main_v215 main_v216 rfl shapeCasts_S4x512x16_S2048x16,
    reshape main_v179 main_v217 rfl shapeCasts_S2048x16_S128x16x16,
    unary main_v217 main_v218 ((transpose S16x128x16 [1, 0, 2] · transposes_S128x16x16_S16x128x16_1_0_2) : Arr F S128x16x16 .f32 → Arr F S16x128x16 .f32),
    reshape main_v218 main_v219 rfl shapeCasts_S16x128x16_S2048x16,
    unary main_v213 main_v220 (broadcastInDim S1x2048x16 ![1, 2] bcast_S2048x16_S1x2048x16_1_2 : Arr F S2048x16 .f32 → Arr F S1x2048x16 .f32),
    unary main_v216 main_v221 (broadcastInDim S1x2048x16 ![1, 2] bcast_S2048x16_S1x2048x16_1_2 : Arr F S2048x16 .f32 → Arr F S1x2048x16 .f32),
    unary main_v219 main_v222 (broadcastInDim S1x2048x16 ![1, 2] bcast_S2048x16_S1x2048x16_1_2 : Arr F S2048x16 .f32 → Arr F S1x2048x16 .f32),
    nary ![main_v220, main_v221, main_v222] main_v223 (fun u => fn_main_v223 (F := F) (u 0) (u 1) (u 2)),
    unary main_v223 main_v224 ((transpose S3x16x2048 [0, 2, 1] · transposes_S3x2048x16_S3x16x2048_0_2_1) : Arr F S3x2048x16 .f32 → Arr F S3x16x2048 .f32),
    unary main_v224 main_v225 (broadcastInDim S3x16x1x2048 ![0, 1, 3] bcast_S3x16x2048_S3x16x1x2048_0_1_3 : Arr F S3x16x2048 .f32 → Arr F S3x16x1x2048 .f32),
    unary main_v225 main_v226 (broadcastInDim S3x16x8x2048 ![0, 1, 2, 3] bcast_S3x16x1x2048_S3x16x8x2048_0_1_2_3 : Arr F S3x16x1x2048 .f32 → Arr F S3x16x8x2048 .f32),
    reshape main_v176 main_v227 rfl shapeCasts_S2048x16_S2048x1x16,
    unary main_v227 main_v228 ((transpose S1x2048x16 [1, 0, 2] · transposes_S2048x1x16_S1x2048x16_1_0_2) : Arr F S2048x1x16 .f32 → Arr F S1x2048x16 .f32),
    reshape main_v228 main_v229 rfl shapeCasts_S1x2048x16_S2048x16,
    reshape main_v176 main_v230 rfl shapeCasts_S2048x16_S512x4x16,
    unary main_v230 main_v231 ((transpose S4x512x16 [1, 0, 2] · transposes_S512x4x16_S4x512x16_1_0_2) : Arr F S512x4x16 .f32 → Arr F S4x512x16 .f32),
    reshape main_v231 main_v232 rfl shapeCasts_S4x512x16_S2048x16,
    reshape main_v176 main_v233 rfl shapeCasts_S2048x16_S128x16x16,
    unary main_v233 main_v234 ((transpose S16x128x16 [1, 0, 2] · transposes_S128x16x16_S16x128x16_1_0_2) : Arr F S128x16x16 .f32 → Arr F S16x128x16 .f32),
    reshape main_v234 main_v235 rfl shapeCasts_S16x128x16_S2048x16,
    unary main_v229 main_v236 (broadcastInDim S1x2048x16 ![1, 2] bcast_S2048x16_S1x2048x16_1_2 : Arr F S2048x16 .f32 → Arr F S1x2048x16 .f32),
    unary main_v232 main_v237 (broadcastInDim S1x2048x16 ![1, 2] bcast_S2048x16_S1x2048x16_1_2 : Arr F S2048x16 .f32 → Arr F S1x2048x16 .f32),
    unary main_v235 main_v238 (broadcastInDim S1x2048x16 ![1, 2] bcast_S2048x16_S1x2048x16_1_2 : Arr F S2048x16 .f32 → Arr F S1x2048x16 .f32),
    nary ![main_v236, main_v237, main_v238] main_v239 (fun u => fn_main_v239 (F := F) (u 0) (u 1) (u 2)),
    unary main_v239 main_v240 ((transpose S3x16x2048 [0, 2, 1] · transposes_S3x2048x16_S3x16x2048_0_2_1) : Arr F S3x2048x16 .f32 → Arr F S3x16x2048 .f32),
    unary main_v240 main_v241 (broadcastInDim S3x16x1x2048 ![0, 1, 3] bcast_S3x16x2048_S3x16x1x2048_0_1_3 : Arr F S3x16x2048 .f32 → Arr F S3x16x1x2048 .f32),
    unary main_v241 main_v242 (broadcastInDim S3x16x8x2048 ![0, 1, 2, 3] bcast_S3x16x1x2048_S3x16x8x2048_0_1_2_3 : Arr F S3x16x1x2048 .f32 → Arr F S3x16x8x2048 .f32),
    nullary main_v243 (sitofp .f32 (iotaInDim S16 32 0)),
    nullary main_cst_33 (constant S_ .f32 0x3F800000#32),
    unary main_cst_33 main_v244 (broadcastInDim S16 ![] bcast_S_S16 : Arr F S_ .f32 → Arr F S16 .f32),
    binary main_v244 main_v243 main_v245 (addf : Arr F S16 .f32 → Arr F S16 .f32 → Arr F S16 .f32),
    nullary main_cst_34 (constant S_ .f32 0xC1000000#32),
    unary main_cst_34 main_v246 (broadcastInDim S16 ![] bcast_S_S16 : Arr F S_ .f32 → Arr F S16 .f32),
    binary main_v246 main_v245 main_v247 (mulf : Arr F S16 .f32 → Arr F S16 .f32 → Arr F S16 .f32),
    nullary main_cst_35 (constant S_ .f32 0x41800000#32),
    unary main_cst_35 main_v248 (broadcastInDim S16 ![] bcast_S_S16 : Arr F S_ .f32 → Arr F S16 .f32),
    binary main_v247 main_v248 main_v249 (Host.divf : Arr F S16 .f32 → Arr F S16 .f32 → Arr F S16 .f32),
    nullary main_cst_36 (constant S_ .f32 0x40000000#32),
    unary main_cst_36 main_v250 (broadcastInDim S16 ![] bcast_S_S16 : Arr F S_ .f32 → Arr F S16 .f32),
    binary main_v250 main_v249 main_v251 (Host.powf : Arr F S16 .f32 → Arr F S16 .f32 → Arr F S16 .f32) ]

/-- @main's 300 operations, in order (a called function's operations stand in its call's place, spelt `TRef.…`). -/
abbrev ops : List (HloOp τ sig (Elt F)) :=
  ops_part0 ++ (ops_part1 ++ (ops_part2 ++ (ops_part3 ++ (ops_part4))))
end Cert.KernelIdeal.Host

end
-- ==== Proof.Fn.Kernel.lean ====
/- The functions the kernel's host operations compute, on plain arrays. -/
module

public import proofs.«01_k».proof.Proof.Host.Ops

@[expose] public section

set_option maxRecDepth 16384

noncomputable section

namespace Cert.KernelIdeal.Fn

open Cert.KernelIdeal Cert.KernelIdeal.Gen Idealize.ShloMosaic Idealize.ShloMosaic.TcCoe Idealize.SL.Sem

variable {F : FTy → Type} [FloatOps F]

def v0 (x : FVec F S2048x9216 .f32) (y : FVec F S2048x1024 .f32) : FVec F S2048x3x3x16x64 .f32 :=
  shapeCast _ x shapeCasts_S2048x9216_S2048x3x3x16x64

def v5 (x : FVec F S2048x9216 .f32) (y : FVec F S2048x1024 .f32) : IVec S2048 32 :=
  iotaInDim S2048 32 0

def v11 (x : FVec F S2048x9216 .f32) (y : FVec F S2048x1024 .f32) : IVec S2048x2048 32 :=
  absi (subi (broadcastInDim S2048x2048 ![0, 1] bcast_S2048x1_S2048x2048_0_1 (broadcastInDim S2048x1 ![0] bcast_S2048_S2048x1_0 (v5 x y))) (broadcastInDim S2048x2048 ![0, 1] bcast_S1x2048_S2048x2048_0_1 (broadcastInDim S1x2048 ![1] bcast_S2048_S1x2048_1 (v5 x y))))

def v48 (x : FVec F S2048x9216 .f32) (y : FVec F S2048x1024 .f32) : IVec S2048 32 :=
  iotaInDim S2048 32 0

def v54 (x : FVec F S2048x9216 .f32) (y : FVec F S2048x1024 .f32) : IVec S2048x2048 32 :=
  absi (subi (broadcastInDim S2048x2048 ![0, 1] bcast_S2048x1_S2048x2048_0_1 (broadcastInDim S2048x1 ![0] bcast_S2048_S2048x1_0 (v48 x y))) (broadcastInDim S2048x2048 ![0, 1] bcast_S1x2048_S2048x2048_0_1 (broadcastInDim S1x2048 ![1] bcast_S2048_S1x2048_1 (v48 x y))))

def v91 (x : FVec F S2048x9216 .f32) (y : FVec F S2048x1024 .f32) : IVec S2048 32 :=
  iotaInDim S2048 32 0

def v97 (x : FVec F S2048x9216 .f32) (y : FVec F S2048x1024 .f32) : IVec S2048x2048 32 :=
  absi (subi (broadcastInDim S2048x2048 ![0, 1] bcast_S2048x1_S2048x2048_0_1 (broadcastInDim S2048x1 ![0] bcast_S2048_S2048x1_0 (v91 x y))) (broadcastInDim S2048x2048 ![0, 1] bcast_S1x2048_S2048x2048_0_1 (broadcastInDim S1x2048 ![1] bcast_S2048_S1x2048_1 (v91 x y))))

def v133 (x : FVec F S2048x9216 .f32) (y : FVec F S2048x1024 .f32) : FVec F S3x16x2048x2048 .f32 :=
  (concatenate S3x16x2048x2048 0 [⟨S1x16x2048x2048, ((broadcastInDim S1x16x2048x2048 ![1, 2, 3] bcast_S16x2048x2048_S1x16x2048x2048_1_2_3 (select (broadcastInDim S16x2048x2048 ![1, 2] bcast_S2048x2048_S16x2048x2048_1_2 (andi (cmpi .sle (v11 x y) (broadcastInDim S2048x2048 ![] bcast_S_S2048x2048 (constantI S_ 32 64#32))) (cmpi .eq (broadcastInDim S2048x2048 ![0, 1] bcast_S2048x1_S2048x2048_0_1 (andi (broadcastInDim S2048x1 ![0] bcast_S2048_S2048x1_0 (v5 x y)) (broadcastInDim S2048x1 ![] bcast_S_S2048x1 (constantI S_ 32 0#32)))) (broadcastInDim S2048x2048 ![0, 1] bcast_S1x2048_S2048x2048_0_1 (andi (broadcastInDim S1x2048 ![1] bcast_S2048_S1x2048_1 (v5 x y)) (broadcastInDim S1x2048 ![] bcast_S_S1x2048 (constantI S_ 32 0#32))))))) (subf (Host.dotGeneral dot_S2048x16x64_S2048x16x64_S16x2048x2048_2_2_0_0_1_1 none (mulf (shapeCast _ (extractStridedSlice S2048x1x1x16x64 ![0, 0, 0, 0, 0] (v0 x y) slices_S2048x3x3x16x64_S2048x1x1x16x64_0_0_0_0_0) shapeCasts_S2048x1x1x16x64_S2048x16x64) (broadcastInDim S2048x16x64 ![] bcast_S_S2048x16x64 (constant S_ .f32 0x3E000000#32))) (shapeCast _ (extractStridedSlice S2048x1x1x16x64 ![0, 0, 1, 0, 0] (v0 x y) slices_S2048x3x3x16x64_S2048x1x1x16x64_0_0_1_0_0) shapeCasts_S2048x1x1x16x64_S2048x16x64)) (mulf (broadcastInDim S16x2048x2048 ![0, 1, 2] bcast_S16x1x1_S16x2048x2048_0_1_2 (broadcastInDim S16x1x1 ![0] bcast_S16_S16x1x1_0 (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))))) (broadcastInDim S16x2048x2048 ![0, 1, 2] bcast_S1x2048x2048_S16x2048x2048_0_1_2 (broadcastInDim S1x2048x2048 ![1, 2] bcast_S2048x2048_S1x2048x2048_1_2 (sitofp .f32 (v11 x y)))))) (broadcastInDim S16x2048x2048 ![] bcast_S_S16x2048x2048 (id (constant S_ .f32 0xFF800000#32))))) : (⟨S1x16x2048x2048, .f32⟩ : BufTy).Contents (Elt F))⟩, ⟨S1x16x2048x2048, ((broadcastInDim S1x16x2048x2048 ![1, 2, 3] bcast_S16x2048x2048_S1x16x2048x2048_1_2_3 (select (broadcastInDim S16x2048x2048 ![1, 2] bcast_S2048x2048_S16x2048x2048_1_2 (andi (cmpi .sle (v54 x y) (broadcastInDim S2048x2048 ![] bcast_S_S2048x2048 (constantI S_ 32 256#32))) (cmpi .eq (broadcastInDim S2048x2048 ![0, 1] bcast_S2048x1_S2048x2048_0_1 (andi (broadcastInDim S2048x1 ![0] bcast_S2048_S2048x1_0 (v48 x y)) (broadcastInDim S2048x1 ![] bcast_S_S2048x1 (constantI S_ 32 3#32)))) (broadcastInDim S2048x2048 ![0, 1] bcast_S1x2048_S2048x2048_0_1 (andi (broadcastInDim S1x2048 ![1] bcast_S2048_S1x2048_1 (v48 x y)) (broadcastInDim S1x2048 ![] bcast_S_S1x2048 (constantI S_ 32 3#32))))))) (subf (Host.dotGeneral dot_S2048x16x64_S2048x16x64_S16x2048x2048_2_2_0_0_1_1 none (mulf (shapeCast _ (extractStridedSlice S2048x1x1x16x64 ![0, 1, 0, 0, 0] (v0 x y) slices_S2048x3x3x16x64_S2048x1x1x16x64_0_1_0_0_0) shapeCasts_S2048x1x1x16x64_S2048x16x64) (broadcastInDim S2048x16x64 ![] bcast_S_S2048x16x64 (constant S_ .f32 0x3E000000#32))) (shapeCast _ (extractStridedSlice S2048x1x1x16x64 ![0, 1, 1, 0, 0] (v0 x y) slices_S2048x3x3x16x64_S2048x1x1x16x64_0_1_1_0_0) shapeCasts_S2048x1x1x16x64_S2048x16x64)) (mulf (broadcastInDim S16x2048x2048 ![0, 1, 2] bcast_S16x1x1_S16x2048x2048_0_1_2 (broadcastInDim S16x1x1 ![0] bcast_S16_S16x1x1_0 (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))))) (broadcastInDim S16x2048x2048 ![0, 1, 2] bcast_S1x2048x2048_S16x2048x2048_0_1_2 (broadcastInDim S1x2048x2048 ![1, 2] bcast_S2048x2048_S1x2048x2048_1_2 (sitofp .f32 (v54 x y)))))) (broadcastInDim S16x2048x2048 ![] bcast_S_S16x2048x2048 (id (constant S_ .f32 0xFF800000#32))))) : (⟨S1x16x2048x2048, .f32⟩ : BufTy).Contents (Elt F))⟩, ⟨S1x16x2048x2048, ((broadcastInDim S1x16x2048x2048 ![1, 2, 3] bcast_S16x2048x2048_S1x16x2048x2048_1_2_3 (select (broadcastInDim S16x2048x2048 ![1, 2] bcast_S2048x2048_S16x2048x2048_1_2 (andi (cmpi .sle (v97 x y) (broadcastInDim S2048x2048 ![] bcast_S_S2048x2048 (constantI S_ 32 1024#32))) (cmpi .eq (broadcastInDim S2048x2048 ![0, 1] bcast_S2048x1_S2048x2048_0_1 (andi (broadcastInDim S2048x1 ![0] bcast_S2048_S2048x1_0 (v91 x y)) (broadcastInDim S2048x1 ![] bcast_S_S2048x1 (constantI S_ 32 15#32)))) (broadcastInDim S2048x2048 ![0, 1] bcast_S1x2048_S2048x2048_0_1 (andi (broadcastInDim S1x2048 ![1] bcast_S2048_S1x2048_1 (v91 x y)) (broadcastInDim S1x2048 ![] bcast_S_S1x2048 (constantI S_ 32 15#32))))))) (subf (Host.dotGeneral dot_S2048x16x64_S2048x16x64_S16x2048x2048_2_2_0_0_1_1 none (mulf (shapeCast _ (extractStridedSlice S2048x1x1x16x64 ![0, 2, 0, 0, 0] (v0 x y) slices_S2048x3x3x16x64_S2048x1x1x16x64_0_2_0_0_0) shapeCasts_S2048x1x1x16x64_S2048x16x64) (broadcastInDim S2048x16x64 ![] bcast_S_S2048x16x64 (constant S_ .f32 0x3E000000#32))) (shapeCast _ (extractStridedSlice S2048x1x1x16x64 ![0, 2, 1, 0, 0] (v0 x y) slices_S2048x3x3x16x64_S2048x1x1x16x64_0_2_1_0_0) shapeCasts_S2048x1x1x16x64_S2048x16x64)) (mulf (broadcastInDim S16x2048x2048 ![0, 1, 2] bcast_S16x1x1_S16x2048x2048_0_1_2 (broadcastInDim S16x1x1 ![0] bcast_S16_S16x1x1_0 (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))))) (broadcastInDim S16x2048x2048 ![0, 1, 2] bcast_S1x2048x2048_S16x2048x2048_0_1_2 (broadcastInDim S1x2048x2048 ![1, 2] bcast_S2048x2048_S1x2048x2048_1_2 (sitofp .f32 (v97 x y)))))) (broadcastInDim S16x2048x2048 ![] bcast_S_S16x2048x2048 (id (constant S_ .f32 0xFF800000#32))))) : (⟨S1x16x2048x2048, .f32⟩ : BufTy).Contents (Elt F))⟩] concatenates_S1x16x2048x2048_S1x16x2048x2048_S1x16x2048x2048_S3x16x2048x2048_d0 : (⟨S3x16x2048x2048, .f32⟩ : BufTy).Contents (Elt F))

def v135 (x : FVec F S2048x9216 .f32) (y : FVec F S2048x1024 .f32) : FVec F S3x16x2048x1 .f32 :=
  broadcastInDim S3x16x2048x1 ![0, 1, 2] bcast_S3x16x2048_S3x16x2048x1_0_1_2 (Host.reduce FloatOps.maximumf (v133 x y) (constant S_ .f32 0xFF800000#32) reducesTo_S3x16x2048x2048_S3x16x2048_d3 h_S_)

def v143 (x : FVec F S2048x9216 .f32) (y : FVec F S2048x1024 .f32) : FVec F S3x16x2048 .f32 :=
  shapeCast _ (addf (Host.log (broadcastInDim S3x16x2048x1 ![0, 1, 2] bcast_S3x16x2048_S3x16x2048x1_0_1_2 (Host.reduceAdd (Host.exp (subf (v133 x y) (broadcastInDim S3x16x2048x2048 ![0, 1, 2, 3] bcast_S3x16x2048x1_S3x16x2048x2048_0_1_2_3 (v135 x y)))) (constant S_ .f32 0x00000000#32) reducesTo_S3x16x2048x2048_S3x16x2048_d3 h_S_))) (v135 x y)) shapeCasts_S3x16x2048x1_S3x16x2048

def v154 (x : FVec F S2048x9216 .f32) (y : FVec F S2048x1024 .f32) : FVec F S3x16x2048 .f32 :=
  Host.exp (subf (v143 x y) (broadcastInDim S3x16x2048 ![0, 1, 2] bcast_S1x16x2048_S3x16x2048_0_1_2 (broadcastInDim S1x16x2048 ![1, 2] bcast_S16x2048_S1x16x2048_1_2 (maximumf (broadcastInDim S16x2048 ![] bcast_S_S16x2048 (constant S_ .f32 0xFF800000#32)) (Host.reduce FloatOps.maximumf (v143 x y) (constant S_ .f32 0xFF800000#32) reducesTo_S3x16x2048_S16x2048_d0 h_S_)))))

def v167 (x : FVec F S2048x9216 .f32) (y : FVec F S2048x1024 .f32) : FVec F S1x16x2048 .f32 :=
  broadcastInDim S1x16x2048 ![1, 2] bcast_S16x2048_S1x16x2048_1_2 (Host.reduce FloatOps.maximumf (v143 x y) (constant S_ .f32 0xFF800000#32) reducesTo_S3x16x2048_S16x2048_d0 h_S_)

def v176 (x : FVec F S2048x9216 .f32) (y : FVec F S2048x1024 .f32) : FVec F S2048x16 .f32 :=
  transpose S2048x16 [1, 0] (shapeCast _ (addf (Host.log (broadcastInDim S1x16x2048 ![1, 2] bcast_S16x2048_S1x16x2048_1_2 (Host.reduceAdd (Host.exp (subf (v143 x y) (broadcastInDim S3x16x2048 ![0, 1, 2] bcast_S1x16x2048_S3x16x2048_0_1_2 (v167 x y)))) (constant S_ .f32 0x00000000#32) reducesTo_S3x16x2048_S16x2048_d0 h_S_))) (v167 x y)) shapeCasts_S1x16x2048_S16x2048) transposes_S16x2048_S2048x16_1_0

def v179 (x : FVec F S2048x9216 .f32) (y : FVec F S2048x1024 .f32) : FVec F S2048x16 .f32 :=
  Host.reduceAdd (mulf (shapeCast _ y shapeCasts_S2048x1024_S2048x16x64) (transpose S2048x16x64 [2, 0, 1] (Host.dotGeneral dot_S2048x3x16x64_S3x16x2048x2048_S16x64x2048_10_03_3_2_2_1 none (shapeCast _ (extractStridedSlice S2048x3x1x16x64 ![0, 0, 2, 0, 0] (v0 x y) slices_S2048x3x3x16x64_S2048x3x1x16x64_0_0_2_0_0) shapeCasts_S2048x3x1x16x64_S2048x3x16x64) (mulf (broadcastInDim S3x16x2048x2048 ![0, 1, 2, 3] bcast_S3x16x2048x1_S3x16x2048x2048_0_1_2_3 (broadcastInDim S3x16x2048x1 ![0, 1, 2] bcast_S3x16x2048_S3x16x2048x1_0_1_2 (Host.divf (v154 x y) (broadcastInDim S3x16x2048 ![0, 1, 2] bcast_S1x16x2048_S3x16x2048_0_1_2 (broadcastInDim S1x16x2048 ![1, 2] bcast_S16x2048_S1x16x2048_1_2 (Host.reduceAdd (v154 x y) (constant S_ .f32 0x00000000#32) reducesTo_S3x16x2048_S16x2048_d0 h_S_)))))) (Host.exp (subf (v133 x y) (broadcastInDim S3x16x2048x2048 ![0, 1, 2, 3] bcast_S3x16x2048x1_S3x16x2048x2048_0_1_2_3 (broadcastInDim S3x16x2048x1 ![0, 1, 2] bcast_S3x16x2048_S3x16x2048x1_0_1_2 (v143 x y))))))) transposes_S16x64x2048_S2048x16x64_2_0_1)) (constant S_ .f32 0x00000000#32) reducesTo_S2048x16x64_S2048x16_d2 h_S_

def v196 (x : FVec F S2048x9216 .f32) (y : FVec F S2048x1024 .f32) : FVec F S3x2048x3072 .bf16 :=
  truncf .bf16 ((concatenate S3x2048x3072 0 [⟨S1x2048x3072, ((broadcastInDim S1x2048x3072 ![1, 2] bcast_S2048x3072_S1x2048x3072_1_2 (shapeCast _ (transpose S1x2048x3072 [1, 0, 2] (shapeCast _ (extractStridedSlice S2048x3072 ![0, 0] x slices_S2048x9216_S2048x3072_0_0) shapeCasts_S2048x3072_S2048x1x3072) transposes_S2048x1x3072_S1x2048x3072_1_0_2) shapeCasts_S1x2048x3072_S2048x3072)) : (⟨S1x2048x3072, .f32⟩ : BufTy).Contents (Elt F))⟩, ⟨S1x2048x3072, ((broadcastInDim S1x2048x3072 ![1, 2] bcast_S2048x3072_S1x2048x3072_1_2 (shapeCast _ (transpose S4x512x3072 [1, 0, 2] (shapeCast _ (extractStridedSlice S2048x3072 ![0, 3072] x slices_S2048x9216_S2048x3072_0_3072) shapeCasts_S2048x3072_S512x4x3072) transposes_S512x4x3072_S4x512x3072_1_0_2) shapeCasts_S4x512x3072_S2048x3072)) : (⟨S1x2048x3072, .f32⟩ : BufTy).Contents (Elt F))⟩, ⟨S1x2048x3072, ((broadcastInDim S1x2048x3072 ![1, 2] bcast_S2048x3072_S1x2048x3072_1_2 (shapeCast _ (transpose S16x128x3072 [1, 0, 2] (shapeCast _ (extractStridedSlice S2048x3072 ![0, 6144] x slices_S2048x9216_S2048x3072_0_6144) shapeCasts_S2048x3072_S128x16x3072) transposes_S128x16x3072_S16x128x3072_1_0_2) shapeCasts_S16x128x3072_S2048x3072)) : (⟨S1x2048x3072, .f32⟩ : BufTy).Contents (Elt F))⟩] concatenates_S1x2048x3072_S1x2048x3072_S1x2048x3072_S3x2048x3072_d0 : (⟨S3x2048x3072, .f32⟩ : BufTy).Contents (Elt F))) bitsLt_bf16_f32

def v210 (x : FVec F S2048x9216 .f32) (y : FVec F S2048x1024 .f32) : FVec F S3x2048x1024 .bf16 :=
  truncf .bf16 ((concatenate S3x2048x1024 0 [⟨S1x2048x1024, ((broadcastInDim S1x2048x1024 ![1, 2] bcast_S2048x1024_S1x2048x1024_1_2 (shapeCast _ (transpose S1x2048x1024 [1, 0, 2] (shapeCast _ y shapeCasts_S2048x1024_S2048x1x1024) transposes_S2048x1x1024_S1x2048x1024_1_0_2) shapeCasts_S1x2048x1024_S2048x1024)) : (⟨S1x2048x1024, .f32⟩ : BufTy).Contents (Elt F))⟩, ⟨S1x2048x1024, ((broadcastInDim S1x2048x1024 ![1, 2] bcast_S2048x1024_S1x2048x1024_1_2 (shapeCast _ (transpose S4x512x1024 [1, 0, 2] (shapeCast _ y shapeCasts_S2048x1024_S512x4x1024) transposes_S512x4x1024_S4x512x1024_1_0_2) shapeCasts_S4x512x1024_S2048x1024)) : (⟨S1x2048x1024, .f32⟩ : BufTy).Contents (Elt F))⟩, ⟨S1x2048x1024, ((broadcastInDim S1x2048x1024 ![1, 2] bcast_S2048x1024_S1x2048x1024_1_2 (shapeCast _ (transpose S16x128x1024 [1, 0, 2] (shapeCast _ y shapeCasts_S2048x1024_S128x16x1024) transposes_S128x16x1024_S16x128x1024_1_0_2) shapeCasts_S16x128x1024_S2048x1024)) : (⟨S1x2048x1024, .f32⟩ : BufTy).Contents (Elt F))⟩] concatenates_S1x2048x1024_S1x2048x1024_S1x2048x1024_S3x2048x1024_d0 : (⟨S3x2048x1024, .f32⟩ : BufTy).Contents (Elt F))) bitsLt_bf16_f32

def v226 (x : FVec F S2048x9216 .f32) (y : FVec F S2048x1024 .f32) : FVec F S3x16x8x2048 .f32 :=
  broadcastInDim S3x16x8x2048 ![0, 1, 2, 3] bcast_S3x16x1x2048_S3x16x8x2048_0_1_2_3 (broadcastInDim S3x16x1x2048 ![0, 1, 3] bcast_S3x16x2048_S3x16x1x2048_0_1_3 (transpose S3x16x2048 [0, 2, 1] ((concatenate S3x2048x16 0 [⟨S1x2048x16, ((broadcastInDim S1x2048x16 ![1, 2] bcast_S2048x16_S1x2048x16_1_2 (shapeCast _ (transpose S1x2048x16 [1, 0, 2] (shapeCast _ (v179 x y) shapeCasts_S2048x16_S2048x1x16) transposes_S2048x1x16_S1x2048x16_1_0_2) shapeCasts_S1x2048x16_S2048x16)) : (⟨S1x2048x16, .f32⟩ : BufTy).Contents (Elt F))⟩, ⟨S1x2048x16, ((broadcastInDim S1x2048x16 ![1, 2] bcast_S2048x16_S1x2048x16_1_2 (shapeCast _ (transpose S4x512x16 [1, 0, 2] (shapeCast _ (v179 x y) shapeCasts_S2048x16_S512x4x16) transposes_S512x4x16_S4x512x16_1_0_2) shapeCasts_S4x512x16_S2048x16)) : (⟨S1x2048x16, .f32⟩ : BufTy).Contents (Elt F))⟩, ⟨S1x2048x16, ((broadcastInDim S1x2048x16 ![1, 2] bcast_S2048x16_S1x2048x16_1_2 (shapeCast _ (transpose S16x128x16 [1, 0, 2] (shapeCast _ (v179 x y) shapeCasts_S2048x16_S128x16x16) transposes_S128x16x16_S16x128x16_1_0_2) shapeCasts_S16x128x16_S2048x16)) : (⟨S1x2048x16, .f32⟩ : BufTy).Contents (Elt F))⟩] concatenates_S1x2048x16_S1x2048x16_S1x2048x16_S3x2048x16_d0 : (⟨S3x2048x16, .f32⟩ : BufTy).Contents (Elt F))) transposes_S3x2048x16_S3x16x2048_0_2_1))

def v242 (x : FVec F S2048x9216 .f32) (y : FVec F S2048x1024 .f32) : FVec F S3x16x8x2048 .f32 :=
  broadcastInDim S3x16x8x2048 ![0, 1, 2, 3] bcast_S3x16x1x2048_S3x16x8x2048_0_1_2_3 (broadcastInDim S3x16x1x2048 ![0, 1, 3] bcast_S3x16x2048_S3x16x1x2048_0_1_3 (transpose S3x16x2048 [0, 2, 1] ((concatenate S3x2048x16 0 [⟨S1x2048x16, ((broadcastInDim S1x2048x16 ![1, 2] bcast_S2048x16_S1x2048x16_1_2 (shapeCast _ (transpose S1x2048x16 [1, 0, 2] (shapeCast _ (v176 x y) shapeCasts_S2048x16_S2048x1x16) transposes_S2048x1x16_S1x2048x16_1_0_2) shapeCasts_S1x2048x16_S2048x16)) : (⟨S1x2048x16, .f32⟩ : BufTy).Contents (Elt F))⟩, ⟨S1x2048x16, ((broadcastInDim S1x2048x16 ![1, 2] bcast_S2048x16_S1x2048x16_1_2 (shapeCast _ (transpose S4x512x16 [1, 0, 2] (shapeCast _ (v176 x y) shapeCasts_S2048x16_S512x4x16) transposes_S512x4x16_S4x512x16_1_0_2) shapeCasts_S4x512x16_S2048x16)) : (⟨S1x2048x16, .f32⟩ : BufTy).Contents (Elt F))⟩, ⟨S1x2048x16, ((broadcastInDim S1x2048x16 ![1, 2] bcast_S2048x16_S1x2048x16_1_2 (shapeCast _ (transpose S16x128x16 [1, 0, 2] (shapeCast _ (v176 x y) shapeCasts_S2048x16_S128x16x16) transposes_S128x16x16_S16x128x16_1_0_2) shapeCasts_S16x128x16_S2048x16)) : (⟨S1x2048x16, .f32⟩ : BufTy).Contents (Elt F))⟩] concatenates_S1x2048x16_S1x2048x16_S1x2048x16_S3x2048x16_d0 : (⟨S3x2048x16, .f32⟩ : BufTy).Contents (Elt F))) transposes_S3x2048x16_S3x16x2048_0_2_1))

def v251 (x : FVec F S2048x9216 .f32) (y : FVec F S2048x1024 .f32) : FVec F S16 .f32 :=
  Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))

end Cert.KernelIdeal.Fn

end
-- ==== Proof.Fn.Reference.lean ====
/- The functions the reference computes, on plain arrays. -/
module

public import proofs.«01_k».proof.Proof.Gen.ReferenceIdeal.Run

@[expose] public section

set_option maxRecDepth 16384

noncomputable section

namespace Cert.ReferenceIdeal.Fn

open Cert.ReferenceIdeal Cert.ReferenceIdeal.Gen Idealize.ShloMosaic Idealize.ShloMosaic.TcCoe Idealize.SL.Sem

variable {F : FTy → Type} [FloatOps F]

def v0 (x : FVec F S2048x9216 .f32) (y : FVec F S2048x1024 .f32) : FVec F S2048x3x3x16x64 .f32 :=
  shapeCast _ x shapeCasts_S2048x9216_S2048x3x3x16x64

def v4 (x : FVec F S2048x9216 .f32) (y : FVec F S2048x1024 .f32) : FVec F S2048x16x64 .f32 :=
  shapeCast _ (extractStridedSlice S2048x1x1x16x64 ![0, 0, 1, 0, 0] (v0 x y) slices_S2048x3x3x16x64_S2048x1x1x16x64_0_0_1_0_0) shapeCasts_S2048x1x1x16x64_S2048x16x64

def v5 (x : FVec F S2048x9216 .f32) (y : FVec F S2048x1024 .f32) : IVec S2048 32 :=
  iotaInDim S2048 32 0

def v11 (x : FVec F S2048x9216 .f32) (y : FVec F S2048x1024 .f32) : IVec S2048x2048 32 :=
  absi (subi (broadcastInDim S2048x2048 ![0, 1] bcast_S2048x1_S2048x2048_0_1 (broadcastInDim S2048x1 ![0] bcast_S2048_S2048x1_0 (v5 x y))) (broadcastInDim S2048x2048 ![0, 1] bcast_S1x2048_S2048x2048_0_1 (broadcastInDim S1x2048 ![1] bcast_S2048_S1x2048_1 (v5 x y))))

def v25 (x : FVec F S2048x9216 .f32) (y : FVec F S2048x1024 .f32) : FVec F S2048x16x64 .f32 :=
  mulf (shapeCast _ (extractStridedSlice S2048x1x1x16x64 ![0, 0, 0, 0, 0] (v0 x y) slices_S2048x3x3x16x64_S2048x1x1x16x64_0_0_0_0_0) shapeCasts_S2048x1x1x16x64_S2048x16x64) (broadcastInDim S2048x16x64 ![] bcast_S_S2048x16x64 (constant S_ .f32 0x3E000000#32))

def v43_1 (x : FVec F S2048x9216 .f32) (y : FVec F S2048x1024 .f32) : IVec S16x2048x2048 1 :=
  broadcastInDim S16x2048x2048 ![1, 2] bcast_S2048x2048_S16x2048x2048_1_2 (andi (cmpi .sle (v11 x y) (broadcastInDim S2048x2048 ![] bcast_S_S2048x2048 (constantI S_ 32 64#32))) (cmpi .eq (broadcastInDim S2048x2048 ![0, 1] bcast_S2048x1_S2048x2048_0_1 (andi (broadcastInDim S2048x1 ![0] bcast_S2048_S2048x1_0 (v5 x y)) (broadcastInDim S2048x1 ![] bcast_S_S2048x1 (constantI S_ 32 0#32)))) (broadcastInDim S2048x2048 ![0, 1] bcast_S1x2048_S2048x2048_0_1 (andi (broadcastInDim S1x2048 ![1] bcast_S2048_S1x2048_1 (v5 x y)) (broadcastInDim S1x2048 ![] bcast_S_S1x2048 (constantI S_ 32 0#32))))))

def v47 (x : FVec F S2048x9216 .f32) (y : FVec F S2048x1024 .f32) : FVec F S2048x16x64 .f32 :=
  shapeCast _ (extractStridedSlice S2048x1x1x16x64 ![0, 1, 1, 0, 0] (v0 x y) slices_S2048x3x3x16x64_S2048x1x1x16x64_0_1_1_0_0) shapeCasts_S2048x1x1x16x64_S2048x16x64

def v48 (x : FVec F S2048x9216 .f32) (y : FVec F S2048x1024 .f32) : IVec S2048 32 :=
  iotaInDim S2048 32 0

def v54 (x : FVec F S2048x9216 .f32) (y : FVec F S2048x1024 .f32) : IVec S2048x2048 32 :=
  absi (subi (broadcastInDim S2048x2048 ![0, 1] bcast_S2048x1_S2048x2048_0_1 (broadcastInDim S2048x1 ![0] bcast_S2048_S2048x1_0 (v48 x y))) (broadcastInDim S2048x2048 ![0, 1] bcast_S1x2048_S2048x2048_0_1 (broadcastInDim S1x2048 ![1] bcast_S2048_S1x2048_1 (v48 x y))))

def v68 (x : FVec F S2048x9216 .f32) (y : FVec F S2048x1024 .f32) : FVec F S2048x16x64 .f32 :=
  mulf (shapeCast _ (extractStridedSlice S2048x1x1x16x64 ![0, 1, 0, 0, 0] (v0 x y) slices_S2048x3x3x16x64_S2048x1x1x16x64_0_1_0_0_0) shapeCasts_S2048x1x1x16x64_S2048x16x64) (broadcastInDim S2048x16x64 ![] bcast_S_S2048x16x64 (constant S_ .f32 0x3E000000#32))

def v86_1 (x : FVec F S2048x9216 .f32) (y : FVec F S2048x1024 .f32) : IVec S16x2048x2048 1 :=
  broadcastInDim S16x2048x2048 ![1, 2] bcast_S2048x2048_S16x2048x2048_1_2 (andi (cmpi .sle (v54 x y) (broadcastInDim S2048x2048 ![] bcast_S_S2048x2048 (constantI S_ 32 256#32))) (cmpi .eq (broadcastInDim S2048x2048 ![0, 1] bcast_S2048x1_S2048x2048_0_1 (andi (broadcastInDim S2048x1 ![0] bcast_S2048_S2048x1_0 (v48 x y)) (broadcastInDim S2048x1 ![] bcast_S_S2048x1 (constantI S_ 32 3#32)))) (broadcastInDim S2048x2048 ![0, 1] bcast_S1x2048_S2048x2048_0_1 (andi (broadcastInDim S1x2048 ![1] bcast_S2048_S1x2048_1 (v48 x y)) (broadcastInDim S1x2048 ![] bcast_S_S1x2048 (constantI S_ 32 3#32))))))

def v90 (x : FVec F S2048x9216 .f32) (y : FVec F S2048x1024 .f32) : FVec F S2048x16x64 .f32 :=
  shapeCast _ (extractStridedSlice S2048x1x1x16x64 ![0, 2, 1, 0, 0] (v0 x y) slices_S2048x3x3x16x64_S2048x1x1x16x64_0_2_1_0_0) shapeCasts_S2048x1x1x16x64_S2048x16x64

def v91 (x : FVec F S2048x9216 .f32) (y : FVec F S2048x1024 .f32) : IVec S2048 32 :=
  iotaInDim S2048 32 0

def v97 (x : FVec F S2048x9216 .f32) (y : FVec F S2048x1024 .f32) : IVec S2048x2048 32 :=
  absi (subi (broadcastInDim S2048x2048 ![0, 1] bcast_S2048x1_S2048x2048_0_1 (broadcastInDim S2048x1 ![0] bcast_S2048_S2048x1_0 (v91 x y))) (broadcastInDim S2048x2048 ![0, 1] bcast_S1x2048_S2048x2048_0_1 (broadcastInDim S1x2048 ![1] bcast_S2048_S1x2048_1 (v91 x y))))

def v111 (x : FVec F S2048x9216 .f32) (y : FVec F S2048x1024 .f32) : FVec F S2048x16x64 .f32 :=
  mulf (shapeCast _ (extractStridedSlice S2048x1x1x16x64 ![0, 2, 0, 0, 0] (v0 x y) slices_S2048x3x3x16x64_S2048x1x1x16x64_0_2_0_0_0) shapeCasts_S2048x1x1x16x64_S2048x16x64) (broadcastInDim S2048x16x64 ![] bcast_S_S2048x16x64 (constant S_ .f32 0x3E000000#32))

def v129_1 (x : FVec F S2048x9216 .f32) (y : FVec F S2048x1024 .f32) : IVec S16x2048x2048 1 :=
  broadcastInDim S16x2048x2048 ![1, 2] bcast_S2048x2048_S16x2048x2048_1_2 (andi (cmpi .sle (v97 x y) (broadcastInDim S2048x2048 ![] bcast_S_S2048x2048 (constantI S_ 32 1024#32))) (cmpi .eq (broadcastInDim S2048x2048 ![0, 1] bcast_S2048x1_S2048x2048_0_1 (andi (broadcastInDim S2048x1 ![0] bcast_S2048_S2048x1_0 (v91 x y)) (broadcastInDim S2048x1 ![] bcast_S_S2048x1 (constantI S_ 32 15#32)))) (broadcastInDim S2048x2048 ![0, 1] bcast_S1x2048_S2048x2048_0_1 (andi (broadcastInDim S1x2048 ![1] bcast_S2048_S1x2048_1 (v91 x y)) (broadcastInDim S1x2048 ![] bcast_S_S1x2048 (constantI S_ 32 15#32))))))

def v133 (x : FVec F S2048x9216 .f32) (y : FVec F S2048x1024 .f32) : FVec F S3x16x2048x2048 .f32 :=
  (concatenate S3x16x2048x2048 0 [⟨S1x16x2048x2048, ((broadcastInDim S1x16x2048x2048 ![1, 2, 3] bcast_S16x2048x2048_S1x16x2048x2048_1_2_3 (select (v43_1 x y) (subf (Host.dotGeneral dot_S2048x16x64_S2048x16x64_S16x2048x2048_2_2_0_0_1_1 none (v25 x y) (v4 x y)) (mulf (broadcastInDim S16x2048x2048 ![0, 1, 2] bcast_S16x1x1_S16x2048x2048_0_1_2 (broadcastInDim S16x1x1 ![0] bcast_S16_S16x1x1_0 (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))))) (broadcastInDim S16x2048x2048 ![0, 1, 2] bcast_S1x2048x2048_S16x2048x2048_0_1_2 (broadcastInDim S1x2048x2048 ![1, 2] bcast_S2048x2048_S1x2048x2048_1_2 (sitofp .f32 (v11 x y)))))) (broadcastInDim S16x2048x2048 ![] bcast_S_S16x2048x2048 (id (constant S_ .f32 0xFF800000#32))))) : (⟨S1x16x2048x2048, .f32⟩ : BufTy).Contents (Elt F))⟩, ⟨S1x16x2048x2048, ((broadcastInDim S1x16x2048x2048 ![1, 2, 3] bcast_S16x2048x2048_S1x16x2048x2048_1_2_3 (select (v86_1 x y) (subf (Host.dotGeneral dot_S2048x16x64_S2048x16x64_S16x2048x2048_2_2_0_0_1_1 none (v68 x y) (v47 x y)) (mulf (broadcastInDim S16x2048x2048 ![0, 1, 2] bcast_S16x1x1_S16x2048x2048_0_1_2 (broadcastInDim S16x1x1 ![0] bcast_S16_S16x1x1_0 (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))))) (broadcastInDim S16x2048x2048 ![0, 1, 2] bcast_S1x2048x2048_S16x2048x2048_0_1_2 (broadcastInDim S1x2048x2048 ![1, 2] bcast_S2048x2048_S1x2048x2048_1_2 (sitofp .f32 (v54 x y)))))) (broadcastInDim S16x2048x2048 ![] bcast_S_S16x2048x2048 (id (constant S_ .f32 0xFF800000#32))))) : (⟨S1x16x2048x2048, .f32⟩ : BufTy).Contents (Elt F))⟩, ⟨S1x16x2048x2048, ((broadcastInDim S1x16x2048x2048 ![1, 2, 3] bcast_S16x2048x2048_S1x16x2048x2048_1_2_3 (select (v129_1 x y) (subf (Host.dotGeneral dot_S2048x16x64_S2048x16x64_S16x2048x2048_2_2_0_0_1_1 none (v111 x y) (v90 x y)) (mulf (broadcastInDim S16x2048x2048 ![0, 1, 2] bcast_S16x1x1_S16x2048x2048_0_1_2 (broadcastInDim S16x1x1 ![0] bcast_S16_S16x1x1_0 (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))))) (broadcastInDim S16x2048x2048 ![0, 1, 2] bcast_S1x2048x2048_S16x2048x2048_0_1_2 (broadcastInDim S1x2048x2048 ![1, 2] bcast_S2048x2048_S1x2048x2048_1_2 (sitofp .f32 (v97 x y)))))) (broadcastInDim S16x2048x2048 ![] bcast_S_S16x2048x2048 (id (constant S_ .f32 0xFF800000#32))))) : (⟨S1x16x2048x2048, .f32⟩ : BufTy).Contents (Elt F))⟩] concatenates_S1x16x2048x2048_S1x16x2048x2048_S1x16x2048x2048_S3x16x2048x2048_d0 : (⟨S3x16x2048x2048, .f32⟩ : BufTy).Contents (Elt F))

def v134 (x : FVec F S2048x9216 .f32) (y : FVec F S2048x1024 .f32) : FVec F S3x16x2048 .f32 :=
  Host.reduce FloatOps.maximumf (v133 x y) (constant S_ .f32 0xFF800000#32) reducesTo_S3x16x2048x2048_S3x16x2048_d3 h_S_

def v140 (x : FVec F S2048x9216 .f32) (y : FVec F S2048x1024 .f32) : FVec F S3x16x2048x1 .f32 :=
  broadcastInDim S3x16x2048x1 ![0, 1, 2] bcast_S3x16x2048_S3x16x2048x1_0_1_2 (v134 x y)

def v143 (x : FVec F S2048x9216 .f32) (y : FVec F S2048x1024 .f32) : FVec F S3x16x2048x2048 .f32 :=
  Host.exp (subf (v133 x y) (broadcastInDim S3x16x2048x2048 ![0, 1, 2, 3] bcast_S3x16x2048x1_S3x16x2048x2048_0_1_2_3 (v140 x y)))

def v145 (x : FVec F S2048x9216 .f32) (y : FVec F S2048x1024 .f32) : FVec F S3x16x2048x1 .f32 :=
  broadcastInDim S3x16x2048x1 ![0, 1, 2] bcast_S3x16x2048_S3x16x2048x1_0_1_2 (Host.reduceAdd (v143 x y) (constant S_ .f32 0x00000000#32) reducesTo_S3x16x2048x2048_S3x16x2048_d3 h_S_)

def v148 (x : FVec F S2048x9216 .f32) (y : FVec F S2048x1024 .f32) : FVec F S3x16x2048 .f32 :=
  shapeCast _ (addf (Host.log (v145 x y)) (v140 x y)) shapeCasts_S3x16x2048x1_S3x16x2048

def v152 (x : FVec F S2048x9216 .f32) (y : FVec F S2048x1024 .f32) : FVec F S3x16x2048x2048 .f32 :=
  Host.exp (subf (v133 x y) (broadcastInDim S3x16x2048x2048 ![0, 1, 2, 3] bcast_S3x16x2048x1_S3x16x2048x2048_0_1_2_3 (broadcastInDim S3x16x2048x1 ![0, 1, 2] bcast_S3x16x2048_S3x16x2048x1_0_1_2 (v148 x y))))

def v153 (x : FVec F S2048x9216 .f32) (y : FVec F S2048x1024 .f32) : FVec F S16x2048 .f32 :=
  Host.reduce FloatOps.maximumf (v148 x y) (constant S_ .f32 0xFF800000#32) reducesTo_S3x16x2048_S16x2048_d0 h_S_

def v173 (x : FVec F S2048x9216 .f32) (y : FVec F S2048x1024 .f32) : FVec F S3x16x2048 .f32 :=
  Host.exp (subf (v148 x y) (broadcastInDim S3x16x2048 ![0, 1, 2] bcast_S1x16x2048_S3x16x2048_0_1_2 (broadcastInDim S1x16x2048 ![1, 2] bcast_S16x2048_S1x16x2048_1_2 (maximumf (broadcastInDim S16x2048 ![] bcast_S_S16x2048 (constant S_ .f32 0xFF800000#32)) (v153 x y)))))

def v175 (x : FVec F S2048x9216 .f32) (y : FVec F S2048x1024 .f32) : FVec F S1x16x2048 .f32 :=
  broadcastInDim S1x16x2048 ![1, 2] bcast_S16x2048_S1x16x2048_1_2 (Host.reduceAdd (v173 x y) (constant S_ .f32 0x00000000#32) reducesTo_S3x16x2048_S16x2048_d0 h_S_)

def v181 (x : FVec F S2048x9216 .f32) (y : FVec F S2048x1024 .f32) : FVec F S3x16x2048x1 .f32 :=
  broadcastInDim S3x16x2048x1 ![0, 1, 2] bcast_S3x16x2048_S3x16x2048x1_0_1_2 (Host.divf (v173 x y) (broadcastInDim S3x16x2048 ![0, 1, 2] bcast_S1x16x2048_S3x16x2048_0_1_2 (v175 x y)))

def v183 (x : FVec F S2048x9216 .f32) (y : FVec F S2048x1024 .f32) : FVec F S3x16x2048x2048 .f32 :=
  mulf (broadcastInDim S3x16x2048x2048 ![0, 1, 2, 3] bcast_S3x16x2048x1_S3x16x2048x2048_0_1_2_3 (v181 x y)) (v152 x y)

def v185 (x : FVec F S2048x9216 .f32) (y : FVec F S2048x1024 .f32) : FVec F S2048x3x16x64 .f32 :=
  shapeCast _ (extractStridedSlice S2048x3x1x16x64 ![0, 0, 2, 0, 0] (v0 x y) slices_S2048x3x3x16x64_S2048x3x1x16x64_0_0_2_0_0) shapeCasts_S2048x3x1x16x64_S2048x3x16x64

def v190 (x : FVec F S2048x9216 .f32) (y : FVec F S2048x1024 .f32) : FVec F S16x64x2048 .f32 :=
  transpose S16x64x2048 [1, 2, 0] (shapeCast _ y shapeCasts_S2048x1024_S2048x16x64) transposes_S2048x16x64_S16x64x2048_1_2_0

def v192 (x : FVec F S2048x9216 .f32) (y : FVec F S2048x1024 .f32) : FVec F S3x16x2048x2048 .f32 :=
  transpose S3x16x2048x2048 [3, 0, 1, 2] (Host.dotGeneral dot_S16x64x2048_S2048x3x16x64_S16x2048x2048x3_1_3_2_01_0_2 none (v190 x y) (v185 x y)) transposes_S16x2048x2048x3_S3x16x2048x2048_3_0_1_2

def v202 (x : FVec F S2048x9216 .f32) (y : FVec F S2048x1024 .f32) : FVec F S3x16x2048 .f32 :=
  Host.reduceAdd (shapeCast _ (Host.reduceAdd (mulf (v192 x y) (v152 x y)) (constant S_ .f32 0x00000000#32) reducesTo_S3x16x2048x2048_S3x16x2048_d3 h_S_) shapeCasts_S3x16x2048_S3x16x2048x1) (constant S_ .f32 0x00000000#32) reducesTo_S3x16x2048x1_S3x16x2048_d3 h_S_

def v215 (x : FVec F S2048x9216 .f32) (y : FVec F S2048x1024 .f32) : FVec F S3x16x2048x2048 .f32 :=
  mulf (mulf (broadcastInDim S3x16x2048x2048 ![0, 1, 2, 3] bcast_S3x16x2048x1_S3x16x2048x2048_0_1_2_3 (v181 x y)) (v192 x y)) (v152 x y)

def v226 (x : FVec F S2048x9216 .f32) (y : FVec F S2048x1024 .f32) : FVec F S3x16x2048x2048 .f32 :=
  addf (v215 x y) (mulf (broadcastInDim S3x16x2048x2048 ![0, 1, 2] bcast_S3x16x2048_S3x16x2048x2048_0_1_2 (Host.reduceAdd (Host.divf (broadcastInDim S3x16x2048x1 ![0, 1, 2] bcast_S3x16x2048_S3x16x2048x1_0_1_2 (addf (mulf (addf (Host.divf (v202 x y) (broadcastInDim S3x16x2048 ![0, 1, 2] bcast_S1x16x2048_S3x16x2048_0_1_2 (v175 x y))) (broadcastInDim S3x16x2048 ![1, 2] bcast_S16x2048_S3x16x2048_1_2 (Host.reduceAdd (Host.negf (shapeCast _ (Host.reduceAdd (mulf (mulf (v202 x y) (broadcastInDim S3x16x2048 ![0, 1, 2] bcast_S1x16x2048_S3x16x2048_0_1_2 (Host.divf (broadcastInDim S1x16x2048 ![] bcast_S_S1x16x2048 (constant S_ .f32 0x3F800000#32)) (mulf (v175 x y) (v175 x y))))) (v173 x y)) (constant S_ .f32 0x00000000#32) reducesTo_S3x16x2048_S16x2048_d0 h_S_) shapeCasts_S16x2048_S1x16x2048)) (constant S_ .f32 0x00000000#32) reducesTo_S1x16x2048_S16x2048_d0 h_S_))) (v173 x y)) (Host.reduceAdd (shapeCast _ (Host.reduceAdd (Host.negf (v215 x y)) (constant S_ .f32 0x00000000#32) reducesTo_S3x16x2048x2048_S3x16x2048_d3 h_S_) shapeCasts_S3x16x2048_S3x16x2048x1) (constant S_ .f32 0x00000000#32) reducesTo_S3x16x2048x1_S3x16x2048_d3 h_S_))) (v145 x y)) (constant S_ .f32 0x00000000#32) reducesTo_S3x16x2048x1_S3x16x2048_d3 h_S_)) (v143 x y))

def v233 (x : FVec F S2048x9216 .f32) (y : FVec F S2048x1024 .f32) : FVec F S16x2048x2048 .f32 :=
  select (v129_1 x y) (shapeCast _ (extractStridedSlice S1x16x2048x2048 ![2, 0, 0, 0] (v226 x y) slices_S3x16x2048x2048_S1x16x2048x2048_2_0_0_0) shapeCasts_S1x16x2048x2048_S16x2048x2048) (broadcastInDim S16x2048x2048 ![] bcast_S_S16x2048x2048 (constant S_ .f32 0x00000000#32))

def v246 (x : FVec F S2048x9216 .f32) (y : FVec F S2048x1024 .f32) : FVec F S16x2048x2048 .f32 :=
  select (v86_1 x y) (shapeCast _ (extractStridedSlice S1x16x2048x2048 ![1, 0, 0, 0] (v226 x y) slices_S3x16x2048x2048_S1x16x2048x2048_1_0_0_0) shapeCasts_S1x16x2048x2048_S16x2048x2048) (broadcastInDim S16x2048x2048 ![] bcast_S_S16x2048x2048 (constant S_ .f32 0x00000000#32))

def v259 (x : FVec F S2048x9216 .f32) (y : FVec F S2048x1024 .f32) : FVec F S16x2048x2048 .f32 :=
  select (v43_1 x y) (shapeCast _ (extractStridedSlice S1x16x2048x2048 ![0, 0, 0, 0] (v226 x y) slices_S3x16x2048x2048_S1x16x2048x2048_0_0_0_0) shapeCasts_S1x16x2048x2048_S16x2048x2048) (broadcastInDim S16x2048x2048 ![] bcast_S_S16x2048x2048 (constant S_ .f32 0x00000000#32))

def v273 (x : FVec F S2048x9216 .f32) (y : FVec F S2048x1024 .f32) : FVec F S2048x3x3072 .f32 :=
  shapeCast _ (shapeCast _ (addf (addf (addf (addf (addf (addf (pad S2048x3x3x16x64 ![0, 0, 2, 0, 0] ![0, 0, 0, 0, 0] ![0, 0, 0, 0, 0] (broadcastInDim S2048x3x1x16x64 ![0, 1, 3, 4] bcast_S2048x3x16x64_S2048x3x1x16x64_0_1_3_4 (transpose S2048x3x16x64 [3, 2, 0, 1] (Host.dotGeneral dot_S16x64x2048_S3x16x2048x2048_S16x64x3x2048_2_2_1_03_0_1 none (v190 x y) (v183 x y)) transposes_S16x64x3x2048_S2048x3x16x64_3_2_0_1)) (constant S_ .f32 0x00000000#32) pads_S2048x3x1x16x64_S2048x3x3x16x64_000_000_200_000_000 h_S_) (pad S2048x3x3x16x64 ![0, 2, 1, 0, 0] ![0, 0, 1, 0, 0] ![0, 0, 0, 0, 0] (broadcastInDim S2048x1x1x16x64 ![0, 3, 4] bcast_S2048x16x64_S2048x1x1x16x64_0_3_4 (transpose S2048x16x64 [1, 0, 2] (Host.dotGeneral dot_S16x2048x2048_S2048x16x64_S16x2048x64_1_0_2_2_0_1 none (v233 x y) (v111 x y)) transposes_S16x2048x64_S2048x16x64_1_0_2)) (constant S_ .f32 0x00000000#32) pads_S2048x1x1x16x64_S2048x3x3x16x64_000_200_110_000_000 h_S_)) (pad S2048x3x3x16x64 ![0, 2, 0, 0, 0] ![0, 0, 2, 0, 0] ![0, 0, 0, 0, 0] (broadcastInDim S2048x1x1x16x64 ![0, 3, 4] bcast_S2048x16x64_S2048x1x1x16x64_0_3_4 (mulf (transpose S2048x16x64 [1, 0, 2] (Host.dotGeneral dot_S16x2048x2048_S2048x16x64_S16x2048x64_2_0_1_2_0_1 none (v233 x y) (v90 x y)) transposes_S16x2048x64_S2048x16x64_1_0_2) (broadcastInDim S2048x16x64 ![] bcast_S_S2048x16x64 (constant S_ .f32 0x3E000000#32)))) (constant S_ .f32 0x00000000#32) pads_S2048x1x1x16x64_S2048x3x3x16x64_000_200_020_000_000 h_S_)) (pad S2048x3x3x16x64 ![0, 1, 1, 0, 0] ![0, 1, 1, 0, 0] ![0, 0, 0, 0, 0] (broadcastInDim S2048x1x1x16x64 ![0, 3, 4] bcast_S2048x16x64_S2048x1x1x16x64_0_3_4 (transpose S2048x16x64 [1, 0, 2] (Host.dotGeneral dot_S16x2048x2048_S2048x16x64_S16x2048x64_1_0_2_2_0_1 none (v246 x y) (v68 x y)) transposes_S16x2048x64_S2048x16x64_1_0_2)) (constant S_ .f32 0x00000000#32) pads_S2048x1x1x16x64_S2048x3x3x16x64_000_110_110_000_000 h_S_)) (pad S2048x3x3x16x64 ![0, 1, 0, 0, 0] ![0, 1, 2, 0, 0] ![0, 0, 0, 0, 0] (broadcastInDim S2048x1x1x16x64 ![0, 3, 4] bcast_S2048x16x64_S2048x1x1x16x64_0_3_4 (mulf (transpose S2048x16x64 [1, 0, 2] (Host.dotGeneral dot_S16x2048x2048_S2048x16x64_S16x2048x64_2_0_1_2_0_1 none (v246 x y) (v47 x y)) transposes_S16x2048x64_S2048x16x64_1_0_2) (broadcastInDim S2048x16x64 ![] bcast_S_S2048x16x64 (constant S_ .f32 0x3E000000#32)))) (constant S_ .f32 0x00000000#32) pads_S2048x1x1x16x64_S2048x3x3x16x64_000_110_020_000_000 h_S_)) (pad S2048x3x3x16x64 ![0, 0, 1, 0, 0] ![0, 2, 1, 0, 0] ![0, 0, 0, 0, 0] (broadcastInDim S2048x1x1x16x64 ![0, 3, 4] bcast_S2048x16x64_S2048x1x1x16x64_0_3_4 (transpose S2048x16x64 [1, 0, 2] (Host.dotGeneral dot_S16x2048x2048_S2048x16x64_S16x2048x64_1_0_2_2_0_1 none (v259 x y) (v25 x y)) transposes_S16x2048x64_S2048x16x64_1_0_2)) (constant S_ .f32 0x00000000#32) pads_S2048x1x1x16x64_S2048x3x3x16x64_000_020_110_000_000 h_S_)) (pad S2048x3x3x16x64 ![0, 0, 0, 0, 0] ![0, 2, 2, 0, 0] ![0, 0, 0, 0, 0] (broadcastInDim S2048x1x1x16x64 ![0, 3, 4] bcast_S2048x16x64_S2048x1x1x16x64_0_3_4 (mulf (transpose S2048x16x64 [1, 0, 2] (Host.dotGeneral dot_S16x2048x2048_S2048x16x64_S16x2048x64_2_0_1_2_0_1 none (v259 x y) (v4 x y)) transposes_S16x2048x64_S2048x16x64_1_0_2) (broadcastInDim S2048x16x64 ![] bcast_S_S2048x16x64 (constant S_ .f32 0x3E000000#32)))) (constant S_ .f32 0x00000000#32) pads_S2048x1x1x16x64_S2048x3x3x16x64_000_020_020_000_000 h_S_)) shapeCasts_S2048x3x3x16x64_S2048x9216) shapeCasts_S2048x9216_S2048x3x3072

def v295 (x : FVec F S2048x9216 .f32) (y : FVec F S2048x1024 .f32) : FVec F S3x3x2048x1024 .bf16 :=
  truncf .bf16 (transpose S3x3x2048x1024 [0, 2, 1, 3] (shapeCast _ ((concatenate S3x2048x3072 0 [⟨S1x2048x3072, ((broadcastInDim S1x2048x3072 ![1, 2] bcast_S2048x3072_S1x2048x3072_1_2 (shapeCast _ (transpose S1x2048x3072 [1, 0, 2] (shapeCast _ (shapeCast _ (extractStridedSlice S2048x1x3072 ![0, 0, 0] (v273 x y) slices_S2048x3x3072_S2048x1x3072_0_0_0) shapeCasts_S2048x1x3072_S2048x3072) shapeCasts_S2048x3072_S2048x1x3072) transposes_S2048x1x3072_S1x2048x3072_1_0_2) shapeCasts_S1x2048x3072_S2048x3072)) : (⟨S1x2048x3072, .f32⟩ : BufTy).Contents (Elt F))⟩, ⟨S1x2048x3072, ((broadcastInDim S1x2048x3072 ![1, 2] bcast_S2048x3072_S1x2048x3072_1_2 (shapeCast _ (transpose S4x512x3072 [1, 0, 2] (shapeCast _ (shapeCast _ (extractStridedSlice S2048x1x3072 ![0, 1, 0] (v273 x y) slices_S2048x3x3072_S2048x1x3072_0_1_0) shapeCasts_S2048x1x3072_S2048x3072) shapeCasts_S2048x3072_S512x4x3072) transposes_S512x4x3072_S4x512x3072_1_0_2) shapeCasts_S4x512x3072_S2048x3072)) : (⟨S1x2048x3072, .f32⟩ : BufTy).Contents (Elt F))⟩, ⟨S1x2048x3072, ((broadcastInDim S1x2048x3072 ![1, 2] bcast_S2048x3072_S1x2048x3072_1_2 (shapeCast _ (transpose S16x128x3072 [1, 0, 2] (shapeCast _ (shapeCast _ (extractStridedSlice S2048x1x3072 ![0, 2, 0] (v273 x y) slices_S2048x3x3072_S2048x1x3072_0_2_0) shapeCasts_S2048x1x3072_S2048x3072) shapeCasts_S2048x3072_S128x16x3072) transposes_S128x16x3072_S16x128x3072_1_0_2) shapeCasts_S16x128x3072_S2048x3072)) : (⟨S1x2048x3072, .f32⟩ : BufTy).Contents (Elt F))⟩] concatenates_S1x2048x3072_S1x2048x3072_S1x2048x3072_S3x2048x3072_d0 : (⟨S3x2048x3072, .f32⟩ : BufTy).Contents (Elt F))) shapeCasts_S3x2048x3072_S3x2048x3x1024) transposes_S3x2048x3x1024_S3x3x2048x1024_0_2_1_3) bitsLt_bf16_f32

section
variable (V0 : Valuation τ sig (Elt F))

theorem v295_fin : Value.val6 V0 (Proc.devRef .tc main_v295) = v295 (V0 (Proc.devRef .tc main_arg0)) (V0 (Proc.devRef .tc main_arg1)) := by
  rw [Value.val6_main_v295]
  rfl

end

end Cert.ReferenceIdeal.Fn

end
-- ==== Proof.Fn.RefValue.lean ====
module

public import proofs.«01_k».proof.Proof.Fn.Reference
public import proofs.«01_k».proof.Proof.Math.Words

@[expose] public section

set_option maxRecDepth 65536

noncomputable section

namespace Cert.ReferenceIdeal.Fn

open Cert.ReferenceIdeal Cert.ReferenceIdeal.Gen Idealize.ShloMosaic Idealize.ShloMosaic.TcCoe Cert.Math

/-! What each named stage of the reference is, element by element, when the two arguments are real. -/

variable (x : FVec Ideal S2048x9216 .f32) (y : FVec Ideal S2048x1024 .f32)

theorem v43_at (h : Fin 16) (i j : Fin 2048) : v43_1 x y (ix3 h i j) = BitVec.ofBool (decide (valid 0 i j)) := by
  pointwise [v43_1, v11, v5]
  rw [abs_sub _ _ (by omega) (by omega), show (0#32) = BitVec.ofNat 32 (2 ^ 0 - 1) from rfl, and_mask _ _ (by omega) (by omega), and_mask _ _ (by omega) (by omega),
    cmp_eq _ _ (by omega) (by omega), show (64#32) = BitVec.ofNat 32 64 from rfl, cmp_sle _ _ (by omega) (by omega), and_ofBool, ← Bool.decide_and]
  rfl

theorem v86_at (h : Fin 16) (i j : Fin 2048) : v86_1 x y (ix3 h i j) = BitVec.ofBool (decide (valid 1 i j)) := by
  pointwise [v86_1, v54, v48]
  rw [abs_sub _ _ (by omega) (by omega), show (3#32) = BitVec.ofNat 32 (2 ^ 2 - 1) from rfl, and_mask _ _ (by omega) (by omega), and_mask _ _ (by omega) (by omega),
    cmp_eq _ _ (by omega) (by omega), show (256#32) = BitVec.ofNat 32 256 from rfl, cmp_sle _ _ (by omega) (by omega), and_ofBool, ← Bool.decide_and]
  rfl

theorem v129_at (h : Fin 16) (i j : Fin 2048) : v129_1 x y (ix3 h i j) = BitVec.ofBool (decide (valid 2 i j)) := by
  pointwise [v129_1, v97, v91]
  rw [abs_sub _ _ (by omega) (by omega), show (15#32) = BitVec.ofNat 32 (2 ^ 4 - 1) from rfl, and_mask _ _ (by omega) (by omega), and_mask _ _ (by omega) (by omega),
    cmp_eq _ _ (by omega) (by omega), show (1024#32) = BitVec.ofNat 32 1024 from rfl, cmp_sle _ _ (by omega) (by omega), and_ofBool, ← Bool.decide_and]
  rfl

theorem v11_at (i j : Fin 2048) : v11 x y (ix2 i j) = BitVec.ofNat 32 (gap i j) := by
  pointwise [v11, v5]
  exact abs_sub _ _ (by omega) (by omega)

theorem v54_at (i j : Fin 2048) : v54 x y (ix2 i j) = BitVec.ofNat 32 (gap i j) := by
  pointwise [v54, v48]
  exact abs_sub _ _ (by omega) (by omega)

theorem v97_at (i j : Fin 2048) : v97 x y (ix2 i j) = BitVec.ofNat 32 (gap i j) := by
  pointwise [v97, v91]
  exact abs_sub _ _ (by omega) (by omega)

theorem gap_small (i j : Fin 2048) : gap i j < 2 ^ 31 := by unfold gap; omega

variable (X0 : S2048x9216.Idx → ℝ) (Y0 : S2048x1024.Idx → ℝ)
variable (hx : ∀ j, x j = ((X0 j : ℝ) : EReal)) (hy : ∀ j, y j = ((Y0 j : ℝ) : EReal))

include hx in
theorem v0_at (i : Fin 2048) (g s : Fin 3) (h : Fin 16) (d : Fin 64) : v0 x y (ix5 i g s h d) = ((packedX X0 i g s h d : ℝ) : EReal) := by
  pointwise [v0]
  exact hx _

include hx in
theorem q_at (i : Fin 2048) (h : Fin 16) (d : Fin 64) :
    v25 x y (ix3 i h d) = ((packedX X0 i 0 0 h d * (1 / 8) : ℝ) : EReal) ∧ v68 x y (ix3 i h d) = ((packedX X0 i 1 0 h d * (1 / 8) : ℝ) : EReal)
      ∧ v111 x y (ix3 i h d) = ((packedX X0 i 2 0 h d * (1 / 8) : ℝ) : EReal) := by
  refine ⟨?_, ?_, ?_⟩
  · pointwise [v25]
    rw [v0_at x y X0 hx, bits_eighth, ← EReal.coe_mul]
  · pointwise [v68]
    rw [v0_at x y X0 hx, bits_eighth, ← EReal.coe_mul]
  · pointwise [v111]
    rw [v0_at x y X0 hx, bits_eighth, ← EReal.coe_mul]

include hx in
theorem k_at (i : Fin 2048) (h : Fin 16) (d : Fin 64) :
    v4 x y (ix3 i h d) = ((packedX X0 i 0 1 h d : ℝ) : EReal) ∧ v47 x y (ix3 i h d) = ((packedX X0 i 1 1 h d : ℝ) : EReal)
      ∧ v90 x y (ix3 i h d) = ((packedX X0 i 2 1 h d : ℝ) : EReal) := by
  refine ⟨?_, ?_, ?_⟩
  · pointwise [v4]
    exact v0_at x y X0 hx i 0 1 h d
  · pointwise [v47]
    exact v0_at x y X0 hx i 1 1 h d
  · pointwise [v90]
    exact v0_at x y X0 hx i 2 1 h d

theorem sc_fold (X : Fin 2048 → Fin 3 → Fin 3 → Fin 16 → Fin 64 → ℝ) (g : Fin 3) (h : Fin 16) (i j : Fin 2048) :
    (∑ d : Fin 64, ((X i g 0 h d * (1 / 8) : ℝ) : EReal) * ((X j g 1 h d : ℝ) : EReal)) - ((slope h : ℝ) : EReal) * (((gap i j : ℕ) : ℝ) : EReal)
      = ((sc X slope g h i j : ℝ) : EReal) := by
  simp only [← EReal.coe_mul, ← coe_sum, ← EReal.coe_sub]
  rfl

include hx in
/-- The masked scores. -/
theorem v133_at (g : Fin 3) (h : Fin 16) (i j : Fin 2048) :
    v133 x y (ix4 g h i j) = score (valid g i j) (sc (packedX X0) slope g h i j) := by
  obtain rfl | rfl | rfl : g = 0 ∨ g = 1 ∨ g = 2 := by omega
  · pointwise [v133]
    simp only [(q_at x y X0 hx _ _ _).1, (k_at x y X0 hx _ _ _).1, slope_eq, v11_at, sitofp_small _ (gap_small i j), v43_at, sc_fold, select_ofBool]
    rw [score]; simp [constant, bits_neg_inf]
  · pointwise [v133]
    simp only [(q_at x y X0 hx _ _ _).2.1, (k_at x y X0 hx _ _ _).2.1, slope_eq, v54_at, sitofp_small _ (gap_small i j), v86_at, sc_fold, select_ofBool]
    rw [score]; simp [constant, bits_neg_inf]
  · pointwise [v133]
    simp only [(q_at x y X0 hx _ _ _).2.2, (k_at x y X0 hx _ _ _).2.2, slope_eq, v97_at, sitofp_small _ (gap_small i j), v129_at, sc_fold, select_ofBool]
    rw [score]; simp [constant, bits_neg_inf]

include hx in
/-- The greatest score of a row is a real number. -/
theorem v134_real (g : Fin 3) (h : Fin 16) (i : Fin 2048) : ∃ M : ℝ, v134 x y (ix3 g h i) = (M : EReal) := by
  pointwise [v134]
  rw [bits_neg_inf]
  exact fold_max_real _ (valid g i) (sc (packedX X0) slope g h i) (fun j => v133_at x y X0 hx g h i j) ⟨i, valid_self g i⟩

/-- The exponentials about the row's maximum. -/
theorem v143_at (g : Fin 3) (h : Fin 16) (i j : Fin 2048) (hx : ∀ j, x j = ((X0 j : ℝ) : EReal)) (M : ℝ) (hM : v134 x y (ix3 g h i) = (M : EReal)) :
    v143 x y (ix4 g h i j) = ((w (packedX X0) slope g h i j / Real.exp M : ℝ) : EReal) := by
  pointwise [v143, v140]
  rw [hM, v133_at x y X0 hx, exp_score_sub]
  rfl

theorem v145_at (g : Fin 3) (h : Fin 16) (i : Fin 2048) (hx : ∀ j, x j = ((X0 j : ℝ) : EReal)) (M : ℝ) (hM : v134 x y (ix3 g h i) = (M : EReal)) :
    v145 x y (ix4 g h i 0) = ((Z (packedX X0) slope g h i / Real.exp M : ℝ) : EReal) := by
  pointwise [v145]
  simp only [v143_at x y X0 g h i _ hx M hM]
  rw [← coe_sum, ← Finset.sum_div]
  rfl

include hx in
/-- A group's logarithm of the sum of exponentials. -/
theorem v148_at (g : Fin 3) (h : Fin 16) (i : Fin 2048) : v148 x y (ix3 g h i) = ((Real.log (Z (packedX X0) slope g h i) : ℝ) : EReal) := by
  obtain ⟨M, hM⟩ := v134_real x y X0 hx g h i
  pointwise [v148, v145, v143, v140]
  rw [hM]
  exact log_sum_exp _ (valid g i) (sc (packedX X0) slope g h i) (fun j => v133_at x y X0 hx g h i j) ⟨i, valid_self g i⟩ M

include hx in
theorem v152_at (g : Fin 3) (h : Fin 16) (i j : Fin 2048) :
    v152 x y (ix4 g h i j) = ((w (packedX X0) slope g h i j / Z (packedX X0) slope g h i : ℝ) : EReal) := by
  pointwise [v152]
  rw [v148_at x y X0 hx, v133_at x y X0 hx, exp_score_sub_log _ _ _ (Z_pos _ _ g h i)]
  rfl

include hx in
/-- The greatest of the three groups' logarithms is a real number. -/
theorem v153_real (h : Fin 16) (i : Fin 2048) : ∃ M : ℝ, max (Ideal.ofBits .f32 0xFF800000#32) (v153 x y (ix2 h i)) = (M : EReal) := by
  pointwise [v153]
  rw [bits_neg_inf, max_eq_right bot_le]
  refine fold_max_real _ (fun _ => True) (fun g => Real.log (Z (packedX X0) slope g h i)) (fun g => ?_) ⟨0, trivial⟩
  rw [v148_at x y X0 hx, score, if_pos trivial]

theorem v173_at (g : Fin 3) (h : Fin 16) (i : Fin 2048) (hx : ∀ j, x j = ((X0 j : ℝ) : EReal)) (M : ℝ)
    (hM : max (Ideal.ofBits .f32 0xFF800000#32) (v153 x y (ix2 h i)) = (M : EReal)) :
    v173 x y (ix3 g h i) = ((Z (packedX X0) slope g h i / Real.exp M : ℝ) : EReal) := by
  pointwise [v173]
  rw [hM, v148_at x y X0 hx, exp_log_sub _ _ (Z_pos _ _ g h i)]

theorem v175_at (h : Fin 16) (i : Fin 2048) (hx : ∀ j, x j = ((X0 j : ℝ) : EReal)) (M : ℝ)
    (hM : max (Ideal.ofBits .f32 0xFF800000#32) (v153 x y (ix2 h i)) = (M : EReal)) :
    v175 x y (ix3 0 h i) = ((T (packedX X0) slope h i / Real.exp M : ℝ) : EReal) := by
  pointwise [v175]
  simp only [v173_at x y X0 _ h i hx M hM]
  rw [← coe_sum, ← Finset.sum_div]
  rfl

theorem share (a b c : ℝ) (hb : b ≠ 0) : b / c * (a / b) = a / c := by field_simp

include hx in
/-- A group's share. -/
theorem v181_at (g : Fin 3) (h : Fin 16) (i : Fin 2048) :
    v181 x y (ix4 g h i 0) = ((Z (packedX X0) slope g h i / T (packedX X0) slope h i : ℝ) : EReal) := by
  obtain ⟨M, hM⟩ := v153_real x y X0 hx h i
  have hT := (T_pos (packedX X0) slope h i).ne'
  have hE := (Real.exp_pos M).ne'
  pointwise [v181]
  rw [v173_at x y X0 g h i hx M hM, v175_at x y X0 h i hx M hM, div_real _ _ (div_ne_zero hT hE), div_div_div_cancel_right₀ hE]

include hx in
/-- The probabilities. -/
theorem v183_at (g : Fin 3) (h : Fin 16) (i j : Fin 2048) : v183 x y (ix4 g h i j) = ((P (packedX X0) slope g h i j : ℝ) : EReal) := by
  have hT := (T_pos (packedX X0) slope h i).ne'
  have hZ := (Z_pos (packedX X0) slope g h i).ne'
  pointwise [v183]
  rw [v181_at x y X0 hx, v152_at x y X0 hx, ← EReal.coe_mul, share _ _ _ hZ]
  rfl

include hy in
theorem v190_at (h : Fin 16) (d : Fin 64) (i : Fin 2048) : v190 x y (ix3 h d i) = ((packedY Y0 i h d : ℝ) : EReal) := by
  pointwise [v190]
  exact hy _

include hx hy in
theorem v192_at (g : Fin 3) (h : Fin 16) (i j : Fin 2048) : v192 x y (ix4 g h i j) = ((dpv (packedX X0) (packedY Y0) g h i j : ℝ) : EReal) := by
  pointwise [v192, v185]
  simp only [v190_at x y Y0 hy, v0_at x y X0 hx, ← EReal.coe_mul, ← coe_sum]
  rfl

include hx hy in
theorem v202_at (g : Fin 3) (h : Fin 16) (i : Fin 2048) : v202 x y (ix3 g h i) = ((A (packedX X0) (packedY Y0) slope g h i : ℝ) : EReal) := by
  pointwise [v202]
  simp only [v192_at x y X0 Y0 hx hy, v152_at x y X0 hx, ← EReal.coe_mul, ← coe_sum, Finset.univ_unique, Finset.sum_const, Finset.card_singleton, one_smul]
  rfl

include hx hy in
theorem v215_at (g : Fin 3) (h : Fin 16) (i j : Fin 2048) : v215 x y (ix4 g h i j)
    = ((Z (packedX X0) slope g h i / T (packedX X0) slope h i * dpv (packedX X0) (packedY Y0) g h i j * (w (packedX X0) slope g h i j / Z (packedX X0) slope g h i) : ℝ) : EReal) := by
  pointwise [v215]
  rw [v181_at x y X0 hx, v192_at x y X0 Y0 hx hy, v152_at x y X0 hx, ← EReal.coe_mul, ← EReal.coe_mul]

include hx hy in
/-- The gradient of the scores. -/
theorem v226_at (g : Fin 3) (h : Fin 16) (i j : Fin 2048) : v226 x y (ix4 g h i j) = ((dS (packedX X0) (packedY Y0) slope g h i j : ℝ) : EReal) := by
  obtain ⟨M, hM⟩ := v134_real x y X0 hx g h i
  obtain ⟨M', hM'⟩ := v153_real x y X0 hx h i
  have hT := (T_pos (packedX X0) slope h i).ne'
  have hZ := (Z_pos (packedX X0) slope g h i).ne'
  have hE := (Real.exp_pos M).ne'
  have hE' := (Real.exp_pos M').ne'
  have hTT := div_ne_zero hT hE'
  pointwise [v226]
  simp only [Fin.fin_one_eq_zero, v215_at x y X0 Y0 hx hy, v202_at x y X0 Y0 hx hy, v175_at x y X0 h i hx M' hM', v173_at x y X0 _ h i hx M' hM', v145_at x y X0 g h i hx M hM, v143_at x y X0 g h i j hx M hM,
    ← EReal.coe_one, ← EReal.coe_mul, ← EReal.coe_neg, ← EReal.coe_add, ← coe_sum, div_real _ _ hTT, div_real _ _ (mul_ne_zero hTT hTT), div_real _ _ (div_ne_zero hZ hE)]
  rw [← dS_chain (packedX X0) (packedY Y0) slope g h i j _ _ hE hE']
  simp only [Finset.univ_unique, Finset.sum_const, Finset.card_singleton, one_smul]

include hx hy in
theorem ds_at (h : Fin 16) (i j : Fin 2048) :
    v259 x y (ix3 h i j) = ((dS (packedX X0) (packedY Y0) slope 0 h i j : ℝ) : EReal) ∧ v246 x y (ix3 h i j) = ((dS (packedX X0) (packedY Y0) slope 1 h i j : ℝ) : EReal)
      ∧ v233 x y (ix3 h i j) = ((dS (packedX X0) (packedY Y0) slope 2 h i j : ℝ) : EReal) := by
  have key : ∀ g : Fin 3, (if valid g i j then ((dS (packedX X0) (packedY Y0) slope g h i j : ℝ) : EReal) else 0) = ((dS (packedX X0) (packedY Y0) slope g h i j : ℝ) : EReal) := fun g => by
    split
    · rfl
    · rename_i hv; rw [dS_of_not _ _ _ g h i j hv, EReal.coe_zero]
  refine ⟨?_, ?_, ?_⟩
  · pointwise [v259]
    rw [v43_at, select_ofBool, v226_at x y X0 Y0 hx hy]
    exact key 0
  · pointwise [v246]
    rw [v86_at, select_ofBool, v226_at x y X0 Y0 hx hy]
    exact key 1
  · pointwise [v233]
    rw [v129_at, select_ofBool, v226_at x y X0 Y0 hx hy]
    exact key 2

end Cert.ReferenceIdeal.Fn

end
-- ==== Proof.Fn.RefParts.lean ====
module

public import proofs.«01_k».proof.Proof.Fn.RefValue

@[expose] public section

set_option maxRecDepth 65536

noncomputable section

namespace Cert.ReferenceIdeal.Fn

open Cert.ReferenceIdeal Cert.ReferenceIdeal.Gen Idealize.ShloMosaic Idealize.ShloMosaic.TcCoe Cert.Math

/-! The reference's result, element by element. -/

/-- The gradients of the values of all groups. -/
def tv (x : FVec Ideal S2048x9216 .f32) (y : FVec Ideal S2048x1024 .f32) : FVec Ideal S2048x3x16x64 .f32 :=
  transpose S2048x3x16x64 [3, 2, 0, 1] (Host.dotGeneral dot_S16x64x2048_S3x16x2048x2048_S16x64x3x2048_2_2_1_03_0_1 none (v190 x y) (v183 x y)) transposes_S16x64x3x2048_S2048x3x16x64_3_2_0_1

/-- The gradient of a group's keys, from the gradient of the scores and the scaled queries. -/
def tk (a : FVec Ideal S16x2048x2048 .f32) (q : FVec Ideal S2048x16x64 .f32) : FVec Ideal S2048x16x64 .f32 :=
  transpose S2048x16x64 [1, 0, 2] (Host.dotGeneral dot_S16x2048x2048_S2048x16x64_S16x2048x64_1_0_2_2_0_1 none a q) transposes_S16x2048x64_S2048x16x64_1_0_2

/-- The gradient of a group's queries, from the gradient of the scores and the keys. -/
def tq (a : FVec Ideal S16x2048x2048 .f32) (q : FVec Ideal S2048x16x64 .f32) : FVec Ideal S2048x16x64 .f32 :=
  mulf (transpose S2048x16x64 [1, 0, 2] (Host.dotGeneral dot_S16x2048x2048_S2048x16x64_S16x2048x64_2_0_1_2_0_1 none a q) transposes_S16x2048x64_S2048x16x64_1_0_2) (broadcastInDim S2048x16x64 ![] bcast_S_S2048x16x64 (constant S_ .f32 0x3E000000#32))

/-- One part of the packed gradient, zero elsewhere. -/
def pv (a : FVec Ideal S2048x3x16x64 .f32) : FVec Ideal S2048x3x3x16x64 .f32 :=
  pad S2048x3x3x16x64 ![0, 0, 2, 0, 0] ![0, 0, 0, 0, 0] ![0, 0, 0, 0, 0] (broadcastInDim S2048x3x1x16x64 ![0, 1, 3, 4] bcast_S2048x3x16x64_S2048x3x1x16x64_0_1_3_4 a) (constant S_ .f32 0x00000000#32) pads_S2048x3x1x16x64_S2048x3x3x16x64_000_000_200_000_000 h_S_

/-- One part of the packed gradient, zero elsewhere. -/
def p21 (a : FVec Ideal S2048x16x64 .f32) : FVec Ideal S2048x3x3x16x64 .f32 :=
  pad S2048x3x3x16x64 ![0, 2, 1, 0, 0] ![0, 0, 1, 0, 0] ![0, 0, 0, 0, 0] (broadcastInDim S2048x1x1x16x64 ![0, 3, 4] bcast_S2048x16x64_S2048x1x1x16x64_0_3_4 a) (constant S_ .f32 0x00000000#32) pads_S2048x1x1x16x64_S2048x3x3x16x64_000_200_110_000_000 h_S_

/-- One part of the packed gradient, zero elsewhere. -/
def p20 (a : FVec Ideal S2048x16x64 .f32) : FVec Ideal S2048x3x3x16x64 .f32 :=
  pad S2048x3x3x16x64 ![0, 2, 0, 0, 0] ![0, 0, 2, 0, 0] ![0, 0, 0, 0, 0] (broadcastInDim S2048x1x1x16x64 ![0, 3, 4] bcast_S2048x16x64_S2048x1x1x16x64_0_3_4 a) (constant S_ .f32 0x00000000#32) pads_S2048x1x1x16x64_S2048x3x3x16x64_000_200_020_000_000 h_S_

/-- One part of the packed gradient, zero elsewhere. -/
def p11 (a : FVec Ideal S2048x16x64 .f32) : FVec Ideal S2048x3x3x16x64 .f32 :=
  pad S2048x3x3x16x64 ![0, 1, 1, 0, 0] ![0, 1, 1, 0, 0] ![0, 0, 0, 0, 0] (broadcastInDim S2048x1x1x16x64 ![0, 3, 4] bcast_S2048x16x64_S2048x1x1x16x64_0_3_4 a) (constant S_ .f32 0x00000000#32) pads_S2048x1x1x16x64_S2048x3x3x16x64_000_110_110_000_000 h_S_

/-- One part of the packed gradient, zero elsewhere. -/
def p10 (a : FVec Ideal S2048x16x64 .f32) : FVec Ideal S2048x3x3x16x64 .f32 :=
  pad S2048x3x3x16x64 ![0, 1, 0, 0, 0] ![0, 1, 2, 0, 0] ![0, 0, 0, 0, 0] (broadcastInDim S2048x1x1x16x64 ![0, 3, 4] bcast_S2048x16x64_S2048x1x1x16x64_0_3_4 a) (constant S_ .f32 0x00000000#32) pads_S2048x1x1x16x64_S2048x3x3x16x64_000_110_020_000_000 h_S_

/-- One part of the packed gradient, zero elsewhere. -/
def p01 (a : FVec Ideal S2048x16x64 .f32) : FVec Ideal S2048x3x3x16x64 .f32 :=
  pad S2048x3x3x16x64 ![0, 0, 1, 0, 0] ![0, 2, 1, 0, 0] ![0, 0, 0, 0, 0] (broadcastInDim S2048x1x1x16x64 ![0, 3, 4] bcast_S2048x16x64_S2048x1x1x16x64_0_3_4 a) (constant S_ .f32 0x00000000#32) pads_S2048x1x1x16x64_S2048x3x3x16x64_000_020_110_000_000 h_S_

/-- One part of the packed gradient, zero elsewhere. -/
def p00 (a : FVec Ideal S2048x16x64 .f32) : FVec Ideal S2048x3x3x16x64 .f32 :=
  pad S2048x3x3x16x64 ![0, 0, 0, 0, 0] ![0, 2, 2, 0, 0] ![0, 0, 0, 0, 0] (broadcastInDim S2048x1x1x16x64 ![0, 3, 4] bcast_S2048x16x64_S2048x1x1x16x64_0_3_4 a) (constant S_ .f32 0x00000000#32) pads_S2048x1x1x16x64_S2048x3x3x16x64_000_020_020_000_000 h_S_

/-- The packed gradient as the sum of its parts. -/
def parts (x : FVec Ideal S2048x9216 .f32) (y : FVec Ideal S2048x1024 .f32) : FVec Ideal S2048x3x3x16x64 .f32 :=
  addf (addf (addf (addf (addf (addf (pv (tv x y)) (p21 (tk (v233 x y) (v111 x y)))) (p20 (tq (v233 x y) (v90 x y)))) (p11 (tk (v246 x y) (v68 x y)))) (p10 (tq (v246 x y) (v47 x y)))) (p01 (tk (v259 x y) (v25 x y)))) (p00 (tq (v259 x y) (v4 x y)))

theorem v273_parts (x : FVec Ideal S2048x9216 .f32) (y : FVec Ideal S2048x1024 .f32) :
    v273 x y = shapeCast S2048x3x3072 (shapeCast S2048x9216 (parts x y) shapeCasts_S2048x3x3x16x64_S2048x9216) shapeCasts_S2048x9216_S2048x3x3072 := rfl

theorem pv_at (a : FVec Ideal S2048x3x16x64 .f32) (i : Fin 2048) (g s : Fin 3) (h : Fin 16) (d : Fin 64) :
    pv a (ix5 i g s h d) = if s.val = 2 then a (ix4 i g h d) else 0 := by
  pointwise [pv]
  by_cases hs : s.val = 2
  · rw [dif_pos (by omega), if_pos hs]
  · rw [dif_neg (by omega), if_neg hs]

theorem p21_at (a : FVec Ideal S2048x16x64 .f32) (i : Fin 2048) (g s : Fin 3) (h : Fin 16) (d : Fin 64) :
    p21 a (ix5 i g s h d) = if g.val = 2 ∧ s.val = 1 then a (ix3 i h d) else 0 := by
  pointwise [p21]
  by_cases hs : g.val = 2 ∧ s.val = 1
  · rw [dif_pos (by omega), if_pos hs]
  · rw [dif_neg (by omega), if_neg hs]

theorem p20_at (a : FVec Ideal S2048x16x64 .f32) (i : Fin 2048) (g s : Fin 3) (h : Fin 16) (d : Fin 64) :
    p20 a (ix5 i g s h d) = if g.val = 2 ∧ s.val = 0 then a (ix3 i h d) else 0 := by
  pointwise [p20]
  by_cases hs : g.val = 2 ∧ s.val = 0
  · rw [dif_pos (by omega), if_pos hs]
  · rw [dif_neg (by omega), if_neg hs]

theorem p11_at (a : FVec Ideal S2048x16x64 .f32) (i : Fin 2048) (g s : Fin 3) (h : Fin 16) (d : Fin 64) :
    p11 a (ix5 i g s h d) = if g.val = 1 ∧ s.val = 1 then a (ix3 i h d) else 0 := by
  pointwise [p11]
  by_cases hs : g.val = 1 ∧ s.val = 1
  · rw [dif_pos (by omega), if_pos hs]
  · rw [dif_neg (by omega), if_neg hs]

theorem p10_at (a : FVec Ideal S2048x16x64 .f32) (i : Fin 2048) (g s : Fin 3) (h : Fin 16) (d : Fin 64) :
    p10 a (ix5 i g s h d) = if g.val = 1 ∧ s.val = 0 then a (ix3 i h d) else 0 := by
  pointwise [p10]
  by_cases hs : g.val = 1 ∧ s.val = 0
  · rw [dif_pos (by omega), if_pos hs]
  · rw [dif_neg (by omega), if_neg hs]

theorem p01_at (a : FVec Ideal S2048x16x64 .f32) (i : Fin 2048) (g s : Fin 3) (h : Fin 16) (d : Fin 64) :
    p01 a (ix5 i g s h d) = if g.val = 0 ∧ s.val = 1 then a (ix3 i h d) else 0 := by
  pointwise [p01]
  by_cases hs : g.val = 0 ∧ s.val = 1
  · rw [dif_pos (by omega), if_pos hs]
  · rw [dif_neg (by omega), if_neg hs]

theorem p00_at (a : FVec Ideal S2048x16x64 .f32) (i : Fin 2048) (g s : Fin 3) (h : Fin 16) (d : Fin 64) :
    p00 a (ix5 i g s h d) = if g.val = 0 ∧ s.val = 0 then a (ix3 i h d) else 0 := by
  pointwise [p00]
  by_cases hs : g.val = 0 ∧ s.val = 0
  · rw [dif_pos (by omega), if_pos hs]
  · rw [dif_neg (by omega), if_neg hs]

theorem tk_at (a : FVec Ideal S16x2048x2048 .f32) (q : FVec Ideal S2048x16x64 .f32) (i : Fin 2048) (h : Fin 16) (d : Fin 64) :
    tk a q (ix3 i h d) = ∑ k : Fin 2048, a (ix3 h k i) * q (ix3 k h d) := by
  pointwise [tk]

theorem tq_at (a : FVec Ideal S16x2048x2048 .f32) (q : FVec Ideal S2048x16x64 .f32) (i : Fin 2048) (h : Fin 16) (d : Fin 64) :
    tq a q (ix3 i h d) = (∑ k : Fin 2048, a (ix3 h i k) * q (ix3 k h d)) * ((1 / 8 : ℝ) : EReal) := by
  pointwise [tq]
  rw [bits_eighth]

theorem tv_at (x : FVec Ideal S2048x9216 .f32) (y : FVec Ideal S2048x1024 .f32) (i : Fin 2048) (g : Fin 3) (h : Fin 16) (d : Fin 64) :
    tv x y (ix4 i g h d) = ∑ k : Fin 2048, v190 x y (ix3 h d k) * v183 x y (ix4 g h k i) := by
  pointwise [tv]

end Cert.ReferenceIdeal.Fn

end
-- ==== Proof.Fn.RefOut.lean ====
module

public import proofs.«01_k».proof.Proof.Fn.RefParts

@[expose] public section

set_option maxRecDepth 65536

noncomputable section

namespace Cert.ReferenceIdeal.Fn

open Cert.ReferenceIdeal Cert.ReferenceIdeal.Gen Idealize.ShloMosaic Idealize.ShloMosaic.TcCoe Cert.Math

/-! The reference's result, element by element. -/

variable (x : FVec Ideal S2048x9216 .f32) (y : FVec Ideal S2048x1024 .f32)
variable (X0 : S2048x9216.Idx → ℝ) (Y0 : S2048x1024.Idx → ℝ)
variable (hx : ∀ j, x j = ((X0 j : ℝ) : EReal)) (hy : ∀ j, y j = ((Y0 j : ℝ) : EReal))

theorem coe_congr {a b : ℝ} (h : a = b) : (a : EReal) = (b : EReal) := congrArg _ h

include hx hy in
/-- The value gradients. -/
theorem tv_real (i : Fin 2048) (g : Fin 3) (h : Fin 16) (d : Fin 64) : tv x y (ix4 i g h d) = ((dv (packedX X0) (packedY Y0) slope g h i d : ℝ) : EReal) := by
  rw [tv_at]
  simp only [v190_at x y Y0 hy, v183_at x y X0 hx, ← EReal.coe_mul, ← coe_sum]
  exact coe_congr (Finset.sum_congr rfl fun k _ => mul_comm _ _)

/-- The key gradients of a group whose score gradients and scaled queries are known. -/
theorem tk_real (X : Fin 2048 → Fin 3 → Fin 3 → Fin 16 → Fin 64 → ℝ) (Y : Fin 2048 → Fin 16 → Fin 64 → ℝ) (g : Fin 3) (a : FVec Ideal S16x2048x2048 .f32) (q : FVec Ideal S2048x16x64 .f32)
    (ha : ∀ h i j, a (ix3 h i j) = ((dS X Y slope g h i j : ℝ) : EReal)) (hq : ∀ i h d, q (ix3 i h d) = ((X i g 0 h d * (1 / 8) : ℝ) : EReal))
    (i : Fin 2048) (h : Fin 16) (d : Fin 64) : tk a q (ix3 i h d) = ((dk X Y slope g h i d : ℝ) : EReal) := by
  rw [tk_at]
  simp only [ha, hq, ← EReal.coe_mul, ← coe_sum]
  rfl

/-- The query gradients of a group whose score gradients and keys are known. -/
theorem tq_real (X : Fin 2048 → Fin 3 → Fin 3 → Fin 16 → Fin 64 → ℝ) (Y : Fin 2048 → Fin 16 → Fin 64 → ℝ) (g : Fin 3) (a : FVec Ideal S16x2048x2048 .f32) (q : FVec Ideal S2048x16x64 .f32)
    (ha : ∀ h i j, a (ix3 h i j) = ((dS X Y slope g h i j : ℝ) : EReal)) (hq : ∀ i h d, q (ix3 i h d) = ((X i g 1 h d : ℝ) : EReal))
    (i : Fin 2048) (h : Fin 16) (d : Fin 64) : tq a q (ix3 i h d) = ((dq X Y slope g h i d : ℝ) : EReal) := by
  rw [tq_at]
  simp only [ha, hq, ← EReal.coe_mul, ← coe_sum]
  rfl

include hx hy in
/-- The gradient of the projection by token, group, part, head and lane. -/
theorem parts_at (i : Fin 2048) (g s : Fin 3) (h : Fin 16) (d : Fin 64) :
    parts x y (ix5 i g s h d) = ((out (packedX X0) (packedY Y0) slope g s h i d : ℝ) : EReal) := by
  have e : parts x y (ix5 i g s h d) = pv (tv x y) (ix5 i g s h d) + p21 (tk (v233 x y) (v111 x y)) (ix5 i g s h d) + p20 (tq (v233 x y) (v90 x y)) (ix5 i g s h d)
      + p11 (tk (v246 x y) (v68 x y)) (ix5 i g s h d) + p10 (tq (v246 x y) (v47 x y)) (ix5 i g s h d)
      + p01 (tk (v259 x y) (v25 x y)) (ix5 i g s h d) + p00 (tq (v259 x y) (v4 x y)) (ix5 i g s h d) := rfl
  rw [e, pv_at, p21_at, p20_at, p11_at, p10_at, p01_at, p00_at, tv_real x y X0 Y0 hx hy,
    tk_real (packedX X0) (packedY Y0) 2 _ _ (fun h i j => (ds_at x y X0 Y0 hx hy h i j).2.2) (fun i h d => (q_at x y X0 hx i h d).2.2),
    tk_real (packedX X0) (packedY Y0) 1 _ _ (fun h i j => (ds_at x y X0 Y0 hx hy h i j).2.1) (fun i h d => (q_at x y X0 hx i h d).2.1),
    tk_real (packedX X0) (packedY Y0) 0 _ _ (fun h i j => (ds_at x y X0 Y0 hx hy h i j).1) (fun i h d => (q_at x y X0 hx i h d).1),
    tq_real (packedX X0) (packedY Y0) 2 _ _ (fun h i j => (ds_at x y X0 Y0 hx hy h i j).2.2) (fun i h d => (k_at x y X0 hx i h d).2.2),
    tq_real (packedX X0) (packedY Y0) 1 _ _ (fun h i j => (ds_at x y X0 Y0 hx hy h i j).2.1) (fun i h d => (k_at x y X0 hx i h d).2.1),
    tq_real (packedX X0) (packedY Y0) 0 _ _ (fun h i j => (ds_at x y X0 Y0 hx hy h i j).1) (fun i h d => (k_at x y X0 hx i h d).1), out]
  obtain rfl | rfl | rfl : s = 0 ∨ s = 1 ∨ s = 2 := by omega
  all_goals
    obtain rfl | rfl | rfl : g = 0 ∨ g = 1 ∨ g = 2 := by omega
    all_goals simp

include hx hy in
/-- The gradient of the packed projection. -/
theorem v273_at (i : Fin 2048) (g : Fin 3) (c : Fin 3072) : v273 x y (ix3 i g c)
    = ((out (packedX X0) (packedY Y0) slope g ⟨c.val / 1024, by omega⟩ ⟨c.val / 64 % 16, by omega⟩ i ⟨c.val % 64, by omega⟩ : ℝ) : EReal) := by
  rw [v273_parts]
  pointwise
  exact parts_at x y X0 Y0 hx hy _ _ _ _ _

theorem ix3_congr {n0 n1 n2 : ℕ} {i i' : Fin n0} {j j' : Fin n1} {k k' : Fin n2} (h : i = i') (h' : j = j') (h'' : k = k') : ix3 i j k = ix3 i' j' k' := by
  subst h; subst h'; subst h''; rfl

/-- Group 0 of the packed gradient, its tokens in the order of the dilation. -/
def tail0 (a : FVec Ideal S2048x3x3072 .f32) : FVec Ideal S1x2048x3072 .f32 :=
  broadcastInDim S1x2048x3072 ![1, 2] bcast_S2048x3072_S1x2048x3072_1_2 (shapeCast _ (transpose S1x2048x3072 [1, 0, 2] (shapeCast _ (shapeCast _ (extractStridedSlice S2048x1x3072 ![0, 0, 0] a slices_S2048x3x3072_S2048x1x3072_0_0_0) shapeCasts_S2048x1x3072_S2048x3072) shapeCasts_S2048x3072_S2048x1x3072) transposes_S2048x1x3072_S1x2048x3072_1_0_2) shapeCasts_S1x2048x3072_S2048x3072)

theorem tail0_at (a : FVec Ideal S2048x3x3072 .f32) (z : Fin 1) (r : Fin 2048) (c : Fin 3072) : tail0 a (ix3 z r c) = a (ix3 (tok 0 r) 0 c) := by
  pointwise [tail0]
  exact congrArg a (ix3_congr (Fin.ext (by simp [tok, dil]; try omega)) rfl rfl)

/-- Group 1 of the packed gradient, its tokens in the order of the dilation. -/
def tail1 (a : FVec Ideal S2048x3x3072 .f32) : FVec Ideal S1x2048x3072 .f32 :=
  broadcastInDim S1x2048x3072 ![1, 2] bcast_S2048x3072_S1x2048x3072_1_2 (shapeCast _ (transpose S4x512x3072 [1, 0, 2] (shapeCast _ (shapeCast _ (extractStridedSlice S2048x1x3072 ![0, 1, 0] a slices_S2048x3x3072_S2048x1x3072_0_1_0) shapeCasts_S2048x1x3072_S2048x3072) shapeCasts_S2048x3072_S512x4x3072) transposes_S512x4x3072_S4x512x3072_1_0_2) shapeCasts_S4x512x3072_S2048x3072)

theorem tail1_at (a : FVec Ideal S2048x3x3072 .f32) (z : Fin 1) (r : Fin 2048) (c : Fin 3072) : tail1 a (ix3 z r c) = a (ix3 (tok 1 r) 1 c) := by
  pointwise [tail1]
  exact congrArg a (ix3_congr (Fin.ext (by simp [tok, dil]; try omega)) rfl rfl)

/-- Group 2 of the packed gradient, its tokens in the order of the dilation. -/
def tail2 (a : FVec Ideal S2048x3x3072 .f32) : FVec Ideal S1x2048x3072 .f32 :=
  broadcastInDim S1x2048x3072 ![1, 2] bcast_S2048x3072_S1x2048x3072_1_2 (shapeCast _ (transpose S16x128x3072 [1, 0, 2] (shapeCast _ (shapeCast _ (extractStridedSlice S2048x1x3072 ![0, 2, 0] a slices_S2048x3x3072_S2048x1x3072_0_2_0) shapeCasts_S2048x1x3072_S2048x3072) shapeCasts_S2048x3072_S128x16x3072) transposes_S128x16x3072_S16x128x3072_1_0_2) shapeCasts_S16x128x3072_S2048x3072)

theorem tail2_at (a : FVec Ideal S2048x3x3072 .f32) (z : Fin 1) (r : Fin 2048) (c : Fin 3072) : tail2 a (ix3 z r c) = a (ix3 (tok 2 r) 2 c) := by
  pointwise [tail2]
  exact congrArg a (ix3_congr (Fin.ext (by simp [tok, dil]; try omega)) rfl rfl)

/-- The three groups one after the other. -/
def three (a b c : FVec Ideal S1x2048x3072 .f32) : FVec Ideal S3x2048x3072 .f32 :=
  concatenate S3x2048x3072 0 [⟨S1x2048x3072, (a : (⟨S1x2048x3072, .f32⟩ : BufTy).Contents (Elt Ideal))⟩, ⟨S1x2048x3072, (b : (⟨S1x2048x3072, .f32⟩ : BufTy).Contents (Elt Ideal))⟩, ⟨S1x2048x3072, (c : (⟨S1x2048x3072, .f32⟩ : BufTy).Contents (Elt Ideal))⟩] concatenates_S1x2048x3072_S1x2048x3072_S1x2048x3072_S3x2048x3072_d0

theorem three_at (a b c : FVec Ideal S1x2048x3072 .f32) (g : Fin 3) (r : Fin 2048) (e : Fin 3072) : three a b c (ix3 g r e)
    = if g = 0 then a (ix3 0 r e) else if g = 1 then b (ix3 0 r e) else c (ix3 0 r e) := by
  pointwise [three]
  obtain rfl | rfl | rfl : g = 0 ∨ g = 1 ∨ g = 2 := by omega
  · rfl
  · rfl
  · rfl

/-- Each group split into its three parts. -/
def cut (a : FVec Ideal S3x2048x3072 .f32) : FVec Ideal S3x3x2048x1024 .bf16 :=
  truncf .bf16 (transpose S3x3x2048x1024 [0, 2, 1, 3] (shapeCast _ a shapeCasts_S3x2048x3072_S3x2048x3x1024) transposes_S3x2048x3x1024_S3x3x2048x1024_0_2_1_3) bitsLt_bf16_f32

theorem cut_at (a : FVec Ideal S3x2048x3072 .f32) (g s : Fin 3) (r : Fin 2048) (e : Fin 1024) : cut a (ix4 g s r e) = a (ix3 g r ⟨s.val * 1024 + e.val, by omega⟩) := by
  pointwise [cut]

theorem v295_cut (x : FVec Ideal S2048x9216 .f32) (y : FVec Ideal S2048x1024 .f32) : v295 x y = cut (three (tail0 (v273 x y)) (tail1 (v273 x y)) (tail2 (v273 x y))) := rfl

include hx hy in
/-- The result. -/
theorem v295_at (g s : Fin 3) (r : Fin 2048) (e : Fin 1024) : v295 x y (ix4 g s r e)
    = ((out (packedX X0) (packedY Y0) slope g s ⟨e.val / 64, by omega⟩ (tok g r) ⟨e.val % 64, by omega⟩ : ℝ) : EReal) := by
  have e1 : (⟨(s.val * 1024 + e.val) / 1024, by omega⟩ : Fin 3) = s := Fin.ext (by show (s.val * 1024 + e.val) / 1024 = s.val; omega)
  have e2 : (⟨(s.val * 1024 + e.val) / 64 % 16, by omega⟩ : Fin 16) = ⟨e.val / 64, by omega⟩ := Fin.ext (by show (s.val * 1024 + e.val) / 64 % 16 = e.val / 64; omega)
  have e3 : (⟨(s.val * 1024 + e.val) % 64, by omega⟩ : Fin 64) = ⟨e.val % 64, by omega⟩ := Fin.ext (by show (s.val * 1024 + e.val) % 64 = e.val % 64; omega)
  rw [v295_cut, cut_at, three_at, tail0_at, tail1_at, tail2_at, v273_at x y X0 Y0 hx hy, v273_at x y X0 Y0 hx hy, v273_at x y X0 Y0 hx hy, e1, e2, e3]
  obtain rfl | rfl | rfl : g = 0 ∨ g = 1 ∨ g = 2 := by omega
  · rfl
  · rfl
  · rfl

end Cert.ReferenceIdeal.Fn

end
-- ==== Proof.Fn.KernelValue.lean ====
module

public import proofs.«01_k».proof.Proof.Fn.Kernel
public import proofs.«01_k».proof.Proof.Fn.RefOut

@[expose] public section

set_option maxRecDepth 65536

noncomputable section

namespace Cert.KernelIdeal.Fn

open Cert.KernelIdeal Cert.KernelIdeal.Gen Idealize.ShloMosaic Idealize.ShloMosaic.TcCoe Cert.Math

/-! What the arrays that the host prepares for the kernel hold, element by element, when the two arguments are real. -/

theorem ix2_congr {n0 n1 : ℕ} {i i' : Fin n0} {j j' : Fin n1} (h : i = i') (h' : j = j') : ix2 i j = ix2 i' j' := by
  subst h; subst h'; rfl

/-- The rows of group 0, its tokens in the order of the dilation. -/
def rows3072_0 (a : FVec Ideal S2048x3072 .f32) : FVec Ideal S1x2048x3072 .f32 :=
  broadcastInDim S1x2048x3072 ![1, 2] bcast_S2048x3072_S1x2048x3072_1_2 (shapeCast _ (transpose S1x2048x3072 [1, 0, 2] (shapeCast _ a shapeCasts_S2048x3072_S2048x1x3072) transposes_S2048x1x3072_S1x2048x3072_1_0_2) shapeCasts_S1x2048x3072_S2048x3072)

theorem rows3072_0_at (a : FVec Ideal S2048x3072 .f32) (z : Fin 1) (r : Fin 2048) (c : Fin 3072) : rows3072_0 a (ix3 z r c) = a (ix2 (tok 0 r) c) := by
  pointwise [rows3072_0]
  exact congrArg a (ix2_congr (Fin.ext (by simp [tok, dil]; try omega)) rfl)

/-- The rows of group 1, its tokens in the order of the dilation. -/
def rows3072_1 (a : FVec Ideal S2048x3072 .f32) : FVec Ideal S1x2048x3072 .f32 :=
  broadcastInDim S1x2048x3072 ![1, 2] bcast_S2048x3072_S1x2048x3072_1_2 (shapeCast _ (transpose S4x512x3072 [1, 0, 2] (shapeCast _ a shapeCasts_S2048x3072_S512x4x3072) transposes_S512x4x3072_S4x512x3072_1_0_2) shapeCasts_S4x512x3072_S2048x3072)

theorem rows3072_1_at (a : FVec Ideal S2048x3072 .f32) (z : Fin 1) (r : Fin 2048) (c : Fin 3072) : rows3072_1 a (ix3 z r c) = a (ix2 (tok 1 r) c) := by
  pointwise [rows3072_1]
  exact congrArg a (ix2_congr (Fin.ext (by simp [tok, dil]; try omega)) rfl)

/-- The rows of group 2, its tokens in the order of the dilation. -/
def rows3072_2 (a : FVec Ideal S2048x3072 .f32) : FVec Ideal S1x2048x3072 .f32 :=
  broadcastInDim S1x2048x3072 ![1, 2] bcast_S2048x3072_S1x2048x3072_1_2 (shapeCast _ (transpose S16x128x3072 [1, 0, 2] (shapeCast _ a shapeCasts_S2048x3072_S128x16x3072) transposes_S128x16x3072_S16x128x3072_1_0_2) shapeCasts_S16x128x3072_S2048x3072)

theorem rows3072_2_at (a : FVec Ideal S2048x3072 .f32) (z : Fin 1) (r : Fin 2048) (c : Fin 3072) : rows3072_2 a (ix3 z r c) = a (ix2 (tok 2 r) c) := by
  pointwise [rows3072_2]
  exact congrArg a (ix2_congr (Fin.ext (by simp [tok, dil]; try omega)) rfl)

/-- The three3072 groups one after the other. -/
def three3072 (a b c : FVec Ideal S1x2048x3072 .f32) : FVec Ideal S3x2048x3072 .f32 :=
  concatenate S3x2048x3072 0 [⟨S1x2048x3072, (a : (⟨S1x2048x3072, .f32⟩ : BufTy).Contents (Elt Ideal))⟩, ⟨S1x2048x3072, (b : (⟨S1x2048x3072, .f32⟩ : BufTy).Contents (Elt Ideal))⟩, ⟨S1x2048x3072, (c : (⟨S1x2048x3072, .f32⟩ : BufTy).Contents (Elt Ideal))⟩] concatenates_S1x2048x3072_S1x2048x3072_S1x2048x3072_S3x2048x3072_d0

theorem three3072_at (a b c : FVec Ideal S1x2048x3072 .f32) (g : Fin 3) (r : Fin 2048) (e : Fin 3072) : three3072 a b c (ix3 g r e)
    = if g = 0 then a (ix3 0 r e) else if g = 1 then b (ix3 0 r e) else c (ix3 0 r e) := by
  pointwise [three3072]
  obtain rfl | rfl | rfl : g = 0 ∨ g = 1 ∨ g = 2 := by omega
  · rfl
  · rfl
  · rfl

/-- The rows of group 0, its tokens in the order of the dilation. -/
def rows1024_0 (a : FVec Ideal S2048x1024 .f32) : FVec Ideal S1x2048x1024 .f32 :=
  broadcastInDim S1x2048x1024 ![1, 2] bcast_S2048x1024_S1x2048x1024_1_2 (shapeCast _ (transpose S1x2048x1024 [1, 0, 2] (shapeCast _ a shapeCasts_S2048x1024_S2048x1x1024) transposes_S2048x1x1024_S1x2048x1024_1_0_2) shapeCasts_S1x2048x1024_S2048x1024)

theorem rows1024_0_at (a : FVec Ideal S2048x1024 .f32) (z : Fin 1) (r : Fin 2048) (c : Fin 1024) : rows1024_0 a (ix3 z r c) = a (ix2 (tok 0 r) c) := by
  pointwise [rows1024_0]
  exact congrArg a (ix2_congr (Fin.ext (by simp [tok, dil]; try omega)) rfl)

/-- The rows of group 1, its tokens in the order of the dilation. -/
def rows1024_1 (a : FVec Ideal S2048x1024 .f32) : FVec Ideal S1x2048x1024 .f32 :=
  broadcastInDim S1x2048x1024 ![1, 2] bcast_S2048x1024_S1x2048x1024_1_2 (shapeCast _ (transpose S4x512x1024 [1, 0, 2] (shapeCast _ a shapeCasts_S2048x1024_S512x4x1024) transposes_S512x4x1024_S4x512x1024_1_0_2) shapeCasts_S4x512x1024_S2048x1024)

theorem rows1024_1_at (a : FVec Ideal S2048x1024 .f32) (z : Fin 1) (r : Fin 2048) (c : Fin 1024) : rows1024_1 a (ix3 z r c) = a (ix2 (tok 1 r) c) := by
  pointwise [rows1024_1]
  exact congrArg a (ix2_congr (Fin.ext (by simp [tok, dil]; try omega)) rfl)

/-- The rows of group 2, its tokens in the order of the dilation. -/
def rows1024_2 (a : FVec Ideal S2048x1024 .f32) : FVec Ideal S1x2048x1024 .f32 :=
  broadcastInDim S1x2048x1024 ![1, 2] bcast_S2048x1024_S1x2048x1024_1_2 (shapeCast _ (transpose S16x128x1024 [1, 0, 2] (shapeCast _ a shapeCasts_S2048x1024_S128x16x1024) transposes_S128x16x1024_S16x128x1024_1_0_2) shapeCasts_S16x128x1024_S2048x1024)

theorem rows1024_2_at (a : FVec Ideal S2048x1024 .f32) (z : Fin 1) (r : Fin 2048) (c : Fin 1024) : rows1024_2 a (ix3 z r c) = a (ix2 (tok 2 r) c) := by
  pointwise [rows1024_2]
  exact congrArg a (ix2_congr (Fin.ext (by simp [tok, dil]; try omega)) rfl)

/-- The three1024 groups one after the other. -/
def three1024 (a b c : FVec Ideal S1x2048x1024 .f32) : FVec Ideal S3x2048x1024 .f32 :=
  concatenate S3x2048x1024 0 [⟨S1x2048x1024, (a : (⟨S1x2048x1024, .f32⟩ : BufTy).Contents (Elt Ideal))⟩, ⟨S1x2048x1024, (b : (⟨S1x2048x1024, .f32⟩ : BufTy).Contents (Elt Ideal))⟩, ⟨S1x2048x1024, (c : (⟨S1x2048x1024, .f32⟩ : BufTy).Contents (Elt Ideal))⟩] concatenates_S1x2048x1024_S1x2048x1024_S1x2048x1024_S3x2048x1024_d0

theorem three1024_at (a b c : FVec Ideal S1x2048x1024 .f32) (g : Fin 3) (r : Fin 2048) (e : Fin 1024) : three1024 a b c (ix3 g r e)
    = if g = 0 then a (ix3 0 r e) else if g = 1 then b (ix3 0 r e) else c (ix3 0 r e) := by
  pointwise [three1024]
  obtain rfl | rfl | rfl : g = 0 ∨ g = 1 ∨ g = 2 := by omega
  · rfl
  · rfl
  · rfl

/-- The rows of group 0, its tokens in the order of the dilation. -/
def rows16_0 (a : FVec Ideal S2048x16 .f32) : FVec Ideal S1x2048x16 .f32 :=
  broadcastInDim S1x2048x16 ![1, 2] bcast_S2048x16_S1x2048x16_1_2 (shapeCast _ (transpose S1x2048x16 [1, 0, 2] (shapeCast _ a shapeCasts_S2048x16_S2048x1x16) transposes_S2048x1x16_S1x2048x16_1_0_2) shapeCasts_S1x2048x16_S2048x16)

theorem rows16_0_at (a : FVec Ideal S2048x16 .f32) (z : Fin 1) (r : Fin 2048) (c : Fin 16) : rows16_0 a (ix3 z r c) = a (ix2 (tok 0 r) c) := by
  pointwise [rows16_0]
  exact congrArg a (ix2_congr (Fin.ext (by simp [tok, dil]; try omega)) rfl)

/-- The rows of group 1, its tokens in the order of the dilation. -/
def rows16_1 (a : FVec Ideal S2048x16 .f32) : FVec Ideal S1x2048x16 .f32 :=
  broadcastInDim S1x2048x16 ![1, 2] bcast_S2048x16_S1x2048x16_1_2 (shapeCast _ (transpose S4x512x16 [1, 0, 2] (shapeCast _ a shapeCasts_S2048x16_S512x4x16) transposes_S512x4x16_S4x512x16_1_0_2) shapeCasts_S4x512x16_S2048x16)

theorem rows16_1_at (a : FVec Ideal S2048x16 .f32) (z : Fin 1) (r : Fin 2048) (c : Fin 16) : rows16_1 a (ix3 z r c) = a (ix2 (tok 1 r) c) := by
  pointwise [rows16_1]
  exact congrArg a (ix2_congr (Fin.ext (by simp [tok, dil]; try omega)) rfl)

/-- The rows of group 2, its tokens in the order of the dilation. -/
def rows16_2 (a : FVec Ideal S2048x16 .f32) : FVec Ideal S1x2048x16 .f32 :=
  broadcastInDim S1x2048x16 ![1, 2] bcast_S2048x16_S1x2048x16_1_2 (shapeCast _ (transpose S16x128x16 [1, 0, 2] (shapeCast _ a shapeCasts_S2048x16_S128x16x16) transposes_S128x16x16_S16x128x16_1_0_2) shapeCasts_S16x128x16_S2048x16)

theorem rows16_2_at (a : FVec Ideal S2048x16 .f32) (z : Fin 1) (r : Fin 2048) (c : Fin 16) : rows16_2 a (ix3 z r c) = a (ix2 (tok 2 r) c) := by
  pointwise [rows16_2]
  exact congrArg a (ix2_congr (Fin.ext (by simp [tok, dil]; try omega)) rfl)

/-- The three16 groups one after the other. -/
def three16 (a b c : FVec Ideal S1x2048x16 .f32) : FVec Ideal S3x2048x16 .f32 :=
  concatenate S3x2048x16 0 [⟨S1x2048x16, (a : (⟨S1x2048x16, .f32⟩ : BufTy).Contents (Elt Ideal))⟩, ⟨S1x2048x16, (b : (⟨S1x2048x16, .f32⟩ : BufTy).Contents (Elt Ideal))⟩, ⟨S1x2048x16, (c : (⟨S1x2048x16, .f32⟩ : BufTy).Contents (Elt Ideal))⟩] concatenates_S1x2048x16_S1x2048x16_S1x2048x16_S3x2048x16_d0

theorem three16_at (a b c : FVec Ideal S1x2048x16 .f32) (g : Fin 3) (r : Fin 2048) (e : Fin 16) : three16 a b c (ix3 g r e)
    = if g = 0 then a (ix3 0 r e) else if g = 1 then b (ix3 0 r e) else c (ix3 0 r e) := by
  pointwise [three16]
  obtain rfl | rfl | rfl : g = 0 ∨ g = 1 ∨ g = 2 := by omega
  · rfl
  · rfl
  · rfl

/-- A row of numbers for each head, repeated eight times. -/
def eight (a : FVec Ideal S3x2048x16 .f32) : FVec Ideal S3x16x8x2048 .f32 :=
  broadcastInDim S3x16x8x2048 ![0, 1, 2, 3] bcast_S3x16x1x2048_S3x16x8x2048_0_1_2_3 (broadcastInDim S3x16x1x2048 ![0, 1, 3] bcast_S3x16x2048_S3x16x1x2048_0_1_3 (transpose S3x16x2048 [0, 2, 1] a transposes_S3x2048x16_S3x16x2048_0_2_1))

theorem eight_at (a : FVec Ideal S3x2048x16 .f32) (g : Fin 3) (h : Fin 16) (k : Fin 8) (r : Fin 2048) : eight a (ix4 g h k r) = a (ix3 g r h) := by
  pointwise [eight]

/-- A group's columns of the packed projection. -/
def cols0 (x : FVec Ideal S2048x9216 .f32) : FVec Ideal S2048x3072 .f32 := extractStridedSlice S2048x3072 ![0, 0] x slices_S2048x9216_S2048x3072_0_0
/-- A group's columns of the packed projection. -/
def cols1 (x : FVec Ideal S2048x9216 .f32) : FVec Ideal S2048x3072 .f32 := extractStridedSlice S2048x3072 ![0, 3072] x slices_S2048x9216_S2048x3072_0_3072
/-- A group's columns of the packed projection. -/
def cols2 (x : FVec Ideal S2048x9216 .f32) : FVec Ideal S2048x3072 .f32 := extractStridedSlice S2048x3072 ![0, 6144] x slices_S2048x9216_S2048x3072_0_6144

theorem cols_at (x : FVec Ideal S2048x9216 .f32) (r : Fin 2048) (c : Fin 3072) : cols0 x (ix2 r c) = x (ix2 r ⟨c.val, by omega⟩)
    ∧ cols1 x (ix2 r c) = x (ix2 r ⟨3072 + c.val, by omega⟩) ∧ cols2 x (ix2 r c) = x (ix2 r ⟨6144 + c.val, by omega⟩) := by
  refine ⟨?_, ?_, ?_⟩
  · pointwise [cols0]
  · pointwise [cols1]
  · pointwise [cols2]

variable (x : FVec Ideal S2048x9216 .f32) (y : FVec Ideal S2048x1024 .f32)

theorem v196_three : v196 x y = truncf .bf16 (three3072 (rows3072_0 (cols0 x)) (rows3072_1 (cols1 x)) (rows3072_2 (cols2 x))) bitsLt_bf16_f32 := rfl
theorem v210_three : v210 x y = truncf .bf16 (three1024 (rows1024_0 y) (rows1024_1 y) (rows1024_2 y)) bitsLt_bf16_f32 := rfl
theorem v226_three : v226 x y = eight (three16 (rows16_0 (v179 x y)) (rows16_1 (v179 x y)) (rows16_2 (v179 x y))) := rfl
theorem v242_three : v242 x y = eight (three16 (rows16_0 (v176 x y)) (rows16_1 (v176 x y)) (rows16_2 (v176 x y))) := rfl

theorem v133_ref : v133 x y = ReferenceIdeal.Fn.v133 x y := rfl
theorem v143_ref : v143 x y = ReferenceIdeal.Fn.v148 x y := rfl
theorem v154_ref : v154 x y = ReferenceIdeal.Fn.v173 x y := rfl

variable (X0 : S2048x9216.Idx → ℝ) (Y0 : S2048x1024.Idx → ℝ)
variable (hx : ∀ j, x j = ((X0 j : ℝ) : EReal)) (hy : ∀ j, y j = ((Y0 j : ℝ) : EReal))

theorem v251_at (h : Fin 16) : v251 x y (ix1 h) = ((slope h : ℝ) : EReal) := by
  pointwise [v251]
  exact slope_eq h

include hx in
theorem v143_at (g : Fin 3) (h : Fin 16) (i : Fin 2048) : v143 x y (ix3 g h i) = ((Real.log (Z (packedX X0) slope g h i) : ℝ) : EReal) := by
  rw [v143_ref]; exact ReferenceIdeal.Fn.v148_at x y X0 hx g h i

include hx in
/-- The greatest of the three groups' logarithms is a real number. -/
theorem v167_real (h : Fin 16) (i : Fin 2048) : ∃ M : ℝ, v167 x y (ix3 0 h i) = (M : EReal) := by
  pointwise [v167]
  rw [bits_neg_inf]
  refine fold_max_real _ (fun _ => True) (fun g => Real.log (Z (packedX X0) slope g h i)) (fun g => ?_) ⟨0, trivial⟩
  rw [v143_at x y X0 hx, score, if_pos trivial]

include hx in
/-- The logarithm of the sum of exponentials over all groups. -/
theorem v176_at (i : Fin 2048) (h : Fin 16) : v176 x y (ix2 i h) = ((Real.log (T (packedX X0) slope h i) : ℝ) : EReal) := by
  obtain ⟨M, hM⟩ := v167_real x y X0 hx h i
  pointwise [v176]
  rw [hM, log_sum_exp _ (fun _ => True) (fun g => Real.log (Z (packedX X0) slope g h i)) (fun g => by rw [v143_at x y X0 hx, score, if_pos trivial]) ⟨0, trivial⟩ M]
  refine congrArg (fun r : ℝ => ((Real.log r : ℝ) : EReal)) (Finset.sum_congr rfl fun g _ => ?_)
  rw [weight, if_pos trivial, Real.exp_log (Z_pos _ _ g h i)]

include hx in
/-- A product of a group's share and its own probability is the probability. -/
theorem share_at (g : Fin 3) (h : Fin 16) (i j : Fin 2048) :
    Ideal.div (v154 x y (ix3 g h i)) (∑ k : Fin 3, v154 x y (ix3 k h i)) * Ideal.exp (v133 x y (ix4 g h i j) - v143 x y (ix3 g h i))
      = ((P (packedX X0) slope g h i j : ℝ) : EReal) := by
  obtain ⟨M, hM⟩ := ReferenceIdeal.Fn.v153_real x y X0 hx h i
  have hT := (T_pos (packedX X0) slope h i).ne'
  have hZ := (Z_pos (packedX X0) slope g h i).ne'
  have hE := (Real.exp_pos M).ne'
  have h154 : ∀ k : Fin 3, v154 x y (ix3 k h i) = ((Z (packedX X0) slope k h i / Real.exp M : ℝ) : EReal) := fun k => by
    rw [v154_ref]; exact ReferenceIdeal.Fn.v173_at x y X0 k h i hx M hM
  have h133 : v133 x y (ix4 g h i j) = score (valid g i j) (sc (packedX X0) slope g h i j) := by
    rw [v133_ref]; exact ReferenceIdeal.Fn.v133_at x y X0 hx g h i j
  have hsum : (∑ k : Fin 3, v154 x y (ix3 k h i)) = ((T (packedX X0) slope h i / Real.exp M : ℝ) : EReal) := by
    simp only [h154]
    rw [← coe_sum, ← Finset.sum_div]
    rfl
  rw [hsum, h154, h133, v143_at x y X0 hx, exp_score_sub_log _ _ _ (Z_pos _ _ g h i), div_real _ _ (div_ne_zero hT hE), div_div_div_cancel_right₀ hE, ← EReal.coe_mul]
  exact congrArg (fun r : ℝ => (r : EReal)) (ReferenceIdeal.Fn.share _ _ _ hZ)

theorem v0_ref : v0 x y = ReferenceIdeal.Fn.v0 x y := rfl

include hx hy in
/-- The mean of the gradient under the probabilities, read off the output and its gradient. -/
theorem v179_at (i : Fin 2048) (h : Fin 16) : v179 x y (ix2 i h) = ((D (packedX X0) (packedY Y0) slope h i : ℝ) : EReal) := by
  pointwise [v179]
  simp only [share_at x y X0 hx, v0_ref, ReferenceIdeal.Fn.v0_at x y X0 hx, hy, ← EReal.coe_mul, ← coe_sum]
  refine congrArg (fun r : ℝ => (r : EReal)) ?_
  simp only [Finset.mul_sum, D, dpv]
  rw [Finset.sum_comm]
  refine Finset.sum_congr rfl fun g _ => ?_
  rw [Finset.sum_comm]
  refine Finset.sum_congr rfl fun j _ => Finset.sum_congr rfl fun d _ => ?_
  show packedY Y0 i h d * _ = _
  ring

include hx in
/-- The packed projection as the kernel receives it. -/
theorem v196_at (g s : Fin 3) (r : Fin 2048) (e : Fin 1024) : v196 x y (ix3 g r ⟨s.val * 1024 + e.val, by omega⟩)
    = ((packedX X0 (tok g r) g s ⟨e.val / 64, by omega⟩ ⟨e.val % 64, by omega⟩ : ℝ) : EReal) := by
  have e0 : v196 x y (ix3 g r ⟨s.val * 1024 + e.val, by omega⟩) = three3072 (rows3072_0 (cols0 x)) (rows3072_1 (cols1 x)) (rows3072_2 (cols2 x)) (ix3 g r ⟨s.val * 1024 + e.val, by omega⟩) := by
    rw [v196_three]; rfl
  rw [e0, three3072_at, rows3072_0_at, rows3072_1_at, rows3072_2_at, (cols_at x _ _).1, (cols_at x _ _).2.1, (cols_at x _ _).2.2, hx, hx, hx]
  simp only [packedX]
  obtain rfl | rfl | rfl : g = 0 ∨ g = 1 ∨ g = 2 := by omega
  · rw [if_pos rfl]
    exact congrArg (fun c => ((X0 (ix2 _ c) : ℝ) : EReal)) (Fin.ext (by show s.val * 1024 + e.val = 0 * 3072 + s.val * 1024 + e.val / 64 * 64 + e.val % 64; omega))
  · rw [if_neg (by decide), if_pos rfl]
    exact congrArg (fun c => ((X0 (ix2 _ c) : ℝ) : EReal)) (Fin.ext (by show 3072 + (s.val * 1024 + e.val) = 1 * 3072 + s.val * 1024 + e.val / 64 * 64 + e.val % 64; omega))
  · rw [if_neg (by decide), if_neg (by decide)]
    exact congrArg (fun c => ((X0 (ix2 _ c) : ℝ) : EReal)) (Fin.ext (by show 6144 + (s.val * 1024 + e.val) = 2 * 3072 + s.val * 1024 + e.val / 64 * 64 + e.val % 64; omega))

include hy in
/-- The gradient of the output as the kernel receives it. -/
theorem v210_at (g : Fin 3) (r : Fin 2048) (e : Fin 1024) : v210 x y (ix3 g r e)
    = ((packedY Y0 (tok g r) ⟨e.val / 64, by omega⟩ ⟨e.val % 64, by omega⟩ : ℝ) : EReal) := by
  have e0 : v210 x y (ix3 g r e) = three1024 (rows1024_0 y) (rows1024_1 y) (rows1024_2 y) (ix3 g r e) := by
    rw [v210_three]; rfl
  have key : ∀ g', (((Y0 (ix2 (tok g' r) e) : ℝ) : EReal)) = ((packedY Y0 (tok g' r) ⟨e.val / 64, by omega⟩ ⟨e.val % 64, by omega⟩ : ℝ) : EReal) := fun g' =>
    congrArg (fun c => ((Y0 (ix2 _ c) : ℝ) : EReal)) (Fin.ext (by show e.val = e.val / 64 * 64 + e.val % 64; omega))
  rw [e0, three1024_at, rows1024_0_at, rows1024_1_at, rows1024_2_at, hy, hy, hy, key, key, key]
  obtain rfl | rfl | rfl : g = 0 ∨ g = 1 ∨ g = 2 := by omega
  · rfl
  · rfl
  · rfl

include hx hy in
/-- The means as the kernel receives them. -/
theorem v226_at (g : Fin 3) (h : Fin 16) (k : Fin 8) (r : Fin 2048) : v226 x y (ix4 g h k r)
    = ((D (packedX X0) (packedY Y0) slope h (tok g r) : ℝ) : EReal) := by
  rw [v226_three, eight_at, three16_at, rows16_0_at, rows16_1_at, rows16_2_at, v179_at x y X0 Y0 hx hy, v179_at x y X0 Y0 hx hy, v179_at x y X0 Y0 hx hy]
  obtain rfl | rfl | rfl : g = 0 ∨ g = 1 ∨ g = 2 := by omega
  · rfl
  · rfl
  · rfl

include hx in
/-- The logarithms as the kernel receives them. -/
theorem v242_at (g : Fin 3) (h : Fin 16) (k : Fin 8) (r : Fin 2048) : v242 x y (ix4 g h k r)
    = ((Real.log (T (packedX X0) slope h (tok g r)) : ℝ) : EReal) := by
  rw [v242_three, eight_at, three16_at, rows16_0_at, rows16_1_at, rows16_2_at, v176_at x y X0 hx, v176_at x y X0 hx, v176_at x y X0 hx]
  obtain rfl | rfl | rfl : g = 0 ∨ g = 1 ∨ g = 2 := by omega
  · rfl
  · rfl
  · rfl

end Cert.KernelIdeal.Fn

end
-- ==== Proof.Host.Vals.lean ====
/- What the host operations leave in the buffers the region reads. -/
module

public import proofs.«01_k».proof.Proof.Host.Ops
public import proofs.«01_k».proof.Proof.Fn.Kernel

@[expose] public section

set_option Elab.async false
set_option maxRecDepth 8192
set_option maxHeartbeats 2000000

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (V0 : Valuation τ sig (Elt F))

/-- `main_v0`'s composed term of the arguments -/
def res_main_v0 : (Proc.devRef .tc main_v0 : DevRef τ sig).ty.Contents (Elt F) :=
  Fn.v0 (V0 (Proc.devRef .tc main_arg0)) (V0 (Proc.devRef .tc main_arg1))

/-- `main_v5`'s composed term of the arguments -/
def res_main_v5 : (Proc.devRef .tc main_v5 : DevRef τ sig).ty.Contents (Elt F) :=
  Fn.v5 (V0 (Proc.devRef .tc main_arg0)) (V0 (Proc.devRef .tc main_arg1))

/-- `main_v11`'s composed term of the arguments -/
def res_main_v11 : (Proc.devRef .tc main_v11 : DevRef τ sig).ty.Contents (Elt F) :=
  Fn.v11 (V0 (Proc.devRef .tc main_arg0)) (V0 (Proc.devRef .tc main_arg1))

/-- `main_v48`'s composed term of the arguments -/
def res_main_v48 : (Proc.devRef .tc main_v48 : DevRef τ sig).ty.Contents (Elt F) :=
  Fn.v48 (V0 (Proc.devRef .tc main_arg0)) (V0 (Proc.devRef .tc main_arg1))

/-- `main_v54`'s composed term of the arguments -/
def res_main_v54 : (Proc.devRef .tc main_v54 : DevRef τ sig).ty.Contents (Elt F) :=
  Fn.v54 (V0 (Proc.devRef .tc main_arg0)) (V0 (Proc.devRef .tc main_arg1))

/-- `main_v91`'s composed term of the arguments -/
def res_main_v91 : (Proc.devRef .tc main_v91 : DevRef τ sig).ty.Contents (Elt F) :=
  Fn.v91 (V0 (Proc.devRef .tc main_arg0)) (V0 (Proc.devRef .tc main_arg1))

/-- `main_v97`'s composed term of the arguments -/
def res_main_v97 : (Proc.devRef .tc main_v97 : DevRef τ sig).ty.Contents (Elt F) :=
  Fn.v97 (V0 (Proc.devRef .tc main_arg0)) (V0 (Proc.devRef .tc main_arg1))

/-- `main_v43`'s composed term of the arguments -/
def res_main_v43 : (Proc.devRef .tc main_v43 : DevRef τ sig).ty.Contents (Elt F) :=
  select (broadcastInDim S16x2048x2048 ![1, 2] bcast_S2048x2048_S16x2048x2048_1_2 (andi (cmpi .sle (res_main_v11 V0) (broadcastInDim S2048x2048 ![] bcast_S_S2048x2048 (constantI S_ 32 64#32))) (cmpi .eq (broadcastInDim S2048x2048 ![0, 1] bcast_S2048x1_S2048x2048_0_1 (andi (broadcastInDim S2048x1 ![0] bcast_S2048_S2048x1_0 (res_main_v5 V0)) (broadcastInDim S2048x1 ![] bcast_S_S2048x1 (constantI S_ 32 0#32)))) (broadcastInDim S2048x2048 ![0, 1] bcast_S1x2048_S2048x2048_0_1 (andi (broadcastInDim S1x2048 ![1] bcast_S2048_S1x2048_1 (res_main_v5 V0)) (broadcastInDim S1x2048 ![] bcast_S_S1x2048 (constantI S_ 32 0#32))))))) (subf (Host.dotGeneral dot_S2048x16x64_S2048x16x64_S16x2048x2048_2_2_0_0_1_1 none (mulf (shapeCast _ (extractStridedSlice S2048x1x1x16x64 ![0, 0, 0, 0, 0] (res_main_v0 V0) slices_S2048x3x3x16x64_S2048x1x1x16x64_0_0_0_0_0) shapeCasts_S2048x1x1x16x64_S2048x16x64) (broadcastInDim S2048x16x64 ![] bcast_S_S2048x16x64 (constant S_ .f32 0x3E000000#32))) (shapeCast _ (extractStridedSlice S2048x1x1x16x64 ![0, 0, 1, 0, 0] (res_main_v0 V0) slices_S2048x3x3x16x64_S2048x1x1x16x64_0_0_1_0_0) shapeCasts_S2048x1x1x16x64_S2048x16x64)) (mulf (broadcastInDim S16x2048x2048 ![0, 1, 2] bcast_S16x1x1_S16x2048x2048_0_1_2 (broadcastInDim S16x1x1 ![0] bcast_S16_S16x1x1_0 (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))))) (broadcastInDim S16x2048x2048 ![0, 1, 2] bcast_S1x2048x2048_S16x2048x2048_0_1_2 (broadcastInDim S1x2048x2048 ![1, 2] bcast_S2048x2048_S1x2048x2048_1_2 (sitofp .f32 (res_main_v11 V0)))))) (broadcastInDim S16x2048x2048 ![] bcast_S_S16x2048x2048 (id (constant S_ .f32 0xFF800000#32)))

/-- `main_v86`'s composed term of the arguments -/
def res_main_v86 : (Proc.devRef .tc main_v86 : DevRef τ sig).ty.Contents (Elt F) :=
  select (broadcastInDim S16x2048x2048 ![1, 2] bcast_S2048x2048_S16x2048x2048_1_2 (andi (cmpi .sle (res_main_v54 V0) (broadcastInDim S2048x2048 ![] bcast_S_S2048x2048 (constantI S_ 32 256#32))) (cmpi .eq (broadcastInDim S2048x2048 ![0, 1] bcast_S2048x1_S2048x2048_0_1 (andi (broadcastInDim S2048x1 ![0] bcast_S2048_S2048x1_0 (res_main_v48 V0)) (broadcastInDim S2048x1 ![] bcast_S_S2048x1 (constantI S_ 32 3#32)))) (broadcastInDim S2048x2048 ![0, 1] bcast_S1x2048_S2048x2048_0_1 (andi (broadcastInDim S1x2048 ![1] bcast_S2048_S1x2048_1 (res_main_v48 V0)) (broadcastInDim S1x2048 ![] bcast_S_S1x2048 (constantI S_ 32 3#32))))))) (subf (Host.dotGeneral dot_S2048x16x64_S2048x16x64_S16x2048x2048_2_2_0_0_1_1 none (mulf (shapeCast _ (extractStridedSlice S2048x1x1x16x64 ![0, 1, 0, 0, 0] (res_main_v0 V0) slices_S2048x3x3x16x64_S2048x1x1x16x64_0_1_0_0_0) shapeCasts_S2048x1x1x16x64_S2048x16x64) (broadcastInDim S2048x16x64 ![] bcast_S_S2048x16x64 (constant S_ .f32 0x3E000000#32))) (shapeCast _ (extractStridedSlice S2048x1x1x16x64 ![0, 1, 1, 0, 0] (res_main_v0 V0) slices_S2048x3x3x16x64_S2048x1x1x16x64_0_1_1_0_0) shapeCasts_S2048x1x1x16x64_S2048x16x64)) (mulf (broadcastInDim S16x2048x2048 ![0, 1, 2] bcast_S16x1x1_S16x2048x2048_0_1_2 (broadcastInDim S16x1x1 ![0] bcast_S16_S16x1x1_0 (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))))) (broadcastInDim S16x2048x2048 ![0, 1, 2] bcast_S1x2048x2048_S16x2048x2048_0_1_2 (broadcastInDim S1x2048x2048 ![1, 2] bcast_S2048x2048_S1x2048x2048_1_2 (sitofp .f32 (res_main_v54 V0)))))) (broadcastInDim S16x2048x2048 ![] bcast_S_S16x2048x2048 (id (constant S_ .f32 0xFF800000#32)))

/-- `main_v133`'s composed term of the arguments -/
def res_main_v133 : (Proc.devRef .tc main_v133 : DevRef τ sig).ty.Contents (Elt F) :=
  Fn.v133 (V0 (Proc.devRef .tc main_arg0)) (V0 (Proc.devRef .tc main_arg1))

/-- `main_v135`'s composed term of the arguments -/
def res_main_v135 : (Proc.devRef .tc main_v135 : DevRef τ sig).ty.Contents (Elt F) :=
  Fn.v135 (V0 (Proc.devRef .tc main_arg0)) (V0 (Proc.devRef .tc main_arg1))

/-- `main_v143`'s composed term of the arguments -/
def res_main_v143 : (Proc.devRef .tc main_v143 : DevRef τ sig).ty.Contents (Elt F) :=
  Fn.v143 (V0 (Proc.devRef .tc main_arg0)) (V0 (Proc.devRef .tc main_arg1))

/-- `main_v154`'s composed term of the arguments -/
def res_main_v154 : (Proc.devRef .tc main_v154 : DevRef τ sig).ty.Contents (Elt F) :=
  Fn.v154 (V0 (Proc.devRef .tc main_arg0)) (V0 (Proc.devRef .tc main_arg1))

/-- `main_v167`'s composed term of the arguments -/
def res_main_v167 : (Proc.devRef .tc main_v167 : DevRef τ sig).ty.Contents (Elt F) :=
  Fn.v167 (V0 (Proc.devRef .tc main_arg0)) (V0 (Proc.devRef .tc main_arg1))

/-- `main_v176`'s composed term of the arguments -/
def res_main_v176 : (Proc.devRef .tc main_v176 : DevRef τ sig).ty.Contents (Elt F) :=
  Fn.v176 (V0 (Proc.devRef .tc main_arg0)) (V0 (Proc.devRef .tc main_arg1))

/-- `main_v179`'s composed term of the arguments -/
def res_main_v179 : (Proc.devRef .tc main_v179 : DevRef τ sig).ty.Contents (Elt F) :=
  Fn.v179 (V0 (Proc.devRef .tc main_arg0)) (V0 (Proc.devRef .tc main_arg1))

/-- `main_v196`'s composed term of the arguments -/
def res_main_v196 : (Proc.devRef .tc main_v196 : DevRef τ sig).ty.Contents (Elt F) :=
  Fn.v196 (V0 (Proc.devRef .tc main_arg0)) (V0 (Proc.devRef .tc main_arg1))

/-- The device's buffer contents before @main's first window. -/
def val0 : Valuation τ sig (Elt F) := V0
theorem val0_main_arg0 : val0 V0 (no_index (Proc.devRef .tc main_arg0)) = V0 (Proc.devRef .tc main_arg0) := rfl
theorem val0_main_arg1 : val0 V0 (no_index (Proc.devRef .tc main_arg1)) = V0 (Proc.devRef .tc main_arg1) := rfl

/-- The device's buffer contents after @main's first 30 operations. -/
def val0_1 : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_c, main_v12, main_v13, main_v14, main_c_0, main_v15, main_v16, main_v17, main_c_1, main_v18, main_v19, main_v20, main_v21, main_v22, main_v23, main_cst, main_v24, main_v25]
theorem ops_part0_0_writes : (ops_part0_0 : List (HloOp τ sig (Elt F))).Forall fun op => op.writes ⊆ (ops_part0_0_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (r : Ref sig .tc) (h : r ∉ ops_part0_0_W) :
    val0_1 V0 (Proc.devRef .tc r) = val0 V0 (Proc.devRef .tc r) :=
  after_of_writes_sub ops_part0_0 _ ops_part0_0_writes h
theorem val0_1_main_arg0 : val0_1 V0 (no_index (Proc.devRef .tc main_arg0)) = V0 (Proc.devRef .tc main_arg0) :=
  (val0_1_keep V0 main_arg0 (by decide)).trans (val0_main_arg0 V0)
theorem val0_1_main_arg1 : val0_1 V0 (no_index (Proc.devRef .tc main_arg1)) = V0 (Proc.devRef .tc main_arg1) :=
  (val0_1_keep V0 main_arg1 (by decide)).trans (val0_main_arg1 V0)
theorem val0_1_main_v0 : val0_1 V0 (no_index (Proc.devRef .tc main_v0)) = res_main_v0 V0 := by
  unfold val0_1
  simp only [ops_part0_0]
  after_results_simp
  simp only [val0_main_arg0] <;> rfl
theorem val0_1_main_v4 : val0_1 V0 (no_index (Proc.devRef .tc main_v4)) = shapeCast _ (extractStridedSlice S2048x1x1x16x64 ![0, 0, 1, 0, 0] (res_main_v0 V0) slices_S2048x3x3x16x64_S2048x1x1x16x64_0_0_1_0_0) shapeCasts_S2048x1x1x16x64_S2048x16x64 := by
  unfold val0_1
  simp only [ops_part0_0]
  after_results_simp
  simp only [val0_main_arg0] <;> rfl
theorem val0_1_main_v11 : val0_1 V0 (no_index (Proc.devRef .tc main_v11)) = res_main_v11 V0 := by
  unfold val0_1
  simp only [ops_part0_0]
  after_results_simp
  all_goals rfl
theorem val0_1_main_v23 : val0_1 V0 (no_index (Proc.devRef .tc main_v23)) = andi (cmpi .sle (res_main_v11 V0) (broadcastInDim S2048x2048 ![] bcast_S_S2048x2048 (constantI S_ 32 64#32))) (cmpi .eq (broadcastInDim S2048x2048 ![0, 1] bcast_S2048x1_S2048x2048_0_1 (andi (broadcastInDim S2048x1 ![0] bcast_S2048_S2048x1_0 (res_main_v5 V0)) (broadcastInDim S2048x1 ![] bcast_S_S2048x1 (constantI S_ 32 0#32)))) (broadcastInDim S2048x2048 ![0, 1] bcast_S1x2048_S2048x2048_0_1 (andi (broadcastInDim S1x2048 ![1] bcast_S2048_S1x2048_1 (res_main_v5 V0)) (broadcastInDim S1x2048 ![] bcast_S_S1x2048 (constantI S_ 32 0#32))))) := by
  unfold val0_1
  simp only [ops_part0_0]
  after_results_simp
  all_goals rfl
theorem val0_1_main_v25 : val0_1 V0 (no_index (Proc.devRef .tc main_v25)) = mulf (shapeCast _ (extractStridedSlice S2048x1x1x16x64 ![0, 0, 0, 0, 0] (res_main_v0 V0) slices_S2048x3x3x16x64_S2048x1x1x16x64_0_0_0_0_0) shapeCasts_S2048x1x1x16x64_S2048x16x64) (broadcastInDim S2048x16x64 ![] bcast_S_S2048x16x64 (constant S_ .f32 0x3E000000#32)) := by
  unfold val0_1
  simp only [ops_part0_0]
  after_results_simp
  simp only [val0_main_arg0] <;> rfl

/-- The device's buffer contents after @main's first 60 operations. -/
def val0_2 : Valuation τ sig (Elt F) := after ops_part0_1 (val0_1 V0)
/-- The buffers that window `ops_part0_1`'s operations write. -/
abbrev ops_part0_1_W : List (Ref sig .tc) := [main_v26, main_v27, main_cst_2, main_v28, main_v29, main_cst_3, main_v30, main_v31, main_cst_4, main_v32, main_v33, main_cst_5, main_v34, main_v35, main_v36, main_v37, main_v38, main_v39, main_v40, main_v41, main_v42, main_cst_6, main_call0_v0, main_call0_v1, main_call0_v2, main_v43, main_v44, main_v45, main_v46, main_v47]
theorem ops_part0_1_writes : (ops_part0_1 : List (HloOp τ sig (Elt F))).Forall fun op => op.writes ⊆ (ops_part0_1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 : val0_2 V0 (no_index (Proc.devRef .tc main_arg0)) = V0 (Proc.devRef .tc main_arg0) :=
  (val0_2_keep V0 main_arg0 (by decide)).trans (val0_1_main_arg0 V0)
theorem val0_2_main_arg1 : val0_2 V0 (no_index (Proc.devRef .tc main_arg1)) = V0 (Proc.devRef .tc main_arg1) :=
  (val0_2_keep V0 main_arg1 (by decide)).trans (val0_1_main_arg1 V0)
theorem val0_2_main_v0 : val0_2 V0 (no_index (Proc.devRef .tc main_v0)) = res_main_v0 V0 :=
  (val0_2_keep V0 main_v0 (by decide)).trans (val0_1_main_v0 V0)
theorem val0_2_main_v43 : val0_2 V0 (no_index (Proc.devRef .tc main_v43)) = res_main_v43 V0 := by
  unfold val0_2
  simp only [ops_part0_1, TRef.ternary, TRef.unary, TRef.toBuf, TRef.ofBuf, cast_eq]
  after_results_simp
  simp only [val0_1_main_v11, val0_1_main_v4, val0_1_main_v25, val0_1_main_v23] <;> rfl
theorem val0_2_main_v45 : val0_2 V0 (no_index (Proc.devRef .tc main_v45)) = shapeCast _ (extractStridedSlice S2048x1x1x16x64 ![0, 1, 0, 0, 0] (res_main_v0 V0) slices_S2048x3x3x16x64_S2048x1x1x16x64_0_1_0_0_0) shapeCasts_S2048x1x1x16x64_S2048x16x64 := by
  unfold val0_2
  simp only [ops_part0_1, TRef.ternary, TRef.unary, TRef.toBuf, TRef.ofBuf, cast_eq]
  after_results_simp
  simp only [val0_1_main_v0] <;> rfl
theorem val0_2_main_v47 : val0_2 V0 (no_index (Proc.devRef .tc main_v47)) = shapeCast _ (extractStridedSlice S2048x1x1x16x64 ![0, 1, 1, 0, 0] (res_main_v0 V0) slices_S2048x3x3x16x64_S2048x1x1x16x64_0_1_1_0_0) shapeCasts_S2048x1x1x16x64_S2048x16x64 := by
  unfold val0_2
  simp only [ops_part0_1, TRef.ternary, TRef.unary, TRef.toBuf, TRef.ofBuf, cast_eq]
  after_results_simp
  simp only [val0_1_main_v0] <;> rfl

/-- The device's buffer contents after @main's first 1 window. -/
def val1 : Valuation τ sig (Elt F) := after ops_part0_2 (val0_2 V0)
/-- The buffers that window `ops_part0_2`'s operations write. -/
abbrev ops_part0_2_W : List (Ref sig .tc) := [main_v48, main_v49, main_v50]
theorem ops_part0_2_writes : (ops_part0_2 : List (HloOp τ sig (Elt F))).Forall fun op => op.writes ⊆ (ops_part0_2_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (r : Ref sig .tc) (h : r ∉ ops_part0_2_W) :
    val1 V0 (Proc.devRef .tc r) = val0_2 V0 (Proc.devRef .tc r) :=
  after_of_writes_sub ops_part0_2 _ ops_part0_2_writes h
theorem val1_main_arg0 : val1 V0 (no_index (Proc.devRef .tc main_arg0)) = V0 (Proc.devRef .tc main_arg0) :=
  (val1_keep V0 main_arg0 (by decide)).trans (val0_2_main_arg0 V0)
theorem val1_main_arg1 : val1 V0 (no_index (Proc.devRef .tc main_arg1)) = V0 (Proc.devRef .tc main_arg1) :=
  (val1_keep V0 main_arg1 (by decide)).trans (val0_2_main_arg1 V0)
theorem val1_main_v0 : val1 V0 (no_index (Proc.devRef .tc main_v0)) = res_main_v0 V0 :=
  (val1_keep V0 main_v0 (by decide)).trans (val0_2_main_v0 V0)
theorem val1_main_v43 : val1 V0 (no_index (Proc.devRef .tc main_v43)) = res_main_v43 V0 :=
  (val1_keep V0 main_v43 (by decide)).trans (val0_2_main_v43 V0)
theorem val1_main_v45 : val1 V0 (no_index (Proc.devRef .tc main_v45)) = shapeCast _ (extractStridedSlice S2048x1x1x16x64 ![0, 1, 0, 0, 0] (res_main_v0 V0) slices_S2048x3x3x16x64_S2048x1x1x16x64_0_1_0_0_0) shapeCasts_S2048x1x1x16x64_S2048x16x64 :=
  (val1_keep V0 main_v45 (by decide)).trans (val0_2_main_v45 V0)
theorem val1_main_v47 : val1 V0 (no_index (Proc.devRef .tc main_v47)) = shapeCast _ (extractStridedSlice S2048x1x1x16x64 ![0, 1, 1, 0, 0] (res_main_v0 V0) slices_S2048x3x3x16x64_S2048x1x1x16x64_0_1_1_0_0) shapeCasts_S2048x1x1x16x64_S2048x16x64 :=
  (val1_keep V0 main_v47 (by decide)).trans (val0_2_main_v47 V0)
theorem val1_main_v48 : val1 V0 (no_index (Proc.devRef .tc main_v48)) = res_main_v48 V0 := by
  unfold val1
  simp only [ops_part0_2]
  after_results_simp
  all_goals rfl
theorem val1_main_v49 : val1 V0 (no_index (Proc.devRef .tc main_v49)) = broadcastInDim S2048x1 ![0] bcast_S2048_S2048x1_0 (res_main_v48 V0) := by
  unfold val1
  simp only [ops_part0_2]
  after_results_simp
  all_goals rfl
theorem val1_main_v50 : val1 V0 (no_index (Proc.devRef .tc main_v50)) = broadcastInDim S1x2048 ![1] bcast_S2048_S1x2048_1 (res_main_v48 V0) := by
  unfold val1
  simp only [ops_part0_2]
  after_results_simp
  all_goals rfl

/-- The device's buffer contents after @main's first 93 operations. -/
def val1_1 : Valuation τ sig (Elt F) := after ops_part1_0 (val1 V0)
/-- The buffers that window `ops_part1_0`'s operations write. -/
abbrev ops_part1_0_W : List (Ref sig .tc) := [main_v51, main_v52, main_v53, main_v54, main_c_7, main_v55, main_v56, main_v57, main_c_8, main_v58, main_v59, main_v60, main_c_9, main_v61, main_v62, main_v63, main_v64, main_v65, main_v66, main_cst_10, main_v67, main_v68, main_v69, main_v70, main_cst_11, main_v71, main_v72, main_cst_12, main_v73, main_v74]
theorem ops_part1_0_writes : (ops_part1_0 : List (HloOp τ sig (Elt F))).Forall fun op => op.writes ⊆ (ops_part1_0_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (r : Ref sig .tc) (h : r ∉ ops_part1_0_W) :
    val1_1 V0 (Proc.devRef .tc r) = val1 V0 (Proc.devRef .tc r) :=
  after_of_writes_sub ops_part1_0 _ ops_part1_0_writes h
theorem val1_1_main_arg0 : val1_1 V0 (no_index (Proc.devRef .tc main_arg0)) = V0 (Proc.devRef .tc main_arg0) :=
  (val1_1_keep V0 main_arg0 (by decide)).trans (val1_main_arg0 V0)
theorem val1_1_main_arg1 : val1_1 V0 (no_index (Proc.devRef .tc main_arg1)) = V0 (Proc.devRef .tc main_arg1) :=
  (val1_1_keep V0 main_arg1 (by decide)).trans (val1_main_arg1 V0)
theorem val1_1_main_v0 : val1_1 V0 (no_index (Proc.devRef .tc main_v0)) = res_main_v0 V0 :=
  (val1_1_keep V0 main_v0 (by decide)).trans (val1_main_v0 V0)
theorem val1_1_main_v43 : val1_1 V0 (no_index (Proc.devRef .tc main_v43)) = res_main_v43 V0 :=
  (val1_1_keep V0 main_v43 (by decide)).trans (val1_main_v43 V0)
theorem val1_1_main_v54 : val1_1 V0 (no_index (Proc.devRef .tc main_v54)) = res_main_v54 V0 := by
  unfold val1_1
  simp only [ops_part1_0]
  after_results_simp
  simp only [val1_main_v50, val1_main_v49] <;> rfl
theorem val1_1_main_v66 : val1_1 V0 (no_index (Proc.devRef .tc main_v66)) = andi (cmpi .sle (res_main_v54 V0) (broadcastInDim S2048x2048 ![] bcast_S_S2048x2048 (constantI S_ 32 256#32))) (cmpi .eq (broadcastInDim S2048x2048 ![0, 1] bcast_S2048x1_S2048x2048_0_1 (andi (broadcastInDim S2048x1 ![0] bcast_S2048_S2048x1_0 (res_main_v48 V0)) (broadcastInDim S2048x1 ![] bcast_S_S2048x1 (constantI S_ 32 3#32)))) (broadcastInDim S2048x2048 ![0, 1] bcast_S1x2048_S2048x2048_0_1 (andi (broadcastInDim S1x2048 ![1] bcast_S2048_S1x2048_1 (res_main_v48 V0)) (broadcastInDim S1x2048 ![] bcast_S_S1x2048 (constantI S_ 32 3#32))))) := by
  unfold val1_1
  simp only [ops_part1_0]
  after_results_simp
  simp only [val1_main_v48, val1_main_v50, val1_main_v49] <;> rfl
theorem val1_1_main_v69 : val1_1 V0 (no_index (Proc.devRef .tc main_v69)) = Host.dotGeneral dot_S2048x16x64_S2048x16x64_S16x2048x2048_2_2_0_0_1_1 none (mulf (shapeCast _ (extractStridedSlice S2048x1x1x16x64 ![0, 1, 0, 0, 0] (res_main_v0 V0) slices_S2048x3x3x16x64_S2048x1x1x16x64_0_1_0_0_0) shapeCasts_S2048x1x1x16x64_S2048x16x64) (broadcastInDim S2048x16x64 ![] bcast_S_S2048x16x64 (constant S_ .f32 0x3E000000#32))) (shapeCast _ (extractStridedSlice S2048x1x1x16x64 ![0, 1, 1, 0, 0] (res_main_v0 V0) slices_S2048x3x3x16x64_S2048x1x1x16x64_0_1_1_0_0) shapeCasts_S2048x1x1x16x64_S2048x16x64) := by
  unfold val1_1
  simp only [ops_part1_0]
  after_results_simp
  simp only [val1_main_v47, val1_main_v45] <;> rfl
theorem val1_1_main_v74 : val1_1 V0 (no_index (Proc.devRef .tc main_v74)) = mulf (broadcastInDim S16 ![] bcast_S_S16 (constant S_ .f32 0xC1000000#32)) (addf (broadcastInDim S16 ![] bcast_S_S16 (constant S_ .f32 0x3F800000#32)) (sitofp .f32 (iotaInDim S16 32 0))) := by
  unfold val1_1
  simp only [ops_part1_0]
  after_results_simp
  all_goals rfl

/-- The device's buffer contents after @main's first 123 operations. -/
def val1_2 : Valuation τ sig (Elt F) := after ops_part1_1 (val1_1 V0)
/-- The buffers that window `ops_part1_1`'s operations write. -/
abbrev ops_part1_1_W : List (Ref sig .tc) := [main_cst_13, main_v75, main_v76, main_cst_14, main_v77, main_v78, main_v79, main_v80, main_v81, main_v82, main_v83, main_v84, main_v85, main_cst_15, main_call1_v0, main_call1_v1, main_call1_v2, main_v86, main_v87, main_v88, main_v89, main_v90, main_v91, main_v92, main_v93, main_v94, main_v95, main_v96, main_v97, main_c_16]
theorem ops_part1_1_writes : (ops_part1_1 : List (HloOp τ sig (Elt F))).Forall fun op => op.writes ⊆ (ops_part1_1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 : val1_2 V0 (no_index (Proc.devRef .tc main_arg0)) = V0 (Proc.devRef .tc main_arg0) :=
  (val1_2_keep V0 main_arg0 (by decide)).trans (val1_1_main_arg0 V0)
theorem val1_2_main_arg1 : val1_2 V0 (no_index (Proc.devRef .tc main_arg1)) = V0 (Proc.devRef .tc main_arg1) :=
  (val1_2_keep V0 main_arg1 (by decide)).trans (val1_1_main_arg1 V0)
theorem val1_2_main_v0 : val1_2 V0 (no_index (Proc.devRef .tc main_v0)) = res_main_v0 V0 :=
  (val1_2_keep V0 main_v0 (by decide)).trans (val1_1_main_v0 V0)
theorem val1_2_main_v43 : val1_2 V0 (no_index (Proc.devRef .tc main_v43)) = res_main_v43 V0 :=
  (val1_2_keep V0 main_v43 (by decide)).trans (val1_1_main_v43 V0)
theorem val1_2_main_v86 : val1_2 V0 (no_index (Proc.devRef .tc main_v86)) = res_main_v86 V0 := by
  unfold val1_2
  simp only [ops_part1_1, TRef.ternary, TRef.unary, TRef.toBuf, TRef.ofBuf, cast_eq]
  after_results_simp
  simp only [val1_1_main_v54, val1_1_main_v74, val1_1_main_v69, val1_1_main_v66] <;> rfl
theorem val1_2_main_v88 : val1_2 V0 (no_index (Proc.devRef .tc main_v88)) = shapeCast _ (extractStridedSlice S2048x1x1x16x64 ![0, 2, 0, 0, 0] (res_main_v0 V0) slices_S2048x3x3x16x64_S2048x1x1x16x64_0_2_0_0_0) shapeCasts_S2048x1x1x16x64_S2048x16x64 := by
  unfold val1_2
  simp only [ops_part1_1, TRef.ternary, TRef.unary, TRef.toBuf, TRef.ofBuf, cast_eq]
  after_results_simp
  simp only [val1_1_main_v0] <;> rfl
theorem val1_2_main_v90 : val1_2 V0 (no_index (Proc.devRef .tc main_v90)) = shapeCast _ (extractStridedSlice S2048x1x1x16x64 ![0, 2, 1, 0, 0] (res_main_v0 V0) slices_S2048x3x3x16x64_S2048x1x1x16x64_0_2_1_0_0) shapeCasts_S2048x1x1x16x64_S2048x16x64 := by
  unfold val1_2
  simp only [ops_part1_1, TRef.ternary, TRef.unary, TRef.toBuf, TRef.ofBuf, cast_eq]
  after_results_simp
  simp only [val1_1_main_v0] <;> rfl
theorem val1_2_main_v91 : val1_2 V0 (no_index (Proc.devRef .tc main_v91)) = res_main_v91 V0 := by
  unfold val1_2
  simp only [ops_part1_1, TRef.ternary, TRef.unary, TRef.toBuf, TRef.ofBuf, cast_eq]
  after_results_simp
  all_goals rfl
theorem val1_2_main_v97 : val1_2 V0 (no_index (Proc.devRef .tc main_v97)) = res_main_v97 V0 := by
  unfold val1_2
  simp only [ops_part1_1, TRef.ternary, TRef.unary, TRef.toBuf, TRef.ofBuf, cast_eq]
  after_results_simp
  all_goals rfl
theorem val1_2_main_c_16 : val1_2 V0 (no_index (Proc.devRef .tc main_c_16)) = constantI S_ 32 1024#32 := by
  unfold val1_2
  simp only [ops_part1_1, TRef.ternary, TRef.unary, TRef.toBuf, TRef.ofBuf, cast_eq]
  after_results_simp
  all_goals rfl

/-- The device's buffer contents after @main's first 2 windows. -/
def val2 : Valuation τ sig (Elt F) := after ops_part1_2 (val1_2 V0)
/-- The buffers that window `ops_part1_2`'s operations write. -/
abbrev ops_part1_2_W : List (Ref sig .tc) := [main_v98, main_v99, main_v100]
theorem ops_part1_2_writes : (ops_part1_2 : List (HloOp τ sig (Elt F))).Forall fun op => op.writes ⊆ (ops_part1_2_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val2_keep (r : Ref sig .tc) (h : r ∉ ops_part1_2_W) :
    val2 V0 (Proc.devRef .tc r) = val1_2 V0 (Proc.devRef .tc r) :=
  after_of_writes_sub ops_part1_2 _ ops_part1_2_writes h
theorem val2_main_arg0 : val2 V0 (no_index (Proc.devRef .tc main_arg0)) = V0 (Proc.devRef .tc main_arg0) :=
  (val2_keep V0 main_arg0 (by decide)).trans (val1_2_main_arg0 V0)
theorem val2_main_arg1 : val2 V0 (no_index (Proc.devRef .tc main_arg1)) = V0 (Proc.devRef .tc main_arg1) :=
  (val2_keep V0 main_arg1 (by decide)).trans (val1_2_main_arg1 V0)
theorem val2_main_v0 : val2 V0 (no_index (Proc.devRef .tc main_v0)) = res_main_v0 V0 :=
  (val2_keep V0 main_v0 (by decide)).trans (val1_2_main_v0 V0)
theorem val2_main_v43 : val2 V0 (no_index (Proc.devRef .tc main_v43)) = res_main_v43 V0 :=
  (val2_keep V0 main_v43 (by decide)).trans (val1_2_main_v43 V0)
theorem val2_main_v86 : val2 V0 (no_index (Proc.devRef .tc main_v86)) = res_main_v86 V0 :=
  (val2_keep V0 main_v86 (by decide)).trans (val1_2_main_v86 V0)
theorem val2_main_v88 : val2 V0 (no_index (Proc.devRef .tc main_v88)) = shapeCast _ (extractStridedSlice S2048x1x1x16x64 ![0, 2, 0, 0, 0] (res_main_v0 V0) slices_S2048x3x3x16x64_S2048x1x1x16x64_0_2_0_0_0) shapeCasts_S2048x1x1x16x64_S2048x16x64 :=
  (val2_keep V0 main_v88 (by decide)).trans (val1_2_main_v88 V0)
theorem val2_main_v90 : val2 V0 (no_index (Proc.devRef .tc main_v90)) = shapeCast _ (extractStridedSlice S2048x1x1x16x64 ![0, 2, 1, 0, 0] (res_main_v0 V0) slices_S2048x3x3x16x64_S2048x1x1x16x64_0_2_1_0_0) shapeCasts_S2048x1x1x16x64_S2048x16x64 :=
  (val2_keep V0 main_v90 (by decide)).trans (val1_2_main_v90 V0)
theorem val2_main_v91 : val2 V0 (no_index (Proc.devRef .tc main_v91)) = res_main_v91 V0 :=
  (val2_keep V0 main_v91 (by decide)).trans (val1_2_main_v91 V0)
theorem val2_main_v97 : val2 V0 (no_index (Proc.devRef .tc main_v97)) = res_main_v97 V0 :=
  (val2_keep V0 main_v97 (by decide)).trans (val1_2_main_v97 V0)
theorem val2_main_v99 : val2 V0 (no_index (Proc.devRef .tc main_v99)) = cmpi .sle (res_main_v97 V0) (broadcastInDim S2048x2048 ![] bcast_S_S2048x2048 (constantI S_ 32 1024#32)) := by
  unfold val2
  simp only [ops_part1_2]
  after_results_simp
  simp only [val1_2_main_c_16, val1_2_main_v97] <;> rfl
theorem val2_main_v100 : val2 V0 (no_index (Proc.devRef .tc main_v100)) = broadcastInDim S2048x1 ![0] bcast_S2048_S2048x1_0 (res_main_v91 V0) := by
  unfold val2
  simp only [ops_part1_2]
  after_results_simp
  simp only [val1_2_main_v91] <;> rfl

/-- The device's buffer contents after @main's first 156 operations. -/
def val2_1 : Valuation τ sig (Elt F) := after ops_part2_0 (val2 V0)
/-- The buffers that window `ops_part2_0`'s operations write. -/
abbrev ops_part2_0_W : List (Ref sig .tc) := [main_c_17, main_v101, main_v102, main_v103, main_c_18, main_v104, main_v105, main_v106, main_v107, main_v108, main_v109, main_cst_19, main_v110, main_v111, main_v112, main_v113, main_cst_20, main_v114, main_v115, main_cst_21, main_v116, main_v117, main_cst_22, main_v118, main_v119, main_cst_23, main_v120, main_v121, main_v122, main_v123]
theorem ops_part2_0_writes : (ops_part2_0 : List (HloOp τ sig (Elt F))).Forall fun op => op.writes ⊆ (ops_part2_0_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_0` does not write keeps its contents through it. -/
theorem val2_1_keep (r : Ref sig .tc) (h : r ∉ ops_part2_0_W) :
    val2_1 V0 (Proc.devRef .tc r) = val2 V0 (Proc.devRef .tc r) :=
  after_of_writes_sub ops_part2_0 _ ops_part2_0_writes h
theorem val2_1_main_arg0 : val2_1 V0 (no_index (Proc.devRef .tc main_arg0)) = V0 (Proc.devRef .tc main_arg0) :=
  (val2_1_keep V0 main_arg0 (by decide)).trans (val2_main_arg0 V0)
theorem val2_1_main_arg1 : val2_1 V0 (no_index (Proc.devRef .tc main_arg1)) = V0 (Proc.devRef .tc main_arg1) :=
  (val2_1_keep V0 main_arg1 (by decide)).trans (val2_main_arg1 V0)
theorem val2_1_main_v0 : val2_1 V0 (no_index (Proc.devRef .tc main_v0)) = res_main_v0 V0 :=
  (val2_1_keep V0 main_v0 (by decide)).trans (val2_main_v0 V0)
theorem val2_1_main_v43 : val2_1 V0 (no_index (Proc.devRef .tc main_v43)) = res_main_v43 V0 :=
  (val2_1_keep V0 main_v43 (by decide)).trans (val2_main_v43 V0)
theorem val2_1_main_v86 : val2_1 V0 (no_index (Proc.devRef .tc main_v86)) = res_main_v86 V0 :=
  (val2_1_keep V0 main_v86 (by decide)).trans (val2_main_v86 V0)
theorem val2_1_main_v109 : val2_1 V0 (no_index (Proc.devRef .tc main_v109)) = andi (cmpi .sle (res_main_v97 V0) (broadcastInDim S2048x2048 ![] bcast_S_S2048x2048 (constantI S_ 32 1024#32))) (cmpi .eq (broadcastInDim S2048x2048 ![0, 1] bcast_S2048x1_S2048x2048_0_1 (andi (broadcastInDim S2048x1 ![0] bcast_S2048_S2048x1_0 (res_main_v91 V0)) (broadcastInDim S2048x1 ![] bcast_S_S2048x1 (constantI S_ 32 15#32)))) (broadcastInDim S2048x2048 ![0, 1] bcast_S1x2048_S2048x2048_0_1 (andi (broadcastInDim S1x2048 ![1] bcast_S2048_S1x2048_1 (res_main_v91 V0)) (broadcastInDim S1x2048 ![] bcast_S_S1x2048 (constantI S_ 32 15#32))))) := by
  unfold val2_1
  simp only [ops_part2_0]
  after_results_simp
  simp only [val2_main_v91, val2_main_v100, val2_main_v99] <;> rfl
theorem val2_1_main_v112 : val2_1 V0 (no_index (Proc.devRef .tc main_v112)) = Host.dotGeneral dot_S2048x16x64_S2048x16x64_S16x2048x2048_2_2_0_0_1_1 none (mulf (shapeCast _ (extractStridedSlice S2048x1x1x16x64 ![0, 2, 0, 0, 0] (res_main_v0 V0) slices_S2048x3x3x16x64_S2048x1x1x16x64_0_2_0_0_0) shapeCasts_S2048x1x1x16x64_S2048x16x64) (broadcastInDim S2048x16x64 ![] bcast_S_S2048x16x64 (constant S_ .f32 0x3E000000#32))) (shapeCast _ (extractStridedSlice S2048x1x1x16x64 ![0, 2, 1, 0, 0] (res_main_v0 V0) slices_S2048x3x3x16x64_S2048x1x1x16x64_0_2_1_0_0) shapeCasts_S2048x1x1x16x64_S2048x16x64) := by
  unfold val2_1
  simp only [ops_part2_0]
  after_results_simp
  simp only [val2_main_v90, val2_main_v88] <;> rfl
theorem val2_1_main_v122 : val2_1 V0 (no_index (Proc.devRef .tc main_v122)) = broadcastInDim S16x1x1 ![0] bcast_S16_S16x1x1_0 (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))) := by
  unfold val2_1
  simp only [ops_part2_0]
  after_results_simp
  all_goals rfl
theorem val2_1_main_v123 : val2_1 V0 (no_index (Proc.devRef .tc main_v123)) = sitofp .f32 (res_main_v97 V0) := by
  unfold val2_1
  simp only [ops_part2_0]
  after_results_simp
  simp only [val2_main_v97] <;> rfl

/-- The device's buffer contents after @main's first 186 operations. -/
def val2_2 : Valuation τ sig (Elt F) := after ops_part2_1 (val2_1 V0)
/-- The buffers that window `ops_part2_1`'s operations write. -/
abbrev ops_part2_1_W : List (Ref sig .tc) := [main_v124, main_v125, main_v126, main_v127, main_v128, main_cst_24, main_call2_v0, main_call2_v1, main_call2_v2, main_v129, main_v130, main_v131, main_v132, main_v133, main_cst_25, main_v134, main_v135, main_v136, main_v137, main_v138, main_cst_26, main_v139, main_v140, main_v141, main_v142, main_v143, main_v144, main_v145, main_v146, main_v147]
theorem ops_part2_1_writes : (ops_part2_1 : List (HloOp τ sig (Elt F))).Forall fun op => op.writes ⊆ (ops_part2_1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_1` does not write keeps its contents through it. -/
theorem val2_2_keep (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 : val2_2 V0 (no_index (Proc.devRef .tc main_arg0)) = V0 (Proc.devRef .tc main_arg0) :=
  (val2_2_keep V0 main_arg0 (by decide)).trans (val2_1_main_arg0 V0)
theorem val2_2_main_arg1 : val2_2 V0 (no_index (Proc.devRef .tc main_arg1)) = V0 (Proc.devRef .tc main_arg1) :=
  (val2_2_keep V0 main_arg1 (by decide)).trans (val2_1_main_arg1 V0)
theorem val2_2_main_v0 : val2_2 V0 (no_index (Proc.devRef .tc main_v0)) = res_main_v0 V0 :=
  (val2_2_keep V0 main_v0 (by decide)).trans (val2_1_main_v0 V0)
theorem val2_2_main_v143 : val2_2 V0 (no_index (Proc.devRef .tc main_v143)) = res_main_v143 V0 := by
  unfold val2_2
  simp only [ops_part2_1, TRef.ternary, TRef.unary, TRef.toBuf, TRef.ofBuf, cast_eq]
  after_results_simp
  try dsimp only [Matrix.cons_val]
  try after_results_simp
  simp only [val2_1_main_v123, val2_1_main_v122, val2_1_main_v112, val2_1_main_v109, val2_1_main_v86, val2_1_main_v43] <;> rfl
theorem val2_2_main_v147 : val2_2 V0 (no_index (Proc.devRef .tc main_v147)) = Host.exp (subf (res_main_v133 V0) (broadcastInDim S3x16x2048x2048 ![0, 1, 2, 3] bcast_S3x16x2048x1_S3x16x2048x2048_0_1_2_3 (broadcastInDim S3x16x2048x1 ![0, 1, 2] bcast_S3x16x2048_S3x16x2048x1_0_1_2 (res_main_v143 V0)))) := by
  unfold val2_2
  simp only [ops_part2_1, TRef.ternary, TRef.unary, TRef.toBuf, TRef.ofBuf, cast_eq]
  after_results_simp
  try dsimp only [Matrix.cons_val]
  try after_results_simp
  simp only [val2_1_main_v123, val2_1_main_v122, val2_1_main_v112, val2_1_main_v109, val2_1_main_v86, val2_1_main_v43] <;> rfl

/-- The device's buffer contents after @main's first 3 windows. -/
def val3 : Valuation τ sig (Elt F) := after ops_part2_2 (val2_2 V0)
/-- The buffers that window `ops_part2_2`'s operations write. -/
abbrev ops_part2_2_W : List (Ref sig .tc) := [main_cst_27, main_v148, main_cst_28]
theorem ops_part2_2_writes : (ops_part2_2 : List (HloOp τ sig (Elt F))).Forall fun op => op.writes ⊆ (ops_part2_2_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_2` does not write keeps its contents through it. -/
theorem val3_keep (r : Ref sig .tc) (h : r ∉ ops_part2_2_W) :
    val3 V0 (Proc.devRef .tc r) = val2_2 V0 (Proc.devRef .tc r) :=
  after_of_writes_sub ops_part2_2 _ ops_part2_2_writes h
theorem val3_main_arg0 : val3 V0 (no_index (Proc.devRef .tc main_arg0)) = V0 (Proc.devRef .tc main_arg0) :=
  (val3_keep V0 main_arg0 (by decide)).trans (val2_2_main_arg0 V0)
theorem val3_main_arg1 : val3 V0 (no_index (Proc.devRef .tc main_arg1)) = V0 (Proc.devRef .tc main_arg1) :=
  (val3_keep V0 main_arg1 (by decide)).trans (val2_2_main_arg1 V0)
theorem val3_main_v0 : val3 V0 (no_index (Proc.devRef .tc main_v0)) = res_main_v0 V0 :=
  (val3_keep V0 main_v0 (by decide)).trans (val2_2_main_v0 V0)
theorem val3_main_v143 : val3 V0 (no_index (Proc.devRef .tc main_v143)) = res_main_v143 V0 :=
  (val3_keep V0 main_v143 (by decide)).trans (val2_2_main_v143 V0)
theorem val3_main_v147 : val3 V0 (no_index (Proc.devRef .tc main_v147)) = Host.exp (subf (res_main_v133 V0) (broadcastInDim S3x16x2048x2048 ![0, 1, 2, 3] bcast_S3x16x2048x1_S3x16x2048x2048_0_1_2_3 (broadcastInDim S3x16x2048x1 ![0, 1, 2] bcast_S3x16x2048_S3x16x2048x1_0_1_2 (res_main_v143 V0)))) :=
  (val3_keep V0 main_v147 (by decide)).trans (val2_2_main_v147 V0)
theorem val3_main_v148 : val3 V0 (no_index (Proc.devRef .tc main_v148)) = Host.reduce FloatOps.maximumf (res_main_v143 V0) (constant S_ .f32 0xFF800000#32) reducesTo_S3x16x2048_S16x2048_d0 h_S_ := by
  unfold val3
  simp only [ops_part2_2]
  after_results_simp
  simp only [val2_2_main_v143] <;> rfl
theorem val3_main_cst_28 : val3 V0 (no_index (Proc.devRef .tc main_cst_28)) = constant S_ .f32 0xFF800000#32 := by
  unfold val3
  simp only [ops_part2_2]
  after_results_simp
  all_goals rfl

/-- The device's buffer contents after @main's first 4 windows. -/
def val4 : Valuation τ sig (Elt F) := after ops_part3 (val3 V0)
/-- The buffers that window `main_part3`'s operations write. -/
abbrev ops_part3_W : List (Ref sig .tc) := [main_v149, main_v150, main_v151, main_v152, main_v153, main_v154, main_cst_29, main_v155, main_v156, main_v157, main_v158, main_v159, main_v160, main_v161, main_v162, main_v163, main_v164, main_v165, main_cst_30, main_v166, main_v167, main_v168, main_v169, main_v170, main_cst_31, main_v171, main_v172, main_v173, main_v174, main_v175, main_v176, main_v177, main_v178, main_cst_32, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204]
theorem ops_part3_writes : (ops_part3 : List (HloOp τ sig (Elt F))).Forall fun op => op.writes ⊆ (ops_part3_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part3` does not write keeps its contents through it. -/
theorem val4_keep (r : Ref sig .tc) (h : r ∉ ops_part3_W) :
    val4 V0 (Proc.devRef .tc r) = val3 V0 (Proc.devRef .tc r) :=
  after_of_writes_sub ops_part3 _ ops_part3_writes h
theorem val4_main_arg0 : val4 V0 (no_index (Proc.devRef .tc main_arg0)) = V0 (Proc.devRef .tc main_arg0) :=
  (val4_keep V0 main_arg0 (by decide)).trans (val3_main_arg0 V0)
theorem val4_main_arg1 : val4 V0 (no_index (Proc.devRef .tc main_arg1)) = V0 (Proc.devRef .tc main_arg1) :=
  (val4_keep V0 main_arg1 (by decide)).trans (val3_main_arg1 V0)
theorem val4_main_v176 : val4 V0 (no_index (Proc.devRef .tc main_v176)) = res_main_v176 V0 := by
  unfold val4
  simp only [ops_part3]
  after_results_simp
  try dsimp only [Matrix.cons_val]
  try after_results_simp
  simp only [val3_main_v143] <;> rfl
theorem val4_main_v179 : val4 V0 (no_index (Proc.devRef .tc main_v179)) = res_main_v179 V0 := by
  unfold val4
  simp only [ops_part3]
  after_results_simp
  try dsimp only [Matrix.cons_val]
  try after_results_simp
  simp only [val3_main_v147, val3_main_v148, val3_main_cst_28, val3_main_v143, val3_main_v0, val3_main_arg1] <;> rfl
theorem val4_main_v196 : val4 V0 (no_index (Proc.devRef .tc main_v196)) = res_main_v196 V0 := by
  unfold val4
  simp only [ops_part3]
  after_results_simp
  try dsimp only [Matrix.cons_val]
  try after_results_simp
  simp only [val3_main_arg0] <;> rfl
theorem val4_main_v199 : val4 V0 (no_index (Proc.devRef .tc main_v199)) = shapeCast _ (transpose S1x2048x1024 [1, 0, 2] (shapeCast _ (V0 (Proc.devRef .tc main_arg1)) shapeCasts_S2048x1024_S2048x1x1024) transposes_S2048x1x1024_S1x2048x1024_1_0_2) shapeCasts_S1x2048x1024_S2048x1024 := by
  unfold val4
  simp only [ops_part3]
  after_results_simp
  try dsimp only [Matrix.cons_val]
  try after_results_simp
  simp only [val3_main_arg1] <;> rfl
theorem val4_main_v202 : val4 V0 (no_index (Proc.devRef .tc main_v202)) = shapeCast _ (transpose S4x512x1024 [1, 0, 2] (shapeCast _ (V0 (Proc.devRef .tc main_arg1)) shapeCasts_S2048x1024_S512x4x1024) transposes_S512x4x1024_S4x512x1024_1_0_2) shapeCasts_S4x512x1024_S2048x1024 := by
  unfold val4
  simp only [ops_part3]
  after_results_simp
  try dsimp only [Matrix.cons_val]
  try after_results_simp
  simp only [val3_main_arg1] <;> rfl
theorem val4_main_v204 : val4 V0 (no_index (Proc.devRef .tc main_v204)) = transpose S16x128x1024 [1, 0, 2] (shapeCast _ (V0 (Proc.devRef .tc main_arg1)) shapeCasts_S2048x1024_S128x16x1024) transposes_S128x16x1024_S16x128x1024_1_0_2 := by
  unfold val4
  simp only [ops_part3]
  after_results_simp
  try dsimp only [Matrix.cons_val]
  try after_results_simp
  simp only [val3_main_arg1] <;> rfl

/-- The device's buffer contents after @main's first 5 windows. -/
def val5 : Valuation τ sig (Elt F) := after ops_part4 (val4 V0)
/-- The buffers that window `main_part4`'s operations write. -/
abbrev ops_part4_W : List (Ref sig .tc) := [main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_cst_33, main_v244, main_v245, main_cst_34, main_v246, main_v247, main_cst_35, main_v248, main_v249, main_cst_36, main_v250, main_v251]
theorem ops_part4_writes : (ops_part4 : List (HloOp τ sig (Elt F))).Forall fun op => op.writes ⊆ (ops_part4_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part4` does not write keeps its contents through it. -/
theorem val5_keep (r : Ref sig .tc) (h : r ∉ ops_part4_W) :
    val5 V0 (Proc.devRef .tc r) = val4 V0 (Proc.devRef .tc r) :=
  after_of_writes_sub ops_part4 _ ops_part4_writes h
theorem val5_main_arg0 : val5 V0 (no_index (Proc.devRef .tc main_arg0)) = V0 (Proc.devRef .tc main_arg0) :=
  (val5_keep V0 main_arg0 (by decide)).trans (val4_main_arg0 V0)
theorem val5_main_arg1 : val5 V0 (no_index (Proc.devRef .tc main_arg1)) = V0 (Proc.devRef .tc main_arg1) :=
  (val5_keep V0 main_arg1 (by decide)).trans (val4_main_arg1 V0)
theorem val5_main_v196 : val5 V0 (no_index (Proc.devRef .tc main_v196)) = Fn.v196 (V0 (Proc.devRef .tc main_arg0)) (V0 (Proc.devRef .tc main_arg1)) :=
  (val5_keep V0 main_v196 (by decide)).trans (val4_main_v196 V0)
theorem val5_main_v210 : val5 V0 (no_index (Proc.devRef .tc main_v210)) = Fn.v210 (V0 (Proc.devRef .tc main_arg0)) (V0 (Proc.devRef .tc main_arg1)) := by
  unfold val5
  simp only [ops_part4]
  after_results_simp
  try dsimp only [Matrix.cons_val]
  try after_results_simp
  simp only [val4_main_v204, val4_main_v202, val4_main_v199] <;> rfl
theorem val5_main_v226 : val5 V0 (no_index (Proc.devRef .tc main_v226)) = Fn.v226 (V0 (Proc.devRef .tc main_arg0)) (V0 (Proc.devRef .tc main_arg1)) := by
  unfold val5
  simp only [ops_part4]
  after_results_simp
  try dsimp only [Matrix.cons_val]
  try after_results_simp
  simp only [val4_main_v179] <;> rfl
theorem val5_main_v242 : val5 V0 (no_index (Proc.devRef .tc main_v242)) = Fn.v242 (V0 (Proc.devRef .tc main_arg0)) (V0 (Proc.devRef .tc main_arg1)) := by
  unfold val5
  simp only [ops_part4]
  after_results_simp
  try dsimp only [Matrix.cons_val]
  try after_results_simp
  simp only [val4_main_v176] <;> rfl
theorem val5_main_v251 : val5 V0 (no_index (Proc.devRef .tc main_v251)) = Fn.v251 (V0 (Proc.devRef .tc main_arg0)) (V0 (Proc.devRef .tc main_arg1)) := by
  unfold val5
  simp only [ops_part4]
  after_results_simp
  try dsimp only [Matrix.cons_val]
  try after_results_simp
  all_goals rfl

theorem after_ops : after ops V0 = val5 V0 := by
  simp only [ops, ops_part0, ops_part1, ops_part2, after_append]
  rfl
variable (m : (ℓ : Loc nD τ sig) → Buf (Elt F) ℓ)

/-- The contents at the region's entry are the host operations' results. -/
theorem V_eq (c : Dev nD) (b : Ref sig .tc) : V m c b = val5 (launchContents m c) (Proc.devRef .tc b) := by
  rw [← after_ops]
  rfl

end Cert.KernelIdeal.Host

end
-- ==== Proof.Val.Blocks.lean ====
module

public import proofs.«01_k».proof.Proof.Val.Sums
public import proofs.«01_k».proof.Proof.Fn.KernelValue
public import proofs.«01_k».proof.Proof.Host.Vals

@[expose] public section

set_option maxRecDepth 65536

noncomputable section

namespace Cert.KernelIdeal.Val

open Cert.KernelIdeal Cert.KernelIdeal.Gen Cert.KernelIdeal.Dil Idealize.ShloMosaic Idealize.ShloMosaic.TcCoe Cert.Math

/-! The blocks of the prepared arrays that the points of the grid read. -/

/-! The block each window is at, in units of its size. -/

theorem index1 : ∀ t : Fin grid0.N, win0_1.index t = ![(grid0.coords t 0).val, (grid0.coords t 2).val, (grid0.coords t 1).val] := by decide +kernel
theorem index2 : ∀ t : Fin grid0.N, win0_2.index t = ![(grid0.coords t 0).val, 0, 2 + (grid0.coords t 1).val] := by decide +kernel
theorem index3 : ∀ t : Fin grid0.N, win0_3.index t = ![(grid0.coords t 0).val, 0, 4 + (grid0.coords t 1).val] := by decide +kernel
theorem index4 : ∀ t : Fin grid0.N, win0_4.index t = ![(grid0.coords t 0).val, (grid0.coords t 2).val, (grid0.coords t 1).val] := by decide +kernel
theorem index5 : ∀ t : Fin grid0.N, win0_5.index t = ![(grid0.coords t 0).val, (grid0.coords t 1).val, 0, (grid0.coords t 2).val] := by decide +kernel
theorem index6 : ∀ t : Fin grid0.N, win0_6.index t = ![(grid0.coords t 0).val, (grid0.coords t 1).val, 0, (grid0.coords t 2).val] := by decide +kernel

/-- An index of three axes from its coordinates. -/
theorem ix3_of {n0 n1 n2 : ℕ} (j : (⟨3, ![n0, n1, n2]⟩ : Shape).Idx) {a : Fin n0} {b : Fin n1} {c : Fin n2}
    (h0 : (j 0).val = a.val) (h1 : (j 1).val = b.val) (h2 : (j 2).val = c.val) : j = ix3 a b c := by
  funext k
  match k with
  | ⟨0, _⟩ => exact Fin.ext h0
  | ⟨1, _⟩ => exact Fin.ext h1
  | ⟨2, _⟩ => exact Fin.ext h2

/-- An index of four axes from its coordinates. -/
theorem ix4_of {n0 n1 n2 n3 : ℕ} (j : (⟨4, ![n0, n1, n2, n3]⟩ : Shape).Idx) {a : Fin n0} {b : Fin n1} {c : Fin n2} {d : Fin n3}
    (h0 : (j 0).val = a.val) (h1 : (j 1).val = b.val) (h2 : (j 2).val = c.val) (h3 : (j 3).val = d.val) : j = ix4 a b c d := by
  funext k
  match k with
  | ⟨0, _⟩ => exact Fin.ext h0
  | ⟨1, _⟩ => exact Fin.ext h1
  | ⟨2, _⟩ => exact Fin.ext h2
  | ⟨3, _⟩ => exact Fin.ext h3

/-- Lane `d` of head `h` of half `p` among the 1024 lanes. -/
def col (p : Fin 2) (h : Fin 8) (d : Fin 64) : Fin 1024 := ⟨512 * p.val + 64 * h.val + d.val, by omega⟩

theorem col_head (p : Fin 2) (h : Fin 8) (d : Fin 64) : (⟨(col p h d).val / 64, by omega⟩ : Fin 16) = hd p h :=
  Fin.ext (by show (512 * p.val + 64 * h.val + d.val) / 64 = 8 * p.val + h.val; omega)

theorem col_lane (p : Fin 2) (h : Fin 8) (d : Fin 64) : (⟨(col p h d).val % 64, by omega⟩ : Fin 64) = d :=
  Fin.ext (by show (512 * p.val + 64 * h.val + d.val) % 64 = d.val; omega)

section

variable {F : FTy → Type} [FloatOps F] [Named F] (m : (ℓ : Loc nD τ sig) → Buf (Elt F) ℓ) (c : Dev nD) (t : Fin cfg0.N)

theorem blk0_at (h : Fin 16) : iblk m c 0 t (ix1 h) = V m c main_v251 (ix1 h) := by
  refine congrArg (V m c main_v251) (funext fun k => ?_)
  match k with
  | ⟨0, _⟩ => exact Fin.ext (show (0 : ℕ) * 16 + 1 * h.val = h.val by omega)

theorem blk1_at (a : Fin 256) (h : Fin 8) (d : Fin 64) : iblk m c 1 t (ix3 0 a (ln h d))
    = V m c main_v196 (ix3 (gOf (grid0.coords t)) (rowB (bOf (grid0.coords t)) a) ⟨(0 : Fin 3).val * 1024 + (col (pOf (grid0.coords t)) h d).val, by show 0 * 1024 + _ < 3072; omega⟩) := by
  have i0 : win0_1.index t 0 = (grid0.coords t 0).val := congrFun (index1 t) 0
  have i1 : win0_1.index t 1 = (grid0.coords t 2).val := congrFun (index1 t) 1
  have i2 : win0_1.index t 2 = (grid0.coords t 1).val := congrFun (index1 t) 2
  refine congrArg (V m c main_v196) (ix3_of _ ?_ ?_ ?_)
  · show win0_1.index t 0 * 1 + 1 * 0 = (grid0.coords t 0).val; omega
  · show win0_1.index t 1 * 256 + 1 * a.val = 256 * (grid0.coords t 2).val + a.val; omega
  · show win0_1.index t 2 * 512 + 1 * (64 * h.val + d.val) = 0 * 1024 + (512 * (grid0.coords t 1).val + 64 * h.val + d.val); omega

theorem blk2_at (r : Fin 2048) (h : Fin 8) (d : Fin 64) : iblk m c 2 t (ix3 0 r (ln h d))
    = V m c main_v196 (ix3 (gOf (grid0.coords t)) r ⟨(1 : Fin 3).val * 1024 + (col (pOf (grid0.coords t)) h d).val, by show 1 * 1024 + _ < 3072; omega⟩) := by
  have i0 : win0_2.index t 0 = (grid0.coords t 0).val := congrFun (index2 t) 0
  have i1 : win0_2.index t 1 = 0 := congrFun (index2 t) 1
  have i2 : win0_2.index t 2 = 2 + (grid0.coords t 1).val := congrFun (index2 t) 2
  refine congrArg (V m c main_v196) (ix3_of _ ?_ ?_ ?_)
  · show win0_2.index t 0 * 1 + 1 * 0 = (grid0.coords t 0).val; omega
  · show win0_2.index t 1 * 2048 + 1 * r.val = r.val; omega
  · show win0_2.index t 2 * 512 + 1 * (64 * h.val + d.val) = 1 * 1024 + (512 * (grid0.coords t 1).val + 64 * h.val + d.val); omega

theorem blk3_at (r : Fin 2048) (h : Fin 8) (d : Fin 64) : iblk m c 3 t (ix3 0 r (ln h d))
    = V m c main_v196 (ix3 (gOf (grid0.coords t)) r ⟨(2 : Fin 3).val * 1024 + (col (pOf (grid0.coords t)) h d).val, by show 2 * 1024 + _ < 3072; omega⟩) := by
  have i0 : win0_3.index t 0 = (grid0.coords t 0).val := congrFun (index3 t) 0
  have i1 : win0_3.index t 1 = 0 := congrFun (index3 t) 1
  have i2 : win0_3.index t 2 = 4 + (grid0.coords t 1).val := congrFun (index3 t) 2
  refine congrArg (V m c main_v196) (ix3_of _ ?_ ?_ ?_)
  · show win0_3.index t 0 * 1 + 1 * 0 = (grid0.coords t 0).val; omega
  · show win0_3.index t 1 * 2048 + 1 * r.val = r.val; omega
  · show win0_3.index t 2 * 512 + 1 * (64 * h.val + d.val) = 2 * 1024 + (512 * (grid0.coords t 1).val + 64 * h.val + d.val); omega

theorem blk4_at (a : Fin 256) (h : Fin 8) (d : Fin 64) : iblk m c 4 t (ix3 0 a (ln h d))
    = V m c main_v210 (ix3 (gOf (grid0.coords t)) (rowB (bOf (grid0.coords t)) a) (col (pOf (grid0.coords t)) h d)) := by
  have i0 : win0_4.index t 0 = (grid0.coords t 0).val := congrFun (index4 t) 0
  have i1 : win0_4.index t 1 = (grid0.coords t 2).val := congrFun (index4 t) 1
  have i2 : win0_4.index t 2 = (grid0.coords t 1).val := congrFun (index4 t) 2
  refine congrArg (V m c main_v210) (ix3_of _ ?_ ?_ ?_)
  · show win0_4.index t 0 * 1 + 1 * 0 = (grid0.coords t 0).val; omega
  · show win0_4.index t 1 * 256 + 1 * a.val = 256 * (grid0.coords t 2).val + a.val; omega
  · show win0_4.index t 2 * 512 + 1 * (64 * h.val + d.val) = 512 * (grid0.coords t 1).val + 64 * h.val + d.val; omega

theorem blk5_at (a : Fin 256) (h : Fin 8) : iblk m c 5 t (ix4 0 h 0 a)
    = V m c main_v226 (ix4 (gOf (grid0.coords t)) (hd (pOf (grid0.coords t)) h) 0 (rowB (bOf (grid0.coords t)) a)) := by
  have i0 : win0_5.index t 0 = (grid0.coords t 0).val := congrFun (index5 t) 0
  have i1 : win0_5.index t 1 = (grid0.coords t 1).val := congrFun (index5 t) 1
  have i2 : win0_5.index t 2 = 0 := congrFun (index5 t) 2
  have i3 : win0_5.index t 3 = (grid0.coords t 2).val := congrFun (index5 t) 3
  refine congrArg (V m c main_v226) (ix4_of _ ?_ ?_ ?_ ?_)
  · show win0_5.index t 0 * 1 + 1 * 0 = (grid0.coords t 0).val; omega
  · show win0_5.index t 1 * 8 + 1 * h.val = 8 * (grid0.coords t 1).val + h.val; omega
  · show win0_5.index t 2 * 8 + 1 * 0 = 0; omega
  · show win0_5.index t 3 * 256 + 1 * a.val = 256 * (grid0.coords t 2).val + a.val; omega

theorem blk6_at (a : Fin 256) (h : Fin 8) : iblk m c 6 t (ix4 0 h 0 a)
    = V m c main_v242 (ix4 (gOf (grid0.coords t)) (hd (pOf (grid0.coords t)) h) 0 (rowB (bOf (grid0.coords t)) a)) := by
  have i0 : win0_6.index t 0 = (grid0.coords t 0).val := congrFun (index6 t) 0
  have i1 : win0_6.index t 1 = (grid0.coords t 1).val := congrFun (index6 t) 1
  have i2 : win0_6.index t 2 = 0 := congrFun (index6 t) 2
  have i3 : win0_6.index t 3 = (grid0.coords t 2).val := congrFun (index6 t) 3
  refine congrArg (V m c main_v242) (ix4_of _ ?_ ?_ ?_ ?_)
  · show win0_6.index t 0 * 1 + 1 * 0 = (grid0.coords t 0).val; omega
  · show win0_6.index t 1 * 8 + 1 * h.val = 8 * (grid0.coords t 1).val + h.val; omega
  · show win0_6.index t 2 * 8 + 1 * 0 = 0; omega
  · show win0_6.index t 3 * 256 + 1 * a.val = 256 * (grid0.coords t 2).val + a.val; omega

end

variable (m : (ℓ : Loc nD τ sig) → Buf (Elt Ideal) ℓ) (c : Dev nD)
variable (X0 : (⟨2, ![2048, 9216]⟩ : Shape).Idx → ℝ) (Y0 : (⟨2, ![2048, 1024]⟩ : Shape).Idx → ℝ)

/-- The two arguments as launched. -/
abbrev argX : FVec Ideal S2048x9216 .f32 := m ((c : Thread nD τ).loc main_arg0)
abbrev argY : FVec Ideal S2048x1024 .f32 := m ((c : Thread nD τ).loc main_arg1)

variable (hx : ∀ j, argX m c j = ((X0 j : ℝ) : EReal)) (hy : ∀ j, argY m c j = ((Y0 j : ℝ) : EReal))

theorem V_v251 : V m c main_v251 = Fn.v251 (argX m c) (argY m c) := (Host.V_eq m c main_v251).trans (Host.val5_main_v251 _)
theorem V_v196 : V m c main_v196 = Fn.v196 (argX m c) (argY m c) := (Host.V_eq m c main_v196).trans (Host.val5_main_v196 _)
theorem V_v210 : V m c main_v210 = Fn.v210 (argX m c) (argY m c) := (Host.V_eq m c main_v210).trans (Host.val5_main_v210 _)
theorem V_v226 : V m c main_v226 = Fn.v226 (argX m c) (argY m c) := (Host.V_eq m c main_v226).trans (Host.val5_main_v226 _)
theorem V_v242 : V m c main_v242 = Fn.v242 (argX m c) (argY m c) := (Host.V_eq m c main_v242).trans (Host.val5_main_v242 _)

include hx hy in
/-- At every point the blocks hold what the step needs. -/
theorem holds (t : Fin cfg0.N) : HoldsAt m c (packedX X0) (packedY Y0) t where
  slopes h := by rw [blk0_at, V_v251]; exact Fn.v251_at _ _ h
  queries a h d := by
    rw [blk1_at, V_v196]
    refine (Fn.v196_at _ _ X0 hx _ 0 _ (col _ h d)).trans ?_
    rw [col_head, col_lane]
  keys r h d := by
    rw [blk2_at, V_v196]
    refine (Fn.v196_at _ _ X0 hx _ 1 _ (col _ h d)).trans ?_
    rw [col_head, col_lane]
  values r h d := by
    rw [blk3_at, V_v196]
    refine (Fn.v196_at _ _ X0 hx _ 2 _ (col _ h d)).trans ?_
    rw [col_head, col_lane]
  grads a h d := by
    rw [blk4_at, V_v210]
    refine (Fn.v210_at _ _ Y0 hy _ _ (col _ h d)).trans ?_
    rw [col_head, col_lane]
  means a h := by rw [blk5_at, V_v226]; exact Fn.v226_at _ _ X0 Y0 hx hy _ _ _ _
  logs a h := by rw [blk6_at, V_v242]; exact Fn.v242_at _ _ X0 hx _ _ _ _

end Cert.KernelIdeal.Val

end
-- ==== Proof.Val.Final.lean ====
module

public import proofs.«01_k».proof.Proof.Val.Blocks
public import Idealize.ShloMosaic.Lib.Pipeline.ArrRel

@[expose] public section

set_option maxRecDepth 65536

noncomputable section

namespace Cert.KernelIdeal.Val

open Cert.KernelIdeal Cert.KernelIdeal.Gen Cert.KernelIdeal.Dil Idealize.ShloMosaic Idealize.ShloMosaic.TcCoe Idealize.SL.Sem Cert.Math

/-! The output array after the run. -/

theorem pay1_at (v : Vec Ideal S2048x512 .f32) (r : Fin 2048) (e : Fin 512) : k0_pay1 v (ix4 0 0 r e) = v (ix2 r e) := by
  pointwise [k0_pay1]

theorem pay2_at (v : Vec Ideal S2048x512 .f32) (r : Fin 2048) (e : Fin 512) : k0_pay2 v (ix4 0 0 r e) = v (ix2 r e) := by
  pointwise [k0_pay2]

/-- The rows of query gradients that point `s` stores, found in the block. -/
theorem window_dq (i : grid0.Coords) (W : Vec Ideal S1x3x2048x512 .bf16) (a : Fin 256) (e : Fin 512) :
    VecWindow.window W (k0_off3 i) S1x1x256x512.size (k0_off3_inb i) (ix4 0 0 a e) = W (ix4 0 0 (rowB (bOf i) a) e) := by
  unfold VecWindow.window
  refine congrArg W (funext fun k => Fin.ext ?_)
  show k0_off3 i k + 1 * ((ix4 0 0 a e : S1x1x256x512.Idx) k).val = _
  refine (congrArg (· + _) (congrFun (off3_eq i) k)).trans ?_
  fin_cases k
  · rfl
  · rfl
  · show 256 * (i 2).val + 1 * a.val = 256 * (i 2).val + a.val; omega
  · show 0 + 1 * e.val = e.val; omega

theorem window_dk (W : Vec Ideal S1x3x2048x512 .bf16) (r : Fin 2048) (e : Fin 512) :
    VecWindow.window W ![0, 1, 0, 0] S1x1x2048x512.size inb_S1x3x2048x512_S1x1x2048x512_0_1_0_0 (ix4 0 0 r e) = W (ix4 0 1 r e) := by
  unfold VecWindow.window
  refine congrArg W (funext fun k => Fin.ext ?_)
  fin_cases k
  · rfl
  · rfl
  · show 0 + 1 * r.val = r.val; omega
  · show 0 + 1 * e.val = e.val; omega

theorem window_dv (W : Vec Ideal S1x3x2048x512 .bf16) (r : Fin 2048) (e : Fin 512) :
    VecWindow.window W ![0, 2, 0, 0] S1x1x2048x512.size inb_S1x3x2048x512_S1x1x2048x512_0_2_0_0 (ix4 0 0 r e) = W (ix4 0 2 r e) := by
  unfold VecWindow.window
  refine congrArg W (funext fun k => Fin.ext ?_)
  fin_cases k
  · rfl
  · rfl
  · show 0 + 1 * r.val = r.val; omega
  · show 0 + 1 * e.val = e.val; omega

/-- The coordinates of the points of one column block. -/
theorem coords_run : ∀ t s : Fin grid0.N, s.val / 8 = t.val / 8 → grid0.coords s 0 = grid0.coords t 0 ∧ grid0.coords s 1 = grid0.coords t 1 := by
  decide +kernel

theorem index7 : ∀ t : Fin grid0.N, win0_7.index t = ![(grid0.coords t 0).val, 0, 0, (grid0.coords t 1).val] := by decide +kernel

/-- The last point of a column block. -/
def lastPt (g : Fin 3) (p : Fin 2) : Fin cfg0.N := ⟨8 * (2 * g.val + p.val) + 7, by show _ < 48; omega⟩

theorem lastPt_index : ∀ (g : Fin 3) (p : Fin 2), win0_7.index (lastPt g p) = ![g.val, 0, 0, p.val] := by decide +kernel

variable (m : (ℓ : Loc nD τ sig) → Buf (Elt Ideal) ℓ) (c : Dev nD)
variable {X : Fin 2048 → Fin 3 → Fin 3 → Fin 16 → Fin 64 → ℝ} {Y : Fin 2048 → Fin 16 → Fin 64 → ℝ}
variable (H : ∀ t, HoldsAt m c X Y t)

include H in
/-- The block that the last point of a column block leaves: the three gradients of its eight heads. -/
theorem held_at (t : Fin cfg0.N) (h7 : t.val % 8 = 7) (W : Vec Ideal S1x3x2048x512 .bf16) (hW : Held m c t W)
    (s : Fin 3) (r : Fin 2048) (h : Fin 8) (d : Fin 64) :
    W (ix4 0 s r (ln h d)) = ((out X Y slope (gOf (grid0.coords t)) s (hd (pOf (grid0.coords t)) h) (tok (gOf (grid0.coords t)) r) d : ℝ) : EReal) := by
  obtain rfl | rfl | rfl : s = 0 ∨ s = 1 ∨ s = 2 := by omega
  · have hr := r.isLt
    have ht : t.val < 48 := t.isLt
    let u : Fin cfg0.N := ⟨8 * (t.val / 8) + r.val / 256, by show _ < 48; omega⟩
    have hu : u.val / 8 = t.val / 8 := by show (8 * (t.val / 8) + r.val / 256) / 8 = _; omega
    have hu' : u.val ≤ t.val := by show 8 * (t.val / 8) + r.val / 256 ≤ _; omega
    have hb : (bOf (grid0.coords u)).val = r.val / 256 := by rw [bOf_val]; show (8 * (t.val / 8) + r.val / 256) % 8 = _; omega
    have hrow : rowB (bOf (grid0.coords u)) ⟨r.val % 256, by omega⟩ = r := Fin.ext (by show 256 * (bOf (grid0.coords u)).val + r.val % 256 = r.val; rw [hb]; omega)
    obtain ⟨e0, e1⟩ := coords_run t u hu
    have e := (congrFun (hW.1 u hu' hu) (ix4 0 0 ⟨r.val % 256, by omega⟩ (ln h d))).trans (dqBlock_at (H u) ⟨r.val % 256, by omega⟩ h d)
    rw [window_dq, hrow] at e
    rw [e, show gOf (grid0.coords u) = gOf (grid0.coords t) from e0, show pOf (grid0.coords u) = pOf (grid0.coords t) from e1]
    rfl
  · have e := congrFun (hW.2 h7).1 (ix4 0 0 r (ln h d))
    rw [window_dk, pay1_at, dk_at m c H r h d t h7] at e
    exact e
  · have e := congrFun (hW.2 h7).2 (ix4 0 0 r (ln h d))
    rw [window_dv, pay2_at, dv_at m c H r h d t h7] at e
    exact e

/-- The three gradients as one array. -/
def result (X : Fin 2048 → Fin 3 → Fin 3 → Fin 16 → Fin 64 → ℝ) (Y : Fin 2048 → Fin 16 → Fin 64 → ℝ) : FVec Ideal S3x3x2048x1024 .bf16 :=
  fun j => ((out X Y slope (j 0) (j 1) ⟨(j 3).val / 64, by have : (j 3).val < 1024 := (j 3).isLt; omega⟩ (tok (j 0) (j 2)) ⟨(j 3).val % 64, by omega⟩ : ℝ) : EReal)

theorem result_at (g s : Fin 3) (r : Fin 2048) (p : Fin 2) (h : Fin 8) (d : Fin 64) (j : S3x3x2048x1024.Idx)
    (h0 : (j 0).val = g.val) (h1 : (j 1).val = s.val) (h2 : (j 2).val = r.val) (h3 : (j 3).val = (col p h d).val) :
    result X Y j = ((out X Y slope g s (hd p h) (tok g r) d : ℝ) : EReal) := by
  obtain rfl := ix4_of j h0 h1 h2 h3
  show ((out X Y slope g s ⟨(col p h d).val / 64, _⟩ (tok g r) ⟨(col p h d).val % 64, _⟩ : ℝ) : EReal) = _
  rw [col_head, col_lane]

theorem mem_blk7 (t : Fin cfg0.N) (i : S3x3x2048x1024.Idx) :
    i ∈ ((cfg0.win 7).blk t).view.set ↔ ∀ a : Fin 4, win0_7.index t a * S1x3x2048x512.size a ≤ (i a).val ∧ (i a).val < win0_7.index t a * S1x3x2048x512.size a + S1x3x2048x512.size a := by
  show i ∈ ((View.whole main_v252).slice (win0_7.rect t)).set ↔ _
  rw [View.set_slice_whole, Rect.mem_set_unit]
  exact Iff.rfl

/-- Every element of the output lies in the block of some last point. -/
theorem covered7 (i : S3x3x2048x1024.Idx) : ∃ t : Fin cfg0.N, (cfg0.win 7).flush t = true ∧ i ∈ ((cfg0.win 7).blk t).view.set := by
  have h0 : (i 0).val < 3 := (i 0).isLt
  have h1 : (i 1).val < 3 := (i 1).isLt
  have h2 : (i 2).val < 2048 := (i 2).isLt
  have h3 : (i 3).val < 1024 := (i 3).isLt
  have ht := lastPt_index (i 0) ⟨(i 3).val / 512, by omega⟩
  refine ⟨lastPt (i 0) ⟨(i 3).val / 512, by omega⟩, (flush0_7 _).mpr (by show (8 * (2 * (i 0).val + (i 3).val / 512) + 7) % 8 = 7; omega), ?_⟩
  rw [mem_blk7, ht]
  intro a
  match a with
  | ⟨0, _⟩ => show (i 0).val * 1 ≤ (i 0).val ∧ (i 0).val < (i 0).val * 1 + 1; omega
  | ⟨1, _⟩ => show 0 * 3 ≤ (i 1).val ∧ (i 1).val < 0 * 3 + 3; omega
  | ⟨2, _⟩ => show 0 * 2048 ≤ (i 2).val ∧ (i 2).val < 0 * 2048 + 2048; omega
  | ⟨3, _⟩ => show (i 3).val / 512 * 512 ≤ (i 3).val ∧ (i 3).val < (i 3).val / 512 * 512 + 512; omega

include H in
/-- The output array ends holding the three gradients. -/
theorem array7 {r : PUnit × MemSt nD τ sig (Elt Ideal)} (hr : Pipeline.RDat.FramePost cfg0 (rdat m) (V m) r) :
    r.2.mem ((c : Thread nD τ).loc main_v252) = result X Y := by
  obtain ⟨after, hL, hA⟩ := Pipeline.RDat.FramePost.exists_exact hr c
  refine (hA 7).trans (Pipeline.Dat.arrAt_eq_of_cover ((rdat m c).withAfter after) 7 (result X Y) (fun t hf => ?_) covered7)
  have h7 : t.val % 8 = 7 := (flush0_7 t).mp hf
  have hW : Held m c t (after 7 t) := (dats m 0 c).toRRel_leaves (w := 7) rfl (hL 7 t hf)
  have i0 : win0_7.index t 0 = (grid0.coords t 0).val := congrFun (index7 t) 0
  have i1 : win0_7.index t 1 = 0 := congrFun (index7 t) 1
  have i2 : win0_7.index t 2 = 0 := congrFun (index7 t) 2
  have i3 : win0_7.index t 3 = (grid0.coords t 1).val := congrFun (index7 t) 3
  funext y
  have hy0 : (y 0).val < 1 := (y 0).isLt
  have hy1 : (y 1).val < 3 := (y 1).isLt
  have hy2 : (y 2).val < 2048 := (y 2).isLt
  have hy3 : (y 3).val < 512 := (y 3).isLt
  have hl : (cfg0.win 7).xinj (grid0.coords t) y = ix4 (0 : Fin 1) (⟨(y 1).val, hy1⟩ : Fin 3) (⟨(y 2).val, hy2⟩ : Fin 2048) (ln ⟨(y 3).val / 64, by omega⟩ ⟨(y 3).val % 64, by omega⟩) :=
    ix4_of _ (by show (y 0).val = 0; omega) rfl rfl (by show (y 3).val = 64 * ((y 3).val / 64) + (y 3).val % 64; omega)
  show after 7 t ((cfg0.win 7).xinj (grid0.coords t) y) = result X Y (((cfg0.win 7).blk t).view.emb y)
  rw [hl, held_at m c H t h7 (after 7 t) hW]
  refine (result_at _ _ _ (pOf (grid0.coords t)) _ _ _ ?_ ?_ ?_ ?_).symm
  · show win0_7.index t 0 * 1 + 1 * (y 0).val = (grid0.coords t 0).val; omega
  · show win0_7.index t 1 * 3 + 1 * (y 1).val = (y 1).val; omega
  · show win0_7.index t 2 * 2048 + 1 * (y 2).val = (y 2).val; omega
  · show win0_7.index t 3 * 512 + 1 * (y 3).val = 512 * (grid0.coords t 1).val + 64 * ((y 3).val / 64) + (y 3).val % 64; omega

end Cert.KernelIdeal.Val

end
-- ==== Proof.Val.Equal.lean ====
module

public import proofs.«01_k».proof.Proof.Val.Final

@[expose] public section

set_option maxRecDepth 65536

noncomputable section

namespace Cert.KernelIdeal.Val

open Cert.KernelIdeal Cert.KernelIdeal.Gen Cert.KernelIdeal.Dil Idealize.ShloMosaic Idealize.ShloMosaic.TcCoe Idealize.SL.Sem Cert.Math

/-! The kernel's run and the reference's, when the arguments are real: both end with the three gradients. -/

variable (X0 : (⟨2, ![2048, 9216]⟩ : Shape).Idx → ℝ) (Y0 : (⟨2, ![2048, 1024]⟩ : Shape).Idx → ℝ)

/-- The reference's result. -/
theorem reference_result (x : FVec Ideal S2048x9216 .f32) (y : FVec Ideal S2048x1024 .f32)
    (hx : ∀ j, x j = ((X0 j : ℝ) : EReal)) (hy : ∀ j, y j = ((Y0 j : ℝ) : EReal)) :
    ReferenceIdeal.Fn.v295 x y = result (packedX X0) (packedY Y0) := by
  funext j
  rw [ix4_of j (a := j 0) (b := j 1) (c := j 2) (d := j 3) rfl rfl rfl rfl]
  exact ReferenceIdeal.Fn.v295_at x y X0 Y0 hx hy (j 0) (j 1) (j 2) (j 3)

variable (m : (ℓ : Loc nD τ sig) → Buf (Elt Ideal) ℓ) (ρ : Dev nD → PrngReg)

/-- The kernel's run. -/
theorem kernel_run (X0 : Dev nD → (⟨2, ![2048, 9216]⟩ : Shape).Idx → ℝ) (Y0 : Dev nD → (⟨2, ![2048, 1024]⟩ : Shape).Idx → ℝ)
    (hx : ∀ c j, argX m c j = ((X0 c j : ℝ) : EReal)) (hy : ∀ c j, argY m c j = ((Y0 c j : ℝ) : EReal)) :
    θ_run defs (onTc (τ := τ) (main (F := Ideal))) ⟨m, fun _ => 0, ρ⟩ (fun r => ∀ c : Dev nD,
      r.2.mem ((c : Thread nD τ).loc main_v252) = result (packedX (X0 c)) (packedY (Y0 c))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c =>
    ⟨array7 m c (holds m c (X0 c) (Y0 c) (hx c) (hy c)) h.1,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩) (run_main m ρ)

end Cert.KernelIdeal.Val

end
-- ==== Proof.Val.Finite.lean ====
module

public import proofs.«01_k».proof.Pre_finite
public import Idealize.ShloMosaic.Lib.ReduceAll
public import Idealize.ShloMosaic.Lib.Pointwise

@[expose] public section

noncomputable section

namespace Cert.Pre_finite

open Idealize.ShloMosaic

/-! The precondition read back: every element of both arguments is a real number. -/

/-- The side conditions of the predicate. -/
theorem finite_facts : Facts where
  bcast_S_S2048x9216 := by decide
  reducesTo_S2048x9216_S_d0_1 := by decide
  h_S_ := by decide
  bcast_S_S2048x1024 := by decide
  reducesTo_S2048x1024_S_d0_1 := by decide

theorem bits_inf : Ideal.ofBits .f32 0x7F800000#32 = (⊤ : EReal) := by
  simp [Ideal.ofBits, Ideal.ieee]

/-- A number whose absolute value is below infinity is real. -/
theorem real_of_abs (x : EReal) (h : max x (-x) < ⊤) : x = ((x.toReal : ℝ) : EReal) := by
  refine (EReal.coe_toReal (fun e => ?_) (fun e => ?_)).symm
  · subst e; simp at h
  · subst e; simp at h

theorem one_of_decide (p : Prop) [Decidable p] (h : BitVec.ofBool (decide p) = 1#1) : p := by
  by_contra hn
  rw [decide_eq_false hn] at h
  exact absurd h (by decide)

variable [Facts]

instance : Subsingleton S_.Idx := ⟨fun a b => funext fun k => k.elim0⟩

theorem real_args (x : FVec Ideal S2048x9216 .f32) (y : FVec Ideal S2048x1024 .f32) (h : fn x y = fun _ => 1#1) :
    (∀ j, x j = (((x j).toReal : ℝ) : EReal)) ∧ (∀ j, y j = (((y j).toReal : ℝ) : EReal)) := by
  have h0 := congrFun h ix0
  unfold fn at h0
  obtain ⟨hx, hy⟩ := IntOp.andi_eq_one.1 h0
  refine ⟨fun j => real_of_abs _ ?_, fun j => real_of_abs _ ?_⟩
  · have e := Host.reduce_andi_all _ _ _ _ _ hx j
    have e' := one_of_decide _ e
    exact lt_of_lt_of_eq e' bits_inf
  · have e := Host.reduce_andi_all _ _ _ _ _ hy j
    have e' := one_of_decide _ e
    exact lt_of_lt_of_eq e' bits_inf

end Cert.Pre_finite

end
-- ==== Proof.Products.FfnDw.lean ====
/- The gradient of a feed-forward weight: one product per shard of the columns. -/
module

public import proofs.«01_k».proof.Defs
public import proofs.«01_k».proof.Proof.Gen.Kernel2Ideal.Value
public import proofs.«01_k».proof.Proof.Gen.Reference2Ideal.Run
public import proofs.«01_k».proof.Proof.Products.Index
public import Idealize.ShloMosaic.Lib.Pipeline.ValueKit.Basic

@[expose] public section

set_option maxRecDepth 65536

noncomputable section

namespace Cert.Kernel2Ideal.Val

open Cert.Kernel2Ideal Cert.Kernel2Ideal.Gen Cert.Products Idealize.ShloMosaic Idealize.ShloMosaic.TcCoe Idealize.SL.Sem
open Idealize.ShloMosaic.Pipeline (Dat)

/-- The gradient, shard by shard: entry (s, a, b) sums, over the tokens, the activation in column a of shard s times
    the incoming gradient in column b. -/
def grad (A : FVec Ideal S2048x2816 .f32) (B : FVec Ideal S2048x1024 .f32) : FVec Ideal S4x704x1024 .bf16 :=
  fun j => ∑ r : Fin 2048, A (ix2 r ⟨(j 0).val * 704 + (j 1).val, by
    have h0 : (j 0).val < 4 := (j 0).isLt
    have h1 : (j 1).val < 704 := (j 1).isLt
    omega⟩) * B (ix2 r (j 2))

/-- What a grid point stores. -/
theorem block_at (x : Vec Ideal S1x2048x704 .bf16) (y : Vec Ideal S2048x1024 .bf16) (a : Fin 704) (b : Fin 1024) :
    out0_2 x y (ix3 0 a b) = ∑ r : Fin 2048, x (ix3 0 r a) * y (ix2 r b) := by
  unfold out0_2 r0_2 r0_0 r0_1
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

abbrev argA : FVec Ideal S2048x2816 .f32 := m ((c.tc : Thread nD τ).loc main_arg0)
abbrev argB : FVec Ideal S2048x1024 .f32 := m ((c.tc : Thread nD τ).loc main_arg1)

/-- The host's shards of the activation. -/
theorem V_shards : V m c main_v2 = truncf .bf16 (transpose S4x2048x704 [1, 0, 2] (shapeCast S2048x4x704 (argA m c) shapeCasts_S2048x2816_S2048x4x704) transposes_S2048x4x704_S4x2048x704_1_0_2) bitsLt_bf16_f32 := by
  unfold V hostOps0
  after_results <;> rfl

theorem V_grads : V m c main_v3 = truncf .bf16 (argB m c) bitsLt_bf16_f32 := by
  unfold V hostOps0
  after_results <;> rfl

theorem shards_at (A : FVec Ideal S2048x2816 .f32) (s : Fin 4) (r : Fin 2048) (a : Fin 704) :
    (truncf .bf16 (transpose S4x2048x704 [1, 0, 2] (shapeCast S2048x4x704 A shapeCasts_S2048x2816_S2048x4x704) transposes_S2048x4x704_S4x2048x704_1_0_2) bitsLt_bf16_f32 : FVec Ideal S4x2048x704 .bf16) (ix3 s r a)
      = A (ix2 r ⟨s.val * 704 + a.val, by omega⟩) := by
  pointwise

/-! The block each window is at: the grid point is the shard. -/

theorem index0 : ∀ t : Fin grid0.N, win0_0.index t = ![t.val, 0, 0] := by decide +kernel
theorem index1 : ∀ t : Fin grid0.N, win0_1.index t = ![0, 0] := by decide +kernel
theorem index2 : ∀ t : Fin grid0.N, win0_2.index t = ![t.val, 0, 0] := by decide +kernel

theorem blk0_at (t : Fin cfg0.N) (r : Fin 2048) (a : Fin 704) :
    iblk m c 0 t (ix3 0 r a) = argA m c (ix2 r ⟨t.val * 704 + a.val, by have : t.val < 4 := t.isLt; omega⟩) := by
  have i0 : win0_0.index t 0 = t.val := congrFun (index0 t) 0
  have i1 : win0_0.index t 1 = 0 := congrFun (index0 t) 1
  have i2 : win0_0.index t 2 = 0 := congrFun (index0 t) 2
  have e : iblk m c 0 t (ix3 0 r a) = V m c main_v2 (ix3 (⟨t.val, t.isLt⟩ : Fin 4) r a) := by
    refine congrArg (V m c main_v2) (ix3_of _ ?_ ?_ ?_)
    · show win0_0.index t 0 * 1 + 1 * 0 = t.val; omega
    · show win0_0.index t 1 * 2048 + 1 * r.val = r.val; omega
    · show win0_0.index t 2 * 704 + 1 * a.val = a.val; omega
  rw [e, V_shards]
  exact shards_at (argA m c) ⟨t.val, t.isLt⟩ r a

theorem blk1_at (t : Fin cfg0.N) (r : Fin 2048) (b : Fin 1024) : iblk m c 1 t (ix2 r b) = argB m c (ix2 r b) := by
  have i0 : win0_1.index t 0 = 0 := congrFun (index1 t) 0
  have i1 : win0_1.index t 1 = 0 := congrFun (index1 t) 1
  have e : iblk m c 1 t (ix2 r b) = V m c main_v3 (ix2 r b) := by
    refine congrArg (V m c main_v3) (ix2_of _ ?_ ?_)
    · show win0_1.index t 0 * 2048 + 1 * r.val = r.val; omega
    · show win0_1.index t 1 * 1024 + 1 * b.val = b.val; omega
  rw [e, V_grads]
  rfl

theorem mem_blk2 (t : Fin cfg0.N) (i : S4x704x1024.Idx) :
    i ∈ ((cfg0.win 2).blk t).view.set ↔ ∀ a : Fin 3, win0_2.index t a * S1x704x1024.size a ≤ (i a).val ∧ (i a).val < win0_2.index t a * S1x704x1024.size a + S1x704x1024.size a := by
  show i ∈ ((View.whole main_v4).slice (win0_2.rect t)).set ↔ _
  rw [View.set_slice_whole, Rect.mem_set_unit]
  exact Iff.rfl

/-- Every element of the output lies in some point's block. -/
theorem covered2 (i : S4x704x1024.Idx) : ∃ t : Fin cfg0.N, (cfg0.win 2).flush t = true ∧ i ∈ ((cfg0.win 2).blk t).view.set := by
  have h0 : (i 0).val < 4 := (i 0).isLt
  have h1 : (i 1).val < 704 := (i 1).isLt
  have h2 : (i 2).val < 1024 := (i 2).isLt
  refine ⟨⟨(i 0).val, h0⟩, flush0_2 _, ?_⟩
  rw [mem_blk2, index2]
  intro a
  match a with
  | ⟨0, _⟩ => show (i 0).val * 1 ≤ (i 0).val ∧ (i 0).val < (i 0).val * 1 + 1; omega
  | ⟨1, _⟩ => show 0 * 704 ≤ (i 1).val ∧ (i 1).val < 0 * 704 + 704; omega
  | ⟨2, _⟩ => show 0 * 1024 ≤ (i 2).val ∧ (i 2).val < 0 * 1024 + 1024; omega

/-- The output array ends holding the gradient. -/
theorem array2 : (dats m 0 c).arrAt 2 cfg0.N = grad (argA m c) (argB m c) := by
  refine Dat.arrAt_eq_of_cover (dats m 0 c) 2 (grad (argA m c) (argB m c)) (fun t _ => ?_) covered2
  rw [Value.flushed2]
  have ht : t.val < 4 := t.isLt
  have i0 : win0_2.index t 0 = t.val := congrFun (index2 t) 0
  have i1 : win0_2.index t 1 = 0 := congrFun (index2 t) 1
  have i2 : win0_2.index t 2 = 0 := congrFun (index2 t) 2
  funext y
  have hy0 : (y 0).val < 1 := (y 0).isLt
  have hy1 : (y 1).val < 704 := (y 1).isLt
  have hy2 : (y 2).val < 1024 := (y 2).isLt
  have hl : (cfg0.win 2).xinj (grid0.coords t) y = ix3 (0 : Fin 1) (⟨(y 1).val, hy1⟩ : Fin 704) (⟨(y 2).val, hy2⟩ : Fin 1024) :=
    ix3_of _ (by show (y 0).val = 0; omega) rfl rfl
  have hr : ((cfg0.win 2).blk t).view.emb y = ix3 (⟨t.val, ht⟩ : Fin 4) (⟨(y 1).val, hy1⟩ : Fin 704) (⟨(y 2).val, hy2⟩ : Fin 1024) := by
    refine ix3_of _ ?_ ?_ ?_
    · show win0_2.index t 0 * 1 + 1 * (y 0).val = t.val; omega
    · show win0_2.index t 1 * 704 + 1 * (y 1).val = (y 1).val; omega
    · show win0_2.index t 2 * 1024 + 1 * (y 2).val = (y 2).val; omega
  show out0_2 (iblk m c 0 t) (iblk m c 1 t) ((cfg0.win 2).xinj (grid0.coords t) y) = grad (argA m c) (argB m c) (((cfg0.win 2).blk t).view.emb y)
  rw [hl, hr, block_at]
  exact Finset.sum_congr rfl fun r _ => congrArg₂ (· * ·) (blk0_at m c t r _) (blk1_at m c t r _)

/-- What the reference computes is the same gradient. -/
theorem reference_eq (A : FVec Ideal S2048x2816 .f32) (B : FVec Ideal S2048x1024 .f32) :
    (truncf .bf16 (shapeCast Reference2Ideal.S4x704x1024 (transpose Reference2Ideal.S2816x1024 [1, 0] (Host.dotGeneral Reference2Ideal.dot_S2048x1024_S2048x2816_S1024x2816_0_0_1_1_n_n none B A) Reference2Ideal.Facts₀.transposes_S1024x2816_S2816x1024_1_0) Reference2Ideal.Facts₀.shapeCasts_S2816x1024_S4x704x1024) Reference2Ideal.Facts₀.bitsLt_bf16_f32 : FVec Ideal Reference2Ideal.S4x704x1024 .bf16)
      = grad A B := by
  funext j
  have h0 : (j 0).val < 4 := (j 0).isLt
  have h1 : (j 1).val < 704 := (j 1).isLt
  have h2 : (j 2).val < 1024 := (j 2).isLt
  rw [ix3_of j (a := ⟨(j 0).val, h0⟩) (b := ⟨(j 1).val, h1⟩) (c := ⟨(j 2).val, h2⟩) rfl rfl rfl]
  refine Eq.trans ?_ (Finset.sum_congr rfl fun r _ => mul_comm (B (ix2 r ⟨(j 2).val, h2⟩)) (A (ix2 r ⟨(j 0).val * 704 + (j 1).val, by omega⟩)))
  pointwise

/-- Kernel and reference, from equal arguments, both end with the gradient. -/
theorem equal : Cert.algebraic_Kernel2Ideal_Reference2Ideal := by
  intro m g m' g' _ hagree
  refine ⟨fun c => grad (argA m c) (argB m c), (θ_run defs _ _).mono (fun _ h c => ⟨(h c).1.trans (array2 m c), (h c).2⟩) (Value.run_blocks m g),
    (θ_run Cert.Reference2Ideal.defs _ _).mono (fun _ h c => ⟨(h c).1.trans ?_, (h c).2⟩) (Cert.Reference2Ideal.Value.run m' g')⟩
  rw [(hagree c).1, (hagree c).2]
  exact reference_eq _ _

end Cert.Kernel2Ideal.Val

end
-- ==== Proof.Products.Groups.lean ====
/- The tokens in each group's order, and the columns of each group: what the host prepares for the projections, and what
   the references return, element by element. -/
module

public import proofs.«01_k».proof.Proof.Fn.KernelValue
public import proofs.«01_k».proof.Proof.Products.Index

@[expose] public section

set_option maxRecDepth 65536

noncomputable section

namespace Cert.Products

open Cert.KernelIdeal Cert.KernelIdeal.Gen Cert.KernelIdeal.Fn Idealize.ShloMosaic Idealize.ShloMosaic.TcCoe
open Cert.Math (tok)

/-- The columns of each group. -/
def columns0 (D : FVec Ideal S2048x9216 .f32) : FVec Ideal S2048x3072 .f32 :=
  extractStridedSlice S2048x3072 ![0, 0] D slices_S2048x9216_S2048x3072_0_0
def columns1 (D : FVec Ideal S2048x9216 .f32) : FVec Ideal S2048x3072 .f32 :=
  extractStridedSlice S2048x3072 ![0, 3072] D slices_S2048x9216_S2048x3072_0_3072
def columns2 (D : FVec Ideal S2048x9216 .f32) : FVec Ideal S2048x3072 .f32 :=
  extractStridedSlice S2048x3072 ![0, 6144] D slices_S2048x9216_S2048x3072_0_6144

theorem columns0_at (D : FVec Ideal S2048x9216 .f32) (r : Fin 2048) (n : Fin 3072) :
    columns0 D (ix2 r n) = D (ix2 r ⟨(0 : Fin 3).val * 3072 + n.val, by show 0 * 3072 + n.val < 9216; omega⟩) := by
  pointwise [columns0]

theorem columns1_at (D : FVec Ideal S2048x9216 .f32) (r : Fin 2048) (n : Fin 3072) :
    columns1 D (ix2 r n) = D (ix2 r ⟨(1 : Fin 3).val * 3072 + n.val, by show 1 * 3072 + n.val < 9216; omega⟩) := by
  pointwise [columns1]

theorem columns2_at (D : FVec Ideal S2048x9216 .f32) (r : Fin 2048) (n : Fin 3072) :
    columns2 D (ix2 r n) = D (ix2 r ⟨(2 : Fin 3).val * 3072 + n.val, by show 2 * 3072 + n.val < 9216; omega⟩) := by
  pointwise [columns2]

/-- Every group's tokens, in its order. -/
def tokens (H : FVec Ideal S2048x1024 .f32) : FVec Ideal S3x2048x1024 .f32 :=
  three1024 (rows1024_0 H) (rows1024_1 H) (rows1024_2 H)

theorem tokens_at (H : FVec Ideal S2048x1024 .f32) (g : Fin 3) (r : Fin 2048) (k : Fin 1024) : tokens H (ix3 g r k) = H (ix2 (tok g r) k) := by
  refine (three1024_at _ _ _ g r k).trans ?_
  rw [rows1024_0_at, rows1024_1_at, rows1024_2_at]
  obtain rfl | rfl | rfl : g = 0 ∨ g = 1 ∨ g = 2 := by omega
  · rfl
  · rfl
  · rfl

/-- Every group's columns, its tokens in its order. -/
def parted (D : FVec Ideal S2048x9216 .f32) : FVec Ideal S3x2048x3072 .f32 :=
  three3072 (rows3072_0 (columns0 D)) (rows3072_1 (columns1 D)) (rows3072_2 (columns2 D))

theorem parted_at (D : FVec Ideal S2048x9216 .f32) (g : Fin 3) (r : Fin 2048) (n : Fin 3072) :
    parted D (ix3 g r n) = D (ix2 (tok g r) ⟨g.val * 3072 + n.val, by omega⟩) := by
  refine (three3072_at _ _ _ g r n).trans ?_
  rw [rows3072_0_at, rows3072_1_at, rows3072_2_at, columns0_at, columns1_at, columns2_at]
  obtain rfl | rfl | rfl : g = 0 ∨ g = 1 ∨ g = 2 := by omega
  · rfl
  · rfl
  · rfl

end Cert.Products

end
-- ==== Proof.Products.QkvDw.lean ====
/- The gradient of the weight of the projection: one product per tile of its columns, over each group's order of the tokens. -/
module

public import proofs.«01_k».proof.Defs
public import proofs.«01_k».proof.Proof.Gen.Kernel3Ideal.Value
public import proofs.«01_k».proof.Proof.Gen.Reference3Ideal.Run
public import proofs.«01_k».proof.Proof.Math.Band
public import proofs.«01_k».proof.Proof.Products.Groups
public import Idealize.ShloMosaic.Lib.Pipeline.ValueKit.Basic

@[expose] public section

set_option maxRecDepth 65536

noncomputable section

namespace Cert.Kernel3Ideal.Val

open Cert.Kernel3Ideal Cert.Kernel3Ideal.Gen Cert.Products Idealize.ShloMosaic Idealize.ShloMosaic.TcCoe Idealize.SL.Sem
open Idealize.ShloMosaic.Pipeline (Dat)
open Cert.Math (tok)

/-- The gradient, shard by shard: entry (s, k, b) sums, over the tokens, the activation in column k times the incoming
    gradient in column b of shard s. -/
def grad (H : FVec Ideal S2048x1024 .f32) (D : FVec Ideal S2048x9216 .f32) : FVec Ideal S4x1024x2304 .bf16 :=
  fun j => ∑ r : Fin 2048, H (ix2 r (j 1)) * D (ix2 r ⟨(j 0).val * 2304 + (j 2).val, by
    have h0 : (j 0).val < 4 := (j 0).isLt
    have h2 : (j 2).val < 2304 := (j 2).isLt
    omega⟩)

/-- What a grid point stores. -/
theorem block_at (x : Vec Ideal S1x1024x2048 .bf16) (y : Vec Ideal S1x1x2048x256 .bf16) (k : Fin 1024) (b : Fin 256) :
    out0_2 x y (ix3 0 k b) = ∑ r : Fin 2048, x (ix3 0 k r) * y (ix4 0 0 r b) := by
  unfold out0_2 r0_2 r0_0 r0_1
  rw [View.canon_cons_unit_lit _ _ _ (by decide), View.ld_unit_lit _ _ (by decide), View.ld_unit_lit _ _ (by decide)]
  pointwise [k0_pay1]

/-- A sum over the tokens is the same in any group's order. -/
theorem sum_tok (g : Fin 3) (f : Fin 2048 → EReal) : ∑ r : Fin 2048, f (tok g r) = ∑ r : Fin 2048, f r :=
  (Finite.injective_iff_bijective.mp (Cert.Math.tok_injective g)).sum_comp f

variable (m : (ℓ : Loc nD τ sig) → Buf (Elt Ideal) ℓ) (c : Dev nD)

abbrev argH : FVec Ideal S2048x1024 .f32 := m ((c.tc : Thread nD τ).loc main_arg0)
abbrev argD : FVec Ideal S2048x9216 .f32 := m ((c.tc : Thread nD τ).loc main_arg1)

/-- The host's three orders of the tokens, transposed. -/
theorem V_tokens : V m c main_v14 = truncf .bf16 (transpose S3x1024x2048 [0, 2, 1] (tokens (argH m c)) transposes_S3x2048x1024_S3x1024x2048_0_2_1) bitsLt_bf16_f32 := by
  unfold V hostOps0
  after_results <;> rfl

/-- The host's parts of the incoming gradient. -/
theorem V_parts : V m c main_v33 = Cert.ReferenceIdeal.Fn.cut (parted (argD m c)) := by
  unfold V hostOps0
  after_results <;> rfl

theorem turned_at (H : FVec Ideal S3x2048x1024 .f32) (g : Fin 3) (k : Fin 1024) (r : Fin 2048) :
    (truncf .bf16 (transpose S3x1024x2048 [0, 2, 1] H transposes_S3x2048x1024_S3x1024x2048_0_2_1) bitsLt_bf16_f32 : FVec Ideal S3x1024x2048 .bf16) (ix3 g k r) = H (ix3 g r k) := by
  pointwise

/-! The block each window is at: grid point t is tile t of the columns, which is tile t % 4 of part t % 12 / 4 of
group t / 12 and tile t % 9 of shard t / 9. -/

theorem index0 : ∀ t : Fin grid0.N, win0_0.index t = ![t.val / 12, 0, 0] := by decide +kernel
theorem index1 : ∀ t : Fin grid0.N, win0_1.index t = ![t.val / 12, t.val % 12 / 4, 0, t.val % 4] := by decide +kernel
theorem index2 : ∀ t : Fin grid0.N, win0_2.index t = ![t.val / 9, 0, t.val % 9] := by decide +kernel

theorem lt_points (t : Fin cfg0.N) : t.val < 36 := t.isLt

theorem blk0_at (t : Fin cfg0.N) (k : Fin 1024) (r : Fin 2048) :
    iblk m c 0 t (ix3 0 k r) = argH m c (ix2 (tok ⟨t.val / 12, by have := lt_points t; omega⟩ r) k) := by
  have ht := lt_points t
  have i0 : win0_0.index t 0 = t.val / 12 := congrFun (index0 t) 0
  have i1 : win0_0.index t 1 = 0 := congrFun (index0 t) 1
  have i2 : win0_0.index t 2 = 0 := congrFun (index0 t) 2
  have e : iblk m c 0 t (ix3 0 k r) = V m c main_v14 (ix3 (⟨t.val / 12, by omega⟩ : Fin 3) k r) := by
    refine congrArg (V m c main_v14) (ix3_of _ ?_ ?_ ?_)
    · show win0_0.index t 0 * 1 + 1 * 0 = t.val / 12; omega
    · show win0_0.index t 1 * 1024 + 1 * k.val = k.val; omega
    · show win0_0.index t 2 * 2048 + 1 * r.val = r.val; omega
  rw [e, V_tokens]
  exact (turned_at _ _ k r).trans (tokens_at (argH m c) _ r k)

theorem blk1_at (t : Fin cfg0.N) (r : Fin 2048) (b : Fin 256) :
    iblk m c 1 t (ix4 0 0 r b) = argD m c (ix2 (tok ⟨t.val / 12, by have := lt_points t; omega⟩ r) ⟨t.val * 256 + b.val, by have := lt_points t; omega⟩) := by
  have ht := lt_points t
  have i0 : win0_1.index t 0 = t.val / 12 := congrFun (index1 t) 0
  have i1 : win0_1.index t 1 = t.val % 12 / 4 := congrFun (index1 t) 1
  have i2 : win0_1.index t 2 = 0 := congrFun (index1 t) 2
  have i3 : win0_1.index t 3 = t.val % 4 := congrFun (index1 t) 3
  have e : iblk m c 1 t (ix4 0 0 r b) = V m c main_v33 (ix4 (⟨t.val / 12, by omega⟩ : Fin 3) (⟨t.val % 12 / 4, by omega⟩ : Fin 3) r (⟨t.val % 4 * 256 + b.val, by omega⟩ : Fin 1024)) := by
    refine (read_slice_whole main_v33 (win0_1.rect t) (V m c main_v33) _).trans (congrArg (V m c main_v33) (ix4_of _ ?_ ?_ ?_ ?_))
    · refine (Pipeline.Window.rect_emb_val win0_1 t _ 0 rfl).trans ?_
      rw [i0]; show t.val / 12 * 1 + 0 = t.val / 12; omega
    · refine (Pipeline.Window.rect_emb_val win0_1 t _ 1 rfl).trans ?_
      rw [i1]; show t.val % 12 / 4 * 1 + 0 = t.val % 12 / 4; omega
    · refine (Pipeline.Window.rect_emb_val win0_1 t _ 2 rfl).trans ?_
      rw [i2]; show 0 * 2048 + r.val = r.val; omega
    · refine (Pipeline.Window.rect_emb_val win0_1 t _ 3 rfl).trans ?_
      rw [i3]; rfl
  rw [e, V_parts]
  refine (Cert.ReferenceIdeal.Fn.cut_at _ _ _ _ _).trans ((parted_at (argD m c) _ r _).trans (congrArg (argD m c) (ix2_of _ rfl ?_)))
  show t.val / 12 * 3072 + (t.val % 12 / 4 * 1024 + (t.val % 4 * 256 + b.val)) = t.val * 256 + b.val
  omega

theorem mem_blk2 (t : Fin cfg0.N) (i : S4x1024x2304.Idx) :
    i ∈ ((cfg0.win 2).blk t).view.set ↔ ∀ a : Fin 3, win0_2.index t a * S1x1024x256.size a ≤ (i a).val ∧ (i a).val < win0_2.index t a * S1x1024x256.size a + S1x1024x256.size a := by
  show i ∈ ((View.whole main_v34).slice (win0_2.rect t)).set ↔ _
  rw [View.set_slice_whole, Rect.mem_set_unit]
  exact Iff.rfl

/-- Every element of the output lies in some point's block. -/
theorem covered2 (i : S4x1024x2304.Idx) : ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 2304 := (i 2).isLt
  have ht : (i 0).val * 9 + (i 2).val / 256 < 36 := by omega
  refine ⟨⟨(i 0).val * 9 + (i 2).val / 256, ht⟩, flush0_2 _, ?_⟩
  rw [mem_blk2, index2]
  intro a
  match a with
  | ⟨0, _⟩ => show ((i 0).val * 9 + (i 2).val / 256) / 9 * 1 ≤ (i 0).val ∧ (i 0).val < ((i 0).val * 9 + (i 2).val / 256) / 9 * 1 + 1; omega
  | ⟨1, _⟩ => show 0 * 1024 ≤ (i 1).val ∧ (i 1).val < 0 * 1024 + 1024; omega
  | ⟨2, _⟩ => show ((i 0).val * 9 + (i 2).val / 256) % 9 * 256 ≤ (i 2).val ∧ (i 2).val < ((i 0).val * 9 + (i 2).val / 256) % 9 * 256 + 256; omega

/-- The output array ends holding the gradient. -/
theorem array2 : (dats m 0 c).arrAt 2 cfg0.N = grad (argH m c) (argD m c) := by
  refine Dat.arrAt_eq_of_cover (dats m 0 c) 2 (grad (argH m c) (argD m c)) (fun t _ => ?_) covered2
  rw [Value.flushed2]
  have ht := lt_points t
  have i0 : win0_2.index t 0 = t.val / 9 := congrFun (index2 t) 0
  have i1 : win0_2.index t 1 = 0 := congrFun (index2 t) 1
  have i2 : win0_2.index t 2 = t.val % 9 := congrFun (index2 t) 2
  funext y
  have hy0 : (y 0).val < 1 := (y 0).isLt
  have hy1 : (y 1).val < 1024 := (y 1).isLt
  have hy2 : (y 2).val < 256 := (y 2).isLt
  have hl : (cfg0.win 2).xinj (grid0.coords t) y = ix3 (0 : Fin 1) (⟨(y 1).val, hy1⟩ : Fin 1024) (⟨(y 2).val, hy2⟩ : Fin 256) :=
    ix3_of _ (by show (y 0).val = 0; omega) rfl rfl
  have hr : ((cfg0.win 2).blk t).view.emb y = ix3 (⟨t.val / 9, by omega⟩ : Fin 4) (⟨(y 1).val, hy1⟩ : Fin 1024) (⟨t.val % 9 * 256 + (y 2).val, by omega⟩ : Fin 2304) := by
    refine ix3_of _ ?_ ?_ ?_
    · show win0_2.index t 0 * 1 + 1 * (y 0).val = t.val / 9; omega
    · show win0_2.index t 1 * 1024 + 1 * (y 1).val = (y 1).val; omega
    · show win0_2.index t 2 * 256 + 1 * (y 2).val = t.val % 9 * 256 + (y 2).val; omega
  show out0_2 (iblk m c 0 t) (iblk m c 1 t) ((cfg0.win 2).xinj (grid0.coords t) y) = grad (argH m c) (argD m c) (((cfg0.win 2).blk t).view.emb y)
  rw [hl, hr, block_at]
  have hcol : (⟨t.val * 256 + (y 2).val, by omega⟩ : Fin 9216) = ⟨t.val / 9 * 2304 + (t.val % 9 * 256 + (y 2).val), by omega⟩ :=
    Fin.ext (by show t.val * 256 + (y 2).val = t.val / 9 * 2304 + (t.val % 9 * 256 + (y 2).val); omega)
  refine (Finset.sum_congr rfl fun r _ => congrArg₂ (fun x y : EReal => x * y) (blk0_at m c t _ r) (blk1_at m c t r _)).trans ?_
  rw [hcol]
  exact sum_tok _ fun r => argH m c (ix2 r ⟨(y 1).val, hy1⟩) * argD m c (ix2 r ⟨t.val / 9 * 2304 + (t.val % 9 * 256 + (y 2).val), by omega⟩)

/-- The reference's gradient of the whole weight. -/
def whole (H : FVec Ideal S2048x1024 .f32) (D : FVec Ideal S2048x9216 .f32) : FVec Ideal Reference3Ideal.S1024x9216 .f32 :=
  transpose Reference3Ideal.S1024x9216 [1, 0] (Host.dotGeneral Reference3Ideal.dot_S2048x9216_S2048x1024_S9216x1024_0_0_1_1_n_n none D H) Reference3Ideal.Facts₀.transposes_S9216x1024_S1024x9216_1_0

theorem whole_at (H : FVec Ideal S2048x1024 .f32) (D : FVec Ideal S2048x9216 .f32) (k : Fin 1024) (n : Fin 9216) :
    whole H D (ix2 k n) = ∑ r : Fin 2048, H (ix2 r k) * D (ix2 r n) := by
  refine Eq.trans ?_ (Finset.sum_congr rfl fun r _ => mul_comm (D (ix2 r n)) (H (ix2 r k)))
  pointwise [whole]

/-- Its shards. -/
def shard0 (W : FVec Ideal Reference3Ideal.S1024x9216 .f32) : FVec Ideal Reference3Ideal.S1x1024x2304 .f32 :=
  broadcastInDim Reference3Ideal.S1x1024x2304 ![1, 2] Reference3Ideal.Facts₀.bcast_S1024x2304_S1x1024x2304_1_2 (extractStridedSlice Reference3Ideal.S1024x2304 ![0, 0] W Reference3Ideal.Facts₀.slices_S1024x9216_S1024x2304_0_0)
def shard1 (W : FVec Ideal Reference3Ideal.S1024x9216 .f32) : FVec Ideal Reference3Ideal.S1x1024x2304 .f32 :=
  broadcastInDim Reference3Ideal.S1x1024x2304 ![1, 2] Reference3Ideal.Facts₀.bcast_S1024x2304_S1x1024x2304_1_2 (extractStridedSlice Reference3Ideal.S1024x2304 ![0, 2304] W Reference3Ideal.Facts₀.slices_S1024x9216_S1024x2304_0_2304)
def shard2 (W : FVec Ideal Reference3Ideal.S1024x9216 .f32) : FVec Ideal Reference3Ideal.S1x1024x2304 .f32 :=
  broadcastInDim Reference3Ideal.S1x1024x2304 ![1, 2] Reference3Ideal.Facts₀.bcast_S1024x2304_S1x1024x2304_1_2 (extractStridedSlice Reference3Ideal.S1024x2304 ![0, 4608] W Reference3Ideal.Facts₀.slices_S1024x9216_S1024x2304_0_4608)
def shard3 (W : FVec Ideal Reference3Ideal.S1024x9216 .f32) : FVec Ideal Reference3Ideal.S1x1024x2304 .f32 :=
  broadcastInDim Reference3Ideal.S1x1024x2304 ![1, 2] Reference3Ideal.Facts₀.bcast_S1024x2304_S1x1024x2304_1_2 (extractStridedSlice Reference3Ideal.S1024x2304 ![0, 6912] W Reference3Ideal.Facts₀.slices_S1024x9216_S1024x2304_0_6912)

theorem shard0_at (W : FVec Ideal Reference3Ideal.S1024x9216 .f32) (z : Fin 1) (k : Fin 1024) (b : Fin 2304) :
    shard0 W (ix3 z k b) = W (ix2 k ⟨(0 : Fin 4).val * 2304 + b.val, by show 0 * 2304 + b.val < 9216; omega⟩) := by
  pointwise [shard0]
theorem shard1_at (W : FVec Ideal Reference3Ideal.S1024x9216 .f32) (z : Fin 1) (k : Fin 1024) (b : Fin 2304) :
    shard1 W (ix3 z k b) = W (ix2 k ⟨(1 : Fin 4).val * 2304 + b.val, by show 1 * 2304 + b.val < 9216; omega⟩) := by
  pointwise [shard1]
theorem shard2_at (W : FVec Ideal Reference3Ideal.S1024x9216 .f32) (z : Fin 1) (k : Fin 1024) (b : Fin 2304) :
    shard2 W (ix3 z k b) = W (ix2 k ⟨(2 : Fin 4).val * 2304 + b.val, by show 2 * 2304 + b.val < 9216; omega⟩) := by
  pointwise [shard2]
theorem shard3_at (W : FVec Ideal Reference3Ideal.S1024x9216 .f32) (z : Fin 1) (k : Fin 1024) (b : Fin 2304) :
    shard3 W (ix3 z k b) = W (ix2 k ⟨(3 : Fin 4).val * 2304 + b.val, by show 3 * 2304 + b.val < 9216; omega⟩) := by
  pointwise [shard3]

/-- The four shards one after the other. -/
def four (x0 x1 x2 x3 : FVec Ideal Reference3Ideal.S1x1024x2304 .f32) : FVec Ideal Reference3Ideal.S4x1024x2304 .f32 :=
  concatenate Reference3Ideal.S4x1024x2304 0 [⟨Reference3Ideal.S1x1024x2304, (x0 : (⟨Reference3Ideal.S1x1024x2304, .f32⟩ : BufTy).Contents (Elt Ideal))⟩, ⟨Reference3Ideal.S1x1024x2304, (x1 : (⟨Reference3Ideal.S1x1024x2304, .f32⟩ : BufTy).Contents (Elt Ideal))⟩, ⟨Reference3Ideal.S1x1024x2304, (x2 : (⟨Reference3Ideal.S1x1024x2304, .f32⟩ : BufTy).Contents (Elt Ideal))⟩, ⟨Reference3Ideal.S1x1024x2304, (x3 : (⟨Reference3Ideal.S1x1024x2304, .f32⟩ : BufTy).Contents (Elt Ideal))⟩] Reference3Ideal.Facts₀.concatenates_S1x1024x2304_S1x1024x2304_S1x1024x2304_S1x1024x2304_S4x1024x2304_d0

theorem four_at (x0 x1 x2 x3 : FVec Ideal Reference3Ideal.S1x1024x2304 .f32) (s : Fin 4) (k : Fin 1024) (b : Fin 2304) : four x0 x1 x2 x3 (ix3 s k b)
    = if s = 0 then x0 (ix3 0 k b) else if s = 1 then x1 (ix3 0 k b) else if s = 2 then x2 (ix3 0 k b) else x3 (ix3 0 k b) := by
  pointwise [four]
  obtain rfl | rfl | rfl | rfl : s = 0 ∨ s = 1 ∨ s = 2 ∨ s = 3 := by omega
  · rfl
  · rfl
  · rfl
  · rfl

/-- What the reference computes is the same gradient. -/
theorem reference_eq (H : FVec Ideal S2048x1024 .f32) (D : FVec Ideal S2048x9216 .f32) :
    (truncf .bf16 (four (shard0 (whole H D)) (shard1 (whole H D)) (shard2 (whole H D)) (shard3 (whole H D))) Reference3Ideal.Facts₀.bitsLt_bf16_f32 : FVec Ideal S4x1024x2304 .bf16)
      = grad H D := by
  funext j
  have h0 : (j 0).val < 4 := (j 0).isLt
  have h1 : (j 1).val < 1024 := (j 1).isLt
  have h2 : (j 2).val < 2304 := (j 2).isLt
  rw [ix3_of j (a := ⟨(j 0).val, h0⟩) (b := ⟨(j 1).val, h1⟩) (c := ⟨(j 2).val, h2⟩) rfl rfl rfl]
  generalize (⟨(j 0).val, h0⟩ : Fin 4) = s
  generalize (⟨(j 1).val, h1⟩ : Fin 1024) = k
  generalize (⟨(j 2).val, h2⟩ : Fin 2304) = b
  refine (four_at _ _ _ _ s k b).trans ?_
  rw [shard0_at, shard1_at, shard2_at, shard3_at, whole_at, whole_at, whole_at, whole_at]
  obtain rfl | rfl | rfl | rfl : s = 0 ∨ s = 1 ∨ s = 2 ∨ s = 3 := by omega
  · rfl
  · rfl
  · rfl
  · rfl

/-- Kernel and reference, from equal arguments, both end with the gradient. -/
theorem equal : Cert.algebraic_Kernel3Ideal_Reference3Ideal := by
  intro m g m' g' _ hagree
  refine ⟨fun c => grad (argH m c) (argD m c), (θ_run defs _ _).mono (fun _ h c => ⟨(h c).1.trans (array2 m c), (h c).2⟩) (Value.run_blocks m g),
    (θ_run Cert.Reference3Ideal.defs _ _).mono (fun _ h c => ⟨(h c).1.trans ?_, (h c).2⟩) (Cert.Reference3Ideal.Value.run m' g')⟩
  rw [(hagree c).1, (hagree c).2]
  exact reference_eq _ _

end Cert.Kernel3Ideal.Val

end
-- ==== Proof.Products.QkvDh.lean ====
/- The gradient of what the projection is applied to: per group three tiles of the group's columns, added up in a scratch. -/
module

public import proofs.«01_k».proof.Defs
public import proofs.«01_k».proof.Proof.Gen.Kernel4Ideal.Value
public import proofs.«01_k».proof.Proof.Gen.Reference4Ideal.Run
public import proofs.«01_k».proof.Proof.Products.Groups
public import Idealize.ShloMosaic.Lib.Pipeline.ValueKit.Basic
public import Idealize.ShloMosaic.Lib.Pipeline.ValueKit.Acc

@[expose] public section

set_option maxRecDepth 65536

noncomputable section

namespace Cert.Kernel4Ideal.Val

open Idealize.ShloMosaic.Pipeline.Window (rect_emb_val)
open Cert.Kernel4Ideal Cert.Kernel4Ideal.Gen Cert.Products Idealize.ShloMosaic Idealize.ShloMosaic.TcCoe Idealize.SL.Sem
open Idealize.ShloMosaic.Pipeline (Dat)
open Cert.KernelIdeal.Fn (rows1024_0 rows1024_1 rows1024_2 rows1024_0_at rows1024_1_at rows1024_2_at three1024 three1024_at)
open Cert.Math (tok)

/-- The gradient of the activations, group by group: entry (g, r, k) sums, over the columns n of the group, the incoming
    gradient of the token that is r-th in group g's order times row k of the weight. -/
def back (W : FVec Ideal S1024x9216 .f32) (D : FVec Ideal S2048x9216 .f32) : FVec Ideal S3x2048x1024 .f32 :=
  fun j => ∑ n : Fin 3072, D (ix2 (tok (j 0) (j 1)) ⟨(j 0).val * 3072 + n.val, by
    have h0 : (j 0).val < 3 := (j 0).isLt
    omega⟩) * W (ix2 (j 2) ⟨(j 0).val * 3072 + n.val, by
    have h0 : (j 0).val < 3 := (j 0).isLt
    omega⟩)

/-- The four products of a grid point, added up. -/
theorem pay4_at (x0 x2 x4 x6 : Vec Ideal S1x1x2048x256 .bf16) (x1 x3 x5 x7 : Vec Ideal S1x1024x256 .bf16) (r : Fin 2048) (k : Fin 1024) :
    k0_pay4 x0 x1 x2 x3 x4 x5 x6 x7 (ix2 r k)
      = (∑ b : Fin 256, x0 (ix4 0 0 r b) * x1 (ix3 0 k b)) + (∑ b : Fin 256, x2 (ix4 0 0 r b) * x3 (ix3 0 k b))
        + (∑ b : Fin 256, x4 (ix4 0 0 r b) * x5 (ix3 0 k b)) + ∑ b : Fin 256, x6 (ix4 0 0 r b) * x7 (ix3 0 k b) := by
  pointwise [k0_pay4]

theorem pay1_at (x : FVec Ideal S2048x1024 .f32) (r : Fin 2048) (k : Fin 1024) : k0_pay1 x (ix2 r k) = x (ix2 r k) := by
  pointwise [k0_pay1]
theorem pay2_at (x y : FVec Ideal S2048x1024 .f32) (r : Fin 2048) (k : Fin 1024) : k0_pay2 x y (ix2 r k) = y (ix2 r k) + x (ix2 r k) := by
  pointwise [k0_pay2]
theorem pay3_at (x : FVec Ideal S2048x1024 .f32) (z : Fin 1) (r : Fin 2048) (k : Fin 1024) : k0_pay3 x (ix3 z r k) = x (ix2 r k) := by
  pointwise [k0_pay3]

variable (m : (ℓ : Loc nD τ sig) → Buf (Elt Ideal) ℓ) (c : Dev nD)

abbrev argW : FVec Ideal S1024x9216 .f32 := m ((c.tc : Thread nD τ).loc main_arg0)
abbrev argD : FVec Ideal S2048x9216 .f32 := m ((c.tc : Thread nD τ).loc main_arg1)

theorem lt_points (t : Fin cfg0.N) : t.val < 9 := t.isLt

/-- What a grid point adds. -/
def part (t : Fin cfg0.N) : FVec Ideal S2048x1024 .f32 :=
  k0_pay4 (iblk m c 0 t) (iblk m c 1 t) (iblk m c 2 t) (iblk m c 3 t) (iblk m c 4 t) (iblk m c 5 t) (iblk m c 6 t) (iblk m c 7 t)

/-! What the scratch holds, and what the last point of a group stores. -/

theorem first (t : Fin cfg0.N) (h : t.val % 3 = 0) : (outsAt0 m c t.val t.isLt).2 = k0_pay1 (part m c t) := by
  rw [outsAt0_A m c t h (by omega) (by omega)]
  frame_out
  rfl

theorem middle (t : Fin cfg0.N) (h : t.val % 3 = 1) :
    (outsAt0 m c t.val t.isLt).2 = k0_pay2 (part m c t) (outsAt0 m c (t.val - 1) (Nat.lt_of_le_of_lt (Nat.sub_le _ _) t.isLt)).2 := by
  rw [outsAt0_B m c t (by omega) (by omega) (by omega)]
  frame_out
  exact congrArg (k0_pay2 (part m c t)) (Memref.IsWhole.read_unread (Memref.isWhole_whole _) _)

theorem last (t : Fin cfg0.N) (h : t.val % 3 = 2) :
    (outsAt0 m c t.val t.isLt).1 = k0_pay3 (k0_pay2 (part m c t) (outsAt0 m c (t.val - 1) (Nat.lt_of_le_of_lt (Nat.sub_le _ _) t.isLt)).2) := by
  rw [outsAt0_C m c t (by omega) (by omega) h]
  frame_out
  exact congrArg (fun x => k0_pay3 (k0_pay2 (part m c t) x)) (Memref.IsWhole.read_unread (Memref.isWhole_whole _) _)

/-- The host's parts of the incoming gradient. -/
theorem V_parts : V m c main_v18 = Cert.ReferenceIdeal.Fn.cut (parted (argD m c)) := by
  unfold V hostOps0
  after_results <;> rfl

/-- The host's shards of the weight. -/
theorem V_shards : V m c main_v21 = truncf .bf16 (transpose S4x1024x2304 [1, 0, 2] (shapeCast S1024x4x2304 (argW m c) shapeCasts_S1024x9216_S1024x4x2304) transposes_S1024x4x2304_S4x1024x2304_1_0_2) bitsLt_bf16_f32 := by
  unfold V hostOps0
  after_results <;> rfl

theorem shards_at (W : FVec Ideal S1024x9216 .f32) (s : Fin 4) (k : Fin 1024) (b : Fin 2304) :
    (truncf .bf16 (transpose S4x1024x2304 [1, 0, 2] (shapeCast S1024x4x2304 W shapeCasts_S1024x9216_S1024x4x2304) transposes_S1024x4x2304_S4x1024x2304_1_0_2) bitsLt_bf16_f32 : FVec Ideal S4x1024x2304 .bf16) (ix3 s k b)
      = W (ix2 k ⟨s.val * 2304 + b.val, by omega⟩) := by
  pointwise

/-! The block each window is at: grid point t is part t % 3 of group t / 3; its i-th tile of the columns is tile 4 * t + i of
all, which is tile i of the part and tile (4 * t + i) % 9 of shard (4 * t + i) / 9. -/

theorem index0 : ∀ t : Fin grid0.N, win0_0.index t = ![t.val / 3, t.val % 3, 0, 0] := by decide +kernel
theorem index1 : ∀ t : Fin grid0.N, win0_1.index t = ![(4 * t.val + 0) / 9, 0, (4 * t.val + 0) % 9] := by decide +kernel
theorem index2 : ∀ t : Fin grid0.N, win0_2.index t = ![t.val / 3, t.val % 3, 0, 1] := by decide +kernel
theorem index3 : ∀ t : Fin grid0.N, win0_3.index t = ![(4 * t.val + 1) / 9, 0, (4 * t.val + 1) % 9] := by decide +kernel
theorem index4 : ∀ t : Fin grid0.N, win0_4.index t = ![t.val / 3, t.val % 3, 0, 2] := by decide +kernel
theorem index5 : ∀ t : Fin grid0.N, win0_5.index t = ![(4 * t.val + 2) / 9, 0, (4 * t.val + 2) % 9] := by decide +kernel
theorem index6 : ∀ t : Fin grid0.N, win0_6.index t = ![t.val / 3, t.val % 3, 0, 3] := by decide +kernel
theorem index7 : ∀ t : Fin grid0.N, win0_7.index t = ![(4 * t.val + 3) / 9, 0, (4 * t.val + 3) % 9] := by decide +kernel
theorem index8 : ∀ t : Fin grid0.N, win0_8.index t = ![t.val / 3, 0, 0] := by decide +kernel

/-- Element b of tile i of a point's part of the incoming gradient, whatever the index is called. -/
theorem part_elem (i : Fin 4) (t : Fin cfg0.N) (r : Fin 2048) (b : Fin 256) (e : S3x3x2048x1024.Idx) (h0 : (e 0).val = t.val / 3)
    (h1 : (e 1).val = t.val % 3) (h2 : (e 2).val = r.val) (h3 : (e 3).val = i.val * 256 + b.val) :
    V m c main_v18 e = argD m c (ix2 (tok ⟨t.val / 3, by have := lt_points t; omega⟩ r) ⟨t.val * 1024 + (i.val * 256 + b.val), by have := lt_points t; omega⟩) := by
  have ht := lt_points t
  refine (congrArg (V m c main_v18) (ix4_of e (a := (⟨t.val / 3, by omega⟩ : Fin 3)) (b := (⟨t.val % 3, by omega⟩ : Fin 3)) (c := r) (d := (⟨i.val * 256 + b.val, by omega⟩ : Fin 1024)) h0 h1 h2 h3)).trans ?_
  rw [V_parts]
  refine (Cert.ReferenceIdeal.Fn.cut_at _ _ _ _ _).trans ((parted_at (argD m c) _ r _).trans (congrArg (argD m c) (ix2_of _ rfl ?_)))
  show t.val / 3 * 3072 + (t.val % 3 * 1024 + (i.val * 256 + b.val)) = t.val * 1024 + (i.val * 256 + b.val)
  omega

/-- Element b of a point's tile i of the weight, whatever the index is called. -/
theorem weight_elem (i : Fin 4) (t : Fin cfg0.N) (k : Fin 1024) (b : Fin 256) (e : S4x1024x2304.Idx) (h0 : (e 0).val = (4 * t.val + i.val) / 9)
    (h1 : (e 1).val = k.val) (h2 : (e 2).val = (4 * t.val + i.val) % 9 * 256 + b.val) :
    V m c main_v21 e = argW m c (ix2 k ⟨t.val * 1024 + (i.val * 256 + b.val), by have := lt_points t; omega⟩) := by
  have ht := lt_points t
  refine (congrArg (V m c main_v21) (ix3_of e (a := (⟨(4 * t.val + i.val) / 9, by omega⟩ : Fin 4)) (b := k) (c := (⟨(4 * t.val + i.val) % 9 * 256 + b.val, by omega⟩ : Fin 2304)) h0 h1 h2)).trans ?_
  rw [V_shards]
  refine (shards_at (argW m c) _ k _).trans (congrArg (argW m c) (ix2_of _ rfl ?_))
  show (4 * t.val + i.val) / 9 * 2304 + ((4 * t.val + i.val) % 9 * 256 + b.val) = t.val * 1024 + (i.val * 256 + b.val)
  omega

theorem blk0_at (t : Fin cfg0.N) (r : Fin 2048) (b : Fin 256) :
    iblk m c 0 t (ix4 0 0 r b) = argD m c (ix2 (tok ⟨t.val / 3, by have := lt_points t; omega⟩ r) ⟨t.val * 1024 + (0 * 256 + b.val), by have := lt_points t; omega⟩) := by
  refine (read_slice_whole main_v18 (win0_0.rect t) (V m c main_v18) _).trans (part_elem m c 0 t r b _
    (at_block (index0 t) 0 (rect_emb_val win0_0 t _ 0 rfl) ?_)
    (at_block (index0 t) 1 (rect_emb_val win0_0 t _ 1 rfl) ?_)
    (at_block (index0 t) 2 (rect_emb_val win0_0 t _ 2 rfl) ?_)
    (at_block (index0 t) 3 (rect_emb_val win0_0 t _ 3 rfl) ?_))
  · show t.val / 3 * 1 + 0 = t.val / 3; omega
  · show t.val % 3 * 1 + 0 = t.val % 3; omega
  · show 0 * 2048 + r.val = r.val; omega
  · rfl

theorem blk1_at (t : Fin cfg0.N) (k : Fin 1024) (b : Fin 256) :
    iblk m c 1 t (ix3 0 k b) = argW m c (ix2 k ⟨t.val * 1024 + (0 * 256 + b.val), by have := lt_points t; omega⟩) := by
  refine (read_slice_whole main_v21 (win0_1.rect t) (V m c main_v21) _).trans (weight_elem m c 0 t k b _
    (at_block (index1 t) 0 (rect_emb_val win0_1 t _ 0 rfl) ?_)
    (at_block (index1 t) 1 (rect_emb_val win0_1 t _ 1 rfl) ?_)
    (at_block (index1 t) 2 (rect_emb_val win0_1 t _ 2 rfl) ?_))
  · show (4 * t.val + 0) / 9 * 1 + 0 = (4 * t.val + 0) / 9; omega
  · show 0 * 1024 + k.val = k.val; omega
  · rfl

theorem blk2_at (t : Fin cfg0.N) (r : Fin 2048) (b : Fin 256) :
    iblk m c 2 t (ix4 0 0 r b) = argD m c (ix2 (tok ⟨t.val / 3, by have := lt_points t; omega⟩ r) ⟨t.val * 1024 + (1 * 256 + b.val), by have := lt_points t; omega⟩) := by
  refine (read_slice_whole main_v18 (win0_2.rect t) (V m c main_v18) _).trans (part_elem m c 1 t r b _
    (at_block (index2 t) 0 (rect_emb_val win0_2 t _ 0 rfl) ?_)
    (at_block (index2 t) 1 (rect_emb_val win0_2 t _ 1 rfl) ?_)
    (at_block (index2 t) 2 (rect_emb_val win0_2 t _ 2 rfl) ?_)
    (at_block (index2 t) 3 (rect_emb_val win0_2 t _ 3 rfl) ?_))
  · show t.val / 3 * 1 + 0 = t.val / 3; omega
  · show t.val % 3 * 1 + 0 = t.val % 3; omega
  · show 0 * 2048 + r.val = r.val; omega
  · rfl

theorem blk3_at (t : Fin cfg0.N) (k : Fin 1024) (b : Fin 256) :
    iblk m c 3 t (ix3 0 k b) = argW m c (ix2 k ⟨t.val * 1024 + (1 * 256 + b.val), by have := lt_points t; omega⟩) := by
  refine (read_slice_whole main_v21 (win0_3.rect t) (V m c main_v21) _).trans (weight_elem m c 1 t k b _
    (at_block (index3 t) 0 (rect_emb_val win0_3 t _ 0 rfl) ?_)
    (at_block (index3 t) 1 (rect_emb_val win0_3 t _ 1 rfl) ?_)
    (at_block (index3 t) 2 (rect_emb_val win0_3 t _ 2 rfl) ?_))
  · show (4 * t.val + 1) / 9 * 1 + 0 = (4 * t.val + 1) / 9; omega
  · show 0 * 1024 + k.val = k.val; omega
  · rfl

theorem blk4_at (t : Fin cfg0.N) (r : Fin 2048) (b : Fin 256) :
    iblk m c 4 t (ix4 0 0 r b) = argD m c (ix2 (tok ⟨t.val / 3, by have := lt_points t; omega⟩ r) ⟨t.val * 1024 + (2 * 256 + b.val), by have := lt_points t; omega⟩) := by
  refine (read_slice_whole main_v18 (win0_4.rect t) (V m c main_v18) _).trans (part_elem m c 2 t r b _
    (at_block (index4 t) 0 (rect_emb_val win0_4 t _ 0 rfl) ?_)
    (at_block (index4 t) 1 (rect_emb_val win0_4 t _ 1 rfl) ?_)
    (at_block (index4 t) 2 (rect_emb_val win0_4 t _ 2 rfl) ?_)
    (at_block (index4 t) 3 (rect_emb_val win0_4 t _ 3 rfl) ?_))
  · show t.val / 3 * 1 + 0 = t.val / 3; omega
  · show t.val % 3 * 1 + 0 = t.val % 3; omega
  · show 0 * 2048 + r.val = r.val; omega
  · rfl

theorem blk5_at (t : Fin cfg0.N) (k : Fin 1024) (b : Fin 256) :
    iblk m c 5 t (ix3 0 k b) = argW m c (ix2 k ⟨t.val * 1024 + (2 * 256 + b.val), by have := lt_points t; omega⟩) := by
  refine (read_slice_whole main_v21 (win0_5.rect t) (V m c main_v21) _).trans (weight_elem m c 2 t k b _
    (at_block (index5 t) 0 (rect_emb_val win0_5 t _ 0 rfl) ?_)
    (at_block (index5 t) 1 (rect_emb_val win0_5 t _ 1 rfl) ?_)
    (at_block (index5 t) 2 (rect_emb_val win0_5 t _ 2 rfl) ?_))
  · show (4 * t.val + 2) / 9 * 1 + 0 = (4 * t.val + 2) / 9; omega
  · show 0 * 1024 + k.val = k.val; omega
  · rfl

theorem blk6_at (t : Fin cfg0.N) (r : Fin 2048) (b : Fin 256) :
    iblk m c 6 t (ix4 0 0 r b) = argD m c (ix2 (tok ⟨t.val / 3, by have := lt_points t; omega⟩ r) ⟨t.val * 1024 + (3 * 256 + b.val), by have := lt_points t; omega⟩) := by
  refine (read_slice_whole main_v18 (win0_6.rect t) (V m c main_v18) _).trans (part_elem m c 3 t r b _
    (at_block (index6 t) 0 (rect_emb_val win0_6 t _ 0 rfl) ?_)
    (at_block (index6 t) 1 (rect_emb_val win0_6 t _ 1 rfl) ?_)
    (at_block (index6 t) 2 (rect_emb_val win0_6 t _ 2 rfl) ?_)
    (at_block (index6 t) 3 (rect_emb_val win0_6 t _ 3 rfl) ?_))
  · show t.val / 3 * 1 + 0 = t.val / 3; omega
  · show t.val % 3 * 1 + 0 = t.val % 3; omega
  · show 0 * 2048 + r.val = r.val; omega
  · rfl

theorem blk7_at (t : Fin cfg0.N) (k : Fin 1024) (b : Fin 256) :
    iblk m c 7 t (ix3 0 k b) = argW m c (ix2 k ⟨t.val * 1024 + (3 * 256 + b.val), by have := lt_points t; omega⟩) := by
  refine (read_slice_whole main_v21 (win0_7.rect t) (V m c main_v21) _).trans (weight_elem m c 3 t k b _
    (at_block (index7 t) 0 (rect_emb_val win0_7 t _ 0 rfl) ?_)
    (at_block (index7 t) 1 (rect_emb_val win0_7 t _ 1 rfl) ?_)
    (at_block (index7 t) 2 (rect_emb_val win0_7 t _ 2 rfl) ?_))
  · show (4 * t.val + 3) / 9 * 1 + 0 = (4 * t.val + 3) / 9; omega
  · show 0 * 1024 + k.val = k.val; omega
  · rfl

/-- The summand of column n of all. -/
abbrev term (g : Fin 3) (r : Fin 2048) (k : Fin 1024) (n : Fin 9216) : EReal := argD m c (ix2 (tok g r) n) * argW m c (ix2 k n)

/-- What a grid point adds: the columns of its part. -/
theorem part_at (t : Fin cfg0.N) (r : Fin 2048) (k : Fin 1024) :
    part m c t (ix2 r k) = ∑ l : Fin 1024, term m c ⟨t.val / 3, by have := lt_points t; omega⟩ r k ⟨t.val * 1024 + l.val, by have := lt_points t; omega⟩ := by
  have ht := lt_points t
  refine (pay4_at _ _ _ _ _ _ _ _ r k).trans ?_
  rw [← Fin.sum_mul_add_fin 4 256 (fun l : Fin 1024 => term m c ⟨t.val / 3, by omega⟩ r k ⟨t.val * 1024 + l.val, by omega⟩), Fin.sum_univ_four]
  refine congrArg₂ (fun x y : EReal => x + y) (congrArg₂ (fun x y : EReal => x + y) (congrArg₂ (fun x y : EReal => x + y) ?_ ?_) ?_) ?_
  · exact Finset.sum_congr rfl fun b _ => congrArg₂ (fun x y : EReal => x * y) (blk0_at m c t r b) (blk1_at m c t k b)
  · exact Finset.sum_congr rfl fun b _ => congrArg₂ (fun x y : EReal => x * y) (blk2_at m c t r b) (blk3_at m c t k b)
  · exact Finset.sum_congr rfl fun b _ => congrArg₂ (fun x y : EReal => x * y) (blk4_at m c t r b) (blk5_at m c t k b)
  · exact Finset.sum_congr rfl fun b _ => congrArg₂ (fun x y : EReal => x * y) (blk6_at m c t r b) (blk7_at m c t k b)

/-- What the last point of a group stores: the columns of the group. -/
theorem stored_at (t : Fin cfg0.N) (h : t.val % 3 = 2) (z : Fin 1) (r : Fin 2048) (k : Fin 1024) :
    (outsAt0 m c t.val t.isLt).1 (ix3 z r k)
      = back (argW m c) (argD m c) (ix3 (⟨t.val / 3, by have := lt_points t; omega⟩ : Fin 3) r k) := by
  have ht := lt_points t
  have e1 := middle m c ⟨t.val - 1, by omega⟩ (by show (t.val - 1) % 3 = 1; omega)
  have e0 := first m c ⟨t.val - 1 - 1, by omega⟩ (by show (t.val - 1 - 1) % 3 = 0; omega)
  rw [last m c t h, pay3_at, pay2_at, e1, pay2_at, e0, pay1_at, part_at, part_at, part_at]
  show _ = ∑ n : Fin 3072, term m c ⟨t.val / 3, by omega⟩ r k ⟨t.val / 3 * 3072 + n.val, by omega⟩
  rw [← Fin.sum_mul_add_fin 3 1024 (fun n : Fin 3072 => term m c ⟨t.val / 3, by omega⟩ r k ⟨t.val / 3 * 3072 + n.val, by omega⟩), Fin.sum_univ_three]
  have g0 : (t.val - 1 - 1) / 3 = t.val / 3 := by omega
  have g1 : (t.val - 1) / 3 = t.val / 3 := by omega
  refine congrArg₂ (fun x y : EReal => x + y) (congrArg₂ (fun x y : EReal => x + y) ?_ ?_) ?_
  · refine Finset.sum_congr rfl fun l _ => ?_
    have hn : (t.val - 1 - 1) * 1024 + l.val = t.val / 3 * 3072 + (0 * 1024 + l.val) := by omega
    exact congrArg₂ (fun g n => term m c g r k n) (Fin.ext g0) (Fin.ext hn)
  · refine Finset.sum_congr rfl fun l _ => ?_
    have hn : (t.val - 1) * 1024 + l.val = t.val / 3 * 3072 + (1 * 1024 + l.val) := by omega
    exact congrArg₂ (fun g n => term m c g r k n) (Fin.ext g1) (Fin.ext hn)
  · refine Finset.sum_congr rfl fun l _ => ?_
    have hn : t.val * 1024 + l.val = t.val / 3 * 3072 + (2 * 1024 + l.val) := by omega
    exact congrArg (fun n => term m c _ r k n) (Fin.ext hn)

theorem mem_blk8 (t : Fin cfg0.N) (i : S3x2048x1024.Idx) :
    i ∈ ((cfg0.win 8).blk t).view.set ↔ ∀ a : Fin 3, win0_8.index t a * S1x2048x1024.size a ≤ (i a).val ∧ (i a).val < win0_8.index t a * S1x2048x1024.size a + S1x2048x1024.size a := by
  show i ∈ ((View.whole main_v22).slice (win0_8.rect t)).set ↔ _
  rw [View.set_slice_whole, Rect.mem_set_unit]
  exact Iff.rfl

/-- Every element of the output lies in some storing point's block. -/
theorem covered8 (i : S3x2048x1024.Idx) : ∃ t : Fin cfg0.N, (cfg0.win 8).flush t = true ∧ i ∈ ((cfg0.win 8).blk t).view.set := by
  have h0 : (i 0).val < 3 := (i 0).isLt
  have h1 : (i 1).val < 2048 := (i 1).isLt
  have h2 : (i 2).val < 1024 := (i 2).isLt
  have ht : (i 0).val * 3 + 2 < 9 := by omega
  refine ⟨⟨(i 0).val * 3 + 2, ht⟩, (flush0_8 _).mpr (by show ((i 0).val * 3 + 2) % 3 = 2; omega), ?_⟩
  rw [mem_blk8, index8]
  intro a
  match a with
  | ⟨0, _⟩ => show ((i 0).val * 3 + 2) / 3 * 1 ≤ (i 0).val ∧ (i 0).val < ((i 0).val * 3 + 2) / 3 * 1 + 1; omega
  | ⟨1, _⟩ => show 0 * 2048 ≤ (i 1).val ∧ (i 1).val < 0 * 2048 + 2048; omega
  | ⟨2, _⟩ => show 0 * 1024 ≤ (i 2).val ∧ (i 2).val < 0 * 1024 + 1024; omega

/-- The output array ends holding the gradient. -/
theorem array8 : (dats m 0 c).arrAt 8 cfg0.N = back (argW m c) (argD m c) := by
  refine Dat.arrAt_eq_of_cover (dats m 0 c) 8 (back (argW m c) (argD m c)) (fun t hf => ?_) covered8
  rw [Value.flushed8]
  have ht := lt_points t
  have i0 : win0_8.index t 0 = t.val / 3 := congrFun (index8 t) 0
  have i1 : win0_8.index t 1 = 0 := congrFun (index8 t) 1
  have i2 : win0_8.index t 2 = 0 := congrFun (index8 t) 2
  funext y
  have hy0 : (y 0).val < 1 := (y 0).isLt
  have hy1 : (y 1).val < 2048 := (y 1).isLt
  have hy2 : (y 2).val < 1024 := (y 2).isLt
  have hl : (cfg0.win 8).xinj (grid0.coords t) y = ix3 (0 : Fin 1) (⟨(y 1).val, hy1⟩ : Fin 2048) (⟨(y 2).val, hy2⟩ : Fin 1024) :=
    ix3_of _ (by show (y 0).val = 0; omega) rfl rfl
  have hr : ((cfg0.win 8).blk t).view.emb y = ix3 (⟨t.val / 3, by omega⟩ : Fin 3) (⟨(y 1).val, hy1⟩ : Fin 2048) (⟨(y 2).val, hy2⟩ : Fin 1024) := by
    refine ix3_of _ ?_ ?_ ?_
    · show win0_8.index t 0 * 1 + 1 * (y 0).val = t.val / 3; omega
    · show win0_8.index t 1 * 2048 + 1 * (y 1).val = (y 1).val; omega
    · show win0_8.index t 2 * 1024 + 1 * (y 2).val = (y 2).val; omega
  show (outsAt0 m c t.val t.isLt).1 ((cfg0.win 8).xinj (grid0.coords t) y) = back (argW m c) (argD m c) (((cfg0.win 8).blk t).view.emb y)
  rw [hl, hr]
  exact stored_at m c t ((flush0_8 t).mp hf) _ _ _

/-- The reference's gradient of group 0, in the sequence's order. -/
def group0 (W : FVec Ideal S1024x9216 .f32) (D : FVec Ideal S2048x9216 .f32) : FVec Ideal S2048x1024 .f32 :=
  Host.dotGeneral (F := Ideal) Reference4Ideal.dot_S2048x3072_S1024x3072_S2048x1024_1_1_0_0_n_n none (extractStridedSlice Reference4Ideal.S2048x3072 ![0, 0] D Reference4Ideal.Facts₀.slices_S2048x9216_S2048x3072_0_0) (extractStridedSlice Reference4Ideal.S1024x3072 ![0, 0] W Reference4Ideal.Facts₀.slices_S1024x9216_S1024x3072_0_0)

theorem group0_at (W : FVec Ideal S1024x9216 .f32) (D : FVec Ideal S2048x9216 .f32) (r : Fin 2048) (k : Fin 1024) :
    group0 W D (ix2 r k) = ∑ n : Fin 3072, D (ix2 r ⟨(0 : Fin 3).val * 3072 + n.val, by show 0 * 3072 + n.val < 9216; omega⟩) * W (ix2 k ⟨(0 : Fin 3).val * 3072 + n.val, by show 0 * 3072 + n.val < 9216; omega⟩) := by
  pointwise [group0]

/-- The reference's gradient of group 1, in the sequence's order. -/
def group1 (W : FVec Ideal S1024x9216 .f32) (D : FVec Ideal S2048x9216 .f32) : FVec Ideal S2048x1024 .f32 :=
  Host.dotGeneral (F := Ideal) Reference4Ideal.dot_S2048x3072_S1024x3072_S2048x1024_1_1_0_0_n_n none (extractStridedSlice Reference4Ideal.S2048x3072 ![0, 3072] D Reference4Ideal.Facts₀.slices_S2048x9216_S2048x3072_0_3072) (extractStridedSlice Reference4Ideal.S1024x3072 ![0, 3072] W Reference4Ideal.Facts₀.slices_S1024x9216_S1024x3072_0_3072)

theorem group1_at (W : FVec Ideal S1024x9216 .f32) (D : FVec Ideal S2048x9216 .f32) (r : Fin 2048) (k : Fin 1024) :
    group1 W D (ix2 r k) = ∑ n : Fin 3072, D (ix2 r ⟨(1 : Fin 3).val * 3072 + n.val, by show 1 * 3072 + n.val < 9216; omega⟩) * W (ix2 k ⟨(1 : Fin 3).val * 3072 + n.val, by show 1 * 3072 + n.val < 9216; omega⟩) := by
  pointwise [group1]

/-- The reference's gradient of group 2, in the sequence's order. -/
def group2 (W : FVec Ideal S1024x9216 .f32) (D : FVec Ideal S2048x9216 .f32) : FVec Ideal S2048x1024 .f32 :=
  Host.dotGeneral (F := Ideal) Reference4Ideal.dot_S2048x3072_S1024x3072_S2048x1024_1_1_0_0_n_n none (extractStridedSlice Reference4Ideal.S2048x3072 ![0, 6144] D Reference4Ideal.Facts₀.slices_S2048x9216_S2048x3072_0_6144) (extractStridedSlice Reference4Ideal.S1024x3072 ![0, 6144] W Reference4Ideal.Facts₀.slices_S1024x9216_S1024x3072_0_6144)

theorem group2_at (W : FVec Ideal S1024x9216 .f32) (D : FVec Ideal S2048x9216 .f32) (r : Fin 2048) (k : Fin 1024) :
    group2 W D (ix2 r k) = ∑ n : Fin 3072, D (ix2 r ⟨(2 : Fin 3).val * 3072 + n.val, by show 2 * 3072 + n.val < 9216; omega⟩) * W (ix2 k ⟨(2 : Fin 3).val * 3072 + n.val, by show 2 * 3072 + n.val < 9216; omega⟩) := by
  pointwise [group2]

/-- What the reference computes is the same gradient. -/
theorem reference_eq (W : FVec Ideal S1024x9216 .f32) (D : FVec Ideal S2048x9216 .f32) :
    three1024 (rows1024_0 (group0 W D)) (rows1024_1 (group1 W D)) (rows1024_2 (group2 W D)) = back W D := by
  funext j
  have h0 : (j 0).val < 3 := (j 0).isLt
  have h1 : (j 1).val < 2048 := (j 1).isLt
  have h2 : (j 2).val < 1024 := (j 2).isLt
  rw [ix3_of j (a := ⟨(j 0).val, h0⟩) (b := ⟨(j 1).val, h1⟩) (c := ⟨(j 2).val, h2⟩) rfl rfl rfl]
  generalize (⟨(j 0).val, h0⟩ : Fin 3) = g
  generalize (⟨(j 1).val, h1⟩ : Fin 2048) = r
  generalize (⟨(j 2).val, h2⟩ : Fin 1024) = k
  refine (three1024_at _ _ _ g r k).trans ?_
  rw [rows1024_0_at, rows1024_1_at, rows1024_2_at, group0_at, group1_at, group2_at]
  obtain rfl | rfl | rfl : g = 0 ∨ g = 1 ∨ g = 2 := by omega
  · rfl
  · rfl
  · rfl

/-- Kernel and reference, from equal arguments, both end with the gradient. -/
theorem equal : Cert.algebraic_Kernel4Ideal_Reference4Ideal := by
  intro m g m' g' _ hagree
  refine ⟨fun c => back (argW m c) (argD m c), (θ_run defs _ _).mono (fun _ h c => ⟨(h c).1.trans (array8 m c), (h c).2⟩) (Value.run_blocks m g),
    (θ_run Cert.Reference4Ideal.defs _ _).mono (fun _ h c => ⟨(h c).1.trans ?_, (h c).2⟩) (Cert.Reference4Ideal.Value.run m' g')⟩
  rw [(hagree c).1, (hagree c).2]
  exact reference_eq _ _

end Cert.Kernel4Ideal.Val

end
-- ==== Proof.Products.QkvFwd.lean ====
/- The projection to queries, keys and values: every group's tokens, in its order, times its columns of the weight. -/
module

public import proofs.«01_k».proof.Defs
public import proofs.«01_k».proof.Proof.Gen.Kernel5Ideal.Value
public import proofs.«01_k».proof.Proof.Gen.Reference5Ideal.Run
public import proofs.«01_k».proof.Proof.Products.Groups
public import Idealize.ShloMosaic.Lib.Pipeline.ValueKit.Basic

@[expose] public section

set_option maxRecDepth 65536

noncomputable section

namespace Cert.Kernel5Ideal.Val

open Cert.Kernel5Ideal Cert.Kernel5Ideal.Gen Cert.Products Idealize.ShloMosaic Idealize.ShloMosaic.TcCoe Idealize.SL.Sem
open Idealize.ShloMosaic.Pipeline (Dat)
open Cert.Math (tok)

/-- The projection, group by group: entry (g, r, n) is the product of the token that is r-th in group g's order with
    column n of the group's part of the weight. -/
def proj (H : FVec Ideal S2048x1024 .f32) (W : FVec Ideal S1024x9216 .f32) : FVec Ideal S3x2048x3072 .bf16 :=
  fun j => ∑ k : Fin 1024, H (ix2 (tok (j 0) (j 1)) k) * W (ix2 k ⟨(j 0).val * 3072 + (j 2).val, by
    have h0 : (j 0).val < 3 := (j 0).isLt
    have h2 : (j 2).val < 3072 := (j 2).isLt
    omega⟩)

/-- What a grid point stores. -/
theorem block_at (x : Vec Ideal S1x2048x1024 .bf16) (y : Vec Ideal S1x1024x256 .bf16) (r : Fin 2048) (b : Fin 256) :
    out0_2 x y (ix3 0 r b) = ∑ k : Fin 1024, x (ix3 0 r k) * y (ix3 0 k b) := by
  unfold out0_2 r0_2 r0_0 r0_1
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

abbrev argH : FVec Ideal S2048x1024 .f32 := m ((c.tc : Thread nD τ).loc main_arg0)
abbrev argW : FVec Ideal S1024x9216 .f32 := m ((c.tc : Thread nD τ).loc main_arg1)

/-- The host's three orders of the tokens. -/
theorem V_groups : V m c main_v13 = truncf .bf16 (tokens (argH m c)) bitsLt_bf16_f32 := by
  unfold V hostOps0
  after_results <;> rfl

/-- The host's shards of the weight. -/
theorem V_shards : V m c main_v16 = truncf .bf16 (transpose S4x1024x2304 [1, 0, 2] (shapeCast S1024x4x2304 (argW m c) shapeCasts_S1024x9216_S1024x4x2304) transposes_S1024x4x2304_S4x1024x2304_1_0_2) bitsLt_bf16_f32 := by
  unfold V hostOps0
  after_results <;> rfl

theorem shards_at (W : FVec Ideal S1024x9216 .f32) (s : Fin 4) (k : Fin 1024) (b : Fin 2304) :
    (truncf .bf16 (transpose S4x1024x2304 [1, 0, 2] (shapeCast S1024x4x2304 W shapeCasts_S1024x9216_S1024x4x2304) transposes_S1024x4x2304_S4x1024x2304_1_0_2) bitsLt_bf16_f32 : FVec Ideal S4x1024x2304 .bf16) (ix3 s k b)
      = W (ix2 k ⟨s.val * 2304 + b.val, by omega⟩) := by
  pointwise

/-! The block each window is at: grid point t is tile t of the weight's columns, which is tile t % 12 of group t / 12
and tile t % 9 of shard t / 9. -/

theorem index0 : ∀ t : Fin grid0.N, win0_0.index t = ![t.val / 12, 0, 0] := by decide +kernel
theorem index1 : ∀ t : Fin grid0.N, win0_1.index t = ![t.val / 9, 0, t.val % 9] := by decide +kernel
theorem index2 : ∀ t : Fin grid0.N, win0_2.index t = ![t.val / 12, 0, t.val % 12] := by decide +kernel

theorem lt_points (t : Fin cfg0.N) : t.val < 36 := t.isLt

theorem blk0_at (t : Fin cfg0.N) (r : Fin 2048) (k : Fin 1024) :
    iblk m c 0 t (ix3 0 r k) = argH m c (ix2 (tok ⟨t.val / 12, by have := lt_points t; omega⟩ r) k) := by
  have ht := lt_points t
  have i0 : win0_0.index t 0 = t.val / 12 := congrFun (index0 t) 0
  have i1 : win0_0.index t 1 = 0 := congrFun (index0 t) 1
  have i2 : win0_0.index t 2 = 0 := congrFun (index0 t) 2
  have e : iblk m c 0 t (ix3 0 r k) = V m c main_v13 (ix3 (⟨t.val / 12, by omega⟩ : Fin 3) r k) := by
    refine congrArg (V m c main_v13) (ix3_of _ ?_ ?_ ?_)
    · show win0_0.index t 0 * 1 + 1 * 0 = t.val / 12; omega
    · show win0_0.index t 1 * 2048 + 1 * r.val = r.val; omega
    · show win0_0.index t 2 * 1024 + 1 * k.val = k.val; omega
  rw [e, V_groups]
  exact tokens_at (argH m c) _ r k

theorem blk1_at (t : Fin cfg0.N) (k : Fin 1024) (b : Fin 256) :
    iblk m c 1 t (ix3 0 k b) = argW m c (ix2 k ⟨t.val * 256 + b.val, by have := lt_points t; omega⟩) := by
  have ht := lt_points t
  have i0 : win0_1.index t 0 = t.val / 9 := congrFun (index1 t) 0
  have i1 : win0_1.index t 1 = 0 := congrFun (index1 t) 1
  have i2 : win0_1.index t 2 = t.val % 9 := congrFun (index1 t) 2
  have e : iblk m c 1 t (ix3 0 k b) = V m c main_v16 (ix3 (⟨t.val / 9, by omega⟩ : Fin 4) k (⟨t.val % 9 * 256 + b.val, by omega⟩ : Fin 2304)) := by
    refine congrArg (V m c main_v16) (ix3_of _ ?_ ?_ ?_)
    · show win0_1.index t 0 * 1 + 1 * 0 = t.val / 9; omega
    · show win0_1.index t 1 * 1024 + 1 * k.val = k.val; omega
    · show win0_1.index t 2 * 256 + 1 * b.val = t.val % 9 * 256 + b.val; omega
  rw [e, V_shards]
  refine (shards_at (argW m c) _ k _).trans (congrArg (argW m c) (ix2_of _ rfl ?_))
  show t.val / 9 * 2304 + (t.val % 9 * 256 + b.val) = t.val * 256 + b.val
  omega

theorem mem_blk2 (t : Fin cfg0.N) (i : S3x2048x3072.Idx) :
    i ∈ ((cfg0.win 2).blk t).view.set ↔ ∀ a : Fin 3, win0_2.index t a * S1x2048x256.size a ≤ (i a).val ∧ (i a).val < win0_2.index t a * S1x2048x256.size a + S1x2048x256.size a := by
  show i ∈ ((View.whole main_v17).slice (win0_2.rect t)).set ↔ _
  rw [View.set_slice_whole, Rect.mem_set_unit]
  exact Iff.rfl

/-- Every element of the output lies in some point's block. -/
theorem covered2 (i : S3x2048x3072.Idx) : ∃ t : Fin cfg0.N, (cfg0.win 2).flush t = true ∧ i ∈ ((cfg0.win 2).blk t).view.set := by
  have h0 : (i 0).val < 3 := (i 0).isLt
  have h1 : (i 1).val < 2048 := (i 1).isLt
  have h2 : (i 2).val < 3072 := (i 2).isLt
  have ht : (i 0).val * 12 + (i 2).val / 256 < 36 := by omega
  refine ⟨⟨(i 0).val * 12 + (i 2).val / 256, ht⟩, flush0_2 _, ?_⟩
  rw [mem_blk2, index2]
  intro a
  match a with
  | ⟨0, _⟩ => show ((i 0).val * 12 + (i 2).val / 256) / 12 * 1 ≤ (i 0).val ∧ (i 0).val < ((i 0).val * 12 + (i 2).val / 256) / 12 * 1 + 1; omega
  | ⟨1, _⟩ => show 0 * 2048 ≤ (i 1).val ∧ (i 1).val < 0 * 2048 + 2048; omega
  | ⟨2, _⟩ => show ((i 0).val * 12 + (i 2).val / 256) % 12 * 256 ≤ (i 2).val ∧ (i 2).val < ((i 0).val * 12 + (i 2).val / 256) % 12 * 256 + 256; omega

/-- The output array ends holding the projection. -/
theorem array2 : (dats m 0 c).arrAt 2 cfg0.N = proj (argH m c) (argW m c) := by
  refine Dat.arrAt_eq_of_cover (dats m 0 c) 2 (proj (argH m c) (argW m c)) (fun t _ => ?_) covered2
  rw [Value.flushed2]
  have ht := lt_points t
  have i0 : win0_2.index t 0 = t.val / 12 := congrFun (index2 t) 0
  have i1 : win0_2.index t 1 = 0 := congrFun (index2 t) 1
  have i2 : win0_2.index t 2 = t.val % 12 := congrFun (index2 t) 2
  funext y
  have hy0 : (y 0).val < 1 := (y 0).isLt
  have hy1 : (y 1).val < 2048 := (y 1).isLt
  have hy2 : (y 2).val < 256 := (y 2).isLt
  have hl : (cfg0.win 2).xinj (grid0.coords t) y = ix3 (0 : Fin 1) (⟨(y 1).val, hy1⟩ : Fin 2048) (⟨(y 2).val, hy2⟩ : Fin 256) :=
    ix3_of _ (by show (y 0).val = 0; omega) rfl rfl
  have hr : ((cfg0.win 2).blk t).view.emb y = ix3 (⟨t.val / 12, by omega⟩ : Fin 3) (⟨(y 1).val, hy1⟩ : Fin 2048) (⟨t.val % 12 * 256 + (y 2).val, by omega⟩ : Fin 3072) := by
    refine ix3_of _ ?_ ?_ ?_
    · show win0_2.index t 0 * 1 + 1 * (y 0).val = t.val / 12; omega
    · show win0_2.index t 1 * 2048 + 1 * (y 1).val = (y 1).val; omega
    · show win0_2.index t 2 * 256 + 1 * (y 2).val = t.val % 12 * 256 + (y 2).val; omega
  show out0_2 (iblk m c 0 t) (iblk m c 1 t) ((cfg0.win 2).xinj (grid0.coords t) y) = proj (argH m c) (argW m c) (((cfg0.win 2).blk t).view.emb y)
  rw [hl, hr, block_at]
  refine Finset.sum_congr rfl fun k _ => congrArg₂ (· * ·) (blk0_at m c t _ k) ((blk1_at m c t k _).trans (congrArg (argW m c) (ix2_of _ rfl ?_)))
  show t.val * 256 + (y 2).val = t.val / 12 * 3072 + (t.val % 12 * 256 + (y 2).val)
  omega

/-- The reference's product of all tokens with the whole weight. -/
def whole (H : FVec Ideal S2048x1024 .f32) (W : FVec Ideal S1024x9216 .f32) : FVec Ideal Reference5Ideal.S2048x9216 .f32 :=
  Host.dotGeneral Reference5Ideal.dot_S2048x1024_S1024x9216_S2048x9216_1_0_0_1_n_n none H W

theorem whole_at (H : FVec Ideal S2048x1024 .f32) (W : FVec Ideal S1024x9216 .f32) (r : Fin 2048) (n : Fin 9216) :
    whole H W (ix2 r n) = ∑ k : Fin 1024, H (ix2 r k) * W (ix2 k n) := by
  pointwise [whole]

/-- What the reference computes is the same projection. -/
theorem reference_eq (H : FVec Ideal S2048x1024 .f32) (W : FVec Ideal S1024x9216 .f32) :
    (truncf .bf16 (parted (whole H W)) Reference5Ideal.Facts₀.bitsLt_bf16_f32 : FVec Ideal S3x2048x3072 .bf16)
      = proj H W := by
  funext j
  have h0 : (j 0).val < 3 := (j 0).isLt
  have h1 : (j 1).val < 2048 := (j 1).isLt
  have h2 : (j 2).val < 3072 := (j 2).isLt
  rw [ix3_of j (a := ⟨(j 0).val, h0⟩) (b := ⟨(j 1).val, h1⟩) (c := ⟨(j 2).val, h2⟩) rfl rfl rfl]
  generalize (⟨(j 0).val, h0⟩ : Fin 3) = g
  generalize (⟨(j 1).val, h1⟩ : Fin 2048) = r
  generalize (⟨(j 2).val, h2⟩ : Fin 3072) = n
  exact (parted_at (whole H W) g r n).trans (whole_at H W _ _)

/-- Kernel and reference, from equal arguments, both end with the projection. -/
theorem equal : Cert.algebraic_Kernel5Ideal_Reference5Ideal := by
  intro m g m' g' _ hagree
  refine ⟨fun c => proj (argH m c) (argW m c), (θ_run defs _ _).mono (fun _ h c => ⟨(h c).1.trans (array2 m c), (h c).2⟩) (Value.run_blocks m g),
    (θ_run Cert.Reference5Ideal.defs _ _).mono (fun _ h c => ⟨(h c).1.trans ?_, (h c).2⟩) (Cert.Reference5Ideal.Value.run m' g')⟩
  rw [(hagree c).1, (hagree c).2]
  exact reference_eq _ _

end Cert.Kernel5Ideal.Val

end
-- ==== Proof.Products.QkvFwd0.lean ====
/- The projection to the neighbourhood attention's queries, keys and values: the tokens times the weight, a tile of its
   columns at a time. -/
module

public import proofs.«01_k».proof.Defs
public import proofs.«01_k».proof.Proof.Gen.Kernel6Ideal.Value
public import proofs.«01_k».proof.Proof.Gen.Reference6Ideal.Run
public import proofs.«01_k».proof.Proof.Products.Index
public import Idealize.ShloMosaic.Lib.Pipeline.ValueKit.Basic

@[expose] public section

set_option maxRecDepth 65536

noncomputable section

namespace Cert.Kernel6Ideal.Val

open Cert.Kernel6Ideal Cert.Kernel6Ideal.Gen Cert.Products Idealize.ShloMosaic Idealize.ShloMosaic.TcCoe Idealize.SL.Sem
open Idealize.ShloMosaic.Pipeline (Dat)

/-- The projection of every token, in the one group there is. -/
def proj (H : FVec Ideal S2048x1024 .f32) (W : FVec Ideal S1024x3072 .f32) : FVec Ideal S1x2048x3072 .bf16 :=
  fun j => ∑ k : Fin 1024, H (ix2 (j 1) k) * W (ix2 k (j 2))

/-- What a grid point stores. -/
theorem block_at (x : Vec Ideal S1x2048x1024 .bf16) (y : Vec Ideal S1x1024x256 .bf16) (r : Fin 2048) (b : Fin 256) :
    out0_2 x y (ix3 0 r b) = ∑ k : Fin 1024, x (ix3 0 r k) * y (ix3 0 k b) := by
  unfold out0_2 r0_2 r0_0 r0_1
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

abbrev argH : FVec Ideal S2048x1024 .f32 := m ((c.tc : Thread nD τ).loc main_arg0)
abbrev argW : FVec Ideal S1024x3072 .f32 := m ((c.tc : Thread nD τ).loc main_arg1)

/-- The host's tokens, under an axis for the group. -/
theorem V_tokens : V m c main_v1 = broadcastInDim S1x2048x1024 ![1, 2] bcast_S2048x1024_S1x2048x1024_1_2 (truncf .bf16 (argH m c) bitsLt_bf16_f32) := by
  unfold V hostOps0
  after_results <;> rfl

theorem tokens0_at (H : FVec Ideal S2048x1024 .f32) (z : Fin 1) (r : Fin 2048) (k : Fin 1024) :
    (broadcastInDim S1x2048x1024 ![1, 2] bcast_S2048x1024_S1x2048x1024_1_2 (truncf .bf16 H bitsLt_bf16_f32 : FVec Ideal S2048x1024 .bf16) : FVec Ideal S1x2048x1024 .bf16) (ix3 z r k) = H (ix2 r k) := by
  pointwise

/-- The host's shards of the weight. -/
theorem V_shards : V m c main_v4 = truncf .bf16 (transpose S4x1024x768 [1, 0, 2] (shapeCast S1024x4x768 (argW m c) shapeCasts_S1024x3072_S1024x4x768) transposes_S1024x4x768_S4x1024x768_1_0_2) bitsLt_bf16_f32 := by
  unfold V hostOps0
  after_results <;> rfl

theorem shards_at (W : FVec Ideal S1024x3072 .f32) (s : Fin 4) (k : Fin 1024) (b : Fin 768) :
    (truncf .bf16 (transpose S4x1024x768 [1, 0, 2] (shapeCast S1024x4x768 W shapeCasts_S1024x3072_S1024x4x768) transposes_S1024x4x768_S4x1024x768_1_0_2) bitsLt_bf16_f32 : FVec Ideal S4x1024x768 .bf16) (ix3 s k b)
      = W (ix2 k ⟨s.val * 768 + b.val, by omega⟩) := by
  pointwise

/-! The block each window is at: grid point t is tile t of the weight's columns, which is tile t % 3 of shard t / 3. -/

theorem index0 : ∀ t : Fin grid0.N, win0_0.index t = ![0, 0, 0] := by decide +kernel
theorem index1 : ∀ t : Fin grid0.N, win0_1.index t = ![t.val / 3, 0, t.val % 3] := by decide +kernel
theorem index2 : ∀ t : Fin grid0.N, win0_2.index t = ![0, 0, t.val] := by decide +kernel

theorem lt_points (t : Fin cfg0.N) : t.val < 12 := t.isLt

theorem blk0_at (t : Fin cfg0.N) (r : Fin 2048) (k : Fin 1024) : iblk m c 0 t (ix3 0 r k) = argH m c (ix2 r k) := by
  refine (read_slice_whole main_v1 (win0_0.rect t) (V m c main_v1) _).trans ((congrArg (V m c main_v1) (ix3_of _ (a := (0 : Fin 1)) (b := r) (c := k)
    (at_block (index0 t) 0 (Pipeline.Window.rect_emb_val win0_0 t _ 0 rfl) rfl)
    (at_block (index0 t) 1 (Pipeline.Window.rect_emb_val win0_0 t _ 1 rfl) ?_)
    (at_block (index0 t) 2 (Pipeline.Window.rect_emb_val win0_0 t _ 2 rfl) ?_))).trans ?_)
  · show 0 * 2048 + r.val = r.val; omega
  · show 0 * 1024 + k.val = k.val; omega
  · rw [V_tokens]
    exact tokens0_at (argH m c) 0 r k

theorem blk1_at (t : Fin cfg0.N) (k : Fin 1024) (b : Fin 256) :
    iblk m c 1 t (ix3 0 k b) = argW m c (ix2 k ⟨t.val * 256 + b.val, by have := lt_points t; omega⟩) := by
  have ht := lt_points t
  refine (read_slice_whole main_v4 (win0_1.rect t) (V m c main_v4) _).trans ((congrArg (V m c main_v4) (ix3_of _ (a := (⟨t.val / 3, by omega⟩ : Fin 4)) (b := k) (c := (⟨t.val % 3 * 256 + b.val, by omega⟩ : Fin 768))
    (at_block (index1 t) 0 (Pipeline.Window.rect_emb_val win0_1 t _ 0 rfl) ?_)
    (at_block (index1 t) 1 (Pipeline.Window.rect_emb_val win0_1 t _ 1 rfl) ?_)
    (at_block (index1 t) 2 (Pipeline.Window.rect_emb_val win0_1 t _ 2 rfl) rfl))).trans ?_)
  · show t.val / 3 * 1 + 0 = t.val / 3; omega
  · show 0 * 1024 + k.val = k.val; omega
  · rw [V_shards]
    refine (shards_at (argW m c) _ k _).trans (congrArg (argW m c) (ix2_of _ rfl ?_))
    show t.val / 3 * 768 + (t.val % 3 * 256 + b.val) = t.val * 256 + b.val
    omega

theorem mem_blk2 (t : Fin cfg0.N) (i : S1x2048x3072.Idx) :
    i ∈ ((cfg0.win 2).blk t).view.set ↔ ∀ a : Fin 3, win0_2.index t a * S1x2048x256.size a ≤ (i a).val ∧ (i a).val < win0_2.index t a * S1x2048x256.size a + S1x2048x256.size a := by
  show i ∈ ((View.whole main_v5).slice (win0_2.rect t)).set ↔ _
  rw [View.set_slice_whole, Rect.mem_set_unit]
  exact Iff.rfl

/-- Every element of the output lies in some point's block. -/
theorem covered2 (i : S1x2048x3072.Idx) : ∃ t : Fin cfg0.N, (cfg0.win 2).flush t = true ∧ i ∈ ((cfg0.win 2).blk t).view.set := by
  have h0 : (i 0).val < 1 := (i 0).isLt
  have h1 : (i 1).val < 2048 := (i 1).isLt
  have h2 : (i 2).val < 3072 := (i 2).isLt
  have ht : (i 2).val / 256 < 12 := by omega
  refine ⟨⟨(i 2).val / 256, ht⟩, flush0_2 _, ?_⟩
  rw [mem_blk2, index2]
  intro a
  match a with
  | ⟨0, _⟩ => show 0 * 1 ≤ (i 0).val ∧ (i 0).val < 0 * 1 + 1; omega
  | ⟨1, _⟩ => show 0 * 2048 ≤ (i 1).val ∧ (i 1).val < 0 * 2048 + 2048; omega
  | ⟨2, _⟩ => show (i 2).val / 256 * 256 ≤ (i 2).val ∧ (i 2).val < (i 2).val / 256 * 256 + 256; omega

/-- The output array ends holding the projection. -/
theorem array2 : (dats m 0 c).arrAt 2 cfg0.N = proj (argH m c) (argW m c) := by
  refine Dat.arrAt_eq_of_cover (dats m 0 c) 2 (proj (argH m c) (argW m c)) (fun t _ => ?_) covered2
  rw [Value.flushed2]
  have ht := lt_points t
  funext y
  have hy0 : (y 0).val < 1 := (y 0).isLt
  have hy1 : (y 1).val < 2048 := (y 1).isLt
  have hy2 : (y 2).val < 256 := (y 2).isLt
  have hl : (cfg0.win 2).xinj (grid0.coords t) y = ix3 (0 : Fin 1) (⟨(y 1).val, hy1⟩ : Fin 2048) (⟨(y 2).val, hy2⟩ : Fin 256) :=
    ix3_of _ (by show (y 0).val = 0; omega) rfl rfl
  have hr : ((cfg0.win 2).blk t).view.emb y = ix3 (0 : Fin 1) (⟨(y 1).val, hy1⟩ : Fin 2048) (⟨t.val * 256 + (y 2).val, by omega⟩ : Fin 3072) := by
    refine ix3_of _ (at_block (index2 t) 0 (Pipeline.Window.rect_emb_val win0_2 t _ 0 rfl) ?_)
      (at_block (index2 t) 1 (Pipeline.Window.rect_emb_val win0_2 t _ 1 rfl) ?_)
      (at_block (index2 t) 2 (Pipeline.Window.rect_emb_val win0_2 t _ 2 rfl) rfl)
    · show 0 * 1 + (y 0).val = 0; omega
    · show 0 * 2048 + (y 1).val = (y 1).val; omega
  show out0_2 (iblk m c 0 t) (iblk m c 1 t) ((cfg0.win 2).xinj (grid0.coords t) y) = proj (argH m c) (argW m c) (((cfg0.win 2).blk t).view.emb y)
  rw [hl, hr, block_at]
  exact Finset.sum_congr rfl fun k _ => congrArg₂ (fun x y : EReal => x * y) (blk0_at m c t _ k) (blk1_at m c t k _)

/-- What the reference computes is the same projection. -/
theorem reference_eq (H : FVec Ideal S2048x1024 .f32) (W : FVec Ideal S1024x3072 .f32) :
    (broadcastInDim Reference6Ideal.S1x2048x3072 ![1, 2] Reference6Ideal.Facts₀.bcast_S2048x3072_S1x2048x3072_1_2 (truncf .bf16 (Host.dotGeneral Reference6Ideal.dot_S2048x1024_S1024x3072_S2048x3072_1_0_0_1_n_n none H W) Reference6Ideal.Facts₀.bitsLt_bf16_f32 : FVec Ideal Reference6Ideal.S2048x3072 .bf16) : FVec Ideal Reference6Ideal.S1x2048x3072 .bf16)
      = proj H W := by
  funext j
  have h0 : (j 0).val < 1 := (j 0).isLt
  have h1 : (j 1).val < 2048 := (j 1).isLt
  have h2 : (j 2).val < 3072 := (j 2).isLt
  rw [ix3_of j (a := ⟨(j 0).val, h0⟩) (b := ⟨(j 1).val, h1⟩) (c := ⟨(j 2).val, h2⟩) rfl rfl rfl]
  show _ = ∑ k : Fin 1024, H (ix2 ⟨(j 1).val, h1⟩ k) * W (ix2 k ⟨(j 2).val, h2⟩)
  pointwise

/-- Kernel and reference, from equal arguments, both end with the projection. -/
theorem equal : Cert.algebraic_Kernel6Ideal_Reference6Ideal := by
  intro m g m' g' _ hagree
  refine ⟨fun c => proj (argH m c) (argW m c), (θ_run defs _ _).mono (fun _ h c => ⟨(h c).1.trans (array2 m c), (h c).2⟩) (Value.run_blocks m g),
    (θ_run Cert.Reference6Ideal.defs _ _).mono (fun _ h c => ⟨(h c).1.trans ?_, (h c).2⟩) (Cert.Reference6Ideal.Value.run m' g')⟩
  rw [(hagree c).1, (hagree c).2]
  exact reference_eq _ _

end Cert.Kernel6Ideal.Val

end
-- ==== Proof.Products.QkvDw0.lean ====
/- The gradient of the neighbourhood attention's projection weight: one product over the tokens per tile of its columns. -/
module

public import proofs.«01_k».proof.Defs
public import proofs.«01_k».proof.Proof.Gen.Kernel7Ideal.Value
public import proofs.«01_k».proof.Proof.Gen.Reference7Ideal.Run
public import proofs.«01_k».proof.Proof.Products.Index
public import Idealize.ShloMosaic.Lib.Pipeline.ValueKit.Basic

@[expose] public section

set_option maxRecDepth 65536

noncomputable section

namespace Cert.Kernel7Ideal.Val

open Cert.Kernel7Ideal Cert.Kernel7Ideal.Gen Cert.Products Idealize.ShloMosaic Idealize.ShloMosaic.TcCoe Idealize.SL.Sem
open Idealize.ShloMosaic.Pipeline (Dat)

/-- The gradient, shard by shard: entry (s, k, b) sums, over the tokens, the activation in column k times the incoming
    gradient in column b of shard s. -/
def grad (H : FVec Ideal S2048x1024 .f32) (D : FVec Ideal S2048x3072 .f32) : FVec Ideal S4x1024x768 .bf16 :=
  fun j => ∑ r : Fin 2048, H (ix2 r (j 1)) * D (ix2 r ⟨(j 0).val * 768 + (j 2).val, by
    have h0 : (j 0).val < 4 := (j 0).isLt
    have h2 : (j 2).val < 768 := (j 2).isLt
    omega⟩)

/-- What a grid point stores. -/
theorem block_at (x : Vec Ideal S1x1024x2048 .bf16) (y : Vec Ideal S1x1x2048x256 .bf16) (k : Fin 1024) (b : Fin 256) :
    out0_2 x y (ix3 0 k b) = ∑ r : Fin 2048, x (ix3 0 k r) * y (ix4 0 0 r b) := by
  unfold out0_2 r0_2 r0_0 r0_1
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

abbrev argH : FVec Ideal S2048x1024 .f32 := m ((c.tc : Thread nD τ).loc main_arg0)
abbrev argD : FVec Ideal S2048x3072 .f32 := m ((c.tc : Thread nD τ).loc main_arg1)

/-- The host's tokens, transposed, under an axis for the group. -/
def turned (H : FVec Ideal S2048x1024 .f32) : FVec Ideal S1x1024x2048 .bf16 :=
  broadcastInDim S1x1024x2048 ![1, 2] bcast_S1024x2048_S1x1024x2048_1_2 (truncf .bf16 (transpose S1024x2048 [1, 0] H transposes_S2048x1024_S1024x2048_1_0) bitsLt_bf16_f32 : FVec Ideal S1024x2048 .bf16)

theorem turned_at (H : FVec Ideal S2048x1024 .f32) (z : Fin 1) (k : Fin 1024) (r : Fin 2048) : turned H (ix3 z k r) = H (ix2 r k) := by
  pointwise [turned]

/-- The host's parts of the incoming gradient. -/
def cut0 (D : FVec Ideal S2048x3072 .f32) : FVec Ideal S1x3x2048x1024 .bf16 :=
  broadcastInDim S1x3x2048x1024 ![1, 2, 3] bcast_S3x2048x1024_S1x3x2048x1024_1_2_3 (truncf .bf16 (transpose S3x2048x1024 [1, 0, 2] (shapeCast S2048x3x1024 D shapeCasts_S2048x3072_S2048x3x1024) transposes_S2048x3x1024_S3x2048x1024_1_0_2) bitsLt_bf16_f32 : FVec Ideal S3x2048x1024 .bf16)

theorem cut0_at (D : FVec Ideal S2048x3072 .f32) (z : Fin 1) (p : Fin 3) (r : Fin 2048) (b : Fin 1024) :
    cut0 D (ix4 z p r b) = D (ix2 r ⟨p.val * 1024 + b.val, by omega⟩) := by
  pointwise [cut0]

theorem V_tokens : V m c main_v2 = turned (argH m c) := by
  unfold V hostOps0
  after_results <;> rfl

theorem V_parts : V m c main_v6 = cut0 (argD m c) := by
  unfold V hostOps0
  after_results <;> rfl

/-! The block each window is at: grid point t is tile t of the columns, which is tile t % 4 of part t / 4 and tile t % 3
of shard t / 3. -/

theorem index0 : ∀ t : Fin grid0.N, win0_0.index t = ![0, 0, 0] := by decide +kernel
theorem index1 : ∀ t : Fin grid0.N, win0_1.index t = ![0, t.val / 4, 0, t.val % 4] := by decide +kernel
theorem index2 : ∀ t : Fin grid0.N, win0_2.index t = ![t.val / 3, 0, t.val % 3] := by decide +kernel

theorem lt_points (t : Fin cfg0.N) : t.val < 12 := t.isLt

theorem blk0_at (t : Fin cfg0.N) (k : Fin 1024) (r : Fin 2048) : iblk m c 0 t (ix3 0 k r) = argH m c (ix2 r k) := by
  refine (read_slice_whole main_v2 (win0_0.rect t) (V m c main_v2) _).trans ((congrArg (V m c main_v2) (ix3_of _ (a := (0 : Fin 1)) (b := k) (c := r)
    (at_block (index0 t) 0 (Pipeline.Window.rect_emb_val win0_0 t _ 0 rfl) rfl)
    (at_block (index0 t) 1 (Pipeline.Window.rect_emb_val win0_0 t _ 1 rfl) ?_)
    (at_block (index0 t) 2 (Pipeline.Window.rect_emb_val win0_0 t _ 2 rfl) ?_))).trans ?_)
  · show 0 * 1024 + k.val = k.val; omega
  · show 0 * 2048 + r.val = r.val; omega
  · rw [V_tokens]
    exact turned_at (argH m c) 0 k r

theorem blk1_at (t : Fin cfg0.N) (r : Fin 2048) (b : Fin 256) :
    iblk m c 1 t (ix4 0 0 r b) = argD m c (ix2 r ⟨t.val * 256 + b.val, by have := lt_points t; omega⟩) := by
  have ht := lt_points t
  refine (read_slice_whole main_v6 (win0_1.rect t) (V m c main_v6) _).trans ((congrArg (V m c main_v6) (ix4_of _ (a := (0 : Fin 1)) (b := (⟨t.val / 4, by omega⟩ : Fin 3)) (c := r) (d := (⟨t.val % 4 * 256 + b.val, by omega⟩ : Fin 1024))
    (at_block (index1 t) 0 (Pipeline.Window.rect_emb_val win0_1 t _ 0 rfl) rfl)
    (at_block (index1 t) 1 (Pipeline.Window.rect_emb_val win0_1 t _ 1 rfl) ?_)
    (at_block (index1 t) 2 (Pipeline.Window.rect_emb_val win0_1 t _ 2 rfl) ?_)
    (at_block (index1 t) 3 (Pipeline.Window.rect_emb_val win0_1 t _ 3 rfl) rfl))).trans ?_)
  · show t.val / 4 * 1 + 0 = t.val / 4; omega
  · show 0 * 2048 + r.val = r.val; omega
  · rw [V_parts]
    refine (cut0_at (argD m c) _ _ r _).trans (congrArg (argD m c) (ix2_of _ rfl ?_))
    show t.val / 4 * 1024 + (t.val % 4 * 256 + b.val) = t.val * 256 + b.val
    omega

theorem mem_blk2 (t : Fin cfg0.N) (i : S4x1024x768.Idx) :
    i ∈ ((cfg0.win 2).blk t).view.set ↔ ∀ a : Fin 3, win0_2.index t a * S1x1024x256.size a ≤ (i a).val ∧ (i a).val < win0_2.index t a * S1x1024x256.size a + S1x1024x256.size a := by
  show i ∈ ((View.whole main_v7).slice (win0_2.rect t)).set ↔ _
  rw [View.set_slice_whole, Rect.mem_set_unit]
  exact Iff.rfl

/-- Every element of the output lies in some point's block. -/
theorem covered2 (i : S4x1024x768.Idx) : ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 768 := (i 2).isLt
  have ht : (i 0).val * 3 + (i 2).val / 256 < 12 := by omega
  refine ⟨⟨(i 0).val * 3 + (i 2).val / 256, ht⟩, flush0_2 _, ?_⟩
  rw [mem_blk2, index2]
  intro a
  match a with
  | ⟨0, _⟩ => show ((i 0).val * 3 + (i 2).val / 256) / 3 * 1 ≤ (i 0).val ∧ (i 0).val < ((i 0).val * 3 + (i 2).val / 256) / 3 * 1 + 1; omega
  | ⟨1, _⟩ => show 0 * 1024 ≤ (i 1).val ∧ (i 1).val < 0 * 1024 + 1024; omega
  | ⟨2, _⟩ => show ((i 0).val * 3 + (i 2).val / 256) % 3 * 256 ≤ (i 2).val ∧ (i 2).val < ((i 0).val * 3 + (i 2).val / 256) % 3 * 256 + 256; omega

/-- The output array ends holding the gradient. -/
theorem array2 : (dats m 0 c).arrAt 2 cfg0.N = grad (argH m c) (argD m c) := by
  refine Dat.arrAt_eq_of_cover (dats m 0 c) 2 (grad (argH m c) (argD m c)) (fun t _ => ?_) covered2
  rw [Value.flushed2]
  have ht := lt_points t
  funext y
  have hy0 : (y 0).val < 1 := (y 0).isLt
  have hy1 : (y 1).val < 1024 := (y 1).isLt
  have hy2 : (y 2).val < 256 := (y 2).isLt
  have hl : (cfg0.win 2).xinj (grid0.coords t) y = ix3 (0 : Fin 1) (⟨(y 1).val, hy1⟩ : Fin 1024) (⟨(y 2).val, hy2⟩ : Fin 256) :=
    ix3_of _ (by show (y 0).val = 0; omega) rfl rfl
  have hr : ((cfg0.win 2).blk t).view.emb y = ix3 (⟨t.val / 3, by omega⟩ : Fin 4) (⟨(y 1).val, hy1⟩ : Fin 1024) (⟨t.val % 3 * 256 + (y 2).val, by omega⟩ : Fin 768) := by
    refine ix3_of _ (at_block (index2 t) 0 (Pipeline.Window.rect_emb_val win0_2 t _ 0 rfl) ?_)
      (at_block (index2 t) 1 (Pipeline.Window.rect_emb_val win0_2 t _ 1 rfl) ?_)
      (at_block (index2 t) 2 (Pipeline.Window.rect_emb_val win0_2 t _ 2 rfl) rfl)
    · show t.val / 3 * 1 + (y 0).val = t.val / 3; omega
    · show 0 * 1024 + (y 1).val = (y 1).val; omega
  show out0_2 (iblk m c 0 t) (iblk m c 1 t) ((cfg0.win 2).xinj (grid0.coords t) y) = grad (argH m c) (argD m c) (((cfg0.win 2).blk t).view.emb y)
  rw [hl, hr, block_at]
  refine Finset.sum_congr rfl fun r _ => congrArg₂ (fun x y : EReal => x * y) (blk0_at m c t _ r) ((blk1_at m c t r _).trans (congrArg (argD m c) (ix2_of _ rfl ?_)))
  show t.val * 256 + (y 2).val = t.val / 3 * 768 + (t.val % 3 * 256 + (y 2).val)
  omega

/-- The reference's gradient of the whole weight. -/
def whole (H : FVec Ideal S2048x1024 .f32) (D : FVec Ideal S2048x3072 .f32) : FVec Ideal Reference7Ideal.S1024x3072 .f32 :=
  transpose Reference7Ideal.S1024x3072 [1, 0] (Host.dotGeneral Reference7Ideal.dot_S2048x3072_S2048x1024_S3072x1024_0_0_1_1_n_n none D H) Reference7Ideal.Facts₀.transposes_S3072x1024_S1024x3072_1_0

theorem whole_at (H : FVec Ideal S2048x1024 .f32) (D : FVec Ideal S2048x3072 .f32) (k : Fin 1024) (n : Fin 3072) :
    whole H D (ix2 k n) = ∑ r : Fin 2048, H (ix2 r k) * D (ix2 r n) := by
  refine Eq.trans ?_ (Finset.sum_congr rfl fun r _ => mul_comm (D (ix2 r n)) (H (ix2 r k)))
  pointwise [whole]

theorem sharded_at (W : FVec Ideal Reference7Ideal.S1024x3072 .f32) (s : Fin 4) (k : Fin 1024) (b : Fin 768) :
    (truncf .bf16 (transpose Reference7Ideal.S4x1024x768 [1, 0, 2] (shapeCast Reference7Ideal.S1024x4x768 W Reference7Ideal.Facts₀.shapeCasts_S1024x3072_S1024x4x768) Reference7Ideal.Facts₀.transposes_S1024x4x768_S4x1024x768_1_0_2) Reference7Ideal.Facts₀.bitsLt_bf16_f32 : FVec Ideal Reference7Ideal.S4x1024x768 .bf16) (ix3 s k b)
      = W (ix2 k ⟨s.val * 768 + b.val, by omega⟩) := by
  pointwise

/-- What the reference computes is the same gradient. -/
theorem reference_eq (H : FVec Ideal S2048x1024 .f32) (D : FVec Ideal S2048x3072 .f32) :
    (truncf .bf16 (transpose Reference7Ideal.S4x1024x768 [1, 0, 2] (shapeCast Reference7Ideal.S1024x4x768 (whole H D) Reference7Ideal.Facts₀.shapeCasts_S1024x3072_S1024x4x768) Reference7Ideal.Facts₀.transposes_S1024x4x768_S4x1024x768_1_0_2) Reference7Ideal.Facts₀.bitsLt_bf16_f32 : FVec Ideal Reference7Ideal.S4x1024x768 .bf16)
      = grad H D := by
  funext j
  have h0 : (j 0).val < 4 := (j 0).isLt
  have h1 : (j 1).val < 1024 := (j 1).isLt
  have h2 : (j 2).val < 768 := (j 2).isLt
  rw [ix3_of j (a := ⟨(j 0).val, h0⟩) (b := ⟨(j 1).val, h1⟩) (c := ⟨(j 2).val, h2⟩) rfl rfl rfl]
  exact (sharded_at _ _ _ _).trans (whole_at H D _ _)

/-- Kernel and reference, from equal arguments, both end with the gradient. -/
theorem equal : Cert.algebraic_Kernel7Ideal_Reference7Ideal := by
  intro m g m' g' _ hagree
  refine ⟨fun c => grad (argH m c) (argD m c), (θ_run defs _ _).mono (fun _ h c => ⟨(h c).1.trans (array2 m c), (h c).2⟩) (Value.run_blocks m g),
    (θ_run Cert.Reference7Ideal.defs _ _).mono (fun _ h c => ⟨(h c).1.trans ?_, (h c).2⟩) (Cert.Reference7Ideal.Value.run m' g')⟩
  rw [(hagree c).1, (hagree c).2]
  exact reference_eq _ _

end Cert.Kernel7Ideal.Val

end
-- ==== Proof.Products.QkvDh0.lean ====
/- The gradient of what the neighbourhood attention's projection is applied to: three grid points, each four products of a
   tile of the columns of its part, added up in a scratch. -/
module

public import proofs.«01_k».proof.Defs
public import proofs.«01_k».proof.Proof.Gen.Kernel8Ideal.Value
public import proofs.«01_k».proof.Proof.Gen.Reference8Ideal.Run
public import proofs.«01_k».proof.Proof.Products.QkvFwd0
public import proofs.«01_k».proof.Proof.Products.QkvDw0
public import Idealize.ShloMosaic.Lib.Pipeline.ValueKit.Basic
public import Idealize.ShloMosaic.Lib.Pipeline.ValueKit.Acc

@[expose] public section

set_option maxRecDepth 65536

noncomputable section

namespace Cert.Kernel8Ideal.Val

open Idealize.ShloMosaic.Pipeline.Window (rect_emb_val)
open Cert.Kernel8Ideal Cert.Kernel8Ideal.Gen Cert.Products Idealize.ShloMosaic Idealize.ShloMosaic.TcCoe Idealize.SL.Sem
open Idealize.ShloMosaic.Pipeline (Dat)

/-- The gradient of the activations: entry (r, k) sums, over the columns n, the incoming gradient of token r times row k of
    the weight. -/
def back (W : FVec Ideal S1024x3072 .f32) (D : FVec Ideal S2048x3072 .f32) : FVec Ideal S1x2048x1024 .f32 :=
  fun j => ∑ n : Fin 3072, D (ix2 (j 1) n) * W (ix2 (j 2) n)

/-- The four products of a grid point, added up. -/
theorem pay4_at (x0 x2 x4 x6 : Vec Ideal S1x1x2048x256 .bf16) (x1 x3 x5 x7 : Vec Ideal S1x1024x256 .bf16) (r : Fin 2048) (k : Fin 1024) :
    k0_pay4 x0 x1 x2 x3 x4 x5 x6 x7 (ix2 r k)
      = (∑ b : Fin 256, x0 (ix4 0 0 r b) * x1 (ix3 0 k b)) + (∑ b : Fin 256, x2 (ix4 0 0 r b) * x3 (ix3 0 k b))
        + (∑ b : Fin 256, x4 (ix4 0 0 r b) * x5 (ix3 0 k b)) + ∑ b : Fin 256, x6 (ix4 0 0 r b) * x7 (ix3 0 k b) := by
  pointwise [k0_pay4]

theorem pay1_at (x : FVec Ideal S2048x1024 .f32) (r : Fin 2048) (k : Fin 1024) : k0_pay1 x (ix2 r k) = x (ix2 r k) := by
  pointwise [k0_pay1]
theorem pay2_at (x y : FVec Ideal S2048x1024 .f32) (r : Fin 2048) (k : Fin 1024) : k0_pay2 x y (ix2 r k) = y (ix2 r k) + x (ix2 r k) := by
  pointwise [k0_pay2]
theorem pay3_at (x : FVec Ideal S2048x1024 .f32) (z : Fin 1) (r : Fin 2048) (k : Fin 1024) : k0_pay3 x (ix3 z r k) = x (ix2 r k) := by
  pointwise [k0_pay3]

variable (m : (ℓ : Loc nD τ sig) → Buf (Elt Ideal) ℓ) (c : Dev nD)

abbrev argW : FVec Ideal S1024x3072 .f32 := m ((c.tc : Thread nD τ).loc main_arg0)
abbrev argD : FVec Ideal S2048x3072 .f32 := m ((c.tc : Thread nD τ).loc main_arg1)

theorem lt_points (t : Fin cfg0.N) : t.val < 3 := t.isLt

/-- What a grid point adds. -/
def part (t : Fin cfg0.N) : FVec Ideal S2048x1024 .f32 :=
  k0_pay4 (iblk m c 0 t) (iblk m c 1 t) (iblk m c 2 t) (iblk m c 3 t) (iblk m c 4 t) (iblk m c 5 t) (iblk m c 6 t) (iblk m c 7 t)

/-! What the scratch holds after the first two points, and what the last one stores. -/

theorem first : (outsAt0 m c 0 (by decide)).2 = k0_pay1 (part m c ⟨0, by decide⟩) := by
  refine (congrArg Prod.snd (outsAt0_A m c ⟨0, by decide⟩ (by decide) (by decide) (by decide))).trans ?_
  frame_out
  rfl

theorem middle : (outsAt0 m c 1 (by decide)).2 = k0_pay2 (part m c ⟨1, by decide⟩) (outsAt0 m c 0 (by decide)).2 := by
  refine (congrArg Prod.snd (outsAt0_B m c ⟨1, by decide⟩ (by decide) (by decide) (by decide))).trans ?_
  frame_out
  exact congrArg (k0_pay2 (part m c ⟨1, by decide⟩)) (Memref.IsWhole.read_unread (Memref.isWhole_whole _) _)

theorem last : (outsAt0 m c 2 (by decide)).1 = k0_pay3 (k0_pay2 (part m c ⟨2, by decide⟩) (outsAt0 m c 1 (by decide)).2) := by
  refine (congrArg Prod.fst (outsAt0_C m c ⟨2, by decide⟩ (by decide) (by decide) (by decide))).trans ?_
  frame_out
  exact congrArg (fun x => k0_pay3 (k0_pay2 (part m c ⟨2, by decide⟩) x)) (Memref.IsWhole.read_unread (Memref.isWhole_whole _) _)

/-- The host's parts of the incoming gradient, as the gradient of the weight has them. -/
theorem V_parts : V m c main_v3 = Cert.Kernel7Ideal.Val.cut0 (argD m c) := by
  unfold V hostOps0
  after_results <;> rfl

/-- The host's shards of the weight. -/
theorem V_shards : V m c main_v6 = truncf .bf16 (transpose S4x1024x768 [1, 0, 2] (shapeCast S1024x4x768 (argW m c) shapeCasts_S1024x3072_S1024x4x768) transposes_S1024x4x768_S4x1024x768_1_0_2) bitsLt_bf16_f32 := by
  unfold V hostOps0
  after_results <;> rfl

/-! The block each window is at: grid point t is part t; its i-th tile of the columns is tile 4 * t + i of all, which is tile i
of the part and tile (4 * t + i) % 3 of shard (4 * t + i) / 3. -/

theorem index0 : ∀ t : Fin grid0.N, win0_0.index t = ![0, t.val, 0, 0] := by decide +kernel
theorem index1 : ∀ t : Fin grid0.N, win0_1.index t = ![(4 * t.val + 0) / 3, 0, (4 * t.val + 0) % 3] := by decide +kernel
theorem index2 : ∀ t : Fin grid0.N, win0_2.index t = ![0, t.val, 0, 1] := by decide +kernel
theorem index3 : ∀ t : Fin grid0.N, win0_3.index t = ![(4 * t.val + 1) / 3, 0, (4 * t.val + 1) % 3] := by decide +kernel
theorem index4 : ∀ t : Fin grid0.N, win0_4.index t = ![0, t.val, 0, 2] := by decide +kernel
theorem index5 : ∀ t : Fin grid0.N, win0_5.index t = ![(4 * t.val + 2) / 3, 0, (4 * t.val + 2) % 3] := by decide +kernel
theorem index6 : ∀ t : Fin grid0.N, win0_6.index t = ![0, t.val, 0, 3] := by decide +kernel
theorem index7 : ∀ t : Fin grid0.N, win0_7.index t = ![(4 * t.val + 3) / 3, 0, (4 * t.val + 3) % 3] := by decide +kernel
theorem index8 : ∀ t : Fin grid0.N, win0_8.index t = ![0, 0, 0] := by decide +kernel

/-- Element b of tile i of a point's part of the incoming gradient, whatever the index is called. -/
theorem part_elem (i : Fin 4) (t : Fin cfg0.N) (r : Fin 2048) (b : Fin 256) (e : S1x3x2048x1024.Idx) (h0 : (e 0).val = 0 * 1 + 0)
    (h1 : (e 1).val = t.val * 1 + 0) (h2 : (e 2).val = 0 * 2048 + r.val) (h3 : (e 3).val = i.val * 256 + b.val) :
    V m c main_v3 e = argD m c (ix2 r ⟨t.val * 1024 + (i.val * 256 + b.val), by have := lt_points t; omega⟩) := by
  have ht := lt_points t
  refine (congrArg (V m c main_v3) (ix4_of e (a := (0 : Fin 1)) (b := (⟨t.val, ht⟩ : Fin 3)) (c := r) (d := (⟨i.val * 256 + b.val, by omega⟩ : Fin 1024)) h0
    (h1.trans (by show t.val * 1 + 0 = t.val; omega)) (h2.trans (by omega)) h3)).trans ?_
  rw [V_parts]
  exact Cert.Kernel7Ideal.Val.cut0_at (argD m c) _ _ _ _

/-- Element b of a point's tile i of the weight, whatever the index is called. -/
theorem weight_elem (i : Fin 4) (t : Fin cfg0.N) (k : Fin 1024) (b : Fin 256) (e : S4x1024x768.Idx) (h0 : (e 0).val = (4 * t.val + i.val) / 3 * 1 + 0)
    (h1 : (e 1).val = 0 * 1024 + k.val) (h2 : (e 2).val = (4 * t.val + i.val) % 3 * 256 + b.val) :
    V m c main_v6 e = argW m c (ix2 k ⟨t.val * 1024 + (i.val * 256 + b.val), by have := lt_points t; omega⟩) := by
  have ht := lt_points t
  refine (congrArg (V m c main_v6) (ix3_of e (a := (⟨(4 * t.val + i.val) / 3, by omega⟩ : Fin 4)) (b := k) (c := (⟨(4 * t.val + i.val) % 3 * 256 + b.val, by omega⟩ : Fin 768))
    (h0.trans (by show (4 * t.val + i.val) / 3 * 1 + 0 = (4 * t.val + i.val) / 3; omega)) (h1.trans (by omega)) h2)).trans ?_
  rw [V_shards]
  refine (Cert.Kernel6Ideal.Val.shards_at (argW m c) _ k _).trans (congrArg (argW m c) (ix2_of _ rfl ?_))
  show (4 * t.val + i.val) / 3 * 768 + ((4 * t.val + i.val) % 3 * 256 + b.val) = t.val * 1024 + (i.val * 256 + b.val)
  omega

/-- The summand of column n. -/
abbrev term (r : Fin 2048) (k : Fin 1024) (n : Fin 3072) : EReal := argD m c (ix2 r n) * argW m c (ix2 k n)

/-- A product, of a block's two elements. -/
abbrev times (x y : EReal) : EReal := x * y

/-! A tile's product of the two blocks, element by element. -/

theorem tile0_at (t : Fin cfg0.N) (r : Fin 2048) (k : Fin 1024) (b : Fin 256) :
    times (iblk m c 0 t (ix4 0 0 r b)) (iblk m c 1 t (ix3 0 k b)) = term m c r k ⟨t.val * 1024 + (0 * 256 + b.val), by have := lt_points t; omega⟩ :=
  congrArg₂ times
    ((read_slice_whole main_v3 (win0_0.rect t) (V m c main_v3) _).trans (part_elem m c 0 t r b _
      (at_block (index0 t) 0 (rect_emb_val win0_0 t _ 0 rfl) rfl) (at_block (index0 t) 1 (rect_emb_val win0_0 t _ 1 rfl) rfl)
      (at_block (index0 t) 2 (rect_emb_val win0_0 t _ 2 rfl) rfl) (at_block (index0 t) 3 (rect_emb_val win0_0 t _ 3 rfl) rfl)))
    ((read_slice_whole main_v6 (win0_1.rect t) (V m c main_v6) _).trans (weight_elem m c 0 t k b _
      (at_block (index1 t) 0 (rect_emb_val win0_1 t _ 0 rfl) rfl) (at_block (index1 t) 1 (rect_emb_val win0_1 t _ 1 rfl) rfl)
      (at_block (index1 t) 2 (rect_emb_val win0_1 t _ 2 rfl) rfl)))

theorem tile1_at (t : Fin cfg0.N) (r : Fin 2048) (k : Fin 1024) (b : Fin 256) :
    times (iblk m c 2 t (ix4 0 0 r b)) (iblk m c 3 t (ix3 0 k b)) = term m c r k ⟨t.val * 1024 + (1 * 256 + b.val), by have := lt_points t; omega⟩ :=
  congrArg₂ times
    ((read_slice_whole main_v3 (win0_2.rect t) (V m c main_v3) _).trans (part_elem m c 1 t r b _
      (at_block (index2 t) 0 (rect_emb_val win0_2 t _ 0 rfl) rfl) (at_block (index2 t) 1 (rect_emb_val win0_2 t _ 1 rfl) rfl)
      (at_block (index2 t) 2 (rect_emb_val win0_2 t _ 2 rfl) rfl) (at_block (index2 t) 3 (rect_emb_val win0_2 t _ 3 rfl) rfl)))
    ((read_slice_whole main_v6 (win0_3.rect t) (V m c main_v6) _).trans (weight_elem m c 1 t k b _
      (at_block (index3 t) 0 (rect_emb_val win0_3 t _ 0 rfl) rfl) (at_block (index3 t) 1 (rect_emb_val win0_3 t _ 1 rfl) rfl)
      (at_block (index3 t) 2 (rect_emb_val win0_3 t _ 2 rfl) rfl)))

theorem tile2_at (t : Fin cfg0.N) (r : Fin 2048) (k : Fin 1024) (b : Fin 256) :
    times (iblk m c 4 t (ix4 0 0 r b)) (iblk m c 5 t (ix3 0 k b)) = term m c r k ⟨t.val * 1024 + (2 * 256 + b.val), by have := lt_points t; omega⟩ :=
  congrArg₂ times
    ((read_slice_whole main_v3 (win0_4.rect t) (V m c main_v3) _).trans (part_elem m c 2 t r b _
      (at_block (index4 t) 0 (rect_emb_val win0_4 t _ 0 rfl) rfl) (at_block (index4 t) 1 (rect_emb_val win0_4 t _ 1 rfl) rfl)
      (at_block (index4 t) 2 (rect_emb_val win0_4 t _ 2 rfl) rfl) (at_block (index4 t) 3 (rect_emb_val win0_4 t _ 3 rfl) rfl)))
    ((read_slice_whole main_v6 (win0_5.rect t) (V m c main_v6) _).trans (weight_elem m c 2 t k b _
      (at_block (index5 t) 0 (rect_emb_val win0_5 t _ 0 rfl) rfl) (at_block (index5 t) 1 (rect_emb_val win0_5 t _ 1 rfl) rfl)
      (at_block (index5 t) 2 (rect_emb_val win0_5 t _ 2 rfl) rfl)))

theorem tile3_at (t : Fin cfg0.N) (r : Fin 2048) (k : Fin 1024) (b : Fin 256) :
    times (iblk m c 6 t (ix4 0 0 r b)) (iblk m c 7 t (ix3 0 k b)) = term m c r k ⟨t.val * 1024 + (3 * 256 + b.val), by have := lt_points t; omega⟩ :=
  congrArg₂ times
    ((read_slice_whole main_v3 (win0_6.rect t) (V m c main_v3) _).trans (part_elem m c 3 t r b _
      (at_block (index6 t) 0 (rect_emb_val win0_6 t _ 0 rfl) rfl) (at_block (index6 t) 1 (rect_emb_val win0_6 t _ 1 rfl) rfl)
      (at_block (index6 t) 2 (rect_emb_val win0_6 t _ 2 rfl) rfl) (at_block (index6 t) 3 (rect_emb_val win0_6 t _ 3 rfl) rfl)))
    ((read_slice_whole main_v6 (win0_7.rect t) (V m c main_v6) _).trans (weight_elem m c 3 t k b _
      (at_block (index7 t) 0 (rect_emb_val win0_7 t _ 0 rfl) rfl) (at_block (index7 t) 1 (rect_emb_val win0_7 t _ 1 rfl) rfl)
      (at_block (index7 t) 2 (rect_emb_val win0_7 t _ 2 rfl) rfl)))

/-- What a grid point adds: the columns of its part. -/
theorem part_at (t : Fin cfg0.N) (r : Fin 2048) (k : Fin 1024) :
    part m c t (ix2 r k) = ∑ l : Fin 1024, term m c r k ⟨t.val * 1024 + l.val, by have := lt_points t; omega⟩ := by
  have ht := lt_points t
  refine (pay4_at _ _ _ _ _ _ _ _ r k).trans ?_
  rw [← Fin.sum_mul_add_fin 4 256 (fun l : Fin 1024 => term m c r k ⟨t.val * 1024 + l.val, by omega⟩), Fin.sum_univ_four]
  refine congrArg₂ (fun x y : EReal => x + y) (congrArg₂ (fun x y : EReal => x + y) (congrArg₂ (fun x y : EReal => x + y) ?_ ?_) ?_) ?_
  · exact Finset.sum_congr rfl fun b _ => tile0_at m c t r k b
  · exact Finset.sum_congr rfl fun b _ => tile1_at m c t r k b
  · exact Finset.sum_congr rfl fun b _ => tile2_at m c t r k b
  · exact Finset.sum_congr rfl fun b _ => tile3_at m c t r k b

/-- What the last point stores: all columns. -/
theorem stored_at (z : Fin 1) (r : Fin 2048) (k : Fin 1024) :
    (outsAt0 m c 2 (by decide)).1 (ix3 z r k) = ∑ n : Fin 3072, term m c r k n := by
  rw [last, pay3_at, pay2_at, middle, pay2_at, first, pay1_at, part_at, part_at, part_at,
    ← Fin.sum_mul_add_fin 3 1024 (fun n : Fin 3072 => term m c r k n), Fin.sum_univ_three]
  rfl

theorem mem_blk8 (t : Fin cfg0.N) (i : S1x2048x1024.Idx) :
    i ∈ ((cfg0.win 8).blk t).view.set ↔ ∀ a : Fin 3, win0_8.index t a * S1x2048x1024.size a ≤ (i a).val ∧ (i a).val < win0_8.index t a * S1x2048x1024.size a + S1x2048x1024.size a := by
  show i ∈ ((View.whole main_v7).slice (win0_8.rect t)).set ↔ _
  rw [View.set_slice_whole, Rect.mem_set_unit]
  exact Iff.rfl

/-- The last point's block is the whole output. -/
theorem covered8 (i : S1x2048x1024.Idx) : ∃ t : Fin cfg0.N, (cfg0.win 8).flush t = true ∧ i ∈ ((cfg0.win 8).blk t).view.set := by
  have h0 : (i 0).val < 1 := (i 0).isLt
  have h1 : (i 1).val < 2048 := (i 1).isLt
  have h2 : (i 2).val < 1024 := (i 2).isLt
  refine ⟨⟨2, by decide⟩, (flush0_8 _).mpr (by decide), ?_⟩
  rw [mem_blk8, index8]
  intro a
  match a with
  | ⟨0, _⟩ => show 0 * 1 ≤ (i 0).val ∧ (i 0).val < 0 * 1 + 1; omega
  | ⟨1, _⟩ => show 0 * 2048 ≤ (i 1).val ∧ (i 1).val < 0 * 2048 + 2048; omega
  | ⟨2, _⟩ => show 0 * 1024 ≤ (i 2).val ∧ (i 2).val < 0 * 1024 + 1024; omega

theorem lt2 : 2 < cfg0.N := by decide

/-- The output array ends holding the gradient. -/
theorem array8 : (dats m 0 c).arrAt 8 cfg0.N = back (argW m c) (argD m c) := by
  refine Dat.arrAt_eq_of_cover (dats m 0 c) 8 (back (argW m c) (argD m c)) (fun t hf => ?_) covered8
  rw [Value.flushed8]
  have ht := lt_points t
  have hm := (flush0_8 t).mp hf
  obtain rfl : t = (⟨2, lt2⟩ : Fin cfg0.N) := Fin.ext (by show t.val = 2; omega)
  funext y
  have hy0 : (y 0).val < 1 := (y 0).isLt
  have hy1 : (y 1).val < 2048 := (y 1).isLt
  have hy2 : (y 2).val < 1024 := (y 2).isLt
  have hl : (cfg0.win 8).xinj (grid0.coords ⟨2, lt2⟩) y = ix3 (0 : Fin 1) (⟨(y 1).val, hy1⟩ : Fin 2048) (⟨(y 2).val, hy2⟩ : Fin 1024) :=
    ix3_of _ (by show (y 0).val = 0; omega) rfl rfl
  have hr : ((cfg0.win 8).blk ⟨2, lt2⟩).view.emb y = ix3 (0 : Fin 1) (⟨(y 1).val, hy1⟩ : Fin 2048) (⟨(y 2).val, hy2⟩ : Fin 1024) := by
    refine ix3_of _ (at_block (index8 ⟨2, lt2⟩) 0 (rect_emb_val win0_8 _ _ 0 rfl) ?_)
      (at_block (index8 ⟨2, lt2⟩) 1 (rect_emb_val win0_8 _ _ 1 rfl) ?_)
      (at_block (index8 ⟨2, lt2⟩) 2 (rect_emb_val win0_8 _ _ 2 rfl) ?_)
    · show 0 * 1 + (y 0).val = 0; omega
    · show 0 * 2048 + (y 1).val = (y 1).val; omega
    · show 0 * 1024 + (y 2).val = (y 2).val; omega
  show (outsAt0 m c 2 lt2).1 ((cfg0.win 8).xinj (grid0.coords ⟨2, lt2⟩) y) = back (argW m c) (argD m c) (((cfg0.win 8).blk ⟨2, lt2⟩).view.emb y)
  rw [hl, hr]
  exact stored_at m c _ _ _

/-- What the reference computes is the same gradient. -/
theorem reference_eq (W : FVec Ideal S1024x3072 .f32) (D : FVec Ideal S2048x3072 .f32) :
    (broadcastInDim Reference8Ideal.S1x2048x1024 ![1, 2] Reference8Ideal.Facts₀.bcast_S2048x1024_S1x2048x1024_1_2 (Host.dotGeneral (F := Ideal) Reference8Ideal.dot_S2048x3072_S1024x3072_S2048x1024_1_1_0_0_n_n none D W : FVec Ideal Reference8Ideal.S2048x1024 .f32) : FVec Ideal Reference8Ideal.S1x2048x1024 .f32)
      = back W D := by
  funext j
  have h0 : (j 0).val < 1 := (j 0).isLt
  have h1 : (j 1).val < 2048 := (j 1).isLt
  have h2 : (j 2).val < 1024 := (j 2).isLt
  rw [ix3_of j (a := ⟨(j 0).val, h0⟩) (b := ⟨(j 1).val, h1⟩) (c := ⟨(j 2).val, h2⟩) rfl rfl rfl]
  show _ = ∑ n : Fin 3072, D (ix2 ⟨(j 1).val, h1⟩ n) * W (ix2 ⟨(j 2).val, h2⟩ n)
  pointwise

/-- Kernel and reference, from equal arguments, both end with the gradient. -/
theorem equal : Cert.algebraic_Kernel8Ideal_Reference8Ideal := by
  intro m g m' g' _ hagree
  refine ⟨fun c => back (argW m c) (argD m c), (θ_run defs _ _).mono (fun _ h c => ⟨(h c).1.trans (array8 m c), (h c).2⟩) (Value.run_blocks m g),
    (θ_run Cert.Reference8Ideal.defs _ _).mono (fun _ h c => ⟨(h c).1.trans ?_, (h c).2⟩) (Cert.Reference8Ideal.Value.run m' g')⟩
  rw [(hagree c).1, (hagree c).2]
  exact reference_eq _ _

end Cert.Kernel8Ideal.Val

end
-- ==== Proof.Products.ProjDw.lean ====
/- The gradient of an output projection's weight: one product over the tokens per half of its columns. -/
module

public import proofs.«01_k».proof.Defs
public import proofs.«01_k».proof.Proof.Gen.Kernel9Ideal.Value
public import proofs.«01_k».proof.Proof.Gen.Reference9Ideal.Run
public import proofs.«01_k».proof.Proof.Products.Index
public import Idealize.ShloMosaic.Lib.Pipeline.ValueKit.Basic

@[expose] public section

set_option maxRecDepth 65536

noncomputable section

namespace Cert.Kernel9Ideal.Val

open Cert.Kernel9Ideal Cert.Kernel9Ideal.Gen Cert.Products Idealize.ShloMosaic Idealize.ShloMosaic.TcCoe Idealize.SL.Sem
open Idealize.ShloMosaic.Pipeline (Dat)

/-- The gradient: entry (a, b) sums, over the tokens, the activation in column a times the incoming gradient in column b. -/
def grad (O : FVec Ideal S2048x1024 .f32) (D : FVec Ideal S2048x1024 .f32) : FVec Ideal S1024x1024 .bf16 :=
  fun j => ∑ r : Fin 2048, O (ix2 r (j 0)) * D (ix2 r (j 1))

/-- What a grid point stores. -/
theorem block_at (x : Vec Ideal S2048x1024 .bf16) (y : Vec Ideal S2048x512 .bf16) (a : Fin 1024) (b : Fin 512) :
    out0_2 x y (ix2 a b) = ∑ r : Fin 2048, x (ix2 r a) * y (ix2 r b) := by
  unfold out0_2 r0_2 r0_0 r0_1
  rw [View.canon_cons_unit_lit _ _ _ (by decide), View.ld_unit_lit _ _ (by decide), View.ld_unit_lit _ _ (by decide)]
  pointwise [k0_pay1]

variable (m : (ℓ : Loc nD τ sig) → Buf (Elt Ideal) ℓ) (c : Dev nD)

abbrev argO : FVec Ideal S2048x1024 .f32 := m ((c.tc : Thread nD τ).loc main_arg0)
abbrev argD : FVec Ideal S2048x1024 .f32 := m ((c.tc : Thread nD τ).loc main_arg1)

theorem V_o : V m c main_v0 = truncf .bf16 (argO m c) bitsLt_bf16_f32 := by
  unfold V hostOps0
  after_results <;> rfl

theorem V_d : V m c main_v1 = truncf .bf16 (argD m c) bitsLt_bf16_f32 := by
  unfold V hostOps0
  after_results <;> rfl

/-! The block each window is at: the grid point is the half of the columns. -/

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel

theorem lt_points (t : Fin cfg0.N) : t.val < 2 := t.isLt

theorem blk0_at (t : Fin cfg0.N) (r : Fin 2048) (a : Fin 1024) : iblk m c 0 t (ix2 r a) = argO m c (ix2 r a) := by
  refine (read_slice_whole main_v0 (win0_0.rect t) (V m c main_v0) _).trans ((congrArg (V m c main_v0) (ix2_of _ (a := r) (b := a)
    (at_block (index0 t) 0 (Pipeline.Window.rect_emb_val win0_0 t _ 0 rfl) ?_)
    (at_block (index0 t) 1 (Pipeline.Window.rect_emb_val win0_0 t _ 1 rfl) ?_))).trans ?_)
  · show 0 * 2048 + r.val = r.val; omega
  · show 0 * 1024 + a.val = a.val; omega
  · rw [V_o]
    rfl

theorem blk1_at (t : Fin cfg0.N) (r : Fin 2048) (b : Fin 512) :
    iblk m c 1 t (ix2 r b) = argD m c (ix2 r ⟨t.val * 512 + b.val, by have := lt_points t; omega⟩) := by
  refine (read_slice_whole main_v1 (win0_1.rect t) (V m c main_v1) _).trans ((congrArg (V m c main_v1) (ix2_of _ (a := r) (b := ⟨t.val * 512 + b.val, by have := lt_points t; omega⟩)
    (at_block (index1 t) 0 (Pipeline.Window.rect_emb_val win0_1 t _ 0 rfl) ?_)
    (at_block (index1 t) 1 (Pipeline.Window.rect_emb_val win0_1 t _ 1 rfl) rfl))).trans ?_)
  · show 0 * 2048 + r.val = r.val; omega
  · rw [V_d]
    rfl

theorem mem_blk2 (t : Fin cfg0.N) (i : S1024x1024.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2).slice (win0_2.rect t)).set ↔ _
  rw [View.set_slice_whole, Rect.mem_set_unit]
  exact Iff.rfl

/-- Every element of the output lies in one of the halves. -/
theorem covered2 (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  have ht : (i 1).val / 512 < 2 := by omega
  refine ⟨⟨(i 1).val / 512, ht⟩, flush0_2 _, ?_⟩
  rw [mem_blk2, index2]
  intro a
  match a with
  | ⟨0, _⟩ => show 0 * 1024 ≤ (i 0).val ∧ (i 0).val < 0 * 1024 + 1024; omega
  | ⟨1, _⟩ => show (i 1).val / 512 * 512 ≤ (i 1).val ∧ (i 1).val < (i 1).val / 512 * 512 + 512; omega

/-- The output array ends holding the gradient. -/
theorem array2 : (dats m 0 c).arrAt 2 cfg0.N = grad (argO m c) (argD m c) := by
  refine Dat.arrAt_eq_of_cover (dats m 0 c) 2 (grad (argO m c) (argD m c)) (fun t _ => ?_) covered2
  rw [Value.flushed2]
  have ht := lt_points t
  funext y
  have hy0 : (y 0).val < 1024 := (y 0).isLt
  have hy1 : (y 1).val < 512 := (y 1).isLt
  have hl : (cfg0.win 2).xinj (grid0.coords t) y = ix2 (⟨(y 0).val, hy0⟩ : Fin 1024) (⟨(y 1).val, hy1⟩ : Fin 512) := ix2_of _ rfl rfl
  have hr : ((cfg0.win 2).blk t).view.emb y = ix2 (⟨(y 0).val, hy0⟩ : Fin 1024) (⟨t.val * 512 + (y 1).val, by omega⟩ : Fin 1024) := by
    refine ix2_of _ (at_block (index2 t) 0 (Pipeline.Window.rect_emb_val win0_2 t _ 0 rfl) ?_)
      (at_block (index2 t) 1 (Pipeline.Window.rect_emb_val win0_2 t _ 1 rfl) rfl)
    show 0 * 1024 + (y 0).val = (y 0).val
    omega
  show out0_2 (iblk m c 0 t) (iblk m c 1 t) ((cfg0.win 2).xinj (grid0.coords t) y) = grad (argO m c) (argD m c) (((cfg0.win 2).blk t).view.emb y)
  rw [hl, hr, block_at]
  exact Finset.sum_congr rfl fun r _ => congrArg₂ (fun x y : EReal => x * y) (blk0_at m c t r _) (blk1_at m c t r _)

/-- What the reference computes is the same gradient. -/
theorem reference_eq (O : FVec Ideal S2048x1024 .f32) (D : FVec Ideal S2048x1024 .f32) :
    (truncf .bf16 (transpose Reference9Ideal.S1024x1024 [1, 0] (Host.dotGeneral Reference9Ideal.dot_S2048x1024_S2048x1024_S1024x1024_0_0_1_1_n_n none D O) Reference9Ideal.Facts₀.transposes_S1024x1024_S1024x1024_1_0) Reference9Ideal.Facts₀.bitsLt_bf16_f32 : FVec Ideal Reference9Ideal.S1024x1024 .bf16)
      = grad O D := by
  funext j
  have h0 : (j 0).val < 1024 := (j 0).isLt
  have h1 : (j 1).val < 1024 := (j 1).isLt
  rw [ix2_of j (a := ⟨(j 0).val, h0⟩) (b := ⟨(j 1).val, h1⟩) rfl rfl]
  refine Eq.trans ?_ (Finset.sum_congr rfl fun r _ => mul_comm (D (ix2 r ⟨(j 1).val, h1⟩)) (O (ix2 r ⟨(j 0).val, h0⟩)))
  pointwise

/-- Kernel and reference, from equal arguments, both end with the gradient. -/
theorem equal : Cert.algebraic_Kernel9Ideal_Reference9Ideal := by
  intro m g m' g' _ hagree
  refine ⟨fun c => grad (argO m c) (argD m c), (θ_run defs _ _).mono (fun _ h c => ⟨(h c).1.trans (array2 m c), (h c).2⟩) (Value.run_blocks m g),
    (θ_run Cert.Reference9Ideal.defs _ _).mono (fun _ h c => ⟨(h c).1.trans ?_, (h c).2⟩) (Cert.Reference9Ideal.Value.run m' g')⟩
  rw [(hagree c).1, (hagree c).2]
  exact reference_eq _ _

end Cert.Kernel9Ideal.Val

end
-- ==== Proof.Products.ProjFwd.lean ====
/- The output projection's forward call: the product, and the residual plus the norm of the product's rows. -/
module

public import proofs.«01_k».proof.Defs
public import proofs.«01_k».proof.Proof.Gen.Kernel11Ideal.Value
public import proofs.«01_k».proof.Proof.Gen.Reference11Ideal.Run
public import proofs.«01_k».proof.Proof.Ffn.Value

@[expose] public section

set_option maxRecDepth 65536

noncomputable section

namespace Cert.Kernel11Ideal.Val

open Cert.Kernel11Ideal Cert.Kernel11Ideal.Gen Cert.Products Idealize.ShloMosaic Idealize.ShloMosaic.TcCoe Idealize.SL.Sem
open Idealize.ShloMosaic.Pipeline (Dat)
open Cert.Kernel10Ideal.Val (norm refNorm refNorm_at gain_at)

section Layer

variable (O : FVec Ideal S2048x1024 .f32) (W : FVec Ideal S1024x1024 .f32) (X : FVec Ideal S2048x1024 .f32) (G : FVec Ideal S1024 .f32)

/-- The product: entry (r, b). -/
def prod (r : Fin 2048) (b : Fin 1024) : EReal := ∑ k : Fin 1024, O (ix2 r k) * W (ix2 k b)

def prodArr : FVec Ideal S2048x1024 .f32 := fun j => prod O W (j 0) (j 1)
def outArr : FVec Ideal S2048x1024 .f32 := fun j => (X (ix2 (j 0) (j 1)) + norm (prod O W (j 0)) (fun k => G (ix1 k)) (j 1) : EReal)

end Layer

/-! What a point stores, from what it reads. -/

theorem pay1_at (x : Vec Ideal S512x1024 .bf16) (w : Vec Ideal S1024x1024 .bf16) (r : Fin 512) (b : Fin 1024) :
    k0_pay1 x w (ix2 r b) = ∑ k : Fin 1024, x (ix2 r k) * w (ix2 k b) := by
  pointwise [k0_pay1]

theorem pay2_at (x : Vec Ideal S512x1024 .bf16) (w : Vec Ideal S1024x1024 .bf16) (y : Vec Ideal S512x1024 .f32) (g : Vec Ideal S1x1024 .f32) (r : Fin 512) (b : Fin 1024) :
    k0_pay2 x w y g (ix2 r b) = (y (ix2 r b) + norm (fun k => k0_pay1 x w (ix2 r k)) (fun k => g (ix2 0 k)) b : EReal) := by
  unfold Kernel10Ideal.Val.norm
  pointwise [k0_pay2]

theorem block4_at (x : Vec Ideal S512x1024 .bf16) (w : Vec Ideal S1024x1024 .bf16) (y : Vec Ideal S512x1024 .f32) (g : Vec Ideal S1x1024 .f32) (r : Fin 512) (b : Fin 1024) :
    out0_4 x w y g (ix2 r b) = (y (ix2 r b) + norm (fun k => k0_pay1 x w (ix2 r k)) (fun k => g (ix2 0 k)) b : EReal) := by
  unfold out0_4 r0_0 r0_1 r0_2
  rw [View.canon_cons_unit_lit _ _ _ (by decide), View.ld_unit_lit _ _ (by decide), View.ld_unit_lit _ _ (by decide), View.ld_unit_lit _ _ (by decide), View.ld_unit_lit _ _ (by decide)]
  exact pay2_at x w y g r b

theorem block5_at (x : Vec Ideal S512x1024 .bf16) (w : Vec Ideal S1024x1024 .bf16) (y : Vec Ideal S512x1024 .f32) (g : Vec Ideal S1x1024 .f32) (r : Fin 512) (b : Fin 1024) :
    out0_5 x w y g (ix2 r b) = k0_pay1 x w (ix2 r b) := by
  unfold out0_5 r0_0 r0_1
  rw [View.canon_cons_unit_lit _ _ _ (by decide), View.ld_unit_lit _ _ (by decide), View.ld_unit_lit _ _ (by decide)]

variable (m : (ℓ : Loc nD τ sig) → Buf (Elt Ideal) ℓ) (c : Dev nD)

abbrev argO : FVec Ideal S2048x1024 .f32 := m ((c.tc : Thread nD τ).loc main_arg0)
abbrev argW : FVec Ideal S1024x1024 .f32 := m ((c.tc : Thread nD τ).loc main_arg1)
abbrev argX : FVec Ideal S2048x1024 .f32 := m ((c.tc : Thread nD τ).loc main_arg2)
abbrev argG : FVec Ideal S1024 .f32 := m ((c.tc : Thread nD τ).loc main_arg3)

theorem V_o : V m c main_v0 = truncf .bf16 (argO m c) bitsLt_bf16_f32 := by
  unfold V hostOps0
  after_results <;> rfl

theorem V_w : V m c main_v1 = truncf .bf16 (argW m c) bitsLt_bf16_f32 := by
  unfold V hostOps0
  after_results <;> rfl

theorem V_g : V m c main_v2 = shapeCast S1x1024 (argG m c) shapeCasts_S1024_S1x1024 := by
  unfold V hostOps0
  after_results <;> rfl

/-! The block each window is at: the grid point is the quarter of the rows. -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

theorem lt_points (t : Fin cfg0.N) : t.val < 4 := t.isLt

/-- The token of row `r` of quarter `n`. -/
def tok (n : ℕ) (r : Fin 512) : Fin 2048 := ⟨n % 4 * 512 + r.val, by omega⟩

/-- An element of a quarter's block. -/
theorem quarter {n : ℕ} (ht : n < 4) {f : Fin 2 → ℕ} (hf : f = ![n, 0]) (j : S2048x1024.Idx) (r : Fin 512) (b : Fin 1024)
    (h0 : (j 0).val = f 0 * 512 + r.val) (h1 : (j 1).val = f 1 * 1024 + b.val) : j = ix2 (tok n r) b := by
  refine ix2_of j (at_block hf 0 h0 ?_) (at_block hf 1 h1 ?_)
  · show n * 512 + r.val = n % 4 * 512 + r.val; omega
  · show 0 * 1024 + b.val = b.val; omega

theorem blk0_at (t : Fin cfg0.N) (r : Fin 512) (k : Fin 1024) : iblk m c 0 t (ix2 r k) = argO m c (ix2 (tok t.val r) k) := by
  refine (read_slice_whole main_v0 (win0_0.rect t) (V m c main_v0) _).trans ((congrArg (V m c main_v0) (quarter (lt_points t) (index0 t) _ r k
    (Pipeline.Window.rect_emb_val win0_0 t _ 0 rfl) (Pipeline.Window.rect_emb_val win0_0 t _ 1 rfl))).trans ?_)
  rw [V_o]
  rfl

theorem blk1_at (t : Fin cfg0.N) (k b : Fin 1024) : iblk m c 1 t (ix2 k b) = argW m c (ix2 k b) := by
  refine (read_slice_whole main_v1 (win0_1.rect t) (V m c main_v1) _).trans ((congrArg (V m c main_v1) (ix2_of _ (a := k) (b := b)
    (at_block (index1 t) 0 (Pipeline.Window.rect_emb_val win0_1 t _ 0 rfl) ?_)
    (at_block (index1 t) 1 (Pipeline.Window.rect_emb_val win0_1 t _ 1 rfl) ?_))).trans ?_)
  · show 0 * 1024 + k.val = k.val; omega
  · show 0 * 1024 + b.val = b.val; omega
  · rw [V_w]
    rfl

theorem blk2_at (t : Fin cfg0.N) (r : Fin 512) (k : Fin 1024) : iblk m c 2 t (ix2 r k) = argX m c (ix2 (tok t.val r) k) := by
  refine (read_slice_whole main_arg2 (win0_2.rect t) (V m c main_arg2) _).trans ((congrArg (V m c main_arg2) (quarter (lt_points t) (index2 t) _ r k
    (Pipeline.Window.rect_emb_val win0_2 t _ 0 rfl) (Pipeline.Window.rect_emb_val win0_2 t _ 1 rfl))).trans ?_)
  rw [V_main_arg2]

theorem blk3_at (t : Fin cfg0.N) (k : Fin 1024) : iblk m c 3 t (ix2 0 k) = argG m c (ix1 k) := by
  refine (read_slice_whole main_v2 (win0_3.rect t) (V m c main_v2) _).trans ((congrArg (V m c main_v2) (ix2_of _ (a := (0 : Fin 1)) (b := k)
    (at_block (index3 t) 0 (Pipeline.Window.rect_emb_val win0_3 t _ 0 rfl) rfl)
    (at_block (index3 t) 1 (Pipeline.Window.rect_emb_val win0_3 t _ 1 rfl) ?_))).trans ?_)
  · show 0 * 1024 + k.val = k.val; omega
  · rw [V_g]
    exact gain_at _ k

theorem pay1_eq (t : Fin cfg0.N) (r : Fin 512) (b : Fin 1024) : k0_pay1 (iblk m c 0 t) (iblk m c 1 t) (ix2 r b) = prod (argO m c) (argW m c) (tok t.val r) b :=
  (pay1_at _ _ r b).trans (Finset.sum_congr rfl fun k _ => congrArg₂ (fun x y : EReal => x * y) (blk0_at m c t r k) (blk1_at m c t k b))

/-- The quarter that an element's row is of. -/
def quarterPt (i : S2048x1024.Idx) : Fin cfg0.N := ⟨(i 0).val / 512, by have h : (i 0).val < 2048 := (i 0).isLt; show _ < 4; omega⟩

theorem quarter_cover (i : S2048x1024.Idx) {f : Fin 2 → ℕ} (hf : f = ![(i 0).val / 512, 0]) (a : Fin 2) :
    f a * S512x1024.size a ≤ (i a).val ∧ (i a).val < f a * S512x1024.size a + S512x1024.size a := by
  subst hf
  have h0 : (i 0).val < 2048 := (i 0).isLt
  have h1 : (i 1).val < 1024 := (i 1).isLt
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

theorem covered4 (i : S2048x1024.Idx) : ∃ t : Fin cfg0.N, (cfg0.win 4).flush t = true ∧ i ∈ ((cfg0.win 4).blk t).view.set := by
  refine ⟨quarterPt i, flush0_4 _, ?_⟩
  show i ∈ ((View.whole main_v3_0).slice (win0_4.rect (quarterPt i))).set
  rw [View.set_slice_whole, Rect.mem_set_unit]
  exact quarter_cover i (index4 _)

theorem covered5 (i : S2048x1024.Idx) : ∃ t : Fin cfg0.N, (cfg0.win 5).flush t = true ∧ i ∈ ((cfg0.win 5).blk t).view.set := by
  refine ⟨quarterPt i, flush0_5 _, ?_⟩
  show i ∈ ((View.whole main_v3_1).slice (win0_5.rect (quarterPt i))).set
  rw [View.set_slice_whole, Rect.mem_set_unit]
  exact quarter_cover i (index5 _)

theorem array4 : (dats m 0 c).arrAt 4 cfg0.N = outArr (argO m c) (argW m c) (argX m c) (argG m c) := by
  refine Dat.arrAt_eq_of_cover (dats m 0 c) 4 _ (fun t _ => ?_) covered4
  rw [Value.flushed4]
  funext y
  show out0_4 (iblk m c 0 t) (iblk m c 1 t) (iblk m c 2 t) (iblk m c 3 t) ((cfg0.win 4).xinj (grid0.coords t) y) = outArr _ _ _ _ (((cfg0.win 4).blk t).view.emb y)
  rw [show (cfg0.win 4).xinj (grid0.coords t) y = ix2 (⟨(y 0).val, (y 0).isLt⟩ : Fin 512) (⟨(y 1).val, (y 1).isLt⟩ : Fin 1024) from ix2_of _ rfl rfl,
    quarter (lt_points t) (index4 t) (((cfg0.win 4).blk t).view.emb y) ⟨(y 0).val, (y 0).isLt⟩ ⟨(y 1).val, (y 1).isLt⟩
      (Pipeline.Window.rect_emb_val win0_4 t _ 0 rfl) (Pipeline.Window.rect_emb_val win0_4 t _ 1 rfl), block4_at, blk2_at]
  refine congrArg (fun z : EReal => _ + z) ?_
  show norm _ _ _ = norm _ _ _
  congr 1
  · funext k; exact pay1_eq m c t _ k
  · funext k; exact blk3_at m c t k

theorem array5 : (dats m 0 c).arrAt 5 cfg0.N = prodArr (argO m c) (argW m c) := by
  refine Dat.arrAt_eq_of_cover (dats m 0 c) 5 _ (fun t _ => ?_) covered5
  rw [Value.flushed5]
  funext y
  show out0_5 (iblk m c 0 t) (iblk m c 1 t) (iblk m c 2 t) (iblk m c 3 t) ((cfg0.win 5).xinj (grid0.coords t) y) = prodArr _ _ (((cfg0.win 5).blk t).view.emb y)
  rw [show (cfg0.win 5).xinj (grid0.coords t) y = ix2 (⟨(y 0).val, (y 0).isLt⟩ : Fin 512) (⟨(y 1).val, (y 1).isLt⟩ : Fin 1024) from ix2_of _ rfl rfl,
    quarter (lt_points t) (index5 t) (((cfg0.win 5).blk t).view.emb y) ⟨(y 0).val, (y 0).isLt⟩ ⟨(y 1).val, (y 1).isLt⟩
      (Pipeline.Window.rect_emb_val win0_5 t _ 0 rfl) (Pipeline.Window.rect_emb_val win0_5 t _ 1 rfl), block5_at]
  exact pay1_eq m c t _ _

/-! The reference. -/

theorem refProd_at (O : FVec Ideal S2048x1024 .f32) (W : FVec Ideal S1024x1024 .f32) (r : Fin 2048) (b : Fin 1024) :
    (Host.dotGeneral Reference11Ideal.dot_S2048x1024_S1024x1024_S2048x1024_1_0_0_1_n_n none O W : FVec Ideal Reference11Ideal.S2048x1024 .f32) (ix2 r b) = prod O W r b := by
  unfold prod
  pointwise

theorem ref_prod (O : FVec Ideal S2048x1024 .f32) (W : FVec Ideal S1024x1024 .f32) :
    (Host.dotGeneral Reference11Ideal.dot_S2048x1024_S1024x1024_S2048x1024_1_0_0_1_n_n none O W : FVec Ideal Reference11Ideal.S2048x1024 .f32) = prodArr O W := by
  funext j
  rw [ix2_of j (a := (⟨(j 0).val, (j 0).isLt⟩ : Fin 2048)) (b := (⟨(j 1).val, (j 1).isLt⟩ : Fin 1024)) rfl rfl]
  exact refProd_at O W _ _

theorem ref_out (O : FVec Ideal S2048x1024 .f32) (W : FVec Ideal S1024x1024 .f32) (X : FVec Ideal S2048x1024 .f32) (G : FVec Ideal S1024 .f32) :
    addf X (refNorm (prodArr O W) G) = outArr O W X G := by
  funext j
  rw [ix2_of j (a := (⟨(j 0).val, (j 0).isLt⟩ : Fin 2048)) (b := (⟨(j 1).val, (j 1).isLt⟩ : Fin 1024)) rfl rfl]
  show (X _ + refNorm (prodArr O W) G _ : EReal) = _
  rw [refNorm_at]
  rfl

/-- Kernel and reference, from equal arguments, both end with the same two results. -/
theorem equal : Cert.algebraic_Kernel11Ideal_Reference11Ideal := by
  intro m g m' g' _ hagree
  refine ⟨fun c => outArr (argO m c) (argW m c) (argX m c) (argG m c), fun c => prodArr (argO m c) (argW m c),
    (θ_run defs _ _).mono (fun _ h c => ⟨(h c).1.trans (array4 m c), (h c).2.1.trans (array5 m c), (h c).2.2⟩) (Value.run_blocks m g),
    (θ_run Cert.Reference11Ideal.defs _ _).mono (fun _ h c => ⟨(h c).1.trans ?_, (h c).2.1.trans ?_, (h c).2.2⟩) (Cert.Reference11Ideal.Value.run m' g')⟩
  · rw [(hagree c).1, (hagree c).2.1, (hagree c).2.2.1, (hagree c).2.2.2]
    refine Eq.trans ?_ (ref_out _ _ _ _)
    rw [← ref_prod]
    rfl
  · rw [(hagree c).1, (hagree c).2.1]
    exact ref_prod _ _

end Cert.Kernel11Ideal.Val

end
-- ==== Proof.Products.NormBack.lean ====
/- The gradient through the norm of a row: the kernel's short form and the one that the rules of differentiation give. They
   are equal on all extended reals. -/
module

public import Idealize.ShloMosaic.PureOps.Ideal

@[expose] public section

noncomputable section

namespace Cert.Products

open Idealize.ShloMosaic

theorem bits_width : Ideal.ofBits .f32 0x44800000#32 = ((1024 : ℝ) : EReal) := by
  simp [Ideal.ofBits, Ideal.ieee]
  rw [← EReal.coe_mul]
  norm_num

theorem bits_half : Ideal.ofBits .f32 0xBF000000#32 = ((-(1 / 2) : ℝ) : EReal) := by
  simp [Ideal.ofBits, Ideal.ieee]
  rw [← EReal.coe_mul]
  norm_num

theorem bits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-- Dividing by the row's length. -/
theorem div_width (x : EReal) : Ideal.div x (Ideal.ofBits .f32 0x44800000#32) = x * ((1 / 1024 : ℝ) : EReal) := by
  rw [bits_width, Ideal.div_coe (by norm_num)]

/-- What the norm takes the inverse root of: a row's mean square and a little more. -/
def spread (v : Fin 1024 → EReal) : EReal := Ideal.div (∑ k, v k * v k) (Ideal.ofBits .f32 0x44800000#32) + Ideal.ofBits .f32 0x358637BD#32

/-- The factor by which the norm scales a row. -/
def scaleOf (v : Fin 1024 → EReal) : EReal := Ideal.rsqrt (spread v)

/-- The kernel's form: row `v`, gradient `t` (the gain already multiplied in). -/
def normBack (v t : Fin 1024 → EReal) (b : Fin 1024) : EReal :=
  scaleOf v * (t b - v b * scaleOf v * Ideal.div (∑ k, t k * (v k * scaleOf v)) (Ideal.ofBits .f32 0x44800000#32))

/-- What the rules give for the mean square, as each of the row's elements gets it, twice. -/
def squareBack (v t : Fin 1024 → EReal) : EReal :=
  Ideal.div ((∑ k, v k * t k) * (Ideal.ofBits .f32 0xBF000000#32 * Ideal.div (scaleOf v) (spread v))) (Ideal.ofBits .f32 0x44800000#32)

theorem mul_self_nonneg' (a : EReal) : 0 ≤ a * a := by
  rcases le_total 0 a with h | h
  · exact mul_nonneg h h
  · have := mul_nonneg (EReal.neg_nonneg.mpr h) (EReal.neg_nonneg.mpr h)
    rwa [EReal.neg_mul, mul_neg, neg_neg] at this

/-- The factor is a real, not negative, and divided by what it is the inverse root of, it is its own cube. -/
theorem scale_real (v : Fin 1024 → EReal) :
    ∃ r : ℝ, 0 ≤ r ∧ scaleOf v = (r : EReal) ∧ Ideal.div (scaleOf v) (spread v) = ((r * r * r : ℝ) : EReal) := by
  obtain ⟨e, he, hb⟩ := bits_eps
  have hs : 0 ≤ ∑ k, v k * v k := Finset.sum_nonneg fun k _ => mul_self_nonneg' _
  have hx : (e : EReal) ≤ spread v := by
    unfold spread
    rw [div_width, hb]
    exact le_add_of_nonneg_left (mul_nonneg hs (EReal.coe_nonneg.mpr (by norm_num)))
  unfold scaleOf
  generalize spread v = x at hx
  induction x with
  | bot => exact absurd hx (by simp)
  | top =>
    refine ⟨0, le_refl _, by simp, ?_⟩
    simp [Ideal.div]
  | coe x =>
    have hx0 : 0 < x := lt_of_lt_of_le he (EReal.coe_le_coe_iff.mp hx)
    have hr : Ideal.rsqrt (x : EReal) = (((Real.sqrt x)⁻¹ : ℝ) : EReal) := by
      rw [Ideal.rsqrt_coe, if_neg (not_lt.mpr hx0.le), if_neg hx0.ne']
    refine ⟨(Real.sqrt x)⁻¹, by positivity, hr, ?_⟩
    rw [hr, Ideal.div_coe hx0.ne', ← EReal.coe_mul]
    congr 1
    have hq : Real.sqrt x * Real.sqrt x = x := Real.mul_self_sqrt hx0.le
    rw [mul_assoc, ← mul_inv, hq, one_div]

/-- A real factor that is not negative goes through a sum. -/
theorem sum_mul_real {n : ℕ} (f : Fin n → EReal) {r : ℝ} (hr : 0 ≤ r) : ∑ k, f k * (r : EReal) = (∑ k, f k) * (r : EReal) := by
  have h : ∀ s : Finset (Fin n), ∑ k ∈ s, f k * (r : EReal) = (∑ k ∈ s, f k) * (r : EReal) := fun s => by
    induction s using Finset.induction_on with
    | empty => simp
    | insert a s ha ih =>
      rw [Finset.sum_insert ha, Finset.sum_insert ha, ih, mul_comm _ (r : EReal), mul_comm _ (r : EReal), mul_comm _ (r : EReal),
        EReal.left_distrib_of_nonneg_of_ne_top (EReal.coe_nonneg.mpr hr) (EReal.coe_ne_top r)]
  exact h _

/-- The two forms are equal. -/
theorem normBack_eq (v t : Fin 1024 → EReal) (b : Fin 1024) :
    (t b * scaleOf v + v b * squareBack v t) + squareBack v t * v b = normBack v t b := by
  obtain ⟨r, hr, hs, hd⟩ := scale_real v
  have hS : ∑ k, t k * (v k * scaleOf v) = (∑ k, v k * t k) * (r : EReal) := by
    rw [← sum_mul_real _ hr, hs]
    exact Finset.sum_congr rfl fun k _ => by rw [← mul_assoc, mul_comm (t k)]
  unfold normBack squareBack
  rw [hS, hd, hs, div_width, div_width, bits_half, ← EReal.coe_mul]
  generalize (∑ k, v k * t k) = S
  generalize v b = u
  generalize t b = w
  have hρ : (0 : ℝ) ≤ 1 / 2 * (r * r * r) * (1 / 1024) := by positivity
  have hq : u * (S * ((-(1 / 2) * (r * r * r) : ℝ) : EReal) * ((1 / 1024 : ℝ) : EReal))
      = ((1 / 2 * (r * r * r) * (1 / 1024) : ℝ) : EReal) * -(u * S) := by
    rw [mul_assoc S, ← EReal.coe_mul, ← mul_assoc, show (-(1 / 2) * (r * r * r) * (1 / 1024) : ℝ) = -(1 / 2 * (r * r * r) * (1 / 1024)) by ring,
      EReal.coe_neg, mul_neg, mul_neg, mul_comm]
  have hk : (r : EReal) * -(u * r * (S * r * ((1 / 1024 : ℝ) : EReal)))
      = ((1 / 2 * (r * r * r) * (1 / 1024) + 1 / 2 * (r * r * r) * (1 / 1024) : ℝ) : EReal) * -(u * S) := by
    rw [mul_neg, mul_neg]
    congr 1
    rw [show ((1 / 2 * (r * r * r) * (1 / 1024) + 1 / 2 * (r * r * r) * (1 / 1024) : ℝ) : EReal) = (r : EReal) * r * r * ((1 / 1024 : ℝ) : EReal) by
      rw [← EReal.coe_mul, ← EReal.coe_mul, ← EReal.coe_mul]; congr 1; ring]
    ac_rfl
  rw [sub_eq_add_neg, EReal.left_distrib_of_nonneg_of_ne_top (EReal.coe_nonneg.mpr hr) (EReal.coe_ne_top r), add_assoc, mul_comm _ u, hq, hk, EReal.coe_add,
    EReal.right_distrib_of_nonneg (EReal.coe_nonneg.mpr hρ) (EReal.coe_nonneg.mpr hρ), mul_comm w]

end Cert.Products

end
-- ==== Proof.Products.ProjBackRun.lean ====
/- The output projection's backward call after its forward call: the run, with what every array ends holding, and what the
   backward call finds. -/
module

public import proofs.«01_k».proof.Defs
public import proofs.«01_k».proof.Proof.Gen.Kernel12Ideal.Frame
public import proofs.«01_k».proof.Proof.Products.ProjFwd

@[expose] public section

set_option maxRecDepth 65536

noncomputable section

namespace Cert.Kernel12Ideal.Val

open Cert.Kernel12Ideal Cert.Kernel12Ideal.Gen Cert.Products Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel11Ideal.Val (prod prodArr tok quarter quarter_cover)

local notation "𝕄" => MT nD τ sig Unit (Elt Ideal) ℕ (UR sig nD τ) ℕ

variable (m : (ℓ : Loc nD τ sig) → Buf (Elt Ideal) ℓ) (g : Dev nD → PrngReg) (c : Dev nD)

set_option backward.isDefEq.respectTransparency.types false in
/-- The run over both calls: every array outside the calls' own buffers ends at its contents after the last segment. -/
theorem run_all : θ_run defs (onTc (τ := τ) (main (F := Ideal))) ⟨m, fun _ => 0, g⟩
    (fun r => ∀ c : Dev nD, ∀ b ∈ Pipeline.ucRefs τ sig, r.2.mem ((c : Thread nD τ).1, b) = W4 m g c b) := by
  refine Pipeline.θ_run_regions_kit_sems (pcfgs (F := Ideal)) adm (pdats m g) () cellOf_inj emb₁ defs₀ 𝒱₀ L lv m g main (segs m g)
    (fun c Q => by rw [main_run m g c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?start)
    (T₀ := fun c => iprop(StableHlo.held (c : Thread nD τ) (Pipeline.ucRefs τ sig) (W0 m g c) ∗ R c)) (Tₙ := Tₙ m g)
    (hch := ⟨fun _ => .rfl, fun _ => .rfl, fun _ => .rfl, fun _ => .rfl, fun _ => .rfl⟩)
    (hinit := Pipeline.initEach L lv fun c => ?init)
    (QY := fun c s => ∀ b ∈ Pipeline.ucRefs τ sig, s.mem ((c : Thread nD τ).1, b) = W4 m g c b)
    (hfin := fun c s' => ?fin)
    (hQ := fun s h _ => h)
  case start =>
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case init =>
    rw [show unscopedBufs c (fun b => m ((c : Thread nD τ).loc b)) = StableHlo.held (c : Thread nD τ) (Pipeline.ucRefs τ sig) (W0 m g c)
      from Pipeline.unscopedBufs_held c (W0 m g c)]
    iintro ⟨⟨Hh, -, HO, -, Hp, -⟩, -⟩
    imodintro
    isplitl [Hh]; · iexact Hh
    isplitl [Hp]; · iexists _; iexact Hp
    iexists ∅; iexact HO
  case fin =>
    iintro ⟨⟨Hh, -⟩, HSI⟩
    unfold StableHlo.held
    imodintro
    iapply (pointsTo_read_all (Pipeline.ucRefs τ sig) (fun b => ((c : Thread nD τ).1, b)) (W4 m g c) s')
    isplitl [Hh] <;> iassumption

/-- The three results by the backward call's arrays, and the arguments as they were. -/
theorem run : θ_run defs (onTc (τ := τ) (main (F := Ideal))) ⟨m, fun _ => 0, g⟩ (fun r => ∀ c : Dev nD,
      r.2.mem ((c.tc : Thread nD τ).loc main_v6_0) = (dat1 (V3 m g) c).arrAt 4 cfg1.N
      ∧ r.2.mem ((c.tc : Thread nD τ).loc main_v6_1) = (dat1 (V3 m g) c).arrAt 5 cfg1.N
      ∧ r.2.mem ((c.tc : Thread nD τ).loc main_v6_2) = (dat1 (V3 m g) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6_0 (by decide))).trans (W4_arr m g c 4), (h c _ (mem_uc main_v6_1 (by decide))).trans (W4_arr m g c 5),
      (h c _ (mem_uc main_v6_2 (by decide))).trans (W4_arr m g c 6), (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c), (h c _ (mem_uc main_arg4 (by decide))).trans (W4_main_arg4 m g c)⟩)
    (run_all m g)

abbrev argO : FVec Ideal S2048x1024 .f32 := m ((c.tc : Thread nD τ).loc main_arg0)
abbrev argW : FVec Ideal S1024x1024 .f32 := m ((c.tc : Thread nD τ).loc main_arg1)
abbrev argG : FVec Ideal S1024 .f32 := m ((c.tc : Thread nD τ).loc main_arg3)
abbrev argD : FVec Ideal S2048x1024 .f32 := m ((c.tc : Thread nD τ).loc main_arg4)

/-! The forward call: its product. -/

theorem V1_o : V1 m g c main_v0 = truncf .bf16 (argO m c) bitsLt_bf16_f32 := by
  show StableHlo.after hostOps0 (W0 m g c) _ = _
  unfold hostOps0
  after_results <;> rfl

theorem V1_w : V1 m g c main_v1 = truncf .bf16 (argW m c) bitsLt_bf16_f32 := by
  show StableHlo.after hostOps0 (W0 m g c) _ = _
  unfold hostOps0
  after_results <;> rfl

theorem indexF0 : ∀ t : Fin grid0.N, win0_0.index t = ![t.val, 0] := by decide +kernel
theorem indexF1 : ∀ t : Fin grid0.N, win0_1.index t = ![0, 0] := by decide +kernel
theorem indexF5 : ∀ t : Fin grid0.N, win0_5.index t = ![t.val, 0] := by decide +kernel

theorem lt_points0 (t : Fin cfg0.N) : t.val < 4 := t.isLt

theorem fwd0_at (t : Fin cfg0.N) (r : Fin 512) (k : Fin 1024) : iblk0 (V1 m g) c 0 t (ix2 r k) = argO m c (ix2 (tok t.val r) k) := by
  refine (read_slice_whole main_v0 (win0_0.rect t) (V1 m g c main_v0) _).trans ((congrArg (V1 m g c main_v0) (quarter (lt_points0 t) (indexF0 t) _ r k
    (Pipeline.Window.rect_emb_val win0_0 t _ 0 rfl) (Pipeline.Window.rect_emb_val win0_0 t _ 1 rfl))).trans ?_)
  rw [V1_o]
  rfl

theorem fwd1_at (t : Fin cfg0.N) (k b : Fin 1024) : iblk0 (V1 m g) c 1 t (ix2 k b) = argW m c (ix2 k b) := by
  refine (read_slice_whole main_v1 (win0_1.rect t) (V1 m g c main_v1) _).trans ((congrArg (V1 m g c main_v1) (ix2_of _ (a := k) (b := b)
    (at_block (indexF1 t) 0 (Pipeline.Window.rect_emb_val win0_1 t _ 0 rfl) ?_)
    (at_block (indexF1 t) 1 (Pipeline.Window.rect_emb_val win0_1 t _ 1 rfl) ?_))).trans ?_)
  · show 0 * 1024 + k.val = k.val; omega
  · show 0 * 1024 + b.val = b.val; omega
  · rw [V1_w]
    rfl

/-- The quarter that an element's row is of. -/
def fwdPt (i : S2048x1024.Idx) : Fin cfg0.N := ⟨(i 0).val / 512, by have h : (i 0).val < 2048 := (i 0).isLt; show _ < 4; omega⟩

theorem coveredF5 (i : S2048x1024.Idx) : ∃ t : Fin cfg0.N, (cfg0.win 5).flush t = true ∧ i ∈ ((cfg0.win 5).blk t).view.set := by
  refine ⟨fwdPt i, flush0_5 _, ?_⟩
  show i ∈ ((View.whole main_v3_1).slice (win0_5.rect (fwdPt i))).set
  rw [View.set_slice_whole, Rect.mem_set_unit]
  exact quarter_cover i (indexF5 _)

/-- The forward call's second array ends holding the product. -/
theorem arrayF5 : (dat0 (V1 m g) c).arrAt 5 cfg0.N = prodArr (argO m c) (argW m c) := by
  refine Dat.arrAt_eq_of_cover (dat0 (V1 m g) c) 5 _ (fun t _ => ?_) coveredF5
  show (cfg0.win 5).cut (grid0.coords t) ((dat0 (V1 m g) c).after 5 t) = _
  rw [after0_5]
  funext y
  show out0_5 (iblk0 (V1 m g) c 0 t) (iblk0 (V1 m g) c 1 t) (iblk0 (V1 m g) c 2 t) (iblk0 (V1 m g) c 3 t) ((cfg0.win 5).xinj (grid0.coords t) y) = prodArr _ _ (((cfg0.win 5).blk t).view.emb y)
  rw [show (cfg0.win 5).xinj (grid0.coords t) y = ix2 (⟨(y 0).val, (y 0).isLt⟩ : Fin 512) (⟨(y 1).val, (y 1).isLt⟩ : Fin 1024) from ix2_of _ rfl rfl,
    quarter (lt_points0 t) (indexF5 t) (((cfg0.win 5).blk t).view.emb y) ⟨(y 0).val, (y 0).isLt⟩ ⟨(y 1).val, (y 1).isLt⟩
      (Pipeline.Window.rect_emb_val win0_5 t _ 0 rfl) (Pipeline.Window.rect_emb_val win0_5 t _ 1 rfl)]
  refine (Cert.Kernel11Ideal.Val.block5_at (iblk0 (V1 m g) c 0 t) (iblk0 (V1 m g) c 1 t) (iblk0 (V1 m g) c 2 t) (iblk0 (V1 m g) c 3 t) _ _).trans ((Cert.Kernel11Ideal.Val.pay1_at _ _ _ _).trans ?_)
  exact Finset.sum_congr rfl fun k _ => congrArg₂ (fun x y : EReal => x * y) (fwd0_at m g c t _ k) (fwd1_at m g c t k _)

/-! What the backward call finds. -/

theorem V3_u : V3 m g c main_v3_1 = prodArr (argO m c) (argW m c) :=
  (W3_of m g c main_v3_1 (by decide)).trans ((W2_arr m g c 5).trans (arrayF5 m g c))

theorem V3_d : V3 m g c main_arg4 = argD m c := W3_args m g c main_arg4 (by decide)

theorem V3_g : V3 m g c main_v4 = shapeCast S1x1024 (argG m c) shapeCasts_S1024_S1x1024 := by
  have h : W2 m g c (Proc.devRef .tc main_arg3) = argG m c := W2_args m g c main_arg3 (by decide)
  show StableHlo.after hostOps1 (W2 m g c) _ = _
  rw [← h]
  unfold hostOps1
  after_results <;> rfl

theorem V3_w : V3 m g c main_v5 = truncf .bf16 (argW m c) bitsLt_bf16_f32 := by
  have h : W2 m g c (Proc.devRef .tc main_arg1) = argW m c := W2_args m g c main_arg1 (by decide)
  show StableHlo.after hostOps1 (W2 m g c) _ = _
  rw [← h]
  unfold hostOps1
  after_results <;> rfl

end Cert.Kernel12Ideal.Val

end
-- ==== Proof.Products.ProjBack.lean ====
/- The output projection's backward call after its forward call: the gradient through the norm, what goes back through the
   product, and the gain's gradient. -/
module

public import proofs.«01_k».proof.Defs
public import proofs.«01_k».proof.Proof.Gen.Reference12Ideal.Run
public import proofs.«01_k».proof.Proof.Products.NormBack
public import proofs.«01_k».proof.Proof.Products.ProjBackRun
public import Idealize.ShloMosaic.Lib.Pipeline.ValueKit.Basic
public import Idealize.ShloMosaic.Lib.Pipeline.ValueKit.Acc

@[expose] public section

set_option maxRecDepth 65536

noncomputable section

namespace Cert.Kernel12Ideal.Val

open Cert.Kernel12Ideal Cert.Kernel12Ideal.Gen Cert.Products Idealize.ShloMosaic Idealize.ShloMosaic.TcCoe Idealize.SL.Sem
open Idealize.ShloMosaic.Pipeline (Dat)
open Cert.Kernel10Ideal.Val (gain_at)
open Cert.Kernel11Ideal.Val (prod prodArr tok quarter quarter_cover)

section Layer

variable (O : FVec Ideal S2048x1024 .f32) (W : FVec Ideal S1024x1024 .f32) (G : FVec Ideal S1024 .f32) (D : FVec Ideal S2048x1024 .f32)

/-- The gradient of the product: row `r`, column `k`. -/
def grad (r : Fin 2048) (k : Fin 1024) : EReal := normBack (prod O W r) (fun j => D (ix2 r j) * G (ix1 j)) k

/-- What goes back through the product. -/
def back (r : Fin 2048) (b : Fin 1024) : EReal := ∑ k : Fin 1024, grad O W G D r k * W (ix2 b k)

/-- Row `r`'s part of the gain's gradient. -/
def gainTerm (b : Fin 1024) (r : Fin 2048) : EReal := D (ix2 r b) * (prod O W r b * scaleOf (prod O W r))

def gradArr : FVec Ideal S2048x1024 .bf16 := fun j => grad O W G D (j 0) (j 1)
def backArr : FVec Ideal S2048x1024 .f32 := fun j => back O W G D (j 0) (j 1)
def gainArr : FVec Ideal S1x1024 .f32 := fun j => (∑ r : Fin 2048, gainTerm O W D (j 1) r : EReal)

end Layer

/-! What a point stores, from what it reads. -/

theorem scale_at (u : Vec Ideal S512x1024 .f32) (r : Fin 512) : k1_pay3 u (ix2 r 0) = scaleOf (fun k => u (ix2 r k)) := by
  unfold scaleOf spread
  pointwise [k1_pay3, k1_pay2]

theorem scaled_at (u : Vec Ideal S512x1024 .f32) (r : Fin 512) (b : Fin 1024) :
    k1_pay4 u (ix2 r b) = (u (ix2 r b) * scaleOf (fun k => u (ix2 r k)) : EReal) := by
  have e : k1_pay4 u (ix2 r b) = (u (ix2 r b) * k1_pay3 u (ix2 r 0) : EReal) := by pointwise [k1_pay4, k1_pay2]
  rw [e, scale_at]

theorem grad_at (d u : Vec Ideal S512x1024 .f32) (w : Vec Ideal S1x1024 .f32) (r : Fin 512) (b : Fin 1024) :
    k1_pay5 d u w (ix2 r b) = normBack (fun k => u (ix2 r k)) (fun k => (d (ix2 r k) * w (ix2 0 k) : EReal)) b := by
  have e : k1_pay5 d u w (ix2 r b) = (k1_pay3 u (ix2 r 0) * (d (ix2 r b) * w (ix2 0 b) - k1_pay4 u (ix2 r b)
      * Ideal.div (∑ k : Fin 1024, d (ix2 r k) * w (ix2 0 k) * k1_pay4 u (ix2 r k)) (Ideal.ofBits .f32 0x44800000#32)) : EReal) := by
    pointwise [k1_pay5]
  rw [e, scale_at, scaled_at, Finset.sum_congr rfl fun k _ => congrArg (fun z : EReal => d (ix2 r k) * w (ix2 0 k) * z) (scaled_at u r k)]
  rfl

theorem back_at (d u : Vec Ideal S512x1024 .f32) (w : Vec Ideal S1x1024 .f32) (v : Vec Ideal S1024x1024 .bf16) (r : Fin 512) (b : Fin 1024) :
    k1_pay6 d u w v (ix2 r b) = (∑ k : Fin 1024, k1_pay5 d u w (ix2 r k) * v (ix2 b k) : EReal) := by
  pointwise [k1_pay6]

theorem gain_step (d : Vec Ideal S512x1024 .f32) (x : FVec Ideal S512x1024 .f32) (a : Vec Ideal S1x1024 .f32) (b : Fin 1024) :
    k1_pay1 d x a (ix2 0 b) = (a (ix2 0 b) + ∑ r : Fin 512, d (ix2 r b) * x (ix2 r b) : EReal) := by
  pointwise [k1_pay1]

theorem gain_zero (b : Fin 1024) : k1_pay7 (F := Ideal) (ix2 0 b) = (0 : EReal) := by
  pointwise [k1_pay7]

variable (m : (ℓ : Loc nD τ sig) → Buf (Elt Ideal) ℓ) (g : Dev nD → PrngReg) (c : Dev nD)

/-! The block each window is at: the grid point is the quarter of the rows. -/

theorem index0 : ∀ t : Fin grid1.N, win1_0.index t = ![t.val, 0] := by decide +kernel
theorem index1 : ∀ t : Fin grid1.N, win1_1.index t = ![t.val, 0] := by decide +kernel
theorem index2 : ∀ t : Fin grid1.N, win1_2.index t = ![0, 0] := by decide +kernel
theorem index3 : ∀ t : Fin grid1.N, win1_3.index t = ![0, 0] := by decide +kernel
theorem index4 : ∀ t : Fin grid1.N, win1_4.index t = ![t.val, 0] := by decide +kernel
theorem index5 : ∀ t : Fin grid1.N, win1_5.index t = ![t.val, 0] := by decide +kernel
theorem index6 : ∀ t : Fin grid1.N, win1_6.index t = ![0, 0] := by decide +kernel

theorem lt_points (t : Fin cfg1.N) : t.val < 4 := t.isLt
theorem lt3 : 3 < cfg1.N := by decide

theorem blk0_at (t : Fin cfg1.N) (r : Fin 512) (k : Fin 1024) : iblk1 (V3 m g) c 0 t (ix2 r k) = argD m c (ix2 (tok t.val r) k) := by
  refine (read_slice_whole main_arg4 (win1_0.rect t) (V3 m g c main_arg4) _).trans ((congrArg (V3 m g c main_arg4) (quarter (lt_points t) (index0 t) _ r k
    (Pipeline.Window.rect_emb_val win1_0 t _ 0 rfl) (Pipeline.Window.rect_emb_val win1_0 t _ 1 rfl))).trans ?_)
  rw [V3_d]

theorem blk1_at (t : Fin cfg1.N) (r : Fin 512) (k : Fin 1024) : iblk1 (V3 m g) c 1 t (ix2 r k) = prod (argO m c) (argW m c) (tok t.val r) k := by
  refine (read_slice_whole main_v3_1 (win1_1.rect t) (V3 m g c main_v3_1) _).trans ((congrArg (V3 m g c main_v3_1) (quarter (lt_points t) (index1 t) _ r k
    (Pipeline.Window.rect_emb_val win1_1 t _ 0 rfl) (Pipeline.Window.rect_emb_val win1_1 t _ 1 rfl))).trans ?_)
  rw [V3_u]
  rfl

theorem blk2_at (t : Fin cfg1.N) (k : Fin 1024) : iblk1 (V3 m g) c 2 t (ix2 0 k) = argG m c (ix1 k) := by
  refine (read_slice_whole main_v4 (win1_2.rect t) (V3 m g c main_v4) _).trans ((congrArg (V3 m g c main_v4) (ix2_of _ (a := (0 : Fin 1)) (b := k)
    (at_block (index2 t) 0 (Pipeline.Window.rect_emb_val win1_2 t _ 0 rfl) rfl)
    (at_block (index2 t) 1 (Pipeline.Window.rect_emb_val win1_2 t _ 1 rfl) ?_))).trans ?_)
  · show 0 * 1024 + k.val = k.val; omega
  · rw [V3_g]
    exact gain_at _ k

theorem blk3_at (t : Fin cfg1.N) (b k : Fin 1024) : iblk1 (V3 m g) c 3 t (ix2 b k) = argW m c (ix2 b k) := by
  refine (read_slice_whole main_v5 (win1_3.rect t) (V3 m g c main_v5) _).trans ((congrArg (V3 m g c main_v5) (ix2_of _ (a := b) (b := k)
    (at_block (index3 t) 0 (Pipeline.Window.rect_emb_val win1_3 t _ 0 rfl) ?_)
    (at_block (index3 t) 1 (Pipeline.Window.rect_emb_val win1_3 t _ 1 rfl) ?_))).trans ?_)
  · show 0 * 1024 + b.val = b.val; omega
  · show 0 * 1024 + k.val = k.val; omega
  · rw [V3_w]
    rfl

/-! What the points leave. -/

theorem left_du (t : Fin cfg1.N) : (outsAt1 (V3 m g) c t.val t.isLt).2.1 = k1_pay5 (iblk1 (V3 m g) c 0 t) (iblk1 (V3 m g) c 1 t) (iblk1 (V3 m g) c 2 t) := by
  by_cases h0 : t.val % 4 = 0
  · refine (congrArg (fun x => x.2.1) (outsAt1_A (V3 m g) c t h0)).trans ?_
    frame_out
  · refine (congrArg (fun x => x.2.1) (outsAt1_B (V3 m g) c t h0)).trans ?_
    frame_out

theorem left_do (t : Fin cfg1.N) : (outsAt1 (V3 m g) c t.val t.isLt).1 = k1_pay6 (iblk1 (V3 m g) c 0 t) (iblk1 (V3 m g) c 1 t) (iblk1 (V3 m g) c 2 t) (iblk1 (V3 m g) c 3 t) := by
  by_cases h0 : t.val % 4 = 0
  · refine (congrArg (fun x => x.1) (outsAt1_A (V3 m g) c t h0)).trans ?_
    frame_out
  · refine (congrArg (fun x => x.1) (outsAt1_B (V3 m g) c t h0)).trans ?_
    frame_out

theorem left_first (t : Fin cfg1.N) (h0 : t.val % 4 = 0) :
    (outsAt1 (V3 m g) c t.val t.isLt).2.2 = k1_pay1 (iblk1 (V3 m g) c 0 t) (k1_pay4 (iblk1 (V3 m g) c 1 t)) (k1_pay7 (F := Ideal)) := by
  refine (congrArg (fun x => x.2.2) (outsAt1_A (V3 m g) c t h0)).trans ?_
  frame_out

theorem left_next (t : Fin cfg1.N) (h0 : ¬t.val % 4 = 0) :
    (outsAt1 (V3 m g) c t.val t.isLt).2.2 = k1_pay1 (iblk1 (V3 m g) c 0 t) (k1_pay4 (iblk1 (V3 m g) c 1 t))
      (outsAt1 (V3 m g) c (t.val - 1) (Nat.lt_of_le_of_lt (Nat.sub_le _ _) t.isLt)).2.2 := by
  refine (congrArg (fun x => x.2.2) (outsAt1_B (V3 m g) c t h0)).trans ?_
  frame_out

theorem du_at (t : Fin cfg1.N) (r : Fin 512) (b : Fin 1024) : k1_pay5 (iblk1 (V3 m g) c 0 t) (iblk1 (V3 m g) c 1 t) (iblk1 (V3 m g) c 2 t) (ix2 r b)
    = grad (argO m c) (argW m c) (argG m c) (argD m c) (tok t.val r) b := by
  refine (grad_at _ _ _ r b).trans ?_
  unfold grad
  congr 1
  · funext k; exact blk1_at m g c t r k
  · funext k; exact congrArg₂ (fun x y : EReal => x * y) (blk0_at m g c t r k) (blk2_at m g c t k)

theorem do_at (t : Fin cfg1.N) (r : Fin 512) (b : Fin 1024) :
    k1_pay6 (iblk1 (V3 m g) c 0 t) (iblk1 (V3 m g) c 1 t) (iblk1 (V3 m g) c 2 t) (iblk1 (V3 m g) c 3 t) (ix2 r b)
    = back (argO m c) (argW m c) (argG m c) (argD m c) (tok t.val r) b :=
  (back_at _ _ _ _ r b).trans (Finset.sum_congr rfl fun k _ => congrArg₂ (fun x y : EReal => x * y) (du_at m g c t r k) (blk3_at m g c t b k))

/-- A quarter's part of the gain's gradient. -/
def part (n : ℕ) (b : Fin 1024) : EReal := ∑ r : Fin 512, gainTerm (argO m c) (argW m c) (argD m c) b (tok n r)

theorem part_at (t : Fin cfg1.N) (a : Vec Ideal S1x1024 .f32) (b : Fin 1024) :
    k1_pay1 (iblk1 (V3 m g) c 0 t) (k1_pay4 (iblk1 (V3 m g) c 1 t)) a (ix2 0 b) = (a (ix2 0 b) + part m c t.val b : EReal) := by
  refine (gain_step _ _ _ b).trans (congrArg (fun z : EReal => a (ix2 0 b) + z) (Finset.sum_congr rfl fun r _ => ?_))
  unfold gainTerm
  refine congrArg₂ (fun x y : EReal => x * y) (blk0_at m g c t r b) ((scaled_at _ r b).trans (congrArg₂ (fun x y : EReal => x * y) (blk1_at m g c t r b) ?_))
  exact congrArg scaleOf (funext fun k => blk1_at m g c t r k)

/-- After point `n` the gain's gradient holds the parts up to it. -/
theorem upto (b : Fin 1024) (n : ℕ) (hn : n < cfg1.N) : (outsAt1 (V3 m g) c n hn).2.2 (ix2 0 b) = (∑ i ∈ Finset.range (n + 1), part m c i b : EReal) := by
  induction n with
  | zero =>
    rw [left_first m g c ⟨0, hn⟩ rfl, part_at, gain_zero, zero_add, Finset.sum_range_one]
  | succ n ih =>
    have h4 : n + 1 < 4 := hn
    rw [left_next m g c ⟨n + 1, hn⟩ (by show ¬(n + 1) % 4 = 0; omega), part_at, Finset.sum_range_succ]
    exact congrArg (fun z : EReal => z + _) (ih (Nat.lt_of_succ_lt hn))

theorem whole_gain (b : Fin 1024) : (outsAt1 (V3 m g) c 3 lt3).2.2 (ix2 0 b) = (∑ r : Fin 2048, gainTerm (argO m c) (argW m c) (argD m c) b r : EReal) := by
  rw [upto, Finset.sum_range, ← Fin.sum_mul_add_fin 4 512 (fun r : Fin 2048 => gainTerm (argO m c) (argW m c) (argD m c) b r)]
  refine Finset.sum_congr rfl fun i _ => Finset.sum_congr rfl fun r _ => congrArg (gainTerm (argO m c) (argW m c) (argD m c) b) (Fin.ext ?_)
  have hi := i.isLt
  show i.val % 4 * 512 + r.val = i.val * 512 + r.val
  omega

/-! The call's arrays. -/

/-- The quarter that an element's row is of. -/
def quarterPt (i : S2048x1024.Idx) : Fin cfg1.N := ⟨(i 0).val / 512, by have h : (i 0).val < 2048 := (i 0).isLt; show _ < 4; omega⟩

theorem covered4 (i : S2048x1024.Idx) : ∃ t : Fin cfg1.N, (cfg1.win 4).flush t = true ∧ i ∈ ((cfg1.win 4).blk t).view.set := by
  refine ⟨quarterPt i, flush1_4 _, ?_⟩
  show i ∈ ((View.whole main_v6_0).slice (win1_4.rect (quarterPt i))).set
  rw [View.set_slice_whole, Rect.mem_set_unit]
  exact quarter_cover i (index4 _)

theorem covered5 (i : S2048x1024.Idx) : ∃ t : Fin cfg1.N, (cfg1.win 5).flush t = true ∧ i ∈ ((cfg1.win 5).blk t).view.set := by
  refine ⟨quarterPt i, flush1_5 _, ?_⟩
  show i ∈ ((View.whole main_v6_1).slice (win1_5.rect (quarterPt i))).set
  rw [View.set_slice_whole, Rect.mem_set_unit]
  exact quarter_cover i (index5 _)

theorem covered6 (i : S1x1024.Idx) : ∃ t : Fin cfg1.N, (cfg1.win 6).flush t = true ∧ i ∈ ((cfg1.win 6).blk t).view.set := by
  refine ⟨⟨3, lt3⟩, (flush1_6 _).mpr rfl, ?_⟩
  show i ∈ ((View.whole main_v6_2).slice (win1_6.rect ⟨3, lt3⟩)).set
  rw [View.set_slice_whole, Rect.mem_set_unit]
  intro a
  show win1_6.index ⟨3, lt3⟩ a * S1x1024.size a ≤ (i a).val ∧ (i a).val < win1_6.index ⟨3, lt3⟩ a * S1x1024.size a + S1x1024.size a
  rw [index6]
  have h0 : (i 0).val < 1 := (i 0).isLt
  have h1 : (i 1).val < 1024 := (i 1).isLt
  match a with
  | ⟨0, _⟩ => show 0 * 1 ≤ (i 0).val ∧ (i 0).val < 0 * 1 + 1; omega
  | ⟨1, _⟩ => show 0 * 1024 ≤ (i 1).val ∧ (i 1).val < 0 * 1024 + 1024; omega

theorem array4 : (dat1 (V3 m g) c).arrAt 4 cfg1.N = backArr (argO m c) (argW m c) (argG m c) (argD m c) := by
  refine Dat.arrAt_eq_of_cover (dat1 (V3 m g) c) 4 _ (fun t _ => ?_) covered4
  show (cfg1.win 4).cut (grid1.coords t) ((dat1 (V3 m g) c).after 4 t) = _
  rw [after1_4, left_do]
  funext y
  show k1_pay6 _ _ _ _ ((cfg1.win 4).xinj (grid1.coords t) y) = backArr _ _ _ _ (((cfg1.win 4).blk t).view.emb y)
  rw [show (cfg1.win 4).xinj (grid1.coords t) y = ix2 (⟨(y 0).val, (y 0).isLt⟩ : Fin 512) (⟨(y 1).val, (y 1).isLt⟩ : Fin 1024) from ix2_of _ rfl rfl,
    quarter (lt_points t) (index4 t) (((cfg1.win 4).blk t).view.emb y) ⟨(y 0).val, (y 0).isLt⟩ ⟨(y 1).val, (y 1).isLt⟩
      (Pipeline.Window.rect_emb_val win1_4 t _ 0 rfl) (Pipeline.Window.rect_emb_val win1_4 t _ 1 rfl)]
  exact do_at m g c t _ _

theorem array5 : (dat1 (V3 m g) c).arrAt 5 cfg1.N = gradArr (argO m c) (argW m c) (argG m c) (argD m c) := by
  refine Dat.arrAt_eq_of_cover (dat1 (V3 m g) c) 5 _ (fun t _ => ?_) covered5
  show (cfg1.win 5).cut (grid1.coords t) ((dat1 (V3 m g) c).after 5 t) = _
  rw [after1_5, left_du]
  funext y
  show k1_pay5 _ _ _ ((cfg1.win 5).xinj (grid1.coords t) y) = gradArr _ _ _ _ (((cfg1.win 5).blk t).view.emb y)
  rw [show (cfg1.win 5).xinj (grid1.coords t) y = ix2 (⟨(y 0).val, (y 0).isLt⟩ : Fin 512) (⟨(y 1).val, (y 1).isLt⟩ : Fin 1024) from ix2_of _ rfl rfl,
    quarter (lt_points t) (index5 t) (((cfg1.win 5).blk t).view.emb y) ⟨(y 0).val, (y 0).isLt⟩ ⟨(y 1).val, (y 1).isLt⟩
      (Pipeline.Window.rect_emb_val win1_5 t _ 0 rfl) (Pipeline.Window.rect_emb_val win1_5 t _ 1 rfl)]
  exact du_at m g c t _ _

/-- The gain's gradient is written back after the last point. -/
theorem array6 : (dat1 (V3 m g) c).arrAt 6 cfg1.N = gainArr (argO m c) (argW m c) (argD m c) := by
  refine Dat.arrAt_eq_of_cover (dat1 (V3 m g) c) 6 _ (fun t hf => ?_) covered6
  have hm := (flush1_6 t).mp hf
  have ht := lt_points t
  obtain rfl : t = (⟨3, lt3⟩ : Fin cfg1.N) := Fin.ext (by show t.val = 3; omega)
  show (cfg1.win 6).cut (grid1.coords ⟨3, lt3⟩) ((dat1 (V3 m g) c).after 6 ⟨3, lt3⟩) = _
  rw [after1_6]
  funext y
  have hy0 : (y 0).val < 1 := (y 0).isLt
  have hy1 : (y 1).val < 1024 := (y 1).isLt
  have hl : (cfg1.win 6).xinj (grid1.coords ⟨3, lt3⟩) y = ix2 (0 : Fin 1) (⟨(y 1).val, hy1⟩ : Fin 1024) := ix2_of _ (by show (y 0).val = 0; omega) rfl
  have hr : ((cfg1.win 6).blk ⟨3, lt3⟩).view.emb y = ix2 (0 : Fin 1) (⟨(y 1).val, hy1⟩ : Fin 1024) := by
    refine ix2_of _ (at_block (index6 ⟨3, lt3⟩) 0 (Pipeline.Window.rect_emb_val win1_6 _ _ 0 rfl) ?_)
      (at_block (index6 ⟨3, lt3⟩) 1 (Pipeline.Window.rect_emb_val win1_6 _ _ 1 rfl) ?_)
    · show 0 * 1 + (y 0).val = 0; omega
    · show 0 * 1024 + (y 1).val = (y 1).val; omega
  show (outsAt1 (V3 m g) c 3 lt3).2.2 ((cfg1.win 6).xinj (grid1.coords ⟨3, lt3⟩) y) = gainArr _ _ _ (((cfg1.win 6).blk ⟨3, lt3⟩).view.emb y)
  rw [hl, hr]
  exact whole_gain m g c _

end Cert.Kernel12Ideal.Val

end
-- ==== Proof.Products.ProjBackEq.lean ====
/- The output projection's backward call after its forward call: what the reference computes, and the equality. -/
module

public import proofs.«01_k».proof.Defs
public import proofs.«01_k».proof.Proof.Products.ProjBack

@[expose] public section

set_option maxRecDepth 65536

noncomputable section

namespace Cert.Kernel12Ideal.Val

open Cert.Kernel12Ideal Cert.Kernel12Ideal.Gen Cert.Products Idealize.ShloMosaic Idealize.ShloMosaic.TcCoe Idealize.SL.Sem
open Cert.Kernel11Ideal.Val (prod prodArr refProd_at)

section Reference

variable (U D : FVec Ideal Reference12Ideal.S2048x1024 .f32) (G : FVec Ideal Reference12Ideal.S1024 .f32)

open Reference12Ideal.Facts₀ in
/-- The reference's mean squares and a little more. -/
def refSpread : FVec Ideal Reference12Ideal.S2048x1 .f32 :=
  addf (Host.divf (broadcastInDim Reference12Ideal.S2048x1 ![0] bcast_S2048_S2048x1_0 (Host.reduceAdd (mulf U U) (constant Reference12Ideal.S_ .f32 0x00000000#32) reducesTo_S2048x1024_S2048_d1 h_S_))
    (broadcastInDim Reference12Ideal.S2048x1 ![] bcast_S_S2048x1 (constant Reference12Ideal.S_ .f32 0x44800000#32))) (broadcastInDim Reference12Ideal.S2048x1 ![] bcast_S_S2048x1 (constant Reference12Ideal.S_ .f32 0x358637BD#32))

open Reference12Ideal.Facts₀ in
/-- The incoming gradient with the gain multiplied in. -/
def refGained : FVec Ideal Reference12Ideal.S2048x1024 .f32 :=
  mulf D (broadcastInDim Reference12Ideal.S2048x1024 ![0, 1] bcast_S1x1024_S2048x1024_0_1 (broadcastInDim Reference12Ideal.S1x1024 ![1] bcast_S1024_S1x1024_1 G))

open Reference12Ideal.Facts₀ in
/-- What each element of a row gets from the mean square, twice. -/
def refSquare (T : FVec Ideal Reference12Ideal.S2048x1024 .f32) : FVec Ideal Reference12Ideal.S2048x1024 .f32 :=
  broadcastInDim Reference12Ideal.S2048x1024 ![0] bcast_S2048_S2048x1024_0 (Host.reduceAdd (Host.divf
    (mulf (shapeCast Reference12Ideal.S2048x1 (Host.reduceAdd (mulf U T) (constant Reference12Ideal.S_ .f32 0x00000000#32) reducesTo_S2048x1024_S2048_d1 h_S_) shapeCasts_S2048_S2048x1)
      (mulf (broadcastInDim Reference12Ideal.S2048x1 ![] bcast_S_S2048x1 (constant Reference12Ideal.S_ .f32 0xBF000000#32)) (Host.divf (Host.rsqrt (refSpread U)) (refSpread U))))
    (broadcastInDim Reference12Ideal.S2048x1 ![] bcast_S_S2048x1 (constant Reference12Ideal.S_ .f32 0x44800000#32))) (constant Reference12Ideal.S_ .f32 0x00000000#32) reducesTo_S2048x1_S2048_d1 h_S_)

open Reference12Ideal.Facts₀ in
/-- The reference's gradient of the product. -/
def refGrad : FVec Ideal Reference12Ideal.S2048x1024 .f32 :=
  addf (addf (mulf (refGained D G) (broadcastInDim Reference12Ideal.S2048x1024 ![0, 1] bcast_S2048x1_S2048x1024_0_1 (Host.rsqrt (refSpread U))))
    (mulf U (refSquare U (refGained D G)))) (mulf (refSquare U (refGained D G)) U)

open Reference12Ideal.Facts₀ in
/-- The reference's gradient of the gain. -/
def refGain : FVec Ideal Reference12Ideal.S1x1024 .f32 :=
  shapeCast Reference12Ideal.S1x1024 (Host.reduceAdd (shapeCast Reference12Ideal.S1x1024 (Host.reduceAdd
    (mulf (mulf U (broadcastInDim Reference12Ideal.S2048x1024 ![0, 1] bcast_S2048x1_S2048x1024_0_1 (Host.rsqrt (refSpread U)))) D)
    (constant Reference12Ideal.S_ .f32 0x00000000#32) reducesTo_S2048x1024_S1024_d0 h_S_) Reference12Ideal.Facts₀.shapeCasts_S1024_S1x1024)
    (constant Reference12Ideal.S_ .f32 0x00000000#32) reducesTo_S1x1024_S1024_d0 h_S_) Reference12Ideal.Facts₀.shapeCasts_S1024_S1x1024

theorem refSpread_at (r : Fin 2048) : refSpread U (ix2 r 0) = spread (fun k => U (ix2 r k)) := by
  unfold refSpread spread
  pointwise

theorem refGained_at (r : Fin 2048) (k : Fin 1024) : refGained D G (ix2 r k) = (D (ix2 r k) * G (ix1 k) : EReal) := by
  unfold refGained
  pointwise

theorem refSquare_at (T : FVec Ideal Reference12Ideal.S2048x1024 .f32) (r : Fin 2048) (k : Fin 1024) :
    refSquare U T (ix2 r k) = squareBack (fun k => U (ix2 r k)) (fun k => T (ix2 r k)) := by
  have e : refSquare U T (ix2 r k) = Ideal.div ((∑ k : Fin 1024, U (ix2 r k) * T (ix2 r k))
      * (Ideal.ofBits .f32 0xBF000000#32 * Ideal.div (Ideal.rsqrt (refSpread U (ix2 r 0))) (refSpread U (ix2 r 0)))) (Ideal.ofBits .f32 0x44800000#32) := by
    unfold refSquare
    pointwise
    exact Fin.sum_univ_one _
  rw [e, refSpread_at]
  rfl

theorem refGrad_at (r : Fin 2048) (k : Fin 1024) :
    refGrad U D G (ix2 r k) = normBack (fun k => U (ix2 r k)) (fun k => (D (ix2 r k) * G (ix1 k) : EReal)) k := by
  have e : refGrad U D G (ix2 r k) = ((refGained D G (ix2 r k) * Ideal.rsqrt (refSpread U (ix2 r 0)) + U (ix2 r k) * refSquare U (refGained D G) (ix2 r k))
      + refSquare U (refGained D G) (ix2 r k) * U (ix2 r k) : EReal) := by
    unfold refGrad
    pointwise
  rw [e, refSpread_at, refSquare_at, refGained_at, show (fun k => refGained D G (ix2 r k)) = (fun k => (D (ix2 r k) * G (ix1 k) : EReal)) from funext fun k => refGained_at D G r k]
  exact normBack_eq (fun k => U (ix2 r k)) (fun k => (D (ix2 r k) * G (ix1 k) : EReal)) k

theorem refGain_at (b : Fin 1024) :
    refGain U D (ix2 0 b) = (∑ r : Fin 2048, D (ix2 r b) * (U (ix2 r b) * scaleOf (fun k => U (ix2 r k))) : EReal) := by
  have e : refGain U D (ix2 0 b) = (∑ r : Fin 2048, U (ix2 r b) * Ideal.rsqrt (refSpread U (ix2 r 0)) * D (ix2 r b) : EReal) := by
    unfold refGain
    pointwise
    exact Fin.sum_univ_one _
  rw [e]
  refine Finset.sum_congr rfl fun r _ => ?_
  rw [refSpread_at, mul_comm]
  rfl

end Reference

section Whole

variable (O : FVec Ideal S2048x1024 .f32) (W : FVec Ideal S1024x1024 .f32) (G : FVec Ideal S1024 .f32) (D : FVec Ideal S2048x1024 .f32)

/-- The reference's product. -/
def refProd : FVec Ideal Reference12Ideal.S2048x1024 .f32 :=
  Host.dotGeneral Reference12Ideal.dot_S2048x1024_S1024x1024_S2048x1024_1_0_0_1_n_n none O W

theorem refProd_row (r : Fin 2048) : (fun k => refProd O W (ix2 r k)) = prod O W r := funext fun k => refProd_at O W r k

theorem ref_grad_at (r : Fin 2048) (k : Fin 1024) : refGrad (refProd O W) D G (ix2 r k) = grad O W G D r k := by
  rw [refGrad_at, refProd_row]
  rfl

theorem ref_grad : truncf .bf16 (refGrad (refProd O W) D G) bitsLt_bf16_f32 = gradArr O W G D := by
  funext j
  rw [ix2_of j (a := (⟨(j 0).val, (j 0).isLt⟩ : Fin 2048)) (b := (⟨(j 1).val, (j 1).isLt⟩ : Fin 1024)) rfl rfl]
  exact ref_grad_at O W G D _ _

theorem ref_back : (Host.dotGeneral Reference12Ideal.dot_S2048x1024_S1024x1024_S2048x1024_1_1_0_0_n_n none (refGrad (refProd O W) D G) W : FVec Ideal Reference12Ideal.S2048x1024 .f32)
    = backArr O W G D := by
  funext j
  rw [ix2_of j (a := (⟨(j 0).val, (j 0).isLt⟩ : Fin 2048)) (b := (⟨(j 1).val, (j 1).isLt⟩ : Fin 1024)) rfl rfl]
  have e : ∀ (A : FVec Ideal Reference12Ideal.S2048x1024 .f32) (r : Fin 2048) (b : Fin 1024),
      (Host.dotGeneral Reference12Ideal.dot_S2048x1024_S1024x1024_S2048x1024_1_1_0_0_n_n none A W : FVec Ideal Reference12Ideal.S2048x1024 .f32) (ix2 r b)
        = (∑ k : Fin 1024, A (ix2 r k) * W (ix2 b k) : EReal) := fun A r b => by pointwise
  exact (e _ _ _).trans (Finset.sum_congr rfl fun k _ => congrArg (fun z : EReal => z * _) (ref_grad_at O W G D _ k))

theorem ref_gain : refGain (refProd O W) D = gainArr O W D := by
  funext j
  have h0 : (j 0).val < 1 := (j 0).isLt
  rw [ix2_of j (a := (0 : Fin 1)) (b := (⟨(j 1).val, (j 1).isLt⟩ : Fin 1024)) (by show (j 0).val = 0; omega) rfl, refGain_at]
  refine Finset.sum_congr rfl fun r _ => ?_
  rw [refProd_row]
  exact congrArg (fun z : EReal => D _ * (z * _)) (refProd_at O W r _)

end Whole

/-- Kernel and reference, from equal arguments, both end with the same three results. -/
theorem equal : Cert.algebraic_Kernel12Ideal_Reference12Ideal := by
  intro m g m' g' _ hagree
  refine ⟨fun c => backArr (argO m c) (argW m c) (argG m c) (argD m c), fun c => gradArr (argO m c) (argW m c) (argG m c) (argD m c), fun c => gainArr (argO m c) (argW m c) (argD m c),
    (θ_run defs _ _).mono (fun _ h c => ⟨(h c).1.trans (array4 m g c), (h c).2.1.trans (array5 m g c), (h c).2.2.1.trans (array6 m g c), (h c).2.2.2⟩) (run m g),
    (θ_run Cert.Reference12Ideal.defs _ _).mono (fun _ h c => ⟨(h c).1.trans ?_, (h c).2.1.trans ?_, (h c).2.2.1.trans ?_, (h c).2.2.2⟩) (Cert.Reference12Ideal.Value.run m' g')⟩
  · unfold Reference12Ideal.Value.res_main_v37
    rw [(hagree c).1, (hagree c).2.1, (hagree c).2.2.2.1, (hagree c).2.2.2.2]
    exact ref_back _ _ _ _
  · unfold Reference12Ideal.Value.res_main_v38
    rw [(hagree c).1, (hagree c).2.1, (hagree c).2.2.2.1, (hagree c).2.2.2.2]
    exact ref_grad _ _ _ _
  · rw [(hagree c).1, (hagree c).2.1, (hagree c).2.2.2.2]
    exact ref_gain _ _ _

end Cert.Kernel12Ideal.Val

end
-- ==== Proof.Products.NormBwd.lean ====
/- The backward call of the norm at the start of a layer: the gradient through the norm, added to what comes along the residual,
   and the gain's gradient, added up over the grid. -/
module

public import proofs.«01_k».proof.Defs
public import proofs.«01_k».proof.Proof.Gen.Kernel13Ideal.Value
public import proofs.«01_k».proof.Proof.Gen.Reference13Ideal.Run
public import proofs.«01_k».proof.Proof.Products.ProjBackEq

@[expose] public section

set_option maxRecDepth 65536

noncomputable section

namespace Cert.Kernel13Ideal.Val

open Cert.Kernel13Ideal Cert.Kernel13Ideal.Gen Cert.Products Idealize.ShloMosaic Idealize.ShloMosaic.TcCoe Idealize.SL.Sem
open Idealize.ShloMosaic.Pipeline (Dat)
open Idealize.ShloMosaic.Pipeline.Window (rect_emb_val)
open Cert.Kernel10Ideal.Val (gain_at)
open Cert.Kernel12Ideal.Val (refSpread refGained refSquare refGain refSpread_at refGained_at refSquare_at refGain_at refGrad refGrad_at)

section Layer

variable (D X : FVec Ideal S2048x1024 .f32) (G : FVec Ideal S1024 .f32) (R : FVec Ideal S2048x1024 .f32)

/-- Row `r`'s part of the gain's gradient. -/
def gainTerm (b : Fin 1024) (r : Fin 2048) : EReal := D (ix2 r b) * (X (ix2 r b) * scaleOf (fun k => X (ix2 r k)))

/-- The gradient of the layer's input: row `r`, column `b`. -/
def grad (r : Fin 2048) (b : Fin 1024) : EReal := normBack (fun k => X (ix2 r k)) (fun k => D (ix2 r k) * G (ix1 k)) b + R (ix2 r b)

def gradArr : FVec Ideal S2048x1024 .f32 := fun j => grad D X G R (j 0) (j 1)
def gainArr : FVec Ideal S1x1024 .f32 := fun j => (∑ r : Fin 2048, gainTerm D X (j 1) r : EReal)

end Layer

/-! What a point stores, from what it reads. -/

theorem scale_at (u : Vec Ideal S256x1024 .f32) (r : Fin 256) : k0_pay2 u (ix2 r 0) = scaleOf (fun k => u (ix2 r k)) := by
  unfold scaleOf spread
  pointwise [k0_pay2]

theorem scaled_at (u : Vec Ideal S256x1024 .f32) (r : Fin 256) (b : Fin 1024) :
    k0_pay3 u (ix2 r b) = (u (ix2 r b) * scaleOf (fun k => u (ix2 r k)) : EReal) := by
  have e : k0_pay3 u (ix2 r b) = (u (ix2 r b) * k0_pay2 u (ix2 r 0) : EReal) := by pointwise [k0_pay3]
  rw [e, scale_at]

theorem grad_at (d u : Vec Ideal S256x1024 .f32) (w : Vec Ideal S1x1024 .f32) (s : Vec Ideal S256x1024 .f32) (r : Fin 256) (b : Fin 1024) :
    k0_pay4 d u w s (ix2 r b) = (normBack (fun k => u (ix2 r k)) (fun k => (d (ix2 r k) * w (ix2 0 k) : EReal)) b + s (ix2 r b) : EReal) := by
  have e : k0_pay4 d u w s (ix2 r b) = (k0_pay2 u (ix2 r 0) * (d (ix2 r b) * w (ix2 0 b) - k0_pay3 u (ix2 r b)
      * Ideal.div (∑ k : Fin 1024, d (ix2 r k) * w (ix2 0 k) * k0_pay3 u (ix2 r k)) (Ideal.ofBits .f32 0x44800000#32)) + s (ix2 r b) : EReal) := by
    pointwise [k0_pay4]
  rw [e, scale_at, scaled_at, Finset.sum_congr rfl fun k _ => congrArg (fun z : EReal => d (ix2 r k) * w (ix2 0 k) * z) (scaled_at u r k)]
  rfl

/-- What a point adds to the gain's gradient. -/
theorem gain_step (d u : Vec Ideal S256x1024 .f32) (a : Vec Ideal S1x1024 .f32) (b : Fin 1024) :
    k0_pay1 (k0_pay6 a) (k0_pay7 d u) (ix2 0 b) = (a (ix2 0 b) + ∑ r : Fin 256, d (ix2 r b) * k0_pay3 u (ix2 r b) : EReal) := by
  pointwise [k0_pay1, k0_pay6, k0_pay7]

theorem gain_zero (b : Fin 1024) : k0_pay5 (F := Ideal) (ix2 0 b) = (0 : EReal) := by
  pointwise [k0_pay5]

variable (m : (ℓ : Loc nD τ sig) → Buf (Elt Ideal) ℓ) (c : Dev nD)

abbrev argD : FVec Ideal S2048x1024 .f32 := m ((c.tc : Thread nD τ).loc main_arg0)
abbrev argX : FVec Ideal S2048x1024 .f32 := m ((c.tc : Thread nD τ).loc main_arg1)
abbrev argG : FVec Ideal S1024 .f32 := m ((c.tc : Thread nD τ).loc main_arg2)
abbrev argR : FVec Ideal S2048x1024 .f32 := m ((c.tc : Thread nD τ).loc main_arg3)

theorem V_g : V m c main_v0 = shapeCast S1x1024 (argG m c) shapeCasts_S1024_S1x1024 := by
  unfold V hostOps0
  after_results <;> rfl

/-! The block each window is at: the grid point is the eighth of the rows. -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![0, 0] := by decide +kernel

theorem lt_points (t : Fin cfg0.N) : t.val < 8 := t.isLt
theorem lt7 : 7 < cfg0.N := by decide

/-- The token of row `r` of eighth `n`. -/
def tok (n : ℕ) (r : Fin 256) : Fin 2048 := ⟨n % 8 * 256 + r.val, by omega⟩

/-- An element of an eighth's block. -/
theorem eighth {n : ℕ} (ht : n < 8) {f : Fin 2 → ℕ} (hf : f = ![n, 0]) (j : S2048x1024.Idx) (r : Fin 256) (b : Fin 1024)
    (h0 : (j 0).val = f 0 * 256 + r.val) (h1 : (j 1).val = f 1 * 1024 + b.val) : j = ix2 (tok n r) b := by
  refine ix2_of j (at_block hf 0 h0 ?_) (at_block hf 1 h1 ?_)
  · show n * 256 + r.val = n % 8 * 256 + r.val; omega
  · show 0 * 1024 + b.val = b.val; omega

theorem eighth_cover (i : S2048x1024.Idx) {f : Fin 2 → ℕ} (hf : f = ![(i 0).val / 256, 0]) (a : Fin 2) :
    f a * S256x1024.size a ≤ (i a).val ∧ (i a).val < f a * S256x1024.size a + S256x1024.size a := by
  subst hf
  have h0 : (i 0).val < 2048 := (i 0).isLt
  have h1 : (i 1).val < 1024 := (i 1).isLt
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

/-- A sum over the tokens, an eighth at a time. -/
theorem sum_eighths (f : Fin 2048 → EReal) : ∑ i : Fin 8, ∑ r : Fin 256, f (tok i.val r) = ∑ r : Fin 2048, f r := by
  rw [← Fin.sum_mul_add_fin 8 256 f]
  refine Finset.sum_congr rfl fun i _ => Finset.sum_congr rfl fun r _ => congrArg f (Fin.ext ?_)
  have hi := i.isLt
  show i.val % 8 * 256 + r.val = i.val * 256 + r.val
  omega

theorem blk0_at (t : Fin cfg0.N) (r : Fin 256) (k : Fin 1024) : iblk m c 0 t (ix2 r k) = argD m c (ix2 (tok t.val r) k) := by
  refine (read_slice_whole main_arg0 (win0_0.rect t) (V m c main_arg0) _).trans ((congrArg (V m c main_arg0) (eighth (lt_points t) (index0 t) _ r k
    (rect_emb_val win0_0 t _ 0 rfl) (rect_emb_val win0_0 t _ 1 rfl))).trans ?_)
  rw [V_main_arg0]

theorem blk1_at (t : Fin cfg0.N) (r : Fin 256) (k : Fin 1024) : iblk m c 1 t (ix2 r k) = argX m c (ix2 (tok t.val r) k) := by
  refine (read_slice_whole main_arg1 (win0_1.rect t) (V m c main_arg1) _).trans ((congrArg (V m c main_arg1) (eighth (lt_points t) (index1 t) _ r k
    (rect_emb_val win0_1 t _ 0 rfl) (rect_emb_val win0_1 t _ 1 rfl))).trans ?_)
  rw [V_main_arg1]

theorem blk2_at (t : Fin cfg0.N) (k : Fin 1024) : iblk m c 2 t (ix2 0 k) = argG m c (ix1 k) := by
  refine (read_slice_whole main_v0 (win0_2.rect t) (V m c main_v0) _).trans ((congrArg (V m c main_v0) (ix2_of _ (a := (0 : Fin 1)) (b := k)
    (at_block (index2 t) 0 (rect_emb_val win0_2 t _ 0 rfl) rfl)
    (at_block (index2 t) 1 (rect_emb_val win0_2 t _ 1 rfl) ?_))).trans ?_)
  · show 0 * 1024 + k.val = k.val; omega
  · rw [V_g]
    exact gain_at _ k

theorem blk3_at (t : Fin cfg0.N) (r : Fin 256) (k : Fin 1024) : iblk m c 3 t (ix2 r k) = argR m c (ix2 (tok t.val r) k) := by
  refine (read_slice_whole main_arg3 (win0_3.rect t) (V m c main_arg3) _).trans ((congrArg (V m c main_arg3) (eighth (lt_points t) (index3 t) _ r k
    (rect_emb_val win0_3 t _ 0 rfl) (rect_emb_val win0_3 t _ 1 rfl))).trans ?_)
  rw [V_main_arg3]

/-! What the points leave. -/

theorem left_grad (t : Fin cfg0.N) : (outsAt0 m c t.val t.isLt).1 = k0_pay4 (iblk m c 0 t) (iblk m c 1 t) (iblk m c 2 t) (iblk m c 3 t) := by
  by_cases h0 : t.val % 8 = 0
  · refine (congrArg (fun x => x.1) (outsAt0_A m c t h0)).trans ?_
    frame_out
  · refine (congrArg (fun x => x.1) (outsAt0_B m c t h0)).trans ?_
    frame_out

theorem left_first (t : Fin cfg0.N) (h0 : t.val % 8 = 0) :
    (outsAt0 m c t.val t.isLt).2 = k0_pay1 (k0_pay6 (k0_pay5 (F := Ideal))) (k0_pay7 (iblk m c 0 t) (iblk m c 1 t)) := by
  refine (congrArg (fun x => x.2) (outsAt0_A m c t h0)).trans ?_
  frame_out

theorem left_next (t : Fin cfg0.N) (h0 : ¬t.val % 8 = 0) :
    (outsAt0 m c t.val t.isLt).2 = k0_pay1 (k0_pay6 (outsAt0 m c (t.val - 1) (Nat.lt_of_le_of_lt (Nat.sub_le _ _) t.isLt)).2)
      (k0_pay7 (iblk m c 0 t) (iblk m c 1 t)) := by
  refine (congrArg (fun x => x.2) (outsAt0_B m c t h0)).trans ?_
  frame_out

/-- An eighth's part of the gain's gradient. -/
def part (n : ℕ) (b : Fin 1024) : EReal := ∑ r : Fin 256, gainTerm (argD m c) (argX m c) b (tok n r)

theorem part_at (t : Fin cfg0.N) (a : Vec Ideal S1x1024 .f32) (b : Fin 1024) :
    k0_pay1 (k0_pay6 a) (k0_pay7 (iblk m c 0 t) (iblk m c 1 t)) (ix2 0 b) = (a (ix2 0 b) + part m c t.val b : EReal) := by
  refine (gain_step _ _ _ b).trans (congrArg (fun z : EReal => a (ix2 0 b) + z) (Finset.sum_congr rfl fun r _ => ?_))
  unfold gainTerm
  refine congrArg₂ (fun x y : EReal => x * y) (blk0_at m c t r b) ((scaled_at _ r b).trans (congrArg₂ (fun x y : EReal => x * y) (blk1_at m c t r b) ?_))
  exact congrArg scaleOf (funext fun k => blk1_at m c t r k)

/-- After point `n` the gain's gradient holds the parts up to it. -/
theorem upto (b : Fin 1024) (n : ℕ) (hn : n < cfg0.N) : (outsAt0 m c n hn).2 (ix2 0 b) = (∑ i ∈ Finset.range (n + 1), part m c i b : EReal) := by
  induction n with
  | zero =>
    rw [left_first m c ⟨0, hn⟩ rfl, part_at, gain_zero, zero_add, Finset.sum_range_one]
  | succ n ih =>
    have h8 : n + 1 < 8 := hn
    rw [left_next m c ⟨n + 1, hn⟩ (by show ¬(n + 1) % 8 = 0; omega), part_at, Finset.sum_range_succ]
    exact congrArg (fun z : EReal => z + _) (ih (Nat.lt_of_succ_lt hn))

theorem whole_gain (b : Fin 1024) : (outsAt0 m c 7 lt7).2 (ix2 0 b) = (∑ r : Fin 2048, gainTerm (argD m c) (argX m c) b r : EReal) := by
  rw [upto, Finset.sum_range]
  exact sum_eighths _

/-! The call's arrays. -/

/-- The eighth that an element's row is of. -/
def eighthPt (i : S2048x1024.Idx) : Fin cfg0.N := ⟨(i 0).val / 256, by have h : (i 0).val < 2048 := (i 0).isLt; show _ < 8; omega⟩

theorem covered4 (i : S2048x1024.Idx) : ∃ t : Fin cfg0.N, (cfg0.win 4).flush t = true ∧ i ∈ ((cfg0.win 4).blk t).view.set := by
  refine ⟨eighthPt i, flush0_4 _, ?_⟩
  show i ∈ ((View.whole main_v1_0).slice (win0_4.rect (eighthPt i))).set
  rw [View.set_slice_whole, Rect.mem_set_unit]
  exact eighth_cover i (index4 _)

theorem covered5 (i : S1x1024.Idx) : ∃ t : Fin cfg0.N, (cfg0.win 5).flush t = true ∧ i ∈ ((cfg0.win 5).blk t).view.set := by
  refine ⟨⟨7, lt7⟩, (flush0_5 _).mpr rfl, ?_⟩
  show i ∈ ((View.whole main_v1_1).slice (win0_5.rect ⟨7, lt7⟩)).set
  rw [View.set_slice_whole, Rect.mem_set_unit]
  intro a
  show win0_5.index ⟨7, lt7⟩ a * S1x1024.size a ≤ (i a).val ∧ (i a).val < win0_5.index ⟨7, lt7⟩ a * S1x1024.size a + S1x1024.size a
  rw [index5]
  have h0 : (i 0).val < 1 := (i 0).isLt
  have h1 : (i 1).val < 1024 := (i 1).isLt
  match a with
  | ⟨0, _⟩ => show 0 * 1 ≤ (i 0).val ∧ (i 0).val < 0 * 1 + 1; omega
  | ⟨1, _⟩ => show 0 * 1024 ≤ (i 1).val ∧ (i 1).val < 0 * 1024 + 1024; omega

theorem array4 : (dats m 0 c).arrAt 4 cfg0.N = gradArr (argD m c) (argX m c) (argG m c) (argR m c) := by
  refine Dat.arrAt_eq_of_cover (dats m 0 c) 4 _ (fun t _ => ?_) covered4
  rw [Value.flushed4]
  funext y
  show (outsAt0 m c t.val t.isLt).1 ((cfg0.win 4).xinj (grid0.coords t) y) = gradArr _ _ _ _ (((cfg0.win 4).blk t).view.emb y)
  rw [show (cfg0.win 4).xinj (grid0.coords t) y = ix2 (⟨(y 0).val, (y 0).isLt⟩ : Fin 256) (⟨(y 1).val, (y 1).isLt⟩ : Fin 1024) from ix2_of _ rfl rfl,
    eighth (lt_points t) (index4 t) (((cfg0.win 4).blk t).view.emb y) ⟨(y 0).val, (y 0).isLt⟩ ⟨(y 1).val, (y 1).isLt⟩
      (rect_emb_val win0_4 t _ 0 rfl) (rect_emb_val win0_4 t _ 1 rfl), left_grad, grad_at, blk3_at]
  refine congrArg (fun z : EReal => z + _) ?_
  show normBack _ _ _ = normBack _ _ _
  congr 1
  · funext k; exact blk1_at m c t _ k
  · funext k; exact congrArg₂ (fun x y : EReal => x * y) (blk0_at m c t _ k) (blk2_at m c t k)

/-- The gain's gradient is written back after the last point. -/
theorem array5 : (dats m 0 c).arrAt 5 cfg0.N = gainArr (argD m c) (argX m c) := by
  refine Dat.arrAt_eq_of_cover (dats m 0 c) 5 _ (fun t hf => ?_) covered5
  have hm := (flush0_5 t).mp hf
  have ht := lt_points t
  obtain rfl : t = (⟨7, lt7⟩ : Fin cfg0.N) := Fin.ext (by show t.val = 7; omega)
  rw [Value.flushed5]
  funext y
  have hy0 : (y 0).val < 1 := (y 0).isLt
  have hy1 : (y 1).val < 1024 := (y 1).isLt
  have hl : (cfg0.win 5).xinj (grid0.coords ⟨7, lt7⟩) y = ix2 (0 : Fin 1) (⟨(y 1).val, hy1⟩ : Fin 1024) := ix2_of _ (by show (y 0).val = 0; omega) rfl
  have hr : ((cfg0.win 5).blk ⟨7, lt7⟩).view.emb y = ix2 (0 : Fin 1) (⟨(y 1).val, hy1⟩ : Fin 1024) := by
    refine ix2_of _ (at_block (index5 ⟨7, lt7⟩) 0 (rect_emb_val win0_5 _ _ 0 rfl) ?_)
      (at_block (index5 ⟨7, lt7⟩) 1 (rect_emb_val win0_5 _ _ 1 rfl) ?_)
    · show 0 * 1 + (y 0).val = 0; omega
    · show 0 * 1024 + (y 1).val = (y 1).val; omega
  show (outsAt0 m c 7 lt7).2 ((cfg0.win 5).xinj (grid0.coords ⟨7, lt7⟩) y) = gainArr _ _ (((cfg0.win 5).blk ⟨7, lt7⟩).view.emb y)
  rw [hl, hr]
  exact whole_gain m c _

/-! The reference. -/

section Reference

variable (D X : FVec Ideal S2048x1024 .f32) (G : FVec Ideal S1024 .f32) (R : FVec Ideal S2048x1024 .f32)

open Reference13Ideal.Facts₀ in
theorem ref_grad :
    addf (addf (addf R (mulf (refGained D G) (broadcastInDim Reference13Ideal.S2048x1024 ![0, 1] bcast_S2048x1_S2048x1024_0_1 (Host.rsqrt (refSpread X)))))
      (mulf X (refSquare X (refGained D G)))) (mulf (refSquare X (refGained D G)) X) = gradArr D X G R := by
  have h : ∀ a b c r : EReal, r + a + b + c = a + b + c + r := fun a b c r => by rw [add_comm (a + b + c) r, ← add_assoc, ← add_assoc]
  funext j
  rw [ix2_of j (a := (⟨(j 0).val, (j 0).isLt⟩ : Fin 2048)) (b := (⟨(j 1).val, (j 1).isLt⟩ : Fin 1024)) rfl rfl]
  exact (h _ _ _ _).trans (congrArg (fun z : EReal => z + R _) (refGrad_at X D G _ _))

theorem ref_gain : refGain X D = gainArr D X := by
  funext j
  have h0 : (j 0).val < 1 := (j 0).isLt
  rw [ix2_of j (a := (0 : Fin 1)) (b := (⟨(j 1).val, (j 1).isLt⟩ : Fin 1024)) (by show (j 0).val = 0; omega) rfl]
  exact refGain_at X D _

end Reference

/-- Kernel and reference, from equal arguments, both end with the same two results. -/
theorem equal : Cert.algebraic_Kernel13Ideal_Reference13Ideal := by
  intro m g m' g' _ hagree
  refine ⟨fun c => gradArr (argD m c) (argX m c) (argG m c) (argR m c), fun c => gainArr (argD m c) (argX m c),
    (θ_run defs _ _).mono (fun _ h c => ⟨(h c).1.trans (array4 m c), (h c).2.1.trans (array5 m c), (h c).2.2⟩) (Value.run_blocks m g),
    (θ_run Cert.Reference13Ideal.defs _ _).mono (fun _ h c => ⟨(h c).1.trans ?_, (h c).2.1.trans ?_, (h c).2.2⟩) (Cert.Reference13Ideal.Value.run m' g')⟩
  · rw [(hagree c).1, (hagree c).2.1, (hagree c).2.2.1, (hagree c).2.2.2]
    exact ref_grad _ _ _ _
  · rw [(hagree c).1, (hagree c).2.1]
    exact ref_gain _ _

end Cert.Kernel13Ideal.Val

end
-- ==== Proof.Products.LossGrad.lean ====
/- The loss of one batch element and its gradient: the squares are added up an eighth of the rows at a time. -/
module

public import proofs.«01_k».proof.Defs
public import proofs.«01_k».proof.Proof.Gen.Kernel14Ideal.Value
public import proofs.«01_k».proof.Proof.Gen.Reference14Ideal.Run
public import proofs.«01_k».proof.Proof.Products.NormBwd

@[expose] public section

set_option maxRecDepth 65536

noncomputable section

namespace Cert.Kernel14Ideal.Val

open Cert.Kernel14Ideal Cert.Kernel14Ideal.Gen Cert.Products Idealize.ShloMosaic Idealize.ShloMosaic.TcCoe Idealize.SL.Sem
open Idealize.ShloMosaic.Pipeline (Dat)
open Idealize.ShloMosaic.Pipeline.Window (rect_emb_val)
open Cert.Kernel13Ideal.Val (tok eighth eighth_cover sum_eighths)

theorem bits_inv : Ideal.ofBits .f32 0x3A800000#32 = ((1 / 1024 : ℝ) : EReal) := by
  simp [Ideal.ofBits, Ideal.ieee]
  rw [← EReal.coe_mul]
  norm_num

theorem bits_halfInv : Ideal.ofBits .f32 0x3A000000#32 = ((1 / 2048 : ℝ) : EReal) := by
  simp [Ideal.ofBits, Ideal.ieee]
  rw [← EReal.coe_mul]
  norm_num

theorem bits_one_half : Ideal.ofBits .f32 0x3F000000#32 = ((1 / 2 : ℝ) : EReal) := by
  simp [Ideal.ofBits, Ideal.ieee]
  rw [← EReal.coe_mul]
  norm_num

theorem bits_one : Ideal.ofBits .f32 0x3F800000#32 = ((1 : ℝ) : EReal) := by
  simp [Ideal.ofBits, Ideal.ieee]
  rw [← EReal.coe_mul]
  norm_num

theorem bits_two : Ideal.ofBits .f32 0x40000000#32 = ((2 : ℝ) : EReal) := by
  simp [Ideal.ofBits, Ideal.ieee]
  rw [← EReal.coe_mul]
  norm_num

section Layer

variable (Y T : FVec Ideal S2048x1024 .f32)

/-- A row's squared error. -/
def rowErr (r : Fin 2048) : EReal := ∑ k : Fin 1024, (Y (ix2 r k) - T (ix2 r k)) * (Y (ix2 r k) - T (ix2 r k))

def gradArr : FVec Ideal S2048x1024 .f32 := fun j => ((Y (ix2 (j 0) (j 1)) - T (ix2 (j 0) (j 1))) * ((1 / 1024 : ℝ) : EReal) : EReal)

/-- The loss, in every lane of the row that holds it. -/
def lossArr : FVec Ideal S1x128 .f32 := fun _ => ((∑ r : Fin 2048, rowErr Y T r) * ((1 / 2048 : ℝ) : EReal) : EReal)

end Layer

/-! What a point stores, from what it reads. -/

theorem grad_at (y t : Vec Ideal S256x1024 .f32) (r : Fin 256) (b : Fin 1024) :
    k0_pay2 y t (ix2 r b) = ((y (ix2 r b) - t (ix2 r b)) * ((1 / 1024 : ℝ) : EReal) : EReal) := by
  rw [← bits_inv]
  pointwise [k0_pay2, k0_pay1]

theorem loss_step (y t : Vec Ideal S256x1024 .f32) (a : Vec Ideal S1x128 .f32) (b : Fin 128) :
    k0_pay4 y t a (ix2 0 b)
      = (a (ix2 0 b) + (∑ r : Fin 256, ∑ k : Fin 1024, (y (ix2 r k) - t (ix2 r k)) * (y (ix2 r k) - t (ix2 r k))) * ((1 / 2048 : ℝ) : EReal) : EReal) := by
  rw [← bits_halfInv]
  pointwise [k0_pay4, k0_pay1]

theorem loss_zero (b : Fin 128) : k0_pay3 (F := Ideal) (ix2 0 b) = (0 : EReal) := by
  pointwise [k0_pay3]

variable (m : (ℓ : Loc nD τ sig) → Buf (Elt Ideal) ℓ) (c : Dev nD)

abbrev argY : FVec Ideal S2048x1024 .f32 := m ((c.tc : Thread nD τ).loc main_arg0)
abbrev argT : FVec Ideal S2048x1024 .f32 := m ((c.tc : Thread nD τ).loc main_arg1)

/-! The block each window is at. -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0] := by decide +kernel

theorem lt_points (t : Fin cfg0.N) : t.val < 8 := t.isLt
theorem lt7 : 7 < cfg0.N := by decide

theorem blk0_at (t : Fin cfg0.N) (r : Fin 256) (k : Fin 1024) : iblk m c 0 t (ix2 r k) = argY m c (ix2 (tok t.val r) k) := by
  refine (read_slice_whole main_arg0 (win0_0.rect t) (V m c main_arg0) _).trans ((congrArg (V m c main_arg0) (eighth (lt_points t) (index0 t) _ r k
    (rect_emb_val win0_0 t _ 0 rfl) (rect_emb_val win0_0 t _ 1 rfl))).trans ?_)
  rw [V_main_arg0]

theorem blk1_at (t : Fin cfg0.N) (r : Fin 256) (k : Fin 1024) : iblk m c 1 t (ix2 r k) = argT m c (ix2 (tok t.val r) k) := by
  refine (read_slice_whole main_arg1 (win0_1.rect t) (V m c main_arg1) _).trans ((congrArg (V m c main_arg1) (eighth (lt_points t) (index1 t) _ r k
    (rect_emb_val win0_1 t _ 0 rfl) (rect_emb_val win0_1 t _ 1 rfl))).trans ?_)
  rw [V_main_arg1]

/-! What the points leave. -/

theorem left_grad (t : Fin cfg0.N) : (outsAt0 m c t.val t.isLt).1 = k0_pay2 (iblk m c 0 t) (iblk m c 1 t) := by
  by_cases h0 : t.val % 8 = 0
  · refine (congrArg (fun x => x.1) (outsAt0_A m c t h0)).trans ?_
    frame_out
  · refine (congrArg (fun x => x.1) (outsAt0_B m c t h0)).trans ?_
    frame_out

theorem left_first (t : Fin cfg0.N) (h0 : t.val % 8 = 0) : (outsAt0 m c t.val t.isLt).2 = k0_pay4 (iblk m c 0 t) (iblk m c 1 t) (k0_pay3 (F := Ideal)) := by
  refine (congrArg (fun x => x.2) (outsAt0_A m c t h0)).trans ?_
  frame_out

theorem left_next (t : Fin cfg0.N) (h0 : ¬t.val % 8 = 0) : (outsAt0 m c t.val t.isLt).2
    = k0_pay4 (iblk m c 0 t) (iblk m c 1 t) (outsAt0 m c (t.val - 1) (Nat.lt_of_le_of_lt (Nat.sub_le _ _) t.isLt)).2 := by
  refine (congrArg (fun x => x.2) (outsAt0_B m c t h0)).trans ?_
  frame_out

/-- An eighth's part of the loss. -/
def part (n : ℕ) : EReal := (∑ r : Fin 256, rowErr (argY m c) (argT m c) (tok n r)) * ((1 / 2048 : ℝ) : EReal)

theorem part_at (t : Fin cfg0.N) (a : Vec Ideal S1x128 .f32) (b : Fin 128) :
    k0_pay4 (iblk m c 0 t) (iblk m c 1 t) a (ix2 0 b) = (a (ix2 0 b) + part m c t.val : EReal) := by
  refine (loss_step _ _ _ b).trans (congrArg (fun z : EReal => a (ix2 0 b) + z * _) (Finset.sum_congr rfl fun r _ => Finset.sum_congr rfl fun k _ => ?_))
  exact congrArg₂ (fun x y : EReal => (x - y) * (x - y)) (blk0_at m c t r k) (blk1_at m c t r k)

/-- After point `n` the row holds the parts up to it. -/
theorem upto (b : Fin 128) (n : ℕ) (hn : n < cfg0.N) : (outsAt0 m c n hn).2 (ix2 0 b) = (∑ i ∈ Finset.range (n + 1), part m c i : EReal) := by
  induction n with
  | zero =>
    rw [left_first m c ⟨0, hn⟩ rfl, part_at, loss_zero, zero_add, Finset.sum_range_one]
  | succ n ih =>
    have h8 : n + 1 < 8 := hn
    rw [left_next m c ⟨n + 1, hn⟩ (by show ¬(n + 1) % 8 = 0; omega), part_at, Finset.sum_range_succ]
    exact congrArg (fun z : EReal => z + _) (ih (Nat.lt_of_succ_lt hn))

theorem whole_loss (b : Fin 128) : (outsAt0 m c 7 lt7).2 (ix2 0 b) = lossArr (argY m c) (argT m c) (ix2 0 b) := by
  rw [upto, Finset.sum_range]
  exact (sum_mul_real _ (by norm_num)).trans (congrArg (fun z : EReal => z * _) (sum_eighths _))

/-! The call's arrays. -/

/-- The eighth that an element's row is of. -/
def eighthPt (i : S2048x1024.Idx) : Fin cfg0.N := ⟨(i 0).val / 256, by have h : (i 0).val < 2048 := (i 0).isLt; show _ < 8; omega⟩

theorem covered2 (i : S2048x1024.Idx) : ∃ t : Fin cfg0.N, (cfg0.win 2).flush t = true ∧ i ∈ ((cfg0.win 2).blk t).view.set := by
  refine ⟨eighthPt i, flush0_2 _, ?_⟩
  show i ∈ ((View.whole main_v0_0).slice (win0_2.rect (eighthPt i))).set
  rw [View.set_slice_whole, Rect.mem_set_unit]
  exact eighth_cover i (index2 _)

theorem covered3 (i : S1x128.Idx) : ∃ t : Fin cfg0.N, (cfg0.win 3).flush t = true ∧ i ∈ ((cfg0.win 3).blk t).view.set := by
  refine ⟨⟨7, lt7⟩, (flush0_3 _).mpr rfl, ?_⟩
  show i ∈ ((View.whole main_v0_1).slice (win0_3.rect ⟨7, lt7⟩)).set
  rw [View.set_slice_whole, Rect.mem_set_unit]
  intro a
  show win0_3.index ⟨7, lt7⟩ a * S1x128.size a ≤ (i a).val ∧ (i a).val < win0_3.index ⟨7, lt7⟩ a * S1x128.size a + S1x128.size a
  rw [index3]
  have h0 : (i 0).val < 1 := (i 0).isLt
  have h1 : (i 1).val < 128 := (i 1).isLt
  match a with
  | ⟨0, _⟩ => show 0 * 1 ≤ (i 0).val ∧ (i 0).val < 0 * 1 + 1; omega
  | ⟨1, _⟩ => show 0 * 128 ≤ (i 1).val ∧ (i 1).val < 0 * 128 + 128; omega

theorem array2 : (dats m 0 c).arrAt 2 cfg0.N = gradArr (argY m c) (argT m c) := by
  refine Dat.arrAt_eq_of_cover (dats m 0 c) 2 _ (fun t _ => ?_) covered2
  rw [Value.flushed2]
  funext y
  show (outsAt0 m c t.val t.isLt).1 ((cfg0.win 2).xinj (grid0.coords t) y) = gradArr _ _ (((cfg0.win 2).blk t).view.emb y)
  rw [show (cfg0.win 2).xinj (grid0.coords t) y = ix2 (⟨(y 0).val, (y 0).isLt⟩ : Fin 256) (⟨(y 1).val, (y 1).isLt⟩ : Fin 1024) from ix2_of _ rfl rfl,
    eighth (lt_points t) (index2 t) (((cfg0.win 2).blk t).view.emb y) ⟨(y 0).val, (y 0).isLt⟩ ⟨(y 1).val, (y 1).isLt⟩
      (rect_emb_val win0_2 t _ 0 rfl) (rect_emb_val win0_2 t _ 1 rfl), left_grad, grad_at, blk0_at, blk1_at]
  rfl

/-- The loss is written back after the last point. -/
theorem array3 : (dats m 0 c).arrAt 3 cfg0.N = lossArr (argY m c) (argT m c) := by
  refine Dat.arrAt_eq_of_cover (dats m 0 c) 3 _ (fun t hf => ?_) covered3
  have hm := (flush0_3 t).mp hf
  have ht := lt_points t
  obtain rfl : t = (⟨7, lt7⟩ : Fin cfg0.N) := Fin.ext (by show t.val = 7; omega)
  rw [Value.flushed3]
  funext y
  have hy0 : (y 0).val < 1 := (y 0).isLt
  have hl : (cfg0.win 3).xinj (grid0.coords ⟨7, lt7⟩) y = ix2 (0 : Fin 1) (⟨(y 1).val, (y 1).isLt⟩ : Fin 128) := ix2_of _ (by show (y 0).val = 0; omega) rfl
  show (outsAt0 m c 7 lt7).2 ((cfg0.win 3).xinj (grid0.coords ⟨7, lt7⟩) y) = lossArr (argY m c) (argT m c) (((cfg0.win 3).blk ⟨7, lt7⟩).view.emb y)
  rw [hl]
  exact whole_loss m c _

/-! The reference. -/

section Reference

variable (Y T : FVec Ideal S2048x1024 .f32)

open Reference14Ideal Reference14Ideal.Facts₀ in
theorem ref_grad :
    (mulf (broadcastInDim Reference14Ideal.S2048x1024 ![0] bcast_S2048_S2048x1024_0 (Host.divf (broadcastInDim S2048 ![] bcast_S_S2048 (mulf (constant S_ .f32 0x3F000000#32) (constant S_ .f32 0x3F800000#32)))
      (broadcastInDim S2048 ![] bcast_S_S2048 (constant S_ .f32 0x44800000#32))))
      (mulf (broadcastInDim Reference14Ideal.S2048x1024 ![] bcast_S_S2048x1024 (constant S_ .f32 0x40000000#32)) (subf Y T)) : FVec Ideal Reference14Ideal.S2048x1024 .f32) = gradArr Y T := by
  funext j
  rw [ix2_of j (a := (⟨(j 0).val, (j 0).isLt⟩ : Fin 2048)) (b := (⟨(j 1).val, (j 1).isLt⟩ : Fin 1024)) rfl rfl]
  generalize (⟨(j 0).val, (j 0).isLt⟩ : Fin 2048) = r
  generalize (⟨(j 1).val, (j 1).isLt⟩ : Fin 1024) = b
  have h : ∀ x : EReal, Ideal.div (Ideal.ofBits .f32 0x3F000000#32 * Ideal.ofBits .f32 0x3F800000#32) (Ideal.ofBits .f32 0x44800000#32) * (Ideal.ofBits .f32 0x40000000#32 * x)
      = x * ((1 / 1024 : ℝ) : EReal) := fun x => by
    rw [div_width, bits_one_half, bits_one, bits_two, ← EReal.coe_mul, ← EReal.coe_mul, ← mul_assoc, ← EReal.coe_mul, mul_comm]
    congr 2
    norm_num
  refine Eq.trans ?_ (h (Y (ix2 r b) - T (ix2 r b) : EReal))
  pointwise

open Reference14Ideal Reference14Ideal.Facts₀ in
theorem ref_loss :
    (broadcastInDim Reference14Ideal.S1x128 ![] bcast_S_S1x128 (mulf (constant S_ .f32 0x3F000000#32) (Host.reduceAdd (Host.divf (Host.reduceAdd (mulf (subf Y T) (subf Y T))
      (constant S_ .f32 0x00000000#32) reducesTo_S2048x1024_S2048_d1 h_S_) (broadcastInDim S2048 ![] bcast_S_S2048 (constant S_ .f32 0x44800000#32)))
      (constant S_ .f32 0x00000000#32) reducesTo_S2048_S_d0 h_S_)) : FVec Ideal Reference14Ideal.S1x128 .f32) = lossArr Y T := by
  funext j
  have h0 : (j 0).val < 1 := (j 0).isLt
  rw [ix2_of j (a := (0 : Fin 1)) (b := (⟨(j 1).val, (j 1).isLt⟩ : Fin 128)) (by show (j 0).val = 0; omega) rfl]
  generalize (⟨(j 1).val, (j 1).isLt⟩ : Fin 128) = b
  have h : (Ideal.ofBits .f32 0x3F000000#32 * ∑ r : Fin 2048, Ideal.div (rowErr Y T r) (Ideal.ofBits .f32 0x44800000#32) : EReal)
      = (∑ r : Fin 2048, rowErr Y T r) * ((1 / 2048 : ℝ) : EReal) := by
    rw [Finset.sum_congr rfl fun r _ => div_width (rowErr Y T r), sum_mul_real _ (by norm_num), bits_one_half, mul_comm, mul_assoc, ← EReal.coe_mul]
    congr 2
    norm_num
  refine Eq.trans ?_ h
  unfold rowErr
  pointwise

end Reference

/-- Kernel and reference, from equal arguments, both end with the same two results. -/
theorem equal : Cert.algebraic_Kernel14Ideal_Reference14Ideal := by
  intro m g m' g' _ hagree
  refine ⟨fun c => gradArr (argY m c) (argT m c), fun c => lossArr (argY m c) (argT m c),
    (θ_run defs _ _).mono (fun _ h c => ⟨(h c).1.trans (array2 m c), (h c).2.1.trans (array3 m c), (h c).2.2⟩) (Value.run_blocks m g),
    (θ_run Cert.Reference14Ideal.defs _ _).mono (fun _ h c => ⟨(h c).1.trans ?_, (h c).2.1.trans ?_, (h c).2.2⟩) (Cert.Reference14Ideal.Value.run m' g')⟩
  · rw [(hagree c).1, (hagree c).2]
    exact ref_grad _ _
  · rw [(hagree c).1, (hagree c).2]
    exact ref_loss _ _

end Cert.Kernel14Ideal.Val

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Ffn.Bits
public import proofs.«01_k».proof.Proof.Ffn.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Dil.Bits
public import proofs.«01_k».proof.Proof.Dil.Sound
public import proofs.«01_k».proof.Proof.Val.Equal
public import proofs.«01_k».proof.Proof.Val.Finite
public import proofs.«01_k».proof.Proof.Products.FfnDw
public import proofs.«01_k».proof.Proof.Products.QkvDw
public import proofs.«01_k».proof.Proof.Products.QkvDh
public import proofs.«01_k».proof.Proof.Products.QkvFwd
public import proofs.«01_k».proof.Proof.Products.QkvFwd0
public import proofs.«01_k».proof.Proof.Products.QkvDw0
public import proofs.«01_k».proof.Proof.Products.QkvDh0
public import proofs.«01_k».proof.Proof.Products.ProjDw
public import proofs.«01_k».proof.Proof.Products.ProjFwd
public import proofs.«01_k».proof.Proof.Products.ProjBackEq
public import proofs.«01_k».proof.Proof.Products.NormBwd
public import proofs.«01_k».proof.Proof.Products.LossGrad
public import Idealize.ShloMosaic.Adequacy
public import Idealize.ShloMosaic.Init

@[expose] public section

noncomputable section

namespace Cert.Proof

open Idealize.ShloMosaic Idealize.SL.Sem Cert.Kernel

/-- The reference's frame: host operations alone, run one after another. -/
theorem reference_frame : Cert.quiescent_ReferenceIdeal := fun m g _ =>
  (θ_run Cert.ReferenceIdeal.defs _ _).mono (fun _ h => ⟨fun c => (h c).2, sem_eq_zero_of_no_sems (by decide) _⟩) (Cert.ReferenceIdeal.Value.run m g)

/-! The frames of the products' references, in the same way. -/

theorem reference2_frame : Cert.quiescent_Reference2Ideal := fun m g _ =>
  (θ_run Cert.Reference2Ideal.defs _ _).mono (fun _ h => ⟨fun c => (h c).2, sem_eq_zero_of_no_sems (by decide) _⟩) (Cert.Reference2Ideal.Value.run m g)

theorem reference3_frame : Cert.quiescent_Reference3Ideal := fun m g _ =>
  (θ_run Cert.Reference3Ideal.defs _ _).mono (fun _ h => ⟨fun c => (h c).2, sem_eq_zero_of_no_sems (by decide) _⟩) (Cert.Reference3Ideal.Value.run m g)

theorem reference4_frame : Cert.quiescent_Reference4Ideal := fun m g _ =>
  (θ_run Cert.Reference4Ideal.defs _ _).mono (fun _ h => ⟨fun c => (h c).2, sem_eq_zero_of_no_sems (by decide) _⟩) (Cert.Reference4Ideal.Value.run m g)

theorem reference5_frame : Cert.quiescent_Reference5Ideal := fun m g _ =>
  (θ_run Cert.Reference5Ideal.defs _ _).mono (fun _ h => ⟨fun c => (h c).2, sem_eq_zero_of_no_sems (by decide) _⟩) (Cert.Reference5Ideal.Value.run m g)

theorem reference6_frame : Cert.quiescent_Reference6Ideal := fun m g _ =>
  (θ_run Cert.Reference6Ideal.defs _ _).mono (fun _ h => ⟨fun c => (h c).2, sem_eq_zero_of_no_sems (by decide) _⟩) (Cert.Reference6Ideal.Value.run m g)

theorem reference7_frame : Cert.quiescent_Reference7Ideal := fun m g _ =>
  (θ_run Cert.Reference7Ideal.defs _ _).mono (fun _ h => ⟨fun c => (h c).2, sem_eq_zero_of_no_sems (by decide) _⟩) (Cert.Reference7Ideal.Value.run m g)

theorem reference8_frame : Cert.quiescent_Reference8Ideal := fun m g _ =>
  (θ_run Cert.Reference8Ideal.defs _ _).mono (fun _ h => ⟨fun c => (h c).2, sem_eq_zero_of_no_sems (by decide) _⟩) (Cert.Reference8Ideal.Value.run m g)

theorem reference9_frame : Cert.quiescent_Reference9Ideal := fun m g _ =>
  (θ_run Cert.Reference9Ideal.defs _ _).mono (fun _ h => ⟨fun c => (h c).2, sem_eq_zero_of_no_sems (by decide) _⟩) (Cert.Reference9Ideal.Value.run m g)

theorem reference10_frame : Cert.quiescent_Reference10Ideal := fun m g _ =>
  (θ_run Cert.Reference10Ideal.defs _ _).mono (fun _ h => ⟨fun c => (h c).2.2.2.2.2, sem_eq_zero_of_no_sems (by decide) _⟩) (Cert.Reference10Ideal.Value.run m g)

theorem reference11_frame : Cert.quiescent_Reference11Ideal := fun m g _ =>
  (θ_run Cert.Reference11Ideal.defs _ _).mono (fun _ h => ⟨fun c => (h c).2.2, sem_eq_zero_of_no_sems (by decide) _⟩) (Cert.Reference11Ideal.Value.run m g)

theorem reference12_frame : Cert.quiescent_Reference12Ideal := fun m g _ =>
  (θ_run Cert.Reference12Ideal.defs _ _).mono (fun _ h => ⟨fun c => (h c).2.2.2, sem_eq_zero_of_no_sems (by decide) _⟩) (Cert.Reference12Ideal.Value.run m g)

theorem reference13_frame : Cert.quiescent_Reference13Ideal := fun m g _ =>
  (θ_run Cert.Reference13Ideal.defs _ _).mono (fun _ h => ⟨fun c => (h c).2.2, sem_eq_zero_of_no_sems (by decide) _⟩) (Cert.Reference13Ideal.Value.run m g)

theorem reference14_frame : Cert.quiescent_Reference14Ideal := fun m g _ =>
  (θ_run Cert.Reference14Ideal.defs _ _).mono (fun _ h => ⟨fun c => (h c).2.2, sem_eq_zero_of_no_sems (by decide) _⟩) (Cert.Reference14Ideal.Value.run m g)

/-- The reference's run, its result by the name of the function it computes. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v295)
        = Cert.ReferenceIdeal.Fn.v295 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => ⟨(h c).1.trans ((Cert.ReferenceIdeal.Value.val6_main_v295 (StableHlo.launchContents m c)).symm.trans (Cert.ReferenceIdeal.Fn.v295_fin _)), (h c).2⟩)
    (Cert.ReferenceIdeal.Value.run m g)

/-- The kernel and the reference end with equal results on real arguments. -/
theorem equal : Cert.algebraic_KernelIdeal_ReferenceIdeal_pre_finite (hPre_finite := Cert.Pre_finite.finite_facts) := by
  letI : Cert.Pre_finite.Facts := Cert.Pre_finite.finite_facts
  intro m g m' g' hpre hagree
  have hx := fun c => (Cert.Pre_finite.real_args _ _ (hpre c)).1
  have hy := fun c => (Cert.Pre_finite.real_args _ _ (hpre c)).2
  refine ⟨_, Cert.KernelIdeal.Val.kernel_run m g _ _ hx hy, (θ_run Cert.ReferenceIdeal.defs _ _).mono (fun _ h c => ⟨(h c).1.trans ?_, (h c).2⟩) (reference_run m' g')⟩
  rw [(hagree c).1, (hagree c).2]
  exact Cert.KernelIdeal.Val.reference_result _ _ _ _ (hx c) (hy c)

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite.finite_facts, by
  exact ⟨fun m g _ => Cert.Kernel.Dil.frame m g, fun m g _ => Cert.KernelIdeal.Dil.frame m g, fun m g _ => Cert.KernelIdeal.Dil.frame m g, reference_frame,
    fun m g _ => reference_frame m g trivial,
    fun m g _ => Cert.Kernel2.Gen.frame m g, fun m g _ => Cert.Kernel2Ideal.Gen.frame m g, reference2_frame,
    fun m g _ => Cert.Kernel3.Gen.frame m g, fun m g _ => Cert.Kernel3Ideal.Gen.frame m g, reference3_frame,
    fun m g _ => Cert.Kernel4.Gen.frame m g, fun m g _ => Cert.Kernel4Ideal.Gen.frame m g, reference4_frame,
    fun m g _ => Cert.Kernel5.Gen.frame m g, fun m g _ => Cert.Kernel5Ideal.Gen.frame m g, reference5_frame,
    fun m g _ => Cert.Kernel6.Gen.frame m g, fun m g _ => Cert.Kernel6Ideal.Gen.frame m g, reference6_frame,
    fun m g _ => Cert.Kernel7.Gen.frame m g, fun m g _ => Cert.Kernel7Ideal.Gen.frame m g, reference7_frame,
    fun m g _ => Cert.Kernel8.Gen.frame m g, fun m g _ => Cert.Kernel8Ideal.Gen.frame m g, reference8_frame,
    fun m g _ => Cert.Kernel9.Gen.frame m g, fun m g _ => Cert.Kernel9Ideal.Gen.frame m g, reference9_frame,
    fun m g _ => Cert.Kernel10.Ffn.frame m g, fun m g _ => Cert.Kernel10Ideal.Ffn.frame m g, reference10_frame,
    fun m g _ => Cert.Kernel11.Gen.frame m g, fun m g _ => Cert.Kernel11Ideal.Gen.frame m g, reference11_frame,
    fun m g _ => Cert.Kernel12.Gen.frame m g, fun m g _ => Cert.Kernel12Ideal.Gen.frame m g, reference12_frame,
    fun m g _ => Cert.Kernel13.Gen.frame m g, fun m g _ => Cert.Kernel13Ideal.Gen.frame m g, reference13_frame,
    fun m g _ => Cert.Kernel14.Gen.frame m g, fun m g _ => Cert.Kernel14Ideal.Gen.frame m g, reference14_frame,
    IdealRules.named_const.statement _ _ _ _ _ rfl, equal,
    trivial, Cert.Kernel2Ideal.Val.equal,
    trivial, Cert.Kernel3Ideal.Val.equal,
    trivial, Cert.Kernel4Ideal.Val.equal,
    trivial, Cert.Kernel5Ideal.Val.equal,
    trivial, Cert.Kernel6Ideal.Val.equal,
    trivial, Cert.Kernel7Ideal.Val.equal,
    trivial, Cert.Kernel8Ideal.Val.equal,
    trivial, Cert.Kernel9Ideal.Val.equal,
    trivial, Cert.Kernel10Ideal.Val.equal,
    trivial, Cert.Kernel11Ideal.Val.equal,
    trivial, Cert.Kernel12Ideal.Val.equal,
    trivial, Cert.Kernel13Ideal.Val.equal,
    trivial, Cert.Kernel14Ideal.Val.equal⟩⟩

end Cert.Proof

end
